-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Kernel35Ideal_gelu_finite [hPre_gelu_finite : Cert.Pre_gelu_finite.Facts] (m : (ℓ : Loc Cert.Kernel35Ideal.nD Cert.Kernel35Ideal.τ Cert.Kernel35Ideal.sig) → Buf (Elt Ideal) ℓ) : Prop :=
  ∀ c : Dev Cert.Kernel35Ideal.nD,
    (Cert.Pre_gelu_finite.fn (F := Ideal) (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)) (m ((c.tc : Thread Cert.Kernel35Ideal.nD Cert.Kernel35Ideal.τ).loc Cert.Kernel35Ideal.main_arg2)) (m ((c.tc : Thread Cert.Kernel35Ideal.nD Cert.Kernel35Ideal.τ).loc Cert.Kernel35Ideal.main_arg3)) (m ((c.tc : Thread Cert.Kernel35Ideal.nD Cert.Kernel35Ideal.τ).loc Cert.Kernel35Ideal.main_arg4)) (m ((c.tc : Thread Cert.Kernel35Ideal.nD Cert.Kernel35Ideal.τ).loc Cert.Kernel35Ideal.main_arg5))) = (fun _ => 1#1)

def Pre_Reference35Ideal (m : (ℓ : Loc Cert.Reference35Ideal.nD Cert.Reference35Ideal.τ Cert.Reference35Ideal.sig) → Buf (Elt Ideal) ℓ) : Prop :=
  True

def Pre_Reference35Ideal_gelu_finite [hPre_gelu_finite : Cert.Pre_gelu_finite.Facts] (m : (ℓ : Loc Cert.Reference35Ideal.nD Cert.Reference35Ideal.τ Cert.Reference35Ideal.sig) → Buf (Elt Ideal) ℓ) : Prop :=
  ∀ c : Dev Cert.Reference35Ideal.nD,
    (Cert.Pre_gelu_finite.fn (F := Ideal) (m ((c.tc : Thread Cert.Reference35Ideal.nD Cert.Reference35Ideal.τ).loc Cert.Reference35Ideal.main_arg0)) (m ((c.tc : Thread Cert.Reference35Ideal.nD Cert.Reference35Ideal.τ).loc Cert.Reference35Ideal.main_arg1)) (m ((c.tc : Thread Cert.Reference35Ideal.nD Cert.Reference35Ideal.τ).loc Cert.Reference35Ideal.main_arg2)) (m ((c.tc : Thread Cert.Reference35Ideal.nD Cert.Reference35Ideal.τ).loc Cert.Reference35Ideal.main_arg3)) (m ((c.tc : Thread Cert.Reference35Ideal.nD Cert.Reference35Ideal.τ).loc Cert.Reference35Ideal.main_arg4)) (m ((c.tc : Thread Cert.Reference35Ideal.nD Cert.Reference35Ideal.τ).loc Cert.Reference35Ideal.main_arg5))) = (fun _ => 1#1)

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3)
      ∧ r.2.mem ((c.tc : Thread Cert.Kernel34.nD Cert.Kernel34.τ).loc Cert.Kernel34.main_arg4) = m ((c.tc : Thread Cert.Kernel34.nD Cert.Kernel34.τ).loc Cert.Kernel34.main_arg4)
      ∧ r.2.mem ((c.tc : Thread Cert.Kernel34.nD Cert.Kernel34.τ).loc Cert.Kernel34.main_arg5) = m ((c.tc : Thread Cert.Kernel34.nD Cert.Kernel34.τ).loc Cert.Kernel34.main_arg5)
      ∧ r.2.mem ((c.tc : Thread Cert.Kernel34.nD Cert.Kernel34.τ).loc Cert.Kernel34.main_arg6) = m ((c.tc : Thread Cert.Kernel34.nD Cert.Kernel34.τ).loc Cert.Kernel34.main_arg6)
      ∧ r.2.mem ((c.tc : Thread Cert.Kernel34.nD Cert.Kernel34.τ).loc Cert.Kernel34.main_arg7) = m ((c.tc : Thread Cert.Kernel34.nD Cert.Kernel34.τ).loc Cert.Kernel34.main_arg7)
      ∧ r.2.mem ((c.tc : Thread Cert.Kernel34.nD Cert.Kernel34.τ).loc Cert.Kernel34.main_arg8) = m ((c.tc : Thread Cert.Kernel34.nD Cert.Kernel34.τ).loc Cert.Kernel34.main_arg8)
      ∧ r.2.mem ((c.tc : Thread Cert.Kernel34.nD Cert.Kernel34.τ).loc Cert.Kernel34.main_arg9) = m ((c.tc : Thread Cert.Kernel34.nD Cert.Kernel34.τ).loc Cert.Kernel34.main_arg9)
      ∧ r.2.mem ((c.tc : Thread Cert.Kernel34.nD Cert.Kernel34.τ).loc Cert.Kernel34.main_arg10) = m ((c.tc : Thread Cert.Kernel34.nD Cert.Kernel34.τ).loc Cert.Kernel34.main_arg10)
      ∧ r.2.mem ((c.tc : Thread Cert.Kernel34.nD Cert.Kernel34.τ).loc Cert.Kernel34.main_arg11) = m ((c.tc : Thread Cert.Kernel34.nD Cert.Kernel34.τ).loc Cert.Kernel34.main_arg11)
      ∧ r.2.mem ((c.tc : Thread Cert.Kernel34.nD Cert.Kernel34.τ).loc Cert.Kernel34.main_arg12) = m ((c.tc : Thread Cert.Kernel34.nD Cert.Kernel34.τ).loc Cert.Kernel34.main_arg12)
      ∧ r.2.mem ((c.tc : Thread Cert.Kernel34.nD Cert.Kernel34.τ).loc Cert.Kernel34.main_arg13) = m ((c.tc : Thread Cert.Kernel34.nD Cert.Kernel34.τ).loc Cert.Kernel34.main_arg13)
      ∧ r.2.mem ((c.tc : Thread Cert.Kernel34.nD Cert.Kernel34.τ).loc Cert.Kernel34.main_arg14) = m ((c.tc : Thread Cert.Kernel34.nD Cert.Kernel34.τ).loc Cert.Kernel34.main_arg14)
      ∧ r.2.mem ((c.tc : Thread Cert.Kernel34.nD Cert.Kernel34.τ).loc Cert.Kernel34.main_arg15) = m ((c.tc : Thread Cert.Kernel34.nD Cert.Kernel34.τ).loc Cert.Kernel34.main_arg15)
      ∧ r.2.mem ((c.tc : Thread Cert.Kernel34.nD Cert.Kernel34.τ).loc Cert.Kernel34.main_arg16) = m ((c.tc : Thread Cert.Kernel34.nD Cert.Kernel34.τ).loc Cert.Kernel34.main_arg16)
      ∧ r.2.mem ((c.tc : Thread Cert.Kernel34.nD Cert.Kernel34.τ).loc Cert.Kernel34.main_arg17) = m ((c.tc : Thread Cert.Kernel34.nD Cert.Kernel34.τ).loc Cert.Kernel34.main_arg17)
      ∧ r.2.mem ((c.tc : Thread Cert.Kernel34.nD Cert.Kernel34.τ).loc Cert.Kernel34.main_arg18) = m ((c.tc : Thread Cert.Kernel34.nD Cert.Kernel34.τ).loc Cert.Kernel34.main_arg18)
      ∧ r.2.mem ((c.tc : Thread Cert.Kernel34.nD Cert.Kernel34.τ).loc Cert.Kernel34.main_arg19) = m ((c.tc : Thread Cert.Kernel34.nD Cert.Kernel34.τ).loc Cert.Kernel34.main_arg19)
      ∧ r.2.mem ((c.tc : Thread Cert.Kernel34.nD Cert.Kernel34.τ).loc Cert.Kernel34.main_arg20) = m ((c.tc : Thread Cert.Kernel34.nD Cert.Kernel34.τ).loc Cert.Kernel34.main_arg20)
      ∧ r.2.mem ((c.tc : Thread Cert.Kernel34.nD Cert.Kernel34.τ).loc Cert.Kernel34.main_arg21) = m ((c.tc : Thread Cert.Kernel34.nD Cert.Kernel34.τ).loc Cert.Kernel34.main_arg21)
      ∧ r.2.mem ((c.tc : Thread Cert.Kernel34.nD Cert.Kernel34.τ).loc Cert.Kernel34.main_arg22) = m ((c.tc : Thread Cert.Kernel34.nD Cert.Kernel34.τ).loc Cert.Kernel34.main_arg22)
      ∧ r.2.mem ((c.tc : Thread Cert.Kernel34.nD Cert.Kernel34.τ).loc Cert.Kernel34.main_arg23) = m ((c.tc : Thread Cert.Kernel34.nD Cert.Kernel34.τ).loc Cert.Kernel34.main_arg23)
      ∧ r.2.mem ((c.tc : Thread Cert.Kernel34.nD Cert.Kernel34.τ).loc Cert.Kernel34.main_arg24) = m ((c.tc : Thread Cert.Kernel34.nD Cert.Kernel34.τ).loc Cert.Kernel34.main_arg24)
      ∧ r.2.mem ((c.tc : Thread Cert.Kernel34.nD Cert.Kernel34.τ).loc Cert.Kernel34.main_arg25) = m ((c.tc : Thread Cert.Kernel34.nD Cert.Kernel34.τ).loc Cert.Kernel34.main_arg25)
      ∧ r.2.mem ((c.tc : Thread Cert.Kernel34.nD Cert.Kernel34.τ).loc Cert.Kernel34.main_arg26) = m ((c.tc : Thread Cert.Kernel34.nD Cert.Kernel34.τ).loc Cert.Kernel34.main_arg26)
      ∧ r.2.mem ((c.tc : Thread Cert.Kernel34.nD Cert.Kernel34.τ).loc Cert.Kernel34.main_arg27) = m ((c.tc : Thread Cert.Kernel34.nD Cert.Kernel34.τ).loc Cert.Kernel34.main_arg27)
      ∧ r.2.mem ((c.tc : Thread Cert.Kernel34.nD Cert.Kernel34.τ).loc Cert.Kernel34.main_arg28) = m ((c.tc : Thread Cert.Kernel34.nD Cert.Kernel34.τ).loc Cert.Kernel34.main_arg28)
      ∧ r.2.mem ((c.tc : Thread Cert.Kernel34.nD Cert.Kernel34.τ).loc Cert.Kernel34.main_arg29) = m ((c.tc : Thread Cert.Kernel34.nD Cert.Kernel34.τ).loc Cert.Kernel34.main_arg29)
      ∧ r.2.mem ((c.tc : Thread Cert.Kernel34.nD Cert.Kernel34.τ).loc Cert.Kernel34.main_arg30) = m ((c.tc : Thread Cert.Kernel34.nD Cert.Kernel34.τ).loc Cert.Kernel34.main_arg30)
      ∧ r.2.mem ((c.tc : Thread Cert.Kernel34.nD Cert.Kernel34.τ).loc Cert.Kernel34.main_arg31) = m ((c.tc : Thread Cert.Kernel34.nD Cert.Kernel34.τ).loc Cert.Kernel34.main_arg31)
      ∧ r.2.mem ((c.tc : Thread Cert.Kernel34.nD Cert.Kernel34.τ).loc Cert.Kernel34.main_arg32) = m ((c.tc : Thread Cert.Kernel34.nD Cert.Kernel34.τ).loc Cert.Kernel34.main_arg32)
      ∧ r.2.mem ((c.tc : Thread Cert.Kernel34.nD Cert.Kernel34.τ).loc Cert.Kernel34.main_arg33) = m ((c.tc : Thread Cert.Kernel34.nD Cert.Kernel34.τ).loc Cert.Kernel34.main_arg33)
      ∧ r.2.mem ((c.tc : Thread Cert.Kernel34.nD Cert.Kernel34.τ).loc Cert.Kernel34.main_arg34) = m ((c.tc : Thread Cert.Kernel34.nD Cert.Kernel34.τ).loc Cert.Kernel34.main_arg34)
      ∧ r.2.mem ((c.tc : Thread Cert.Kernel34.nD Cert.Kernel34.τ).loc Cert.Kernel34.main_arg35) = m ((c.tc : Thread Cert.Kernel34.nD Cert.Kernel34.τ).loc Cert.Kernel34.main_arg35)
      ∧ r.2.mem ((c.tc : Thread Cert.Kernel34.nD Cert.Kernel34.τ).loc Cert.Kernel34.main_arg36) = m ((c.tc : Thread Cert.Kernel34.nD Cert.Kernel34.τ).loc Cert.Kernel34.main_arg36)
      ∧ r.2.mem ((c.tc : Thread Cert.Kernel34.nD Cert.Kernel34.τ).loc Cert.Kernel34.main_arg37) = m ((c.tc : Thread Cert.Kernel34.nD Cert.Kernel34.τ).loc Cert.Kernel34.main_arg37)
      ∧ r.2.mem ((c.tc : Thread Cert.Kernel34.nD Cert.Kernel34.τ).loc Cert.Kernel34.main_arg38) = m ((c.tc : Thread Cert.Kernel34.nD Cert.Kernel34.τ).loc Cert.Kernel34.main_arg38)
      ∧ r.2.mem ((c.tc : Thread Cert.Kernel34.nD Cert.Kernel34.τ).loc Cert.Kernel34.main_arg39) = m ((c.tc : Thread Cert.Kernel34.nD Cert.Kernel34.τ).loc Cert.Kernel34.main_arg39)
      ∧ r.2.mem ((c.tc : Thread Cert.Kernel34.nD Cert.Kernel34.τ).loc Cert.Kernel34.main_arg40) = m ((c.tc : Thread Cert.Kernel34.nD Cert.Kernel34.τ).loc Cert.Kernel34.main_arg40)
      ∧ r.2.mem ((c.tc : Thread Cert.Kernel34.nD Cert.Kernel34.τ).loc Cert.Kernel34.main_arg41) = m ((c.tc : Thread Cert.Kernel34.nD Cert.Kernel34.τ).loc Cert.Kernel34.main_arg41)
      ∧ r.2.mem ((c.tc : Thread Cert.Kernel34.nD Cert.Kernel34.τ).loc Cert.Kernel34.main_arg42) = m ((c.tc : Thread Cert.Kernel34.nD Cert.Kernel34.τ).loc Cert.Kernel34.main_arg42)
      ∧ r.2.mem ((c.tc : Thread Cert.Kernel34.nD Cert.Kernel34.τ).loc Cert.Kernel34.main_arg43) = m ((c.tc : Thread Cert.Kernel34.nD Cert.Kernel34.τ).loc Cert.Kernel34.main_arg43)
      ∧ r.2.mem ((c.tc : Thread Cert.Kernel34.nD Cert.Kernel34.τ).loc Cert.Kernel34.main_arg44) = m ((c.tc : Thread Cert.Kernel34.nD Cert.Kernel34.τ).loc Cert.Kernel34.main_arg44)
      ∧ r.2.mem ((c.tc : Thread Cert.Kernel34.nD Cert.Kernel34.τ).loc Cert.Kernel34.main_arg45) = m ((c.tc : Thread Cert.Kernel34.nD Cert.Kernel34.τ).loc Cert.Kernel34.main_arg45)
      ∧ r.2.mem ((c.tc : Thread Cert.Kernel34.nD Cert.Kernel34.τ).loc Cert.Kernel34.main_arg46) = m ((c.tc : Thread Cert.Kernel34.nD Cert.Kernel34.τ).loc Cert.Kernel34.main_arg46)
      ∧ r.2.mem ((c.tc : Thread Cert.Kernel34.nD Cert.Kernel34.τ).loc Cert.Kernel34.main_arg47) = m ((c.tc : Thread Cert.Kernel34.nD Cert.Kernel34.τ).loc Cert.Kernel34.main_arg47)
      ∧ r.2.mem ((c.tc : Thread Cert.Kernel34.nD Cert.Kernel34.τ).loc Cert.Kernel34.main_arg48) = m ((c.tc : Thread Cert.Kernel34.nD Cert.Kernel34.τ).loc Cert.Kernel34.main_arg48)
      ∧ r.2.mem ((c.tc : Thread Cert.Kernel34.nD Cert.Kernel34.τ).loc Cert.Kernel34.main_arg49) = m ((c.tc : Thread Cert.Kernel34.nD Cert.Kernel34.τ).loc Cert.Kernel34.main_arg49)
      ∧ r.2.mem ((c.tc : Thread Cert.Kernel34.nD Cert.Kernel34.τ).loc Cert.Kernel34.main_arg50) = m ((c.tc : Thread Cert.Kernel34.nD Cert.Kernel34.τ).loc Cert.Kernel34.main_arg50)
      ∧ r.2.mem ((c.tc : Thread Cert.Kernel34.nD Cert.Kernel34.τ).loc Cert.Kernel34.main_arg51) = m ((c.tc : Thread Cert.Kernel34.nD Cert.Kernel34.τ).loc Cert.Kernel34.main_arg51)
      ∧ r.2.mem ((c.tc : Thread Cert.Kernel34.nD Cert.Kernel34.τ).loc Cert.Kernel34.main_arg52) = m ((c.tc : Thread Cert.Kernel34.nD Cert.Kernel34.τ).loc Cert.Kernel34.main_arg52)
      ∧ r.2.mem ((c.tc : Thread Cert.Kernel34.nD Cert.Kernel34.τ).loc Cert.Kernel34.main_arg53) = m ((c.tc : Thread Cert.Kernel34.nD Cert.Kernel34.τ).loc Cert.Kernel34.main_arg53)
      ∧ r.2.mem ((c.tc : Thread Cert.Kernel34.nD Cert.Kernel34.τ).loc Cert.Kernel34.main_arg54) = m ((c.tc : Thread Cert.Kernel34.nD Cert.Kernel34.τ).loc Cert.Kernel34.main_arg54)
      ∧ r.2.mem ((c.tc : Thread Cert.Kernel34.nD Cert.Kernel34.τ).loc Cert.Kernel34.main_arg55) = m ((c.tc : Thread Cert.Kernel34.nD Cert.Kernel34.τ).loc Cert.Kernel34.main_arg55))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
      ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4)
      ∧ r.2.mem ((c.tc : Thread Cert.Kernel34Ideal.nD Cert.Kernel34Ideal.τ).loc Cert.Kernel34Ideal.main_arg5) = m ((c.tc : Thread Cert.Kernel34Ideal.nD Cert.Kernel34Ideal.τ).loc Cert.Kernel34Ideal.main_arg5)
      ∧ r.2.mem ((c.tc : Thread Cert.Kernel34Ideal.nD Cert.Kernel34Ideal.τ).loc Cert.Kernel34Ideal.main_arg6) = m ((c.tc : Thread Cert.Kernel34Ideal.nD Cert.Kernel34Ideal.τ).loc Cert.Kernel34Ideal.main_arg6)
      ∧ r.2.mem ((c.tc : Thread Cert.Kernel34Ideal.nD Cert.Kernel34Ideal.τ).loc Cert.Kernel34Ideal.main_arg7) = m ((c.tc : Thread Cert.Kernel34Ideal.nD Cert.Kernel34Ideal.τ).loc Cert.Kernel34Ideal.main_arg7)
      ∧ r.2.mem ((c.tc : Thread Cert.Kernel34Ideal.nD Cert.Kernel34Ideal.τ).loc Cert.Kernel34Ideal.main_arg8) = m ((c.tc : Thread Cert.Kernel34Ideal.nD Cert.Kernel34Ideal.τ).loc Cert.Kernel34Ideal.main_arg8)
      ∧ r.2.mem ((c.tc : Thread Cert.Kernel34Ideal.nD Cert.Kernel34Ideal.τ).loc Cert.Kernel34Ideal.main_arg9) = m ((c.tc : Thread Cert.Kernel34Ideal.nD Cert.Kernel34Ideal.τ).loc Cert.Kernel34Ideal.main_arg9)
      ∧ r.2.mem ((c.tc : Thread Cert.Kernel34Ideal.nD Cert.Kernel34Ideal.τ).loc Cert.Kernel34Ideal.main_arg10) = m ((c.tc : Thread Cert.Kernel34Ideal.nD Cert.Kernel34Ideal.τ).loc Cert.Kernel34Ideal.main_arg10)
      ∧ r.2.mem ((c.tc : Thread Cert.Kernel34Ideal.nD Cert.Kernel34Ideal.τ).loc Cert.Kernel34Ideal.main_arg11) = m ((c.tc : Thread Cert.Kernel34Ideal.nD Cert.Kernel34Ideal.τ).loc Cert.Kernel34Ideal.main_arg11)
      ∧ r.2.mem ((c.tc : Thread Cert.Kernel34Ideal.nD Cert.Kernel34Ideal.τ).loc Cert.Kernel34Ideal.main_arg12) = m ((c.tc : Thread Cert.Kernel34Ideal.nD Cert.Kernel34Ideal.τ).loc Cert.Kernel34Ideal.main_arg12)
      ∧ r.2.mem ((c.tc : Thread Cert.Kernel34Ideal.nD Cert.Kernel34Ideal.τ).loc Cert.Kernel34Ideal.main_arg13) = m ((c.tc : Thread Cert.Kernel34Ideal.nD Cert.Kernel34Ideal.τ).loc Cert.Kernel34Ideal.main_arg13)
      ∧ r.2.mem ((c.tc : Thread Cert.Kernel34Ideal.nD Cert.Kernel34Ideal.τ).loc Cert.Kernel34Ideal.main_arg14) = m ((c.tc : Thread Cert.Kernel34Ideal.nD Cert.Kernel34Ideal.τ).loc Cert.Kernel34Ideal.main_arg14)
      ∧ r.2.mem ((c.tc : Thread Cert.Kernel34Ideal.nD Cert.Kernel34Ideal.τ).loc Cert.Kernel34Ideal.main_arg15) = m ((c.tc : Thread Cert.Kernel34Ideal.nD Cert.Kernel34Ideal.τ).loc Cert.Kernel34Ideal.main_arg15)
      ∧ r.2.mem ((c.tc : Thread Cert.Kernel34Ideal.nD Cert.Kernel34Ideal.τ).loc Cert.Kernel34Ideal.main_arg16) = m ((c.tc : Thread Cert.Kernel34Ideal.nD Cert.Kernel34Ideal.τ).loc Cert.Kernel34Ideal.main_arg16)
      ∧ r.2.mem ((c.tc : Thread Cert.Kernel34Ideal.nD Cert.Kernel34Ideal.τ).loc Cert.Kernel34Ideal.main_arg17) = m ((c.tc : Thread Cert.Kernel34Ideal.nD Cert.Kernel34Ideal.τ).loc Cert.Kernel34Ideal.main_arg17)
      ∧ r.2.mem ((c.tc : Thread Cert.Kernel34Ideal.nD Cert.Kernel34Ideal.τ).loc Cert.Kernel34Ideal.main_arg18) = m ((c.tc : Thread Cert.Kernel34Ideal.nD Cert.Kernel34Ideal.τ).loc Cert.Kernel34Ideal.main_arg18)
      ∧ r.2.mem ((c.tc : Thread Cert.Kernel34Ideal.nD Cert.Kernel34Ideal.τ).loc Cert.Kernel34Ideal.main_arg19) = m ((c.tc : Thread Cert.Kernel34Ideal.nD Cert.Kernel34Ideal.τ).loc Cert.Kernel34Ideal.main_arg19)
      ∧ r.2.mem ((c.tc : Thread Cert.Kernel34Ideal.nD Cert.Kernel34Ideal.τ).loc Cert.Kernel34Ideal.main_arg20) = m ((c.tc : Thread Cert.Kernel34Ideal.nD Cert.Kernel34Ideal.τ).loc Cert.Kernel34Ideal.main_arg20)
      ∧ r.2.mem ((c.tc : Thread Cert.Kernel34Ideal.nD Cert.Kernel34Ideal.τ).loc Cert.Kernel34Ideal.main_arg21) = m ((c.tc : Thread Cert.Kernel34Ideal.nD Cert.Kernel34Ideal.τ).loc Cert.Kernel34Ideal.main_arg21)
      ∧ r.2.mem ((c.tc : Thread Cert.Kernel34Ideal.nD Cert.Kernel34Ideal.τ).loc Cert.Kernel34Ideal.main_arg22) = m ((c.tc : Thread Cert.Kernel34Ideal.nD Cert.Kernel34Ideal.τ).loc Cert.Kernel34Ideal.main_arg22)
      ∧ r.2.mem ((c.tc : Thread Cert.Kernel34Ideal.nD Cert.Kernel34Ideal.τ).loc Cert.Kernel34Ideal.main_arg23) = m ((c.tc : Thread Cert.Kernel34Ideal.nD Cert.Kernel34Ideal.τ).loc Cert.Kernel34Ideal.main_arg23)
      ∧ r.2.mem ((c.tc : Thread Cert.Kernel34Ideal.nD Cert.Kernel34Ideal.τ).loc Cert.Kernel34Ideal.main_arg24) = m ((c.tc : Thread Cert.Kernel34Ideal.nD Cert.Kernel34Ideal.τ).loc Cert.Kernel34Ideal.main_arg24)
      ∧ r.2.mem ((c.tc : Thread Cert.Kernel34Ideal.nD Cert.Kernel34Ideal.τ).loc Cert.Kernel34Ideal.main_arg25) = m ((c.tc : Thread Cert.Kernel34Ideal.nD Cert.Kernel34Ideal.τ).loc Cert.Kernel34Ideal.main_arg25)
      ∧ r.2.mem ((c.tc : Thread Cert.Kernel34Ideal.nD Cert.Kernel34Ideal.τ).loc Cert.Kernel34Ideal.main_arg26) = m ((c.tc : Thread Cert.Kernel34Ideal.nD Cert.Kernel34Ideal.τ).loc Cert.Kernel34Ideal.main_arg26)
      ∧ r.2.mem ((c.tc : Thread Cert.Kernel34Ideal.nD Cert.Kernel34Ideal.τ).loc Cert.Kernel34Ideal.main_arg27) = m ((c.tc : Thread Cert.Kernel34Ideal.nD Cert.Kernel34Ideal.τ).loc Cert.Kernel34Ideal.main_arg27)
      ∧ r.2.mem ((c.tc : Thread Cert.Kernel34Ideal.nD Cert.Kernel34Ideal.τ).loc Cert.Kernel34Ideal.main_arg28) = m ((c.tc : Thread Cert.Kernel34Ideal.nD Cert.Kernel34Ideal.τ).loc Cert.Kernel34Ideal.main_arg28)
      ∧ r.2.mem ((c.tc : Thread Cert.Kernel34Ideal.nD Cert.Kernel34Ideal.τ).loc Cert.Kernel34Ideal.main_arg29) = m ((c.tc : Thread Cert.Kernel34Ideal.nD Cert.Kernel34Ideal.τ).loc Cert.Kernel34Ideal.main_arg29)
      ∧ r.2.mem ((c.tc : Thread Cert.Kernel34Ideal.nD Cert.Kernel34Ideal.τ).loc Cert.Kernel34Ideal.main_arg30) = m ((c.tc : Thread Cert.Kernel34Ideal.nD Cert.Kernel34Ideal.τ).loc Cert.Kernel34Ideal.main_arg30)
      ∧ r.2.mem ((c.tc : Thread Cert.Kernel34Ideal.nD Cert.Kernel34Ideal.τ).loc Cert.Kernel34Ideal.main_arg31) = m ((c.tc : Thread Cert.Kernel34Ideal.nD Cert.Kernel34Ideal.τ).loc Cert.Kernel34Ideal.main_arg31)
      ∧ r.2.mem ((c.tc : Thread Cert.Kernel34Ideal.nD Cert.Kernel34Ideal.τ).loc Cert.Kernel34Ideal.main_arg32) = m ((c.tc : Thread Cert.Kernel34Ideal.nD Cert.Kernel34Ideal.τ).loc Cert.Kernel34Ideal.main_arg32)
      ∧ r.2.mem ((c.tc : Thread Cert.Kernel34Ideal.nD Cert.Kernel34Ideal.τ).loc Cert.Kernel34Ideal.main_arg33) = m ((c.tc : Thread Cert.Kernel34Ideal.nD Cert.Kernel34Ideal.τ).loc Cert.Kernel34Ideal.main_arg33)
      ∧ r.2.mem ((c.tc : Thread Cert.Kernel34Ideal.nD Cert.Kernel34Ideal.τ).loc Cert.Kernel34Ideal.main_arg34) = m ((c.tc : Thread Cert.Kernel34Ideal.nD Cert.Kernel34Ideal.τ).loc Cert.Kernel34Ideal.main_arg34)
      ∧ r.2.mem ((c.tc : Thread Cert.Kernel34Ideal.nD Cert.Kernel34Ideal.τ).loc Cert.Kernel34Ideal.main_arg35) = m ((c.tc : Thread Cert.Kernel34Ideal.nD Cert.Kernel34Ideal.τ).loc Cert.Kernel34Ideal.main_arg35)
      ∧ r.2.mem ((c.tc : Thread Cert.Kernel34Ideal.nD Cert.Kernel34Ideal.τ).loc Cert.Kernel34Ideal.main_arg36) = m ((c.tc : Thread Cert.Kernel34Ideal.nD Cert.Kernel34Ideal.τ).loc Cert.Kernel34Ideal.main_arg36)
      ∧ r.2.mem ((c.tc : Thread Cert.Kernel34Ideal.nD Cert.Kernel34Ideal.τ).loc Cert.Kernel34Ideal.main_arg37) = m ((c.tc : Thread Cert.Kernel34Ideal.nD Cert.Kernel34Ideal.τ).loc Cert.Kernel34Ideal.main_arg37)
      ∧ r.2.mem ((c.tc : Thread Cert.Kernel34Ideal.nD Cert.Kernel34Ideal.τ).loc Cert.Kernel34Ideal.main_arg38) = m ((c.tc : Thread Cert.Kernel34Ideal.nD Cert.Kernel34Ideal.τ).loc Cert.Kernel34Ideal.main_arg38)
      ∧ r.2.mem ((c.tc : Thread Cert.Kernel34Ideal.nD Cert.Kernel34Ideal.τ).loc Cert.Kernel34Ideal.main_arg39) = m ((c.tc : Thread Cert.Kernel34Ideal.nD Cert.Kernel34Ideal.τ).loc Cert.Kernel34Ideal.main_arg39)
      ∧ r.2.mem ((c.tc : Thread Cert.Kernel34Ideal.nD Cert.Kernel34Ideal.τ).loc Cert.Kernel34Ideal.main_arg40) = m ((c.tc : Thread Cert.Kernel34Ideal.nD Cert.Kernel34Ideal.τ).loc Cert.Kernel34Ideal.main_arg40)
      ∧ r.2.mem ((c.tc : Thread Cert.Kernel34Ideal.nD Cert.Kernel34Ideal.τ).loc Cert.Kernel34Ideal.main_arg41) = m ((c.tc : Thread Cert.Kernel34Ideal.nD Cert.Kernel34Ideal.τ).loc Cert.Kernel34Ideal.main_arg41)
      ∧ r.2.mem ((c.tc : Thread Cert.Kernel34Ideal.nD Cert.Kernel34Ideal.τ).loc Cert.Kernel34Ideal.main_arg42) = m ((c.tc : Thread Cert.Kernel34Ideal.nD Cert.Kernel34Ideal.τ).loc Cert.Kernel34Ideal.main_arg42)
      ∧ r.2.mem ((c.tc : Thread Cert.Kernel34Ideal.nD Cert.Kernel34Ideal.τ).loc Cert.Kernel34Ideal.main_arg43) = m ((c.tc : Thread Cert.Kernel34Ideal.nD Cert.Kernel34Ideal.τ).loc Cert.Kernel34Ideal.main_arg43)
      ∧ r.2.mem ((c.tc : Thread Cert.Kernel34Ideal.nD Cert.Kernel34Ideal.τ).loc Cert.Kernel34Ideal.main_arg44) = m ((c.tc : Thread Cert.Kernel34Ideal.nD Cert.Kernel34Ideal.τ).loc Cert.Kernel34Ideal.main_arg44)
      ∧ r.2.mem ((c.tc : Thread Cert.Kernel34Ideal.nD Cert.Kernel34Ideal.τ).loc Cert.Kernel34Ideal.main_arg45) = m ((c.tc : Thread Cert.Kernel34Ideal.nD Cert.Kernel34Ideal.τ).loc Cert.Kernel34Ideal.main_arg45)
      ∧ r.2.mem ((c.tc : Thread Cert.Kernel34Ideal.nD Cert.Kernel34Ideal.τ).loc Cert.Kernel34Ideal.main_arg46) = m ((c.tc : Thread Cert.Kernel34Ideal.nD Cert.Kernel34Ideal.τ).loc Cert.Kernel34Ideal.main_arg46)
      ∧ r.2.mem ((c.tc : Thread Cert.Kernel34Ideal.nD Cert.Kernel34Ideal.τ).loc Cert.Kernel34Ideal.main_arg47) = m ((c.tc : Thread Cert.Kernel34Ideal.nD Cert.Kernel34Ideal.τ).loc Cert.Kernel34Ideal.main_arg47)
      ∧ r.2.mem ((c.tc : Thread Cert.Kernel34Ideal.nD Cert.Kernel34Ideal.τ).loc Cert.Kernel34Ideal.main_arg48) = m ((c.tc : Thread Cert.Kernel34Ideal.nD Cert.Kernel34Ideal.τ).loc Cert.Kernel34Ideal.main_arg48)
      ∧ r.2.mem ((c.tc : Thread Cert.Kernel34Ideal.nD Cert.Kernel34Ideal.τ).loc Cert.Kernel34Ideal.main_arg49) = m ((c.tc : Thread Cert.Kernel34Ideal.nD Cert.Kernel34Ideal.τ).loc Cert.Kernel34Ideal.main_arg49)
      ∧ r.2.mem ((c.tc : Thread Cert.Kernel34Ideal.nD Cert.Kernel34Ideal.τ).loc Cert.Kernel34Ideal.main_arg50) = m ((c.tc : Thread Cert.Kernel34Ideal.nD Cert.Kernel34Ideal.τ).loc Cert.Kernel34Ideal.main_arg50)
      ∧ r.2.mem ((c.tc : Thread Cert.Kernel34Ideal.nD Cert.Kernel34Ideal.τ).loc Cert.Kernel34Ideal.main_arg51) = m ((c.tc : Thread Cert.Kernel34Ideal.nD Cert.Kernel34Ideal.τ).loc Cert.Kernel34Ideal.main_arg51)
      ∧ r.2.mem ((c.tc : Thread Cert.Kernel34Ideal.nD Cert.Kernel34Ideal.τ).loc Cert.Kernel34Ideal.main_arg52) = m ((c.tc : Thread Cert.Kernel34Ideal.nD Cert.Kernel34Ideal.τ).loc Cert.Kernel34Ideal.main_arg52)
      ∧ r.2.mem ((c.tc : Thread Cert.Kernel34Ideal.nD Cert.Kernel34Ideal.τ).loc Cert.Kernel34Ideal.main_arg53) = m ((c.tc : Thread Cert.Kernel34Ideal.nD Cert.Kernel34Ideal.τ).loc Cert.Kernel34Ideal.main_arg53)
      ∧ r.2.mem ((c.tc : Thread Cert.Kernel34Ideal.nD Cert.Kernel34Ideal.τ).loc Cert.Kernel34Ideal.main_arg54) = m ((c.tc : Thread Cert.Kernel34Ideal.nD Cert.Kernel34Ideal.τ).loc Cert.Kernel34Ideal.main_arg54)
      ∧ r.2.mem ((c.tc : Thread Cert.Kernel34Ideal.nD Cert.Kernel34Ideal.τ).loc Cert.Kernel34Ideal.main_arg55) = m ((c.tc : Thread Cert.Kernel34Ideal.nD Cert.Kernel34Ideal.τ).loc Cert.Kernel34Ideal.main_arg55))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3)
      ∧ r.2.mem ((c.tc : Thread Cert.Reference34Ideal.nD Cert.Reference34Ideal.τ).loc Cert.Reference34Ideal.main_arg4) = m ((c.tc : Thread Cert.Reference34Ideal.nD Cert.Reference34Ideal.τ).loc Cert.Reference34Ideal.main_arg4)
      ∧ r.2.mem ((c.tc : Thread Cert.Reference34Ideal.nD Cert.Reference34Ideal.τ).loc Cert.Reference34Ideal.main_arg5) = m ((c.tc : Thread Cert.Reference34Ideal.nD Cert.Reference34Ideal.τ).loc Cert.Reference34Ideal.main_arg5)
      ∧ r.2.mem ((c.tc : Thread Cert.Reference34Ideal.nD Cert.Reference34Ideal.τ).loc Cert.Reference34Ideal.main_arg6) = m ((c.tc : Thread Cert.Reference34Ideal.nD Cert.Reference34Ideal.τ).loc Cert.Reference34Ideal.main_arg6)
      ∧ r.2.mem ((c.tc : Thread Cert.Reference34Ideal.nD Cert.Reference34Ideal.τ).loc Cert.Reference34Ideal.main_arg7) = m ((c.tc : Thread Cert.Reference34Ideal.nD Cert.Reference34Ideal.τ).loc Cert.Reference34Ideal.main_arg7)
      ∧ r.2.mem ((c.tc : Thread Cert.Reference34Ideal.nD Cert.Reference34Ideal.τ).loc Cert.Reference34Ideal.main_arg8) = m ((c.tc : Thread Cert.Reference34Ideal.nD Cert.Reference34Ideal.τ).loc Cert.Reference34Ideal.main_arg8)
      ∧ r.2.mem ((c.tc : Thread Cert.Reference34Ideal.nD Cert.Reference34Ideal.τ).loc Cert.Reference34Ideal.main_arg9) = m ((c.tc : Thread Cert.Reference34Ideal.nD Cert.Reference34Ideal.τ).loc Cert.Reference34Ideal.main_arg9)
      ∧ r.2.mem ((c.tc : Thread Cert.Reference34Ideal.nD Cert.Reference34Ideal.τ).loc Cert.Reference34Ideal.main_arg10) = m ((c.tc : Thread Cert.Reference34Ideal.nD Cert.Reference34Ideal.τ).loc Cert.Reference34Ideal.main_arg10)
      ∧ r.2.mem ((c.tc : Thread Cert.Reference34Ideal.nD Cert.Reference34Ideal.τ).loc Cert.Reference34Ideal.main_arg11) = m ((c.tc : Thread Cert.Reference34Ideal.nD Cert.Reference34Ideal.τ).loc Cert.Reference34Ideal.main_arg11)
      ∧ r.2.mem ((c.tc : Thread Cert.Reference34Ideal.nD Cert.Reference34Ideal.τ).loc Cert.Reference34Ideal.main_arg12) = m ((c.tc : Thread Cert.Reference34Ideal.nD Cert.Reference34Ideal.τ).loc Cert.Reference34Ideal.main_arg12)
      ∧ r.2.mem ((c.tc : Thread Cert.Reference34Ideal.nD Cert.Reference34Ideal.τ).loc Cert.Reference34Ideal.main_arg13) = m ((c.tc : Thread Cert.Reference34Ideal.nD Cert.Reference34Ideal.τ).loc Cert.Reference34Ideal.main_arg13)
      ∧ r.2.mem ((c.tc : Thread Cert.Reference34Ideal.nD Cert.Reference34Ideal.τ).loc Cert.Reference34Ideal.main_arg14) = m ((c.tc : Thread Cert.Reference34Ideal.nD Cert.Reference34Ideal.τ).loc Cert.Reference34Ideal.main_arg14)
      ∧ r.2.mem ((c.tc : Thread Cert.Reference34Ideal.nD Cert.Reference34Ideal.τ).loc Cert.Reference34Ideal.main_arg15) = m ((c.tc : Thread Cert.Reference34Ideal.nD Cert.Reference34Ideal.τ).loc Cert.Reference34Ideal.main_arg15)
      ∧ r.2.mem ((c.tc : Thread Cert.Reference34Ideal.nD Cert.Reference34Ideal.τ).loc Cert.Reference34Ideal.main_arg16) = m ((c.tc : Thread Cert.Reference34Ideal.nD Cert.Reference34Ideal.τ).loc Cert.Reference34Ideal.main_arg16)
      ∧ r.2.mem ((c.tc : Thread Cert.Reference34Ideal.nD Cert.Reference34Ideal.τ).loc Cert.Reference34Ideal.main_arg17) = m ((c.tc : Thread Cert.Reference34Ideal.nD Cert.Reference34Ideal.τ).loc Cert.Reference34Ideal.main_arg17)
      ∧ r.2.mem ((c.tc : Thread Cert.Reference34Ideal.nD Cert.Reference34Ideal.τ).loc Cert.Reference34Ideal.main_arg18) = m ((c.tc : Thread Cert.Reference34Ideal.nD Cert.Reference34Ideal.τ).loc Cert.Reference34Ideal.main_arg18)
      ∧ r.2.mem ((c.tc : Thread Cert.Reference34Ideal.nD Cert.Reference34Ideal.τ).loc Cert.Reference34Ideal.main_arg19) = m ((c.tc : Thread Cert.Reference34Ideal.nD Cert.Reference34Ideal.τ).loc Cert.Reference34Ideal.main_arg19)
      ∧ r.2.mem ((c.tc : Thread Cert.Reference34Ideal.nD Cert.Reference34Ideal.τ).loc Cert.Reference34Ideal.main_arg20) = m ((c.tc : Thread Cert.Reference34Ideal.nD Cert.Reference34Ideal.τ).loc Cert.Reference34Ideal.main_arg20)
      ∧ r.2.mem ((c.tc : Thread Cert.Reference34Ideal.nD Cert.Reference34Ideal.τ).loc Cert.Reference34Ideal.main_arg21) = m ((c.tc : Thread Cert.Reference34Ideal.nD Cert.Reference34Ideal.τ).loc Cert.Reference34Ideal.main_arg21)
      ∧ r.2.mem ((c.tc : Thread Cert.Reference34Ideal.nD Cert.Reference34Ideal.τ).loc Cert.Reference34Ideal.main_arg22) = m ((c.tc : Thread Cert.Reference34Ideal.nD Cert.Reference34Ideal.τ).loc Cert.Reference34Ideal.main_arg22)
      ∧ r.2.mem ((c.tc : Thread Cert.Reference34Ideal.nD Cert.Reference34Ideal.τ).loc Cert.Reference34Ideal.main_arg23) = m ((c.tc : Thread Cert.Reference34Ideal.nD Cert.Reference34Ideal.τ).loc Cert.Reference34Ideal.main_arg23)
      ∧ r.2.mem ((c.tc : Thread Cert.Reference34Ideal.nD Cert.Reference34Ideal.τ).loc Cert.Reference34Ideal.main_arg24) = m ((c.tc : Thread Cert.Reference34Ideal.nD Cert.Reference34Ideal.τ).loc Cert.Reference34Ideal.main_arg24)
      ∧ r.2.mem ((c.tc : Thread Cert.Reference34Ideal.nD Cert.Reference34Ideal.τ).loc Cert.Reference34Ideal.main_arg25) = m ((c.tc : Thread Cert.Reference34Ideal.nD Cert.Reference34Ideal.τ).loc Cert.Reference34Ideal.main_arg25)
      ∧ r.2.mem ((c.tc : Thread Cert.Reference34Ideal.nD Cert.Reference34Ideal.τ).loc Cert.Reference34Ideal.main_arg26) = m ((c.tc : Thread Cert.Reference34Ideal.nD Cert.Reference34Ideal.τ).loc Cert.Reference34Ideal.main_arg26)
      ∧ r.2.mem ((c.tc : Thread Cert.Reference34Ideal.nD Cert.Reference34Ideal.τ).loc Cert.Reference34Ideal.main_arg27) = m ((c.tc : Thread Cert.Reference34Ideal.nD Cert.Reference34Ideal.τ).loc Cert.Reference34Ideal.main_arg27)
      ∧ r.2.mem ((c.tc : Thread Cert.Reference34Ideal.nD Cert.Reference34Ideal.τ).loc Cert.Reference34Ideal.main_arg28) = m ((c.tc : Thread Cert.Reference34Ideal.nD Cert.Reference34Ideal.τ).loc Cert.Reference34Ideal.main_arg28)
      ∧ r.2.mem ((c.tc : Thread Cert.Reference34Ideal.nD Cert.Reference34Ideal.τ).loc Cert.Reference34Ideal.main_arg29) = m ((c.tc : Thread Cert.Reference34Ideal.nD Cert.Reference34Ideal.τ).loc Cert.Reference34Ideal.main_arg29)
      ∧ r.2.mem ((c.tc : Thread Cert.Reference34Ideal.nD Cert.Reference34Ideal.τ).loc Cert.Reference34Ideal.main_arg30) = m ((c.tc : Thread Cert.Reference34Ideal.nD Cert.Reference34Ideal.τ).loc Cert.Reference34Ideal.main_arg30)
      ∧ r.2.mem ((c.tc : Thread Cert.Reference34Ideal.nD Cert.Reference34Ideal.τ).loc Cert.Reference34Ideal.main_arg31) = m ((c.tc : Thread Cert.Reference34Ideal.nD Cert.Reference34Ideal.τ).loc Cert.Reference34Ideal.main_arg31)
      ∧ r.2.mem ((c.tc : Thread Cert.Reference34Ideal.nD Cert.Reference34Ideal.τ).loc Cert.Reference34Ideal.main_arg32) = m ((c.tc : Thread Cert.Reference34Ideal.nD Cert.Reference34Ideal.τ).loc Cert.Reference34Ideal.main_arg32)
      ∧ r.2.mem ((c.tc : Thread Cert.Reference34Ideal.nD Cert.Reference34Ideal.τ).loc Cert.Reference34Ideal.main_arg33) = m ((c.tc : Thread Cert.Reference34Ideal.nD Cert.Reference34Ideal.τ).loc Cert.Reference34Ideal.main_arg33)
      ∧ r.2.mem ((c.tc : Thread Cert.Reference34Ideal.nD Cert.Reference34Ideal.τ).loc Cert.Reference34Ideal.main_arg34) = m ((c.tc : Thread Cert.Reference34Ideal.nD Cert.Reference34Ideal.τ).loc Cert.Reference34Ideal.main_arg34)
      ∧ r.2.mem ((c.tc : Thread Cert.Reference34Ideal.nD Cert.Reference34Ideal.τ).loc Cert.Reference34Ideal.main_arg35) = m ((c.tc : Thread Cert.Reference34Ideal.nD Cert.Reference34Ideal.τ).loc Cert.Reference34Ideal.main_arg35)
      ∧ r.2.mem ((c.tc : Thread Cert.Reference34Ideal.nD Cert.Reference34Ideal.τ).loc Cert.Reference34Ideal.main_arg36) = m ((c.tc : Thread Cert.Reference34Ideal.nD Cert.Reference34Ideal.τ).loc Cert.Reference34Ideal.main_arg36)
      ∧ r.2.mem ((c.tc : Thread Cert.Reference34Ideal.nD Cert.Reference34Ideal.τ).loc Cert.Reference34Ideal.main_arg37) = m ((c.tc : Thread Cert.Reference34Ideal.nD Cert.Reference34Ideal.τ).loc Cert.Reference34Ideal.main_arg37)
      ∧ r.2.mem ((c.tc : Thread Cert.Reference34Ideal.nD Cert.Reference34Ideal.τ).loc Cert.Reference34Ideal.main_arg38) = m ((c.tc : Thread Cert.Reference34Ideal.nD Cert.Reference34Ideal.τ).loc Cert.Reference34Ideal.main_arg38)
      ∧ r.2.mem ((c.tc : Thread Cert.Reference34Ideal.nD Cert.Reference34Ideal.τ).loc Cert.Reference34Ideal.main_arg39) = m ((c.tc : Thread Cert.Reference34Ideal.nD Cert.Reference34Ideal.τ).loc Cert.Reference34Ideal.main_arg39)
      ∧ r.2.mem ((c.tc : Thread Cert.Reference34Ideal.nD Cert.Reference34Ideal.τ).loc Cert.Reference34Ideal.main_arg40) = m ((c.tc : Thread Cert.Reference34Ideal.nD Cert.Reference34Ideal.τ).loc Cert.Reference34Ideal.main_arg40)
      ∧ r.2.mem ((c.tc : Thread Cert.Reference34Ideal.nD Cert.Reference34Ideal.τ).loc Cert.Reference34Ideal.main_arg41) = m ((c.tc : Thread Cert.Reference34Ideal.nD Cert.Reference34Ideal.τ).loc Cert.Reference34Ideal.main_arg41)
      ∧ r.2.mem ((c.tc : Thread Cert.Reference34Ideal.nD Cert.Reference34Ideal.τ).loc Cert.Reference34Ideal.main_arg42) = m ((c.tc : Thread Cert.Reference34Ideal.nD Cert.Reference34Ideal.τ).loc Cert.Reference34Ideal.main_arg42)
      ∧ r.2.mem ((c.tc : Thread Cert.Reference34Ideal.nD Cert.Reference34Ideal.τ).loc Cert.Reference34Ideal.main_arg43) = m ((c.tc : Thread Cert.Reference34Ideal.nD Cert.Reference34Ideal.τ).loc Cert.Reference34Ideal.main_arg43)
      ∧ r.2.mem ((c.tc : Thread Cert.Reference34Ideal.nD Cert.Reference34Ideal.τ).loc Cert.Reference34Ideal.main_arg44) = m ((c.tc : Thread Cert.Reference34Ideal.nD Cert.Reference34Ideal.τ).loc Cert.Reference34Ideal.main_arg44)
      ∧ r.2.mem ((c.tc : Thread Cert.Reference34Ideal.nD Cert.Reference34Ideal.τ).loc Cert.Reference34Ideal.main_arg45) = m ((c.tc : Thread Cert.Reference34Ideal.nD Cert.Reference34Ideal.τ).loc Cert.Reference34Ideal.main_arg45)
      ∧ r.2.mem ((c.tc : Thread Cert.Reference34Ideal.nD Cert.Reference34Ideal.τ).loc Cert.Reference34Ideal.main_arg46) = m ((c.tc : Thread Cert.Reference34Ideal.nD Cert.Reference34Ideal.τ).loc Cert.Reference34Ideal.main_arg46)
      ∧ r.2.mem ((c.tc : Thread Cert.Reference34Ideal.nD Cert.Reference34Ideal.τ).loc Cert.Reference34Ideal.main_arg47) = m ((c.tc : Thread Cert.Reference34Ideal.nD Cert.Reference34Ideal.τ).loc Cert.Reference34Ideal.main_arg47)
      ∧ r.2.mem ((c.tc : Thread Cert.Reference34Ideal.nD Cert.Reference34Ideal.τ).loc Cert.Reference34Ideal.main_arg48) = m ((c.tc : Thread Cert.Reference34Ideal.nD Cert.Reference34Ideal.τ).loc Cert.Reference34Ideal.main_arg48)
      ∧ r.2.mem ((c.tc : Thread Cert.Reference34Ideal.nD Cert.Reference34Ideal.τ).loc Cert.Reference34Ideal.main_arg49) = m ((c.tc : Thread Cert.Reference34Ideal.nD Cert.Reference34Ideal.τ).loc Cert.Reference34Ideal.main_arg49)
      ∧ r.2.mem ((c.tc : Thread Cert.Reference34Ideal.nD Cert.Reference34Ideal.τ).loc Cert.Reference34Ideal.main_arg50) = m ((c.tc : Thread Cert.Reference34Ideal.nD Cert.Reference34Ideal.τ).loc Cert.Reference34Ideal.main_arg50)
      ∧ r.2.mem ((c.tc : Thread Cert.Reference34Ideal.nD Cert.Reference34Ideal.τ).loc Cert.Reference34Ideal.main_arg51) = m ((c.tc : Thread Cert.Reference34Ideal.nD Cert.Reference34Ideal.τ).loc Cert.Reference34Ideal.main_arg51)
      ∧ r.2.mem ((c.tc : Thread Cert.Reference34Ideal.nD Cert.Reference34Ideal.τ).loc Cert.Reference34Ideal.main_arg52) = m ((c.tc : Thread Cert.Reference34Ideal.nD Cert.Reference34Ideal.τ).loc Cert.Reference34Ideal.main_arg52)
      ∧ r.2.mem ((c.tc : Thread Cert.Reference34Ideal.nD Cert.Reference34Ideal.τ).loc Cert.Reference34Ideal.main_arg53) = m ((c.tc : Thread Cert.Reference34Ideal.nD Cert.Reference34Ideal.τ).loc Cert.Reference34Ideal.main_arg53)
      ∧ r.2.mem ((c.tc : Thread Cert.Reference34Ideal.nD Cert.Reference34Ideal.τ).loc Cert.Reference34Ideal.main_arg54) = m ((c.tc : Thread Cert.Reference34Ideal.nD Cert.Reference34Ideal.τ).loc Cert.Reference34Ideal.main_arg54)
      ∧ r.2.mem ((c.tc : Thread Cert.Reference34Ideal.nD Cert.Reference34Ideal.τ).loc Cert.Reference34Ideal.main_arg55) = m ((c.tc : Thread Cert.Reference34Ideal.nD Cert.Reference34Ideal.τ).loc Cert.Reference34Ideal.main_arg55))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3)
      ∧ r.2.mem ((c.tc : Thread Cert.Kernel35.nD Cert.Kernel35.τ).loc Cert.Kernel35.main_arg4) = m ((c.tc : Thread Cert.Kernel35.nD Cert.Kernel35.τ).loc Cert.Kernel35.main_arg4)
      ∧ r.2.mem ((c.tc : Thread Cert.Kernel35.nD Cert.Kernel35.τ).loc Cert.Kernel35.main_arg5) = m ((c.tc : Thread Cert.Kernel35.nD Cert.Kernel35.τ).loc Cert.Kernel35.main_arg5))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
      ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4)
      ∧ r.2.mem ((c.tc : Thread Cert.Kernel35Ideal.nD Cert.Kernel35Ideal.τ).loc Cert.Kernel35Ideal.main_arg5) = m ((c.tc : Thread Cert.Kernel35Ideal.nD Cert.Kernel35Ideal.τ).loc Cert.Kernel35Ideal.main_arg5))
      ∧ r.2.sem = fun _ => 0)

def quiescent_Kernel35Ideal_pre_gelu_finite [hKernel35Ideal : Cert.Kernel35Ideal.Facts] [hPre_gelu_finite : Cert.Pre_gelu_finite.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal_gelu_finite m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
      ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4)
      ∧ r.2.mem ((c.tc : Thread Cert.Kernel35Ideal.nD Cert.Kernel35Ideal.τ).loc Cert.Kernel35Ideal.main_arg5) = m ((c.tc : Thread Cert.Kernel35Ideal.nD Cert.Kernel35Ideal.τ).loc Cert.Kernel35Ideal.main_arg5))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3)
      ∧ r.2.mem ((c.tc : Thread Cert.Reference35Ideal.nD Cert.Reference35Ideal.τ).loc Cert.Reference35Ideal.main_arg4) = m ((c.tc : Thread Cert.Reference35Ideal.nD Cert.Reference35Ideal.τ).loc Cert.Reference35Ideal.main_arg4)
      ∧ r.2.mem ((c.tc : Thread Cert.Reference35Ideal.nD Cert.Reference35Ideal.τ).loc Cert.Reference35Ideal.main_arg5) = m ((c.tc : Thread Cert.Reference35Ideal.nD Cert.Reference35Ideal.τ).loc Cert.Reference35Ideal.main_arg5))
      ∧ r.2.sem = fun _ => 0)

def quiescent_Reference35Ideal_pre_gelu_finite [hReference35Ideal : Cert.Reference35Ideal.Facts] [hPre_gelu_finite : Cert.Pre_gelu_finite.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal_gelu_finite m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3)
      ∧ r.2.mem ((c.tc : Thread Cert.Reference35Ideal.nD Cert.Reference35Ideal.τ).loc Cert.Reference35Ideal.main_arg4) = m ((c.tc : Thread Cert.Reference35Ideal.nD Cert.Reference35Ideal.τ).loc Cert.Reference35Ideal.main_arg4)
      ∧ r.2.mem ((c.tc : Thread Cert.Reference35Ideal.nD Cert.Reference35Ideal.τ).loc Cert.Reference35Ideal.main_arg5) = m ((c.tc : Thread Cert.Reference35Ideal.nD Cert.Reference35Ideal.τ).loc Cert.Reference35Ideal.main_arg5))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3)
      ∧ r.2.mem ((c.tc : Thread Cert.Kernel36.nD Cert.Kernel36.τ).loc Cert.Kernel36.main_arg4) = m ((c.tc : Thread Cert.Kernel36.nD Cert.Kernel36.τ).loc Cert.Kernel36.main_arg4)
      ∧ r.2.mem ((c.tc : Thread Cert.Kernel36.nD Cert.Kernel36.τ).loc Cert.Kernel36.main_arg5) = m ((c.tc : Thread Cert.Kernel36.nD Cert.Kernel36.τ).loc Cert.Kernel36.main_arg5))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
      ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4)
      ∧ r.2.mem ((c.tc : Thread Cert.Kernel36Ideal.nD Cert.Kernel36Ideal.τ).loc Cert.Kernel36Ideal.main_arg5) = m ((c.tc : Thread Cert.Kernel36Ideal.nD Cert.Kernel36Ideal.τ).loc Cert.Kernel36Ideal.main_arg5))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3)
      ∧ r.2.mem ((c.tc : Thread Cert.Reference36Ideal.nD Cert.Reference36Ideal.τ).loc Cert.Reference36Ideal.main_arg4) = m ((c.tc : Thread Cert.Reference36Ideal.nD Cert.Reference36Ideal.τ).loc Cert.Reference36Ideal.main_arg4)
      ∧ r.2.mem ((c.tc : Thread Cert.Reference36Ideal.nD Cert.Reference36Ideal.τ).loc Cert.Reference36Ideal.main_arg5) = m ((c.tc : Thread Cert.Reference36Ideal.nD Cert.Reference36Ideal.τ).loc Cert.Reference36Ideal.main_arg5))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)) (v4 : (c : Dev Cert.Kernel2Ideal.nD) → Buf (Elt Ideal) ((c.tc : Thread Cert.Kernel2Ideal.nD Cert.Kernel2Ideal.τ).loc Cert.Kernel2Ideal.main_v3_4)) (v5 : (c : Dev Cert.Kernel2Ideal.nD) → Buf (Elt Ideal) ((c.tc : Thread Cert.Kernel2Ideal.nD Cert.Kernel2Ideal.τ).loc Cert.Kernel2Ideal.main_v3_5)) (v6 : (c : Dev Cert.Kernel2Ideal.nD) → Buf (Elt Ideal) ((c.tc : Thread Cert.Kernel2Ideal.nD Cert.Kernel2Ideal.τ).loc Cert.Kernel2Ideal.main_v3_6)) (v7 : (c : Dev Cert.Kernel2Ideal.nD) → Buf (Elt Ideal) ((c.tc : Thread Cert.Kernel2Ideal.nD Cert.Kernel2Ideal.τ).loc Cert.Kernel2Ideal.main_v3_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_v3_4) = v4 c
          ∧ r.2.mem ((c.tc : Thread Cert.Kernel2Ideal.nD Cert.Kernel2Ideal.τ).loc Cert.Kernel2Ideal.main_v3_5) = v5 c
          ∧ r.2.mem ((c.tc : Thread Cert.Kernel2Ideal.nD Cert.Kernel2Ideal.τ).loc Cert.Kernel2Ideal.main_v3_6) = v6 c
          ∧ r.2.mem ((c.tc : Thread Cert.Kernel2Ideal.nD Cert.Kernel2Ideal.τ).loc Cert.Kernel2Ideal.main_v3_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v51) = v1 c
          ∧ r.2.mem ((c.tc : Thread Cert.Reference2Ideal.nD Cert.Reference2Ideal.τ).loc Cert.Reference2Ideal.main_v48) = v2 c
          ∧ r.2.mem ((c.tc : Thread Cert.Reference2Ideal.nD Cert.Reference2Ideal.τ).loc Cert.Reference2Ideal.main_v59) = v3 c
          ∧ r.2.mem ((c.tc : Thread Cert.Reference2Ideal.nD Cert.Reference2Ideal.τ).loc Cert.Reference2Ideal.main_v60) = v4 c
          ∧ r.2.mem ((c.tc : Thread Cert.Reference2Ideal.nD Cert.Reference2Ideal.τ).loc Cert.Reference2Ideal.main_v61) = v5 c
          ∧ r.2.mem ((c.tc : Thread Cert.Reference2Ideal.nD Cert.Reference2Ideal.τ).loc Cert.Reference2Ideal.main_v62) = v6 c
          ∧ r.2.mem ((c.tc : Thread Cert.Reference2Ideal.nD Cert.Reference2Ideal.τ).loc Cert.Reference2Ideal.main_v58) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_v23) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v48) = v0 c
          ∧ r.2.mem ((c.tc : Thread Cert.Reference7Ideal.nD Cert.Reference7Ideal.τ).loc Cert.Reference7Ideal.main_v31) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)) (v2 : (c : Dev Cert.Kernel15Ideal.nD) → Buf (Elt Ideal) ((c.tc : Thread Cert.Kernel15Ideal.nD Cert.Kernel15Ideal.τ).loc Cert.Kernel15Ideal.main_v1_2)) (v3 : (c : Dev Cert.Kernel15Ideal.nD) → Buf (Elt Ideal) ((c.tc : Thread Cert.Kernel15Ideal.nD Cert.Kernel15Ideal.τ).loc Cert.Kernel15Ideal.main_v1_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_v1_2) = v2 c
          ∧ r.2.mem ((c.tc : Thread Cert.Kernel15Ideal.nD Cert.Kernel15Ideal.τ).loc Cert.Kernel15Ideal.main_v1_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_v9) = v1 c
          ∧ r.2.mem ((c.tc : Thread Cert.Reference15Ideal.nD Cert.Reference15Ideal.τ).loc Cert.Reference15Ideal.main_v7) = v2 c
          ∧ r.2.mem ((c.tc : Thread Cert.Reference15Ideal.nD Cert.Reference15Ideal.τ).loc Cert.Reference15Ideal.main_v8) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v52) = v0 c
          ∧ r.2.mem ((c.tc : Thread Cert.Reference17Ideal.nD Cert.Reference17Ideal.τ).loc Cert.Reference17Ideal.main_v36) = v1 c
          ∧ r.2.mem ((c.tc : Thread Cert.Reference17Ideal.nD Cert.Reference17Ideal.τ).loc Cert.Reference17Ideal.main_v54) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)) →
    ∃ (v0 : (c : Dev Cert.Kernel18Ideal.nD) → Buf (Elt Ideal) ((c.tc : Thread Cert.Kernel18Ideal.nD Cert.Kernel18Ideal.τ).loc Cert.Kernel18Ideal.main_v3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v27) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v22) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_v16) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v12) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v12) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v7) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v6) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v33) = v0 c
          ∧ r.2.mem ((c.tc : Thread Cert.Reference26Ideal.nD Cert.Reference26Ideal.τ).loc Cert.Reference26Ideal.main_v17) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v27) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v0) = v0 c
          ∧ r.2.mem ((c.tc : Thread Cert.Reference28Ideal.nD Cert.Reference28Ideal.τ).loc Cert.Reference28Ideal.main_v25) = v1 c
          ∧ r.2.mem ((c.tc : Thread Cert.Reference28Ideal.nD Cert.Reference28Ideal.τ).loc Cert.Reference28Ideal.main_v6) = v2 c
          ∧ r.2.mem ((c.tc : Thread Cert.Reference28Ideal.nD Cert.Reference28Ideal.τ).loc Cert.Reference28Ideal.main_v12) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v0) = v0 c
          ∧ r.2.mem ((c.tc : Thread Cert.Reference29Ideal.nD Cert.Reference29Ideal.τ).loc Cert.Reference29Ideal.main_v25) = v1 c
          ∧ r.2.mem ((c.tc : Thread Cert.Reference29Ideal.nD Cert.Reference29Ideal.τ).loc Cert.Reference29Ideal.main_v6) = v2 c
          ∧ r.2.mem ((c.tc : Thread Cert.Reference29Ideal.nD Cert.Reference29Ideal.τ).loc Cert.Reference29Ideal.main_v12) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v0) = v0 c
          ∧ r.2.mem ((c.tc : Thread Cert.Reference30Ideal.nD Cert.Reference30Ideal.τ).loc Cert.Reference30Ideal.main_v25) = v1 c
          ∧ r.2.mem ((c.tc : Thread Cert.Reference30Ideal.nD Cert.Reference30Ideal.τ).loc Cert.Reference30Ideal.main_v6) = v2 c
          ∧ r.2.mem ((c.tc : Thread Cert.Reference30Ideal.nD Cert.Reference30Ideal.τ).loc Cert.Reference30Ideal.main_v12) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v0) = v0 c
          ∧ r.2.mem ((c.tc : Thread Cert.Reference31Ideal.nD Cert.Reference31Ideal.τ).loc Cert.Reference31Ideal.main_v25) = v1 c
          ∧ r.2.mem ((c.tc : Thread Cert.Reference31Ideal.nD Cert.Reference31Ideal.τ).loc Cert.Reference31Ideal.main_v6) = v2 c
          ∧ r.2.mem ((c.tc : Thread Cert.Reference31Ideal.nD Cert.Reference31Ideal.τ).loc Cert.Reference31Ideal.main_v12) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v0) = v0 c
          ∧ r.2.mem ((c.tc : Thread Cert.Reference32Ideal.nD Cert.Reference32Ideal.τ).loc Cert.Reference32Ideal.main_v25) = v1 c
          ∧ r.2.mem ((c.tc : Thread Cert.Reference32Ideal.nD Cert.Reference32Ideal.τ).loc Cert.Reference32Ideal.main_v6) = v2 c
          ∧ r.2.mem ((c.tc : Thread Cert.Reference32Ideal.nD Cert.Reference32Ideal.τ).loc Cert.Reference32Ideal.main_v12) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v0) = v0 c
          ∧ r.2.mem ((c.tc : Thread Cert.Reference33Ideal.nD Cert.Reference33Ideal.τ).loc Cert.Reference33Ideal.main_v25) = v1 c
          ∧ r.2.mem ((c.tc : Thread Cert.Reference33Ideal.nD Cert.Reference33Ideal.τ).loc Cert.Reference33Ideal.main_v6) = v2 c
          ∧ r.2.mem ((c.tc : Thread Cert.Reference33Ideal.nD Cert.Reference33Ideal.τ).loc Cert.Reference33Ideal.main_v12) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)
      ∧ m' ((c.tc : Thread Cert.Reference34Ideal.nD Cert.Reference34Ideal.τ).loc Cert.Reference34Ideal.main_arg4) = m ((c.tc : Thread Cert.Kernel34Ideal.nD Cert.Kernel34Ideal.τ).loc Cert.Kernel34Ideal.main_arg4)
      ∧ m' ((c.tc : Thread Cert.Reference34Ideal.nD Cert.Reference34Ideal.τ).loc Cert.Reference34Ideal.main_arg5) = m ((c.tc : Thread Cert.Kernel34Ideal.nD Cert.Kernel34Ideal.τ).loc Cert.Kernel34Ideal.main_arg5)
      ∧ m' ((c.tc : Thread Cert.Reference34Ideal.nD Cert.Reference34Ideal.τ).loc Cert.Reference34Ideal.main_arg6) = m ((c.tc : Thread Cert.Kernel34Ideal.nD Cert.Kernel34Ideal.τ).loc Cert.Kernel34Ideal.main_arg6)
      ∧ m' ((c.tc : Thread Cert.Reference34Ideal.nD Cert.Reference34Ideal.τ).loc Cert.Reference34Ideal.main_arg7) = m ((c.tc : Thread Cert.Kernel34Ideal.nD Cert.Kernel34Ideal.τ).loc Cert.Kernel34Ideal.main_arg7)
      ∧ m' ((c.tc : Thread Cert.Reference34Ideal.nD Cert.Reference34Ideal.τ).loc Cert.Reference34Ideal.main_arg8) = m ((c.tc : Thread Cert.Kernel34Ideal.nD Cert.Kernel34Ideal.τ).loc Cert.Kernel34Ideal.main_arg8)
      ∧ m' ((c.tc : Thread Cert.Reference34Ideal.nD Cert.Reference34Ideal.τ).loc Cert.Reference34Ideal.main_arg9) = m ((c.tc : Thread Cert.Kernel34Ideal.nD Cert.Kernel34Ideal.τ).loc Cert.Kernel34Ideal.main_arg9)
      ∧ m' ((c.tc : Thread Cert.Reference34Ideal.nD Cert.Reference34Ideal.τ).loc Cert.Reference34Ideal.main_arg10) = m ((c.tc : Thread Cert.Kernel34Ideal.nD Cert.Kernel34Ideal.τ).loc Cert.Kernel34Ideal.main_arg10)
      ∧ m' ((c.tc : Thread Cert.Reference34Ideal.nD Cert.Reference34Ideal.τ).loc Cert.Reference34Ideal.main_arg11) = m ((c.tc : Thread Cert.Kernel34Ideal.nD Cert.Kernel34Ideal.τ).loc Cert.Kernel34Ideal.main_arg11)
      ∧ m' ((c.tc : Thread Cert.Reference34Ideal.nD Cert.Reference34Ideal.τ).loc Cert.Reference34Ideal.main_arg12) = m ((c.tc : Thread Cert.Kernel34Ideal.nD Cert.Kernel34Ideal.τ).loc Cert.Kernel34Ideal.main_arg12)
      ∧ m' ((c.tc : Thread Cert.Reference34Ideal.nD Cert.Reference34Ideal.τ).loc Cert.Reference34Ideal.main_arg13) = m ((c.tc : Thread Cert.Kernel34Ideal.nD Cert.Kernel34Ideal.τ).loc Cert.Kernel34Ideal.main_arg13)
      ∧ m' ((c.tc : Thread Cert.Reference34Ideal.nD Cert.Reference34Ideal.τ).loc Cert.Reference34Ideal.main_arg14) = m ((c.tc : Thread Cert.Kernel34Ideal.nD Cert.Kernel34Ideal.τ).loc Cert.Kernel34Ideal.main_arg14)
      ∧ m' ((c.tc : Thread Cert.Reference34Ideal.nD Cert.Reference34Ideal.τ).loc Cert.Reference34Ideal.main_arg15) = m ((c.tc : Thread Cert.Kernel34Ideal.nD Cert.Kernel34Ideal.τ).loc Cert.Kernel34Ideal.main_arg15)
      ∧ m' ((c.tc : Thread Cert.Reference34Ideal.nD Cert.Reference34Ideal.τ).loc Cert.Reference34Ideal.main_arg16) = m ((c.tc : Thread Cert.Kernel34Ideal.nD Cert.Kernel34Ideal.τ).loc Cert.Kernel34Ideal.main_arg16)
      ∧ m' ((c.tc : Thread Cert.Reference34Ideal.nD Cert.Reference34Ideal.τ).loc Cert.Reference34Ideal.main_arg17) = m ((c.tc : Thread Cert.Kernel34Ideal.nD Cert.Kernel34Ideal.τ).loc Cert.Kernel34Ideal.main_arg17)
      ∧ m' ((c.tc : Thread Cert.Reference34Ideal.nD Cert.Reference34Ideal.τ).loc Cert.Reference34Ideal.main_arg18) = m ((c.tc : Thread Cert.Kernel34Ideal.nD Cert.Kernel34Ideal.τ).loc Cert.Kernel34Ideal.main_arg18)
      ∧ m' ((c.tc : Thread Cert.Reference34Ideal.nD Cert.Reference34Ideal.τ).loc Cert.Reference34Ideal.main_arg19) = m ((c.tc : Thread Cert.Kernel34Ideal.nD Cert.Kernel34Ideal.τ).loc Cert.Kernel34Ideal.main_arg19)
      ∧ m' ((c.tc : Thread Cert.Reference34Ideal.nD Cert.Reference34Ideal.τ).loc Cert.Reference34Ideal.main_arg20) = m ((c.tc : Thread Cert.Kernel34Ideal.nD Cert.Kernel34Ideal.τ).loc Cert.Kernel34Ideal.main_arg20)
      ∧ m' ((c.tc : Thread Cert.Reference34Ideal.nD Cert.Reference34Ideal.τ).loc Cert.Reference34Ideal.main_arg21) = m ((c.tc : Thread Cert.Kernel34Ideal.nD Cert.Kernel34Ideal.τ).loc Cert.Kernel34Ideal.main_arg21)
      ∧ m' ((c.tc : Thread Cert.Reference34Ideal.nD Cert.Reference34Ideal.τ).loc Cert.Reference34Ideal.main_arg22) = m ((c.tc : Thread Cert.Kernel34Ideal.nD Cert.Kernel34Ideal.τ).loc Cert.Kernel34Ideal.main_arg22)
      ∧ m' ((c.tc : Thread Cert.Reference34Ideal.nD Cert.Reference34Ideal.τ).loc Cert.Reference34Ideal.main_arg23) = m ((c.tc : Thread Cert.Kernel34Ideal.nD Cert.Kernel34Ideal.τ).loc Cert.Kernel34Ideal.main_arg23)
      ∧ m' ((c.tc : Thread Cert.Reference34Ideal.nD Cert.Reference34Ideal.τ).loc Cert.Reference34Ideal.main_arg24) = m ((c.tc : Thread Cert.Kernel34Ideal.nD Cert.Kernel34Ideal.τ).loc Cert.Kernel34Ideal.main_arg24)
      ∧ m' ((c.tc : Thread Cert.Reference34Ideal.nD Cert.Reference34Ideal.τ).loc Cert.Reference34Ideal.main_arg25) = m ((c.tc : Thread Cert.Kernel34Ideal.nD Cert.Kernel34Ideal.τ).loc Cert.Kernel34Ideal.main_arg25)
      ∧ m' ((c.tc : Thread Cert.Reference34Ideal.nD Cert.Reference34Ideal.τ).loc Cert.Reference34Ideal.main_arg26) = m ((c.tc : Thread Cert.Kernel34Ideal.nD Cert.Kernel34Ideal.τ).loc Cert.Kernel34Ideal.main_arg26)
      ∧ m' ((c.tc : Thread Cert.Reference34Ideal.nD Cert.Reference34Ideal.τ).loc Cert.Reference34Ideal.main_arg27) = m ((c.tc : Thread Cert.Kernel34Ideal.nD Cert.Kernel34Ideal.τ).loc Cert.Kernel34Ideal.main_arg27)
      ∧ m' ((c.tc : Thread Cert.Reference34Ideal.nD Cert.Reference34Ideal.τ).loc Cert.Reference34Ideal.main_arg28) = m ((c.tc : Thread Cert.Kernel34Ideal.nD Cert.Kernel34Ideal.τ).loc Cert.Kernel34Ideal.main_arg28)
      ∧ m' ((c.tc : Thread Cert.Reference34Ideal.nD Cert.Reference34Ideal.τ).loc Cert.Reference34Ideal.main_arg29) = m ((c.tc : Thread Cert.Kernel34Ideal.nD Cert.Kernel34Ideal.τ).loc Cert.Kernel34Ideal.main_arg29)
      ∧ m' ((c.tc : Thread Cert.Reference34Ideal.nD Cert.Reference34Ideal.τ).loc Cert.Reference34Ideal.main_arg30) = m ((c.tc : Thread Cert.Kernel34Ideal.nD Cert.Kernel34Ideal.τ).loc Cert.Kernel34Ideal.main_arg30)
      ∧ m' ((c.tc : Thread Cert.Reference34Ideal.nD Cert.Reference34Ideal.τ).loc Cert.Reference34Ideal.main_arg31) = m ((c.tc : Thread Cert.Kernel34Ideal.nD Cert.Kernel34Ideal.τ).loc Cert.Kernel34Ideal.main_arg31)
      ∧ m' ((c.tc : Thread Cert.Reference34Ideal.nD Cert.Reference34Ideal.τ).loc Cert.Reference34Ideal.main_arg32) = m ((c.tc : Thread Cert.Kernel34Ideal.nD Cert.Kernel34Ideal.τ).loc Cert.Kernel34Ideal.main_arg32)
      ∧ m' ((c.tc : Thread Cert.Reference34Ideal.nD Cert.Reference34Ideal.τ).loc Cert.Reference34Ideal.main_arg33) = m ((c.tc : Thread Cert.Kernel34Ideal.nD Cert.Kernel34Ideal.τ).loc Cert.Kernel34Ideal.main_arg33)
      ∧ m' ((c.tc : Thread Cert.Reference34Ideal.nD Cert.Reference34Ideal.τ).loc Cert.Reference34Ideal.main_arg34) = m ((c.tc : Thread Cert.Kernel34Ideal.nD Cert.Kernel34Ideal.τ).loc Cert.Kernel34Ideal.main_arg34)
      ∧ m' ((c.tc : Thread Cert.Reference34Ideal.nD Cert.Reference34Ideal.τ).loc Cert.Reference34Ideal.main_arg35) = m ((c.tc : Thread Cert.Kernel34Ideal.nD Cert.Kernel34Ideal.τ).loc Cert.Kernel34Ideal.main_arg35)
      ∧ m' ((c.tc : Thread Cert.Reference34Ideal.nD Cert.Reference34Ideal.τ).loc Cert.Reference34Ideal.main_arg36) = m ((c.tc : Thread Cert.Kernel34Ideal.nD Cert.Kernel34Ideal.τ).loc Cert.Kernel34Ideal.main_arg36)
      ∧ m' ((c.tc : Thread Cert.Reference34Ideal.nD Cert.Reference34Ideal.τ).loc Cert.Reference34Ideal.main_arg37) = m ((c.tc : Thread Cert.Kernel34Ideal.nD Cert.Kernel34Ideal.τ).loc Cert.Kernel34Ideal.main_arg37)
      ∧ m' ((c.tc : Thread Cert.Reference34Ideal.nD Cert.Reference34Ideal.τ).loc Cert.Reference34Ideal.main_arg38) = m ((c.tc : Thread Cert.Kernel34Ideal.nD Cert.Kernel34Ideal.τ).loc Cert.Kernel34Ideal.main_arg38)
      ∧ m' ((c.tc : Thread Cert.Reference34Ideal.nD Cert.Reference34Ideal.τ).loc Cert.Reference34Ideal.main_arg39) = m ((c.tc : Thread Cert.Kernel34Ideal.nD Cert.Kernel34Ideal.τ).loc Cert.Kernel34Ideal.main_arg39)
      ∧ m' ((c.tc : Thread Cert.Reference34Ideal.nD Cert.Reference34Ideal.τ).loc Cert.Reference34Ideal.main_arg40) = m ((c.tc : Thread Cert.Kernel34Ideal.nD Cert.Kernel34Ideal.τ).loc Cert.Kernel34Ideal.main_arg40)
      ∧ m' ((c.tc : Thread Cert.Reference34Ideal.nD Cert.Reference34Ideal.τ).loc Cert.Reference34Ideal.main_arg41) = m ((c.tc : Thread Cert.Kernel34Ideal.nD Cert.Kernel34Ideal.τ).loc Cert.Kernel34Ideal.main_arg41)
      ∧ m' ((c.tc : Thread Cert.Reference34Ideal.nD Cert.Reference34Ideal.τ).loc Cert.Reference34Ideal.main_arg42) = m ((c.tc : Thread Cert.Kernel34Ideal.nD Cert.Kernel34Ideal.τ).loc Cert.Kernel34Ideal.main_arg42)
      ∧ m' ((c.tc : Thread Cert.Reference34Ideal.nD Cert.Reference34Ideal.τ).loc Cert.Reference34Ideal.main_arg43) = m ((c.tc : Thread Cert.Kernel34Ideal.nD Cert.Kernel34Ideal.τ).loc Cert.Kernel34Ideal.main_arg43)
      ∧ m' ((c.tc : Thread Cert.Reference34Ideal.nD Cert.Reference34Ideal.τ).loc Cert.Reference34Ideal.main_arg44) = m ((c.tc : Thread Cert.Kernel34Ideal.nD Cert.Kernel34Ideal.τ).loc Cert.Kernel34Ideal.main_arg44)
      ∧ m' ((c.tc : Thread Cert.Reference34Ideal.nD Cert.Reference34Ideal.τ).loc Cert.Reference34Ideal.main_arg45) = m ((c.tc : Thread Cert.Kernel34Ideal.nD Cert.Kernel34Ideal.τ).loc Cert.Kernel34Ideal.main_arg45)
      ∧ m' ((c.tc : Thread Cert.Reference34Ideal.nD Cert.Reference34Ideal.τ).loc Cert.Reference34Ideal.main_arg46) = m ((c.tc : Thread Cert.Kernel34Ideal.nD Cert.Kernel34Ideal.τ).loc Cert.Kernel34Ideal.main_arg46)
      ∧ m' ((c.tc : Thread Cert.Reference34Ideal.nD Cert.Reference34Ideal.τ).loc Cert.Reference34Ideal.main_arg47) = m ((c.tc : Thread Cert.Kernel34Ideal.nD Cert.Kernel34Ideal.τ).loc Cert.Kernel34Ideal.main_arg47)
      ∧ m' ((c.tc : Thread Cert.Reference34Ideal.nD Cert.Reference34Ideal.τ).loc Cert.Reference34Ideal.main_arg48) = m ((c.tc : Thread Cert.Kernel34Ideal.nD Cert.Kernel34Ideal.τ).loc Cert.Kernel34Ideal.main_arg48)
      ∧ m' ((c.tc : Thread Cert.Reference34Ideal.nD Cert.Reference34Ideal.τ).loc Cert.Reference34Ideal.main_arg49) = m ((c.tc : Thread Cert.Kernel34Ideal.nD Cert.Kernel34Ideal.τ).loc Cert.Kernel34Ideal.main_arg49)
      ∧ m' ((c.tc : Thread Cert.Reference34Ideal.nD Cert.Reference34Ideal.τ).loc Cert.Reference34Ideal.main_arg50) = m ((c.tc : Thread Cert.Kernel34Ideal.nD Cert.Kernel34Ideal.τ).loc Cert.Kernel34Ideal.main_arg50)
      ∧ m' ((c.tc : Thread Cert.Reference34Ideal.nD Cert.Reference34Ideal.τ).loc Cert.Reference34Ideal.main_arg51) = m ((c.tc : Thread Cert.Kernel34Ideal.nD Cert.Kernel34Ideal.τ).loc Cert.Kernel34Ideal.main_arg51)
      ∧ m' ((c.tc : Thread Cert.Reference34Ideal.nD Cert.Reference34Ideal.τ).loc Cert.Reference34Ideal.main_arg52) = m ((c.tc : Thread Cert.Kernel34Ideal.nD Cert.Kernel34Ideal.τ).loc Cert.Kernel34Ideal.main_arg52)
      ∧ m' ((c.tc : Thread Cert.Reference34Ideal.nD Cert.Reference34Ideal.τ).loc Cert.Reference34Ideal.main_arg53) = m ((c.tc : Thread Cert.Kernel34Ideal.nD Cert.Kernel34Ideal.τ).loc Cert.Kernel34Ideal.main_arg53)
      ∧ m' ((c.tc : Thread Cert.Reference34Ideal.nD Cert.Reference34Ideal.τ).loc Cert.Reference34Ideal.main_arg54) = m ((c.tc : Thread Cert.Kernel34Ideal.nD Cert.Kernel34Ideal.τ).loc Cert.Kernel34Ideal.main_arg54)
      ∧ m' ((c.tc : Thread Cert.Reference34Ideal.nD Cert.Reference34Ideal.τ).loc Cert.Reference34Ideal.main_arg55) = m ((c.tc : Thread Cert.Kernel34Ideal.nD Cert.Kernel34Ideal.τ).loc Cert.Kernel34Ideal.main_arg55)) →
    ∃ (v0 : (c : Dev Cert.Kernel34Ideal.nD) → Buf (Elt Ideal) ((c.tc : Thread Cert.Kernel34Ideal.nD Cert.Kernel34Ideal.τ).loc Cert.Kernel34Ideal.main_v64_0)) (v1 : (c : Dev Cert.Kernel34Ideal.nD) → Buf (Elt Ideal) ((c.tc : Thread Cert.Kernel34Ideal.nD Cert.Kernel34Ideal.τ).loc Cert.Kernel34Ideal.main_v64_1)) (v2 : (c : Dev Cert.Kernel34Ideal.nD) → Buf (Elt Ideal) ((c.tc : Thread Cert.Kernel34Ideal.nD Cert.Kernel34Ideal.τ).loc Cert.Kernel34Ideal.main_v64_2)) (v3 : (c : Dev Cert.Kernel34Ideal.nD) → Buf (Elt Ideal) ((c.tc : Thread Cert.Kernel34Ideal.nD Cert.Kernel34Ideal.τ).loc Cert.Kernel34Ideal.main_v64_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v64_0) = v0 c
          ∧ r.2.mem ((c.tc : Thread Cert.Kernel34Ideal.nD Cert.Kernel34Ideal.τ).loc Cert.Kernel34Ideal.main_v64_1) = v1 c
          ∧ r.2.mem ((c.tc : Thread Cert.Kernel34Ideal.nD Cert.Kernel34Ideal.τ).loc Cert.Kernel34Ideal.main_v64_2) = v2 c
          ∧ r.2.mem ((c.tc : Thread Cert.Kernel34Ideal.nD Cert.Kernel34Ideal.τ).loc Cert.Kernel34Ideal.main_v64_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
          ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4)
          ∧ r.2.mem ((c.tc : Thread Cert.Kernel34Ideal.nD Cert.Kernel34Ideal.τ).loc Cert.Kernel34Ideal.main_arg5) = m ((c.tc : Thread Cert.Kernel34Ideal.nD Cert.Kernel34Ideal.τ).loc Cert.Kernel34Ideal.main_arg5)
          ∧ r.2.mem ((c.tc : Thread Cert.Kernel34Ideal.nD Cert.Kernel34Ideal.τ).loc Cert.Kernel34Ideal.main_arg6) = m ((c.tc : Thread Cert.Kernel34Ideal.nD Cert.Kernel34Ideal.τ).loc Cert.Kernel34Ideal.main_arg6)
          ∧ r.2.mem ((c.tc : Thread Cert.Kernel34Ideal.nD Cert.Kernel34Ideal.τ).loc Cert.Kernel34Ideal.main_arg7) = m ((c.tc : Thread Cert.Kernel34Ideal.nD Cert.Kernel34Ideal.τ).loc Cert.Kernel34Ideal.main_arg7)
          ∧ r.2.mem ((c.tc : Thread Cert.Kernel34Ideal.nD Cert.Kernel34Ideal.τ).loc Cert.Kernel34Ideal.main_arg8) = m ((c.tc : Thread Cert.Kernel34Ideal.nD Cert.Kernel34Ideal.τ).loc Cert.Kernel34Ideal.main_arg8)
          ∧ r.2.mem ((c.tc : Thread Cert.Kernel34Ideal.nD Cert.Kernel34Ideal.τ).loc Cert.Kernel34Ideal.main_arg9) = m ((c.tc : Thread Cert.Kernel34Ideal.nD Cert.Kernel34Ideal.τ).loc Cert.Kernel34Ideal.main_arg9)
          ∧ r.2.mem ((c.tc : Thread Cert.Kernel34Ideal.nD Cert.Kernel34Ideal.τ).loc Cert.Kernel34Ideal.main_arg10) = m ((c.tc : Thread Cert.Kernel34Ideal.nD Cert.Kernel34Ideal.τ).loc Cert.Kernel34Ideal.main_arg10)
          ∧ r.2.mem ((c.tc : Thread Cert.Kernel34Ideal.nD Cert.Kernel34Ideal.τ).loc Cert.Kernel34Ideal.main_arg11) = m ((c.tc : Thread Cert.Kernel34Ideal.nD Cert.Kernel34Ideal.τ).loc Cert.Kernel34Ideal.main_arg11)
          ∧ r.2.mem ((c.tc : Thread Cert.Kernel34Ideal.nD Cert.Kernel34Ideal.τ).loc Cert.Kernel34Ideal.main_arg12) = m ((c.tc : Thread Cert.Kernel34Ideal.nD Cert.Kernel34Ideal.τ).loc Cert.Kernel34Ideal.main_arg12)
          ∧ r.2.mem ((c.tc : Thread Cert.Kernel34Ideal.nD Cert.Kernel34Ideal.τ).loc Cert.Kernel34Ideal.main_arg13) = m ((c.tc : Thread Cert.Kernel34Ideal.nD Cert.Kernel34Ideal.τ).loc Cert.Kernel34Ideal.main_arg13)
          ∧ r.2.mem ((c.tc : Thread Cert.Kernel34Ideal.nD Cert.Kernel34Ideal.τ).loc Cert.Kernel34Ideal.main_arg14) = m ((c.tc : Thread Cert.Kernel34Ideal.nD Cert.Kernel34Ideal.τ).loc Cert.Kernel34Ideal.main_arg14)
          ∧ r.2.mem ((c.tc : Thread Cert.Kernel34Ideal.nD Cert.Kernel34Ideal.τ).loc Cert.Kernel34Ideal.main_arg15) = m ((c.tc : Thread Cert.Kernel34Ideal.nD Cert.Kernel34Ideal.τ).loc Cert.Kernel34Ideal.main_arg15)
          ∧ r.2.mem ((c.tc : Thread Cert.Kernel34Ideal.nD Cert.Kernel34Ideal.τ).loc Cert.Kernel34Ideal.main_arg16) = m ((c.tc : Thread Cert.Kernel34Ideal.nD Cert.Kernel34Ideal.τ).loc Cert.Kernel34Ideal.main_arg16)
          ∧ r.2.mem ((c.tc : Thread Cert.Kernel34Ideal.nD Cert.Kernel34Ideal.τ).loc Cert.Kernel34Ideal.main_arg17) = m ((c.tc : Thread Cert.Kernel34Ideal.nD Cert.Kernel34Ideal.τ).loc Cert.Kernel34Ideal.main_arg17)
          ∧ r.2.mem ((c.tc : Thread Cert.Kernel34Ideal.nD Cert.Kernel34Ideal.τ).loc Cert.Kernel34Ideal.main_arg18) = m ((c.tc : Thread Cert.Kernel34Ideal.nD Cert.Kernel34Ideal.τ).loc Cert.Kernel34Ideal.main_arg18)
          ∧ r.2.mem ((c.tc : Thread Cert.Kernel34Ideal.nD Cert.Kernel34Ideal.τ).loc Cert.Kernel34Ideal.main_arg19) = m ((c.tc : Thread Cert.Kernel34Ideal.nD Cert.Kernel34Ideal.τ).loc Cert.Kernel34Ideal.main_arg19)
          ∧ r.2.mem ((c.tc : Thread Cert.Kernel34Ideal.nD Cert.Kernel34Ideal.τ).loc Cert.Kernel34Ideal.main_arg20) = m ((c.tc : Thread Cert.Kernel34Ideal.nD Cert.Kernel34Ideal.τ).loc Cert.Kernel34Ideal.main_arg20)
          ∧ r.2.mem ((c.tc : Thread Cert.Kernel34Ideal.nD Cert.Kernel34Ideal.τ).loc Cert.Kernel34Ideal.main_arg21) = m ((c.tc : Thread Cert.Kernel34Ideal.nD Cert.Kernel34Ideal.τ).loc Cert.Kernel34Ideal.main_arg21)
          ∧ r.2.mem ((c.tc : Thread Cert.Kernel34Ideal.nD Cert.Kernel34Ideal.τ).loc Cert.Kernel34Ideal.main_arg22) = m ((c.tc : Thread Cert.Kernel34Ideal.nD Cert.Kernel34Ideal.τ).loc Cert.Kernel34Ideal.main_arg22)
          ∧ r.2.mem ((c.tc : Thread Cert.Kernel34Ideal.nD Cert.Kernel34Ideal.τ).loc Cert.Kernel34Ideal.main_arg23) = m ((c.tc : Thread Cert.Kernel34Ideal.nD Cert.Kernel34Ideal.τ).loc Cert.Kernel34Ideal.main_arg23)
          ∧ r.2.mem ((c.tc : Thread Cert.Kernel34Ideal.nD Cert.Kernel34Ideal.τ).loc Cert.Kernel34Ideal.main_arg24) = m ((c.tc : Thread Cert.Kernel34Ideal.nD Cert.Kernel34Ideal.τ).loc Cert.Kernel34Ideal.main_arg24)
          ∧ r.2.mem ((c.tc : Thread Cert.Kernel34Ideal.nD Cert.Kernel34Ideal.τ).loc Cert.Kernel34Ideal.main_arg25) = m ((c.tc : Thread Cert.Kernel34Ideal.nD Cert.Kernel34Ideal.τ).loc Cert.Kernel34Ideal.main_arg25)
          ∧ r.2.mem ((c.tc : Thread Cert.Kernel34Ideal.nD Cert.Kernel34Ideal.τ).loc Cert.Kernel34Ideal.main_arg26) = m ((c.tc : Thread Cert.Kernel34Ideal.nD Cert.Kernel34Ideal.τ).loc Cert.Kernel34Ideal.main_arg26)
          ∧ r.2.mem ((c.tc : Thread Cert.Kernel34Ideal.nD Cert.Kernel34Ideal.τ).loc Cert.Kernel34Ideal.main_arg27) = m ((c.tc : Thread Cert.Kernel34Ideal.nD Cert.Kernel34Ideal.τ).loc Cert.Kernel34Ideal.main_arg27)
          ∧ r.2.mem ((c.tc : Thread Cert.Kernel34Ideal.nD Cert.Kernel34Ideal.τ).loc Cert.Kernel34Ideal.main_arg28) = m ((c.tc : Thread Cert.Kernel34Ideal.nD Cert.Kernel34Ideal.τ).loc Cert.Kernel34Ideal.main_arg28)
          ∧ r.2.mem ((c.tc : Thread Cert.Kernel34Ideal.nD Cert.Kernel34Ideal.τ).loc Cert.Kernel34Ideal.main_arg29) = m ((c.tc : Thread Cert.Kernel34Ideal.nD Cert.Kernel34Ideal.τ).loc Cert.Kernel34Ideal.main_arg29)
          ∧ r.2.mem ((c.tc : Thread Cert.Kernel34Ideal.nD Cert.Kernel34Ideal.τ).loc Cert.Kernel34Ideal.main_arg30) = m ((c.tc : Thread Cert.Kernel34Ideal.nD Cert.Kernel34Ideal.τ).loc Cert.Kernel34Ideal.main_arg30)
          ∧ r.2.mem ((c.tc : Thread Cert.Kernel34Ideal.nD Cert.Kernel34Ideal.τ).loc Cert.Kernel34Ideal.main_arg31) = m ((c.tc : Thread Cert.Kernel34Ideal.nD Cert.Kernel34Ideal.τ).loc Cert.Kernel34Ideal.main_arg31)
          ∧ r.2.mem ((c.tc : Thread Cert.Kernel34Ideal.nD Cert.Kernel34Ideal.τ).loc Cert.Kernel34Ideal.main_arg32) = m ((c.tc : Thread Cert.Kernel34Ideal.nD Cert.Kernel34Ideal.τ).loc Cert.Kernel34Ideal.main_arg32)
          ∧ r.2.mem ((c.tc : Thread Cert.Kernel34Ideal.nD Cert.Kernel34Ideal.τ).loc Cert.Kernel34Ideal.main_arg33) = m ((c.tc : Thread Cert.Kernel34Ideal.nD Cert.Kernel34Ideal.τ).loc Cert.Kernel34Ideal.main_arg33)
          ∧ r.2.mem ((c.tc : Thread Cert.Kernel34Ideal.nD Cert.Kernel34Ideal.τ).loc Cert.Kernel34Ideal.main_arg34) = m ((c.tc : Thread Cert.Kernel34Ideal.nD Cert.Kernel34Ideal.τ).loc Cert.Kernel34Ideal.main_arg34)
          ∧ r.2.mem ((c.tc : Thread Cert.Kernel34Ideal.nD Cert.Kernel34Ideal.τ).loc Cert.Kernel34Ideal.main_arg35) = m ((c.tc : Thread Cert.Kernel34Ideal.nD Cert.Kernel34Ideal.τ).loc Cert.Kernel34Ideal.main_arg35)
          ∧ r.2.mem ((c.tc : Thread Cert.Kernel34Ideal.nD Cert.Kernel34Ideal.τ).loc Cert.Kernel34Ideal.main_arg36) = m ((c.tc : Thread Cert.Kernel34Ideal.nD Cert.Kernel34Ideal.τ).loc Cert.Kernel34Ideal.main_arg36)
          ∧ r.2.mem ((c.tc : Thread Cert.Kernel34Ideal.nD Cert.Kernel34Ideal.τ).loc Cert.Kernel34Ideal.main_arg37) = m ((c.tc : Thread Cert.Kernel34Ideal.nD Cert.Kernel34Ideal.τ).loc Cert.Kernel34Ideal.main_arg37)
          ∧ r.2.mem ((c.tc : Thread Cert.Kernel34Ideal.nD Cert.Kernel34Ideal.τ).loc Cert.Kernel34Ideal.main_arg38) = m ((c.tc : Thread Cert.Kernel34Ideal.nD Cert.Kernel34Ideal.τ).loc Cert.Kernel34Ideal.main_arg38)
          ∧ r.2.mem ((c.tc : Thread Cert.Kernel34Ideal.nD Cert.Kernel34Ideal.τ).loc Cert.Kernel34Ideal.main_arg39) = m ((c.tc : Thread Cert.Kernel34Ideal.nD Cert.Kernel34Ideal.τ).loc Cert.Kernel34Ideal.main_arg39)
          ∧ r.2.mem ((c.tc : Thread Cert.Kernel34Ideal.nD Cert.Kernel34Ideal.τ).loc Cert.Kernel34Ideal.main_arg40) = m ((c.tc : Thread Cert.Kernel34Ideal.nD Cert.Kernel34Ideal.τ).loc Cert.Kernel34Ideal.main_arg40)
          ∧ r.2.mem ((c.tc : Thread Cert.Kernel34Ideal.nD Cert.Kernel34Ideal.τ).loc Cert.Kernel34Ideal.main_arg41) = m ((c.tc : Thread Cert.Kernel34Ideal.nD Cert.Kernel34Ideal.τ).loc Cert.Kernel34Ideal.main_arg41)
          ∧ r.2.mem ((c.tc : Thread Cert.Kernel34Ideal.nD Cert.Kernel34Ideal.τ).loc Cert.Kernel34Ideal.main_arg42) = m ((c.tc : Thread Cert.Kernel34Ideal.nD Cert.Kernel34Ideal.τ).loc Cert.Kernel34Ideal.main_arg42)
          ∧ r.2.mem ((c.tc : Thread Cert.Kernel34Ideal.nD Cert.Kernel34Ideal.τ).loc Cert.Kernel34Ideal.main_arg43) = m ((c.tc : Thread Cert.Kernel34Ideal.nD Cert.Kernel34Ideal.τ).loc Cert.Kernel34Ideal.main_arg43)
          ∧ r.2.mem ((c.tc : Thread Cert.Kernel34Ideal.nD Cert.Kernel34Ideal.τ).loc Cert.Kernel34Ideal.main_arg44) = m ((c.tc : Thread Cert.Kernel34Ideal.nD Cert.Kernel34Ideal.τ).loc Cert.Kernel34Ideal.main_arg44)
          ∧ r.2.mem ((c.tc : Thread Cert.Kernel34Ideal.nD Cert.Kernel34Ideal.τ).loc Cert.Kernel34Ideal.main_arg45) = m ((c.tc : Thread Cert.Kernel34Ideal.nD Cert.Kernel34Ideal.τ).loc Cert.Kernel34Ideal.main_arg45)
          ∧ r.2.mem ((c.tc : Thread Cert.Kernel34Ideal.nD Cert.Kernel34Ideal.τ).loc Cert.Kernel34Ideal.main_arg46) = m ((c.tc : Thread Cert.Kernel34Ideal.nD Cert.Kernel34Ideal.τ).loc Cert.Kernel34Ideal.main_arg46)
          ∧ r.2.mem ((c.tc : Thread Cert.Kernel34Ideal.nD Cert.Kernel34Ideal.τ).loc Cert.Kernel34Ideal.main_arg47) = m ((c.tc : Thread Cert.Kernel34Ideal.nD Cert.Kernel34Ideal.τ).loc Cert.Kernel34Ideal.main_arg47)
          ∧ r.2.mem ((c.tc : Thread Cert.Kernel34Ideal.nD Cert.Kernel34Ideal.τ).loc Cert.Kernel34Ideal.main_arg48) = m ((c.tc : Thread Cert.Kernel34Ideal.nD Cert.Kernel34Ideal.τ).loc Cert.Kernel34Ideal.main_arg48)
          ∧ r.2.mem ((c.tc : Thread Cert.Kernel34Ideal.nD Cert.Kernel34Ideal.τ).loc Cert.Kernel34Ideal.main_arg49) = m ((c.tc : Thread Cert.Kernel34Ideal.nD Cert.Kernel34Ideal.τ).loc Cert.Kernel34Ideal.main_arg49)
          ∧ r.2.mem ((c.tc : Thread Cert.Kernel34Ideal.nD Cert.Kernel34Ideal.τ).loc Cert.Kernel34Ideal.main_arg50) = m ((c.tc : Thread Cert.Kernel34Ideal.nD Cert.Kernel34Ideal.τ).loc Cert.Kernel34Ideal.main_arg50)
          ∧ r.2.mem ((c.tc : Thread Cert.Kernel34Ideal.nD Cert.Kernel34Ideal.τ).loc Cert.Kernel34Ideal.main_arg51) = m ((c.tc : Thread Cert.Kernel34Ideal.nD Cert.Kernel34Ideal.τ).loc Cert.Kernel34Ideal.main_arg51)
          ∧ r.2.mem ((c.tc : Thread Cert.Kernel34Ideal.nD Cert.Kernel34Ideal.τ).loc Cert.Kernel34Ideal.main_arg52) = m ((c.tc : Thread Cert.Kernel34Ideal.nD Cert.Kernel34Ideal.τ).loc Cert.Kernel34Ideal.main_arg52)
          ∧ r.2.mem ((c.tc : Thread Cert.Kernel34Ideal.nD Cert.Kernel34Ideal.τ).loc Cert.Kernel34Ideal.main_arg53) = m ((c.tc : Thread Cert.Kernel34Ideal.nD Cert.Kernel34Ideal.τ).loc Cert.Kernel34Ideal.main_arg53)
          ∧ r.2.mem ((c.tc : Thread Cert.Kernel34Ideal.nD Cert.Kernel34Ideal.τ).loc Cert.Kernel34Ideal.main_arg54) = m ((c.tc : Thread Cert.Kernel34Ideal.nD Cert.Kernel34Ideal.τ).loc Cert.Kernel34Ideal.main_arg54)
          ∧ r.2.mem ((c.tc : Thread Cert.Kernel34Ideal.nD Cert.Kernel34Ideal.τ).loc Cert.Kernel34Ideal.main_arg55) = m ((c.tc : Thread Cert.Kernel34Ideal.nD Cert.Kernel34Ideal.τ).loc Cert.Kernel34Ideal.main_arg55))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v351) = v0 c
          ∧ r.2.mem ((c.tc : Thread Cert.Reference34Ideal.nD Cert.Reference34Ideal.τ).loc Cert.Reference34Ideal.main_v367) = v1 c
          ∧ r.2.mem ((c.tc : Thread Cert.Reference34Ideal.nD Cert.Reference34Ideal.τ).loc Cert.Reference34Ideal.main_v383) = v2 c
          ∧ r.2.mem ((c.tc : Thread Cert.Reference34Ideal.nD Cert.Reference34Ideal.τ).loc Cert.Reference34Ideal.main_v399) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3)
          ∧ r.2.mem ((c.tc : Thread Cert.Reference34Ideal.nD Cert.Reference34Ideal.τ).loc Cert.Reference34Ideal.main_arg4) = m' ((c.tc : Thread Cert.Reference34Ideal.nD Cert.Reference34Ideal.τ).loc Cert.Reference34Ideal.main_arg4)
          ∧ r.2.mem ((c.tc : Thread Cert.Reference34Ideal.nD Cert.Reference34Ideal.τ).loc Cert.Reference34Ideal.main_arg5) = m' ((c.tc : Thread Cert.Reference34Ideal.nD Cert.Reference34Ideal.τ).loc Cert.Reference34Ideal.main_arg5)
          ∧ r.2.mem ((c.tc : Thread Cert.Reference34Ideal.nD Cert.Reference34Ideal.τ).loc Cert.Reference34Ideal.main_arg6) = m' ((c.tc : Thread Cert.Reference34Ideal.nD Cert.Reference34Ideal.τ).loc Cert.Reference34Ideal.main_arg6)
          ∧ r.2.mem ((c.tc : Thread Cert.Reference34Ideal.nD Cert.Reference34Ideal.τ).loc Cert.Reference34Ideal.main_arg7) = m' ((c.tc : Thread Cert.Reference34Ideal.nD Cert.Reference34Ideal.τ).loc Cert.Reference34Ideal.main_arg7)
          ∧ r.2.mem ((c.tc : Thread Cert.Reference34Ideal.nD Cert.Reference34Ideal.τ).loc Cert.Reference34Ideal.main_arg8) = m' ((c.tc : Thread Cert.Reference34Ideal.nD Cert.Reference34Ideal.τ).loc Cert.Reference34Ideal.main_arg8)
          ∧ r.2.mem ((c.tc : Thread Cert.Reference34Ideal.nD Cert.Reference34Ideal.τ).loc Cert.Reference34Ideal.main_arg9) = m' ((c.tc : Thread Cert.Reference34Ideal.nD Cert.Reference34Ideal.τ).loc Cert.Reference34Ideal.main_arg9)
          ∧ r.2.mem ((c.tc : Thread Cert.Reference34Ideal.nD Cert.Reference34Ideal.τ).loc Cert.Reference34Ideal.main_arg10) = m' ((c.tc : Thread Cert.Reference34Ideal.nD Cert.Reference34Ideal.τ).loc Cert.Reference34Ideal.main_arg10)
          ∧ r.2.mem ((c.tc : Thread Cert.Reference34Ideal.nD Cert.Reference34Ideal.τ).loc Cert.Reference34Ideal.main_arg11) = m' ((c.tc : Thread Cert.Reference34Ideal.nD Cert.Reference34Ideal.τ).loc Cert.Reference34Ideal.main_arg11)
          ∧ r.2.mem ((c.tc : Thread Cert.Reference34Ideal.nD Cert.Reference34Ideal.τ).loc Cert.Reference34Ideal.main_arg12) = m' ((c.tc : Thread Cert.Reference34Ideal.nD Cert.Reference34Ideal.τ).loc Cert.Reference34Ideal.main_arg12)
          ∧ r.2.mem ((c.tc : Thread Cert.Reference34Ideal.nD Cert.Reference34Ideal.τ).loc Cert.Reference34Ideal.main_arg13) = m' ((c.tc : Thread Cert.Reference34Ideal.nD Cert.Reference34Ideal.τ).loc Cert.Reference34Ideal.main_arg13)
          ∧ r.2.mem ((c.tc : Thread Cert.Reference34Ideal.nD Cert.Reference34Ideal.τ).loc Cert.Reference34Ideal.main_arg14) = m' ((c.tc : Thread Cert.Reference34Ideal.nD Cert.Reference34Ideal.τ).loc Cert.Reference34Ideal.main_arg14)
          ∧ r.2.mem ((c.tc : Thread Cert.Reference34Ideal.nD Cert.Reference34Ideal.τ).loc Cert.Reference34Ideal.main_arg15) = m' ((c.tc : Thread Cert.Reference34Ideal.nD Cert.Reference34Ideal.τ).loc Cert.Reference34Ideal.main_arg15)
          ∧ r.2.mem ((c.tc : Thread Cert.Reference34Ideal.nD Cert.Reference34Ideal.τ).loc Cert.Reference34Ideal.main_arg16) = m' ((c.tc : Thread Cert.Reference34Ideal.nD Cert.Reference34Ideal.τ).loc Cert.Reference34Ideal.main_arg16)
          ∧ r.2.mem ((c.tc : Thread Cert.Reference34Ideal.nD Cert.Reference34Ideal.τ).loc Cert.Reference34Ideal.main_arg17) = m' ((c.tc : Thread Cert.Reference34Ideal.nD Cert.Reference34Ideal.τ).loc Cert.Reference34Ideal.main_arg17)
          ∧ r.2.mem ((c.tc : Thread Cert.Reference34Ideal.nD Cert.Reference34Ideal.τ).loc Cert.Reference34Ideal.main_arg18) = m' ((c.tc : Thread Cert.Reference34Ideal.nD Cert.Reference34Ideal.τ).loc Cert.Reference34Ideal.main_arg18)
          ∧ r.2.mem ((c.tc : Thread Cert.Reference34Ideal.nD Cert.Reference34Ideal.τ).loc Cert.Reference34Ideal.main_arg19) = m' ((c.tc : Thread Cert.Reference34Ideal.nD Cert.Reference34Ideal.τ).loc Cert.Reference34Ideal.main_arg19)
          ∧ r.2.mem ((c.tc : Thread Cert.Reference34Ideal.nD Cert.Reference34Ideal.τ).loc Cert.Reference34Ideal.main_arg20) = m' ((c.tc : Thread Cert.Reference34Ideal.nD Cert.Reference34Ideal.τ).loc Cert.Reference34Ideal.main_arg20)
          ∧ r.2.mem ((c.tc : Thread Cert.Reference34Ideal.nD Cert.Reference34Ideal.τ).loc Cert.Reference34Ideal.main_arg21) = m' ((c.tc : Thread Cert.Reference34Ideal.nD Cert.Reference34Ideal.τ).loc Cert.Reference34Ideal.main_arg21)
          ∧ r.2.mem ((c.tc : Thread Cert.Reference34Ideal.nD Cert.Reference34Ideal.τ).loc Cert.Reference34Ideal.main_arg22) = m' ((c.tc : Thread Cert.Reference34Ideal.nD Cert.Reference34Ideal.τ).loc Cert.Reference34Ideal.main_arg22)
          ∧ r.2.mem ((c.tc : Thread Cert.Reference34Ideal.nD Cert.Reference34Ideal.τ).loc Cert.Reference34Ideal.main_arg23) = m' ((c.tc : Thread Cert.Reference34Ideal.nD Cert.Reference34Ideal.τ).loc Cert.Reference34Ideal.main_arg23)
          ∧ r.2.mem ((c.tc : Thread Cert.Reference34Ideal.nD Cert.Reference34Ideal.τ).loc Cert.Reference34Ideal.main_arg24) = m' ((c.tc : Thread Cert.Reference34Ideal.nD Cert.Reference34Ideal.τ).loc Cert.Reference34Ideal.main_arg24)
          ∧ r.2.mem ((c.tc : Thread Cert.Reference34Ideal.nD Cert.Reference34Ideal.τ).loc Cert.Reference34Ideal.main_arg25) = m' ((c.tc : Thread Cert.Reference34Ideal.nD Cert.Reference34Ideal.τ).loc Cert.Reference34Ideal.main_arg25)
          ∧ r.2.mem ((c.tc : Thread Cert.Reference34Ideal.nD Cert.Reference34Ideal.τ).loc Cert.Reference34Ideal.main_arg26) = m' ((c.tc : Thread Cert.Reference34Ideal.nD Cert.Reference34Ideal.τ).loc Cert.Reference34Ideal.main_arg26)
          ∧ r.2.mem ((c.tc : Thread Cert.Reference34Ideal.nD Cert.Reference34Ideal.τ).loc Cert.Reference34Ideal.main_arg27) = m' ((c.tc : Thread Cert.Reference34Ideal.nD Cert.Reference34Ideal.τ).loc Cert.Reference34Ideal.main_arg27)
          ∧ r.2.mem ((c.tc : Thread Cert.Reference34Ideal.nD Cert.Reference34Ideal.τ).loc Cert.Reference34Ideal.main_arg28) = m' ((c.tc : Thread Cert.Reference34Ideal.nD Cert.Reference34Ideal.τ).loc Cert.Reference34Ideal.main_arg28)
          ∧ r.2.mem ((c.tc : Thread Cert.Reference34Ideal.nD Cert.Reference34Ideal.τ).loc Cert.Reference34Ideal.main_arg29) = m' ((c.tc : Thread Cert.Reference34Ideal.nD Cert.Reference34Ideal.τ).loc Cert.Reference34Ideal.main_arg29)
          ∧ r.2.mem ((c.tc : Thread Cert.Reference34Ideal.nD Cert.Reference34Ideal.τ).loc Cert.Reference34Ideal.main_arg30) = m' ((c.tc : Thread Cert.Reference34Ideal.nD Cert.Reference34Ideal.τ).loc Cert.Reference34Ideal.main_arg30)
          ∧ r.2.mem ((c.tc : Thread Cert.Reference34Ideal.nD Cert.Reference34Ideal.τ).loc Cert.Reference34Ideal.main_arg31) = m' ((c.tc : Thread Cert.Reference34Ideal.nD Cert.Reference34Ideal.τ).loc Cert.Reference34Ideal.main_arg31)
          ∧ r.2.mem ((c.tc : Thread Cert.Reference34Ideal.nD Cert.Reference34Ideal.τ).loc Cert.Reference34Ideal.main_arg32) = m' ((c.tc : Thread Cert.Reference34Ideal.nD Cert.Reference34Ideal.τ).loc Cert.Reference34Ideal.main_arg32)
          ∧ r.2.mem ((c.tc : Thread Cert.Reference34Ideal.nD Cert.Reference34Ideal.τ).loc Cert.Reference34Ideal.main_arg33) = m' ((c.tc : Thread Cert.Reference34Ideal.nD Cert.Reference34Ideal.τ).loc Cert.Reference34Ideal.main_arg33)
          ∧ r.2.mem ((c.tc : Thread Cert.Reference34Ideal.nD Cert.Reference34Ideal.τ).loc Cert.Reference34Ideal.main_arg34) = m' ((c.tc : Thread Cert.Reference34Ideal.nD Cert.Reference34Ideal.τ).loc Cert.Reference34Ideal.main_arg34)
          ∧ r.2.mem ((c.tc : Thread Cert.Reference34Ideal.nD Cert.Reference34Ideal.τ).loc Cert.Reference34Ideal.main_arg35) = m' ((c.tc : Thread Cert.Reference34Ideal.nD Cert.Reference34Ideal.τ).loc Cert.Reference34Ideal.main_arg35)
          ∧ r.2.mem ((c.tc : Thread Cert.Reference34Ideal.nD Cert.Reference34Ideal.τ).loc Cert.Reference34Ideal.main_arg36) = m' ((c.tc : Thread Cert.Reference34Ideal.nD Cert.Reference34Ideal.τ).loc Cert.Reference34Ideal.main_arg36)
          ∧ r.2.mem ((c.tc : Thread Cert.Reference34Ideal.nD Cert.Reference34Ideal.τ).loc Cert.Reference34Ideal.main_arg37) = m' ((c.tc : Thread Cert.Reference34Ideal.nD Cert.Reference34Ideal.τ).loc Cert.Reference34Ideal.main_arg37)
          ∧ r.2.mem ((c.tc : Thread Cert.Reference34Ideal.nD Cert.Reference34Ideal.τ).loc Cert.Reference34Ideal.main_arg38) = m' ((c.tc : Thread Cert.Reference34Ideal.nD Cert.Reference34Ideal.τ).loc Cert.Reference34Ideal.main_arg38)
          ∧ r.2.mem ((c.tc : Thread Cert.Reference34Ideal.nD Cert.Reference34Ideal.τ).loc Cert.Reference34Ideal.main_arg39) = m' ((c.tc : Thread Cert.Reference34Ideal.nD Cert.Reference34Ideal.τ).loc Cert.Reference34Ideal.main_arg39)
          ∧ r.2.mem ((c.tc : Thread Cert.Reference34Ideal.nD Cert.Reference34Ideal.τ).loc Cert.Reference34Ideal.main_arg40) = m' ((c.tc : Thread Cert.Reference34Ideal.nD Cert.Reference34Ideal.τ).loc Cert.Reference34Ideal.main_arg40)
          ∧ r.2.mem ((c.tc : Thread Cert.Reference34Ideal.nD Cert.Reference34Ideal.τ).loc Cert.Reference34Ideal.main_arg41) = m' ((c.tc : Thread Cert.Reference34Ideal.nD Cert.Reference34Ideal.τ).loc Cert.Reference34Ideal.main_arg41)
          ∧ r.2.mem ((c.tc : Thread Cert.Reference34Ideal.nD Cert.Reference34Ideal.τ).loc Cert.Reference34Ideal.main_arg42) = m' ((c.tc : Thread Cert.Reference34Ideal.nD Cert.Reference34Ideal.τ).loc Cert.Reference34Ideal.main_arg42)
          ∧ r.2.mem ((c.tc : Thread Cert.Reference34Ideal.nD Cert.Reference34Ideal.τ).loc Cert.Reference34Ideal.main_arg43) = m' ((c.tc : Thread Cert.Reference34Ideal.nD Cert.Reference34Ideal.τ).loc Cert.Reference34Ideal.main_arg43)
          ∧ r.2.mem ((c.tc : Thread Cert.Reference34Ideal.nD Cert.Reference34Ideal.τ).loc Cert.Reference34Ideal.main_arg44) = m' ((c.tc : Thread Cert.Reference34Ideal.nD Cert.Reference34Ideal.τ).loc Cert.Reference34Ideal.main_arg44)
          ∧ r.2.mem ((c.tc : Thread Cert.Reference34Ideal.nD Cert.Reference34Ideal.τ).loc Cert.Reference34Ideal.main_arg45) = m' ((c.tc : Thread Cert.Reference34Ideal.nD Cert.Reference34Ideal.τ).loc Cert.Reference34Ideal.main_arg45)
          ∧ r.2.mem ((c.tc : Thread Cert.Reference34Ideal.nD Cert.Reference34Ideal.τ).loc Cert.Reference34Ideal.main_arg46) = m' ((c.tc : Thread Cert.Reference34Ideal.nD Cert.Reference34Ideal.τ).loc Cert.Reference34Ideal.main_arg46)
          ∧ r.2.mem ((c.tc : Thread Cert.Reference34Ideal.nD Cert.Reference34Ideal.τ).loc Cert.Reference34Ideal.main_arg47) = m' ((c.tc : Thread Cert.Reference34Ideal.nD Cert.Reference34Ideal.τ).loc Cert.Reference34Ideal.main_arg47)
          ∧ r.2.mem ((c.tc : Thread Cert.Reference34Ideal.nD Cert.Reference34Ideal.τ).loc Cert.Reference34Ideal.main_arg48) = m' ((c.tc : Thread Cert.Reference34Ideal.nD Cert.Reference34Ideal.τ).loc Cert.Reference34Ideal.main_arg48)
          ∧ r.2.mem ((c.tc : Thread Cert.Reference34Ideal.nD Cert.Reference34Ideal.τ).loc Cert.Reference34Ideal.main_arg49) = m' ((c.tc : Thread Cert.Reference34Ideal.nD Cert.Reference34Ideal.τ).loc Cert.Reference34Ideal.main_arg49)
          ∧ r.2.mem ((c.tc : Thread Cert.Reference34Ideal.nD Cert.Reference34Ideal.τ).loc Cert.Reference34Ideal.main_arg50) = m' ((c.tc : Thread Cert.Reference34Ideal.nD Cert.Reference34Ideal.τ).loc Cert.Reference34Ideal.main_arg50)
          ∧ r.2.mem ((c.tc : Thread Cert.Reference34Ideal.nD Cert.Reference34Ideal.τ).loc Cert.Reference34Ideal.main_arg51) = m' ((c.tc : Thread Cert.Reference34Ideal.nD Cert.Reference34Ideal.τ).loc Cert.Reference34Ideal.main_arg51)
          ∧ r.2.mem ((c.tc : Thread Cert.Reference34Ideal.nD Cert.Reference34Ideal.τ).loc Cert.Reference34Ideal.main_arg52) = m' ((c.tc : Thread Cert.Reference34Ideal.nD Cert.Reference34Ideal.τ).loc Cert.Reference34Ideal.main_arg52)
          ∧ r.2.mem ((c.tc : Thread Cert.Reference34Ideal.nD Cert.Reference34Ideal.τ).loc Cert.Reference34Ideal.main_arg53) = m' ((c.tc : Thread Cert.Reference34Ideal.nD Cert.Reference34Ideal.τ).loc Cert.Reference34Ideal.main_arg53)
          ∧ r.2.mem ((c.tc : Thread Cert.Reference34Ideal.nD Cert.Reference34Ideal.τ).loc Cert.Reference34Ideal.main_arg54) = m' ((c.tc : Thread Cert.Reference34Ideal.nD Cert.Reference34Ideal.τ).loc Cert.Reference34Ideal.main_arg54)
          ∧ r.2.mem ((c.tc : Thread Cert.Reference34Ideal.nD Cert.Reference34Ideal.τ).loc Cert.Reference34Ideal.main_arg55) = m' ((c.tc : Thread Cert.Reference34Ideal.nD Cert.Reference34Ideal.τ).loc Cert.Reference34Ideal.main_arg55))

def preserves_Kernel35_Kernel35Ideal : Prop :=
  IdealRules.named_const.Statement Cert.Kernel35Ideal.κ "gelu_cubic" .f32 0x3D372713#32 ((8943 / 200000 : ℝ) : EReal)
  ∧ IdealRules.named_const.Statement Cert.Kernel35Ideal.κ "gelu_cubic_times_three" .f32 0x3E095D4F#32 ((26829 / 200000 : ℝ) : EReal)

def algebraic_Kernel35Ideal_Reference35Ideal_pre_gelu_finite [hKernel35Ideal : Cert.Kernel35Ideal.Facts] [hReference35Ideal : Cert.Reference35Ideal.Facts] [hPre_gelu_finite : Cert.Pre_gelu_finite.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal_gelu_finite m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)
      ∧ m' ((c.tc : Thread Cert.Reference35Ideal.nD Cert.Reference35Ideal.τ).loc Cert.Reference35Ideal.main_arg4) = m ((c.tc : Thread Cert.Kernel35Ideal.nD Cert.Kernel35Ideal.τ).loc Cert.Kernel35Ideal.main_arg4)
      ∧ m' ((c.tc : Thread Cert.Reference35Ideal.nD Cert.Reference35Ideal.τ).loc Cert.Reference35Ideal.main_arg5) = m ((c.tc : Thread Cert.Kernel35Ideal.nD Cert.Kernel35Ideal.τ).loc Cert.Kernel35Ideal.main_arg5)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)) (v3 : (c : Dev Cert.Kernel35Ideal.nD) → Buf (Elt Ideal) ((c.tc : Thread Cert.Kernel35Ideal.nD Cert.Kernel35Ideal.τ).loc Cert.Kernel35Ideal.main_v0_3)) (v4 : (c : Dev Cert.Kernel35Ideal.nD) → Buf (Elt Ideal) ((c.tc : Thread Cert.Kernel35Ideal.nD Cert.Kernel35Ideal.τ).loc Cert.Kernel35Ideal.main_v0_4)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_v0_3) = v3 c
          ∧ r.2.mem ((c.tc : Thread Cert.Kernel35Ideal.nD Cert.Kernel35Ideal.τ).loc Cert.Kernel35Ideal.main_v0_4) = v4 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
          ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4)
          ∧ r.2.mem ((c.tc : Thread Cert.Kernel35Ideal.nD Cert.Kernel35Ideal.τ).loc Cert.Kernel35Ideal.main_arg5) = m ((c.tc : Thread Cert.Kernel35Ideal.nD Cert.Kernel35Ideal.τ).loc Cert.Kernel35Ideal.main_arg5))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v0_0) = v0 c
          ∧ r.2.mem ((c.tc : Thread Cert.Reference35Ideal.nD Cert.Reference35Ideal.τ).loc Cert.Reference35Ideal.main_v0_1) = v1 c
          ∧ r.2.mem ((c.tc : Thread Cert.Reference35Ideal.nD Cert.Reference35Ideal.τ).loc Cert.Reference35Ideal.main_v0_2) = v2 c
          ∧ r.2.mem ((c.tc : Thread Cert.Reference35Ideal.nD Cert.Reference35Ideal.τ).loc Cert.Reference35Ideal.main_v0_3) = v3 c
          ∧ r.2.mem ((c.tc : Thread Cert.Reference35Ideal.nD Cert.Reference35Ideal.τ).loc Cert.Reference35Ideal.main_v0_4) = v4 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3)
          ∧ r.2.mem ((c.tc : Thread Cert.Reference35Ideal.nD Cert.Reference35Ideal.τ).loc Cert.Reference35Ideal.main_arg4) = m' ((c.tc : Thread Cert.Reference35Ideal.nD Cert.Reference35Ideal.τ).loc Cert.Reference35Ideal.main_arg4)
          ∧ r.2.mem ((c.tc : Thread Cert.Reference35Ideal.nD Cert.Reference35Ideal.τ).loc Cert.Reference35Ideal.main_arg5) = m' ((c.tc : Thread Cert.Reference35Ideal.nD Cert.Reference35Ideal.τ).loc Cert.Reference35Ideal.main_arg5))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)
      ∧ m' ((c.tc : Thread Cert.Reference36Ideal.nD Cert.Reference36Ideal.τ).loc Cert.Reference36Ideal.main_arg4) = m ((c.tc : Thread Cert.Kernel36Ideal.nD Cert.Kernel36Ideal.τ).loc Cert.Kernel36Ideal.main_arg4)
      ∧ m' ((c.tc : Thread Cert.Reference36Ideal.nD Cert.Reference36Ideal.τ).loc Cert.Reference36Ideal.main_arg5) = m ((c.tc : Thread Cert.Kernel36Ideal.nD Cert.Kernel36Ideal.τ).loc Cert.Kernel36Ideal.main_arg5)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
          ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4)
          ∧ r.2.mem ((c.tc : Thread Cert.Kernel36Ideal.nD Cert.Kernel36Ideal.τ).loc Cert.Kernel36Ideal.main_arg5) = m ((c.tc : Thread Cert.Kernel36Ideal.nD Cert.Kernel36Ideal.τ).loc Cert.Kernel36Ideal.main_arg5))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v20) = v0 c
          ∧ r.2.mem ((c.tc : Thread Cert.Reference36Ideal.nD Cert.Reference36Ideal.τ).loc Cert.Reference36Ideal.main_v28) = v1 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3)
          ∧ r.2.mem ((c.tc : Thread Cert.Reference36Ideal.nD Cert.Reference36Ideal.τ).loc Cert.Reference36Ideal.main_arg4) = m' ((c.tc : Thread Cert.Reference36Ideal.nD Cert.Reference36Ideal.τ).loc Cert.Reference36Ideal.main_arg4)
          ∧ r.2.mem ((c.tc : Thread Cert.Reference36Ideal.nD Cert.Reference36Ideal.τ).loc Cert.Reference36Ideal.main_arg5) = m' ((c.tc : Thread Cert.Reference36Ideal.nD Cert.Reference36Ideal.τ).loc Cert.Reference36Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hPre_scores_finite : Cert.Pre_scores_finite.Facts) (hPre_gelu_finite : Cert.Pre_gelu_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Kernel35Ideal_pre_gelu_finite (hKernel35Ideal := hKernel35Ideal) (hPre_gelu_finite := hPre_gelu_finite)
    ∧ quiescent_Reference35Ideal (hReference35Ideal := hReference35Ideal)
    ∧ quiescent_Reference35Ideal_pre_gelu_finite (hReference35Ideal := hReference35Ideal) (hPre_gelu_finite := hPre_gelu_finite)
    ∧ quiescent_Kernel36 (hKernel36 := hKernel36)
    ∧ quiescent_Kernel36Ideal (hKernel36Ideal := hKernel36Ideal)
    ∧ quiescent_Reference36Ideal (hReference36Ideal := hReference36Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal_pre_gelu_finite (hKernel35Ideal := hKernel35Ideal) (hReference35Ideal := hReference35Ideal) (hPre_gelu_finite := hPre_gelu_finite)
    ∧ preserves_Kernel36_Kernel36Ideal
    ∧ algebraic_Kernel36Ideal_Reference36Ideal (hKernel36Ideal := hKernel36Ideal) (hReference36Ideal := hReference36Ideal)
-- ==== Pre_gelu_finite.lean ====
abbrev S8192x512 : Shape := ⟨2, ![8192, 512]⟩
abbrev S1x512 : Shape := ⟨2, ![1, 512]⟩
abbrev S512x512 : Shape := ⟨2, ![512, 512]⟩
abbrev S24576x512 : Shape := ⟨2, ![24576, 512]⟩
abbrev S_ : Shape := ⟨0, ![]⟩
abbrev S513x512 : Shape := ⟨2, ![513, 512]⟩
abbrev S25089x512 : Shape := ⟨2, ![25089, 512]⟩

class Facts : Prop where
  concatenates_S8192x512_S8192x512_S8192x512_S24576x512_d0 : Shape.Concatenates [S8192x512, S8192x512, S8192x512] S24576x512 0
  bcast_S_S24576x512 : S_.BroadcastsInDim S24576x512 (![] : Fin 0 → Fin S24576x512.rank)
  bitsLt_bf16_f32 : FTy.bits .bf16 < FTy.bits .f32
  concatenates_S1x512_S512x512_S513x512_d0 : Shape.Concatenates [S1x512, S512x512] S513x512 0
  bcast_S_S513x512 : S_.BroadcastsInDim S513x512 (![] : Fin 0 → Fin S513x512.rank)
  concatenates_S24576x512_S513x512_S25089x512_d0 : Shape.Concatenates [S24576x512, S513x512] S25089x512 0

variable [Facts]

def fn {F : FTy → Type} [FloatOps F] (main_arg0 : FVec F S8192x512 .f32) (main_arg1 : FVec F S8192x512 .f32) (main_arg2 : FVec F S8192x512 .f32) (main_arg3 : FVec F S1x512 .f32) (main_arg4 : FVec F S512x512 .bf16) (main_arg5 : FVec F S1x512 .f32) : IVec S25089x512 1 :=
  let main_v0 : FVec F S24576x512 .f32 := concatenate S24576x512 0 [⟨S8192x512, main_arg0⟩, ⟨S8192x512, main_arg1⟩, ⟨S8192x512, main_arg2⟩] concatenates_S8192x512_S8192x512_S8192x512_S24576x512_d0
  let main_v1 : FVec F S24576x512 .f32 := Host.absf main_v0
  let main_cst : FVec F S_ .f32 := constant S_ .f32 0x7F800000#32
  let main_v2 : FVec F S24576x512 .f32 := broadcastInDim S24576x512 ![] bcast_S_S24576x512 main_cst
  let main_v3 : IVec S24576x512 1 := cmpf .olt main_v1 main_v2
  let main_v4 : FVec F S512x512 .f32 := (extf .f32 · bitsLt_bf16_f32) main_arg4
  let main_v5 : FVec F S513x512 .f32 := (fun a b => concatenate S513x512 0 [⟨S1x512, a⟩, ⟨S512x512, b⟩] concatenates_S1x512_S512x512_S513x512_d0) main_arg3 main_v4
  let main_v6 : FVec F S513x512 .f32 := Host.absf main_v5
  let main_cst_0 : FVec F S_ .f32 := constant S_ .f32 0x7F800000#32
  let main_v7 : FVec F S513x512 .f32 := broadcastInDim S513x512 ![] bcast_S_S513x512 main_cst_0
  let main_v8 : IVec S513x512 1 := cmpf .olt main_v6 main_v7
  let main_v9 : IVec S25089x512 1 := (fun a b => concatenate S25089x512 0 [⟨S24576x512, a⟩, ⟨S513x512, b⟩] concatenates_S24576x512_S513x512_S25089x512_d0) main_v3 main_v8
  main_v9
-- ==== Pre_scores_finite.lean ====
abbrev S8192x512 : Shape := ⟨2, ![8192, 512]⟩
abbrev S256x1024 : Shape := ⟨2, ![256, 1024]⟩
abbrev S256x512 : Shape := ⟨2, ![256, 512]⟩
abbrev S8448x512 : Shape := ⟨2, ![8448, 512]⟩
abbrev S_ : Shape := ⟨0, ![]⟩

class Facts : Prop where
  slices_S256x1024_S256x512_0_0 : S256x1024.Slices ![0, 0] S256x512
  concatenates_S8192x512_S256x512_S8448x512_d0 : Shape.Concatenates [S8192x512, S256x512] S8448x512 0
  bcast_S_S8448x512 : S_.BroadcastsInDim S8448x512 (![] : Fin 0 → Fin S8448x512.rank)

variable [Facts]

def fn {F : FTy → Type} [FloatOps F] (main_arg0 : FVec F S8192x512 .f32) (main_arg1 : FVec F S256x1024 .f32) (main_arg2 : FVec F S8192x512 .f32) : IVec S8448x512 1 :=
  let main_v0 : FVec F S256x512 .f32 := (extractStridedSlice S256x512 ![0, 0] · slices_S256x1024_S256x512_0_0) main_arg1
  let main_v1 : FVec F S8448x512 .f32 := (fun a b => concatenate S8448x512 0 [⟨S8192x512, a⟩, ⟨S256x512, b⟩] concatenates_S8192x512_S256x512_S8448x512_d0) main_arg0 main_v0
  let main_v2 : FVec F S8448x512 .f32 := Host.absf main_v1
  let main_cst : FVec F S_ .f32 := constant S_ .f32 0x7F800000#32
  let main_v3 : FVec F S8448x512 .f32 := broadcastInDim S8448x512 ![] bcast_S_S8448x512 main_cst
  let main_v4 : IVec S8448x512 1 := cmpf .olt main_v2 main_v3
  main_v4
-- ==== Kernel.lean ====
abbrev S8192x512 : Shape := ⟨2, ![8192, 512]⟩
abbrev S256x1024 : Shape := ⟨2, ![256, 1024]⟩
abbrev S256x512 : Shape := ⟨2, ![256, 512]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 6
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S8192x512, .f32⟩
  | .hbm, ⟨3, _⟩ => ⟨S8192x512, .bf16⟩
  | .hbm, ⟨4, _⟩ => ⟨S256x512, .f32⟩
  | .hbm, ⟨5, _⟩ => ⟨S256x512, .f32⟩
  | .local _ .vmem, ⟨0, _⟩ => ⟨S1024x128, .f32⟩
  | .local _ .vmem, ⟨1, _⟩ => ⟨S1024x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1024x128, .f32⟩
  | .local _ .vmem, ⟨7, _⟩ => ⟨S1024x128, .f32⟩
  | .local _ .vmem, ⟨8, _⟩ => ⟨S1024x128, .bf16⟩
  | .local _ .vmem, ⟨9, _⟩ => ⟨S1024x128, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S8192x512 : Shape := ⟨2, ![8192, 512]⟩
abbrev S256x1024 : Shape := ⟨2, ![256, 1024]⟩
abbrev S256x512 : Shape := ⟨2, ![256, 512]⟩
abbrev S1x256x4x128 : Shape := ⟨4, ![1, 256, 4, 128]⟩
abbrev S1x8192x4x128 : Shape := ⟨4, ![1, 8192, 4, 128]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩
abbrev S1x8192x512 : Shape := ⟨3, ![1, 8192, 512]⟩
abbrev S1x4x128x256 : Shape := ⟨4, ![1, 4, 128, 256]⟩
abbrev S4x8192 : Shape := ⟨2, ![4, 8192]⟩
abbrev S1x4x256x128 : Shape := ⟨4, ![1, 4, 256, 128]⟩
abbrev S1x4x8192x128 : Shape := ⟨4, ![1, 4, 8192, 128]⟩

abbrev nBuf : Space → Nat
  | .hbm => 86
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S8192x512, .f32⟩
  | .hbm, ⟨3, _⟩ => ⟨S256x512, .f32⟩
  | .hbm, ⟨4, _⟩ => ⟨S256x512, .f32⟩
  | .hbm, ⟨5, _⟩ => ⟨S1x256x4x128, .f32⟩
  | .hbm, ⟨6, _⟩ => ⟨S1x256x4x128, .f32⟩
  | .hbm, ⟨7, _⟩ => ⟨S1x8192x4x128, .f32⟩
  | .hbm, ⟨8, _⟩ => ⟨S1x4x8192x256, .f32⟩
  | .hbm, ⟨9, _⟩ => ⟨S_, .f32⟩
  | .hbm, ⟨10, _⟩ => ⟨S1x4x8192x256, .f32⟩
  | .hbm, ⟨11, _⟩ => ⟨S1x4x8192x256, .f32⟩
  | .hbm, ⟨12, _⟩ => ⟨S_, .f32⟩
  | .hbm, ⟨13, _⟩ => ⟨S1x4x8192, .f32⟩
  | .hbm, ⟨14, _⟩ => ⟨S1x4x8192x1, .f32⟩
  | .hbm, ⟨15, _⟩ => ⟨S1x4x8192x256, .f32⟩
  | .hbm, ⟨16, _⟩ => ⟨S1x4x8192x256, .i1⟩
  | .hbm, ⟨17, _⟩ => ⟨S1x4x8192x256, .f32⟩
  | .hbm, ⟨18, _⟩ => ⟨S_, .f32⟩
  | .hbm, ⟨19, _⟩ => ⟨S1x4x8192, .f32⟩
  | .hbm, ⟨20, _⟩ => ⟨S_, .f32⟩
  | .hbm, ⟨21, _⟩ => ⟨S1x4x8192, .f32⟩
  | .hbm, ⟨22, _⟩ => ⟨S1x4x8192, .f32⟩
  | .hbm, ⟨23, _⟩ => ⟨S_, .f32⟩
  | .hbm, ⟨24, _⟩ => ⟨S1x4x8192, .f32⟩
  | .hbm, ⟨25, _⟩ => ⟨S1x4x8192, .i1⟩
  | .hbm, ⟨26, _⟩ => ⟨S_, .f32⟩
  | .hbm, ⟨27, _⟩ => ⟨S1x4x8192, .f32⟩
  | .hbm, ⟨28, _⟩ => ⟨S1x4x8192, .i1⟩
  | .hbm, ⟨29, _⟩ => ⟨S_, .f32⟩
  | .hbm, ⟨30, _⟩ => ⟨S1x4x8192, .f32⟩
  | .hbm, ⟨31, _⟩ => ⟨S_, .f32⟩
  | .hbm, ⟨32, _⟩ => ⟨S1x4x8192, .f32⟩
  | .hbm, ⟨33, _⟩ => ⟨S_, .f32⟩
  | .hbm, ⟨34, _⟩ => ⟨S1x4x8192, .f32⟩
  | .hbm, ⟨35, _⟩ => ⟨S1x4x8192, .f32⟩
  | .hbm, ⟨36, _⟩ => ⟨S1x4x8192, .f32⟩
  | .hbm, ⟨37, _⟩ => ⟨S1x4x8192x1, .f32⟩
  | .hbm, ⟨38, _⟩ => ⟨S1x4x8192x256, .f32⟩
  | .hbm, ⟨39, _⟩ => ⟨S1x4x8192x256, .f32⟩
  | .hbm, ⟨40, _⟩ => ⟨S1x4x8192x256, .f32⟩
  | .hbm, ⟨41, _⟩ => ⟨S_, .f32⟩
  | .hbm, ⟨42, _⟩ => ⟨S1x4x8192, .f32⟩
  | .hbm, ⟨43, _⟩ => ⟨S1x4x8192x1, .f32⟩
  | .hbm, ⟨44, _⟩ => ⟨S1x4x8192x256, .f32⟩
  | .hbm, ⟨45, _⟩ => ⟨S1x4x8192x256, .f32⟩
  | .hbm, ⟨46, _⟩ => ⟨S1x4x8192x1, .f32⟩
  | .hbm, ⟨47, _⟩ => ⟨S_, .f32⟩
  | .hbm, ⟨48, _⟩ => ⟨S1x4x8192x1, .f32⟩
  | .hbm, ⟨49, _⟩ => ⟨S1x4x8192x1, .f32⟩
  | .hbm, ⟨50, _⟩ => ⟨S1x4x128x8192, .f32⟩
  | .hbm, ⟨51, _⟩ => ⟨S1x8192x4x128, .f32⟩
  | .hbm, ⟨52, _⟩ => ⟨S1x8192x512, .f32⟩
  | .hbm, ⟨53, _⟩ => ⟨S8192x512, .f32⟩
  | .hbm, ⟨54, _⟩ => ⟨S1x8192x512, .f32⟩
  | .hbm, ⟨55, _⟩ => ⟨S1x8192x4x128, .f32⟩
  | .hbm, ⟨56, _⟩ => ⟨S1x4x128x8192, .f32⟩
  | .hbm, ⟨57, _⟩ => ⟨S1x4x8192x256, .f32⟩
  | .hbm, ⟨58, _⟩ => ⟨S1x4x128x256, .f32⟩
  | .hbm, ⟨59, _⟩ => ⟨S1x256x4x128, .f32⟩
  | .hbm, ⟨60, _⟩ => ⟨S1x4x8192x256, .f32⟩
  | .hbm, ⟨61, _⟩ => ⟨S1x4x8192x256, .f32⟩
  | .hbm, ⟨62, _⟩ => ⟨S1x4x8192x256, .f32⟩
  | .hbm, ⟨63, _⟩ => ⟨S_, .f32⟩
  | .hbm, ⟨64, _⟩ => ⟨S1x4x8192, .f32⟩
  | .hbm, ⟨65, _⟩ => ⟨S1x4x8192x1, .f32⟩
  | .hbm, ⟨66, _⟩ => ⟨S1x4x8192x1, .f32⟩
  | .hbm, ⟨67, _⟩ => ⟨S1x4x8192x256, .f32⟩
  | .hbm, ⟨68, _⟩ => ⟨S1x4x8192x256, .f32⟩
  | .hbm, ⟨69, _⟩ => ⟨S_, .f32⟩
  | .hbm, ⟨70, _⟩ => ⟨S4x8192, .f32⟩
  | .hbm, ⟨71, _⟩ => ⟨S1x4x8192, .f32⟩
  | .hbm, ⟨72, _⟩ => ⟨S1x4x8192x256, .f32⟩
  | .hbm, ⟨73, _⟩ => ⟨S1x4x8192x256, .f32⟩
  | .hbm, ⟨74, _⟩ => ⟨S1x4x8192x256, .f32⟩
  | .hbm, ⟨75, _⟩ => ⟨S_, .f32⟩
  | .hbm, ⟨76, _⟩ => ⟨S1x4x8192x256, .f32⟩
  | .hbm, ⟨77, _⟩ => ⟨S1x4x8192x256, .f32⟩
  | .hbm, ⟨78, _⟩ => ⟨S1x4x256x128, .f32⟩
  | .hbm, ⟨79, _⟩ => ⟨S1x256x4x128, .f32⟩
  | .hbm, ⟨80, _⟩ => ⟨S1x4x8192x128, .f32⟩
  | .hbm, ⟨81, _⟩ => ⟨S1x8192x4x128, .f32⟩
  | .hbm, ⟨82, _⟩ => ⟨S8192x512, .f32⟩
  | .hbm, ⟨83, _⟩ => ⟨S256x512, .f32⟩
  | .hbm, ⟨84, _⟩ => ⟨S256x512, .f32⟩
  | .hbm, ⟨85, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== Kernel2.lean ====
abbrev S8192x1024 : Shape := ⟨2, ![8192, 1024]⟩
abbrev S8192x512 : Shape := ⟨2, ![8192, 512]⟩
abbrev S8192x256 : Shape := ⟨2, ![8192, 256]⟩
abbrev S512x1024 : Shape := ⟨2, ![512, 1024]⟩
abbrev S256x1024 : Shape := ⟨2, ![256, 1024]⟩
abbrev S8192x3072 : Shape := ⟨2, ![8192, 3072]⟩
abbrev S1x3072 : Shape := ⟨2, ![1, 3072]⟩
abbrev S1024x512 : Shape := ⟨2, ![1024, 512]⟩
abbrev S1024x256 : Shape := ⟨2, ![1024, 256]⟩
abbrev S256x512 : Shape := ⟨2, ![256, 512]⟩
abbrev S256x256 : Shape := ⟨2, ![256, 256]⟩
abbrev S256x3072 : Shape := ⟨2, ![256, 3072]⟩
abbrev S1x1024 : Shape := ⟨2, ![1, 1024]⟩
abbrev S1024 : Shape := ⟨1, ![1024]⟩

abbrev nBuf : Space → Nat
  | .hbm => 20
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x256, .f32⟩
  | .hbm, ⟨3, _⟩ => ⟨S8192x512, .f32⟩
  | .hbm, ⟨4, _⟩ => ⟨S512x1024, .bf16⟩
  | .hbm, ⟨5, _⟩ => ⟨S256x1024, .bf16⟩
  | .hbm, ⟨6, _⟩ => ⟨S512x1024, .bf16⟩
  | .hbm, ⟨7, _⟩ => ⟨S8192x3072, .f32⟩
  | .hbm, ⟨8, _⟩ => ⟨S1x3072, .f32⟩
  | .hbm, ⟨9, _⟩ => ⟨S1024x512, .bf16⟩
  | .hbm, ⟨10, _⟩ => ⟨S1024x256, .bf16⟩
  | .hbm, ⟨11, _⟩ => ⟨S1024x512, .bf16⟩
  | .hbm, ⟨12, _⟩ => ⟨S8192x512, .f32⟩
  | .hbm, ⟨13, _⟩ => ⟨S8192x256, .f32⟩
  | .hbm, ⟨14, _⟩ => ⟨S8192x512, .f32⟩
  | .hbm, ⟨15, _⟩ => ⟨S1024x512, .f32⟩
  | .hbm, ⟨16, _⟩ => ⟨S1024x256, .f32⟩
  | .hbm, ⟨17, _⟩ => ⟨S1024x512, .f32⟩
  | .hbm, ⟨18, _⟩ => ⟨S8192x3072, .bf16⟩
  | .hbm, ⟨19, _⟩ => ⟨S1x3072, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x256, .f32⟩
  | .local _ .vmem, ⟨5, _⟩ => ⟨S256x256, .f32⟩
  | .local _ .vmem, ⟨6, _⟩ => ⟨S256x512, .f32⟩
  | .local _ .vmem, ⟨7, _⟩ => ⟨S256x512, .f32⟩
  | .local _ .vmem, ⟨8, _⟩ => ⟨S1024x512, .bf16⟩
  | .local _ .vmem, ⟨9, _⟩ => ⟨S1024x256, .bf16⟩
  | .local _ .vmem, ⟨10, _⟩ => ⟨S1024x512, .bf16⟩
  | .local _ .vmem, ⟨11, _⟩ => ⟨S256x3072, .f32⟩
  | .local _ .vmem, ⟨12, _⟩ => ⟨S256x3072, .f32⟩
  | .local _ .vmem, ⟨13, _⟩ => ⟨S1x3072, .f32⟩
  | .local _ .vmem, ⟨14, _⟩ => ⟨S256x512, .f32⟩
  | .local _ .vmem, ⟨15, _⟩ => ⟨S256x512, .f32⟩
  | .local _ .vmem, ⟨16, _⟩ => ⟨S256x256, .f32⟩
  | .local _ .vmem, ⟨17, _⟩ => ⟨S256x256, .f32⟩
  | .local _ .vmem, ⟨18, _⟩ => ⟨S256x512, .f32⟩
  | .local _ .vmem, ⟨19, _⟩ => ⟨S256x512, .f32⟩
  | .local _ .vmem, ⟨20, _⟩ => ⟨S1024x512, .f32⟩
  | .local _ .vmem, ⟨21, _⟩ => ⟨S1024x256, .f32⟩
  | .local _ .vmem, ⟨22, _⟩ => ⟨S1024x512, .f32⟩
  | .local _ .vmem, ⟨23, _⟩ => ⟨S256x3072, .bf16⟩
  | .local _ .vmem, ⟨24, _⟩ => ⟨S256x3072, .bf16⟩
  | .local _ .vmem, ⟨25, _⟩ => ⟨S1x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev main_v3_5 : Ref sig .tc := ⟨.hbm, 17, rfl⟩
abbrev main_v3_6 : Ref sig .tc := ⟨.hbm, 18, rfl⟩
abbrev main_v3_7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x3072 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x3072 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference2Ideal.lean ====
abbrev S8192x1024 : Shape := ⟨2, ![8192, 1024]⟩
abbrev S8192x512 : Shape := ⟨2, ![8192, 512]⟩
abbrev S8192x256 : Shape := ⟨2, ![8192, 256]⟩
abbrev S512x1024 : Shape := ⟨2, ![512, 1024]⟩
abbrev S256x1024 : Shape := ⟨2, ![256, 1024]⟩
abbrev S8192x3072 : Shape := ⟨2, ![8192, 3072]⟩
abbrev S1x3072 : Shape := ⟨2, ![1, 3072]⟩
abbrev S_ : Shape := ⟨0, ![]⟩
abbrev S8192x3x1024 : Shape := ⟨3, ![8192, 3, 1024]⟩
abbrev S8192x1x1024 : Shape := ⟨3, ![8192, 1, 1024]⟩
abbrev S1024x512 : Shape := ⟨2, ![1024, 512]⟩
abbrev S1024x256 : Shape := ⟨2, ![1024, 256]⟩
abbrev S3072 : Shape := ⟨1, ![3072]⟩

abbrev nBuf : Space → Nat
  | .hbm => 79
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x256, .f32⟩
  | .hbm, ⟨3, _⟩ => ⟨S8192x512, .f32⟩
  | .hbm, ⟨4, _⟩ => ⟨S512x1024, .bf16⟩
  | .hbm, ⟨5, _⟩ => ⟨S256x1024, .bf16⟩
  | .hbm, ⟨6, _⟩ => ⟨S512x1024, .bf16⟩
  | .hbm, ⟨7, _⟩ => ⟨S8192x3072, .f32⟩
  | .hbm, ⟨8, _⟩ => ⟨S1x3072, .f32⟩
  | .hbm, ⟨9, _⟩ => ⟨S8192x512, .f32⟩
  | .hbm, ⟨10, _⟩ => ⟨S512x1024, .f32⟩
  | .hbm, ⟨11, _⟩ => ⟨S256x1024, .f32⟩
  | .hbm, ⟨12, _⟩ => ⟨S512x1024, .f32⟩
  | .hbm, ⟨13, _⟩ => ⟨S8192x3072, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S_, .f32⟩
  | .hbm, ⟨18, _⟩ => ⟨S8192x3072, .f32⟩
  | .hbm, ⟨19, _⟩ => ⟨S8192x3072, .f32⟩
  | .hbm, ⟨20, _⟩ => ⟨S_, .f32⟩
  | .hbm, ⟨21, _⟩ => ⟨S8192x3072, .f32⟩
  | .hbm, ⟨22, _⟩ => ⟨S8192x3072, .f32⟩
  | .hbm, ⟨23, _⟩ => ⟨S_, .f32⟩
  | .hbm, ⟨24, _⟩ => ⟨S8192x3072, .f32⟩
  | .hbm, ⟨25, _⟩ => ⟨S8192x3072, .f32⟩
  | .hbm, ⟨26, _⟩ => ⟨S8192x3072, .f32⟩
  | .hbm, ⟨27, _⟩ => ⟨S8192x3x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1x1024, .f32⟩
  | .hbm, ⟨32, _⟩ => ⟨S8192x1024, .f32⟩
  | .hbm, ⟨33, _⟩ => ⟨S8192x1024, .f32⟩
  | .hbm, ⟨34, _⟩ => ⟨S8192x1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1x1024, .f32⟩
  | .hbm, ⟨47, _⟩ => ⟨S_, .f32⟩
  | .hbm, ⟨48, _⟩ => ⟨S8192x3x1024, .f32⟩
  | .hbm, ⟨49, _⟩ => ⟨S8192x1024, .f32⟩
  | .hbm, ⟨50, _⟩ => ⟨S8192x1024, .f32⟩
  | .hbm, ⟨51, _⟩ => ⟨S8192x1x1024, .f32⟩
  | .hbm, ⟨52, _⟩ => ⟨S_, .f32⟩
  | .hbm, ⟨53, _⟩ => ⟨S8192x3x1024, .f32⟩
  | .hbm, ⟨54, _⟩ => ⟨S8192x3x1024, .f32⟩
  | .hbm, ⟨55, _⟩ => ⟨S8192x1024, .f32⟩
  | .hbm, ⟨56, _⟩ => ⟨S8192x1024, .f32⟩
  | .hbm, ⟨57, _⟩ => ⟨S8192x1x1024, .f32⟩
  | .hbm, ⟨58, _⟩ => ⟨S_, .f32⟩
  | .hbm, ⟨59, _⟩ => ⟨S8192x3x1024, .f32⟩
  | .hbm, ⟨60, _⟩ => ⟨S8192x3x1024, .f32⟩
  | .hbm, ⟨61, _⟩ => ⟨S1024x512, .f32⟩
  | .hbm, ⟨62, _⟩ => ⟨S512x1024, .f32⟩
  | .hbm, ⟨63, _⟩ => ⟨S8192x512, .f32⟩
  | .hbm, ⟨64, _⟩ => ⟨S1024x256, .f32⟩
  | .hbm, ⟨65, _⟩ => ⟨S256x1024, .f32⟩
  | .hbm, ⟨66, _⟩ => ⟨S8192x256, .f32⟩
  | .hbm, ⟨67, _⟩ => ⟨S1024x512, .f32⟩
  | .hbm, ⟨68, _⟩ => ⟨S512x1024, .f32⟩
  | .hbm, ⟨69, _⟩ => ⟨S8192x512, .f32⟩
  | .hbm, ⟨70, _⟩ => ⟨S8192x3072, .f32⟩
  | .hbm, ⟨71, _⟩ => ⟨S8192x3072, .f32⟩
  | .hbm, ⟨72, _⟩ => ⟨S_, .f32⟩
  | .hbm, ⟨73, _⟩ => ⟨S3072, .f32⟩
  | .hbm, ⟨74, _⟩ => ⟨S1x3072, .f32⟩
  | .hbm, ⟨75, _⟩ => ⟨S1024x512, .f32⟩
  | .hbm, ⟨76, _⟩ => ⟨S1024x256, .f32⟩
  | .hbm, ⟨77, _⟩ => ⟨S1024x512, .f32⟩
  | .hbm, ⟨78, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_5 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩

abbrev nD : Nat := 1
abbrev τ : Topo := Topo.v7x

variable {F : FTy → Type} [FloatOps F]
-- ==== Kernel3.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | .hbm, ⟨8, _⟩ => ⟨S8192x4096, .bf16⟩
  | .local _ .vmem, ⟨0, _⟩ => ⟨S1024x1024, .f32⟩
  | .local _ .vmem, ⟨1, _⟩ => ⟨S1024x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩
abbrev S1024x4096 : Shape := ⟨2, ![1024, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S8192x4096, .f32⟩
  | .hbm, ⟨3, _⟩ => ⟨S4096x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x1024, .f32⟩
  | .hbm, ⟨17, _⟩ => ⟨S1024x4096, .f32⟩
  | .hbm, ⟨18, _⟩ => ⟨S4096x1024, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel4.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S1024x4096, .f32⟩
  | .hbm, ⟨7, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x4096 : Shape := ⟨2, ![8192, 4096]⟩
abbrev S8192x1024 : Shape := ⟨2, ![8192, 1024]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S4096x1024 : Shape := ⟨2, ![4096, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S4096x1024, .bf16⟩
  | .hbm, ⟨6, _⟩ => ⟨S8192x1024, .f32⟩
  | .hbm, ⟨7, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_17 : BitVec 32 := 0#32
  let v36 : BitVec 1 := Scalar.cmpi .ne v35 c0_i32_17
  v36

def k0_cond2 (i : grid0.Coords) : BitVec 1 :=
  let arg0 : BitVec 32 := BitVec.ofNat 32 (i 0).val
  let c0_i32_18 : BitVec 32 := 0#32
  let v37 : BitVec 1 := Scalar.cmpi .sgt arg0 c0_i32_18
  let v38 : BitVec 32 := Scalar.extui v37
  let c0_i32_19 : BitVec 32 := 0#32
  let v39 : BitVec 1 := Scalar.cmpi .ne v38 c0_i32_19
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference6Ideal.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S4096x1024 : Shape := ⟨2, ![4096, 1024]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024x4096, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S8192x4096, .f32⟩
  | .hbm, ⟨27, _⟩ => ⟨S4096x1024, .f32⟩
  | .hbm, ⟨28, _⟩ => ⟨S1024x4096, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel7.lean ====
abbrev S8192x512 : Shape := ⟨2, ![8192, 512]⟩
abbrev S8192x768 : Shape := ⟨2, ![8192, 768]⟩
abbrev S8192x3072 : Shape := ⟨2, ![8192, 3072]⟩
abbrev S1024x6400 : Shape := ⟨2, ![1024, 6400]⟩
abbrev S8192x1024 : Shape := ⟨2, ![8192, 1024]⟩
abbrev S1x1024 : Shape := ⟨2, ![1, 1024]⟩
abbrev S6400x1024 : Shape := ⟨2, ![6400, 1024]⟩
abbrev S512x512 : Shape := ⟨2, ![512, 512]⟩
abbrev S512x768 : Shape := ⟨2, ![512, 768]⟩
abbrev S512x3072 : Shape := ⟨2, ![512, 3072]⟩
abbrev S512x1024 : Shape := ⟨2, ![512, 1024]⟩
abbrev S768x1024 : Shape := ⟨2, ![768, 1024]⟩
abbrev S3072x1024 : Shape := ⟨2, ![3072, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 21
  | .smem => 0
  | _ => 0

abbrev bufTy : (tb : Table) → Fin (tcTables nBuf tb) → BufTy
  | .hbm, ⟨0, _⟩ => ⟨S8192x512, .f32⟩
  | .hbm, ⟨1, _⟩ => ⟨S8192x768, .f32⟩
  | .hbm, ⟨2, _⟩ => ⟨S8192x768, .f32⟩
  | .hbm, ⟨3, _⟩ => ⟨S8192x768, .f32⟩
  | .hbm, ⟨4, _⟩ => ⟨S8192x512, .bf16⟩
  | .hbm, ⟨5, _⟩ => ⟨S8192x3072, .bf16⟩
  | .hbm, ⟨6, _⟩ => ⟨S1024x6400, .bf16⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S6400x1024, .bf16⟩
  | .hbm, ⟨11, _⟩ => ⟨S8192x1024, .f32⟩
  | .hbm, ⟨12, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x512, .bf16⟩
  | .local _ .vmem, ⟨9, _⟩ => ⟨S512x512, .bf16⟩
  | .local _ .vmem, ⟨10, _⟩ => ⟨S512x3072, .bf16⟩
  | .local _ .vmem, ⟨11, _⟩ => ⟨S512x3072, .bf16⟩
  | .local _ .vmem, ⟨12, _⟩ => ⟨S6400x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v63 : BitVec 1 := Scalar.cmpi .eq arg0 c0_i32
  let v64 : BitVec 32 := Scalar.extui v63
  let c0_i32_37 : BitVec 32 := 0#32
  let v65 : BitVec 1 := Scalar.cmpi .ne v64 c0_i32_37
  v65

def k0_cond2 (i : grid0.Coords) : BitVec 1 :=
  let arg0 : BitVec 32 := BitVec.ofNat 32 (i 0).val
  let c0_i32_38 : BitVec 32 := 0#32
  let v66 : BitVec 1 := Scalar.cmpi .sgt arg0 c0_i32_38
  let v67 : BitVec 32 := Scalar.extui v66
  let c0_i32_39 : BitVec 32 := 0#32
  let v68 : BitVec 1 := Scalar.cmpi .ne v67 c0_i32_39
  v68

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S6400x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference7Ideal.lean ====
abbrev S8192x512 : Shape := ⟨2, ![8192, 512]⟩
abbrev S8192x768 : Shape := ⟨2, ![8192, 768]⟩
abbrev S8192x3072 : Shape := ⟨2, ![8192, 3072]⟩
abbrev S1024x6400 : Shape := ⟨2, ![1024, 6400]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x6400 : Shape := ⟨2, ![8192, 6400]⟩
abbrev S6400x1024 : Shape := ⟨2, ![6400, 1024]⟩
abbrev S1024 : Shape := ⟨1, ![1024]⟩

abbrev nBuf : Space → Nat
  | .hbm => 67
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x768, .f32⟩
  | .hbm, ⟨2, _⟩ => ⟨S8192x768, .f32⟩
  | .hbm, ⟨3, _⟩ => ⟨S8192x768, .f32⟩
  | .hbm, ⟨4, _⟩ => ⟨S8192x512, .bf16⟩
  | .hbm, ⟨5, _⟩ => ⟨S8192x3072, .bf16⟩
  | .hbm, ⟨6, _⟩ => ⟨S1024x6400, .bf16⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S8192x512, .f32⟩
  | .hbm, ⟨11, _⟩ => ⟨S8192x3072, .f32⟩
  | .hbm, ⟨12, _⟩ => ⟨S1024x6400, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x6400, .f32⟩
  | .hbm, ⟨33, _⟩ => ⟨S8192x512, .f32⟩
  | .hbm, ⟨34, _⟩ => ⟨S8192x768, .f32⟩
  | .hbm, ⟨35, _⟩ => ⟨S8192x768, .f32⟩
  | .hbm, ⟨36, _⟩ => ⟨S8192x768, .f32⟩
  | .hbm, ⟨37, _⟩ => ⟨S8192x512, .f32⟩
  | .hbm, ⟨38, _⟩ => ⟨S8192x3072, .f32⟩
  | .hbm, ⟨39, _⟩ => ⟨S8192x6400, .f32⟩
  | .hbm, ⟨40, _⟩ => ⟨S6400x1024, .f32⟩
  | .hbm, ⟨41, _⟩ => ⟨S1024x6400, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== Kernel8.lean ====
abbrev S8192x3072 : Shape := ⟨2, ![8192, 3072]⟩
abbrev S8192x1024 : Shape := ⟨2, ![8192, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3072x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x3072 : Shape := ⟨2, ![8192, 3072]⟩
abbrev S8192x1024 : Shape := ⟨2, ![8192, 1024]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S3072x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x768 : Shape := ⟨2, ![8192, 768]⟩
abbrev S8192x1024 : Shape := ⟨2, ![8192, 1024]⟩
abbrev S768x1024 : Shape := ⟨2, ![768, 1024]⟩
abbrev S2048x768 : Shape := ⟨2, ![2048, 768]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x768, .f32⟩
  | .hbm, ⟨1, _⟩ => ⟨S8192x1024, .bf16⟩
  | .hbm, ⟨2, _⟩ => ⟨S768x1024, .f32⟩
  | .local _ .vmem, ⟨0, _⟩ => ⟨S2048x768, .f32⟩
  | .local _ .vmem, ⟨1, _⟩ => ⟨S2048x768, .f32⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S768x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x768 : Shape := ⟨2, ![8192, 768]⟩
abbrev S8192x1024 : Shape := ⟨2, ![8192, 1024]⟩
abbrev S_ : Shape := ⟨0, ![]⟩
abbrev S1024x768 : Shape := ⟨2, ![1024, 768]⟩
abbrev S768x1024 : Shape := ⟨2, ![768, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x1024, .bf16⟩
  | .hbm, ⟨2, _⟩ => ⟨S_, .f32⟩
  | .hbm, ⟨3, _⟩ => ⟨S1024x768, .f32⟩
  | .hbm, ⟨4, _⟩ => ⟨S8192x1024, .f32⟩
  | .hbm, ⟨5, _⟩ => ⟨S8192x768, .f32⟩
  | .hbm, ⟨6, _⟩ => ⟨S768x1024, .f32⟩
  | .hbm, ⟨7, _⟩ => ⟨S1024x768, .f32⟩
  | .hbm, ⟨8, _⟩ => ⟨S768x1024, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S512x1024, .f32⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x512 : Shape := ⟨2, ![8192, 512]⟩
abbrev S8192x1024 : Shape := ⟨2, ![8192, 1024]⟩
abbrev S_ : Shape := ⟨0, ![]⟩
abbrev S1024x512 : Shape := ⟨2, ![1024, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S_, .f32⟩
  | .hbm, ⟨3, _⟩ => ⟨S1024x512, .f32⟩
  | .hbm, ⟨4, _⟩ => ⟨S8192x1024, .f32⟩
  | .hbm, ⟨5, _⟩ => ⟨S8192x512, .f32⟩
  | .hbm, ⟨6, _⟩ => ⟨S512x1024, .f32⟩
  | .hbm, ⟨7, _⟩ => ⟨S1024x512, .f32⟩
  | .hbm, ⟨8, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8192x512 : Shape := ⟨2, ![8192, 512]⟩
abbrev S8192x1024 : Shape := ⟨2, ![8192, 1024]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S1024x512, .f32⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S512x1024, .f32⟩
  | .hbm, ⟨8, _⟩ => ⟨S1024x512, .f32⟩
  | .hbm, ⟨9, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S8192x512 : Shape := ⟨2, ![8192, 512]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S512x512, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S8192x512 : Shape := ⟨2, ![8192, 512]⟩
abbrev S_ : Shape := ⟨0, ![]⟩
abbrev S512x512 : Shape := ⟨2, ![512, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S_, .f32⟩
  | .hbm, ⟨3, _⟩ => ⟨S512x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S512x512, .f32⟩
  | .hbm, ⟨8, _⟩ => ⟨S512x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S8192x1024 : Shape := ⟨2, ![8192, 1024]⟩
abbrev S1024x6400 : Shape := ⟨2, ![1024, 6400]⟩
abbrev S6400x1024 : Shape := ⟨2, ![6400, 1024]⟩
abbrev S8192x512 : Shape := ⟨2, ![8192, 512]⟩
abbrev S8192x2304 : Shape := ⟨2, ![8192, 2304]⟩
abbrev S8192x3072 : Shape := ⟨2, ![8192, 3072]⟩
abbrev S512x1024 : Shape := ⟨2, ![512, 1024]⟩
abbrev S512x512 : Shape := ⟨2, ![512, 512]⟩
abbrev S512x2304 : Shape := ⟨2, ![512, 2304]⟩
abbrev S512x3072 : Shape := ⟨2, ![512, 3072]⟩
abbrev S2304x1024 : Shape := ⟨2, ![2304, 1024]⟩
abbrev S3072x1024 : Shape := ⟨2, ![3072, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x6400, .bf16⟩
  | .hbm, ⟨2, _⟩ => ⟨S6400x1024, .bf16⟩
  | .hbm, ⟨3, _⟩ => ⟨S8192x512, .f32⟩
  | .hbm, ⟨4, _⟩ => ⟨S8192x2304, .f32⟩
  | .hbm, ⟨5, _⟩ => ⟨S8192x512, .f32⟩
  | .hbm, ⟨6, _⟩ => ⟨S8192x3072, .f32⟩
  | .local _ .vmem, ⟨0, _⟩ => ⟨S512x1024, .bf16⟩
  | .local _ .vmem, ⟨1, _⟩ => ⟨S512x1024, .bf16⟩
  | .local _ .vmem, ⟨2, _⟩ => ⟨S6400x1024, .bf16⟩
  | .local _ .vmem, ⟨3, _⟩ => ⟨S512x512, .f32⟩
  | .local _ .vmem, ⟨4, _⟩ => ⟨S512x512, .f32⟩
  | .local _ .vmem, ⟨5, _⟩ => ⟨S512x2304, .f32⟩
  | .local _ .vmem, ⟨6, _⟩ => ⟨S512x2304, .f32⟩
  | .local _ .vmem, ⟨7, _⟩ => ⟨S512x512, .f32⟩
  | .local _ .vmem, ⟨8, _⟩ => ⟨S512x512, .f32⟩
  | .local _ .vmem, ⟨9, _⟩ => ⟨S512x3072, .f32⟩
  | .local _ .vmem, ⟨10, _⟩ => ⟨S512x3072, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6400x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference15Ideal.lean ====
abbrev S8192x1024 : Shape := ⟨2, ![8192, 1024]⟩
abbrev S1024x6400 : Shape := ⟨2, ![1024, 6400]⟩
abbrev S8192x6400 : Shape := ⟨2, ![8192, 6400]⟩
abbrev S8192x512 : Shape := ⟨2, ![8192, 512]⟩
abbrev S8192x768 : Shape := ⟨2, ![8192, 768]⟩
abbrev S8192x3072 : Shape := ⟨2, ![8192, 3072]⟩
abbrev S8192x2304 : Shape := ⟨2, ![8192, 2304]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x6400, .bf16⟩
  | .hbm, ⟨2, _⟩ => ⟨S8192x1024, .f32⟩
  | .hbm, ⟨3, _⟩ => ⟨S1024x6400, .f32⟩
  | .hbm, ⟨4, _⟩ => ⟨S8192x6400, .f32⟩
  | .hbm, ⟨5, _⟩ => ⟨S8192x512, .f32⟩
  | .hbm, ⟨6, _⟩ => ⟨S8192x768, .f32⟩
  | .hbm, ⟨7, _⟩ => ⟨S8192x768, .f32⟩
  | .hbm, ⟨8, _⟩ => ⟨S8192x768, .f32⟩
  | .hbm, ⟨9, _⟩ => ⟨S8192x512, .f32⟩
  | .hbm, ⟨10, _⟩ => ⟨S8192x3072, .f32⟩
  | .hbm, ⟨11, _⟩ => ⟨S8192x2304, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel16.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S512x1024 : Shape := ⟨2, ![512, 1024]⟩
abbrev S512x4096 : Shape := ⟨2, ![512, 4096]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S4096x1024, .bf16⟩
  | .hbm, ⟨3, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel17.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .hbm, ⟨7, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_19 : BitVec 32 := 0#32
  let v43 : BitVec 1 := Scalar.cmpi .ne v42 c0_i32_19
  v43

def k0_cond2 (i : grid0.Coords) : BitVec 1 :=
  let arg0 : BitVec 32 := BitVec.ofNat 32 (i 0).val
  let c0_i32_20 : BitVec 32 := 0#32
  let v44 : BitVec 1 := Scalar.cmpi .sgt arg0 c0_i32_20
  let v45 : BitVec 32 := Scalar.extui v44
  let c0_i32_21 : BitVec 32 := 0#32
  let v46 : BitVec 1 := Scalar.cmpi .ne v45 c0_i32_21
  v46

def k0_cond3 (i : grid0.Coords) : BitVec 1 :=
  let arg0 : BitVec 32 := BitVec.ofNat 32 (i 0).val
  let c0_i32_22 : BitVec 32 := 0#32
  let v47 : BitVec 1 := Scalar.cmpi .eq arg0 c0_i32_22
  let v48 : BitVec 32 := Scalar.extui v47
  let c0_i32_23 : BitVec 32 := 0#32
  let v49 : BitVec 1 := Scalar.cmpi .ne v48 c0_i32_23
  v49

def k0_cond4 (i : grid0.Coords) : BitVec 1 :=
  let arg0 : BitVec 32 := BitVec.ofNat 32 (i 0).val
  let c0_i32_24 : BitVec 32 := 0#32
  let v50 : BitVec 1 := Scalar.cmpi .sgt arg0 c0_i32_24
  let v51 : BitVec 32 := Scalar.extui v50
  let c0_i32_25 : BitVec 32 := 0#32
  let v52 : BitVec 1 := Scalar.cmpi .ne v51 c0_i32_25
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference17Ideal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 77
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x4096, .f32⟩
  | .hbm, ⟨6, _⟩ => ⟨S4096x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S1024, .f32⟩
  | .hbm, ⟨76, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_15 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]
-- ==== Kernel18.lean ====
abbrev S8192x512 : Shape := ⟨2, ![8192, 512]⟩
abbrev S8192x256 : Shape := ⟨2, ![8192, 256]⟩
abbrev S512x1024 : Shape := ⟨2, ![512, 1024]⟩
abbrev S256x1024 : Shape := ⟨2, ![256, 1024]⟩
abbrev S8192x3072 : Shape := ⟨2, ![8192, 3072]⟩
abbrev S1x3072 : Shape := ⟨2, ![1, 3072]⟩
abbrev S1024x512 : Shape := ⟨2, ![1024, 512]⟩
abbrev S1024x256 : Shape := ⟨2, ![1024, 256]⟩
abbrev S8192x1024 : Shape := ⟨2, ![8192, 1024]⟩
abbrev S256x512 : Shape := ⟨2, ![256, 512]⟩
abbrev S256x256 : Shape := ⟨2, ![256, 256]⟩
abbrev S256x3072 : Shape := ⟨2, ![256, 3072]⟩

abbrev nBuf : Space → Nat
  | .hbm => 12
  | .vmem => 14
  | .smem => 0
  | _ => 0

abbrev bufTy : (tb : Table) → Fin (tcTables nBuf tb) → BufTy
  | .hbm, ⟨0, _⟩ => ⟨S8192x512, .bf16⟩
  | .hbm, ⟨1, _⟩ => ⟨S8192x256, .f32⟩
  | .hbm, ⟨2, _⟩ => ⟨S8192x512, .f32⟩
  | .hbm, ⟨3, _⟩ => ⟨S512x1024, .bf16⟩
  | .hbm, ⟨4, _⟩ => ⟨S256x1024, .bf16⟩
  | .hbm, ⟨5, _⟩ => ⟨S512x1024, .bf16⟩
  | .hbm, ⟨6, _⟩ => ⟨S8192x3072, .f32⟩
  | .hbm, ⟨7, _⟩ => ⟨S1x3072, .f32⟩
  | .hbm, ⟨8, _⟩ => ⟨S1024x512, .bf16⟩
  | .hbm, ⟨9, _⟩ => ⟨S1024x256, .bf16⟩
  | .hbm, ⟨10, _⟩ => ⟨S1024x512, .bf16⟩
  | .hbm, ⟨11, _⟩ => ⟨S8192x1024, .bf16⟩
  | .local _ .vmem, ⟨0, _⟩ => ⟨S256x512, .bf16⟩
  | .local _ .vmem, ⟨1, _⟩ => ⟨S256x512, .bf16⟩
  | .local _ .vmem, ⟨2, _⟩ => ⟨S256x256, .f32⟩
  | .local _ .vmem, ⟨3, _⟩ => ⟨S256x256, .f32⟩
  | .local _ .vmem, ⟨4, _⟩ => ⟨S256x512, .f32⟩
  | .local _ .vmem, ⟨5, _⟩ => ⟨S256x512, .f32⟩
  | .local _ .vmem, ⟨6, _⟩ => ⟨S1024x512, .bf16⟩
  | .local _ .vmem, ⟨7, _⟩ => ⟨S1024x256, .bf16⟩
  | .local _ .vmem, ⟨8, _⟩ => ⟨S1024x512, .bf16⟩
  | .local _ .vmem, ⟨9, _⟩ => ⟨S256x3072, .f32⟩
  | .local _ .vmem, ⟨10, _⟩ => ⟨S256x3072, .f32⟩
  | .local _ .vmem, ⟨11, _⟩ => ⟨S1x3072, .f32⟩
  | .local _ .vmem, ⟨12, _⟩ => ⟨S256x1024, .bf16⟩
  | .local _ .vmem, ⟨13, _⟩ => ⟨S256x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference18Ideal.lean ====
abbrev S8192x512 : Shape := ⟨2, ![8192, 512]⟩
abbrev S8192x256 : Shape := ⟨2, ![8192, 256]⟩
abbrev S512x1024 : Shape := ⟨2, ![512, 1024]⟩
abbrev S256x1024 : Shape := ⟨2, ![256, 1024]⟩
abbrev S8192x3072 : Shape := ⟨2, ![8192, 3072]⟩
abbrev S1x3072 : Shape := ⟨2, ![1, 3072]⟩
abbrev S_ : Shape := ⟨0, ![]⟩
abbrev S8192x3x1024 : Shape := ⟨3, ![8192, 3, 1024]⟩
abbrev S8192x1024 : Shape := ⟨2, ![8192, 1024]⟩
abbrev S8192x1x1024 : Shape := ⟨3, ![8192, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x256, .f32⟩
  | .hbm, ⟨2, _⟩ => ⟨S8192x512, .f32⟩
  | .hbm, ⟨3, _⟩ => ⟨S512x1024, .bf16⟩
  | .hbm, ⟨4, _⟩ => ⟨S256x1024, .bf16⟩
  | .hbm, ⟨5, _⟩ => ⟨S512x1024, .bf16⟩
  | .hbm, ⟨6, _⟩ => ⟨S8192x3072, .f32⟩
  | .hbm, ⟨7, _⟩ => ⟨S1x3072, .f32⟩
  | .hbm, ⟨8, _⟩ => ⟨S8192x512, .f32⟩
  | .hbm, ⟨9, _⟩ => ⟨S512x1024, .f32⟩
  | .hbm, ⟨10, _⟩ => ⟨S256x1024, .f32⟩
  | .hbm, ⟨11, _⟩ => ⟨S512x1024, .f32⟩
  | .hbm, ⟨12, _⟩ => ⟨S8192x3072, .f32⟩
  | .hbm, ⟨13, _⟩ => ⟨S8192x3072, .f32⟩
  | .hbm, ⟨14, _⟩ => ⟨S8192x3072, .f32⟩
  | .hbm, ⟨15, _⟩ => ⟨S8192x3072, .f32⟩
  | .hbm, ⟨16, _⟩ => ⟨S_, .f32⟩
  | .hbm, ⟨17, _⟩ => ⟨S8192x3072, .f32⟩
  | .hbm, ⟨18, _⟩ => ⟨S8192x3072, .f32⟩
  | .hbm, ⟨19, _⟩ => ⟨S_, .f32⟩
  | .hbm, ⟨20, _⟩ => ⟨S8192x3072, .f32⟩
  | .hbm, ⟨21, _⟩ => ⟨S8192x3072, .f32⟩
  | .hbm, ⟨22, _⟩ => ⟨S8192x3x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1x1024, .f32⟩
  | .hbm, ⟨27, _⟩ => ⟨S8192x1024, .f32⟩
  | .hbm, ⟨28, _⟩ => ⟨S8192x1024, .f32⟩
  | .hbm, ⟨29, _⟩ => ⟨S8192x1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel19.lean ====
abbrev S8192x512 : Shape := ⟨2, ![8192, 512]⟩
abbrev S256x1024 : Shape := ⟨2, ![256, 1024]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 3
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S8192x512, .f32⟩
  | .local _ .vmem, ⟨0, _⟩ => ⟨S1024x128, .f32⟩
  | .local _ .vmem, ⟨1, _⟩ => ⟨S1024x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1024x128, .f32⟩
  | .local _ .vmem, ⟨7, _⟩ => ⟨S1024x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference19Ideal.lean ====
abbrev S8192x512 : Shape := ⟨2, ![8192, 512]⟩
abbrev S256x1024 : Shape := ⟨2, ![256, 1024]⟩
abbrev S256x512 : Shape := ⟨2, ![256, 512]⟩
abbrev S1x256x4x128 : Shape := ⟨4, ![1, 256, 4, 128]⟩
abbrev S1x8192x4x128 : Shape := ⟨4, ![1, 8192, 4, 128]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩
abbrev S1x8192x512 : Shape := ⟨3, ![1, 8192, 512]⟩

abbrev nBuf : Space → Nat
  | .hbm => 29
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S256x512, .f32⟩
  | .hbm, ⟨3, _⟩ => ⟨S256x512, .f32⟩
  | .hbm, ⟨4, _⟩ => ⟨S1x256x4x128, .f32⟩
  | .hbm, ⟨5, _⟩ => ⟨S1x256x4x128, .f32⟩
  | .hbm, ⟨6, _⟩ => ⟨S1x8192x4x128, .f32⟩
  | .hbm, ⟨7, _⟩ => ⟨S1x4x8192x256, .f32⟩
  | .hbm, ⟨8, _⟩ => ⟨S_, .f32⟩
  | .hbm, ⟨9, _⟩ => ⟨S1x4x8192x256, .f32⟩
  | .hbm, ⟨10, _⟩ => ⟨S1x4x8192x256, .f32⟩
  | .hbm, ⟨11, _⟩ => ⟨S_, .f32⟩
  | .hbm, ⟨12, _⟩ => ⟨S1x4x8192, .f32⟩
  | .hbm, ⟨13, _⟩ => ⟨S_, .f32⟩
  | .hbm, ⟨14, _⟩ => ⟨S1x4x8192, .f32⟩
  | .hbm, ⟨15, _⟩ => ⟨S1x4x8192, .f32⟩
  | .hbm, ⟨16, _⟩ => ⟨S1x4x8192x1, .f32⟩
  | .hbm, ⟨17, _⟩ => ⟨S1x4x8192x256, .f32⟩
  | .hbm, ⟨18, _⟩ => ⟨S1x4x8192x256, .f32⟩
  | .hbm, ⟨19, _⟩ => ⟨S1x4x8192x256, .f32⟩
  | .hbm, ⟨20, _⟩ => ⟨S_, .f32⟩
  | .hbm, ⟨21, _⟩ => ⟨S1x4x8192, .f32⟩
  | .hbm, ⟨22, _⟩ => ⟨S1x4x8192x1, .f32⟩
  | .hbm, ⟨23, _⟩ => ⟨S1x4x8192x256, .f32⟩
  | .hbm, ⟨24, _⟩ => ⟨S1x4x8192x256, .f32⟩
  | .hbm, ⟨25, _⟩ => ⟨S1x4x128x8192, .f32⟩
  | .hbm, ⟨26, _⟩ => ⟨S1x8192x4x128, .f32⟩
  | .hbm, ⟨27, _⟩ => ⟨S1x8192x512, .f32⟩
  | .hbm, ⟨28, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel20.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference20Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel21.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference21Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel22.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference22Ideal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel23.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .local _ .vmem, ⟨0, _⟩ => ⟨S256x1024, .bf16⟩
  | .local _ .vmem, ⟨1, _⟩ => ⟨S1024x1024, .bf16⟩
  | .local _ .vmem, ⟨2, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference23Ideal.lean ====
abbrev S256x1024 : Shape := ⟨2, ![256, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .hbm, ⟨3, _⟩ => ⟨S1024x1024, .f32⟩
  | .hbm, ⟨4, _⟩ => ⟨S256x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel24.lean ====
abbrev S256x1024 : Shape := ⟨2, ![256, 1024]⟩
abbrev S256x512 : Shape := ⟨2, ![256, 512]⟩
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x512, .f32⟩
  | .hbm, ⟨2, _⟩ => ⟨S256x512, .f32⟩
  | .hbm, ⟨3, _⟩ => ⟨S256x1024, .f32⟩
  | .hbm, ⟨4, _⟩ => ⟨S1024x1024, .f32⟩
  | .local _ .vmem, ⟨0, _⟩ => ⟨S256x1024, .bf16⟩
  | .local _ .vmem, ⟨1, _⟩ => ⟨S256x1024, .f32⟩
  | .local _ .vmem, ⟨2, _⟩ => ⟨S1024x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference24Ideal.lean ====
abbrev S256x1024 : Shape := ⟨2, ![256, 1024]⟩
abbrev S256x512 : Shape := ⟨2, ![256, 512]⟩
abbrev S_ : Shape := ⟨0, ![]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x512, .f32⟩
  | .hbm, ⟨2, _⟩ => ⟨S256x512, .f32⟩
  | .hbm, ⟨3, _⟩ => ⟨S_, .f32⟩
  | .hbm, ⟨4, _⟩ => ⟨S1024x1024, .f32⟩
  | .hbm, ⟨5, _⟩ => ⟨S256x1024, .f32⟩
  | .hbm, ⟨6, _⟩ => ⟨S256x1024, .f32⟩
  | .hbm, ⟨7, _⟩ => ⟨S256x512, .f32⟩
  | .hbm, ⟨8, _⟩ => ⟨S256x512, .f32⟩
  | .hbm, ⟨9, _⟩ => ⟨S256x1024, .f32⟩
  | .hbm, ⟨10, _⟩ => ⟨S1024x1024, .f32⟩
  | .hbm, ⟨11, _⟩ => ⟨S1024x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel25.lean ====
abbrev S256x512 : Shape := ⟨2, ![256, 512]⟩
abbrev S1024x1024 : Shape := ⟨2, ![1024, 1024]⟩
abbrev S256x1024 : Shape := ⟨2, ![256, 1024]⟩

abbrev nBuf : Space → Nat
  | .hbm => 5
  | .vmem => 3
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S1024x1024, .bf16⟩
  | .hbm, ⟨3, _⟩ => ⟨S256x1024, .f32⟩
  | .hbm, ⟨4, _⟩ => ⟨S256x1024, .f32⟩
  | .local _ .vmem, ⟨0, _⟩ => ⟨S256x1024, .f32⟩
  | .local _ .vmem, ⟨1, _⟩ => ⟨S1024x1024, .bf16⟩
  | .local _ .vmem, ⟨2, _⟩ => ⟨S256x1024, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference25Ideal.lean ====
abbrev S256x512 : Shape := ⟨2, ![256, 512]⟩
abbrev S1024x1024 : Shape := ⟨2, ![1024, 1024]⟩
abbrev S_ : Shape := ⟨0, ![]⟩
abbrev S256x1024 : Shape := ⟨2, ![256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S1024x1024, .bf16⟩
  | .hbm, ⟨3, _⟩ => ⟨S_, .f32⟩
  | .hbm, ⟨4, _⟩ => ⟨S256x1024, .f32⟩
  | .hbm, ⟨5, _⟩ => ⟨S1024x1024, .f32⟩
  | .hbm, ⟨6, _⟩ => ⟨S256x1024, .f32⟩
  | .hbm, ⟨7, _⟩ => ⟨S256x512, .f32⟩
  | .hbm, ⟨8, _⟩ => ⟨S256x512, .f32⟩
  | .hbm, ⟨9, _⟩ => ⟨S256x1024, .f32⟩
  | .hbm, ⟨10, _⟩ => ⟨S256x1024, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel26.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference26Ideal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 45
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S256x1024, .f32⟩
  | .hbm, ⟨33, _⟩ => ⟨S256x1024, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel27.lean ====
abbrev S8192x512 : Shape := ⟨2, ![8192, 512]⟩
abbrev S1x512 : Shape := ⟨2, ![1, 512]⟩
abbrev S512x512 : Shape := ⟨2, ![512, 512]⟩

abbrev nBuf : Space → Nat
  | .hbm => 6
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S512x512, .bf16⟩
  | .hbm, ⟨4, _⟩ => ⟨S1x512, .f32⟩
  | .hbm, ⟨5, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x512, .bf16⟩
  | .local _ .vmem, ⟨6, _⟩ => ⟨S1x512, .f32⟩
  | .local _ .vmem, ⟨7, _⟩ => ⟨S512x512, .bf16⟩
  | .local _ .vmem, ⟨8, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference27Ideal.lean ====
abbrev S8192x512 : Shape := ⟨2, ![8192, 512]⟩
abbrev S1x512 : Shape := ⟨2, ![1, 512]⟩
abbrev S512x512 : Shape := ⟨2, ![512, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S512x512, .bf16⟩
  | .hbm, ⟨4, _⟩ => ⟨S1x512, .f32⟩
  | .hbm, ⟨5, _⟩ => ⟨S512x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S_, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel28.lean ====
abbrev S1x1024x1600 : Shape := ⟨3, ![1, 1024, 1600]⟩
abbrev S1024x1600 : Shape := ⟨2, ![1024, 1600]⟩
abbrev S1x256x1600 : Shape := ⟨3, ![1, 256, 1600]⟩
abbrev S256x1600 : Shape := ⟨2, ![256, 1600]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x1600, .f32⟩
  | .hbm, ⟨1, _⟩ => ⟨S1024x1600, .f32⟩
  | .hbm, ⟨2, _⟩ => ⟨S1x1024x1600, .f32⟩
  | .hbm, ⟨3, _⟩ => ⟨S1x1024x1600, .f32⟩
  | .hbm, ⟨4, _⟩ => ⟨S1x1024x1600, .f32⟩
  | .hbm, ⟨5, _⟩ => ⟨S1x1024x1600, .f32⟩
  | .hbm, ⟨6, _⟩ => ⟨S1x1024x1600, .f32⟩
  | .hbm, ⟨7, _⟩ => ⟨S1x1024x1600, .f32⟩
  | .local _ .vmem, ⟨0, _⟩ => ⟨S1x256x1600, .f32⟩
  | .local _ .vmem, ⟨1, _⟩ => ⟨S1x256x1600, .f32⟩
  | .local _ .vmem, ⟨2, _⟩ => ⟨S256x1600, .f32⟩
  | .local _ .vmem, ⟨3, _⟩ => ⟨S256x1600, .f32⟩
  | .local _ .vmem, ⟨4, _⟩ => ⟨S1x256x1600, .f32⟩
  | .local _ .vmem, ⟨5, _⟩ => ⟨S1x256x1600, .f32⟩
  | .local _ .vmem, ⟨6, _⟩ => ⟨S1x256x1600, .f32⟩
  | .local _ .vmem, ⟨7, _⟩ => ⟨S1x256x1600, .f32⟩
  | .local _ .vmem, ⟨8, _⟩ => ⟨S1x256x1600, .f32⟩
  | .local _ .vmem, ⟨9, _⟩ => ⟨S1x256x1600, .f32⟩
  | .local _ .vmem, ⟨10, _⟩ => ⟨S1x256x1600, .f32⟩
  | .local _ .vmem, ⟨11, _⟩ => ⟨S1x256x1600, .f32⟩
  | .local _ .vmem, ⟨12, _⟩ => ⟨S1x256x1600, .f32⟩
  | .local _ .vmem, ⟨13, _⟩ => ⟨S1x256x1600, .f32⟩
  | .local _ .vmem, ⟨14, _⟩ => ⟨S1x256x1600, .f32⟩
  | .local _ .vmem, ⟨15, _⟩ => ⟨S1x256x1600, .f32⟩
  | _, _ => ⟨S1x1024x1600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1600 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1600 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1600 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference28Ideal.lean ====
abbrev S1x1024x1600 : Shape := ⟨3, ![1, 1024, 1600]⟩
abbrev S1024x1600 : Shape := ⟨2, ![1024, 1600]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x1600, .f32⟩
  | .hbm, ⟨1, _⟩ => ⟨S1024x1600, .f32⟩
  | .hbm, ⟨2, _⟩ => ⟨S1x1024x1600, .f32⟩
  | .hbm, ⟨3, _⟩ => ⟨S1x1024x1600, .f32⟩
  | .hbm, ⟨4, _⟩ => ⟨S1x1024x1600, .f32⟩
  | .hbm, ⟨5, _⟩ => ⟨S1x1024x1600, .f32⟩
  | .hbm, ⟨6, _⟩ => ⟨S_, .f32⟩
  | .hbm, ⟨7, _⟩ => ⟨S1x1024x1600, .f32⟩
  | .hbm, ⟨8, _⟩ => ⟨S1x1024x1600, .f32⟩
  | .hbm, ⟨9, _⟩ => ⟨S_, .f32⟩
  | .hbm, ⟨10, _⟩ => ⟨S1x1024x1600, .f32⟩
  | .hbm, ⟨11, _⟩ => ⟨S1x1024x1600, .f32⟩
  | .hbm, ⟨12, _⟩ => ⟨S1x1024x1600, .f32⟩
  | .hbm, ⟨13, _⟩ => ⟨S_, .f32⟩
  | .hbm, ⟨14, _⟩ => ⟨S1x1024x1600, .f32⟩
  | .hbm, ⟨15, _⟩ => ⟨S1x1024x1600, .f32⟩
  | .hbm, ⟨16, _⟩ => ⟨S1x1024x1600, .f32⟩
  | .hbm, ⟨17, _⟩ => ⟨S_, .f32⟩
  | .hbm, ⟨18, _⟩ => ⟨S1x1024x1600, .f32⟩
  | .hbm, ⟨19, _⟩ => ⟨S1x1024x1600, .f32⟩
  | .hbm, ⟨20, _⟩ => ⟨S1x1024x1600, .f32⟩
  | .hbm, ⟨21, _⟩ => ⟨S_, .f32⟩
  | .hbm, ⟨22, _⟩ => ⟨S1x1024x1600, .f32⟩
  | .hbm, ⟨23, _⟩ => ⟨S1x1024x1600, .f32⟩
  | .hbm, ⟨24, _⟩ => ⟨S_, .f32⟩
  | .hbm, ⟨25, _⟩ => ⟨S1x1024x1600, .f32⟩
  | .hbm, ⟨26, _⟩ => ⟨S1x1024x1600, .f32⟩
  | .hbm, ⟨27, _⟩ => ⟨S1x1024x1600, .f32⟩
  | .hbm, ⟨28, _⟩ => ⟨S_, .f32⟩
  | .hbm, ⟨29, _⟩ => ⟨S1x1024x1600, .f32⟩
  | .hbm, ⟨30, _⟩ => ⟨S1x1024x1600, .f32⟩
  | .hbm, ⟨31, _⟩ => ⟨S1x1024x1600, .f32⟩
  | .hbm, ⟨32, _⟩ => ⟨S_, .f32⟩
  | .hbm, ⟨33, _⟩ => ⟨S1x1024x1600, .f32⟩
  | .hbm, ⟨34, _⟩ => ⟨S1x1024x1600, .f32⟩
  | .hbm, ⟨35, _⟩ => ⟨S1x1024x1600, .f32⟩
  | .hbm, ⟨36, _⟩ => ⟨S_, .f32⟩
  | .hbm, ⟨37, _⟩ => ⟨S1x1024x1600, .f32⟩
  | .hbm, ⟨38, _⟩ => ⟨S1x1024x1600, .f32⟩
  | _, _ => ⟨S1x1024x1600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel29.lean ====
abbrev S1x128x512 : Shape := ⟨3, ![1, 128, 512]⟩
abbrev S128x512 : Shape := ⟨2, ![128, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x128x512, .f32⟩
  | .hbm, ⟨1, _⟩ => ⟨S128x512, .f32⟩
  | .hbm, ⟨2, _⟩ => ⟨S1x128x512, .f32⟩
  | .hbm, ⟨3, _⟩ => ⟨S1x128x512, .f32⟩
  | .hbm, ⟨4, _⟩ => ⟨S1x128x512, .f32⟩
  | .hbm, ⟨5, _⟩ => ⟨S1x128x512, .f32⟩
  | .hbm, ⟨6, _⟩ => ⟨S1x128x512, .f32⟩
  | .hbm, ⟨7, _⟩ => ⟨S1x128x512, .f32⟩
  | .local _ .vmem, ⟨0, _⟩ => ⟨S1x128x512, .f32⟩
  | .local _ .vmem, ⟨1, _⟩ => ⟨S128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | _, _ => ⟨S1x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference29Ideal.lean ====
abbrev S1x128x512 : Shape := ⟨3, ![1, 128, 512]⟩
abbrev S128x512 : Shape := ⟨2, ![128, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x128x512, .f32⟩
  | .hbm, ⟨1, _⟩ => ⟨S128x512, .f32⟩
  | .hbm, ⟨2, _⟩ => ⟨S1x128x512, .f32⟩
  | .hbm, ⟨3, _⟩ => ⟨S1x128x512, .f32⟩
  | .hbm, ⟨4, _⟩ => ⟨S1x128x512, .f32⟩
  | .hbm, ⟨5, _⟩ => ⟨S1x128x512, .f32⟩
  | .hbm, ⟨6, _⟩ => ⟨S_, .f32⟩
  | .hbm, ⟨7, _⟩ => ⟨S1x128x512, .f32⟩
  | .hbm, ⟨8, _⟩ => ⟨S1x128x512, .f32⟩
  | .hbm, ⟨9, _⟩ => ⟨S_, .f32⟩
  | .hbm, ⟨10, _⟩ => ⟨S1x128x512, .f32⟩
  | .hbm, ⟨11, _⟩ => ⟨S1x128x512, .f32⟩
  | .hbm, ⟨12, _⟩ => ⟨S1x128x512, .f32⟩
  | .hbm, ⟨13, _⟩ => ⟨S_, .f32⟩
  | .hbm, ⟨14, _⟩ => ⟨S1x128x512, .f32⟩
  | .hbm, ⟨15, _⟩ => ⟨S1x128x512, .f32⟩
  | .hbm, ⟨16, _⟩ => ⟨S1x128x512, .f32⟩
  | .hbm, ⟨17, _⟩ => ⟨S_, .f32⟩
  | .hbm, ⟨18, _⟩ => ⟨S1x128x512, .f32⟩
  | .hbm, ⟨19, _⟩ => ⟨S1x128x512, .f32⟩
  | .hbm, ⟨20, _⟩ => ⟨S1x128x512, .f32⟩
  | .hbm, ⟨21, _⟩ => ⟨S_, .f32⟩
  | .hbm, ⟨22, _⟩ => ⟨S1x128x512, .f32⟩
  | .hbm, ⟨23, _⟩ => ⟨S1x128x512, .f32⟩
  | .hbm, ⟨24, _⟩ => ⟨S_, .f32⟩
  | .hbm, ⟨25, _⟩ => ⟨S1x128x512, .f32⟩
  | .hbm, ⟨26, _⟩ => ⟨S1x128x512, .f32⟩
  | .hbm, ⟨27, _⟩ => ⟨S1x128x512, .f32⟩
  | .hbm, ⟨28, _⟩ => ⟨S_, .f32⟩
  | .hbm, ⟨29, _⟩ => ⟨S1x128x512, .f32⟩
  | .hbm, ⟨30, _⟩ => ⟨S1x128x512, .f32⟩
  | .hbm, ⟨31, _⟩ => ⟨S1x128x512, .f32⟩
  | .hbm, ⟨32, _⟩ => ⟨S_, .f32⟩
  | .hbm, ⟨33, _⟩ => ⟨S1x128x512, .f32⟩
  | .hbm, ⟨34, _⟩ => ⟨S1x128x512, .f32⟩
  | .hbm, ⟨35, _⟩ => ⟨S1x128x512, .f32⟩
  | .hbm, ⟨36, _⟩ => ⟨S_, .f32⟩
  | .hbm, ⟨37, _⟩ => ⟨S1x128x512, .f32⟩
  | .hbm, ⟨38, _⟩ => ⟨S1x128x512, .f32⟩
  | _, _ => ⟨S1x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel30.lean ====
abbrev S1x512x256 : Shape := ⟨3, ![1, 512, 256]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 8
  | .vmem => 16
  | .smem => 0
  | _ => 0

abbrev bufTy : (tb : Table) → Fin (tcTables nBuf tb) → BufTy
  | .hbm, ⟨0, _⟩ => ⟨S1x512x256, .f32⟩
  | .hbm, ⟨1, _⟩ => ⟨S512x256, .f32⟩
  | .hbm, ⟨2, _⟩ => ⟨S1x512x256, .f32⟩
  | .hbm, ⟨3, _⟩ => ⟨S1x512x256, .f32⟩
  | .hbm, ⟨4, _⟩ => ⟨S1x512x256, .f32⟩
  | .hbm, ⟨5, _⟩ => ⟨S1x512x256, .f32⟩
  | .hbm, ⟨6, _⟩ => ⟨S1x512x256, .f32⟩
  | .hbm, ⟨7, _⟩ => ⟨S1x512x256, .f32⟩
  | .local _ .vmem, ⟨0, _⟩ => ⟨S1x256x256, .f32⟩
  | .local _ .vmem, ⟨1, _⟩ => ⟨S1x256x256, .f32⟩
  | .local _ .vmem, ⟨2, _⟩ => ⟨S256x256, .f32⟩
  | .local _ .vmem, ⟨3, _⟩ => ⟨S256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | _, _ => ⟨S1x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference30Ideal.lean ====
abbrev S1x512x256 : Shape := ⟨3, ![1, 512, 256]⟩
abbrev S512x256 : Shape := ⟨2, ![512, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x512x256, .f32⟩
  | .hbm, ⟨1, _⟩ => ⟨S512x256, .f32⟩
  | .hbm, ⟨2, _⟩ => ⟨S1x512x256, .f32⟩
  | .hbm, ⟨3, _⟩ => ⟨S1x512x256, .f32⟩
  | .hbm, ⟨4, _⟩ => ⟨S1x512x256, .f32⟩
  | .hbm, ⟨5, _⟩ => ⟨S1x512x256, .f32⟩
  | .hbm, ⟨6, _⟩ => ⟨S_, .f32⟩
  | .hbm, ⟨7, _⟩ => ⟨S1x512x256, .f32⟩
  | .hbm, ⟨8, _⟩ => ⟨S1x512x256, .f32⟩
  | .hbm, ⟨9, _⟩ => ⟨S_, .f32⟩
  | .hbm, ⟨10, _⟩ => ⟨S1x512x256, .f32⟩
  | .hbm, ⟨11, _⟩ => ⟨S1x512x256, .f32⟩
  | .hbm, ⟨12, _⟩ => ⟨S1x512x256, .f32⟩
  | .hbm, ⟨13, _⟩ => ⟨S_, .f32⟩
  | .hbm, ⟨14, _⟩ => ⟨S1x512x256, .f32⟩
  | .hbm, ⟨15, _⟩ => ⟨S1x512x256, .f32⟩
  | .hbm, ⟨16, _⟩ => ⟨S1x512x256, .f32⟩
  | .hbm, ⟨17, _⟩ => ⟨S_, .f32⟩
  | .hbm, ⟨18, _⟩ => ⟨S1x512x256, .f32⟩
  | .hbm, ⟨19, _⟩ => ⟨S1x512x256, .f32⟩
  | .hbm, ⟨20, _⟩ => ⟨S1x512x256, .f32⟩
  | .hbm, ⟨21, _⟩ => ⟨S_, .f32⟩
  | .hbm, ⟨22, _⟩ => ⟨S1x512x256, .f32⟩
  | .hbm, ⟨23, _⟩ => ⟨S1x512x256, .f32⟩
  | .hbm, ⟨24, _⟩ => ⟨S_, .f32⟩
  | .hbm, ⟨25, _⟩ => ⟨S1x512x256, .f32⟩
  | .hbm, ⟨26, _⟩ => ⟨S1x512x256, .f32⟩
  | .hbm, ⟨27, _⟩ => ⟨S1x512x256, .f32⟩
  | .hbm, ⟨28, _⟩ => ⟨S_, .f32⟩
  | .hbm, ⟨29, _⟩ => ⟨S1x512x256, .f32⟩
  | .hbm, ⟨30, _⟩ => ⟨S1x512x256, .f32⟩
  | .hbm, ⟨31, _⟩ => ⟨S1x512x256, .f32⟩
  | .hbm, ⟨32, _⟩ => ⟨S_, .f32⟩
  | .hbm, ⟨33, _⟩ => ⟨S1x512x256, .f32⟩
  | .hbm, ⟨34, _⟩ => ⟨S1x512x256, .f32⟩
  | .hbm, ⟨35, _⟩ => ⟨S1x512x256, .f32⟩
  | .hbm, ⟨36, _⟩ => ⟨S_, .f32⟩
  | .hbm, ⟨37, _⟩ => ⟨S1x512x256, .f32⟩
  | .hbm, ⟨38, _⟩ => ⟨S1x512x256, .f32⟩
  | _, _ => ⟨S1x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel31.lean ====
abbrev S1x256x256 : Shape := ⟨3, ![1, 256, 256]⟩
abbrev S256x256 : Shape := ⟨2, ![256, 256]⟩

abbrev nBuf : Space → Nat
  | .hbm => 8
  | .vmem => 8
  | .smem => 0
  | _ => 0

abbrev bufTy : (tb : Table) → Fin (tcTables nBuf tb) → BufTy
  | .hbm, ⟨0, _⟩ => ⟨S1x256x256, .f32⟩
  | .hbm, ⟨1, _⟩ => ⟨S256x256, .f32⟩
  | .hbm, ⟨2, _⟩ => ⟨S1x256x256, .f32⟩
  | .hbm, ⟨3, _⟩ => ⟨S1x256x256, .f32⟩
  | .hbm, ⟨4, _⟩ => ⟨S1x256x256, .f32⟩
  | .hbm, ⟨5, _⟩ => ⟨S1x256x256, .f32⟩
  | .hbm, ⟨6, _⟩ => ⟨S1x256x256, .f32⟩
  | .hbm, ⟨7, _⟩ => ⟨S1x256x256, .f32⟩
  | .local _ .vmem, ⟨0, _⟩ => ⟨S1x256x256, .f32⟩
  | .local _ .vmem, ⟨1, _⟩ => ⟨S256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | _, _ => ⟨S1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference31Ideal.lean ====
abbrev S1x256x256 : Shape := ⟨3, ![1, 256, 256]⟩
abbrev S256x256 : Shape := ⟨2, ![256, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x256x256, .f32⟩
  | .hbm, ⟨1, _⟩ => ⟨S256x256, .f32⟩
  | .hbm, ⟨2, _⟩ => ⟨S1x256x256, .f32⟩
  | .hbm, ⟨3, _⟩ => ⟨S1x256x256, .f32⟩
  | .hbm, ⟨4, _⟩ => ⟨S1x256x256, .f32⟩
  | .hbm, ⟨5, _⟩ => ⟨S1x256x256, .f32⟩
  | .hbm, ⟨6, _⟩ => ⟨S_, .f32⟩
  | .hbm, ⟨7, _⟩ => ⟨S1x256x256, .f32⟩
  | .hbm, ⟨8, _⟩ => ⟨S1x256x256, .f32⟩
  | .hbm, ⟨9, _⟩ => ⟨S_, .f32⟩
  | .hbm, ⟨10, _⟩ => ⟨S1x256x256, .f32⟩
  | .hbm, ⟨11, _⟩ => ⟨S1x256x256, .f32⟩
  | .hbm, ⟨12, _⟩ => ⟨S1x256x256, .f32⟩
  | .hbm, ⟨13, _⟩ => ⟨S_, .f32⟩
  | .hbm, ⟨14, _⟩ => ⟨S1x256x256, .f32⟩
  | .hbm, ⟨15, _⟩ => ⟨S1x256x256, .f32⟩
  | .hbm, ⟨16, _⟩ => ⟨S1x256x256, .f32⟩
  | .hbm, ⟨17, _⟩ => ⟨S_, .f32⟩
  | .hbm, ⟨18, _⟩ => ⟨S1x256x256, .f32⟩
  | .hbm, ⟨19, _⟩ => ⟨S1x256x256, .f32⟩
  | .hbm, ⟨20, _⟩ => ⟨S1x256x256, .f32⟩
  | .hbm, ⟨21, _⟩ => ⟨S_, .f32⟩
  | .hbm, ⟨22, _⟩ => ⟨S1x256x256, .f32⟩
  | .hbm, ⟨23, _⟩ => ⟨S1x256x256, .f32⟩
  | .hbm, ⟨24, _⟩ => ⟨S_, .f32⟩
  | .hbm, ⟨25, _⟩ => ⟨S1x256x256, .f32⟩
  | .hbm, ⟨26, _⟩ => ⟨S1x256x256, .f32⟩
  | .hbm, ⟨27, _⟩ => ⟨S1x256x256, .f32⟩
  | .hbm, ⟨28, _⟩ => ⟨S_, .f32⟩
  | .hbm, ⟨29, _⟩ => ⟨S1x256x256, .f32⟩
  | .hbm, ⟨30, _⟩ => ⟨S1x256x256, .f32⟩
  | .hbm, ⟨31, _⟩ => ⟨S1x256x256, .f32⟩
  | .hbm, ⟨32, _⟩ => ⟨S_, .f32⟩
  | .hbm, ⟨33, _⟩ => ⟨S1x256x256, .f32⟩
  | .hbm, ⟨34, _⟩ => ⟨S1x256x256, .f32⟩
  | .hbm, ⟨35, _⟩ => ⟨S1x256x256, .f32⟩
  | .hbm, ⟨36, _⟩ => ⟨S_, .f32⟩
  | .hbm, ⟨37, _⟩ => ⟨S1x256x256, .f32⟩
  | .hbm, ⟨38, _⟩ => ⟨S1x256x256, .f32⟩
  | _, _ => ⟨S1x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel32.lean ====
abbrev S1x256x1024 : Shape := ⟨3, ![1, 256, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S1x256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference32Ideal.lean ====
abbrev S1x256x1024 : Shape := ⟨3, ![1, 256, 1024]⟩
abbrev S256x1024 : Shape := ⟨2, ![256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S_, .f32⟩
  | .hbm, ⟨7, _⟩ => ⟨S1x256x1024, .f32⟩
  | .hbm, ⟨8, _⟩ => ⟨S1x256x1024, .f32⟩
  | .hbm, ⟨9, _⟩ => ⟨S_, .f32⟩
  | .hbm, ⟨10, _⟩ => ⟨S1x256x1024, .f32⟩
  | .hbm, ⟨11, _⟩ => ⟨S1x256x1024, .f32⟩
  | .hbm, ⟨12, _⟩ => ⟨S1x256x1024, .f32⟩
  | .hbm, ⟨13, _⟩ => ⟨S_, .f32⟩
  | .hbm, ⟨14, _⟩ => ⟨S1x256x1024, .f32⟩
  | .hbm, ⟨15, _⟩ => ⟨S1x256x1024, .f32⟩
  | .hbm, ⟨16, _⟩ => ⟨S1x256x1024, .f32⟩
  | .hbm, ⟨17, _⟩ => ⟨S_, .f32⟩
  | .hbm, ⟨18, _⟩ => ⟨S1x256x1024, .f32⟩
  | .hbm, ⟨19, _⟩ => ⟨S1x256x1024, .f32⟩
  | .hbm, ⟨20, _⟩ => ⟨S1x256x1024, .f32⟩
  | .hbm, ⟨21, _⟩ => ⟨S_, .f32⟩
  | .hbm, ⟨22, _⟩ => ⟨S1x256x1024, .f32⟩
  | .hbm, ⟨23, _⟩ => ⟨S1x256x1024, .f32⟩
  | .hbm, ⟨24, _⟩ => ⟨S_, .f32⟩
  | .hbm, ⟨25, _⟩ => ⟨S1x256x1024, .f32⟩
  | .hbm, ⟨26, _⟩ => ⟨S1x256x1024, .f32⟩
  | .hbm, ⟨27, _⟩ => ⟨S1x256x1024, .f32⟩
  | .hbm, ⟨28, _⟩ => ⟨S_, .f32⟩
  | .hbm, ⟨29, _⟩ => ⟨S1x256x1024, .f32⟩
  | .hbm, ⟨30, _⟩ => ⟨S1x256x1024, .f32⟩
  | .hbm, ⟨31, _⟩ => ⟨S1x256x1024, .f32⟩
  | .hbm, ⟨32, _⟩ => ⟨S_, .f32⟩
  | .hbm, ⟨33, _⟩ => ⟨S1x256x1024, .f32⟩
  | .hbm, ⟨34, _⟩ => ⟨S1x256x1024, .f32⟩
  | .hbm, ⟨35, _⟩ => ⟨S1x256x1024, .f32⟩
  | .hbm, ⟨36, _⟩ => ⟨S_, .f32⟩
  | .hbm, ⟨37, _⟩ => ⟨S1x256x1024, .f32⟩
  | .hbm, ⟨38, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel33.lean ====
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference33Ideal.lean ====
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S_, .f32⟩
  | .hbm, ⟨7, _⟩ => ⟨S1x1024x1024, .f32⟩
  | .hbm, ⟨8, _⟩ => ⟨S1x1024x1024, .f32⟩
  | .hbm, ⟨9, _⟩ => ⟨S_, .f32⟩
  | .hbm, ⟨10, _⟩ => ⟨S1x1024x1024, .f32⟩
  | .hbm, ⟨11, _⟩ => ⟨S1x1024x1024, .f32⟩
  | .hbm, ⟨12, _⟩ => ⟨S1x1024x1024, .f32⟩
  | .hbm, ⟨13, _⟩ => ⟨S_, .f32⟩
  | .hbm, ⟨14, _⟩ => ⟨S1x1024x1024, .f32⟩
  | .hbm, ⟨15, _⟩ => ⟨S1x1024x1024, .f32⟩
  | .hbm, ⟨16, _⟩ => ⟨S1x1024x1024, .f32⟩
  | .hbm, ⟨17, _⟩ => ⟨S_, .f32⟩
  | .hbm, ⟨18, _⟩ => ⟨S1x1024x1024, .f32⟩
  | .hbm, ⟨19, _⟩ => ⟨S1x1024x1024, .f32⟩
  | .hbm, ⟨20, _⟩ => ⟨S1x1024x1024, .f32⟩
  | .hbm, ⟨21, _⟩ => ⟨S_, .f32⟩
  | .hbm, ⟨22, _⟩ => ⟨S1x1024x1024, .f32⟩
  | .hbm, ⟨23, _⟩ => ⟨S1x1024x1024, .f32⟩
  | .hbm, ⟨24, _⟩ => ⟨S_, .f32⟩
  | .hbm, ⟨25, _⟩ => ⟨S1x1024x1024, .f32⟩
  | .hbm, ⟨26, _⟩ => ⟨S1x1024x1024, .f32⟩
  | .hbm, ⟨27, _⟩ => ⟨S1x1024x1024, .f32⟩
  | .hbm, ⟨28, _⟩ => ⟨S_, .f32⟩
  | .hbm, ⟨29, _⟩ => ⟨S1x1024x1024, .f32⟩
  | .hbm, ⟨30, _⟩ => ⟨S1x1024x1024, .f32⟩
  | .hbm, ⟨31, _⟩ => ⟨S1x1024x1024, .f32⟩
  | .hbm, ⟨32, _⟩ => ⟨S_, .f32⟩
  | .hbm, ⟨33, _⟩ => ⟨S1x1024x1024, .f32⟩
  | .hbm, ⟨34, _⟩ => ⟨S1x1024x1024, .f32⟩
  | .hbm, ⟨35, _⟩ => ⟨S1x1024x1024, .f32⟩
  | .hbm, ⟨36, _⟩ => ⟨S_, .f32⟩
  | .hbm, ⟨37, _⟩ => ⟨S1x1024x1024, .f32⟩
  | .hbm, ⟨38, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel34.lean ====
abbrev S1x1024 : Shape := ⟨2, ![1, 1024]⟩
abbrev S1x3072 : Shape := ⟨2, ![1, 3072]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x32x16 : Shape := ⟨3, ![1, 32, 16]⟩
abbrev S1x512 : Shape := ⟨2, ![1, 512]⟩
abbrev S1024 : Shape := ⟨1, ![1024]⟩
abbrev S3072 : Shape := ⟨1, ![3072]⟩
abbrev S2048 : Shape := ⟨1, ![2048]⟩
abbrev S32 : Shape := ⟨1, ![32]⟩
abbrev S32768 : Shape := ⟨1, ![32768]⟩
abbrev S512 : Shape := ⟨1, ![512]⟩
abbrev S143392 : Shape := ⟨1, ![143392]⟩
abbrev S_ : Shape := ⟨0, ![]⟩
abbrev S262144 : Shape := ⟨1, ![262144]⟩
abbrev S256x1024 : Shape := ⟨2, ![256, 1024]⟩

abbrev nBuf : Space → Nat
  | .hbm => 132
  | .vmem => 8
  | .smem => 0
  | _ => 0

abbrev hbmTy0_0 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S1x3072, .f32⟩
  | 9 => ⟨S1x3072, .f32⟩
  | 10 => ⟨S1x3072, .f32⟩
  | 11 => ⟨S1x3072, .f32⟩
  | 12 => ⟨S1x32x64, .f32⟩
  | 13 => ⟨S1x32x64, .f32⟩
  | 14 => ⟨S1x32x64, .f32⟩
  | 15 => ⟨S1x32x64, .f32⟩
  | 16 => ⟨S1x32x64, .f32⟩
  | 17 => ⟨S1x32x64, .f32⟩
  | 18 => ⟨S1x32x64, .f32⟩
  | 19 => ⟨S1x32x64, .f32⟩
  | 20 => ⟨S1x32, .f32⟩
  | 21 => ⟨S1x32, .f32⟩
  | 22 => ⟨S1x32, .f32⟩
  | 23 => ⟨S1x32, .f32⟩
  | 24 => ⟨S1x32x64x16, .f32⟩
  | 25 => ⟨S1x32x64x16, .f32⟩
  | 26 => ⟨S1x32x64x16, .f32⟩
  | 27 => ⟨S1x32x64x16, .f32⟩
  | 28 => ⟨S1x32x64x16, .f32⟩
  | 29 => ⟨S1x32x64x16, .f32⟩
  | 30 => ⟨S1x32x64x16, .f32⟩
  | 31 => ⟨S1x32x64x16, .f32⟩
  | 32 => ⟨S1x32x16x64, .f32⟩
  | 33 => ⟨S1x32x16x64, .f32⟩
  | 34 => ⟨S1x32x16x64, .f32⟩
  | 35 => ⟨S1x32x16x64, .f32⟩
  | 36 => ⟨S1x32x16x64, .f32⟩
  | 37 => ⟨S1x32x16x64, .f32⟩
  | 38 => ⟨S1x32x16x64, .f32⟩
  | 39 => ⟨S1x32x16x64, .f32⟩
  | 40 => ⟨S1x32x16, .f32⟩
  | 41 => ⟨S1x32x16, .f32⟩
  | 42 => ⟨S1x32x16, .f32⟩
  | 43 => ⟨S1x32x16, .f32⟩
  | 44 => ⟨S1x512, .f32⟩
  | 45 => ⟨S1x512, .f32⟩
  | 46 => ⟨S1x512, .f32⟩
  | 47 => ⟨S1x512, .f32⟩
  | 48 => ⟨S1x1024, .f32⟩
  | 49 => ⟨S1x1024, .f32⟩
  | 50 => ⟨S1x1024, .f32⟩
  | 51 => ⟨S1x1024, .f32⟩
  | 52 => ⟨S1024, .f32⟩
  | 53 => ⟨S1024, .f32⟩
  | 54 => ⟨S1024, .f32⟩
  | 55 => ⟨S1024, .f32⟩
  | 56 => ⟨S1024, .f32⟩
  | 57 => ⟨S1024, .f32⟩
  | 58 => ⟨S3072, .f32⟩
  | 59 => ⟨S2048, .f32⟩
  | 60 => ⟨S2048, .f32⟩
  | 61 => ⟨S32, .f32⟩
  | 62 => ⟨S32768, .f32⟩
  | 63 => ⟨S32768, .f32⟩
  | 64 => ⟨S32768, .f32⟩
  | 65 => ⟨S32768, .f32⟩
  | 66 => ⟨S512, .f32⟩
  | 67 => ⟨S512, .f32⟩
  | 68 => ⟨S1024, .f32⟩
  | 69 => ⟨S143392, .f32⟩
  | 70 => ⟨S_, .i32⟩
  | 71 => ⟨S_, .f32⟩
  | 72 => ⟨S262144, .f32⟩
  | 73 => ⟨S256x1024, .f32⟩
  | 74 => ⟨S1024, .f32⟩
  | 75 => ⟨S1024, .f32⟩
  | 76 => ⟨S3072, .f32⟩
  | 77 => ⟨S2048, .f32⟩
  | 78 => ⟨S2048, .f32⟩
  | 79 => ⟨S32, .f32⟩
  | 80 => ⟨S32768, .f32⟩
  | 81 => ⟨S32768, .f32⟩
  | 82 => ⟨S32768, .f32⟩
  | 83 => ⟨S32768, .f32⟩
  | 84 => ⟨S512, .f32⟩
  | 85 => ⟨S512, .f32⟩
  | 86 => ⟨S1024, .f32⟩
  | 87 => ⟨S143392, .f32⟩
  | 88 => ⟨S_, .i32⟩
  | 89 => ⟨S_, .f32⟩
  | 90 => ⟨S262144, .f32⟩
  | 91 => ⟨S256x1024, .f32⟩
  | 92 => ⟨S1024, .f32⟩
  | 93 => ⟨S1024, .f32⟩
  | 94 => ⟨S3072, .f32⟩
  | 95 => ⟨S2048, .f32⟩
  | 96 => ⟨S2048, .f32⟩
  | 97 => ⟨S32, .f32⟩
  | 98 => ⟨S32768, .f32⟩
  | 99 => ⟨S32768, .f32⟩
  | 100 => ⟨S32768, .f32⟩
  | 101 => ⟨S32768, .f32⟩
  | 102 => ⟨S512, .f32⟩
  | 103 => ⟨S512, .f32⟩
  | 104 => ⟨S1024, .f32⟩
  | 105 => ⟨S143392, .f32⟩
  | 106 => ⟨S_, .i32⟩
  | 107 => ⟨S_, .f32⟩
  | 108 => ⟨S262144, .f32⟩
  | 109 => ⟨S256x1024, .f32⟩
  | 110 => ⟨S1024, .f32⟩
  | 111 => ⟨S1024, .f32⟩
  | 112 => ⟨S3072, .f32⟩
  | 113 => ⟨S2048, .f32⟩
  | 114 => ⟨S2048, .f32⟩
  | 115 => ⟨S32, .f32⟩
  | 116 => ⟨S32768, .f32⟩
  | 117 => ⟨S32768, .f32⟩
  | 118 => ⟨S32768, .f32⟩
  | 119 => ⟨S32768, .f32⟩
  | 120 => ⟨S512, .f32⟩
  | 121 => ⟨S512, .f32⟩
  | 122 => ⟨S1024, .f32⟩
  | 123 => ⟨S143392, .f32⟩
  | 124 => ⟨S_, .i32⟩
  | 125 => ⟨S_, .f32⟩
  | 126 => ⟨S262144, .f32⟩
  | 127 => ⟨S256x1024, .f32⟩
  | _ => ⟨S1x1024, .f32⟩

abbrev hbmTy0_1 (i : Nat) : BufTy := match i % 128 with
  | 0 => ⟨S256x1024, .f32⟩
  | 1 => ⟨S256x1024, .f32⟩
  | 2 => ⟨S256x1024, .f32⟩
  | 3 => ⟨S256x1024, .f32⟩
  | _ => ⟨S1x1024, .f32⟩

abbrev hbmTy (i : Nat) : BufTy := match i / 128 with
  | 0 => hbmTy0_0 i
  | 1 => hbmTy0_1 i
  | _ => ⟨S1x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_v0 : Ref sig .tc := ⟨.hbm, 56, rfl⟩
abbrev main_v1 : Ref sig .tc := ⟨.hbm, 57, rfl⟩
abbrev main_v2 : Ref sig .tc := ⟨.hbm, 58, rfl⟩
abbrev main_v3 : Ref sig .tc := ⟨.hbm, 59, rfl⟩
abbrev main_v4 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_c : Ref sig .tc := ⟨.hbm, 70, rfl⟩
abbrev main_call0_v0 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_c_0 : Ref sig .tc := ⟨.hbm, 88, rfl⟩
abbrev main_call1_v0 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_c_1 : Ref sig .tc := ⟨.hbm, 106, rfl⟩
abbrev main_call2_v0 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_c_2 : Ref sig .tc := ⟨.hbm, 124, rfl⟩
abbrev main_call3_v0 : Ref sig .tc := ⟨.hbm, 125, rfl⟩
abbrev main_v62 : Ref sig .tc := ⟨.hbm, 126, rfl⟩
abbrev main_v63 : Ref sig .tc := ⟨.hbm, 127, rfl⟩
abbrev main_v64_0 : Ref sig .tc := ⟨.hbm, 128, rfl⟩
abbrev main_v64_1 : Ref sig .tc := ⟨.hbm, 129, rfl⟩
abbrev main_v64_2 : Ref sig .tc := ⟨.hbm, 130, rfl⟩
abbrev main_v64_3 : Ref sig .tc := ⟨.hbm, 131, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference34Ideal.lean ====
abbrev S1x1024 : Shape := ⟨2, ![1, 1024]⟩
abbrev S1x3072 : Shape := ⟨2, ![1, 3072]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x32x16 : Shape := ⟨3, ![1, 32, 16]⟩
abbrev S1x512 : Shape := ⟨2, ![1, 512]⟩
abbrev S1024 : Shape := ⟨1, ![1024]⟩
abbrev S_ : Shape := ⟨0, ![]⟩
abbrev S3072 : Shape := ⟨1, ![3072]⟩
abbrev S2048 : Shape := ⟨1, ![2048]⟩
abbrev S32 : Shape := ⟨1, ![32]⟩
abbrev S32768 : Shape := ⟨1, ![32768]⟩
abbrev S512 : Shape := ⟨1, ![512]⟩
abbrev S143392 : Shape := ⟨1, ![143392]⟩
abbrev S262144 : Shape := ⟨1, ![262144]⟩
abbrev S256x1024 : Shape := ⟨2, ![256, 1024]⟩

abbrev nBuf : Space → Nat
  | .hbm => 590
  | .vmem => 0
  | .smem => 0
  | _ => 0

abbrev hbmTy0_0 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S1x3072, .f32⟩
  | 9 => ⟨S1x3072, .f32⟩
  | 10 => ⟨S1x3072, .f32⟩
  | 11 => ⟨S1x3072, .f32⟩
  | 12 => ⟨S1x32x64, .f32⟩
  | 13 => ⟨S1x32x64, .f32⟩
  | 14 => ⟨S1x32x64, .f32⟩
  | 15 => ⟨S1x32x64, .f32⟩
  | 16 => ⟨S1x32x64, .f32⟩
  | 17 => ⟨S1x32x64, .f32⟩
  | 18 => ⟨S1x32x64, .f32⟩
  | 19 => ⟨S1x32x64, .f32⟩
  | 20 => ⟨S1x32, .f32⟩
  | 21 => ⟨S1x32, .f32⟩
  | 22 => ⟨S1x32, .f32⟩
  | 23 => ⟨S1x32, .f32⟩
  | 24 => ⟨S1x32x64x16, .f32⟩
  | 25 => ⟨S1x32x64x16, .f32⟩
  | 26 => ⟨S1x32x64x16, .f32⟩
  | 27 => ⟨S1x32x64x16, .f32⟩
  | 28 => ⟨S1x32x64x16, .f32⟩
  | 29 => ⟨S1x32x64x16, .f32⟩
  | 30 => ⟨S1x32x64x16, .f32⟩
  | 31 => ⟨S1x32x64x16, .f32⟩
  | 32 => ⟨S1x32x16x64, .f32⟩
  | 33 => ⟨S1x32x16x64, .f32⟩
  | 34 => ⟨S1x32x16x64, .f32⟩
  | 35 => ⟨S1x32x16x64, .f32⟩
  | 36 => ⟨S1x32x16x64, .f32⟩
  | 37 => ⟨S1x32x16x64, .f32⟩
  | 38 => ⟨S1x32x16x64, .f32⟩
  | 39 => ⟨S1x32x16x64, .f32⟩
  | 40 => ⟨S1x32x16, .f32⟩
  | 41 => ⟨S1x32x16, .f32⟩
  | 42 => ⟨S1x32x16, .f32⟩
  | 43 => ⟨S1x32x16, .f32⟩
  | 44 => ⟨S1x512, .f32⟩
  | 45 => ⟨S1x512, .f32⟩
  | 46 => ⟨S1x512, .f32⟩
  | 47 => ⟨S1x512, .f32⟩
  | 48 => ⟨S1x1024, .f32⟩
  | 49 => ⟨S1x1024, .f32⟩
  | 50 => ⟨S1x1024, .f32⟩
  | 51 => ⟨S1x1024, .f32⟩
  | 52 => ⟨S1024, .f32⟩
  | 53 => ⟨S1024, .f32⟩
  | 54 => ⟨S1024, .f32⟩
  | 55 => ⟨S1024, .f32⟩
  | 56 => ⟨S_, .f32⟩
  | 57 => ⟨S1x1024, .f32⟩
  | 58 => ⟨S1x1024, .f32⟩
  | 59 => ⟨S_, .f32⟩
  | 60 => ⟨S1x1024, .f32⟩
  | 61 => ⟨S1x1024, .f32⟩
  | 62 => ⟨S1x1024, .f32⟩
  | 63 => ⟨S_, .f32⟩
  | 64 => ⟨S1x1024, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S1x1024, .f32⟩
  | 78 => ⟨S_, .f32⟩
  | 79 => ⟨S1x1024, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S1x1024, .f32⟩
  | 86 => ⟨S_, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S_, .f32⟩
  | 108 => ⟨S1x1024, .f32⟩
  | 109 => ⟨S1x1024, .f32⟩
  | 110 => ⟨S1x1024, .f32⟩
  | 111 => ⟨S_, .f32⟩
  | 112 => ⟨S1x1024, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S1x1024, .f32⟩
  | 119 => ⟨S_, .f32⟩
  | 120 => ⟨S1x1024, .f32⟩
  | 121 => ⟨S1x1024, .f32⟩
  | 122 => ⟨S_, .f32⟩
  | 123 => ⟨S1x3072, .f32⟩
  | 124 => ⟨S1x3072, .f32⟩
  | 125 => ⟨S_, .f32⟩
  | 126 => ⟨S1x3072, .f32⟩
  | 127 => ⟨S1x3072, .f32⟩
  | _ => ⟨S1x1024, .f32⟩

abbrev hbmTy0_1 (i : Nat) : BufTy := match i % 128 with
  | 0 => ⟨S1x3072, .f32⟩
  | 1 => ⟨S_, .f32⟩
  | 2 => ⟨S1x3072, .f32⟩
  | 3 => ⟨S1x3072, .f32⟩
  | 4 => ⟨S1x3072, .f32⟩
  | 5 => ⟨S_, .f32⟩
  | 6 => ⟨S1x3072, .f32⟩
  | 7 => ⟨S1x3072, .f32⟩
  | 8 => ⟨S1x3072, .f32⟩
  | 9 => ⟨S_, .f32⟩
  | 10 => ⟨S1x3072, .f32⟩
  | 11 => ⟨S1x3072, .f32⟩
  | 12 => ⟨S_, .f32⟩
  | 13 => ⟨S1x3072, .f32⟩
  | 14 => ⟨S1x3072, .f32⟩
  | 15 => ⟨S1x3072, .f32⟩
  | 16 => ⟨S_, .f32⟩
  | 17 => ⟨S1x3072, .f32⟩
  | 18 => ⟨S1x3072, .f32⟩
  | 19 => ⟨S1x3072, .f32⟩
  | 20 => ⟨S_, .f32⟩
  | 21 => ⟨S1x3072, .f32⟩
  | 22 => ⟨S1x3072, .f32⟩
  | 23 => ⟨S1x3072, .f32⟩
  | 24 => ⟨S_, .f32⟩
  | 25 => ⟨S1x3072, .f32⟩
  | 26 => ⟨S1x3072, .f32⟩
  | 27 => ⟨S_, .f32⟩
  | 28 => ⟨S1x32x64, .f32⟩
  | 29 => ⟨S1x32x64, .f32⟩
  | 30 => ⟨S_, .f32⟩
  | 31 => ⟨S1x32x64, .f32⟩
  | 32 => ⟨S1x32x64, .f32⟩
  | 33 => ⟨S1x32x64, .f32⟩
  | 34 => ⟨S_, .f32⟩
  | 35 => ⟨S1x32x64, .f32⟩
  | 36 => ⟨S1x32x64, .f32⟩
  | 37 => ⟨S1x32x64, .f32⟩
  | 38 => ⟨S_, .f32⟩
  | 39 => ⟨S1x32x64, .f32⟩
  | 40 => ⟨S1x32x64, .f32⟩
  | 41 => ⟨S1x32x64, .f32⟩
  | 42 => ⟨S_, .f32⟩
  | 43 => ⟨S1x32x64, .f32⟩
  | 44 => ⟨S1x32x64, .f32⟩
  | 45 => ⟨S_, .f32⟩
  | 46 => ⟨S1x32x64, .f32⟩
  | 47 => ⟨S1x32x64, .f32⟩
  | 48 => ⟨S1x32x64, .f32⟩
  | 49 => ⟨S_, .f32⟩
  | 50 => ⟨S1x32x64, .f32⟩
  | 51 => ⟨S1x32x64, .f32⟩
  | 52 => ⟨S1x32x64, .f32⟩
  | 53 => ⟨S_, .f32⟩
  | 54 => ⟨S1x32x64, .f32⟩
  | 55 => ⟨S1x32x64, .f32⟩
  | 56 => ⟨S1x32x64, .f32⟩
  | 57 => ⟨S_, .f32⟩
  | 58 => ⟨S1x32x64, .f32⟩
  | 59 => ⟨S1x32x64, .f32⟩
  | 60 => ⟨S_, .f32⟩
  | 61 => ⟨S1x32x64, .f32⟩
  | 62 => ⟨S1x32x64, .f32⟩
  | 63 => ⟨S_, .f32⟩
  | 64 => ⟨S1x32x64, .f32⟩
  | 65 => ⟨S1x32x64, .f32⟩
  | 66 => ⟨S1x32x64, .f32⟩
  | 67 => ⟨S_, .f32⟩
  | 68 => ⟨S1x32x64, .f32⟩
  | 69 => ⟨S1x32x64, .f32⟩
  | 70 => ⟨S1x32x64, .f32⟩
  | 71 => ⟨S_, .f32⟩
  | 72 => ⟨S1x32x64, .f32⟩
  | 73 => ⟨S1x32x64, .f32⟩
  | 74 => ⟨S1x32x64, .f32⟩
  | 75 => ⟨S_, .f32⟩
  | 76 => ⟨S1x32x64, .f32⟩
  | 77 => ⟨S1x32x64, .f32⟩
  | 78 => ⟨S_, .f32⟩
  | 79 => ⟨S1x32x64, .f32⟩
  | 80 => ⟨S1x32x64, .f32⟩
  | 81 => ⟨S1x32x64, .f32⟩
  | 82 => ⟨S_, .f32⟩
  | 83 => ⟨S1x32x64, .f32⟩
  | 84 => ⟨S1x32x64, .f32⟩
  | 85 => ⟨S1x32x64, .f32⟩
  | 86 => ⟨S_, .f32⟩
  | 87 => ⟨S1x32x64, .f32⟩
  | 88 => ⟨S1x32x64, .f32⟩
  | 89 => ⟨S1x32x64, .f32⟩
  | 90 => ⟨S_, .f32⟩
  | 91 => ⟨S1x32x64, .f32⟩
  | 92 => ⟨S1x32x64, .f32⟩
  | 93 => ⟨S_, .f32⟩
  | 94 => ⟨S1x32, .f32⟩
  | 95 => ⟨S1x32, .f32⟩
  | 96 => ⟨S_, .f32⟩
  | 97 => ⟨S1x32, .f32⟩
  | 98 => ⟨S1x32, .f32⟩
  | 99 => ⟨S1x32, .f32⟩
  | 100 => ⟨S_, .f32⟩
  | 101 => ⟨S1x32, .f32⟩
  | 102 => ⟨S1x32, .f32⟩
  | 103 => ⟨S1x32, .f32⟩
  | 104 => ⟨S_, .f32⟩
  | 105 => ⟨S1x32, .f32⟩
  | 106 => ⟨S1x32, .f32⟩
  | 107 => ⟨S1x32, .f32⟩
  | 108 => ⟨S_, .f32⟩
  | 109 => ⟨S1x32, .f32⟩
  | 110 => ⟨S1x32, .f32⟩
  | 111 => ⟨S_, .f32⟩
  | 112 => ⟨S1x32, .f32⟩
  | 113 => ⟨S1x32, .f32⟩
  | 114 => ⟨S1x32, .f32⟩
  | 115 => ⟨S_, .f32⟩
  | 116 => ⟨S1x32, .f32⟩
  | 117 => ⟨S1x32, .f32⟩
  | 118 => ⟨S1x32, .f32⟩
  | 119 => ⟨S_, .f32⟩
  | 120 => ⟨S1x32, .f32⟩
  | 121 => ⟨S1x32, .f32⟩
  | 122 => ⟨S1x32, .f32⟩
  | 123 => ⟨S_, .f32⟩
  | 124 => ⟨S1x32, .f32⟩
  | 125 => ⟨S1x32, .f32⟩
  | 126 => ⟨S_, .f32⟩
  | 127 => ⟨S1x32x64x16, .f32⟩
  | _ => ⟨S1x1024, .f32⟩

abbrev hbmTy0_2 (i : Nat) : BufTy := match i % 128 with
  | 0 => ⟨S1x32x64x16, .f32⟩
  | 1 => ⟨S_, .f32⟩
  | 2 => ⟨S1x32x64x16, .f32⟩
  | 3 => ⟨S1x32x64x16, .f32⟩
  | 4 => ⟨S1x32x64x16, .f32⟩
  | 5 => ⟨S_, .f32⟩
  | 6 => ⟨S1x32x64x16, .f32⟩
  | 7 => ⟨S1x32x64x16, .f32⟩
  | 8 => ⟨S1x32x64x16, .f32⟩
  | 9 => ⟨S_, .f32⟩
  | 10 => ⟨S1x32x64x16, .f32⟩
  | 11 => ⟨S1x32x64x16, .f32⟩
  | 12 => ⟨S1x32x64x16, .f32⟩
  | 13 => ⟨S_, .f32⟩
  | 14 => ⟨S1x32x64x16, .f32⟩
  | 15 => ⟨S1x32x64x16, .f32⟩
  | 16 => ⟨S_, .f32⟩
  | 17 => ⟨S1x32x64x16, .f32⟩
  | 18 => ⟨S1x32x64x16, .f32⟩
  | 19 => ⟨S1x32x64x16, .f32⟩
  | 20 => ⟨S_, .f32⟩
  | 21 => ⟨S1x32x64x16, .f32⟩
  | 22 => ⟨S1x32x64x16, .f32⟩
  | 23 => ⟨S1x32x64x16, .f32⟩
  | 24 => ⟨S_, .f32⟩
  | 25 => ⟨S1x32x64x16, .f32⟩
  | 26 => ⟨S1x32x64x16, .f32⟩
  | 27 => ⟨S1x32x64x16, .f32⟩
  | 28 => ⟨S_, .f32⟩
  | 29 => ⟨S1x32x64x16, .f32⟩
  | 30 => ⟨S1x32x64x16, .f32⟩
  | 31 => ⟨S_, .f32⟩
  | 32 => ⟨S1x32x64x16, .f32⟩
  | 33 => ⟨S1x32x64x16, .f32⟩
  | 34 => ⟨S_, .f32⟩
  | 35 => ⟨S1x32x64x16, .f32⟩
  | 36 => ⟨S1x32x64x16, .f32⟩
  | 37 => ⟨S1x32x64x16, .f32⟩
  | 38 => ⟨S_, .f32⟩
  | 39 => ⟨S1x32x64x16, .f32⟩
  | 40 => ⟨S1x32x64x16, .f32⟩
  | 41 => ⟨S1x32x64x16, .f32⟩
  | 42 => ⟨S_, .f32⟩
  | 43 => ⟨S1x32x64x16, .f32⟩
  | 44 => ⟨S1x32x64x16, .f32⟩
  | 45 => ⟨S1x32x64x16, .f32⟩
  | 46 => ⟨S_, .f32⟩
  | 47 => ⟨S1x32x64x16, .f32⟩
  | 48 => ⟨S1x32x64x16, .f32⟩
  | 49 => ⟨S_, .f32⟩
  | 50 => ⟨S1x32x64x16, .f32⟩
  | 51 => ⟨S1x32x64x16, .f32⟩
  | 52 => ⟨S1x32x64x16, .f32⟩
  | 53 => ⟨S_, .f32⟩
  | 54 => ⟨S1x32x64x16, .f32⟩
  | 55 => ⟨S1x32x64x16, .f32⟩
  | 56 => ⟨S1x32x64x16, .f32⟩
  | 57 => ⟨S_, .f32⟩
  | 58 => ⟨S1x32x64x16, .f32⟩
  | 59 => ⟨S1x32x64x16, .f32⟩
  | 60 => ⟨S1x32x64x16, .f32⟩
  | 61 => ⟨S_, .f32⟩
  | 62 => ⟨S1x32x64x16, .f32⟩
  | 63 => ⟨S1x32x64x16, .f32⟩
  | 64 => ⟨S_, .f32⟩
  | 65 => ⟨S1x32x16x64, .f32⟩
  | 66 => ⟨S1x32x16x64, .f32⟩
  | 67 => ⟨S_, .f32⟩
  | 68 => ⟨S1x32x16x64, .f32⟩
  | 69 => ⟨S1x32x16x64, .f32⟩
  | 70 => ⟨S1x32x16x64, .f32⟩
  | 71 => ⟨S_, .f32⟩
  | 72 => ⟨S1x32x16x64, .f32⟩
  | 73 => ⟨S1x32x16x64, .f32⟩
  | 74 => ⟨S1x32x16x64, .f32⟩
  | 75 => ⟨S_, .f32⟩
  | 76 => ⟨S1x32x16x64, .f32⟩
  | 77 => ⟨S1x32x16x64, .f32⟩
  | 78 => ⟨S1x32x16x64, .f32⟩
  | 79 => ⟨S_, .f32⟩
  | 80 => ⟨S1x32x16x64, .f32⟩
  | 81 => ⟨S1x32x16x64, .f32⟩
  | 82 => ⟨S_, .f32⟩
  | 83 => ⟨S1x32x16x64, .f32⟩
  | 84 => ⟨S1x32x16x64, .f32⟩
  | 85 => ⟨S1x32x16x64, .f32⟩
  | 86 => ⟨S_, .f32⟩
  | 87 => ⟨S1x32x16x64, .f32⟩
  | 88 => ⟨S1x32x16x64, .f32⟩
  | 89 => ⟨S1x32x16x64, .f32⟩
  | 90 => ⟨S_, .f32⟩
  | 91 => ⟨S1x32x16x64, .f32⟩
  | 92 => ⟨S1x32x16x64, .f32⟩
  | 93 => ⟨S1x32x16x64, .f32⟩
  | 94 => ⟨S_, .f32⟩
  | 95 => ⟨S1x32x16x64, .f32⟩
  | 96 => ⟨S1x32x16x64, .f32⟩
  | 97 => ⟨S_, .f32⟩
  | 98 => ⟨S1x32x16x64, .f32⟩
  | 99 => ⟨S1x32x16x64, .f32⟩
  | 100 => ⟨S_, .f32⟩
  | 101 => ⟨S1x32x16x64, .f32⟩
  | 102 => ⟨S1x32x16x64, .f32⟩
  | 103 => ⟨S1x32x16x64, .f32⟩
  | 104 => ⟨S_, .f32⟩
  | 105 => ⟨S1x32x16x64, .f32⟩
  | 106 => ⟨S1x32x16x64, .f32⟩
  | 107 => ⟨S1x32x16x64, .f32⟩
  | 108 => ⟨S_, .f32⟩
  | 109 => ⟨S1x32x16x64, .f32⟩
  | 110 => ⟨S1x32x16x64, .f32⟩
  | 111 => ⟨S1x32x16x64, .f32⟩
  | 112 => ⟨S_, .f32⟩
  | 113 => ⟨S1x32x16x64, .f32⟩
  | 114 => ⟨S1x32x16x64, .f32⟩
  | 115 => ⟨S_, .f32⟩
  | 116 => ⟨S1x32x16x64, .f32⟩
  | 117 => ⟨S1x32x16x64, .f32⟩
  | 118 => ⟨S1x32x16x64, .f32⟩
  | 119 => ⟨S_, .f32⟩
  | 120 => ⟨S1x32x16x64, .f32⟩
  | 121 => ⟨S1x32x16x64, .f32⟩
  | 122 => ⟨S1x32x16x64, .f32⟩
  | 123 => ⟨S_, .f32⟩
  | 124 => ⟨S1x32x16x64, .f32⟩
  | 125 => ⟨S1x32x16x64, .f32⟩
  | 126 => ⟨S1x32x16x64, .f32⟩
  | 127 => ⟨S_, .f32⟩
  | _ => ⟨S1x1024, .f32⟩

abbrev hbmTy0_3 (i : Nat) : BufTy := match i % 128 with
  | 0 => ⟨S1x32x16x64, .f32⟩
  | 1 => ⟨S1x32x16x64, .f32⟩
  | 2 => ⟨S_, .f32⟩
  | 3 => ⟨S1x32x16, .f32⟩
  | 4 => ⟨S1x32x16, .f32⟩
  | 5 => ⟨S_, .f32⟩
  | 6 => ⟨S1x32x16, .f32⟩
  | 7 => ⟨S1x32x16, .f32⟩
  | 8 => ⟨S1x32x16, .f32⟩
  | 9 => ⟨S_, .f32⟩
  | 10 => ⟨S1x32x16, .f32⟩
  | 11 => ⟨S1x32x16, .f32⟩
  | 12 => ⟨S1x32x16, .f32⟩
  | 13 => ⟨S_, .f32⟩
  | 14 => ⟨S1x32x16, .f32⟩
  | 15 => ⟨S1x32x16, .f32⟩
  | 16 => ⟨S1x32x16, .f32⟩
  | 17 => ⟨S_, .f32⟩
  | 18 => ⟨S1x32x16, .f32⟩
  | 19 => ⟨S1x32x16, .f32⟩
  | 20 => ⟨S_, .f32⟩
  | 21 => ⟨S1x32x16, .f32⟩
  | 22 => ⟨S1x32x16, .f32⟩
  | 23 => ⟨S1x32x16, .f32⟩
  | 24 => ⟨S_, .f32⟩
  | 25 => ⟨S1x32x16, .f32⟩
  | 26 => ⟨S1x32x16, .f32⟩
  | 27 => ⟨S1x32x16, .f32⟩
  | 28 => ⟨S_, .f32⟩
  | 29 => ⟨S1x32x16, .f32⟩
  | 30 => ⟨S1x32x16, .f32⟩
  | 31 => ⟨S1x32x16, .f32⟩
  | 32 => ⟨S_, .f32⟩
  | 33 => ⟨S1x32x16, .f32⟩
  | 34 => ⟨S1x32x16, .f32⟩
  | 35 => ⟨S_, .f32⟩
  | 36 => ⟨S1x512, .f32⟩
  | 37 => ⟨S1x512, .f32⟩
  | 38 => ⟨S_, .f32⟩
  | 39 => ⟨S1x512, .f32⟩
  | 40 => ⟨S1x512, .f32⟩
  | 41 => ⟨S1x512, .f32⟩
  | 42 => ⟨S_, .f32⟩
  | 43 => ⟨S1x512, .f32⟩
  | 44 => ⟨S1x512, .f32⟩
  | 45 => ⟨S1x512, .f32⟩
  | 46 => ⟨S_, .f32⟩
  | 47 => ⟨S1x512, .f32⟩
  | 48 => ⟨S1x512, .f32⟩
  | 49 => ⟨S1x512, .f32⟩
  | 50 => ⟨S_, .f32⟩
  | 51 => ⟨S1x512, .f32⟩
  | 52 => ⟨S1x512, .f32⟩
  | 53 => ⟨S_, .f32⟩
  | 54 => ⟨S1x512, .f32⟩
  | 55 => ⟨S1x512, .f32⟩
  | 56 => ⟨S1x512, .f32⟩
  | 57 => ⟨S_, .f32⟩
  | 58 => ⟨S1x512, .f32⟩
  | 59 => ⟨S1x512, .f32⟩
  | 60 => ⟨S1x512, .f32⟩
  | 61 => ⟨S_, .f32⟩
  | 62 => ⟨S1x512, .f32⟩
  | 63 => ⟨S1x512, .f32⟩
  | 64 => ⟨S1x512, .f32⟩
  | 65 => ⟨S_, .f32⟩
  | 66 => ⟨S1x512, .f32⟩
  | 67 => ⟨S1x512, .f32⟩
  | 68 => ⟨S_, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S_, .f32⟩
  | 87 => ⟨S1x1024, .f32⟩
  | 88 => ⟨S1x1024, .f32⟩
  | 89 => ⟨S1x1024, .f32⟩
  | 90 => ⟨S_, .f32⟩
  | 91 => ⟨S1x1024, .f32⟩
  | 92 => ⟨S1x1024, .f32⟩
  | 93 => ⟨S1x1024, .f32⟩
  | 94 => ⟨S_, .f32⟩
  | 95 => ⟨S1x1024, .f32⟩
  | 96 => ⟨S1x1024, .f32⟩
  | 97 => ⟨S1x1024, .f32⟩
  | 98 => ⟨S_, .f32⟩
  | 99 => ⟨S1x1024, .f32⟩
  | 100 => ⟨S1x1024, .f32⟩
  | 101 => ⟨S_, .f32⟩
  | 102 => ⟨S1024, .f32⟩
  | 103 => ⟨S1024, .f32⟩
  | 104 => ⟨S_, .f32⟩
  | 105 => ⟨S1024, .f32⟩
  | 106 => ⟨S1024, .f32⟩
  | 107 => ⟨S1024, .f32⟩
  | 108 => ⟨S_, .f32⟩
  | 109 => ⟨S1024, .f32⟩
  | 110 => ⟨S1024, .f32⟩
  | 111 => ⟨S1024, .f32⟩
  | 112 => ⟨S_, .f32⟩
  | 113 => ⟨S1024, .f32⟩
  | 114 => ⟨S1024, .f32⟩
  | 115 => ⟨S1024, .f32⟩
  | 116 => ⟨S_, .f32⟩
  | 117 => ⟨S1024, .f32⟩
  | 118 => ⟨S1024, .f32⟩
  | 119 => ⟨S_, .f32⟩
  | 120 => ⟨S1024, .f32⟩
  | 121 => ⟨S1024, .f32⟩
  | 122 => ⟨S1024, .f32⟩
  | 123 => ⟨S_, .f32⟩
  | 124 => ⟨S1024, .f32⟩
  | 125 => ⟨S1024, .f32⟩
  | 126 => ⟨S1024, .f32⟩
  | 127 => ⟨S_, .f32⟩
  | _ => ⟨S1x1024, .f32⟩

abbrev hbmTy0_4 (i : Nat) : BufTy := match i % 128 with
  | 0 => ⟨S1024, .f32⟩
  | 1 => ⟨S1024, .f32⟩
  | 2 => ⟨S1024, .f32⟩
  | 3 => ⟨S_, .f32⟩
  | 4 => ⟨S1024, .f32⟩
  | 5 => ⟨S1024, .f32⟩
  | 6 => ⟨S1024, .f32⟩
  | 7 => ⟨S1024, .f32⟩
  | 8 => ⟨S3072, .f32⟩
  | 9 => ⟨S2048, .f32⟩
  | 10 => ⟨S2048, .f32⟩
  | 11 => ⟨S32, .f32⟩
  | 12 => ⟨S32768, .f32⟩
  | 13 => ⟨S32768, .f32⟩
  | 14 => ⟨S32768, .f32⟩
  | 15 => ⟨S32768, .f32⟩
  | 16 => ⟨S512, .f32⟩
  | 17 => ⟨S512, .f32⟩
  | 18 => ⟨S1024, .f32⟩
  | 19 => ⟨S143392, .f32⟩
  | 20 => ⟨S_, .i32⟩
  | 21 => ⟨S_, .f32⟩
  | 22 => ⟨S262144, .f32⟩
  | 23 => ⟨S256x1024, .f32⟩
  | 24 => ⟨S1024, .f32⟩
  | 25 => ⟨S1024, .f32⟩
  | 26 => ⟨S3072, .f32⟩
  | 27 => ⟨S2048, .f32⟩
  | 28 => ⟨S2048, .f32⟩
  | 29 => ⟨S32, .f32⟩
  | 30 => ⟨S32768, .f32⟩
  | 31 => ⟨S32768, .f32⟩
  | 32 => ⟨S32768, .f32⟩
  | 33 => ⟨S32768, .f32⟩
  | 34 => ⟨S512, .f32⟩
  | 35 => ⟨S512, .f32⟩
  | 36 => ⟨S1024, .f32⟩
  | 37 => ⟨S143392, .f32⟩
  | 38 => ⟨S_, .i32⟩
  | 39 => ⟨S_, .f32⟩
  | 40 => ⟨S262144, .f32⟩
  | 41 => ⟨S256x1024, .f32⟩
  | 42 => ⟨S1024, .f32⟩
  | 43 => ⟨S1024, .f32⟩
  | 44 => ⟨S3072, .f32⟩
  | 45 => ⟨S2048, .f32⟩
  | 46 => ⟨S2048, .f32⟩
  | 47 => ⟨S32, .f32⟩
  | 48 => ⟨S32768, .f32⟩
  | 49 => ⟨S32768, .f32⟩
  | 50 => ⟨S32768, .f32⟩
  | 51 => ⟨S32768, .f32⟩
  | 52 => ⟨S512, .f32⟩
  | 53 => ⟨S512, .f32⟩
  | 54 => ⟨S1024, .f32⟩
  | 55 => ⟨S143392, .f32⟩
  | 56 => ⟨S_, .i32⟩
  | 57 => ⟨S_, .f32⟩
  | 58 => ⟨S262144, .f32⟩
  | 59 => ⟨S256x1024, .f32⟩
  | 60 => ⟨S1024, .f32⟩
  | 61 => ⟨S1024, .f32⟩
  | 62 => ⟨S3072, .f32⟩
  | 63 => ⟨S2048, .f32⟩
  | 64 => ⟨S2048, .f32⟩
  | 65 => ⟨S32, .f32⟩
  | 66 => ⟨S32768, .f32⟩
  | 67 => ⟨S32768, .f32⟩
  | 68 => ⟨S32768, .f32⟩
  | 69 => ⟨S32768, .f32⟩
  | 70 => ⟨S512, .f32⟩
  | 71 => ⟨S512, .f32⟩
  | 72 => ⟨S1024, .f32⟩
  | 73 => ⟨S143392, .f32⟩
  | 74 => ⟨S_, .i32⟩
  | 75 => ⟨S_, .f32⟩
  | 76 => ⟨S262144, .f32⟩
  | 77 => ⟨S256x1024, .f32⟩
  | _ => ⟨S1x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_cst : Ref sig .tc := ⟨.hbm, 56, rfl⟩
abbrev main_v0 : Ref sig .tc := ⟨.hbm, 57, rfl⟩
abbrev main_v1 : Ref sig .tc := ⟨.hbm, 58, rfl⟩
abbrev main_cst_0 : Ref sig .tc := ⟨.hbm, 59, rfl⟩
abbrev main_v2 : Ref sig .tc := ⟨.hbm, 60, rfl⟩
abbrev main_v3 : Ref sig .tc := ⟨.hbm, 61, rfl⟩
abbrev main_v4 : Ref sig .tc := ⟨.hbm, 62, rfl⟩
abbrev main_cst_1 : Ref sig .tc := ⟨.hbm, 63, rfl⟩
abbrev main_v5 : Ref sig .tc := ⟨.hbm, 64, rfl⟩
abbrev main_v6 : Ref sig .tc := ⟨.hbm, 65, rfl⟩
abbrev main_v7 : Ref sig .tc := ⟨.hbm, 66, rfl⟩
abbrev main_cst_2 : Ref sig .tc := ⟨.hbm, 67, rfl⟩
abbrev main_v8 : Ref sig .tc := ⟨.hbm, 68, rfl⟩
abbrev main_v9 : Ref sig .tc := ⟨.hbm, 69, rfl⟩
abbrev main_v10 : Ref sig .tc := ⟨.hbm, 70, rfl⟩
abbrev main_cst_3 : Ref sig .tc := ⟨.hbm, 71, rfl⟩
abbrev main_v11 : Ref sig .tc := ⟨.hbm, 72, rfl⟩
abbrev main_v12 : Ref sig .tc := ⟨.hbm, 73, rfl⟩
abbrev main_cst_4 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_cst_5 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_cst_6 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_cst_7 : Ref sig .tc := ⟨.hbm, 86, rfl⟩
abbrev main_v22 : Ref sig .tc := ⟨.hbm, 87, rfl⟩
abbrev main_v23 : Ref sig .tc := ⟨.hbm, 88, rfl⟩
abbrev main_cst_8 : Ref sig .tc := ⟨.hbm, 89, rfl⟩
abbrev main_v24 : Ref sig .tc := ⟨.hbm, 90, rfl⟩
abbrev main_v25 : Ref sig .tc := ⟨.hbm, 91, rfl⟩
abbrev main_cst_9 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_cst_10 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_cst_11 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_cst_12 : Ref sig .tc := ⟨.hbm, 104, rfl⟩
abbrev main_v35 : Ref sig .tc := ⟨.hbm, 105, rfl⟩
abbrev main_v36 : Ref sig .tc := ⟨.hbm, 106, rfl⟩
abbrev main_cst_13 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_cst_14 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_cst_15 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_cst_16 : Ref sig .tc := ⟨.hbm, 119, rfl⟩
abbrev main_v46 : Ref sig .tc := ⟨.hbm, 120, rfl⟩
abbrev main_v47 : Ref sig .tc := ⟨.hbm, 121, rfl⟩
abbrev main_cst_17 : Ref sig .tc := ⟨.hbm, 122, rfl⟩
abbrev main_v48 : Ref sig .tc := ⟨.hbm, 123, rfl⟩
abbrev main_v49 : Ref sig .tc := ⟨.hbm, 124, rfl⟩
abbrev main_cst_18 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_cst_19 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_cst_20 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_cst_21 : Ref sig .tc := ⟨.hbm, 137, rfl⟩
abbrev main_v59 : Ref sig .tc := ⟨.hbm, 138, rfl⟩
abbrev main_v60 : Ref sig .tc := ⟨.hbm, 139, rfl⟩
abbrev main_cst_22 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_cst_23 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_cst_24 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_cst_25 : Ref sig .tc := ⟨.hbm, 152, rfl⟩
abbrev main_v70 : Ref sig .tc := ⟨.hbm, 153, rfl⟩
abbrev main_v71 : Ref sig .tc := ⟨.hbm, 154, rfl⟩
abbrev main_cst_26 : Ref sig .tc := ⟨.hbm, 155, rfl⟩
abbrev main_v72 : Ref sig .tc := ⟨.hbm, 156, rfl⟩
abbrev main_v73 : Ref sig .tc := ⟨.hbm, 157, rfl⟩
abbrev main_cst_27 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_cst_28 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_cst_29 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_cst_30 : Ref sig .tc := ⟨.hbm, 170, rfl⟩
abbrev main_v83 : Ref sig .tc := ⟨.hbm, 171, rfl⟩
abbrev main_v84 : Ref sig .tc := ⟨.hbm, 172, rfl⟩
abbrev main_cst_31 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_cst_32 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_cst_33 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_cst_34 : Ref sig .tc := ⟨.hbm, 185, rfl⟩
abbrev main_v94 : Ref sig .tc := ⟨.hbm, 186, rfl⟩
abbrev main_v95 : Ref sig .tc := ⟨.hbm, 187, rfl⟩
abbrev main_cst_35 : Ref sig .tc := ⟨.hbm, 188, rfl⟩
abbrev main_v96 : Ref sig .tc := ⟨.hbm, 189, rfl⟩
abbrev main_v97 : Ref sig .tc := ⟨.hbm, 190, rfl⟩
abbrev main_cst_36 : Ref sig .tc := ⟨.hbm, 191, rfl⟩
abbrev main_v98 : Ref sig .tc := ⟨.hbm, 192, rfl⟩
abbrev main_v99 : Ref sig .tc := ⟨.hbm, 193, rfl⟩
abbrev main_v100 : Ref sig .tc := ⟨.hbm, 194, rfl⟩
abbrev main_cst_37 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_cst_38 : Ref sig .tc := ⟨.hbm, 199, rfl⟩
abbrev main_v104 : Ref sig .tc := ⟨.hbm, 200, rfl⟩
abbrev main_v105 : Ref sig .tc := ⟨.hbm, 201, rfl⟩
abbrev main_v106 : Ref sig .tc := ⟨.hbm, 202, rfl⟩
abbrev main_cst_39 : Ref sig .tc := ⟨.hbm, 203, rfl⟩
abbrev main_v107 : Ref sig .tc := ⟨.hbm, 204, rfl⟩
abbrev main_v108 : Ref sig .tc := ⟨.hbm, 205, rfl⟩
abbrev main_cst_40 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_cst_41 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_cst_42 : Ref sig .tc := ⟨.hbm, 214, rfl⟩
abbrev main_v115 : Ref sig .tc := ⟨.hbm, 215, rfl⟩
abbrev main_v116 : Ref sig .tc := ⟨.hbm, 216, rfl⟩
abbrev main_v117 : Ref sig .tc := ⟨.hbm, 217, rfl⟩
abbrev main_cst_43 : Ref sig .tc := ⟨.hbm, 218, rfl⟩
abbrev main_v118 : Ref sig .tc := ⟨.hbm, 219, rfl⟩
abbrev main_v119 : Ref sig .tc := ⟨.hbm, 220, rfl⟩
abbrev main_cst_44 : Ref sig .tc := ⟨.hbm, 221, rfl⟩
abbrev main_v120 : Ref sig .tc := ⟨.hbm, 222, rfl⟩
abbrev main_v121 : Ref sig .tc := ⟨.hbm, 223, rfl⟩
abbrev main_cst_45 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_cst_46 : Ref sig .tc := ⟨.hbm, 228, rfl⟩
abbrev main_v125 : Ref sig .tc := ⟨.hbm, 229, rfl⟩
abbrev main_v126 : Ref sig .tc := ⟨.hbm, 230, rfl⟩
abbrev main_v127 : Ref sig .tc := ⟨.hbm, 231, rfl⟩
abbrev main_cst_47 : Ref sig .tc := ⟨.hbm, 232, rfl⟩
abbrev main_v128 : Ref sig .tc := ⟨.hbm, 233, rfl⟩
abbrev main_v129 : Ref sig .tc := ⟨.hbm, 234, rfl⟩
abbrev main_v130 : Ref sig .tc := ⟨.hbm, 235, rfl⟩
abbrev main_cst_48 : Ref sig .tc := ⟨.hbm, 236, rfl⟩
abbrev main_v131 : Ref sig .tc := ⟨.hbm, 237, rfl⟩
abbrev main_v132 : Ref sig .tc := ⟨.hbm, 238, rfl⟩
abbrev main_cst_49 : Ref sig .tc := ⟨.hbm, 239, rfl⟩
abbrev main_v133 : Ref sig .tc := ⟨.hbm, 240, rfl⟩
abbrev main_v134 : Ref sig .tc := ⟨.hbm, 241, rfl⟩
abbrev main_v135 : Ref sig .tc := ⟨.hbm, 242, rfl⟩
abbrev main_cst_50 : Ref sig .tc := ⟨.hbm, 243, rfl⟩
abbrev main_v136 : Ref sig .tc := ⟨.hbm, 244, rfl⟩
abbrev main_v137 : Ref sig .tc := ⟨.hbm, 245, rfl⟩
abbrev main_v138 : Ref sig .tc := ⟨.hbm, 246, rfl⟩
abbrev main_cst_51 : Ref sig .tc := ⟨.hbm, 247, rfl⟩
abbrev main_v139 : Ref sig .tc := ⟨.hbm, 248, rfl⟩
abbrev main_v140 : Ref sig .tc := ⟨.hbm, 249, rfl⟩
abbrev main_v141 : Ref sig .tc := ⟨.hbm, 250, rfl⟩
abbrev main_cst_52 : Ref sig .tc := ⟨.hbm, 251, rfl⟩
abbrev main_v142 : Ref sig .tc := ⟨.hbm, 252, rfl⟩
abbrev main_v143 : Ref sig .tc := ⟨.hbm, 253, rfl⟩
abbrev main_cst_53 : Ref sig .tc := ⟨.hbm, 254, rfl⟩
abbrev main_v144 : Ref sig .tc := ⟨.hbm, 255, rfl⟩
abbrev main_v145 : Ref sig .tc := ⟨.hbm, 256, rfl⟩
abbrev main_cst_54 : Ref sig .tc := ⟨.hbm, 257, rfl⟩
abbrev main_v146 : Ref sig .tc := ⟨.hbm, 258, rfl⟩
abbrev main_v147 : Ref sig .tc := ⟨.hbm, 259, rfl⟩
abbrev main_v148 : Ref sig .tc := ⟨.hbm, 260, rfl⟩
abbrev main_cst_55 : Ref sig .tc := ⟨.hbm, 261, rfl⟩
abbrev main_v149 : Ref sig .tc := ⟨.hbm, 262, rfl⟩
abbrev main_v150 : Ref sig .tc := ⟨.hbm, 263, rfl⟩
abbrev main_v151 : Ref sig .tc := ⟨.hbm, 264, rfl⟩
abbrev main_cst_56 : Ref sig .tc := ⟨.hbm, 265, rfl⟩
abbrev main_v152 : Ref sig .tc := ⟨.hbm, 266, rfl⟩
abbrev main_v153 : Ref sig .tc := ⟨.hbm, 267, rfl⟩
abbrev main_v154 : Ref sig .tc := ⟨.hbm, 268, rfl⟩
abbrev main_cst_57 : Ref sig .tc := ⟨.hbm, 269, rfl⟩
abbrev main_v155 : Ref sig .tc := ⟨.hbm, 270, rfl⟩
abbrev main_v156 : Ref sig .tc := ⟨.hbm, 271, rfl⟩
abbrev main_cst_58 : Ref sig .tc := ⟨.hbm, 272, rfl⟩
abbrev main_v157 : Ref sig .tc := ⟨.hbm, 273, rfl⟩
abbrev main_v158 : Ref sig .tc := ⟨.hbm, 274, rfl⟩
abbrev main_v159 : Ref sig .tc := ⟨.hbm, 275, rfl⟩
abbrev main_cst_59 : Ref sig .tc := ⟨.hbm, 276, rfl⟩
abbrev main_v160 : Ref sig .tc := ⟨.hbm, 277, rfl⟩
abbrev main_v161 : Ref sig .tc := ⟨.hbm, 278, rfl⟩
abbrev main_v162 : Ref sig .tc := ⟨.hbm, 279, rfl⟩
abbrev main_cst_60 : Ref sig .tc := ⟨.hbm, 280, rfl⟩
abbrev main_v163 : Ref sig .tc := ⟨.hbm, 281, rfl⟩
abbrev main_v164 : Ref sig .tc := ⟨.hbm, 282, rfl⟩
abbrev main_v165 : Ref sig .tc := ⟨.hbm, 283, rfl⟩
abbrev main_cst_61 : Ref sig .tc := ⟨.hbm, 284, rfl⟩
abbrev main_v166 : Ref sig .tc := ⟨.hbm, 285, rfl⟩
abbrev main_v167 : Ref sig .tc := ⟨.hbm, 286, rfl⟩
abbrev main_cst_62 : Ref sig .tc := ⟨.hbm, 287, rfl⟩
abbrev main_v168 : Ref sig .tc := ⟨.hbm, 288, rfl⟩
abbrev main_v169 : Ref sig .tc := ⟨.hbm, 289, rfl⟩
abbrev main_cst_63 : Ref sig .tc := ⟨.hbm, 290, rfl⟩
abbrev main_v170 : Ref sig .tc := ⟨.hbm, 291, rfl⟩
abbrev main_v171 : Ref sig .tc := ⟨.hbm, 292, rfl⟩
abbrev main_v172 : Ref sig .tc := ⟨.hbm, 293, rfl⟩
abbrev main_cst_64 : Ref sig .tc := ⟨.hbm, 294, rfl⟩
abbrev main_v173 : Ref sig .tc := ⟨.hbm, 295, rfl⟩
abbrev main_v174 : Ref sig .tc := ⟨.hbm, 296, rfl⟩
abbrev main_v175 : Ref sig .tc := ⟨.hbm, 297, rfl⟩
abbrev main_cst_65 : Ref sig .tc := ⟨.hbm, 298, rfl⟩
abbrev main_v176 : Ref sig .tc := ⟨.hbm, 299, rfl⟩
abbrev main_v177 : Ref sig .tc := ⟨.hbm, 300, rfl⟩
abbrev main_v178 : Ref sig .tc := ⟨.hbm, 301, rfl⟩
abbrev main_cst_66 : Ref sig .tc := ⟨.hbm, 302, rfl⟩
abbrev main_v179 : Ref sig .tc := ⟨.hbm, 303, rfl⟩
abbrev main_v180 : Ref sig .tc := ⟨.hbm, 304, rfl⟩
abbrev main_cst_67 : Ref sig .tc := ⟨.hbm, 305, rfl⟩
abbrev main_v181 : Ref sig .tc := ⟨.hbm, 306, rfl⟩
abbrev main_v182 : Ref sig .tc := ⟨.hbm, 307, rfl⟩
abbrev main_v183 : Ref sig .tc := ⟨.hbm, 308, rfl⟩
abbrev main_cst_68 : Ref sig .tc := ⟨.hbm, 309, rfl⟩
abbrev main_v184 : Ref sig .tc := ⟨.hbm, 310, rfl⟩
abbrev main_v185 : Ref sig .tc := ⟨.hbm, 311, rfl⟩
abbrev main_v186 : Ref sig .tc := ⟨.hbm, 312, rfl⟩
abbrev main_cst_69 : Ref sig .tc := ⟨.hbm, 313, rfl⟩
abbrev main_v187 : Ref sig .tc := ⟨.hbm, 314, rfl⟩
abbrev main_v188 : Ref sig .tc := ⟨.hbm, 315, rfl⟩
abbrev main_v189 : Ref sig .tc := ⟨.hbm, 316, rfl⟩
abbrev main_cst_70 : Ref sig .tc := ⟨.hbm, 317, rfl⟩
abbrev main_v190 : Ref sig .tc := ⟨.hbm, 318, rfl⟩
abbrev main_v191 : Ref sig .tc := ⟨.hbm, 319, rfl⟩
abbrev main_cst_71 : Ref sig .tc := ⟨.hbm, 320, rfl⟩
abbrev main_v192 : Ref sig .tc := ⟨.hbm, 321, rfl⟩
abbrev main_v193 : Ref sig .tc := ⟨.hbm, 322, rfl⟩
abbrev main_cst_72 : Ref sig .tc := ⟨.hbm, 323, rfl⟩
abbrev main_v194 : Ref sig .tc := ⟨.hbm, 324, rfl⟩
abbrev main_v195 : Ref sig .tc := ⟨.hbm, 325, rfl⟩
abbrev main_v196 : Ref sig .tc := ⟨.hbm, 326, rfl⟩
abbrev main_cst_73 : Ref sig .tc := ⟨.hbm, 327, rfl⟩
abbrev main_v197 : Ref sig .tc := ⟨.hbm, 328, rfl⟩
abbrev main_v198 : Ref sig .tc := ⟨.hbm, 329, rfl⟩
abbrev main_v199 : Ref sig .tc := ⟨.hbm, 330, rfl⟩
abbrev main_cst_74 : Ref sig .tc := ⟨.hbm, 331, rfl⟩
abbrev main_v200 : Ref sig .tc := ⟨.hbm, 332, rfl⟩
abbrev main_v201 : Ref sig .tc := ⟨.hbm, 333, rfl⟩
abbrev main_v202 : Ref sig .tc := ⟨.hbm, 334, rfl⟩
abbrev main_cst_75 : Ref sig .tc := ⟨.hbm, 335, rfl⟩
abbrev main_v203 : Ref sig .tc := ⟨.hbm, 336, rfl⟩
abbrev main_v204 : Ref sig .tc := ⟨.hbm, 337, rfl⟩
abbrev main_cst_76 : Ref sig .tc := ⟨.hbm, 338, rfl⟩
abbrev main_v205 : Ref sig .tc := ⟨.hbm, 339, rfl⟩
abbrev main_v206 : Ref sig .tc := ⟨.hbm, 340, rfl⟩
abbrev main_v207 : Ref sig .tc := ⟨.hbm, 341, rfl⟩
abbrev main_cst_77 : Ref sig .tc := ⟨.hbm, 342, rfl⟩
abbrev main_v208 : Ref sig .tc := ⟨.hbm, 343, rfl⟩
abbrev main_v209 : Ref sig .tc := ⟨.hbm, 344, rfl⟩
abbrev main_v210 : Ref sig .tc := ⟨.hbm, 345, rfl⟩
abbrev main_cst_78 : Ref sig .tc := ⟨.hbm, 346, rfl⟩
abbrev main_v211 : Ref sig .tc := ⟨.hbm, 347, rfl⟩
abbrev main_v212 : Ref sig .tc := ⟨.hbm, 348, rfl⟩
abbrev main_v213 : Ref sig .tc := ⟨.hbm, 349, rfl⟩
abbrev main_cst_79 : Ref sig .tc := ⟨.hbm, 350, rfl⟩
abbrev main_v214 : Ref sig .tc := ⟨.hbm, 351, rfl⟩
abbrev main_v215 : Ref sig .tc := ⟨.hbm, 352, rfl⟩
abbrev main_cst_80 : Ref sig .tc := ⟨.hbm, 353, rfl⟩
abbrev main_v216 : Ref sig .tc := ⟨.hbm, 354, rfl⟩
abbrev main_v217 : Ref sig .tc := ⟨.hbm, 355, rfl⟩
abbrev main_cst_81 : Ref sig .tc := ⟨.hbm, 356, rfl⟩
abbrev main_v218 : Ref sig .tc := ⟨.hbm, 357, rfl⟩
abbrev main_v219 : Ref sig .tc := ⟨.hbm, 358, rfl⟩
abbrev main_v220 : Ref sig .tc := ⟨.hbm, 359, rfl⟩
abbrev main_cst_82 : Ref sig .tc := ⟨.hbm, 360, rfl⟩
abbrev main_v221 : Ref sig .tc := ⟨.hbm, 361, rfl⟩
abbrev main_v222 : Ref sig .tc := ⟨.hbm, 362, rfl⟩
abbrev main_v223 : Ref sig .tc := ⟨.hbm, 363, rfl⟩
abbrev main_cst_83 : Ref sig .tc := ⟨.hbm, 364, rfl⟩
abbrev main_v224 : Ref sig .tc := ⟨.hbm, 365, rfl⟩
abbrev main_v225 : Ref sig .tc := ⟨.hbm, 366, rfl⟩
abbrev main_v226 : Ref sig .tc := ⟨.hbm, 367, rfl⟩
abbrev main_cst_84 : Ref sig .tc := ⟨.hbm, 368, rfl⟩
abbrev main_v227 : Ref sig .tc := ⟨.hbm, 369, rfl⟩
abbrev main_v228 : Ref sig .tc := ⟨.hbm, 370, rfl⟩
abbrev main_cst_85 : Ref sig .tc := ⟨.hbm, 371, rfl⟩
abbrev main_v229 : Ref sig .tc := ⟨.hbm, 372, rfl⟩
abbrev main_v230 : Ref sig .tc := ⟨.hbm, 373, rfl⟩
abbrev main_v231 : Ref sig .tc := ⟨.hbm, 374, rfl⟩
abbrev main_cst_86 : Ref sig .tc := ⟨.hbm, 375, rfl⟩
abbrev main_v232 : Ref sig .tc := ⟨.hbm, 376, rfl⟩
abbrev main_v233 : Ref sig .tc := ⟨.hbm, 377, rfl⟩
abbrev main_v234 : Ref sig .tc := ⟨.hbm, 378, rfl⟩
abbrev main_cst_87 : Ref sig .tc := ⟨.hbm, 379, rfl⟩
abbrev main_v235 : Ref sig .tc := ⟨.hbm, 380, rfl⟩
abbrev main_v236 : Ref sig .tc := ⟨.hbm, 381, rfl⟩
abbrev main_v237 : Ref sig .tc := ⟨.hbm, 382, rfl⟩
abbrev main_cst_88 : Ref sig .tc := ⟨.hbm, 383, rfl⟩
abbrev main_v238 : Ref sig .tc := ⟨.hbm, 384, rfl⟩
abbrev main_v239 : Ref sig .tc := ⟨.hbm, 385, rfl⟩
abbrev main_cst_89 : Ref sig .tc := ⟨.hbm, 386, rfl⟩
abbrev main_v240 : Ref sig .tc := ⟨.hbm, 387, rfl⟩
abbrev main_v241 : Ref sig .tc := ⟨.hbm, 388, rfl⟩
abbrev main_cst_90 : Ref sig .tc := ⟨.hbm, 389, rfl⟩
abbrev main_v242 : Ref sig .tc := ⟨.hbm, 390, rfl⟩
abbrev main_v243 : Ref sig .tc := ⟨.hbm, 391, rfl⟩
abbrev main_v244 : Ref sig .tc := ⟨.hbm, 392, rfl⟩
abbrev main_cst_91 : Ref sig .tc := ⟨.hbm, 393, rfl⟩
abbrev main_v245 : Ref sig .tc := ⟨.hbm, 394, rfl⟩
abbrev main_v246 : Ref sig .tc := ⟨.hbm, 395, rfl⟩
abbrev main_v247 : Ref sig .tc := ⟨.hbm, 396, rfl⟩
abbrev main_cst_92 : Ref sig .tc := ⟨.hbm, 397, rfl⟩
abbrev main_v248 : Ref sig .tc := ⟨.hbm, 398, rfl⟩
abbrev main_v249 : Ref sig .tc := ⟨.hbm, 399, rfl⟩
abbrev main_v250 : Ref sig .tc := ⟨.hbm, 400, rfl⟩
abbrev main_cst_93 : Ref sig .tc := ⟨.hbm, 401, rfl⟩
abbrev main_v251 : Ref sig .tc := ⟨.hbm, 402, rfl⟩
abbrev main_v252 : Ref sig .tc := ⟨.hbm, 403, rfl⟩
abbrev main_cst_94 : Ref sig .tc := ⟨.hbm, 404, rfl⟩
abbrev main_v253 : Ref sig .tc := ⟨.hbm, 405, rfl⟩
abbrev main_v254 : Ref sig .tc := ⟨.hbm, 406, rfl⟩
abbrev main_v255 : Ref sig .tc := ⟨.hbm, 407, rfl⟩
abbrev main_cst_95 : Ref sig .tc := ⟨.hbm, 408, rfl⟩
abbrev main_v256 : Ref sig .tc := ⟨.hbm, 409, rfl⟩
abbrev main_v257 : Ref sig .tc := ⟨.hbm, 410, rfl⟩
abbrev main_v258 : Ref sig .tc := ⟨.hbm, 411, rfl⟩
abbrev main_cst_96 : Ref sig .tc := ⟨.hbm, 412, rfl⟩
abbrev main_v259 : Ref sig .tc := ⟨.hbm, 413, rfl⟩
abbrev main_v260 : Ref sig .tc := ⟨.hbm, 414, rfl⟩
abbrev main_v261 : Ref sig .tc := ⟨.hbm, 415, rfl⟩
abbrev main_cst_97 : Ref sig .tc := ⟨.hbm, 416, rfl⟩
abbrev main_v262 : Ref sig .tc := ⟨.hbm, 417, rfl⟩
abbrev main_v263 : Ref sig .tc := ⟨.hbm, 418, rfl⟩
abbrev main_cst_98 : Ref sig .tc := ⟨.hbm, 419, rfl⟩
abbrev main_v264 : Ref sig .tc := ⟨.hbm, 420, rfl⟩
abbrev main_v265 : Ref sig .tc := ⟨.hbm, 421, rfl⟩
abbrev main_cst_99 : Ref sig .tc := ⟨.hbm, 422, rfl⟩
abbrev main_v266 : Ref sig .tc := ⟨.hbm, 423, rfl⟩
abbrev main_v267 : Ref sig .tc := ⟨.hbm, 424, rfl⟩
abbrev main_v268 : Ref sig .tc := ⟨.hbm, 425, rfl⟩
abbrev main_cst_100 : Ref sig .tc := ⟨.hbm, 426, rfl⟩
abbrev main_v269 : Ref sig .tc := ⟨.hbm, 427, rfl⟩
abbrev main_v270 : Ref sig .tc := ⟨.hbm, 428, rfl⟩
abbrev main_v271 : Ref sig .tc := ⟨.hbm, 429, rfl⟩
abbrev main_cst_101 : Ref sig .tc := ⟨.hbm, 430, rfl⟩
abbrev main_v272 : Ref sig .tc := ⟨.hbm, 431, rfl⟩
abbrev main_v273 : Ref sig .tc := ⟨.hbm, 432, rfl⟩
abbrev main_v274 : Ref sig .tc := ⟨.hbm, 433, rfl⟩
abbrev main_cst_102 : Ref sig .tc := ⟨.hbm, 434, rfl⟩
abbrev main_v275 : Ref sig .tc := ⟨.hbm, 435, rfl⟩
abbrev main_v276 : Ref sig .tc := ⟨.hbm, 436, rfl⟩
abbrev main_cst_103 : Ref sig .tc := ⟨.hbm, 437, rfl⟩
abbrev main_v277 : Ref sig .tc := ⟨.hbm, 438, rfl⟩
abbrev main_v278 : Ref sig .tc := ⟨.hbm, 439, rfl⟩
abbrev main_v279 : Ref sig .tc := ⟨.hbm, 440, rfl⟩
abbrev main_cst_104 : Ref sig .tc := ⟨.hbm, 441, rfl⟩
abbrev main_v280 : Ref sig .tc := ⟨.hbm, 442, rfl⟩
abbrev main_v281 : Ref sig .tc := ⟨.hbm, 443, rfl⟩
abbrev main_v282 : Ref sig .tc := ⟨.hbm, 444, rfl⟩
abbrev main_cst_105 : Ref sig .tc := ⟨.hbm, 445, rfl⟩
abbrev main_v283 : Ref sig .tc := ⟨.hbm, 446, rfl⟩
abbrev main_v284 : Ref sig .tc := ⟨.hbm, 447, rfl⟩
abbrev main_v285 : Ref sig .tc := ⟨.hbm, 448, rfl⟩
abbrev main_cst_106 : Ref sig .tc := ⟨.hbm, 449, rfl⟩
abbrev main_v286 : Ref sig .tc := ⟨.hbm, 450, rfl⟩
abbrev main_v287 : Ref sig .tc := ⟨.hbm, 451, rfl⟩
abbrev main_cst_107 : Ref sig .tc := ⟨.hbm, 452, rfl⟩
abbrev main_v288 : Ref sig .tc := ⟨.hbm, 453, rfl⟩
abbrev main_v289 : Ref sig .tc := ⟨.hbm, 454, rfl⟩
abbrev main_cst_108 : Ref sig .tc := ⟨.hbm, 455, rfl⟩
abbrev main_v290 : Ref sig .tc := ⟨.hbm, 456, rfl⟩
abbrev main_v291 : Ref sig .tc := ⟨.hbm, 457, rfl⟩
abbrev main_v292 : Ref sig .tc := ⟨.hbm, 458, rfl⟩
abbrev main_cst_109 : Ref sig .tc := ⟨.hbm, 459, rfl⟩
abbrev main_v293 : Ref sig .tc := ⟨.hbm, 460, rfl⟩
abbrev main_v294 : Ref sig .tc := ⟨.hbm, 461, rfl⟩
abbrev main_v295 : Ref sig .tc := ⟨.hbm, 462, rfl⟩
abbrev main_cst_110 : Ref sig .tc := ⟨.hbm, 463, rfl⟩
abbrev main_v296 : Ref sig .tc := ⟨.hbm, 464, rfl⟩
abbrev main_v297 : Ref sig .tc := ⟨.hbm, 465, rfl⟩
abbrev main_v298 : Ref sig .tc := ⟨.hbm, 466, rfl⟩
abbrev main_cst_111 : Ref sig .tc := ⟨.hbm, 467, rfl⟩
abbrev main_v299 : Ref sig .tc := ⟨.hbm, 468, rfl⟩
abbrev main_v300 : Ref sig .tc := ⟨.hbm, 469, rfl⟩
abbrev main_cst_112 : Ref sig .tc := ⟨.hbm, 470, rfl⟩
abbrev main_v301 : Ref sig .tc := ⟨.hbm, 471, rfl⟩
abbrev main_v302 : Ref sig .tc := ⟨.hbm, 472, rfl⟩
abbrev main_v303 : Ref sig .tc := ⟨.hbm, 473, rfl⟩
abbrev main_cst_113 : Ref sig .tc := ⟨.hbm, 474, rfl⟩
abbrev main_v304 : Ref sig .tc := ⟨.hbm, 475, rfl⟩
abbrev main_v305 : Ref sig .tc := ⟨.hbm, 476, rfl⟩
abbrev main_v306 : Ref sig .tc := ⟨.hbm, 477, rfl⟩
abbrev main_cst_114 : Ref sig .tc := ⟨.hbm, 478, rfl⟩
abbrev main_v307 : Ref sig .tc := ⟨.hbm, 479, rfl⟩
abbrev main_v308 : Ref sig .tc := ⟨.hbm, 480, rfl⟩
abbrev main_v309 : Ref sig .tc := ⟨.hbm, 481, rfl⟩
abbrev main_cst_115 : Ref sig .tc := ⟨.hbm, 482, rfl⟩
abbrev main_v310 : Ref sig .tc := ⟨.hbm, 483, rfl⟩
abbrev main_v311 : Ref sig .tc := ⟨.hbm, 484, rfl⟩
abbrev main_cst_116 : Ref sig .tc := ⟨.hbm, 485, rfl⟩
abbrev main_v312 : Ref sig .tc := ⟨.hbm, 486, rfl⟩
abbrev main_v313 : Ref sig .tc := ⟨.hbm, 487, rfl⟩
abbrev main_cst_117 : Ref sig .tc := ⟨.hbm, 488, rfl⟩
abbrev main_v314 : Ref sig .tc := ⟨.hbm, 489, rfl⟩
abbrev main_v315 : Ref sig .tc := ⟨.hbm, 490, rfl⟩
abbrev main_v316 : Ref sig .tc := ⟨.hbm, 491, rfl⟩
abbrev main_cst_118 : Ref sig .tc := ⟨.hbm, 492, rfl⟩
abbrev main_v317 : Ref sig .tc := ⟨.hbm, 493, rfl⟩
abbrev main_v318 : Ref sig .tc := ⟨.hbm, 494, rfl⟩
abbrev main_v319 : Ref sig .tc := ⟨.hbm, 495, rfl⟩
abbrev main_cst_119 : Ref sig .tc := ⟨.hbm, 496, rfl⟩
abbrev main_v320 : Ref sig .tc := ⟨.hbm, 497, rfl⟩
abbrev main_v321 : Ref sig .tc := ⟨.hbm, 498, rfl⟩
abbrev main_v322 : Ref sig .tc := ⟨.hbm, 499, rfl⟩
abbrev main_cst_120 : Ref sig .tc := ⟨.hbm, 500, rfl⟩
abbrev main_v323 : Ref sig .tc := ⟨.hbm, 501, rfl⟩
abbrev main_v324 : Ref sig .tc := ⟨.hbm, 502, rfl⟩
abbrev main_cst_121 : Ref sig .tc := ⟨.hbm, 503, rfl⟩
abbrev main_v325 : Ref sig .tc := ⟨.hbm, 504, rfl⟩
abbrev main_v326 : Ref sig .tc := ⟨.hbm, 505, rfl⟩
abbrev main_v327 : Ref sig .tc := ⟨.hbm, 506, rfl⟩
abbrev main_cst_122 : Ref sig .tc := ⟨.hbm, 507, rfl⟩
abbrev main_v328 : Ref sig .tc := ⟨.hbm, 508, rfl⟩
abbrev main_v329 : Ref sig .tc := ⟨.hbm, 509, rfl⟩
abbrev main_v330 : Ref sig .tc := ⟨.hbm, 510, rfl⟩
abbrev main_cst_123 : Ref sig .tc := ⟨.hbm, 511, rfl⟩
abbrev main_v331 : Ref sig .tc := ⟨.hbm, 512, rfl⟩
abbrev main_v332 : Ref sig .tc := ⟨.hbm, 513, rfl⟩
abbrev main_v333 : Ref sig .tc := ⟨.hbm, 514, rfl⟩
abbrev main_cst_124 : Ref sig .tc := ⟨.hbm, 515, rfl⟩
abbrev main_v334 : Ref sig .tc := ⟨.hbm, 516, rfl⟩
abbrev main_v335 : Ref sig .tc := ⟨.hbm, 517, rfl⟩
abbrev main_v336 : Ref sig .tc := ⟨.hbm, 518, rfl⟩
abbrev main_v337 : Ref sig .tc := ⟨.hbm, 519, rfl⟩
abbrev main_v338 : Ref sig .tc := ⟨.hbm, 520, rfl⟩
abbrev main_v339 : Ref sig .tc := ⟨.hbm, 521, rfl⟩
abbrev main_v340 : Ref sig .tc := ⟨.hbm, 522, rfl⟩
abbrev main_v341 : Ref sig .tc := ⟨.hbm, 523, rfl⟩
abbrev main_v342 : Ref sig .tc := ⟨.hbm, 524, rfl⟩
abbrev main_v343 : Ref sig .tc := ⟨.hbm, 525, rfl⟩
abbrev main_v344 : Ref sig .tc := ⟨.hbm, 526, rfl⟩
abbrev main_v345 : Ref sig .tc := ⟨.hbm, 527, rfl⟩
abbrev main_v346 : Ref sig .tc := ⟨.hbm, 528, rfl⟩
abbrev main_v347 : Ref sig .tc := ⟨.hbm, 529, rfl⟩
abbrev main_v348 : Ref sig .tc := ⟨.hbm, 530, rfl⟩
abbrev main_v349 : Ref sig .tc := ⟨.hbm, 531, rfl⟩
abbrev main_c : Ref sig .tc := ⟨.hbm, 532, rfl⟩
abbrev main_call0_v0 : Ref sig .tc := ⟨.hbm, 533, rfl⟩
abbrev main_v350 : Ref sig .tc := ⟨.hbm, 534, rfl⟩
abbrev main_v351 : Ref sig .tc := ⟨.hbm, 535, rfl⟩
abbrev main_v352 : Ref sig .tc := ⟨.hbm, 536, rfl⟩
abbrev main_v353 : Ref sig .tc := ⟨.hbm, 537, rfl⟩
abbrev main_v354 : Ref sig .tc := ⟨.hbm, 538, rfl⟩
abbrev main_v355 : Ref sig .tc := ⟨.hbm, 539, rfl⟩
abbrev main_v356 : Ref sig .tc := ⟨.hbm, 540, rfl⟩
abbrev main_v357 : Ref sig .tc := ⟨.hbm, 541, rfl⟩
abbrev main_v358 : Ref sig .tc := ⟨.hbm, 542, rfl⟩
abbrev main_v359 : Ref sig .tc := ⟨.hbm, 543, rfl⟩
abbrev main_v360 : Ref sig .tc := ⟨.hbm, 544, rfl⟩
abbrev main_v361 : Ref sig .tc := ⟨.hbm, 545, rfl⟩
abbrev main_v362 : Ref sig .tc := ⟨.hbm, 546, rfl⟩
abbrev main_v363 : Ref sig .tc := ⟨.hbm, 547, rfl⟩
abbrev main_v364 : Ref sig .tc := ⟨.hbm, 548, rfl⟩
abbrev main_v365 : Ref sig .tc := ⟨.hbm, 549, rfl⟩
abbrev main_c_125 : Ref sig .tc := ⟨.hbm, 550, rfl⟩
abbrev main_call1_v0 : Ref sig .tc := ⟨.hbm, 551, rfl⟩
abbrev main_v366 : Ref sig .tc := ⟨.hbm, 552, rfl⟩
abbrev main_v367 : Ref sig .tc := ⟨.hbm, 553, rfl⟩
abbrev main_v368 : Ref sig .tc := ⟨.hbm, 554, rfl⟩
abbrev main_v369 : Ref sig .tc := ⟨.hbm, 555, rfl⟩
abbrev main_v370 : Ref sig .tc := ⟨.hbm, 556, rfl⟩
abbrev main_v371 : Ref sig .tc := ⟨.hbm, 557, rfl⟩
abbrev main_v372 : Ref sig .tc := ⟨.hbm, 558, rfl⟩
abbrev main_v373 : Ref sig .tc := ⟨.hbm, 559, rfl⟩
abbrev main_v374 : Ref sig .tc := ⟨.hbm, 560, rfl⟩
abbrev main_v375 : Ref sig .tc := ⟨.hbm, 561, rfl⟩
abbrev main_v376 : Ref sig .tc := ⟨.hbm, 562, rfl⟩
abbrev main_v377 : Ref sig .tc := ⟨.hbm, 563, rfl⟩
abbrev main_v378 : Ref sig .tc := ⟨.hbm, 564, rfl⟩
abbrev main_v379 : Ref sig .tc := ⟨.hbm, 565, rfl⟩
abbrev main_v380 : Ref sig .tc := ⟨.hbm, 566, rfl⟩
abbrev main_v381 : Ref sig .tc := ⟨.hbm, 567, rfl⟩
abbrev main_c_126 : Ref sig .tc := ⟨.hbm, 568, rfl⟩
abbrev main_call2_v0 : Ref sig .tc := ⟨.hbm, 569, rfl⟩
abbrev main_v382 : Ref sig .tc := ⟨.hbm, 570, rfl⟩
abbrev main_v383 : Ref sig .tc := ⟨.hbm, 571, rfl⟩
abbrev main_v384 : Ref sig .tc := ⟨.hbm, 572, rfl⟩
abbrev main_v385 : Ref sig .tc := ⟨.hbm, 573, rfl⟩
abbrev main_v386 : Ref sig .tc := ⟨.hbm, 574, rfl⟩
abbrev main_v387 : Ref sig .tc := ⟨.hbm, 575, rfl⟩
abbrev main_v388 : Ref sig .tc := ⟨.hbm, 576, rfl⟩
abbrev main_v389 : Ref sig .tc := ⟨.hbm, 577, rfl⟩
abbrev main_v390 : Ref sig .tc := ⟨.hbm, 578, rfl⟩
abbrev main_v391 : Ref sig .tc := ⟨.hbm, 579, rfl⟩
abbrev main_v392 : Ref sig .tc := ⟨.hbm, 580, rfl⟩
abbrev main_v393 : Ref sig .tc := ⟨.hbm, 581, rfl⟩
abbrev main_v394 : Ref sig .tc := ⟨.hbm, 582, rfl⟩
abbrev main_v395 : Ref sig .tc := ⟨.hbm, 583, rfl⟩
abbrev main_v396 : Ref sig .tc := ⟨.hbm, 584, rfl⟩
abbrev main_v397 : Ref sig .tc := ⟨.hbm, 585, rfl⟩
abbrev main_c_127 : Ref sig .tc := ⟨.hbm, 586, rfl⟩
abbrev main_call3_v0 : Ref sig .tc := ⟨.hbm, 587, rfl⟩
abbrev main_v398 : Ref sig .tc := ⟨.hbm, 588, rfl⟩
abbrev main_v399 : Ref sig .tc := ⟨.hbm, 589, rfl⟩

abbrev nD : Nat := 1
abbrev τ : Topo := Topo.v7x

variable {F : FTy → Type} [FloatOps F]
-- ==== Kernel35.lean ====
abbrev S8192x512 : Shape := ⟨2, ![8192, 512]⟩
abbrev S1x512 : Shape := ⟨2, ![1, 512]⟩
abbrev S512x512 : Shape := ⟨2, ![512, 512]⟩
abbrev S512 : Shape := ⟨1, ![512]⟩

abbrev nBuf : Space → Nat
  | .hbm => 11
  | .vmem => 17
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S1x512, .f32⟩
  | .hbm, ⟨4, _⟩ => ⟨S512x512, .bf16⟩
  | .hbm, ⟨5, _⟩ => ⟨S1x512, .f32⟩
  | .hbm, ⟨6, _⟩ => ⟨S8192x512, .f32⟩
  | .hbm, ⟨7, _⟩ => ⟨S8192x512, .bf16⟩
  | .hbm, ⟨8, _⟩ => ⟨S8192x512, .bf16⟩
  | .hbm, ⟨9, _⟩ => ⟨S1x512, .f32⟩
  | .hbm, ⟨10, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x512, .bf16⟩
  | .local _ .vmem, ⟨8, _⟩ => ⟨S1x512, .f32⟩
  | .local _ .vmem, ⟨9, _⟩ => ⟨S512x512, .f32⟩
  | .local _ .vmem, ⟨10, _⟩ => ⟨S512x512, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S1x512, .f32⟩
  | .local _ .vmem, ⟨16, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Kernel35Ideal.lean ====
variable {F : FTy → Type} [FloatOps F] [Named F]
def κ : String → Option EReal := fun
  | "gelu_cubic" => some ((8943 / 200000 : ℝ) : EReal)
  | "gelu_cubic_times_three" => some ((26829 / 200000 : ℝ) : EReal)
  | _ => none
-- ==== Reference35Ideal.lean ====
abbrev S8192x512 : Shape := ⟨2, ![8192, 512]⟩
abbrev S1x512 : Shape := ⟨2, ![1, 512]⟩
abbrev S512x512 : Shape := ⟨2, ![512, 512]⟩
abbrev S512 : Shape := ⟨1, ![512]⟩

abbrev nBuf : Space → Nat
  | .hbm => 11
  | .vmem => 11
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S1x512, .f32⟩
  | .hbm, ⟨4, _⟩ => ⟨S512x512, .bf16⟩
  | .hbm, ⟨5, _⟩ => ⟨S1x512, .f32⟩
  | .hbm, ⟨6, _⟩ => ⟨S8192x512, .f32⟩
  | .hbm, ⟨7, _⟩ => ⟨S8192x512, .bf16⟩
  | .hbm, ⟨8, _⟩ => ⟨S8192x512, .bf16⟩
  | .hbm, ⟨9, _⟩ => ⟨S1x512, .f32⟩
  | .hbm, ⟨10, _⟩ => ⟨S1x512, .f32⟩
  | .local _ .vmem, ⟨0, _⟩ => ⟨S8192x512, .f32⟩
  | .local _ .vmem, ⟨1, _⟩ => ⟨S8192x512, .f32⟩
  | .local _ .vmem, ⟨2, _⟩ => ⟨S8192x512, .f32⟩
  | .local _ .vmem, ⟨3, _⟩ => ⟨S1x512, .f32⟩
  | .local _ .vmem, ⟨4, _⟩ => ⟨S512x512, .bf16⟩
  | .local _ .vmem, ⟨5, _⟩ => ⟨S1x512, .f32⟩
  | .local _ .vmem, ⟨6, _⟩ => ⟨S8192x512, .f32⟩
  | .local _ .vmem, ⟨7, _⟩ => ⟨S8192x512, .bf16⟩
  | .local _ .vmem, ⟨8, _⟩ => ⟨S8192x512, .bf16⟩
  | .local _ .vmem, ⟨9, _⟩ => ⟨S1x512, .f32⟩
  | .local _ .vmem, ⟨10, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "gelu_cubic" => some ((8943 / 200000 : ℝ) : EReal)
  | _ => none

abbrev grid0 : Pipeline.Grid := .none

abbrev stage0_0 : Fin 1 → Memref sig .tc .vmem S8192x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Kernel36.lean ====
abbrev S8192x256 : Shape := ⟨2, ![8192, 256]⟩
abbrev S1024x256 : Shape := ⟨2, ![1024, 256]⟩

abbrev nBuf : Space → Nat
  | .hbm => 8
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference36Ideal.lean ====
abbrev S8192x256 : Shape := ⟨2, ![8192, 256]⟩
abbrev S1x8192x256 : Shape := ⟨3, ![1, 8192, 256]⟩
abbrev S3x8192x256 : Shape := ⟨3, ![3, 8192, 256]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S1x8192x256, .f32⟩
  | .hbm, ⟨7, _⟩ => ⟨S1x8192x256, .f32⟩
  | .hbm, ⟨8, _⟩ => ⟨S1x8192x256, .f32⟩
  | .hbm, ⟨9, _⟩ => ⟨S3x8192x256, .f32⟩
  | .hbm, ⟨10, _⟩ => ⟨S_, .f32⟩
  | .hbm, ⟨11, _⟩ => ⟨S8192x256, .f32⟩
  | .hbm, ⟨12, _⟩ => ⟨S_, .f32⟩
  | .hbm, ⟨13, _⟩ => ⟨S8192x256, .f32⟩
  | .hbm, ⟨14, _⟩ => ⟨S8192x256, .f32⟩
  | .hbm, ⟨15, _⟩ => ⟨S1x8192x256, .f32⟩
  | .hbm, ⟨16, _⟩ => ⟨S3x8192x256, .f32⟩
  | .hbm, ⟨17, _⟩ => ⟨S3x8192x256, .f32⟩
  | .hbm, ⟨18, _⟩ => ⟨S3x8192x256, .f32⟩
  | .hbm, ⟨19, _⟩ => ⟨S_, .f32⟩
  | .hbm, ⟨20, _⟩ => ⟨S8192x256, .f32⟩
  | .hbm, ⟨21, _⟩ => ⟨S1x8192x256, .f32⟩
  | .hbm, ⟨22, _⟩ => ⟨S3x8192x256, .f32⟩
  | .hbm, ⟨23, _⟩ => ⟨S3x8192x256, .f32⟩
  | .hbm, ⟨24, _⟩ => ⟨S1x8192x256, .f32⟩
  | .hbm, ⟨25, _⟩ => ⟨S1x8192x256, .f32⟩
  | .hbm, ⟨26, _⟩ => ⟨S1x8192x256, .f32⟩
  | .hbm, ⟨27, _⟩ => ⟨S3x8192x256, .f32⟩
  | .hbm, ⟨28, _⟩ => ⟨S3x8192x256, .f32⟩
  | .hbm, ⟨29, _⟩ => ⟨S_, .f32⟩
  | .hbm, ⟨30, _⟩ => ⟨S8192x256, .f32⟩
  | .hbm, ⟨31, _⟩ => ⟨S_, .f32⟩
  | .hbm, ⟨32, _⟩ => ⟨S8192x256, .f32⟩
  | .hbm, ⟨33, _⟩ => ⟨S1x8192x256, .f32⟩
  | .hbm, ⟨34, _⟩ => ⟨S3x8192x256, .f32⟩
  | .hbm, ⟨35, _⟩ => ⟨S3x8192x256, .f32⟩
  | .hbm, ⟨36, _⟩ => ⟨S3x8192x256, .f32⟩
  | .hbm, ⟨37, _⟩ => ⟨S_, .f32⟩
  | .hbm, ⟨38, _⟩ => ⟨S8192x256, .f32⟩
  | .hbm, ⟨39, _⟩ => ⟨S8192x256, .f32⟩
  | .hbm, ⟨40, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Proof.Mem.Math.lean ====
/-
  The gradient of softmax attention over one row of scores, over the extended reals: what the kernel computes for a row
  (`dscore`) and what the derivative of the softmax gives (`dscoreRef`) are equal whenever the queries and keys are
  finite numbers. The gradient of the output may be any extended real.
-/
module

public import Idealize.ShloMosaic.PureOps.Ideal
public import Idealize.ShloMosaic.PureOps.Ideal.Laws

@[expose] public section

noncomputable section

open Idealize.ShloMosaic
open scoped BigOperators

namespace Cert.Mem

/-- A row of 128 numbers: one head's part of a query, or of the gradient of the output. -/
abbrev Row := Fin 128 → EReal
/-- 256 rows: one head's memory keys or memory values. -/
abbrev Mat := Fin 256 → Fin 128 → EReal

/-- The factor on the scores, the float nearest to the reciprocal root of the head width. -/
def kap : EReal := Ideal.ofBits .f32 0x3DB504F3#32

/-- The scaled score of a query against memory slot `c`. -/
def score (q : Row) (K : Mat) (c : Fin 256) : EReal := (∑ e : Fin 128, q e * K c e) * kap
/-- The greatest score of the row. -/
def top (q : Row) (K : Mat) : EReal := (Finset.univ : Finset (Fin 256)).fold max ⊥ (score q K)
/-- The exponential of a score less the greatest. -/
def weight (q : Row) (K : Mat) (c : Fin 256) : EReal := Ideal.exp (score q K c - top q K)
/-- The sum of the row's exponentials. -/
def total (q : Row) (K : Mat) : EReal := ∑ c : Fin 256, weight q K c
/-- The softmax of the row. -/
def prob (q : Row) (K : Mat) (c : Fin 256) : EReal := Ideal.div (weight q K c) (total q K)
/-- The gradient of the probabilities: the output's gradient against the value of slot `c`. -/
def dprob (V : Mat) (o : Row) (c : Fin 256) : EReal := ∑ e : Fin 128, o e * V c e
/-- The gradient of the unscaled score as the kernel writes it: `p (dp - Σ p dp)`, times the scale. -/
def dscore (q : Row) (K V : Mat) (o : Row) (c : Fin 256) : EReal :=
  prob q K c * (dprob V o c - ∑ d : Fin 256, prob q K d * dprob V o d) * kap
/-- The gradient of the unscaled score as the derivative of a quotient of exponentials gives it. -/
def dscoreRef (q : Row) (K V : Mat) (o : Row) (c : Fin 256) : EReal :=
  (Ideal.div (dprob V o c) (total q K)
    + -(∑ d : Fin 256, dprob V o d * Ideal.div 1 (total q K * total q K) * weight q K d)) * weight q K c * kap

/-- The scale is a real number. -/
theorem kap_real : ∃ r : ℝ, kap = (r : EReal) := by
  unfold kap
  simp only [Ideal.ofBits, Ideal.ieee]
  split_ifs <;> first | exact ⟨_, rfl⟩ | (exfalso; revert ‹_ = 2 ^ 8 - 1›; decide)

/-- A finite sum of real numbers is a real number. -/
theorem sum_real {ι : Type} (s : Finset ι) (f : ι → ℝ) : ∑ i ∈ s, ((f i : ℝ) : EReal) = ((∑ i ∈ s, f i : ℝ) : EReal) := by
  induction s using Finset.cons_induction with
  | empty => simp
  | cons a s ha ih => rw [Finset.sum_cons, Finset.sum_cons, ih, EReal.coe_add]

/-- A real factor that is not negative distributes over a finite sum of extended reals. -/
theorem coe_mul_sum {ι : Type} (s : Finset ι) (r : ℝ) (hr : 0 ≤ r) (f : ι → EReal) :
    (r : EReal) * ∑ i ∈ s, f i = ∑ i ∈ s, (r : EReal) * f i := by
  induction s using Finset.cons_induction with
  | empty => simp
  | cons a s ha ih =>
    rw [Finset.sum_cons, Finset.sum_cons, EReal.left_distrib_of_nonneg_of_ne_top (EReal.coe_nonneg.mpr hr) (EReal.coe_ne_top r), ih]

/-- The scores of finite queries and keys are real. -/
theorem score_real (q : Row) (K : Mat) (hq : ∀ e, ∃ r : ℝ, q e = r) (hK : ∀ c e, ∃ r : ℝ, K c e = r) (c : Fin 256) :
    ∃ r : ℝ, score q K c = (r : EReal) := by
  choose a ha using hq
  choose b hb using hK
  obtain ⟨k, hk⟩ := kap_real
  refine ⟨(∑ e : Fin 128, a e * b c e) * k, ?_⟩
  unfold score
  rw [hk, EReal.coe_mul, ← sum_real]
  exact congrArg (· * (k : EReal)) (Finset.sum_congr rfl fun e _ => by rw [ha, hb, EReal.coe_mul])

/-- So is the greatest of them. -/
theorem top_real (q : Row) (K : Mat) (hq : ∀ e, ∃ r : ℝ, q e = r) (hK : ∀ c e, ∃ r : ℝ, K c e = r) :
    ∃ r : ℝ, top q K = (r : EReal) := by
  have hs := score_real q K hq hK
  have h1 : top q K < ⊤ := by
    unfold top
    rw [Finset.fold_max_lt]
    refine ⟨bot_lt_top, fun c _ => ?_⟩
    obtain ⟨r, hr⟩ := hs c
    rw [hr]; exact EReal.coe_lt_top r
  have h2 : ⊥ < top q K := by
    unfold top
    rw [Finset.lt_fold_max]
    refine Or.inr ⟨0, Finset.mem_univ _, ?_⟩
    obtain ⟨r, hr⟩ := hs 0
    rw [hr]; exact EReal.bot_lt_coe r
  exact ⟨(top q K).toReal, (EReal.coe_toReal h1.ne h2.ne').symm⟩

/-- The exponentials are positive reals. -/
theorem weight_real (q : Row) (K : Mat) (hq : ∀ e, ∃ r : ℝ, q e = r) (hK : ∀ c e, ∃ r : ℝ, K c e = r) (c : Fin 256) :
    ∃ r : ℝ, 0 < r ∧ weight q K c = (r : EReal) := by
  obtain ⟨s, hs⟩ := score_real q K hq hK c
  obtain ⟨t, ht⟩ := top_real q K hq hK
  refine ⟨Real.exp (s - t), Real.exp_pos _, ?_⟩
  unfold weight
  rw [hs, ht, ← EReal.coe_sub, Ideal.exp_coe]

/-- The two forms of the softmax's gradient agree at finite queries and keys. -/
theorem dscore_eq (q : Row) (K V : Mat) (o : Row) (hq : ∀ e, ∃ r : ℝ, q e = r) (hK : ∀ c e, ∃ r : ℝ, K c e = r)
    (c : Fin 256) : dscoreRef q K V o c = dscore q K V o c := by
  choose w hw hwe using weight_real q K hq hK
  have hσ : total q K = ((∑ d, w d : ℝ) : EReal) := by
    unfold total; rw [← sum_real]; exact Finset.sum_congr rfl fun d _ => hwe d
  have hpos : 0 < ∑ d, w d := Finset.sum_pos (fun d _ => hw d) ⟨0, Finset.mem_univ _⟩
  generalize hS : (∑ d, w d : ℝ) = σ at hσ hpos
  have hp : ∀ d, prob q K d = ((w d / σ : ℝ) : EReal) := fun d => by
    unfold prob; rw [hσ, hwe, Ideal.div_coe hpos.ne', ← EReal.coe_mul, mul_one_div]
  have h1 : ∀ d, dprob V o d * Ideal.div 1 (total q K * total q K) * weight q K d
      = ((1 / σ : ℝ) : EReal) * (prob q K d * dprob V o d) := fun d => by
    rw [hp, hσ, hwe, ← EReal.coe_mul, Ideal.div_coe (mul_pos hpos hpos).ne', one_mul, mul_assoc, ← EReal.coe_mul, mul_comm,
      ← mul_assoc, ← EReal.coe_mul]
    congr 2
    field_simp
  unfold dscoreRef dscore
  rw [Finset.sum_congr rfl fun d _ => h1 d, ← coe_mul_sum _ _ (one_div_pos.mpr hpos).le, hσ, hwe, hp c]
  generalize (∑ d : Fin 256, prob q K d * dprob V o d) = S
  generalize dprob V o c = D
  rw [Ideal.div_coe hpos.ne', sub_eq_add_neg, EReal.left_distrib_of_nonneg_of_ne_top (EReal.coe_nonneg.mpr (div_pos (hw c) hpos).le) (EReal.coe_ne_top _),
    EReal.right_distrib_of_nonneg_of_ne_top (EReal.coe_nonneg.mpr (hw c).le) (EReal.coe_ne_top _)]
  congr 2
  · rw [mul_assoc, ← EReal.coe_mul, mul_comm, one_div_mul_eq_div]
  · rw [← mul_neg, mul_assoc, mul_comm (-S), ← mul_assoc, ← EReal.coe_mul, one_div_mul_eq_div]

/-- A sum over all rows is the sum over the tiles of the sum over a tile's rows. -/
theorem sum_tiles (f : ℕ → EReal) (n b : ℕ) :
    ∑ x ∈ Finset.range (b * (n + 1)), f x = ∑ x ∈ Finset.range (b * n), f x + ∑ r : Fin b, f (b * n + r.val) := by
  rw [Nat.mul_succ, Finset.sum_range_add, Finset.sum_range (fun x => f (b * n + x))]

end Cert.Mem

end
-- ==== Proof.Mem.Pay.lean ====
/-
  The gradient of the memory attention, kernel side: what the body computes from one tile of 1024 queries and one head's
  256 memory slots, read element by element as extended reals.
-/
module

public import proofs.«01_k».proof.Proof.Mem.Math
public import proofs.«01_k».proof.Proof.Gen.KernelIdeal.Skeleton
public import Idealize.ShloMosaic.Lib.Pointwise
public import Idealize.ShloMosaic.Lib.ValueIdx

@[expose] public section

set_option maxRecDepth 16384

noncomputable section

open Idealize.ShloMosaic
open scoped BigOperators

namespace Cert.KernelIdeal.Pay

open Cert.KernelIdeal Cert.KernelIdeal.Gen Cert.Mem

/-- Row `r` of a tile. -/
abbrev rowOf {n : ℕ} (x : (⟨2, ![n, 128]⟩ : Shape).Idx → EReal) (r : Fin n) : Row := fun e => x (ix2 r e)
/-- The rows of a block of memory slots. -/
abbrev matOf (x : S256x128.Idx → EReal) : Mat := fun c e => x (ix2 c e)

/-- The float pattern of minus infinity is the least extended real. -/
theorem bits_neg_inf : Ideal.ofBits .f32 0xFF800000#32 = ⊥ := by
  simp [Ideal.ofBits, Ideal.ieee]

/-- The body's probabilities are the softmax of the row's scores. -/
theorem pay7_apply (q : Vec Ideal S1024x128 .f32) (k : Vec Ideal S256x128 .f32) (r : Fin 1024) (c : Fin 256) :
    k0_pay7 (F := Ideal) q k (ix2 r c) = prob (rowOf q r) (matOf k) c := by
  unfold k0_pay7
  pointwise [dot_S1024x128_S256x128_S1024x256_1_1_0_0_n_n]
  rw [bits_neg_inf]
  rfl

/-- The body's gradient of the scores is `p (dp - Σ p dp)` times the scale. -/
theorem pay8_apply (v : Vec Ideal S256x128 .f32) (o : Vec Ideal S1024x128 .f32) (q : Vec Ideal S1024x128 .f32)
    (k : Vec Ideal S256x128 .f32) (r : Fin 1024) (c : Fin 256) :
    k0_pay8 (F := Ideal) v o q k (ix2 r c) = dscore (rowOf q r) (matOf k) (matOf v) (rowOf o r) c := by
  unfold k0_pay8 k0_pay6
  pointwise [dot_S1024x128_S256x128_S1024x256_1_1_0_0_n_n, pay7_apply]
  rfl

/-- The body's gradient of the queries. -/
theorem pay9_apply (k v : Vec Ideal S256x128 .f32) (o q : Vec Ideal S1024x128 .f32) (r : Fin 1024) (e : Fin 128) :
    k0_pay9 (F := Ideal) k v o q k (ix2 r e)
      = ∑ c : Fin 256, dscore (rowOf q r) (matOf k) (matOf v) (rowOf o r) c * k (ix2 c e) := by
  unfold k0_pay9
  pointwise [dot_S1024x256_S256x128_S1024x128_1_0_0_1_n_n, pay8_apply]

/-- The body's step of the keys' gradient: the tile's contribution added to what was there. -/
theorem pay3_apply (v : Vec Ideal S256x128 .f32) (o q : Vec Ideal S1024x128 .f32) (k : Vec Ideal S256x128 .f32)
    (acc : Vec Ideal S256x128 .f32) (c : Fin 256) (e : Fin 128) :
    k0_pay3 (F := Ideal) (k0_pay5 q) (k0_pay8 v o q k) acc (ix2 c e)
      = acc (ix2 c e) + ∑ r : Fin 1024, dscore (rowOf q r) (matOf k) (matOf v) (rowOf o r) c * q (ix2 r e) := by
  unfold k0_pay3 k0_pay5
  pointwise [dot_S1024x256_S1024x128_S256x128_0_0_1_1_n_n, pay8_apply]

/-- The body's step of the values' gradient: the tile's contribution added to what was there. -/
theorem pay4_apply (o q : Vec Ideal S1024x128 .f32) (k : Vec Ideal S256x128 .f32)
    (acc : Vec Ideal S256x128 .f32) (c : Fin 256) (e : Fin 128) :
    k0_pay4 (F := Ideal) (k0_pay6 o) (k0_pay7 q k) acc (ix2 c e)
      = acc (ix2 c e) + ∑ r : Fin 1024, prob (rowOf q r) (matOf k) c * o (ix2 r e) := by
  unfold k0_pay4 k0_pay6
  pointwise [dot_S1024x256_S1024x128_S256x128_0_0_1_1_n_n, pay7_apply]

/-- The first zeros. -/
theorem pay1_apply (i : S256x128.Idx) : k0_pay1 (F := Ideal) i = 0 := by
  unfold k0_pay1; pointwise

/-- The second zeros. -/
theorem pay2_apply (i : S256x128.Idx) : k0_pay2 (F := Ideal) i = 0 := by
  unfold k0_pay2; pointwise

end Cert.KernelIdeal.Pay

end
-- ==== Proof.Mem.Outs.lean ====
/-
  The gradient of the memory attention, kernel side: what the body leaves in its three output blocks, at the first tile of
  a head (it stores zeros into the two accumulators first) and at the others (it adds to what the tile before left).
-/
module

public import proofs.«01_k».proof.Proof.Mem.Pay
public import proofs.«01_k».proof.Proof.Gen.KernelIdeal.Value

@[expose] public section

set_option maxRecDepth 16384

noncomputable section

open Idealize.ShloMosaic Idealize.ShloMosaic.TcCoe Idealize.SL.Sem

namespace Cert.KernelIdeal.Outs

open Cert.KernelIdeal Cert.KernelIdeal.Gen

variable {F : FTy → Type} [FloatOps F]

/-- The literal offset of every access is zero. -/
theorem hz : (![0, 0] : Fin 2 → Nat) = fun _ => 0 := funext fun a => by fin_cases a <;> rfl

set_option maxHeartbeats 1000000 in
/-- What the body leaves of the queries' gradient at the first tile of a head. -/
theorem out_A_4 (c : Dev nD) (i : grid0.Coords) (a2 : Memref sig .tc .vmem S1024x128 .f32) (h2 : a2.IsWhole)
    (a3 : Memref sig .tc .vmem S256x128 .f32) (h3 : a3.IsWhole) (a4 : Memref sig .tc .vmem S256x128 .f32) (h4 : a4.IsWhole)
    (a5 : Memref sig .tc .vmem S1024x128 .f32) (h5 : a5.IsWhole) (a6 : Memref sig .tc .vmem S1024x128 .bf16) (h6 : a6.IsWhole)
    (a7 : Memref sig .tc .vmem S256x128 .f32) (h7 : a7.IsWhole) (a8 : Memref sig .tc .vmem S256x128 .f32) (h8 : a8.IsWhole) (hc : cond0_0 i)
    (x0 : Vec F S1024x128 .f32) (x1 x2 : Vec F S256x128 .f32) (x3 : Vec F S1024x128 .f32) :
    out0_A_4 c i a2 h2 a3 h3 a4 h4 a5 h5 a6 h6 a7 h7 a8 h8 hc x0 x1 x2 x3 = k0_pay9 x1 x2 x3 x0 x1 := by
  unfold out0_A_4
  rw [View.read_writes_eq_canon _ _ _ (cover0_A_4 c i a2 h2 a3 h3 a4 h4 a5 h5 a6 h6 a7 h7 a8 h8 hc x0 x1 x2 x3)]
  unfold kernelRun0_A
  dsimp only
  sl_unfold_words
  rw [View.canon_unit_zero (S := S1024x128) hz]
  simp only [View.readAt_eq_ld, h2.read_unread, h3.read_unread, h4.read_unread, h5.read_unread, h7.read_unread, h8.read_unread,
    View.ld_unit_zero (S := S1024x128) hz, View.ld_unit_zero (S := S256x128) hz]

set_option maxHeartbeats 1000000 in
/-- What the body leaves of the keys' gradient at the first tile of a head. -/
theorem out_A_5 (c : Dev nD) (i : grid0.Coords) (a2 : Memref sig .tc .vmem S1024x128 .f32) (h2 : a2.IsWhole)
    (a3 : Memref sig .tc .vmem S256x128 .f32) (h3 : a3.IsWhole) (a4 : Memref sig .tc .vmem S256x128 .f32) (h4 : a4.IsWhole)
    (a5 : Memref sig .tc .vmem S1024x128 .f32) (h5 : a5.IsWhole) (a6 : Memref sig .tc .vmem S1024x128 .bf16) (h6 : a6.IsWhole)
    (a7 : Memref sig .tc .vmem S256x128 .f32) (h7 : a7.IsWhole) (a8 : Memref sig .tc .vmem S256x128 .f32) (h8 : a8.IsWhole) (hc : cond0_0 i)
    (x0 : Vec F S1024x128 .f32) (x1 x2 : Vec F S256x128 .f32) (x3 : Vec F S1024x128 .f32) :
    out0_A_5 c i a2 h2 a3 h3 a4 h4 a5 h5 a6 h6 a7 h7 a8 h8 hc x0 x1 x2 x3 = k0_pay3 (k0_pay5 x0) (k0_pay8 x2 x3 x0 x1) k0_pay1 := by
  unfold out0_A_5
  rw [View.read_writes_eq_canon _ _ _ (cover0_A_5 c i a2 h2 a3 h3 a4 h4 a5 h5 a6 h6 a7 h7 a8 h8 hc x0 x1 x2 x3)]
  unfold kernelRun0_A
  dsimp only
  sl_unfold_words
  rw [View.canon_cons_unit_zero (S := S256x128) hz, View.readCov_unit_zero (S := S256x128) _ hz]
  simp only [View.readAt_eq_ld, h2.read_unread, h3.read_unread, h4.read_unread, h5.read_unread, h7.read_unread, h8.read_unread,
    View.ld_unit_zero (S := S1024x128) hz, View.ld_unit_zero (S := S256x128) hz]

set_option maxHeartbeats 1000000 in
/-- What the body leaves of the values' gradient at the first tile of a head. -/
theorem out_A_6 (c : Dev nD) (i : grid0.Coords) (a2 : Memref sig .tc .vmem S1024x128 .f32) (h2 : a2.IsWhole)
    (a3 : Memref sig .tc .vmem S256x128 .f32) (h3 : a3.IsWhole) (a4 : Memref sig .tc .vmem S256x128 .f32) (h4 : a4.IsWhole)
    (a5 : Memref sig .tc .vmem S1024x128 .f32) (h5 : a5.IsWhole) (a6 : Memref sig .tc .vmem S1024x128 .bf16) (h6 : a6.IsWhole)
    (a7 : Memref sig .tc .vmem S256x128 .f32) (h7 : a7.IsWhole) (a8 : Memref sig .tc .vmem S256x128 .f32) (h8 : a8.IsWhole) (hc : cond0_0 i)
    (x0 : Vec F S1024x128 .f32) (x1 x2 : Vec F S256x128 .f32) (x3 : Vec F S1024x128 .f32) :
    out0_A_6 c i a2 h2 a3 h3 a4 h4 a5 h5 a6 h6 a7 h7 a8 h8 hc x0 x1 x2 x3 = k0_pay4 (k0_pay6 x3) (k0_pay7 x0 x1) k0_pay2 := by
  unfold out0_A_6
  rw [View.read_writes_eq_canon _ _ _ (cover0_A_6 c i a2 h2 a3 h3 a4 h4 a5 h5 a6 h6 a7 h7 a8 h8 hc x0 x1 x2 x3)]
  unfold kernelRun0_A
  dsimp only
  sl_unfold_words
  rw [View.canon_cons_unit_zero (S := S256x128) hz, View.readCov_unit_zero (S := S256x128) _ hz]
  simp only [View.readAt_eq_ld, h2.read_unread, h3.read_unread, h4.read_unread, h5.read_unread, h7.read_unread, h8.read_unread,
    View.ld_unit_zero (S := S1024x128) hz, View.ld_unit_zero (S := S256x128) hz]

set_option maxHeartbeats 1000000 in
/-- What the body leaves of the queries' gradient at a later tile of a head. -/
theorem out_B_4 (c : Dev nD) (i : grid0.Coords) (a2 : Memref sig .tc .vmem S1024x128 .f32) (h2 : a2.IsWhole)
    (a3 : Memref sig .tc .vmem S256x128 .f32) (h3 : a3.IsWhole) (a4 : Memref sig .tc .vmem S256x128 .f32) (h4 : a4.IsWhole)
    (a5 : Memref sig .tc .vmem S1024x128 .f32) (h5 : a5.IsWhole) (a6 : Memref sig .tc .vmem S1024x128 .bf16) (h6 : a6.IsWhole)
    (a7 : Memref sig .tc .vmem S256x128 .f32) (h7 : a7.IsWhole) (a8 : Memref sig .tc .vmem S256x128 .f32) (h8 : a8.IsWhole) (hc : ¬cond0_0 i)
    (x0 : Vec F S1024x128 .f32) (x1 x2 : Vec F S256x128 .f32) (x3 : Vec F S1024x128 .f32) (y5 y6 : Vec F S256x128 .f32) :
    out0_B_4 c i a2 h2 a3 h3 a4 h4 a5 h5 a6 h6 a7 h7 a8 h8 hc x0 x1 x2 x3 y5 y6 = k0_pay9 x1 x2 x3 x0 x1 := by
  unfold out0_B_4
  rw [View.read_writes_eq_canon _ _ _ (cover0_B_4 c i a2 h2 a3 h3 a4 h4 a5 h5 a6 h6 a7 h7 a8 h8 hc x0 x1 x2 x3 y5 y6)]
  unfold kernelRun0_B
  dsimp only
  sl_unfold_words
  rw [View.canon_unit_zero (S := S1024x128) hz]
  simp only [View.readAt_eq_ld, h2.read_unread, h3.read_unread, h4.read_unread, h5.read_unread, h7.read_unread, h8.read_unread,
    View.ld_unit_zero (S := S1024x128) hz, View.ld_unit_zero (S := S256x128) hz]

set_option maxHeartbeats 1000000 in
/-- What the body leaves of the keys' gradient at a later tile of a head. -/
theorem out_B_5 (c : Dev nD) (i : grid0.Coords) (a2 : Memref sig .tc .vmem S1024x128 .f32) (h2 : a2.IsWhole)
    (a3 : Memref sig .tc .vmem S256x128 .f32) (h3 : a3.IsWhole) (a4 : Memref sig .tc .vmem S256x128 .f32) (h4 : a4.IsWhole)
    (a5 : Memref sig .tc .vmem S1024x128 .f32) (h5 : a5.IsWhole) (a6 : Memref sig .tc .vmem S1024x128 .bf16) (h6 : a6.IsWhole)
    (a7 : Memref sig .tc .vmem S256x128 .f32) (h7 : a7.IsWhole) (a8 : Memref sig .tc .vmem S256x128 .f32) (h8 : a8.IsWhole) (hc : ¬cond0_0 i)
    (x0 : Vec F S1024x128 .f32) (x1 x2 : Vec F S256x128 .f32) (x3 : Vec F S1024x128 .f32) (y5 y6 : Vec F S256x128 .f32) :
    out0_B_5 c i a2 h2 a3 h3 a4 h4 a5 h5 a6 h6 a7 h7 a8 h8 hc x0 x1 x2 x3 y5 y6 = k0_pay3 (k0_pay5 x0) (k0_pay8 x2 x3 x0 x1) y5 := by
  unfold out0_B_5
  rw [View.read_writes_eq_canon _ _ _ (cover0_B_5 c i a2 h2 a3 h3 a4 h4 a5 h5 a6 h6 a7 h7 a8 h8 hc x0 x1 x2 x3 y5 y6)]
  unfold kernelRun0_B
  dsimp only
  sl_unfold_words
  rw [View.canon_unit_zero (S := S256x128) hz]
  simp only [View.readAt_eq_ld, h2.read_unread, h3.read_unread, h4.read_unread, h5.read_unread, h7.read_unread, h8.read_unread,
    View.ld_unit_zero (S := S1024x128) hz, View.ld_unit_zero (S := S256x128) hz]

set_option maxHeartbeats 1000000 in
/-- What the body leaves of the values' gradient at a later tile of a head. -/
theorem out_B_6 (c : Dev nD) (i : grid0.Coords) (a2 : Memref sig .tc .vmem S1024x128 .f32) (h2 : a2.IsWhole)
    (a3 : Memref sig .tc .vmem S256x128 .f32) (h3 : a3.IsWhole) (a4 : Memref sig .tc .vmem S256x128 .f32) (h4 : a4.IsWhole)
    (a5 : Memref sig .tc .vmem S1024x128 .f32) (h5 : a5.IsWhole) (a6 : Memref sig .tc .vmem S1024x128 .bf16) (h6 : a6.IsWhole)
    (a7 : Memref sig .tc .vmem S256x128 .f32) (h7 : a7.IsWhole) (a8 : Memref sig .tc .vmem S256x128 .f32) (h8 : a8.IsWhole) (hc : ¬cond0_0 i)
    (x0 : Vec F S1024x128 .f32) (x1 x2 : Vec F S256x128 .f32) (x3 : Vec F S1024x128 .f32) (y5 y6 : Vec F S256x128 .f32) :
    out0_B_6 c i a2 h2 a3 h3 a4 h4 a5 h5 a6 h6 a7 h7 a8 h8 hc x0 x1 x2 x3 y5 y6 = k0_pay4 (k0_pay6 x3) (k0_pay7 x0 x1) y6 := by
  unfold out0_B_6
  rw [View.read_writes_eq_canon _ _ _ (cover0_B_6 c i a2 h2 a3 h3 a4 h4 a5 h5 a6 h6 a7 h7 a8 h8 hc x0 x1 x2 x3 y5 y6)]
  unfold kernelRun0_B
  dsimp only
  sl_unfold_words
  rw [View.canon_unit_zero (S := S256x128) hz]
  simp only [View.readAt_eq_ld, h2.read_unread, h3.read_unread, h4.read_unread, h5.read_unread, h7.read_unread, h8.read_unread,
    View.ld_unit_zero (S := S1024x128) hz, View.ld_unit_zero (S := S256x128) hz]

end Cert.KernelIdeal.Outs

end
-- ==== Proof.Mem.Value.lean ====
/-
  The gradient of the memory attention, kernel side: the three arrays after the run, as functions of the arguments. The
  queries' gradient is written tile by tile; the gradients of keys and values are sums over a head's eight tiles of 1024
  rows, hence over its 8192 rows.
-/
module

public import proofs.«01_k».proof.Proof.Mem.Outs

@[expose] public section

set_option maxRecDepth 16384

noncomputable section

open Idealize.ShloMosaic Idealize.ShloMosaic.TcCoe Idealize.SL.Sem
open scoped BigOperators

namespace Cert.KernelIdeal.Final

open Cert.KernelIdeal Cert.KernelIdeal.Gen Cert.KernelIdeal.Pay Cert.KernelIdeal.Outs Cert.Mem

/-- Head `h`'s part of row `R` of an 8192 by 512 array. -/
def headRow (x : S8192x512.Idx → EReal) (h R : ℕ) : Row := fun e =>
  x (ix2 ⟨R % 8192, Nat.mod_lt _ (by decide)⟩ ⟨(128 * h + e.val) % 512, Nat.mod_lt _ (by decide)⟩)
/-- Columns `128 b` to `128 b + 127` of the keys-and-values array: head `b`'s keys, or at `4 + h` head `h`'s values. -/
def headMat (x : S256x1024.Idx → EReal) (b : ℕ) : Mat := fun c e =>
  x (ix2 c ⟨(128 * b + e.val) % 1024, Nat.mod_lt _ (by decide)⟩)

variable (m : (ℓ : Loc nD τ sig) → Buf (Elt Ideal) ℓ)

/-- Where each window's block of point `t` begins: the heads are the outer axis of the grid, the row tiles the inner. -/
theorem idx_facts : ∀ t : Fin cfg0.N,
    win0_0.index t (0 : Fin 2) = t.val % 8 ∧ win0_0.index t (1 : Fin 2) = t.val / 8
    ∧ win0_1.index t (0 : Fin 2) = 0 ∧ win0_1.index t (1 : Fin 2) = t.val / 8
    ∧ win0_2.index t (0 : Fin 2) = 0 ∧ win0_2.index t (1 : Fin 2) = 4 + t.val / 8
    ∧ win0_3.index t (0 : Fin 2) = t.val % 8 ∧ win0_3.index t (1 : Fin 2) = t.val / 8
    ∧ win0_4.index t (0 : Fin 2) = t.val % 8 ∧ win0_4.index t (1 : Fin 2) = t.val / 8
    ∧ win0_5.index t (0 : Fin 2) = 0 ∧ win0_5.index t (1 : Fin 2) = t.val / 8
    ∧ win0_6.index t (0 : Fin 2) = 0 ∧ win0_6.index t (1 : Fin 2) = t.val / 8 :=
  (by decide +kernel : ∀ t : Fin grid0.N, _)

/-- The grid has 32 points. -/
theorem lt32 (t : Fin cfg0.N) : t.val < 32 := lt_of_lt_of_eq t.isLt (show cfg0.N = 32 from N_0)

/-- The point's tile of queries. -/
theorem blk0 (c : Dev nD) (t : Fin cfg0.N) (r : Fin 1024) :
    rowOf (iblk m c 0 t : Vec Ideal S1024x128 .f32) r
      = headRow (m ((c : Thread nD τ).loc main_arg0)) (t.val / 8) (1024 * (t.val % 8) + r.val) := by
  obtain ⟨h0, h1, -⟩ := idx_facts t
  have ht := lt32 t
  funext e
  unfold rowOf headRow iblk
  rw [View.read_apply]
  show V m c main_arg0 _ = m (c.tc.loc main_arg0) _
  unfold V
  congr 1
  funext a
  apply Fin.ext
  match a with
  | ⟨0, _⟩ => show win0_0.index t 0 * 1024 + 1 * r.val = (1024 * (t.val % 8) + r.val) % 8192; rw [h0]; omega
  | ⟨1, _⟩ => show win0_0.index t 1 * 128 + 1 * e.val = (128 * (t.val / 8) + e.val) % 512; rw [h1]; omega

/-- The point's tile of the output's gradient. -/
theorem blk3 (c : Dev nD) (t : Fin cfg0.N) (r : Fin 1024) :
    rowOf (iblk m c 3 t : Vec Ideal S1024x128 .f32) r
      = headRow (m ((c : Thread nD τ).loc main_arg2)) (t.val / 8) (1024 * (t.val % 8) + r.val) := by
  obtain ⟨-, -, -, -, -, -, h0, h1, -⟩ := idx_facts t
  have ht := lt32 t
  funext e
  unfold rowOf headRow iblk
  rw [View.read_apply]
  show V m c main_arg2 _ = m (c.tc.loc main_arg2) _
  unfold V
  congr 1
  funext a
  apply Fin.ext
  match a with
  | ⟨0, _⟩ => show win0_3.index t 0 * 1024 + 1 * r.val = (1024 * (t.val % 8) + r.val) % 8192; rw [h0]; omega
  | ⟨1, _⟩ => show win0_3.index t 1 * 128 + 1 * e.val = (128 * (t.val / 8) + e.val) % 512; rw [h1]; omega

/-- The head's keys. -/
theorem blk1 (c : Dev nD) (t : Fin cfg0.N) :
    matOf (iblk m c 1 t : Vec Ideal S256x128 .f32) = headMat (m ((c : Thread nD τ).loc main_arg1)) (t.val / 8) := by
  obtain ⟨-, -, h0, h1, -⟩ := idx_facts t
  have ht := lt32 t
  funext k e
  unfold matOf headMat iblk
  rw [View.read_apply]
  show V m c main_arg1 _ = m (c.tc.loc main_arg1) _
  unfold V
  congr 1
  funext a
  apply Fin.ext
  match a with
  | ⟨0, _⟩ => show win0_1.index t 0 * 256 + 1 * k.val = k.val; rw [h0]; omega
  | ⟨1, _⟩ => show win0_1.index t 1 * 128 + 1 * e.val = (128 * (t.val / 8) + e.val) % 1024; rw [h1]; omega

/-- The head's values. -/
theorem blk2 (c : Dev nD) (t : Fin cfg0.N) :
    matOf (iblk m c 2 t : Vec Ideal S256x128 .f32) = headMat (m ((c : Thread nD τ).loc main_arg1)) (4 + t.val / 8) := by
  obtain ⟨-, -, -, -, h0, h1, -⟩ := idx_facts t
  have ht := lt32 t
  funext k e
  unfold matOf headMat iblk
  rw [View.read_apply]
  show V m c main_arg1 _ = m (c.tc.loc main_arg1) _
  unfold V
  congr 1
  funext a
  apply Fin.ext
  match a with
  | ⟨0, _⟩ => show win0_2.index t 0 * 256 + 1 * k.val = k.val; rw [h0]; omega
  | ⟨1, _⟩ => show win0_2.index t 1 * 128 + 1 * e.val = (128 * (4 + t.val / 8) + e.val) % 1024; rw [h1]; omega

/-- Row `R`'s part of the gradient of head `h`'s keys. -/
def dkTerm (q o : S8192x512.Idx → EReal) (kv : S256x1024.Idx → EReal) (h : ℕ) (k : Fin 256) (e : Fin 128) (R : ℕ) : EReal :=
  dscore (headRow q h R) (headMat kv h) (headMat kv (4 + h)) (headRow o h R) k * headRow q h R e
/-- Row `R`'s part of the gradient of head `h`'s values. -/
def dvTerm (q o : S8192x512.Idx → EReal) (kv : S256x1024.Idx → EReal) (h : ℕ) (k : Fin 256) (e : Fin 128) (R : ℕ) : EReal :=
  prob (headRow q h R) (headMat kv h) k * headRow o h R e

/-- The queries' gradient at row `R` of head `h`. -/
def dqTerm (q o : S8192x512.Idx → EReal) (kv : S256x1024.Idx → EReal) (h R : ℕ) (e : Fin 128) : EReal :=
  ∑ k : Fin 256, dscore (headRow q h R) (headMat kv h) (headMat kv (4 + h)) (headRow o h R) k * headMat kv h k e

/-- What the tile of point `t` adds to the keys' gradient. -/
theorem step5 (c : Dev nD) (t : Fin cfg0.N) (acc : Vec Ideal S256x128 .f32) (k : Fin 256) (e : Fin 128) :
    k0_pay3 (F := Ideal) (k0_pay5 (iblk m c 0 t)) (k0_pay8 (iblk m c 2 t) (iblk m c 3 t) (iblk m c 0 t) (iblk m c 1 t)) acc (ix2 k e)
      = acc (ix2 k e) + ∑ r : Fin 1024, dkTerm (m ((c : Thread nD τ).loc main_arg0)) (m ((c : Thread nD τ).loc main_arg2))
          (m ((c : Thread nD τ).loc main_arg1)) (t.val / 8) k e (1024 * (t.val % 8) + r.val) := by
  refine (pay3_apply _ _ _ _ acc k e).trans ?_
  refine congrArg (acc (ix2 k e) + ·) (Finset.sum_congr rfl fun r _ => ?_)
  rw [blk0 m c t r, blk1 m c t, blk2 m c t, blk3 m c t r]
  exact congrArg (_ * ·) (congrFun (blk0 m c t r) e)

/-- What the tile of point `t` adds to the values' gradient. -/
theorem step6 (c : Dev nD) (t : Fin cfg0.N) (acc : Vec Ideal S256x128 .f32) (k : Fin 256) (e : Fin 128) :
    k0_pay4 (F := Ideal) (k0_pay6 (iblk m c 3 t)) (k0_pay7 (iblk m c 0 t) (iblk m c 1 t)) acc (ix2 k e)
      = acc (ix2 k e) + ∑ r : Fin 1024, dvTerm (m ((c : Thread nD τ).loc main_arg0)) (m ((c : Thread nD τ).loc main_arg2))
          (m ((c : Thread nD τ).loc main_arg1)) (t.val / 8) k e (1024 * (t.val % 8) + r.val) := by
  refine (pay4_apply _ _ _ acc k e).trans ?_
  refine congrArg (acc (ix2 k e) + ·) (Finset.sum_congr rfl fun r _ => ?_)
  rw [blk0 m c t r, blk1 m c t]
  exact congrArg (_ * ·) (congrFun (blk3 m c t r) e)

/-- The keys' gradient after point `n` is the sum over the rows of the head's tiles so far. -/
theorem acc5 (c : Dev nD) (k : Fin 256) (e : Fin 128) : ∀ (n : ℕ) (hn : n < cfg0.N),
    (outsAt0 m c n hn).2.1 (ix2 k e) = ∑ R ∈ Finset.range (1024 * (n % 8 + 1)), dkTerm (m ((c : Thread nD τ).loc main_arg0))
      (m ((c : Thread nD τ).loc main_arg2)) (m ((c : Thread nD τ).loc main_arg1)) (n / 8) k e R := by
  intro n
  induction n with
  | zero =>
    intro hn
    rw [outsAt0_A m c ⟨0, hn⟩ rfl]
    dsimp only
    rw [out_A_5, step5, pay1_apply, sum_tiles]
    simp
  | succ n ih =>
    intro hn
    by_cases h0 : (n + 1) % 8 = 0
    · rw [outsAt0_A m c ⟨n + 1, hn⟩ h0]
      dsimp only
      rw [out_A_5, step5, pay1_apply, sum_tiles]
      dsimp only
      rw [h0]
      simp
    · rw [outsAt0_B m c ⟨n + 1, hn⟩ h0]
      dsimp only
      rw [out_B_5, step5, sum_tiles]
      dsimp only
      have e1 : (n + 1) % 8 = n % 8 + 1 := by omega
      have e2 : (n + 1) / 8 = n / 8 := by omega
      rw [e1, e2]
      exact congrArg (· + _) (ih (Nat.lt_of_succ_lt hn))

/-- The values' gradient after point `n` is the sum over the rows of the head's tiles so far. -/
theorem acc6 (c : Dev nD) (k : Fin 256) (e : Fin 128) : ∀ (n : ℕ) (hn : n < cfg0.N),
    (outsAt0 m c n hn).2.2 (ix2 k e) = ∑ R ∈ Finset.range (1024 * (n % 8 + 1)), dvTerm (m ((c : Thread nD τ).loc main_arg0))
      (m ((c : Thread nD τ).loc main_arg2)) (m ((c : Thread nD τ).loc main_arg1)) (n / 8) k e R := by
  intro n
  induction n with
  | zero =>
    intro hn
    rw [outsAt0_A m c ⟨0, hn⟩ rfl]
    dsimp only
    rw [out_A_6, step6, pay2_apply, sum_tiles]
    simp
  | succ n ih =>
    intro hn
    by_cases h0 : (n + 1) % 8 = 0
    · rw [outsAt0_A m c ⟨n + 1, hn⟩ h0]
      dsimp only
      rw [out_A_6, step6, pay2_apply, sum_tiles]
      dsimp only
      rw [h0]
      simp
    · rw [outsAt0_B m c ⟨n + 1, hn⟩ h0]
      dsimp only
      rw [out_B_6, step6, sum_tiles]
      dsimp only
      have e1 : (n + 1) % 8 = n % 8 + 1 := by omega
      have e2 : (n + 1) / 8 = n / 8 := by omega
      rw [e1, e2]
      exact congrArg (· + _) (ih (Nat.lt_of_succ_lt hn))

/-- The queries' gradient left by point `t`. -/
theorem out4 (c : Dev nD) (t : Fin cfg0.N) (r : Fin 1024) (e : Fin 128) :
    (outsAt0 m c t.val t.isLt).1 (ix2 r e) = dqTerm (m ((c : Thread nD τ).loc main_arg0))
      (m ((c : Thread nD τ).loc main_arg2)) (m ((c : Thread nD τ).loc main_arg1)) (t.val / 8) (1024 * (t.val % 8) + r.val) e := by
  have key : k0_pay9 (F := Ideal) (iblk m c 1 t) (iblk m c 2 t) (iblk m c 3 t) (iblk m c 0 t) (iblk m c 1 t) (ix2 r e)
      = dqTerm (m ((c : Thread nD τ).loc main_arg0)) (m ((c : Thread nD τ).loc main_arg2)) (m ((c : Thread nD τ).loc main_arg1))
        (t.val / 8) (1024 * (t.val % 8) + r.val) e := by
    refine (pay9_apply _ _ _ _ r e).trans ?_
    unfold dqTerm
    refine Finset.sum_congr rfl fun k _ => ?_
    rw [blk0 m c t r, blk1 m c t, blk2 m c t, blk3 m c t r]
    exact congrArg (_ * ·) (congrFun (congrFun (blk1 m c t) k) e)
  by_cases h0 : t.val % 8 = 0
  · rw [outsAt0_A m c t h0]; dsimp only; rw [out_A_4]; exact key
  · rw [outsAt0_B m c t h0]; dsimp only; rw [out_B_4]; exact key

end Cert.KernelIdeal.Final

end
-- ==== Proof.Mem.Arrays.lean ====
/-
  The gradient of the memory attention, kernel side: the arrays after the run.
-/
module

public import proofs.«01_k».proof.Proof.Mem.Value
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open scoped BigOperators

namespace Cert.KernelIdeal.Final

open Cert.KernelIdeal Cert.KernelIdeal.Gen Cert.KernelIdeal.Pay Cert.KernelIdeal.Outs Cert.Mem

variable (m : (ℓ : Loc nD τ sig) → Buf (Elt Ideal) ℓ)

/-- The queries' gradient as an array. -/
def dqArr (q : S8192x512.Idx → EReal) (kv : S256x1024.Idx → EReal) (o : S8192x512.Idx → EReal) : S8192x512.Idx → EReal :=
  fun i => dqTerm q o kv ((i 1).val / 128) (i 0).val ⟨(i 1).val % 128, Nat.mod_lt _ (by decide)⟩
/-- The keys' gradient as an array: at every head a sum over all rows. -/
def dkArr (q : S8192x512.Idx → EReal) (kv : S256x1024.Idx → EReal) (o : S8192x512.Idx → EReal) : S256x512.Idx → EReal :=
  fun i => ∑ R ∈ Finset.range 8192, dkTerm q o kv ((i 1).val / 128) (i 0) ⟨(i 1).val % 128, Nat.mod_lt _ (by decide)⟩ R
/-- The values' gradient as an array: at every head a sum over all rows. -/
def dvArr (q : S8192x512.Idx → EReal) (kv : S256x1024.Idx → EReal) (o : S8192x512.Idx → EReal) : S256x512.Idx → EReal :=
  fun i => ∑ R ∈ Finset.range 8192, dvTerm q o kv ((i 1).val / 128) (i 0) ⟨(i 1).val % 128, Nat.mod_lt _ (by decide)⟩ R

/-- Where an index of a block lies in the array. -/
theorem place4 (t : Fin cfg0.N) (y : S1024x128.Idx) :
    ((((cfg0.win 4).blk t).view.emb y) 0).val = 1024 * (t.val % 8) + (y 0).val
    ∧ ((((cfg0.win 4).blk t).view.emb y) 1).val = 128 * (t.val / 8) + (y 1).val := by
  obtain ⟨-, -, -, -, -, -, -, -, h0, h1, -⟩ := idx_facts t
  constructor
  · blk_simp; rw [h0]; omega
  · blk_simp; rw [h1]; omega
/-- Where an index of a block lies in the array. -/
theorem place5 (t : Fin cfg0.N) (y : S256x128.Idx) :
    ((((cfg0.win 5).blk t).view.emb y) 0).val = (y 0).val
    ∧ ((((cfg0.win 5).blk t).view.emb y) 1).val = 128 * (t.val / 8) + (y 1).val := by
  obtain ⟨-, -, -, -, -, -, -, -, -, -, h0, h1, -⟩ := idx_facts t
  constructor
  · blk_simp; rw [h0]; omega
  · blk_simp; rw [h1]; omega
/-- Where an index of a block lies in the array. -/
theorem place6 (t : Fin cfg0.N) (y : S256x128.Idx) :
    ((((cfg0.win 6).blk t).view.emb y) 0).val = (y 0).val
    ∧ ((((cfg0.win 6).blk t).view.emb y) 1).val = 128 * (t.val / 8) + (y 1).val := by
  obtain ⟨-, -, -, -, -, -, -, -, -, -, -, -, h0, h1⟩ := idx_facts t
  constructor
  · blk_simp; rw [h0]; omega
  · blk_simp; rw [h1]; omega

/-- The queries' gradient at an index, by row, head and column. -/
theorem dqArr_at (q o : S8192x512.Idx → EReal) (kv : S256x1024.Idx → EReal) (i : S8192x512.Idx) (h R : ℕ) (e : Fin 128)
    (h0 : (i 0).val = R) (h1 : (i 1).val = 128 * h + e.val) : dqArr q kv o i = dqTerm q o kv h R e := by
  have a : (i 1).val / 128 = h := by omega
  have b : (⟨(i 1).val % 128, Nat.mod_lt _ (by decide)⟩ : Fin 128) = e := Fin.ext (by show (i 1).val % 128 = e.val; omega)
  unfold dqArr; rw [a, b, h0]
/-- The keys' gradient at an index, by head and column. -/
theorem dkArr_at (q o : S8192x512.Idx → EReal) (kv : S256x1024.Idx → EReal) (i : S256x512.Idx) (h : ℕ) (k : Fin 256) (e : Fin 128)
    (h0 : (i 0).val = k.val) (h1 : (i 1).val = 128 * h + e.val) :
    dkArr q kv o i = ∑ R ∈ Finset.range 8192, dkTerm q o kv h k e R := by
  have a : (i 1).val / 128 = h := by omega
  have b : (⟨(i 1).val % 128, Nat.mod_lt _ (by decide)⟩ : Fin 128) = e := Fin.ext (by show (i 1).val % 128 = e.val; omega)
  have d : (i 0 : Fin 256) = k := Fin.ext h0
  unfold dkArr; rw [a, b]; exact congrArg (fun k => ∑ R ∈ Finset.range 8192, dkTerm q o kv h k e R) d
/-- The values' gradient at an index, by head and column. -/
theorem dvArr_at (q o : S8192x512.Idx → EReal) (kv : S256x1024.Idx → EReal) (i : S256x512.Idx) (h : ℕ) (k : Fin 256) (e : Fin 128)
    (h0 : (i 0).val = k.val) (h1 : (i 1).val = 128 * h + e.val) :
    dvArr q kv o i = ∑ R ∈ Finset.range 8192, dvTerm q o kv h k e R := by
  have a : (i 1).val / 128 = h := by omega
  have b : (⟨(i 1).val % 128, Nat.mod_lt _ (by decide)⟩ : Fin 128) = e := Fin.ext (by show (i 1).val % 128 = e.val; omega)
  have d : (i 0 : Fin 256) = k := Fin.ext h0
  unfold dvArr; rw [a, b]; exact congrArg (fun k => ∑ R ∈ Finset.range 8192, dvTerm q o kv h k e R) d

/-- After the run the first array is the queries' gradient. -/
theorem arr4 (c : Dev nD) : (dats m 0 c).arrAt 4 cfg0.N = dqArr (m ((c : Thread nD τ).loc main_arg0))
    (m ((c : Thread nD τ).loc main_arg1)) (m ((c : Thread nD τ).loc main_arg2)) := by
  refine (dats m 0 c).arrAt_eq_of_covers 4 _ (by decide +kernel) fun t hf y => ?_
  have hp := place4 t y
  blk_simp
  rw [after0_4]
  have hy : (y : S1024x128.Idx) = ix2 (y 0) (y 1) := ValueIdx.eq_ix2 y
  refine (congrArg (outsAt0 m c t.val t.isLt).1 hy).trans ((out4 m c t (y 0) (y 1)).trans ?_)
  exact (dqArr_at _ _ _ _ _ _ _ hp.1 hp.2).symm

/-- After the run the second array is the keys' gradient. -/
theorem arr5 (c : Dev nD) : (dats m 0 c).arrAt 5 cfg0.N = dkArr (m ((c : Thread nD τ).loc main_arg0))
    (m ((c : Thread nD τ).loc main_arg1)) (m ((c : Thread nD τ).loc main_arg2)) := by
  refine (dats m 0 c).arrAt_eq_of_covers 5 _ (by decide +kernel) fun t hf y => ?_
  have hp := place5 t y
  have ht := (flush0_5 t).mp hf
  blk_simp
  rw [after0_5]
  have hy : (y : S256x128.Idx) = ix2 (y 0) (y 1) := ValueIdx.eq_ix2 y
  refine (congrArg (outsAt0 m c t.val t.isLt).2.1 hy).trans ((acc5 m c (y 0) (y 1) t.val t.isLt).trans ?_)
  rw [ht]
  exact (dkArr_at _ _ _ _ _ _ _ hp.1 hp.2).symm

/-- After the run the third array is the values' gradient. -/
theorem arr6 (c : Dev nD) : (dats m 0 c).arrAt 6 cfg0.N = dvArr (m ((c : Thread nD τ).loc main_arg0))
    (m ((c : Thread nD τ).loc main_arg1)) (m ((c : Thread nD τ).loc main_arg2)) := by
  refine (dats m 0 c).arrAt_eq_of_covers 6 _ (by decide +kernel) fun t hf y => ?_
  have hp := place6 t y
  have ht := (flush0_6 t).mp hf
  blk_simp
  rw [after0_6]
  have hy : (y : S256x128.Idx) = ix2 (y 0) (y 1) := ValueIdx.eq_ix2 y
  refine (congrArg (outsAt0 m c t.val t.isLt).2.2 hy).trans ((acc6 m c (y 0) (y 1) t.val t.isLt).trans ?_)
  rw [ht]
  exact (dvArr_at _ _ _ _ _ _ _ hp.1 hp.2).symm

end Cert.KernelIdeal.Final

end
-- ==== Proof.Mem.Ref.lean ====
/-
  The gradient of the memory attention, reference side, read at indices: head `h`, row `R`, memory slot `c`, column `e`.
-/
module

public import proofs.«01_k».proof.Proof.Mem.Arrays
public import proofs.«01_k».proof.Proof.Gen.ReferenceIdeal.Run
public import proofs.«01_k».proof.Proof.Gen.ReferenceIdeal.Read
public import Idealize.ShloMosaic.Lib.Pointwise
public import Idealize.ShloMosaic.Lib.IdealHost

@[expose] public section

set_option maxRecDepth 16384

noncomputable section

open Idealize.ShloMosaic Idealize.ShloMosaic.TcCoe Idealize.SL.Sem
open scoped BigOperators

namespace Cert.ReferenceIdeal.At

open Cert.ReferenceIdeal Cert.ReferenceIdeal.Read Cert.Mem
open Cert.KernelIdeal.Final (headRow headMat dkTerm dvTerm dqTerm dqArr dkArr dvArr)

variable (q : (⟨S8192x512, .f32⟩ : BufTy).Contents (Elt Ideal)) (kv : (⟨S256x1024, .f32⟩ : BufTy).Contents (Elt Ideal)) (o : (⟨S8192x512, .f32⟩ : BufTy).Contents (Elt Ideal))

/-- The keys split by head. -/
theorem keys (h : Fin 4) (c : Fin 256) (e : Fin 128) :
    val_main_v2 (F := Ideal) kv (ix4 (0 : Fin 1) c h e) = headMat kv h.val c e := by
  unfold val_main_v2 val_main_v0
  pointwise
  unfold headMat
  refine congrArg kv (congrArg (ix2 c) (Fin.ext ?_))
  show _ = (128 * h.val + e.val) % 1024
  simp only []
  omega
/-- The values split by head. -/
theorem vals (h : Fin 4) (c : Fin 256) (e : Fin 128) :
    val_main_v3 (F := Ideal) kv (ix4 (0 : Fin 1) c h e) = headMat kv (4 + h.val) c e := by
  unfold val_main_v3 val_main_v1
  pointwise
  unfold headMat
  refine congrArg kv (congrArg (ix2 c) (Fin.ext ?_))
  show _ = (128 * (4 + h.val) + e.val) % 1024
  simp only []
  omega
/-- The queries split by head. -/
theorem queries (h : Fin 4) (R : Fin 8192) (e : Fin 128) :
    val_main_v4 (F := Ideal) q (ix4 (0 : Fin 1) R h e) = headRow q h.val R.val e := by
  unfold val_main_v4
  pointwise
  unfold headRow
  refine congrArg q (congrArg₂ ix2 (Fin.ext ?_) (Fin.ext ?_))
  · exact (Nat.mod_eq_of_lt R.isLt).symm
  · show _ = (128 * h.val + e.val) % 512
    simp only []
    omega
/-- The gradient of the output split by head. -/
theorem outs (h : Fin 4) (R : Fin 8192) (e : Fin 128) :
    val_main_v42 (F := Ideal) o (ix4 (0 : Fin 1) h e R) = headRow o h.val R.val e := by
  unfold val_main_v42 val_main_v41 val_main_v40
  pointwise
  unfold headRow
  refine congrArg o (congrArg₂ ix2 (Fin.ext ?_) (Fin.ext ?_))
  · exact (Nat.mod_eq_of_lt R.isLt).symm
  · show _ = (128 * h.val + e.val) % 512
    simp only []
    omega

/-- The scaled scores. -/
theorem scores (h : Fin 4) (R : Fin 8192) (c : Fin 256) :
    val_main_v7 (F := Ideal) q kv (ix4 (0 : Fin 1) h R c) = score (headRow q h.val R.val) (headMat kv h.val) c := by
  unfold val_main_v7 val_main_v5 val_main_v6 val_main_cst
  pointwise [queries, keys]
  rfl
/-- The greatest entry of a row, of any array of scores. -/
theorem row_max (y : (⟨S1x4x8192x256, .f32⟩ : BufTy).Contents (Elt Ideal)) (h : Fin 4) (R : Fin 8192) :
    Host.reduce (FloatOps.maximumf (F := Ideal) (φ := .f32)) y (val_main_cst_0 (F := Ideal)) Gen.reducesTo_S1x4x8192x256_S1x4x8192_d3 Gen.h_S_
        (ix3 (0 : Fin 1) h R)
      = (Finset.univ : Finset (Fin 256)).fold max ⊥ (fun x => y (ix4 (0 : Fin 1) h R x)) := by
  pointwise [val_main_cst_0]
  rw [Cert.KernelIdeal.Pay.bits_neg_inf]
/-- The greatest score of a row. -/
theorem tops (h : Fin 4) (R : Fin 8192) :
    val_main_v15 (F := Ideal) q kv (ix3 (0 : Fin 1) h R) = top (headRow q h.val R.val) (headMat kv h.val) := by
  have e : val_main_v8 (F := Ideal) q kv (ix3 (0 : Fin 1) h R) = top (headRow q h.val R.val) (headMat kv h.val) := by
    unfold val_main_v8 top
    refine (row_max _ h R).trans ?_
    exact congrArg (fun f => (Finset.univ : Finset (Fin 256)).fold max ⊥ f) (funext fun c => scores q kv h R c)
  rw [val_main_v15_apply, e]
  unfold val_main_v14 val_main_cst_2
  generalize top (headRow q h.val R.val) (headMat kv h.val) = x
  pointwise
  rw [Cert.KernelIdeal.Pay.bits_neg_inf]
  exact max_eq_right bot_le
/-- The exponentials of a row. -/
theorem weights (h : Fin 4) (R : Fin 8192) (c : Fin 256) :
    val_main_v28 (F := Ideal) q kv (ix4 (0 : Fin 1) h R c) = weight (headRow q h.val R.val) (headMat kv h.val) c := by
  unfold val_main_v28 val_main_v27 val_main_v26 val_main_v25
  pointwise [scores, tops]
  rfl
/-- The sum of a row's exponentials. -/
theorem totals (h : Fin 4) (R : Fin 8192) :
    val_main_v30 (F := Ideal) q kv (ix4 (0 : Fin 1) h R (0 : Fin 1)) = total (headRow q h.val R.val) (headMat kv h.val) := by
  unfold val_main_v30 val_main_v29 val_main_cst_8
  pointwise [weights]
  rfl
/-- The softmax. -/
theorem probs (h : Fin 4) (R : Fin 8192) (c : Fin 256) :
    val_main_v32 (F := Ideal) q kv (ix4 (0 : Fin 1) h R c) = prob (headRow q h.val R.val) (headMat kv h.val) c := by
  unfold val_main_v32 val_main_v31
  pointwise [weights, totals]
  rfl
/-- The gradient of the probabilities. -/
theorem dprobs (h : Fin 4) (R : Fin 8192) (c : Fin 256) :
    val_main_v43 (F := Ideal) kv o (ix4 (0 : Fin 1) h R c) = dprob (headMat kv (4 + h.val)) (headRow o h.val R.val) c := by
  unfold val_main_v43
  pointwise [outs, vals]
  rfl
/-- The sum over the two axes of extent one. -/
theorem unit_sum (y : (⟨S1x4x8192x1, .f32⟩ : BufTy).Contents (Elt Ideal)) (h : Fin 4) (R : Fin 8192) :
    Ideal.hostReduceAdd Gen.reducesTo_S1x4x8192x1_S4x8192_d0_3 y 0 (ix2 h R) = y (ix4 (0 : Fin 1) h R (0 : Fin 1)) := by
  unfold Ideal.hostReduceAdd
  rw [Finset.sum_filter_eq_sum_of_fiber _ (fun _ : Unit => ix4 (0 : Fin 1) h R (0 : Fin 1)) (fun _ _ _ => rfl) (fun i => ?_) y]
  · simp
  · constructor
    · intro e
      refine ⟨(), ?_⟩
      funext a; apply Fin.ext
      match a with
      | ⟨0, _⟩ => have := (i 0).isLt; show 0 = (i 0).val; change (i 0).val < 1 at this; omega
      | ⟨1, _⟩ => exact (congrArg Fin.val (congrFun e 0)).symm
      | ⟨2, _⟩ => exact (congrArg Fin.val (congrFun e 1)).symm
      | ⟨3, _⟩ => have := (i 3).isLt; show 0 = (i 3).val; change (i 3).val < 1 at this; omega
    · rintro ⟨k, rfl⟩
      funext b
      apply Fin.ext
      match b with
      | ⟨0, _⟩ => rfl
      | ⟨1, _⟩ => rfl
/-- The terms of the sum that the softmax's derivative subtracts. -/
theorem prods (h : Fin 4) (R : Fin 8192) (c : Fin 256) :
    val_main_v48 (F := Ideal) q kv o (ix4 (0 : Fin 1) h R c)
      = dprob (headMat kv (4 + h.val)) (headRow o h.val R.val) c
        * Ideal.div 1 (total (headRow q h.val R.val) (headMat kv h.val) * total (headRow q h.val R.val) (headMat kv h.val))
        * weight (headRow q h.val R.val) (headMat kv h.val) c := by
  unfold val_main_v48 val_main_v47 val_main_v46 val_main_v35 val_main_v34 val_main_cst_9 val_main_v33
  pointwise [weights, totals, dprobs]
/-- The sum that the softmax's derivative subtracts. -/
theorem sums (h : Fin 4) (R : Fin 8192) :
    val_main_v51 (F := Ideal) q kv o (ix4 (0 : Fin 1) h R (0 : Fin 1))
      = -∑ d : Fin 256, dprob (headMat kv (4 + h.val)) (headRow o h.val R.val) d
        * Ideal.div 1 (total (headRow q h.val R.val) (headMat kv h.val) * total (headRow q h.val R.val) (headMat kv h.val))
        * weight (headRow q h.val R.val) (headMat kv h.val) d := by
  unfold val_main_v51 val_main_v50 val_main_v49 val_main_cst_10
  pointwise [prods]
/-- The gradient of the unscaled scores. -/
theorem dscores (h : Fin 4) (R : Fin 8192) (c : Fin 256) :
    val_main_v60 (F := Ideal) q kv o (ix4 (0 : Fin 1) h R c)
      = dscoreRef (headRow q h.val R.val) (headMat kv h.val) (headMat kv (4 + h.val)) (headRow o h.val R.val) c := by
  unfold val_main_v60 val_main_v59 val_main_cst_12 val_main_v58 val_main_v57 val_main_v53 val_main_v52 val_main_v56 val_main_v55
    val_main_v54 val_main_cst_11
  pointwise [weights, totals, dprobs]
  rw [unit_sum, sums]
  rfl
/-- The queries' gradient. -/
theorem dqs (R : Fin 8192) (h : Fin 4) (e : Fin 128) (E : Fin 512) (hE : E.val = 128 * h.val + e.val) :
    val_main_v68 (F := Ideal) q kv o (ix2 R E) = ∑ k : Fin 256,
      dscoreRef (headRow q h.val R.val) (headMat kv h.val) (headMat kv (4 + h.val)) (headRow o h.val R.val) k * headMat kv h.val k e := by
  have a : (⟨E.val / 128, by omega⟩ : Fin 4) = h := Fin.ext (by show E.val / 128 = h.val; omega)
  have b : (⟨E.val % 128, by omega⟩ : Fin 128) = e := Fin.ext (by show E.val % 128 = e.val; omega)
  unfold val_main_v68 val_main_v65 val_main_v64 val_main_v63
  pointwise
  simp only [a, b, dscores, keys]
/-- The keys' gradient. -/
theorem dks (c : Fin 256) (h : Fin 4) (e : Fin 128) (E : Fin 512) (hE : E.val = 128 * h.val + e.val) :
    val_main_v67 (F := Ideal) q kv o (ix2 c E) = ∑ R : Fin 8192,
      dscoreRef (headRow q h.val R.val) (headMat kv h.val) (headMat kv (4 + h.val)) (headRow o h.val R.val) c * headRow q h.val R.val e := by
  have a : (⟨E.val / 128, by omega⟩ : Fin 4) = h := Fin.ext (by show E.val / 128 = h.val; omega)
  have b : (⟨E.val % 128, by omega⟩ : Fin 128) = e := Fin.ext (by show E.val % 128 = e.val; omega)
  unfold val_main_v67 val_main_v62 val_main_v61
  pointwise
  simp only [a, b, dscores, queries]
/-- The values' gradient. -/
theorem dvs (c : Fin 256) (h : Fin 4) (e : Fin 128) (E : Fin 512) (hE : E.val = 128 * h.val + e.val) :
    val_main_v66 (F := Ideal) q kv o (ix2 c E) = ∑ R : Fin 8192,
      headRow o h.val R.val e * prob (headRow q h.val R.val) (headMat kv h.val) c := by
  have a : (⟨E.val / 128, by omega⟩ : Fin 4) = h := Fin.ext (by show E.val / 128 = h.val; omega)
  have b : (⟨E.val % 128, by omega⟩ : Fin 128) = e := Fin.ext (by show E.val % 128 = e.val; omega)
  unfold val_main_v66 val_main_v45 val_main_v44
  pointwise
  simp only [a, b, probs, outs]

end Cert.ReferenceIdeal.At

end
-- ==== Proof.Mem.Final.lean ====
/-
  The gradient of the memory attention: kernel and reference end with equal results, when queries and keys are finite.
-/
module

public import proofs.«01_k».proof.Proof.Mem.Ref
public import proofs.«01_k».proof.Proof.Gen.Pre_scores_finite
public import proofs.«01_k».proof.Defs

@[expose] public section

set_option maxRecDepth 16384

noncomputable section

open Idealize.ShloMosaic Idealize.ShloMosaic.TcCoe Idealize.SL.Sem
open scoped BigOperators

namespace Cert.Mem

open Cert.KernelIdeal.Final Cert.ReferenceIdeal.Read

/-- A number whose absolute value is below plus infinity is real. -/
theorem real_of_abs_lt (x : EReal) (h : max x (-x) < ⊤) : ∃ r : ℝ, x = r := by
  induction x with
  | bot => simp at h
  | top => simp at h
  | coe r => exact ⟨r, rfl⟩

/-- What a comparison with plus infinity says. -/
theorem real_of_bit (x : EReal) (h : BitVec.ofBool (decide (max x (-x) < (⊤ : EReal))) = 1#1) : ∃ r : ℝ, x = r := by
  refine real_of_abs_lt x ?_
  by_contra hc
  rw [decide_eq_false hc] at h
  exact absurd h (by decide)

/-- The bits of plus infinity. -/
theorem bits_inf : Ideal.ofBits .f32 0x7F800000#32 = ⊤ := by
  simp [Ideal.ofBits, Ideal.ieee]

variable (q : Cert.KernelIdeal.S8192x512.Idx → EReal) (kv : Cert.KernelIdeal.S256x1024.Idx → EReal) (o : Cert.KernelIdeal.S8192x512.Idx → EReal)

/-- The precondition says that every query is a real number. -/
theorem real_q (h : Cert.Pre_scores_finite.fn (F := Ideal) q kv o = fun _ => 1#1) (R : Fin 8192) (E : Fin 512) :
    ∃ r : ℝ, q (ix2 R E) = r := by
  have := congrFun h (ix2 (⟨R.val, by omega⟩ : Fin 8448) E)
  unfold Cert.Pre_scores_finite.fn at this
  pointwise at this
  rw [bits_inf] at this
  exact real_of_bit _ this
/-- The precondition says that every key is a real number. -/
theorem real_k (h : Cert.Pre_scores_finite.fn (F := Ideal) q kv o = fun _ => 1#1) (c : Fin 256) (E : Fin 512) :
    ∃ r : ℝ, kv (ix2 c ⟨E.val, by omega⟩) = r := by
  have := congrFun h (ix2 (⟨8192 + c.val, by omega⟩ : Fin 8448) E)
  unfold Cert.Pre_scores_finite.fn at this
  pointwise at this
  rw [bits_inf] at this
  exact real_of_bit _ this

/-- Every entry of a head's part of a query is real. -/
theorem headRow_real (hq : ∀ R E, ∃ r : ℝ, q (ix2 R E) = r) (h R : ℕ) (e : Fin 128) : ∃ r : ℝ, headRow q h R e = r := hq _ _
/-- Every entry of a head's keys is real. -/
theorem headMat_real (hk : ∀ (c : Fin 256) (E : Fin 512), ∃ r : ℝ, kv (ix2 c ⟨E.val, by omega⟩) = r) (h : Fin 4) (c : Fin 256) (e : Fin 128) :
    ∃ r : ℝ, headMat kv h.val c e = r := by
  obtain ⟨r, hr⟩ := hk c ⟨128 * h.val + e.val, by omega⟩
  refine ⟨r, ?_⟩
  rw [← hr]
  unfold headMat
  refine congrArg kv (congrArg (ix2 c) (Fin.ext ?_))
  show (128 * h.val + e.val) % 1024 = 128 * h.val + e.val
  omega

/-- A sum over the rows, counted. -/
theorem sum_rows (f : ℕ → EReal) : ∑ R : Fin 8192, f R.val = ∑ R ∈ Finset.range 8192, f R := Fin.sum_univ_eq_sum_range f 8192

variable (hq : ∀ R E, ∃ r : ℝ, q (ix2 R E) = r) (hk : ∀ (c : Fin 256) (E : Fin 512), ∃ r : ℝ, kv (ix2 c ⟨E.val, by omega⟩) = r)
include hq hk

/-- The reference's first result is the queries' gradient. -/
theorem ref_dq : val_main_v68 (F := Ideal) q kv o = dqArr q kv o := by
  funext i
  obtain ⟨R, E, rfl⟩ : ∃ (R : Fin 8192) (E : Fin 512), i = ix2 R E := ⟨i 0, i 1, ValueIdx.eq_ix2 i⟩
  have hE : E.val = 128 * (⟨E.val / 128, by omega⟩ : Fin 4).val + (⟨E.val % 128, by omega⟩ : Fin 128).val := by
    show E.val = 128 * (E.val / 128) + E.val % 128; omega
  refine (Cert.ReferenceIdeal.At.dqs q kv o R ⟨E.val / 128, by omega⟩ ⟨E.val % 128, by omega⟩ E hE).trans
    (Eq.trans ?_ (dqArr_at q o kv (ix2 R E) _ _ _ rfl hE).symm)
  refine Finset.sum_congr rfl fun k _ => ?_
  rw [dscore_eq _ _ _ _ (headRow_real q hq _ _) (fun c e => headMat_real kv hk ⟨E.val / 128, by omega⟩ c e)]
  rfl

/-- The reference's second result is the keys' gradient. -/
theorem ref_dk : val_main_v67 (F := Ideal) q kv o = dkArr q kv o := by
  funext i
  obtain ⟨R, E, rfl⟩ : ∃ (R : Fin 256) (E : Fin 512), i = ix2 R E := ⟨i 0, i 1, ValueIdx.eq_ix2 i⟩
  have hE : E.val = 128 * (⟨E.val / 128, by omega⟩ : Fin 4).val + (⟨E.val % 128, by omega⟩ : Fin 128).val := by
    show E.val = 128 * (E.val / 128) + E.val % 128; omega
  refine (Cert.ReferenceIdeal.At.dks q kv o R ⟨E.val / 128, by omega⟩ ⟨E.val % 128, by omega⟩ E hE).trans
    (Eq.trans ?_ (dkArr_at q o kv (ix2 R E) _ _ _ rfl hE).symm)
  refine Eq.trans (Finset.sum_congr rfl fun r _ => ?_) (sum_rows fun r => dkTerm q o kv (E.val / 128) R ⟨E.val % 128, by omega⟩ r)
  rw [dscore_eq _ _ _ _ (headRow_real q hq _ _) (fun c e => headMat_real kv hk ⟨E.val / 128, by omega⟩ c e)]
  rfl

omit hq hk
/-- The reference's third result is the values' gradient. -/
theorem ref_dv : val_main_v66 (F := Ideal) q kv o = dvArr q kv o := by
  funext i
  obtain ⟨R, E, rfl⟩ : ∃ (R : Fin 256) (E : Fin 512), i = ix2 R E := ⟨i 0, i 1, ValueIdx.eq_ix2 i⟩
  have hE : E.val = 128 * (⟨E.val / 128, by omega⟩ : Fin 4).val + (⟨E.val % 128, by omega⟩ : Fin 128).val := by
    show E.val = 128 * (E.val / 128) + E.val % 128; omega
  refine (Cert.ReferenceIdeal.At.dvs q kv o R ⟨E.val / 128, by omega⟩ ⟨E.val % 128, by omega⟩ E hE).trans
    (Eq.trans ?_ (dvArr_at q o kv (ix2 R E) _ _ _ rfl hE).symm)
  refine Eq.trans (Finset.sum_congr rfl fun r _ => ?_) (sum_rows fun r => dvTerm q o kv (E.val / 128) R ⟨E.val % 128, by omega⟩ r)
  exact mul_comm _ _

/-- The reference of the memory attention's gradient terminates and leaves its arguments unchanged; it has no counters. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ (fun r =>
      (∀ c : Dev Cert.ReferenceIdeal.nD,
        r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2))
      ∧ r.2.sem = fun _ => 0) :=
  (θ_run Cert.ReferenceIdeal.defs _ _).mono (fun r h => ⟨fun c => (h c).2.2.2,
    Idealize.ShloMosaic.sem_eq_zero_of_no_sems (by decide) r.2⟩) (Cert.ReferenceIdeal.Value.run m ρ)

/-- The memory attention's gradient: from finite queries and keys, kernel and reference end with equal results. -/
theorem algebraic : Cert.algebraic_KernelIdeal_ReferenceIdeal_pre_scores_finite := by
  intro m ρ m' ρ' hpre hag
  refine ⟨fun c => dqArr (m (c.tc.loc Cert.KernelIdeal.main_arg0)) (m (c.tc.loc Cert.KernelIdeal.main_arg1)) (m (c.tc.loc Cert.KernelIdeal.main_arg2)),
    fun c => dkArr (m (c.tc.loc Cert.KernelIdeal.main_arg0)) (m (c.tc.loc Cert.KernelIdeal.main_arg1)) (m (c.tc.loc Cert.KernelIdeal.main_arg2)),
    fun c => dvArr (m (c.tc.loc Cert.KernelIdeal.main_arg0)) (m (c.tc.loc Cert.KernelIdeal.main_arg1)) (m (c.tc.loc Cert.KernelIdeal.main_arg2)),
    (θ_run Cert.KernelIdeal.defs _ _).mono (fun r h c => ?_) (Cert.KernelIdeal.Value.run_blocks m ρ),
    (θ_run Cert.ReferenceIdeal.defs _ _).mono (fun r h c => ?_) (Cert.ReferenceIdeal.Value.run m' ρ')⟩
  · obtain ⟨h4, h5, h6, k0, k1, k2⟩ := h c
    exact ⟨h4.trans (arr4 m c), h5.trans (arr5 m c), h6.trans (arr6 m c), k0, k1, k2⟩
  · obtain ⟨h4, h5, h6, k0, k1, k2⟩ := h c
    obtain ⟨e0, e1, e2⟩ := hag c
    have hq := real_q _ _ _ (hpre c)
    have hk := real_k _ _ _ (hpre c)
    refine ⟨h4.trans ((val_main_v68_eq m' c).trans ?_), h5.trans ((val_main_v67_eq m' c).trans ?_), h6.trans ((val_main_v66_eq _ _ _).trans ?_), k0, k1, k2⟩
    · rw [e0, e1, e2]; exact ref_dq _ _ _ hq hk
    · rw [e0, e1, e2]; exact ref_dk _ _ _ hq hk
    · rw [e0, e1, e2]; exact ref_dv _ _ _

end Cert.Mem

end
-- ==== Proof.Merge.Math.lean ====
/-
  The gradient of the gated merge of the three branches, as mathematics: with `dm` the gradient of the merged branches,
  `zg + b` the gates' arguments and `act` a branch's activations with weights `w`,
  * a branch's activations get the gated gradient times the weights, transposed,
  * its weights get the sum over the rows of the gated gradient times the activations,
  * the gates' arguments get `dm * (act w) * g * (1 - g)`, and the bias the sum of that over the rows.
  The gate is written as half a hyperbolic tangent; that this is the logistic function is shown here.
-/
module

public import proofs.«01_k».proof.Proof.Gen.Kernel2Ideal.Value
public import Idealize.ShloMosaic.Lib.Pipeline.ValueKit
public import Idealize.ShloMosaic.Lib.Pointwise
public import Idealize.ShloMosaic.Lib.IdealHost

@[expose] public section

set_option maxRecDepth 16384

noncomputable section

open Idealize.ShloMosaic
open scoped BigOperators

namespace Cert.Merge

open Cert.Kernel2Ideal

/-- The gate of an argument, as the kernel computes it. -/
def gate (v : EReal) : EReal :=
  Ideal.ofBits FTy.f32 1056964608#32 * Ideal.tanh (Ideal.ofBits FTy.f32 1056964608#32 * v) + Ideal.ofBits FTy.f32 1056964608#32

/-- The printed one half is one half. -/
theorem half_eq : Ideal.ofBits FTy.f32 1056964608#32 = ((1 / 2 : ℝ) : EReal) := by
  simp [Ideal.ofBits, Ideal.ieee]; norm_num [← EReal.coe_mul]
/-- The gate is the logistic function: half the hyperbolic tangent of half the argument, plus one half. -/
theorem gate_eq (v : EReal) : gate v = Ideal.div 1 (1 + Ideal.exp (-v)) := by
  unfold gate
  rw [half_eq]
  induction v with
  | bot =>
    rw [EReal.coe_mul_bot_of_pos (by norm_num), EReal.neg_bot]
    show ((1 / 2 : ℝ) : EReal) * ((-1 : ℝ) : EReal) + ((1 / 2 : ℝ) : EReal) = Ideal.div 1 (1 + ⊤)
    rw [← EReal.coe_mul, ← EReal.coe_add, EReal.add_top_of_ne_bot (by decide)]
    unfold Ideal.div
    rw [if_neg (by decide), EReal.inv_top]
    norm_num
  | top =>
    rw [EReal.coe_mul_top_of_pos (by norm_num), EReal.neg_top]
    show ((1 / 2 : ℝ) : EReal) * ((1 : ℝ) : EReal) + ((1 / 2 : ℝ) : EReal) = Ideal.div 1 (1 + 0)
    rw [← EReal.coe_mul, ← EReal.coe_add, add_zero, show (1 : EReal) = ((1 : ℝ) : EReal) from rfl, Ideal.div_coe one_ne_zero,
      ← EReal.coe_mul]
    norm_num
  | coe r =>
    have hp : (1 + Real.exp (-r)) ≠ 0 := by positivity
    rw [← EReal.coe_mul, ← EReal.coe_neg, Ideal.exp_coe, show (1 : EReal) = ((1 : ℝ) : EReal) from rfl, ← EReal.coe_add,
      Ideal.div_coe hp, ← EReal.coe_mul]
    show ((1 / 2 : ℝ) : EReal) * ((Real.tanh (1 / 2 * r) : ℝ) : EReal) + ((1 / 2 : ℝ) : EReal) = _
    rw [← EReal.coe_mul, ← EReal.coe_add]
    congr 1
    have e1 : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add]; simp
    have p1 := Real.exp_pos (1 / 2 * r)
    have p2 := Real.exp_pos (-(1 / 2 * r))
    rw [Real.tanh_eq_sinh_div_cosh, Real.sinh_eq, Real.cosh_eq, e1]
    rw [e1] at hp
    have p3 : Real.exp (1 / 2 * r) + Real.exp (-(1 / 2 * r)) ≠ 0 := by positivity
    clear e1
    generalize Real.exp (-(1 / 2 * r)) = d at *
    generalize Real.exp (1 / 2 * r) = a at *
    field_simp
    linear_combination 2 * d * e2

/-- The gate at row `R` and column `E` of the three gates side by side. -/
def gat (zg : S8192x3072.Idx → EReal) (b : S1x3072.Idx → EReal) (R : Fin 8192) (E : Fin 3072) : EReal :=
  gate (zg (ix2 R E) + b (ix2 0 E))

variable (dm : S8192x1024.Idx → EReal) (zg : S8192x3072.Idx → EReal) (b : S1x3072.Idx → EReal)

/-- The gradient gated by gate `o` (0, 1 or 2). -/
def gd (o : Fin 3) (R : Fin 8192) (e : Fin 1024) : EReal :=
  dm (ix2 R e) * gat zg b R ⟨1024 * o.val + e.val, by omega⟩

/-- The gradient of a branch's activations. -/
def dAct (o : Fin 3) {k : ℕ} (w : Shape.Idx ⟨2, ![k, 1024]⟩ → EReal) : Shape.Idx ⟨2, ![8192, k]⟩ → EReal :=
  fun i => ∑ e : Fin 1024, gd dm zg b o (i 0) e * w (ix2 (i 1) e)

/-- The gradient of a branch's weights, transposed. -/
def dWt (o : Fin 3) {k : ℕ} (x : Shape.Idx ⟨2, ![8192, k]⟩ → EReal) : Shape.Idx ⟨2, ![1024, k]⟩ → EReal :=
  fun i => ∑ R : Fin 8192, gd dm zg b o R (i 0) * x (ix2 R (i 1))

/-- A branch's product of activations and weights. -/
def br {k : ℕ} (x : Shape.Idx ⟨2, ![8192, k]⟩ → EReal) (w : Shape.Idx ⟨2, ![k, 1024]⟩ → EReal) (R : Fin 8192) (e : Fin 1024) : EReal :=
  ∑ j : Fin k, x (ix2 R j) * w (ix2 j e)

/-- The gradient of gate `o`'s argument, `p` being the branch's product. -/
def dz (o : Fin 3) (p : Fin 8192 → Fin 1024 → EReal) (R : Fin 8192) (e : Fin 1024) : EReal :=
  dm (ix2 R e) * p R e * gat zg b R ⟨1024 * o.val + e.val, by omega⟩
    * (1 - gat zg b R ⟨1024 * o.val + e.val, by omega⟩)

variable (y : S8192x512.Idx → EReal) (o : S8192x256.Idx → EReal) (mo : S8192x512.Idx → EReal)
  (ws : S512x1024.Idx → EReal) (wa : S256x1024.Idx → EReal) (wm : S512x1024.Idx → EReal)

/-- The gradient of all gates' arguments at row `R` and column `E`. -/
def dZ (R : Fin 8192) (E : Fin 3072) : EReal :=
  if h0 : E.val < 1024 then dz dm zg b 0 (br y ws) R ⟨E.val, h0⟩
  else if h1 : E.val < 2048 then dz dm zg b 1 (br o wa) R ⟨E.val - 1024, by omega⟩
  else dz dm zg b 2 (br mo wm) R ⟨E.val - 2048, by omega⟩

/-- The gates' gradient in the first third of the columns. -/
theorem dZ_0 (R : Fin 8192) (E : Fin 3072) (e : Fin 1024) (h : E.val = e.val) :
    dZ dm zg b y o mo ws wa wm R E = dz dm zg b 0 (br y ws) R e := by
  have h0 : E.val < 1024 := by omega
  unfold dZ; rw [dif_pos h0]; congr 1; exact Fin.ext h
/-- The gates' gradient in the second third of the columns. -/
theorem dZ_1 (R : Fin 8192) (E : Fin 3072) (e : Fin 1024) (h : E.val = 1024 + e.val) :
    dZ dm zg b y o mo ws wa wm R E = dz dm zg b 1 (br o wa) R e := by
  have h0 : ¬E.val < 1024 := by omega
  have h1 : E.val < 2048 := by omega
  unfold dZ; rw [dif_neg h0, dif_pos h1]; congr 1; exact Fin.ext (by show E.val - 1024 = e.val; omega)
/-- The gates' gradient in the last third of the columns. -/
theorem dZ_2 (R : Fin 8192) (E : Fin 3072) (e : Fin 1024) (h : E.val = 2048 + e.val) :
    dZ dm zg b y o mo ws wa wm R E = dz dm zg b 2 (br mo wm) R e := by
  have h0 : ¬E.val < 1024 := by omega
  have h1 : ¬E.val < 2048 := by omega
  unfold dZ; rw [dif_neg h0, dif_neg h1]; congr 1; exact Fin.ext (by show E.val - 2048 = e.val; omega)

/-- The gates' gradient as an array. -/
def dZArr : S8192x3072.Idx → EReal := fun i => dZ dm zg b y o mo ws wa wm (i 0) (i 1)
/-- The bias's gradient as an array: the gates' gradient summed over the rows. -/
def dBArr : S1x3072.Idx → EReal := fun i => ∑ R : Fin 8192, dZ dm zg b y o mo ws wa wm R (i 1)

end Cert.Merge

end
-- ==== Proof.Merge.Arrays.lean ====
/-
  The gradient of the gated merge, kernel side: the eight arrays after the run.
-/
module

public import proofs.«01_k».proof.Proof.Merge.Math
public import Idealize.ShloMosaic.Lib.Pipeline.ReadBack

@[expose] public section

set_option maxRecDepth 16384

noncomputable section

open Idealize.ShloMosaic Idealize.ShloMosaic.TcCoe Idealize.SL.Sem
open scoped BigOperators

namespace Cert.Kernel2Ideal.Final

open Cert.Kernel2Ideal Cert.Kernel2Ideal.Gen Cert.Merge

variable (m : (ℓ : Loc nD τ sig) → Buf (Elt Ideal) ℓ)

/-- Where each window's block of point `t` begins: the row tiles follow the grid, weights, bias and the summed gradients are whole. -/
theorem idx : ∀ t : Fin cfg0.N,
    win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0]
    ∧ win0_7.index t = ![t.val, 0] ∧ win0_8.index t = ![0, 0]
    ∧ win0_9.index t = ![t.val, 0] ∧ win0_10.index t = ![t.val, 0] ∧ win0_11.index t = ![t.val, 0]
    ∧ win0_12.index t = ![0, 0] ∧ win0_13.index t = ![0, 0] ∧ win0_14.index t = ![0, 0]
    ∧ win0_15.index t = ![t.val, 0] ∧ win0_16.index t = ![0, 0] :=
  (by decide +kernel : ∀ t : Fin grid0.N, _)

/-- The grid has 32 points. -/
theorem lt32 (t : Fin cfg0.N) : t.val < 32 := lt_of_lt_of_eq t.isLt (show cfg0.N = 32 from N_0)

/-- Row `r` of tile `t`. -/
def row (t : Fin cfg0.N) (r : Fin 256) : Fin 8192 := ⟨256 * t.val + r.val, by have := lt32 t; omega⟩

/-- The tile of the merged gradient. -/
theorem blk0 (c : Dev nD) (t : Fin cfg0.N) (r : Fin 256) (e : Fin 1024) :
    (iblk m c 0 t : Vec Ideal S256x1024 .f32) (ix2 r e) = m ((c : Thread nD τ).loc main_arg0) (ix2 (row t r) e) := by
  have := lt32 t
  unfold row
  blk_ext [iblk, V, idx t]
/-- The tile of the first branch's activations. -/
theorem blk1 (c : Dev nD) (t : Fin cfg0.N) (r : Fin 256) (e : Fin 512) :
    (iblk m c 1 t : Vec Ideal S256x512 .bf16) (ix2 r e) = m ((c : Thread nD τ).loc main_arg1) (ix2 (row t r) e) := by
  have := lt32 t
  unfold row
  blk_ext [iblk, V, idx t]
/-- The tile of the second branch's activations. -/
theorem blk2 (c : Dev nD) (t : Fin cfg0.N) (r : Fin 256) (e : Fin 256) :
    (iblk m c 2 t : Vec Ideal S256x256 .f32) (ix2 r e) = m ((c : Thread nD τ).loc main_arg2) (ix2 (row t r) e) := by
  have := lt32 t
  unfold row
  blk_ext [iblk, V, idx t]
/-- The tile of the third branch's activations. -/
theorem blk3 (c : Dev nD) (t : Fin cfg0.N) (r : Fin 256) (e : Fin 512) :
    (iblk m c 3 t : Vec Ideal S256x512 .f32) (ix2 r e) = m ((c : Thread nD τ).loc main_arg3) (ix2 (row t r) e) := by
  have := lt32 t
  unfold row
  blk_ext [iblk, V, idx t]
/-- The first branch's weights, which the host transposes. -/
theorem blk4 (c : Dev nD) (t : Fin cfg0.N) (e : Fin 1024) (k : Fin 512) :
    (iblk m c 4 t : Vec Ideal S1024x512 .bf16) (ix2 e k) = m ((c : Thread nD τ).loc main_arg4) (ix2 k e) := by
  blk_point [iblk, V, idx t]
/-- The second branch's weights, which the host transposes. -/
theorem blk5 (c : Dev nD) (t : Fin cfg0.N) (e : Fin 1024) (k : Fin 256) :
    (iblk m c 5 t : Vec Ideal S1024x256 .bf16) (ix2 e k) = m ((c : Thread nD τ).loc main_arg5) (ix2 k e) := by
  blk_point [iblk, V, idx t]
/-- The third branch's weights, which the host transposes. -/
theorem blk6 (c : Dev nD) (t : Fin cfg0.N) (e : Fin 1024) (k : Fin 512) :
    (iblk m c 6 t : Vec Ideal S1024x512 .bf16) (ix2 e k) = m ((c : Thread nD τ).loc main_arg6) (ix2 k e) := by
  blk_point [iblk, V, idx t]
/-- The tile of the gates' arguments. -/
theorem blk7 (c : Dev nD) (t : Fin cfg0.N) (r : Fin 256) (e : Fin 3072) :
    (iblk m c 7 t : Vec Ideal S256x3072 .f32) (ix2 r e) = m ((c : Thread nD τ).loc main_arg7) (ix2 (row t r) e) := by
  have := lt32 t
  unfold row
  blk_ext [iblk, V, idx t]
/-- The gates' bias. -/
theorem blk8 (c : Dev nD) (t : Fin cfg0.N) (e : Fin 3072) :
    (iblk m c 8 t : Vec Ideal S1x3072 .f32) (ix2 0 e) = m ((c : Thread nD τ).loc main_arg8) (ix2 0 e) := by
  blk_ext [iblk, V, idx t]

/-- The tile's gates. -/
theorem gates (c : Dev nD) (t : Fin cfg0.N) (r : Fin 256) (E : Fin 3072) :
    k0_pay8 (F := Ideal) (iblk m c 7 t) (iblk m c 8 t) (ix2 r E)
      = gat (m ((c : Thread nD τ).loc main_arg7)) (m ((c : Thread nD τ).loc main_arg8)) (row t r) E := by
  unfold k0_pay8
  pointwise
  have h7 := blk7 m c t r E
  have h8 := blk8 m c t E
  rw [h7, h8]
  rfl

/-- The tile of the gradient of branch 0's activations. -/
theorem pay9 (c : Dev nD) (t : Fin cfg0.N) (r : Fin 256) (k : Fin 512) :
    k0_pay12 (F := Ideal) (iblk m c 7 t) (iblk m c 8 t) (iblk m c 0 t) (iblk m c 4 t) (ix2 r k)
      = dAct (m ((c : Thread nD τ).loc main_arg0))
        (m ((c : Thread nD τ).loc main_arg7)) (m ((c : Thread nD τ).loc main_arg8)) 0 (m ((c : Thread nD τ).loc main_arg4)) (ix2 (row t r) k) := by
  unfold k0_pay12 k0_pay11 k0_pay9
  pointwise
  refine Finset.sum_congr rfl fun e _ => ?_
  have h0 := blk0 m c t r e
  have h1 := blk4 m c t e k
  rw [h0, h1, gates m c t]
  refine congrArg (fun E => _ * gat _ _ _ E * _) (Fin.ext ?_)
  show _ = 1024 * 0 + e.val
  simp
/-- The array of the gradient of branch 0's activations after the run. -/
theorem arr9 (c : Dev nD) : (dats m 0 c).arrAt 9 cfg0.N
    = dAct (m ((c : Thread nD τ).loc main_arg0))
        (m ((c : Thread nD τ).loc main_arg7)) (m ((c : Thread nD τ).loc main_arg8)) 0 (m ((c : Thread nD τ).loc main_arg4)) := by
  refine (dats m 0 c).arrAt_eq_of_covers 9 _ (by decide +kernel) fun t hf y => ?_
  have h9 : ((cfg0.win 9).blk t).view.emb y = ix2 (row t (y 0)) (y 1) := by
    have := lt32 t
    unfold row
    blk_ext [idx t]
  rw [h9]
  blk_simp
  rw [after0_9]
  have hy : (y : Shape.Idx ⟨2, ![256, 512]⟩) = ix2 (y 0) (y 1) := ValueIdx.eq_ix2 y
  rw [hy]
  by_cases h : t.val % 32 = 0
  · rw [outsAt0_A m c t h]
    frame_out
    exact pay9 m c t _ _
  · rw [outsAt0_B m c t h]
    frame_out
    exact pay9 m c t _ _

/-- The tile of the gradient of branch 1's activations. -/
theorem pay10 (c : Dev nD) (t : Fin cfg0.N) (r : Fin 256) (k : Fin 256) :
    k0_pay20 (F := Ideal) (k0_pay8 (iblk m c 7 t) (iblk m c 8 t)) (iblk m c 0 t) (iblk m c 5 t) (ix2 r k)
      = dAct (m ((c : Thread nD τ).loc main_arg0))
        (m ((c : Thread nD τ).loc main_arg7)) (m ((c : Thread nD τ).loc main_arg8)) 1 (m ((c : Thread nD τ).loc main_arg5)) (ix2 (row t r) k) := by
  unfold k0_pay20 k0_pay19 k0_pay17
  pointwise
  refine Finset.sum_congr rfl fun e _ => ?_
  have h0 := blk0 m c t r e
  have h1 := blk5 m c t e k
  rw [h0, h1, gates m c t]
  refine congrArg (fun E => _ * gat _ _ _ E * _) (Fin.ext ?_)
  show _ = 1024 * 1 + e.val
  simp
/-- The array of the gradient of branch 1's activations after the run. -/
theorem arr10 (c : Dev nD) : (dats m 0 c).arrAt 10 cfg0.N
    = dAct (m ((c : Thread nD τ).loc main_arg0))
        (m ((c : Thread nD τ).loc main_arg7)) (m ((c : Thread nD τ).loc main_arg8)) 1 (m ((c : Thread nD τ).loc main_arg5)) := by
  refine (dats m 0 c).arrAt_eq_of_covers 10 _ (by decide +kernel) fun t hf y => ?_
  have h9 : ((cfg0.win 10).blk t).view.emb y = ix2 (row t (y 0)) (y 1) := by
    have := lt32 t
    unfold row
    blk_ext [idx t]
  rw [h9]
  blk_simp
  rw [after0_10]
  have hy : (y : Shape.Idx ⟨2, ![256, 256]⟩) = ix2 (y 0) (y 1) := ValueIdx.eq_ix2 y
  rw [hy]
  by_cases h : t.val % 32 = 0
  · rw [outsAt0_A m c t h]
    frame_out
    exact pay10 m c t _ _
  · rw [outsAt0_B m c t h]
    frame_out
    exact pay10 m c t _ _

/-- The tile of the gradient of branch 2's activations. -/
theorem pay11 (c : Dev nD) (t : Fin cfg0.N) (r : Fin 256) (k : Fin 512) :
    k0_pay29 (F := Ideal) (k0_pay8 (iblk m c 7 t) (iblk m c 8 t)) (iblk m c 0 t) (iblk m c 6 t) (ix2 r k)
      = dAct (m ((c : Thread nD τ).loc main_arg0))
        (m ((c : Thread nD τ).loc main_arg7)) (m ((c : Thread nD τ).loc main_arg8)) 2 (m ((c : Thread nD τ).loc main_arg6)) (ix2 (row t r) k) := by
  unfold k0_pay29 k0_pay28 k0_pay26
  pointwise
  refine Finset.sum_congr rfl fun e _ => ?_
  have h0 := blk0 m c t r e
  have h1 := blk6 m c t e k
  rw [h0, h1, gates m c t]
  refine congrArg (fun E => _ * gat _ _ _ E * _) (Fin.ext ?_)
  show _ = 1024 * 2 + e.val
  simp
/-- The array of the gradient of branch 2's activations after the run. -/
theorem arr11 (c : Dev nD) : (dats m 0 c).arrAt 11 cfg0.N
    = dAct (m ((c : Thread nD τ).loc main_arg0))
        (m ((c : Thread nD τ).loc main_arg7)) (m ((c : Thread nD τ).loc main_arg8)) 2 (m ((c : Thread nD τ).loc main_arg6)) := by
  refine (dats m 0 c).arrAt_eq_of_covers 11 _ (by decide +kernel) fun t hf y => ?_
  have h9 : ((cfg0.win 11).blk t).view.emb y = ix2 (row t (y 0)) (y 1) := by
    have := lt32 t
    unfold row
    blk_ext [idx t]
  rw [h9]
  blk_simp
  rw [after0_11]
  have hy : (y : Shape.Idx ⟨2, ![256, 512]⟩) = ix2 (y 0) (y 1) := ValueIdx.eq_ix2 y
  rw [hy]
  by_cases h : t.val % 32 = 0
  · rw [outsAt0_A m c t h]
    frame_out
    exact pay11 m c t _ _
  · rw [outsAt0_B m c t h]
    frame_out
    exact pay11 m c t _ _

end Cert.Kernel2Ideal.Final

end
-- ==== Proof.Merge.Weights.lean ====
/-
  The gradient of the gated merge, kernel side: the gradients that are summed over the row tiles, and the gates' gradient.
-/
module

public import proofs.«01_k».proof.Proof.Merge.Arrays
public import Idealize.ShloMosaic.Lib.Pipeline.ReadBack

@[expose] public section

set_option maxRecDepth 16384

noncomputable section

open Idealize.ShloMosaic Idealize.ShloMosaic.TcCoe Idealize.SL.Sem
open scoped BigOperators

namespace Cert.Kernel2Ideal.Final

open Cert.Kernel2Ideal Cert.Kernel2Ideal.Gen Cert.Merge

variable (m : (ℓ : Loc nD τ sig) → Buf (Elt Ideal) ℓ)

/-- The rows, tile by tile. -/
theorem sum_rows (f : Fin 8192 → EReal) : ∑ t : Fin cfg0.N, ∑ r : Fin 256, f (row t r) = ∑ R, f R := by
  rw [← Fintype.sum_prod_type']
  refine Fintype.sum_equiv (((finCongr (show cfg0.N = 32 from N_0)).prodCongr (Equiv.refl _)).trans finProdFinEquiv) _ _ fun p => congrArg f (Fin.ext ?_)
  show 256 * p.1.val + p.2.val = p.2.val + 256 * p.1.val
  omega

/-- What tile `t` adds to the gradient of branch 0's weights. -/
theorem pay12 (c : Dev nD) (t : Fin cfg0.N) (acc : Vec Ideal S1024x512 .f32) (i : S1024x512.Idx) :
    k0_pay13 (F := Ideal) (iblk m c 7 t) (iblk m c 8 t) (iblk m c 0 t) (iblk m c 1 t) acc i
      = acc i + ∑ r : Fin 256, gd (m ((c : Thread nD τ).loc main_arg0))
        (m ((c : Thread nD τ).loc main_arg7)) (m ((c : Thread nD τ).loc main_arg8)) 0 (row t r) (i 0) * (m ((c : Thread nD τ).loc main_arg1)) (ix2 (row t r) (i 1)) := by
  obtain ⟨e, k, rfl⟩ : ∃ (e : Fin 1024) (k : Fin 512), i = ix2 e k := ⟨i 0, i 1, ValueIdx.eq_ix2 i⟩
  unfold k0_pay13 k0_pay11 k0_pay9
  pointwise
  refine congrArg (_ + ·) (Finset.sum_congr rfl fun r _ => ?_)
  have h0 := blk0 m c t r e
  have h1 := blk1 m c t r k
  rw [h0, h1, gates m c t]
  refine congrArg (fun E => _ * gat _ _ _ E * _) (Fin.ext ?_)
  show _ = 1024 * 0 + e.val
  simp
/-- The accumulator starts from zero. -/
theorem zero12 (i : S1024x512.Idx) : k0_pay4 (F := Ideal) i = 0 := by
  unfold k0_pay4
  pointwise
/-- The array of the gradient of branch 0's weights after the run. -/
theorem arr12 (c : Dev nD) : (dats m 0 c).arrAt 12 cfg0.N
    = dWt (m ((c : Thread nD τ).loc main_arg0))
        (m ((c : Thread nD τ).loc main_arg7)) (m ((c : Thread nD τ).loc main_arg8)) 0 (m ((c : Thread nD τ).loc main_arg1)) := by
  refine (dats m 0 c).arrAt_eq_of_covers 12 _ (by decide +kernel) fun t hf y => ?_
  have ht := (flush0_12 t).mp hf
  have hN : cfg0.N = 32 := N_0
  have h9 : ((cfg0.win 12).blk t).view.emb y = y := by
    blk_ext [idx t]
  rw [h9]
  blk_simp
  rw [after0_12]
  rw [Pipeline.eq_sum_fin_of_reset_step_apply_last (fun n h => (outsAt0 m c n h).2.2.2.1) 32 (fun _ => (0 : EReal))
    (fun t (i : S1024x512.Idx) => ∑ r : Fin 256, gd (m ((c : Thread nD τ).loc main_arg0))
        (m ((c : Thread nD τ).loc main_arg7)) (m ((c : Thread nD τ).loc main_arg8)) 0 (row t r) (i 0)
      * (m ((c : Thread nD τ).loc main_arg1)) (ix2 (row t r) (i 1)))
    (fun t h i => by
      rw [outsAt0_A m c t h]
      frame_out
      rw [pay12 m c t, zero12])
    (fun t h i => by
      rw [outsAt0_B m c t h]
      frame_out
      exact pay12 m c t _ _) (by omega) t (by have := lt32 t; omega) y]
  rw [zero_add]
  exact sum_rows fun R => gd (m ((c : Thread nD τ).loc main_arg0))
        (m ((c : Thread nD τ).loc main_arg7)) (m ((c : Thread nD τ).loc main_arg8)) 0 R (y 0) * (m ((c : Thread nD τ).loc main_arg1)) (ix2 R (y 1))

/-- What tile `t` adds to the gradient of branch 1's weights. -/
theorem pay13 (c : Dev nD) (t : Fin cfg0.N) (acc : Vec Ideal S1024x256 .f32) (i : S1024x256.Idx) :
    k0_pay21 (F := Ideal) (k0_pay8 (iblk m c 7 t) (iblk m c 8 t)) (iblk m c 0 t) (iblk m c 2 t) acc i
      = acc i + ∑ r : Fin 256, gd (m ((c : Thread nD τ).loc main_arg0))
        (m ((c : Thread nD τ).loc main_arg7)) (m ((c : Thread nD τ).loc main_arg8)) 1 (row t r) (i 0) * (m ((c : Thread nD τ).loc main_arg2)) (ix2 (row t r) (i 1)) := by
  obtain ⟨e, k, rfl⟩ : ∃ (e : Fin 1024) (k : Fin 256), i = ix2 e k := ⟨i 0, i 1, ValueIdx.eq_ix2 i⟩
  unfold k0_pay21 k0_pay19 k0_pay17 k0_pay18
  pointwise
  refine congrArg (_ + ·) (Finset.sum_congr rfl fun r _ => ?_)
  have h0 := blk0 m c t r e
  have h1 := blk2 m c t r k
  rw [h0, h1, gates m c t]
  refine congrArg (fun E => _ * gat _ _ _ E * _) (Fin.ext ?_)
  show _ = 1024 * 1 + e.val
  simp
/-- The accumulator starts from zero. -/
theorem zero13 (i : S1024x256.Idx) : k0_pay5 (F := Ideal) i = 0 := by
  unfold k0_pay5
  pointwise
/-- The array of the gradient of branch 1's weights after the run. -/
theorem arr13 (c : Dev nD) : (dats m 0 c).arrAt 13 cfg0.N
    = dWt (m ((c : Thread nD τ).loc main_arg0))
        (m ((c : Thread nD τ).loc main_arg7)) (m ((c : Thread nD τ).loc main_arg8)) 1 (m ((c : Thread nD τ).loc main_arg2)) := by
  refine (dats m 0 c).arrAt_eq_of_covers 13 _ (by decide +kernel) fun t hf y => ?_
  have ht := (flush0_13 t).mp hf
  have hN : cfg0.N = 32 := N_0
  have h9 : ((cfg0.win 13).blk t).view.emb y = y := by
    blk_ext [idx t]
  rw [h9]
  blk_simp
  rw [after0_13]
  rw [Pipeline.eq_sum_fin_of_reset_step_apply_last (fun n h => (outsAt0 m c n h).2.2.2.2.1) 32 (fun _ => (0 : EReal))
    (fun t (i : S1024x256.Idx) => ∑ r : Fin 256, gd (m ((c : Thread nD τ).loc main_arg0))
        (m ((c : Thread nD τ).loc main_arg7)) (m ((c : Thread nD τ).loc main_arg8)) 1 (row t r) (i 0)
      * (m ((c : Thread nD τ).loc main_arg2)) (ix2 (row t r) (i 1)))
    (fun t h i => by
      rw [outsAt0_A m c t h]
      frame_out
      rw [pay13 m c t, zero13])
    (fun t h i => by
      rw [outsAt0_B m c t h]
      frame_out
      exact pay13 m c t _ _) (by omega) t (by have := lt32 t; omega) y]
  rw [zero_add]
  exact sum_rows fun R => gd (m ((c : Thread nD τ).loc main_arg0))
        (m ((c : Thread nD τ).loc main_arg7)) (m ((c : Thread nD τ).loc main_arg8)) 1 R (y 0) * (m ((c : Thread nD τ).loc main_arg2)) (ix2 R (y 1))

/-- What tile `t` adds to the gradient of branch 2's weights. -/
theorem pay14 (c : Dev nD) (t : Fin cfg0.N) (acc : Vec Ideal S1024x512 .f32) (i : S1024x512.Idx) :
    k0_pay30 (F := Ideal) (k0_pay8 (iblk m c 7 t) (iblk m c 8 t)) (iblk m c 0 t) (iblk m c 3 t) acc i
      = acc i + ∑ r : Fin 256, gd (m ((c : Thread nD τ).loc main_arg0))
        (m ((c : Thread nD τ).loc main_arg7)) (m ((c : Thread nD τ).loc main_arg8)) 2 (row t r) (i 0) * (m ((c : Thread nD τ).loc main_arg3)) (ix2 (row t r) (i 1)) := by
  obtain ⟨e, k, rfl⟩ : ∃ (e : Fin 1024) (k : Fin 512), i = ix2 e k := ⟨i 0, i 1, ValueIdx.eq_ix2 i⟩
  unfold k0_pay30 k0_pay28 k0_pay26 k0_pay27
  pointwise
  refine congrArg (_ + ·) (Finset.sum_congr rfl fun r _ => ?_)
  have h0 := blk0 m c t r e
  have h1 := blk3 m c t r k
  rw [h0, h1, gates m c t]
  refine congrArg (fun E => _ * gat _ _ _ E * _) (Fin.ext ?_)
  show _ = 1024 * 2 + e.val
  simp
/-- The accumulator starts from zero. -/
theorem zero14 (i : S1024x512.Idx) : k0_pay6 (F := Ideal) i = 0 := by
  unfold k0_pay6
  pointwise
/-- The array of the gradient of branch 2's weights after the run. -/
theorem arr14 (c : Dev nD) : (dats m 0 c).arrAt 14 cfg0.N
    = dWt (m ((c : Thread nD τ).loc main_arg0))
        (m ((c : Thread nD τ).loc main_arg7)) (m ((c : Thread nD τ).loc main_arg8)) 2 (m ((c : Thread nD τ).loc main_arg3)) := by
  refine (dats m 0 c).arrAt_eq_of_covers 14 _ (by decide +kernel) fun t hf y => ?_
  have ht := (flush0_14 t).mp hf
  have hN : cfg0.N = 32 := N_0
  have h9 : ((cfg0.win 14).blk t).view.emb y = y := by
    blk_ext [idx t]
  rw [h9]
  blk_simp
  rw [after0_14]
  rw [Pipeline.eq_sum_fin_of_reset_step_apply_last (fun n h => (outsAt0 m c n h).2.2.2.2.2.1) 32 (fun _ => (0 : EReal))
    (fun t (i : S1024x512.Idx) => ∑ r : Fin 256, gd (m ((c : Thread nD τ).loc main_arg0))
        (m ((c : Thread nD τ).loc main_arg7)) (m ((c : Thread nD τ).loc main_arg8)) 2 (row t r) (i 0)
      * (m ((c : Thread nD τ).loc main_arg3)) (ix2 (row t r) (i 1)))
    (fun t h i => by
      rw [outsAt0_A m c t h]
      frame_out
      rw [pay14 m c t, zero14])
    (fun t h i => by
      rw [outsAt0_B m c t h]
      frame_out
      exact pay14 m c t _ _) (by omega) t (by have := lt32 t; omega) y]
  rw [zero_add]
  exact sum_rows fun R => gd (m ((c : Thread nD τ).loc main_arg0))
        (m ((c : Thread nD τ).loc main_arg7)) (m ((c : Thread nD τ).loc main_arg8)) 2 R (y 0) * (m ((c : Thread nD τ).loc main_arg3)) (ix2 R (y 1))

end Cert.Kernel2Ideal.Final

end
-- ==== Proof.Merge.Gates.lean ====
/-
  The gradient of the gated merge, kernel side: the gates' gradient and the bias's.
-/
module

public import proofs.«01_k».proof.Proof.Merge.Weights
public import Idealize.ShloMosaic.Lib.Pipeline.ReadBack

@[expose] public section

set_option maxRecDepth 16384

noncomputable section

open Idealize.ShloMosaic Idealize.ShloMosaic.TcCoe Idealize.SL.Sem
open scoped BigOperators

namespace Cert.Kernel2Ideal.Final

open Cert.Kernel2Ideal Cert.Kernel2Ideal.Gen Cert.Merge

variable (m : (ℓ : Loc nD τ sig) → Buf (Elt Ideal) ℓ)

/-- The tile of the gradient of gate 0's arguments. -/
theorem dz0 (c : Dev nD) (t : Fin cfg0.N) (r : Fin 256) (e : Fin 1024) :
    k0_pay14 (F := Ideal) (iblk m c 0 t) (k0_pay9 (iblk m c 7 t) (iblk m c 8 t)) (k0_pay10 (iblk m c 1 t) (iblk m c 4 t)) (ix2 r e)
      = dz (m ((c : Thread nD τ).loc main_arg0))
        (m ((c : Thread nD τ).loc main_arg7)) (m ((c : Thread nD τ).loc main_arg8)) 0 (br (m ((c : Thread nD τ).loc main_arg1)) (m ((c : Thread nD τ).loc main_arg4))) (row t r) e := by
  unfold k0_pay14 k0_pay9 k0_pay10
  pointwise
  have h0 := blk0 m c t r e
  have hg : ∀ E : Fin 3072, E.val = 1024 * 0 + e.val → k0_pay8 (F := Ideal) (iblk m c 7 t) (iblk m c 8 t) (ix2 r E)
      = gat (m ((c : Thread nD τ).loc main_arg7)) (m ((c : Thread nD τ).loc main_arg8)) (row t r) ⟨1024 * ((0 : Fin 3) : ℕ) + e.val, by show 1024 * 0 + e.val < 3072; omega⟩ := fun E hE => by
    rw [gates m c t]; exact congrArg _ (Fin.ext hE)
  rw [h0, hg _ (by show _ = 1024 * 0 + e.val; simp)]
  unfold dz br
  congr 3
  refine Finset.sum_congr rfl fun k _ => ?_
  have h1 := blk1 m c t r k
  have h2 := blk4 m c t e k
  rw [h1, h2]
/-- What the tile stores of the gradient of gate 0's arguments. -/
theorem st0 (c : Dev nD) (t : Fin cfg0.N) (r : Fin 256) (e : Fin 1024) :
    k0_pay15 (F := Ideal) (iblk m c 0 t) (k0_pay9 (iblk m c 7 t) (iblk m c 8 t)) (k0_pay10 (iblk m c 1 t) (iblk m c 4 t)) (ix2 r e)
      = dz (m ((c : Thread nD τ).loc main_arg0))
        (m ((c : Thread nD τ).loc main_arg7)) (m ((c : Thread nD τ).loc main_arg8)) 0 (br (m ((c : Thread nD τ).loc main_arg1)) (m ((c : Thread nD τ).loc main_arg4))) (row t r) e := by
  unfold k0_pay15
  pointwise
  exact dz0 m c t r e
/-- What the tile adds to the bias's gradient of gate 0. -/
theorem db0 (c : Dev nD) (t : Fin cfg0.N) (acc : Vec Ideal S1x1024 .f32) (e : Fin 1024) :
    k0_pay16 (F := Ideal) (iblk m c 0 t) (k0_pay9 (iblk m c 7 t) (iblk m c 8 t)) (k0_pay10 (iblk m c 1 t) (iblk m c 4 t)) acc (ix2 0 e)
      = acc (ix2 0 e) + ∑ r : Fin 256, dz (m ((c : Thread nD τ).loc main_arg0))
        (m ((c : Thread nD τ).loc main_arg7)) (m ((c : Thread nD τ).loc main_arg8)) 0 (br (m ((c : Thread nD τ).loc main_arg1)) (m ((c : Thread nD τ).loc main_arg4))) (row t r) e := by
  unfold k0_pay16
  pointwise
  exact congrArg (_ + ·) (Finset.sum_congr rfl fun r _ => dz0 m c t r e)
/-- The tile of the gradient of gate 1's arguments. -/
theorem dz1 (c : Dev nD) (t : Fin cfg0.N) (r : Fin 256) (e : Fin 1024) :
    k0_pay23 (F := Ideal) (k0_pay17 (k0_pay8 (iblk m c 7 t) (iblk m c 8 t))) (k0_pay22 (k0_pay8 (iblk m c 7 t) (iblk m c 8 t)) (iblk m c 0 t) (iblk m c 2 t) (iblk m c 5 t)) (ix2 r e)
      = dz (m ((c : Thread nD τ).loc main_arg0))
        (m ((c : Thread nD τ).loc main_arg7)) (m ((c : Thread nD τ).loc main_arg8)) 1 (br (m ((c : Thread nD τ).loc main_arg2)) (m ((c : Thread nD τ).loc main_arg5))) (row t r) e := by
  unfold k0_pay23 k0_pay17 k0_pay22 k0_pay17 k0_pay18
  pointwise
  have h0 := blk0 m c t r e
  have hg : ∀ E : Fin 3072, E.val = 1024 * 1 + e.val → k0_pay8 (F := Ideal) (iblk m c 7 t) (iblk m c 8 t) (ix2 r E)
      = gat (m ((c : Thread nD τ).loc main_arg7)) (m ((c : Thread nD τ).loc main_arg8)) (row t r) ⟨1024 * ((1 : Fin 3) : ℕ) + e.val, by show 1024 * 1 + e.val < 3072; omega⟩ := fun E hE => by
    rw [gates m c t]; exact congrArg _ (Fin.ext hE)
  rw [h0, hg _ (by show _ = 1024 * 1 + e.val; simp)]
  unfold dz br
  congr 3
  refine Finset.sum_congr rfl fun k _ => ?_
  have h1 := blk2 m c t r k
  have h2 := blk5 m c t e k
  rw [h1, h2]
/-- What the tile stores of the gradient of gate 1's arguments. -/
theorem st1 (c : Dev nD) (t : Fin cfg0.N) (r : Fin 256) (e : Fin 1024) :
    k0_pay24 (F := Ideal) (k0_pay17 (k0_pay8 (iblk m c 7 t) (iblk m c 8 t))) (k0_pay22 (k0_pay8 (iblk m c 7 t) (iblk m c 8 t)) (iblk m c 0 t) (iblk m c 2 t) (iblk m c 5 t)) (ix2 r e)
      = dz (m ((c : Thread nD τ).loc main_arg0))
        (m ((c : Thread nD τ).loc main_arg7)) (m ((c : Thread nD τ).loc main_arg8)) 1 (br (m ((c : Thread nD τ).loc main_arg2)) (m ((c : Thread nD τ).loc main_arg5))) (row t r) e := by
  unfold k0_pay24
  pointwise
  exact dz1 m c t r e
/-- What the tile adds to the bias's gradient of gate 1. -/
theorem db1 (c : Dev nD) (t : Fin cfg0.N) (acc : Vec Ideal S1x1024 .f32) (e : Fin 1024) :
    k0_pay25 (F := Ideal) (k0_pay17 (k0_pay8 (iblk m c 7 t) (iblk m c 8 t))) (k0_pay22 (k0_pay8 (iblk m c 7 t) (iblk m c 8 t)) (iblk m c 0 t) (iblk m c 2 t) (iblk m c 5 t)) acc (ix2 0 e)
      = acc (ix2 0 e) + ∑ r : Fin 256, dz (m ((c : Thread nD τ).loc main_arg0))
        (m ((c : Thread nD τ).loc main_arg7)) (m ((c : Thread nD τ).loc main_arg8)) 1 (br (m ((c : Thread nD τ).loc main_arg2)) (m ((c : Thread nD τ).loc main_arg5))) (row t r) e := by
  unfold k0_pay25
  pointwise
  exact congrArg (_ + ·) (Finset.sum_congr rfl fun r _ => dz1 m c t r e)
/-- The tile of the gradient of gate 2's arguments. -/
theorem dz2 (c : Dev nD) (t : Fin cfg0.N) (r : Fin 256) (e : Fin 1024) :
    k0_pay1 (F := Ideal) (k0_pay31 (k0_pay8 (iblk m c 7 t) (iblk m c 8 t)) (iblk m c 0 t) (iblk m c 3 t) (iblk m c 6 t)) (k0_pay32 (k0_pay8 (iblk m c 7 t) (iblk m c 8 t))) (ix2 r e)
      = dz (m ((c : Thread nD τ).loc main_arg0))
        (m ((c : Thread nD τ).loc main_arg7)) (m ((c : Thread nD τ).loc main_arg8)) 2 (br (m ((c : Thread nD τ).loc main_arg3)) (m ((c : Thread nD τ).loc main_arg6))) (row t r) e := by
  unfold k0_pay1 k0_pay31 k0_pay32 k0_pay26 k0_pay27
  pointwise
  have h0 := blk0 m c t r e
  have hg : ∀ E : Fin 3072, E.val = 1024 * 2 + e.val → k0_pay8 (F := Ideal) (iblk m c 7 t) (iblk m c 8 t) (ix2 r E)
      = gat (m ((c : Thread nD τ).loc main_arg7)) (m ((c : Thread nD τ).loc main_arg8)) (row t r) ⟨1024 * ((2 : Fin 3) : ℕ) + e.val, by show 1024 * 2 + e.val < 3072; omega⟩ := fun E hE => by
    rw [gates m c t]; exact congrArg _ (Fin.ext hE)
  rw [h0, hg _ (by show _ = 1024 * 2 + e.val; simp)]
  unfold dz br
  congr 3
  refine Finset.sum_congr rfl fun k _ => ?_
  have h1 := blk3 m c t r k
  have h2 := blk6 m c t e k
  rw [h1, h2]
/-- What the tile stores of the gradient of gate 2's arguments. -/
theorem st2 (c : Dev nD) (t : Fin cfg0.N) (r : Fin 256) (e : Fin 1024) :
    k0_pay2 (F := Ideal) (k0_pay31 (k0_pay8 (iblk m c 7 t) (iblk m c 8 t)) (iblk m c 0 t) (iblk m c 3 t) (iblk m c 6 t)) (k0_pay32 (k0_pay8 (iblk m c 7 t) (iblk m c 8 t))) (ix2 r e)
      = dz (m ((c : Thread nD τ).loc main_arg0))
        (m ((c : Thread nD τ).loc main_arg7)) (m ((c : Thread nD τ).loc main_arg8)) 2 (br (m ((c : Thread nD τ).loc main_arg3)) (m ((c : Thread nD τ).loc main_arg6))) (row t r) e := by
  unfold k0_pay2
  pointwise
  exact dz2 m c t r e
/-- What the tile adds to the bias's gradient of gate 2. -/
theorem db2 (c : Dev nD) (t : Fin cfg0.N) (acc : Vec Ideal S1x1024 .f32) (e : Fin 1024) :
    k0_pay3 (F := Ideal) (k0_pay31 (k0_pay8 (iblk m c 7 t) (iblk m c 8 t)) (iblk m c 0 t) (iblk m c 3 t) (iblk m c 6 t)) (k0_pay32 (k0_pay8 (iblk m c 7 t) (iblk m c 8 t))) acc (ix2 0 e)
      = acc (ix2 0 e) + ∑ r : Fin 256, dz (m ((c : Thread nD τ).loc main_arg0))
        (m ((c : Thread nD τ).loc main_arg7)) (m ((c : Thread nD τ).loc main_arg8)) 2 (br (m ((c : Thread nD τ).loc main_arg3)) (m ((c : Thread nD τ).loc main_arg6))) (row t r) e := by
  unfold k0_pay3
  pointwise
  exact congrArg (_ + ·) (Finset.sum_congr rfl fun r _ => dz2 m c t r e)
/-- The tile of the gates' gradient after a point. -/
theorem out15 (c : Dev nD) (t : Fin cfg0.N) (j : S256x3072.Idx) : (outsAt0 m c t.val t.isLt).2.2.2.2.2.2.1 j
    = dZ (m ((c : Thread nD τ).loc main_arg0)) (m ((c : Thread nD τ).loc main_arg7)) (m ((c : Thread nD τ).loc main_arg8))
        (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t (j 0)) (j 1) := by
  by_cases h : t.val % 32 = 0
  · rw [outsAt0_A m c t h]
    frame_out
    canon_tiles x hx
    · obtain ⟨r, e, rfl⟩ : ∃ (r : Fin 256) (e : Fin 1024), x = ix2 r e := ⟨x 0, x 1, ValueIdx.eq_ix2 x⟩
      refine (st2 m c t r e).trans (Eq.trans ?_ (dZ_2 _ _ _ _ _ _ _ _ _ _ _ e hx1).symm)
      exact congrArg (fun R => dz _ _ _ _ _ (row t R) e) (Fin.ext hx0).symm
    · obtain ⟨r, e, rfl⟩ : ∃ (r : Fin 256) (e : Fin 1024), x = ix2 r e := ⟨x 0, x 1, ValueIdx.eq_ix2 x⟩
      refine (st1 m c t r e).trans (Eq.trans ?_ (dZ_1 _ _ _ _ _ _ _ _ _ _ _ e hx1).symm)
      exact congrArg (fun R => dz _ _ _ _ _ (row t R) e) (Fin.ext hx0).symm
    · obtain ⟨r, e, rfl⟩ : ∃ (r : Fin 256) (e : Fin 1024), x = ix2 r e := ⟨x 0, x 1, ValueIdx.eq_ix2 x⟩
      refine (st0 m c t r e).trans (Eq.trans ?_ (dZ_0 _ _ _ _ _ _ _ _ _ _ _ e hx1).symm)
      exact congrArg (fun R => dz _ _ _ _ _ (row t R) e) (Fin.ext hx0).symm
  · rw [outsAt0_B m c t h]
    frame_out
    canon_tiles x hx
    · obtain ⟨r, e, rfl⟩ : ∃ (r : Fin 256) (e : Fin 1024), x = ix2 r e := ⟨x 0, x 1, ValueIdx.eq_ix2 x⟩
      refine (st2 m c t r e).trans (Eq.trans ?_ (dZ_2 _ _ _ _ _ _ _ _ _ _ _ e hx1).symm)
      exact congrArg (fun R => dz _ _ _ _ _ (row t R) e) (Fin.ext hx0).symm
    · obtain ⟨r, e, rfl⟩ : ∃ (r : Fin 256) (e : Fin 1024), x = ix2 r e := ⟨x 0, x 1, ValueIdx.eq_ix2 x⟩
      refine (st1 m c t r e).trans (Eq.trans ?_ (dZ_1 _ _ _ _ _ _ _ _ _ _ _ e hx1).symm)
      exact congrArg (fun R => dz _ _ _ _ _ (row t R) e) (Fin.ext hx0).symm
    · obtain ⟨r, e, rfl⟩ : ∃ (r : Fin 256) (e : Fin 1024), x = ix2 r e := ⟨x 0, x 1, ValueIdx.eq_ix2 x⟩
      refine (st0 m c t r e).trans (Eq.trans ?_ (dZ_0 _ _ _ _ _ _ _ _ _ _ _ e hx1).symm)
      exact congrArg (fun R => dz _ _ _ _ _ (row t R) e) (Fin.ext hx0).symm

/-- The array of the gates' gradient after the run. -/
theorem arr15 (c : Dev nD) : (dats m 0 c).arrAt 15 cfg0.N
    = dZArr (m ((c : Thread nD τ).loc main_arg0)) (m ((c : Thread nD τ).loc main_arg7)) (m ((c : Thread nD τ).loc main_arg8))
        (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 15 _ (by decide +kernel) fun t hf y => ?_
  have h9 : ((cfg0.win 15).blk t).view.emb y = ix2 (row t (y 0)) (y 1) := by
    have := lt32 t
    unfold row
    blk_ext [idx t]
  rw [h9]
  blk_simp
  rw [after0_15]
  exact out15 m c t y

/-- The accumulator of the bias's gradient starts from zero. -/
theorem zero16 (i : S1x3072.Idx) : k0_pay7 (F := Ideal) i = 0 := by
  unfold k0_pay7
  pointwise

/-- A point after the first adds its rows to the bias's gradient. -/
theorem step16 (c : Dev nD) (t : Fin cfg0.N) (h : ¬t.val % 32 = 0) (j : S1x3072.Idx) :
    (outsAt0 m c t.val t.isLt).2.2.2.2.2.2.2 j
      = (outsAt0 m c (t.val - 1) (Nat.lt_of_le_of_lt (Nat.sub_le _ _) t.isLt)).2.2.2.2.2.2.2 j
        + ∑ r : Fin 256, dZ (m ((c : Thread nD τ).loc main_arg0)) (m ((c : Thread nD τ).loc main_arg7)) (m ((c : Thread nD τ).loc main_arg8))
        (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t r) (j 1) := by
    rw [outsAt0_B m c t h]
    frame_out
    canon_tiles x hx
    · obtain ⟨r, e, rfl⟩ : ∃ (r : Fin 1) (e : Fin 1024), x = ix2 r e := ⟨x 0, x 1, ValueIdx.eq_ix2 x⟩
      obtain rfl : r = 0 := Subsingleton.elim _ _
      refine (db2 m c t _ e).trans (congrArg₂ (· + ·) ?_ (Finset.sum_congr rfl fun r _ =>
        (dZ_2 _ _ _ _ _ _ _ _ _ _ _ e hx1).symm))
      pointwise
      blk_ext []
      all_goals exact hx1.symm
    · obtain ⟨r, e, rfl⟩ : ∃ (r : Fin 1) (e : Fin 1024), x = ix2 r e := ⟨x 0, x 1, ValueIdx.eq_ix2 x⟩
      obtain rfl : r = 0 := Subsingleton.elim _ _
      refine (db1 m c t _ e).trans (congrArg₂ (· + ·) ?_ (Finset.sum_congr rfl fun r _ =>
        (dZ_1 _ _ _ _ _ _ _ _ _ _ _ e hx1).symm))
      pointwise
      blk_ext []
      all_goals exact hx1.symm
    · obtain ⟨r, e, rfl⟩ : ∃ (r : Fin 1) (e : Fin 1024), x = ix2 r e := ⟨x 0, x 1, ValueIdx.eq_ix2 x⟩
      obtain rfl : r = 0 := Subsingleton.elim _ _
      refine (db0 m c t _ e).trans (congrArg₂ (· + ·) ?_ (Finset.sum_congr rfl fun r _ =>
        (dZ_0 _ _ _ _ _ _ _ _ _ _ _ e hx1).symm))
      pointwise
      blk_ext []
      all_goals exact hx1.symm

/-- The first point's rows begin the bias's gradient. -/
theorem first16 (c : Dev nD) (t : Fin cfg0.N) (h : t.val % 32 = 0) (j : S1x3072.Idx) :
    (outsAt0 m c t.val t.isLt).2.2.2.2.2.2.2 j = 0 + ∑ r : Fin 256, dZ (m ((c : Thread nD τ).loc main_arg0)) (m ((c : Thread nD τ).loc main_arg7)) (m ((c : Thread nD τ).loc main_arg8))
        (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t r) (j 1) := by
    rw [outsAt0_A m c t h]
    frame_out
    simp (disch := decide) only [View.readCov_skip, View.readCov_fill]
    refine View.canon_append_of_piecesOf (s := S1x3072) (e := .f32) (Val := Elt Ideal) (fun j => 0 + ∑ r : Fin 256, dZ (m ((c : Thread nD τ).loc main_arg0)) (m ((c : Thread nD τ).loc main_arg7)) (m ((c : Thread nD τ).loc main_arg8))
        (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t r) (j 1))
      [_] [_, _, _] ⟨?_, ?_, ?_, trivial⟩ j ?_
    · intro x
      obtain ⟨r, e, rfl⟩ : ∃ (r : Fin 1) (e : Fin 1024), x = ix2 r e := ⟨x 0, x 1, ValueIdx.eq_ix2 x⟩
      obtain rfl : r = 0 := Subsingleton.elim _ _
      refine (db2 m c t _ e).trans (congrArg₂ (· + ·) ?_ (Finset.sum_congr rfl fun r _ =>
        (dZ_2 _ _ _ _ _ _ _ _ _ _ _ e ?_).symm))
      · pointwise [zero16]
      · show 2048 + 1 * e.val = _; omega
    · intro x
      obtain ⟨r, e, rfl⟩ : ∃ (r : Fin 1) (e : Fin 1024), x = ix2 r e := ⟨x 0, x 1, ValueIdx.eq_ix2 x⟩
      obtain rfl : r = 0 := Subsingleton.elim _ _
      refine (db1 m c t _ e).trans (congrArg₂ (· + ·) ?_ (Finset.sum_congr rfl fun r _ =>
        (dZ_1 _ _ _ _ _ _ _ _ _ _ _ e ?_).symm))
      · pointwise [zero16]
      · show 1024 + 1 * e.val = _; omega
    · intro x
      obtain ⟨r, e, rfl⟩ : ∃ (r : Fin 1) (e : Fin 1024), x = ix2 r e := ⟨x 0, x 1, ValueIdx.eq_ix2 x⟩
      obtain rfl : r = 0 := Subsingleton.elim _ _
      refine (db0 m c t _ e).trans (congrArg₂ (· + ·) ?_ (Finset.sum_congr rfl fun r _ =>
        (dZ_0 _ _ _ _ _ _ _ _ _ _ _ e ?_).symm))
      · pointwise [zero16]
      · show 0 + 1 * e.val = _; omega
    · exact View.cover_of_tiledL _ ![1, 1024] (by sl_kernel_rfl) j

/-- The array of the bias's gradient after the run. -/
theorem arr16 (c : Dev nD) : (dats m 0 c).arrAt 16 cfg0.N
    = dBArr (m ((c : Thread nD τ).loc main_arg0)) (m ((c : Thread nD τ).loc main_arg7)) (m ((c : Thread nD τ).loc main_arg8))
        (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 16 _ (by decide +kernel) fun t hf y => ?_
  have ht := (flush0_16 t).mp hf
  have hN : cfg0.N = 32 := N_0
  have h9 : ((cfg0.win 16).blk t).view.emb y = y := by
    blk_ext [idx t]
  rw [h9]
  blk_simp
  rw [after0_16]
  rw [Pipeline.eq_sum_fin_of_reset_step_apply_last (fun n h => (outsAt0 m c n h).2.2.2.2.2.2.2) 32 (fun _ => (0 : EReal))
    (fun t (i : S1x3072.Idx) => ∑ r : Fin 256, dZ (m ((c : Thread nD τ).loc main_arg0)) (m ((c : Thread nD τ).loc main_arg7)) (m ((c : Thread nD τ).loc main_arg8))
        (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t r) (i 1))
    (fun t h i => first16 m c t h i) (fun t h i => step16 m c t h i) (by omega) t (by have := lt32 t; omega) y]
  rw [zero_add]
  exact sum_rows fun R => dZ (m ((c : Thread nD τ).loc main_arg0)) (m ((c : Thread nD τ).loc main_arg7)) (m ((c : Thread nD τ).loc main_arg8))
        (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) R (y 1)

end Cert.Kernel2Ideal.Final

end
-- ==== Proof.Merge.Ref.lean ====
/-
  The gradient of the gated merge, reference side: its results read at an index.
-/
module

public import proofs.«01_k».proof.Proof.Gen.Reference2Ideal.Read
public import proofs.«01_k».proof.Proof.Merge.Math

@[expose] public section

set_option maxRecDepth 16384

noncomputable section

open Idealize.ShloMosaic
open scoped BigOperators

namespace Cert.Reference2Ideal.At

open Cert.Reference2Ideal Cert.Reference2Ideal.Gen Cert.Reference2Ideal.Read Cert.Merge

/-- The reference's gates. -/
theorem gates (x7 : S8192x3072.Idx → EReal) (x8 : S1x3072.Idx → EReal) (R : Fin 8192) (E : Fin 3072) :
    val_main_v11 (F := Ideal) x7 x8 (ix2 R E) = gat x7 x8 R E := by
  unfold val_main_v11 val_main_v10 val_main_cst_0 val_main_v9 val_main_v8 val_main_cst val_main_v7 val_main_v6 val_main_v5 val_main_v4
  pointwise
  exact (gate_eq _).symm

/-- The gated gradient, as the reference writes it. -/
theorem gd_of (x0 : S8192x1024.Idx → EReal) (x7 : S8192x3072.Idx → EReal) (x8 : S1x3072.Idx → EReal) (o : Fin 3) (R : Fin 8192) (e : Fin 1024)
    (E : Fin 3072) (h : E.val = 1024 * o.val + e.val) : gat x7 x8 R E * x0 (ix2 R e) = gd x0 x7 x8 o R e := by
  unfold gd
  rw [mul_comm]
  exact congrArg (fun E => _ * gat x7 x8 R E) (Fin.ext h)

/-- The reference's gradient of branch 0's activations. -/
theorem act0 (x0 : S8192x1024.Idx → EReal) (x4 : S512x1024.Idx → EReal) (x7 : S8192x3072.Idx → EReal) (x8 : S1x3072.Idx → EReal) :
    val_main_v54 (F := Ideal) x0 x4 x7 x8 = dAct x0 x7 x8 0 x4 := by
  funext i
  obtain ⟨R, k, rfl⟩ : ∃ (R : Fin 8192) (k : Fin 512), i = ix2 R k := ⟨i 0, i 1, ValueIdx.eq_ix2 i⟩
  unfold val_main_v54 val_main_v41 val_main_v1 val_main_v20 val_main_v19 val_main_v15 val_main_v30
  pointwise [gates]
  refine Finset.sum_congr rfl fun e _ => ?_
  exact congrArg (· * _) (gd_of x0 x7 x8 0 R e _ (by show _ = 1024 * 0 + e.val; simp))
/-- The reference's gradient of branch 0's weights. -/
theorem wt0 (x0 : S8192x1024.Idx → EReal) (x1 : S8192x512.Idx → EReal) (x7 : S8192x3072.Idx → EReal) (x8 : S1x3072.Idx → EReal) :
    val_main_v59 (F := Ideal) x0 x1 x7 x8 = dWt x0 x7 x8 0 x1 := by
  funext i
  obtain ⟨e, k, rfl⟩ : ∃ (e : Fin 1024) (k : Fin 512), i = ix2 e k := ⟨i 0, i 1, ValueIdx.eq_ix2 i⟩
  unfold val_main_v59 val_main_v53 val_main_v52 val_main_v41 val_main_v20 val_main_v19 val_main_v15 val_main_v30 val_main_v0
  pointwise [gates]
  refine Finset.sum_congr rfl fun R _ => ?_
  exact congrArg (· * _) (gd_of x0 x7 x8 0 R e _ (by show _ = 1024 * 0 + e.val; simp))

/-- The reference's gradient of branch 1's activations. -/
theorem act1 (x0 : S8192x1024.Idx → EReal) (x5 : S256x1024.Idx → EReal) (x7 : S8192x3072.Idx → EReal) (x8 : S1x3072.Idx → EReal) :
    val_main_v51 (F := Ideal) x0 x5 x7 x8 = dAct x0 x7 x8 1 x5 := by
  funext i
  obtain ⟨R, k, rfl⟩ : ∃ (R : Fin 8192) (k : Fin 256), i = ix2 R k := ⟨i 0, i 1, ValueIdx.eq_ix2 i⟩
  unfold val_main_v51 val_main_v36 val_main_v2 val_main_v23 val_main_v22 val_main_v15 val_main_v30
  pointwise [gates]
  refine Finset.sum_congr rfl fun e _ => ?_
  exact congrArg (· * _) (gd_of x0 x7 x8 1 R e _ (by show _ = 1024 * 1 + e.val; simp))
/-- The reference's gradient of branch 1's weights. -/
theorem wt1 (x0 : S8192x1024.Idx → EReal) (x2 : S8192x256.Idx → EReal) (x7 : S8192x3072.Idx → EReal) (x8 : S1x3072.Idx → EReal) :
    val_main_v60 (F := Ideal) x0 x2 x7 x8 = dWt x0 x7 x8 1 x2 := by
  funext i
  obtain ⟨e, k, rfl⟩ : ∃ (e : Fin 1024) (k : Fin 256), i = ix2 e k := ⟨i 0, i 1, ValueIdx.eq_ix2 i⟩
  unfold val_main_v60 val_main_v50 val_main_v49 val_main_v36 val_main_v23 val_main_v22 val_main_v15 val_main_v30
  pointwise [gates]
  refine Finset.sum_congr rfl fun R _ => ?_
  exact congrArg (· * _) (gd_of x0 x7 x8 1 R e _ (by show _ = 1024 * 1 + e.val; simp))

/-- The reference's gradient of branch 2's activations. -/
theorem act2 (x0 : S8192x1024.Idx → EReal) (x6 : S512x1024.Idx → EReal) (x7 : S8192x3072.Idx → EReal) (x8 : S1x3072.Idx → EReal) :
    val_main_v48 (F := Ideal) x0 x6 x7 x8 = dAct x0 x7 x8 2 x6 := by
  funext i
  obtain ⟨R, k, rfl⟩ : ∃ (R : Fin 8192) (k : Fin 512), i = ix2 R k := ⟨i 0, i 1, ValueIdx.eq_ix2 i⟩
  unfold val_main_v48 val_main_v32 val_main_v3 val_main_v27 val_main_v26 val_main_v15 val_main_v31
  pointwise [gates]
  refine Finset.sum_congr rfl fun e _ => ?_
  exact congrArg (· * _) (gd_of x0 x7 x8 2 R e _ (by show _ = 1024 * 2 + e.val; simp))
/-- The reference's gradient of branch 2's weights. -/
theorem wt2 (x0 : S8192x1024.Idx → EReal) (x3 : S8192x512.Idx → EReal) (x7 : S8192x3072.Idx → EReal) (x8 : S1x3072.Idx → EReal) :
    val_main_v61 (F := Ideal) x0 x3 x7 x8 = dWt x0 x7 x8 2 x3 := by
  funext i
  obtain ⟨e, k, rfl⟩ : ∃ (e : Fin 1024) (k : Fin 512), i = ix2 e k := ⟨i 0, i 1, ValueIdx.eq_ix2 i⟩
  unfold val_main_v61 val_main_v47 val_main_v46 val_main_v32 val_main_v27 val_main_v26 val_main_v15 val_main_v31
  pointwise [gates]
  refine Finset.sum_congr rfl fun R _ => ?_
  exact congrArg (· * _) (gd_of x0 x7 x8 2 R e _ (by show _ = 1024 * 2 + e.val; simp))

/-- The gradient of a gate's argument, as the reference writes it. -/
theorem dz_of (x0 : S8192x1024.Idx → EReal) (x7 : S8192x3072.Idx → EReal) (x8 : S1x3072.Idx → EReal) (p : Fin 8192 → Fin 1024 → EReal)
    (o : Fin 3) (R : Fin 8192) (e : Fin 1024) (E : Fin 3072) (h : E.val = 1024 * o.val + e.val) :
    x0 (ix2 R e) * p R e * (gat x7 x8 R E * (1 - gat x7 x8 R E)) = dz x0 x7 x8 o p R e := by
  unfold dz
  rw [← mul_assoc]
  exact congrArg (fun E => _ * gat x7 x8 R E * (1 - gat x7 x8 R E)) (Fin.ext h)

set_option maxHeartbeats 4000000 in
/-- The reference's gradient of the gates' arguments. -/
theorem dzs (x0 : S8192x1024.Idx → EReal) (x1 : S8192x512.Idx → EReal) (x2 : S8192x256.Idx → EReal) (x3 : S8192x512.Idx → EReal) (x4 : S512x1024.Idx → EReal) (x5 : S256x1024.Idx → EReal) (x6 : S512x1024.Idx → EReal) (x7 : S8192x3072.Idx → EReal) (x8 : S1x3072.Idx → EReal) (R : Fin 8192) (E : Fin 3072) :
    val_main_v56 (F := Ideal) x0 x1 x2 x3 x4 x5 x6 x7 x8 (ix2 R E) = dZ x0 x7 x8 x1 x2 x3 x4 x5 x6 R E := by
  unfold val_main_v56 val_main_v55 val_main_v45 val_main_v40 val_main_v35 val_main_v34 val_main_v33 val_main_v39 val_main_v38 val_main_v37 val_main_v44 val_main_v43 val_main_v42
  unfold val_main_v14 val_main_v13 val_main_v12 val_main_v31 val_main_v30 val_main_v16 val_main_v17 val_main_v18 val_main_cst_2 val_main_cst_3 val_main_cst_4 val_main_cst_1 val_main_v0 val_main_v1 val_main_v2 val_main_v3
  pointwise [gates]
  have hm : E.val % 1024 < 1024 := Nat.mod_lt _ (by decide)
  rcases (by omega : E.val / 1024 = 0 ∨ E.val / 1024 = 1 ∨ E.val / 1024 = 2) with h | h | h
  · rw [dif_neg (by omega), dif_neg (by omega), dif_pos (by omega), add_zero, zero_add]
    have hE : E.val = 1024 * (0 : Fin 3).val + (⟨E.val % 1024, hm⟩ : Fin 1024).val := by show E.val = 1024 * 0 + E.val % 1024; omega
    have h1 := dz_of x0 x7 x8 (br x1 x4) 0 R ⟨E.val % 1024, hm⟩ E hE
    rw [dZ_0 x0 x7 x8 x1 x2 x3 x4 x5 x6 R E ⟨E.val % 1024, hm⟩ (by show E.val = E.val % 1024; omega), ← h1]
    simp only [br]
  · rw [dif_neg (by omega), dif_pos (by omega), dif_neg (by omega), add_zero, zero_add]
    have hE : E.val = 1024 * (1 : Fin 3).val + (⟨E.val % 1024, hm⟩ : Fin 1024).val := by show E.val = 1024 * 1 + E.val % 1024; omega
    have h1 := dz_of x0 x7 x8 (br x2 x5) 1 R ⟨E.val % 1024, hm⟩ E hE
    rw [dZ_1 x0 x7 x8 x1 x2 x3 x4 x5 x6 R E ⟨E.val % 1024, hm⟩ (by show E.val = 1024 + E.val % 1024; omega), ← h1]
    simp only [br]
  · rw [dif_pos (by omega), dif_neg (by omega), dif_neg (by omega), add_zero, add_zero]
    have hE : E.val = 1024 * (2 : Fin 3).val + (⟨E.val % 1024, hm⟩ : Fin 1024).val := by show E.val = 1024 * 2 + E.val % 1024; omega
    have h1 := dz_of x0 x7 x8 (br x3 x6) 2 R ⟨E.val % 1024, hm⟩ E hE
    rw [dZ_2 x0 x7 x8 x1 x2 x3 x4 x5 x6 R E ⟨E.val % 1024, hm⟩ (by show E.val = 2048 + E.val % 1024; omega), ← h1]
    simp only [br]

/-- The reference's gradient of the gates' arguments, as an array. -/
theorem dzArr (x0 : S8192x1024.Idx → EReal) (x1 : S8192x512.Idx → EReal) (x2 : S8192x256.Idx → EReal) (x3 : S8192x512.Idx → EReal) (x4 : S512x1024.Idx → EReal) (x5 : S256x1024.Idx → EReal) (x6 : S512x1024.Idx → EReal) (x7 : S8192x3072.Idx → EReal) (x8 : S1x3072.Idx → EReal) :
    val_main_v62 (F := Ideal) x0 x1 x2 x3 x4 x5 x6 x7 x8 = dZArr x0 x7 x8 x1 x2 x3 x4 x5 x6 := by
  funext i
  obtain ⟨R, E, rfl⟩ : ∃ (R : Fin 8192) (E : Fin 3072), i = ix2 R E := ⟨i 0, i 1, ValueIdx.eq_ix2 i⟩
  unfold val_main_v62
  pointwise [dzs]
  rfl
/-- The reference's gradient of the bias. -/
theorem dbArr (x0 : S8192x1024.Idx → EReal) (x1 : S8192x512.Idx → EReal) (x2 : S8192x256.Idx → EReal) (x3 : S8192x512.Idx → EReal) (x4 : S512x1024.Idx → EReal) (x5 : S256x1024.Idx → EReal) (x6 : S512x1024.Idx → EReal) (x7 : S8192x3072.Idx → EReal) (x8 : S1x3072.Idx → EReal) :
    val_main_v58 (F := Ideal) x0 x1 x2 x3 x4 x5 x6 x7 x8 = dBArr x0 x7 x8 x1 x2 x3 x4 x5 x6 := by
  funext i
  obtain ⟨u, E, rfl⟩ : ∃ (u : Fin 1) (E : Fin 3072), i = ix2 u E := ⟨i 0, i 1, ValueIdx.eq_ix2 i⟩
  unfold val_main_v58 val_main_v57 val_main_cst_5
  pointwise [dzs]
  rfl

end Cert.Reference2Ideal.At

end
-- ==== Proof.Merge.Final.lean ====
/-
  The gradient of the gated merge: kernel and reference end with equal results.
-/
module

public import proofs.«01_k».proof.Defs
public import proofs.«01_k».proof.Proof.Merge.Gates
public import proofs.«01_k».proof.Proof.Merge.Ref

@[expose] public section

set_option maxRecDepth 16384

noncomputable section

open Idealize.ShloMosaic Idealize.ShloMosaic.TcCoe Idealize.SL.Sem
open scoped BigOperators

namespace Cert.Merge

open Cert.Kernel2Ideal.Final

/-- The reference of the merge's gradient terminates and leaves its arguments unchanged; it has no counters. -/
theorem frame_reference : Cert.quiescent_Reference2Ideal := fun m ρ _ =>
  (θ_run Cert.Reference2Ideal.defs _ _).mono (fun r h => ⟨fun c => (h c).2.2.2.2.2.2.2.2,
    Idealize.ShloMosaic.sem_eq_zero_of_no_sems (by decide) r.2⟩) (Cert.Reference2Ideal.Value.run m ρ)

/-- The merge's gradient: kernel and reference end with equal results. -/
theorem algebraic : Cert.algebraic_Kernel2Ideal_Reference2Ideal := by
  intro m ρ m' ρ' hpre hag
  refine ⟨fun c => dAct (m (c.tc.loc Cert.Kernel2Ideal.main_arg0)) (m (c.tc.loc Cert.Kernel2Ideal.main_arg7)) (m (c.tc.loc Cert.Kernel2Ideal.main_arg8)) 0 (m (c.tc.loc Cert.Kernel2Ideal.main_arg4)),
    fun c => dAct (m (c.tc.loc Cert.Kernel2Ideal.main_arg0)) (m (c.tc.loc Cert.Kernel2Ideal.main_arg7)) (m (c.tc.loc Cert.Kernel2Ideal.main_arg8)) 1 (m (c.tc.loc Cert.Kernel2Ideal.main_arg5)),
    fun c => dAct (m (c.tc.loc Cert.Kernel2Ideal.main_arg0)) (m (c.tc.loc Cert.Kernel2Ideal.main_arg7)) (m (c.tc.loc Cert.Kernel2Ideal.main_arg8)) 2 (m (c.tc.loc Cert.Kernel2Ideal.main_arg6)),
    fun c => dWt (m (c.tc.loc Cert.Kernel2Ideal.main_arg0)) (m (c.tc.loc Cert.Kernel2Ideal.main_arg7)) (m (c.tc.loc Cert.Kernel2Ideal.main_arg8)) 0 (m (c.tc.loc Cert.Kernel2Ideal.main_arg1)),
    fun c => dWt (m (c.tc.loc Cert.Kernel2Ideal.main_arg0)) (m (c.tc.loc Cert.Kernel2Ideal.main_arg7)) (m (c.tc.loc Cert.Kernel2Ideal.main_arg8)) 1 (m (c.tc.loc Cert.Kernel2Ideal.main_arg2)),
    fun c => dWt (m (c.tc.loc Cert.Kernel2Ideal.main_arg0)) (m (c.tc.loc Cert.Kernel2Ideal.main_arg7)) (m (c.tc.loc Cert.Kernel2Ideal.main_arg8)) 2 (m (c.tc.loc Cert.Kernel2Ideal.main_arg3)),
    fun c => dZArr (m (c.tc.loc Cert.Kernel2Ideal.main_arg0)) (m (c.tc.loc Cert.Kernel2Ideal.main_arg7)) (m (c.tc.loc Cert.Kernel2Ideal.main_arg8)) (m (c.tc.loc Cert.Kernel2Ideal.main_arg1)) (m (c.tc.loc Cert.Kernel2Ideal.main_arg2)) (m (c.tc.loc Cert.Kernel2Ideal.main_arg3)) (m (c.tc.loc Cert.Kernel2Ideal.main_arg4)) (m (c.tc.loc Cert.Kernel2Ideal.main_arg5)) (m (c.tc.loc Cert.Kernel2Ideal.main_arg6)),
    fun c => dBArr (m (c.tc.loc Cert.Kernel2Ideal.main_arg0)) (m (c.tc.loc Cert.Kernel2Ideal.main_arg7)) (m (c.tc.loc Cert.Kernel2Ideal.main_arg8)) (m (c.tc.loc Cert.Kernel2Ideal.main_arg1)) (m (c.tc.loc Cert.Kernel2Ideal.main_arg2)) (m (c.tc.loc Cert.Kernel2Ideal.main_arg3)) (m (c.tc.loc Cert.Kernel2Ideal.main_arg4)) (m (c.tc.loc Cert.Kernel2Ideal.main_arg5)) (m (c.tc.loc Cert.Kernel2Ideal.main_arg6)),
    (θ_run Cert.Kernel2Ideal.defs _ _).mono (fun r h c => ?_) (Cert.Kernel2Ideal.Value.run_blocks m ρ),
    (θ_run Cert.Reference2Ideal.defs _ _).mono (fun r h c => ?_) (Cert.Reference2Ideal.Value.run m' ρ')⟩
  · obtain ⟨h0, h1, h2, h3, h4, h5, h6, h7, k0, k1, k2, k3, k4, k5, k6, k7, k8⟩ := h c
    exact ⟨h0.trans (arr9 m c), h1.trans (arr10 m c), h2.trans (arr11 m c), h3.trans (arr12 m c), h4.trans (arr13 m c), h5.trans (arr14 m c), h6.trans (arr15 m c), h7.trans (arr16 m c), k0, k1, k2, k3, k4, k5, k6, k7, k8⟩
  · obtain ⟨h0, h1, h2, h3, h4, h5, h6, h7, k0, k1, k2, k3, k4, k5, k6, k7, k8⟩ := h c
    obtain ⟨e0, e1, e2, e3, e4, e5, e6, e7, e8⟩ := hag c
    refine ⟨h0.trans ((Cert.Reference2Ideal.Read.val_main_v54_eq _ _ _ _ ).trans ?_), h1.trans ((Cert.Reference2Ideal.Read.val_main_v51_eq _ _ _ _ ).trans ?_), h2.trans ((Cert.Reference2Ideal.Read.val_main_v48_eq _ _ _ _ ).trans ?_), h3.trans ((Cert.Reference2Ideal.Read.val_main_v59_eq _ _ _ _ ).trans ?_), h4.trans ((Cert.Reference2Ideal.Read.val_main_v60_eq _ _ _ _ ).trans ?_), h5.trans ((Cert.Reference2Ideal.Read.val_main_v61_eq _ _ _ _ ).trans ?_), h6.trans ((Cert.Reference2Ideal.Read.val_main_v62_eq _ _ _ _ _ _ _ _ _ ).trans ?_), h7.trans ((Cert.Reference2Ideal.Read.val_main_v58_eq _ _ _ _ _ _ _ _ _ ).trans ?_), k0, k1, k2, k3, k4, k5, k6, k7, k8⟩
    · rw [e0, e4, e7, e8]; exact Cert.Reference2Ideal.At.act0 _ _ _ _
    · rw [e0, e5, e7, e8]; exact Cert.Reference2Ideal.At.act1 _ _ _ _
    · rw [e0, e6, e7, e8]; exact Cert.Reference2Ideal.At.act2 _ _ _ _
    · rw [e0, e1, e7, e8]; exact Cert.Reference2Ideal.At.wt0 _ _ _ _
    · rw [e0, e2, e7, e8]; exact Cert.Reference2Ideal.At.wt1 _ _ _ _
    · rw [e0, e3, e7, e8]; exact Cert.Reference2Ideal.At.wt2 _ _ _ _
    · rw [e0, e1, e2, e3, e4, e5, e6, e7, e8]; exact Cert.Reference2Ideal.At.dzArr _ _ _ _ _ _ _ _ _
    · rw [e0, e1, e2, e3, e4, e5, e6, e7, e8]; exact Cert.Reference2Ideal.At.dbArr _ _ _ _ _ _ _ _ _
end Cert.Merge

end
-- ==== Proof.Prod.Math.lean ====
/-
  Products in tiles: the sum over a contraction that is cut into equal tiles.
-/
module

public import Idealize.ShloMosaic.Lib.Pipeline.ValueKit
public import Idealize.ShloMosaic.Lib.Pointwise

@[expose] public section

set_option maxRecDepth 16384

noncomputable section

open Idealize.ShloMosaic
open scoped BigOperators

namespace Cert.Prod

/-- The product of the transposed left factor with the right factor. -/
def tmul {K M N : ℕ} (a : Shape.Idx ⟨2, ![K, M]⟩ → EReal) (b : Shape.Idx ⟨2, ![K, N]⟩ → EReal) : Shape.Idx ⟨2, ![M, N]⟩ → EReal :=
  fun i => ∑ k : Fin K, a (ix2 k (i 0)) * b (ix2 k (i 1))

/-- The product of the left factor with the transposed right factor. -/
def mult {K M N : ℕ} (a : Shape.Idx ⟨2, ![M, K]⟩ → EReal) (b : Shape.Idx ⟨2, ![N, K]⟩ → EReal) : Shape.Idx ⟨2, ![M, N]⟩ → EReal :=
  fun i => ∑ k : Fin K, a (ix2 (i 0) k) * b (ix2 (i 1) k)

/-- The product of two factors. -/
def mul {K M N : ℕ} (a : Shape.Idx ⟨2, ![M, K]⟩ → EReal) (b : Shape.Idx ⟨2, ![K, N]⟩ → EReal) : Shape.Idx ⟨2, ![M, N]⟩ → EReal :=
  fun i => ∑ k : Fin K, a (ix2 (i 0) k) * b (ix2 k (i 1))

/-- A sum over equal tiles is the sum over all. -/
theorem sum_tiles {S n K : ℕ} (h : S * n = K) (row : Fin S → Fin n → Fin K) (hrow : ∀ s r, (row s r).val = n * s.val + r.val) (f : Fin K → EReal) :
    ∑ s : Fin S, ∑ r : Fin n, f (row s r) = ∑ k, f k := by
  rw [← Fintype.sum_prod_type']
  refine Fintype.sum_equiv (finProdFinEquiv.trans (finCongr h)) _ _ fun p => congrArg f (Fin.ext ?_)
  rw [hrow]
  show _ = p.2.val + n * p.1.val
  omega

end Cert.Prod

end
-- ==== Proof.DAct.Final.lean ====
/-
  The gradient of the unit's inputs before the square of the positive part: kernel and reference end with equal results.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Prod.Math

@[expose] public section

set_option maxRecDepth 16384

noncomputable section

open Idealize.ShloMosaic Idealize.ShloMosaic.TcCoe Idealize.SL.Sem
open scoped BigOperators

namespace Cert.DAct

/-- The root of the square of a positive part is the positive part. -/
theorem sqrt_sq (x : EReal) : Ideal.sqrt (max x 0 * max x 0) = max x 0 := by
  rcases le_or_gt x 0 with h | h
  · rw [max_eq_right h, mul_zero]
    show Ideal.sqrt ((0 : ℝ) : EReal) = ((0 : ℝ) : EReal)
    rw [Ideal.sqrt_coe, if_neg (lt_irrefl _), Real.sqrt_zero]
  · rw [max_eq_left h.le]
    induction x using EReal.rec with
    | bot => exact absurd h (by simp)
    | top => simp
    | coe r =>
      have hr : 0 < r := by exact_mod_cast h
      rw [← EReal.coe_mul, Ideal.sqrt_coe, if_neg (by nlinarith), Real.sqrt_mul_self hr.le]

/-- The gradient: the product with twice the positive part. -/
def grad {n k d : ℕ} (a : Shape.Idx ⟨2, ![n, d]⟩ → EReal) (b : Shape.Idx ⟨2, ![k, d]⟩ → EReal) (z : Shape.Idx ⟨2, ![n, k]⟩ → EReal) :
    Shape.Idx ⟨2, ![n, k]⟩ → EReal :=
  fun i => Cert.Prod.mult a b i * (((2 : ℝ) : EReal) * max (z i) 0)

/-- The constant two. -/
theorem two : Ideal.ofBits .f32 0x40000000#32 = ((2 : ℝ) : EReal) := by
  simp [Ideal.ofBits, Ideal.ieee]; norm_num [← EReal.coe_mul]

end Cert.DAct

namespace Cert.Kernel3Ideal.Final

open Cert.Kernel3Ideal Cert.Kernel3Ideal.Gen Cert.Prod

variable (m : (ℓ : Loc nD τ sig) → Buf (Elt Ideal) ℓ)

/-- Where each window's block of point `t` begins. -/
theorem idx : ∀ t : Fin cfg0.N,
    win0_0.index t = ![t.val / 2, 0] ∧ win0_1.index t = ![t.val % 2, 0] ∧ win0_2.index t = ![t.val / 2, t.val % 2]
      ∧ win0_3.index t = ![t.val / 2, t.val % 2] :=
  (by decide +kernel : ∀ t : Fin grid0.N, _)

/-- The grid has 16 points. -/
theorem lt16 (t : Fin cfg0.N) : t.val < 16 := lt_of_lt_of_eq t.isLt (show cfg0.N = 16 from N_0)

/-- Row `r` of the tile at point `t`. -/
def row (t : Fin cfg0.N) (r : Fin 1024) : Fin 8192 := ⟨1024 * (t.val / 2) + r.val, by have := lt16 t; omega⟩
/-- Column `e` of the tile at point `t`. -/
def col (t : Fin cfg0.N) (e : Fin 2048) : Fin 4096 := ⟨2048 * (t.val % 2) + e.val, by omega⟩

/-- The cotangent. -/
abbrev fa (c : Dev nD) : S8192x1024.Idx → EReal := m ((c : Thread nD τ).loc main_arg0)
/-- The weights. -/
abbrev fb (c : Dev nD) : S4096x1024.Idx → EReal := m ((c : Thread nD τ).loc main_arg1)
/-- The unit's inputs. -/
abbrev fz (c : Dev nD) : S8192x4096.Idx → EReal := m ((c : Thread nD τ).loc main_arg2)

/-- The cotangent's tile. -/
theorem blk0 (c : Dev nD) (t : Fin cfg0.N) (r : Fin 1024) (e : Fin 1024) :
    (iblk m c 0 t : Vec Ideal S1024x1024 .f32) (ix2 r e) = fa m c (ix2 (row t r) e) := by
  have := lt16 t
  unfold row
  blk_ext [iblk, V, idx t]
/-- The weights' tile. -/
theorem blk1 (c : Dev nD) (t : Fin cfg0.N) (r : Fin 2048) (e : Fin 1024) :
    (iblk m c 1 t : Vec Ideal S2048x1024 .bf16) (ix2 r e) = fb m c (ix2 (col t r) e) := by
  have := lt16 t
  unfold col
  blk_ext [iblk, V, idx t]
/-- What the host leaves in the squares' buffer. -/
theorem V_main_v2 (c : Dev nD) : V m c main_v2 = (truncf (F := Ideal) .bf16 (mulf
      (maximumf (m ((c : Thread nD τ).loc main_arg2)) (broadcastInDim S8192x4096 ![] bcast_S_S8192x4096 (constant S_ .f32 0x00000000#32)))
      (maximumf (m ((c : Thread nD τ).loc main_arg2)) (broadcastInDim S8192x4096 ![] bcast_S_S8192x4096 (constant S_ .f32 0x00000000#32))))
    bitsLt_bf16_f32 : FVec Ideal S8192x4096 .bf16) := by
  simp only [V, hostOps0, hostOps0_1, List.flatten_cons, List.flatten_nil, List.append_nil, List.cons_append, List.nil_append,
    StableHlo.TRef.binary, StableHlo.TRef.nullary, StableHlo.TRef.unary, StableHlo.TRef.toBuf, StableHlo.TRef.ofBuf, cast_eq]
  after_results
/-- The saved squares' tile. -/
theorem blk2 (c : Dev nD) (t : Fin cfg0.N) (r : Fin 1024) (e : Fin 2048) :
    (iblk m c 2 t : Vec Ideal S1024x2048 .bf16) (ix2 r e)
      = max (fz m c (ix2 (row t r) (col t e))) 0 * max (fz m c (ix2 (row t r) (col t e))) 0 := by
  have := lt16 t
  have h9 : ((cfg0.win 2).blk t).view.emb (ix2 r e) = ix2 (row t r) (col t e) := by
    unfold row col
    blk_ext [idx t]
  show (V m c main_v2 : S8192x4096.Idx → EReal) (((cfg0.win 2).blk t).view.emb (ix2 r e)) = _
  rw [h9, V_main_v2]
  pointwise

/-- The tile's gradient. -/
theorem pay1 (c : Dev nD) (t : Fin cfg0.N) (i : S1024x2048.Idx) :
    k0_pay1 (F := Ideal) (iblk m c 0 t) (iblk m c 1 t) (iblk m c 2 t) i
      = DAct.grad (fa m c) (fb m c) (fz m c) (ix2 (row t (i 0)) (col t (i 1))) := by
  obtain ⟨r, e, rfl⟩ : ∃ (r : Fin 1024) (e : Fin 2048), i = ix2 r e := ⟨i 0, i 1, ValueIdx.eq_ix2 i⟩
  unfold k0_pay1
  pointwise
  have h2 := blk2 m c t r e
  rw [h2, DAct.sqrt_sq, DAct.two]
  refine congrArg (· * _) ?_
  refine Finset.sum_congr rfl fun k _ => ?_
  exact congrArg₂ (fun a b : EReal => a * b) (blk0 m c t r k) (blk1 m c t e k)

/-- The array after the run: the gradient. -/
theorem arr3 (c : Dev nD) : (dats m 0 c).arrAt 3 cfg0.N = DAct.grad (fa m c) (fb m c) (fz m c) := by
  refine (dats m 0 c).arrAt_eq_of_covers 3 _ (by decide +kernel) fun t hf y => ?_
  have hlt := lt16 t
  have h9 : ((cfg0.win 3).blk t).view.emb y = ix2 (row t (y 0)) (col t (y 1)) := by
    unfold row col
    blk_ext [idx t]
  rw [h9]
  blk_simp
  rw [after0_3]
  unfold out0_3
  frame_out
  exact pay1 m c t y

end Cert.Kernel3Ideal.Final

namespace Cert.Reference3Ideal.At

open Cert.Reference3Ideal Cert.Reference3Ideal.Read Cert.Prod

/-- The reference's gradient is the same. -/
theorem value (x0 : S8192x1024.Idx → EReal) (x1 : S4096x1024.Idx → EReal) (x2 : S8192x4096.Idx → EReal) :
    val_main_v15 (F := Ideal) x0 x1 x2 = DAct.grad x0 x1 x2 := by
  funext i
  obtain ⟨e, k, rfl⟩ : ∃ (e : Fin 8192) (k : Fin 4096), i = ix2 e k := ⟨i 0, i 1, ValueIdx.eq_ix2 i⟩
  unfold val_main_v15 val_main_v14 val_main_v3 val_main_v2 val_main_cst val_main_v12 val_main_v11 val_main_v0 val_main_v7 val_main_v6 val_main_cst_1 val_main_v1 val_main_call0_v0 val_main_call0_cst val_main_v13 val_main_cst_2
  pointwise
  rw [DAct.two]
  rcases lt_or_ge 0 (x2 (ix2 e k)) with h | h
  · rw [if_pos h]
    rfl
  · simp [not_lt.mpr h, DAct.grad, max_eq_right h]

end Cert.Reference3Ideal.At

namespace Cert.DAct

open Cert.Kernel3Ideal.Final

/-- The reference terminates and leaves its arguments unchanged; it has no counters. -/
theorem frame_reference : Cert.quiescent_Reference3Ideal := fun m ρ _ =>
  (θ_run Cert.Reference3Ideal.defs _ _).mono (fun r h => ⟨fun c => (h c).2,
    Idealize.ShloMosaic.sem_eq_zero_of_no_sems (by decide) r.2⟩) (Cert.Reference3Ideal.Value.run m ρ)

/-- Kernel and reference end with equal results. -/
theorem algebraic : Cert.algebraic_Kernel3Ideal_Reference3Ideal := by
  intro m ρ m' ρ' hpre hag
  refine ⟨fun c => Cert.DAct.grad (m (c.tc.loc Cert.Kernel3Ideal.main_arg0)) (m (c.tc.loc Cert.Kernel3Ideal.main_arg1)) (m (c.tc.loc Cert.Kernel3Ideal.main_arg2)),
    (θ_run Cert.Kernel3Ideal.defs _ _).mono (fun r h c => ?_) (Cert.Kernel3Ideal.Value.run_blocks m ρ),
    (θ_run Cert.Reference3Ideal.defs _ _).mono (fun r h c => ?_) (Cert.Reference3Ideal.Value.run m' ρ')⟩
  · obtain ⟨h0, k0, k1, k2⟩ := h c
    exact ⟨h0.trans (arr3 m c), k0, k1, k2⟩
  · obtain ⟨h0, k0, k1, k2⟩ := h c
    obtain ⟨e0, e1, e2⟩ := hag c
    exact ⟨h0.trans ((Cert.Reference3Ideal.Read.val_main_v15_eq _ _ _).trans (by rw [e0, e1, e2]; exact Cert.Reference3Ideal.At.value _ _ _)), k0, k1, k2⟩

end Cert.DAct

end
-- ==== Proof.DwDown.Final.lean ====
/-
  The down projection's weight gradient: kernel and reference end with equal results.
-/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Prod.Math
public import Idealize.ShloMosaic.Lib.Pipeline.ReadBack

@[expose] public section

set_option maxRecDepth 16384

noncomputable section

open Idealize.ShloMosaic Idealize.ShloMosaic.TcCoe Idealize.SL.Sem
open scoped BigOperators

namespace Cert.Kernel4Ideal.Final

open Cert.Kernel4Ideal Cert.Kernel4Ideal.Gen Cert.Prod

variable (m : (ℓ : Loc nD τ sig) → Buf (Elt Ideal) ℓ)

/-- Where each window's block of point `t` begins. -/
theorem idx : ∀ t : Fin cfg0.N,
    win0_0.index t = ![t.val % 4, t.val / 4] ∧ win0_1.index t = ![t.val % 4, 0] ∧ win0_2.index t = ![t.val / 4, 0] :=
  (by decide +kernel : ∀ t : Fin grid0.N, _)

/-- The grid has 16 points. -/
theorem lt16 (t : Fin cfg0.N) : t.val < 16 := lt_of_lt_of_eq t.isLt (show cfg0.N = 16 from N_0)

/-- Row `r` of the contraction's tile at point `t`. -/
def row (t : Fin cfg0.N) (r : Fin 2048) : Fin 8192 := ⟨2048 * (t.val % 4) + r.val, by omega⟩

/-- Column `e` of the result's tile at point `t`. -/
def col (t : Fin cfg0.N) (e : Fin 1024) : Fin 4096 := ⟨1024 * (t.val / 4) + e.val, by have := lt16 t; omega⟩

/-- The left factor. -/
abbrev fa (c : Dev nD) : S8192x4096.Idx → EReal := m ((c : Thread nD τ).loc main_arg0)
/-- The right factor. -/
abbrev fb (c : Dev nD) : S8192x1024.Idx → EReal := m ((c : Thread nD τ).loc main_arg1)

/-- The left factor's tile. -/
theorem blk0 (c : Dev nD) (t : Fin cfg0.N) (r : Fin 2048) (e : Fin 1024) :
    (iblk m c 0 t : Vec Ideal S2048x1024 .bf16) (ix2 r e) = fa m c (ix2 (row t r) (col t e)) := by
  have := lt16 t
  unfold row col
  blk_ext [iblk, V, idx t]
/-- The right factor's tile. -/
theorem blk1 (c : Dev nD) (t : Fin cfg0.N) (r : Fin 2048) (e : Fin 1024) :
    (iblk m c 1 t : Vec Ideal S2048x1024 .f32) (ix2 r e) = fb m c (ix2 (row t r) e) := by
  have := lt16 t
  unfold row
  blk_ext [iblk, V, idx t]

/-- The tiles' product. -/
theorem prod (c : Dev nD) (t : Fin cfg0.N) (i : S1024x1024.Idx) :
    k0_pay1 (F := Ideal) (iblk m c 0 t) (iblk m c 1 t) i
      = ∑ r : Fin 2048, fa m c (ix2 (row t r) (col t (i 0))) * fb m c (ix2 (row t r) (i 1)) := by
  obtain ⟨e, k, rfl⟩ : ∃ (e : Fin 1024) (k : Fin 1024), i = ix2 e k := ⟨i 0, i 1, ValueIdx.eq_ix2 i⟩
  unfold k0_pay1
  pointwise
  refine Finset.sum_congr rfl fun r _ => ?_
  have h0 := blk0 m c t r e
  have h1 := blk1 m c t r k
  rw [h0, h1]
/-- The first tile's product starts the accumulator. -/
theorem pay2 (c : Dev nD) (t : Fin cfg0.N) (i : S1024x1024.Idx) :
    k0_pay2 (F := Ideal) (iblk m c 0 t) (iblk m c 1 t) i = k0_pay1 (F := Ideal) (iblk m c 0 t) (iblk m c 1 t) i := by
  obtain ⟨e, k, rfl⟩ : ∃ (e : Fin 1024) (k : Fin 1024), i = ix2 e k := ⟨i 0, i 1, ValueIdx.eq_ix2 i⟩
  unfold k0_pay2
  pointwise
/-- A further tile's product is added to the accumulator. -/
theorem pay3 (c : Dev nD) (t : Fin cfg0.N) (acc : Vec Ideal S1024x1024 .f32) (i : S1024x1024.Idx) :
    k0_pay3 (F := Ideal) (iblk m c 0 t) (iblk m c 1 t) acc i = acc i + k0_pay1 (F := Ideal) (iblk m c 0 t) (iblk m c 1 t) i := by
  obtain ⟨e, k, rfl⟩ : ∃ (e : Fin 1024) (k : Fin 1024), i = ix2 e k := ⟨i 0, i 1, ValueIdx.eq_ix2 i⟩
  unfold k0_pay3
  pointwise
/-- The last tile's product is added to the accumulator in the result. -/
theorem pay4 (c : Dev nD) (t : Fin cfg0.N) (acc : Vec Ideal S1024x1024 .f32) (i : S1024x1024.Idx) :
    k0_pay4 (F := Ideal) (iblk m c 0 t) (iblk m c 1 t) acc i = acc i + k0_pay1 (F := Ideal) (iblk m c 0 t) (iblk m c 1 t) i := by
  obtain ⟨e, k, rfl⟩ : ∃ (e : Fin 1024) (k : Fin 1024), i = ix2 e k := ⟨i 0, i 1, ValueIdx.eq_ix2 i⟩
  unfold k0_pay4
  pointwise

/-- The sum so far after a point: in the accumulator, or at a run's last point in the result. -/
def sofar (c : Dev nD) (n : ℕ) (h : n < cfg0.N) : Vec Ideal S1024x1024 .f32 :=
  if n % 4 = 3 then (outsAt0 m c n h).1 else (outsAt0 m c n h).2

/-- A run's first point starts the sum. -/
theorem sofar_first (c : Dev nD) (t : Fin cfg0.N) (h : t.val % 4 = 0) (i : S1024x1024.Idx) :
    sofar m c t.val t.isLt i = 0 + k0_pay1 (F := Ideal) (iblk m c 0 t) (iblk m c 1 t) i := by
  unfold sofar
  rw [if_neg (by omega), outsAt0_A m c t h (by omega) (by omega), zero_add]
  frame_out
  exact pay2 m c t i
/-- Every further point adds its product. -/
theorem sofar_step (c : Dev nD) (t : Fin cfg0.N) (h : ¬t.val % 4 = 0) (i : S1024x1024.Idx) :
    sofar m c t.val t.isLt i = sofar m c (t.val - 1) (Nat.lt_of_le_of_lt (Nat.sub_le _ _) t.isLt) i
      + k0_pay1 (F := Ideal) (iblk m c 0 t) (iblk m c 1 t) i := by
  unfold sofar
  rw [if_neg (show ¬(t.val - 1) % 4 = 3 by omega)]
  by_cases h2 : t.val % 4 = 3
  · rw [if_pos h2, outsAt0_C m c t h (by omega) h2]
    frame_out
    rw [pay4 m c t, read_unread_whole]
  · rw [if_neg h2, outsAt0_B m c t h (by omega) h2]
    frame_out
    rw [pay3 m c t, read_unread_whole]

/-- At a run's last point the result holds the whole sum. -/
theorem total (c : Dev nD) (t : Fin cfg0.N) (ht : t.val % 4 = 3) (i : S1024x1024.Idx) :
    (outsAt0 m c t.val t.isLt).1 i = ∑ k : Fin 8192, fa m c (ix2 k (col t (i 0))) * fb m c (ix2 k (i 1)) := by
  have hs : (outsAt0 m c t.val t.isLt).1 = sofar m c t.val t.isLt := (if_pos ht).symm
  have hlt := lt16 t
  rw [hs, Pipeline.eq_sum_fin_of_reset_step_apply_of_flush (sofar m c) 4 (fun _ => (0 : EReal))
    (fun t (i : S1024x1024.Idx) => k0_pay1 (F := Ideal) (iblk m c 0 t) (iblk m c 1 t) i)
    (fun t h i => sofar_first m c t h i) (fun t h i => sofar_step m c t h i) t ht i, zero_add]
  simp only [prod]
  refine Eq.trans (Finset.sum_congr rfl fun s _ => Finset.sum_congr rfl fun r _ => ?_)
    (sum_tiles (S := 4) (n := 2048) rfl (fun s r => ⟨2048 * s.val + r.val, by omega⟩) (fun _ _ => rfl)
      fun k => fa m c (ix2 k (col t (i 0))) * fb m c (ix2 k (i 1)))
  have hr : ∀ h : 4 * (t.val / 4) + s.val < cfg0.N, row ⟨4 * (t.val / 4) + s.val, h⟩ r = ⟨2048 * s.val + r.val, by omega⟩ := fun h =>
    Fin.ext (by show 2048 * ((4 * (t.val / 4) + s.val) % 4) + r.val = 2048 * s.val + r.val; omega)
  have hc : ∀ h : 4 * (t.val / 4) + s.val < cfg0.N, col ⟨4 * (t.val / 4) + s.val, h⟩ (i 0) = col t (i 0) := fun h =>
    Fin.ext (by show 1024 * ((4 * (t.val / 4) + s.val) / 4) + (i 0).val = 1024 * (t.val / 4) + (i 0).val; omega)
  rw [hr, hc]

/-- The array after the run: the product of the transposed left factor with the right factor. -/
theorem arr2 (c : Dev nD) : (dats m 0 c).arrAt 2 cfg0.N = tmul (fa m c) (fb m c) := by
  refine (dats m 0 c).arrAt_eq_of_covers 2 _ (by decide +kernel) fun t hf y => ?_
  have ht := (flush0_2 t).mp hf
  have hlt := lt16 t
  have h9 : ((cfg0.win 2).blk t).view.emb y = ix2 (col t (y 0)) (y 1) := by
    unfold col
    blk_ext [idx t]
  rw [h9]
  blk_simp
  rw [after0_2]
  exact total m c t ht y

end Cert.Kernel4Ideal.Final

namespace Cert.Reference4Ideal.At

open Cert.Reference4Ideal Cert.Reference4Ideal.Read Cert.Prod

/-- The reference's gradient is the same product. -/
theorem value (x0 : S8192x4096.Idx → EReal) (x1 : S8192x1024.Idx → EReal) : val_main_v4 (F := Ideal) x0 x1 = tmul x0 x1 := by
  funext i
  obtain ⟨e, k, rfl⟩ : ∃ (e : Fin 4096) (k : Fin 1024), i = ix2 e k := ⟨i 0, i 1, ValueIdx.eq_ix2 i⟩
  unfold val_main_v4 val_main_v3 val_main_v1
  pointwise
  exact Finset.sum_congr rfl fun r _ => mul_comm _ _

end Cert.Reference4Ideal.At

namespace Cert.DwDown

open Cert.Kernel4Ideal.Final

/-- The reference terminates and leaves its arguments unchanged; it has no counters. -/
theorem frame_reference : Cert.quiescent_Reference4Ideal := fun m ρ _ =>
  (θ_run Cert.Reference4Ideal.defs _ _).mono (fun r h => ⟨fun c => (h c).2,
    Idealize.ShloMosaic.sem_eq_zero_of_no_sems (by decide) r.2⟩) (Cert.Reference4Ideal.Value.run m ρ)

/-- Kernel and reference end with equal results. -/
theorem algebraic : Cert.algebraic_Kernel4Ideal_Reference4Ideal := by
  intro m ρ m' ρ' hpre hag
  refine ⟨fun c => Cert.Prod.tmul (m (c.tc.loc Cert.Kernel4Ideal.main_arg0)) (m (c.tc.loc Cert.Kernel4Ideal.main_arg1)),
    (θ_run Cert.Kernel4Ideal.defs _ _).mono (fun r h c => ?_) (Cert.Kernel4Ideal.Value.run_blocks m ρ),
    (θ_run Cert.Reference4Ideal.defs _ _).mono (fun r h c => ?_) (Cert.Reference4Ideal.Value.run m' ρ')⟩
  · obtain ⟨h0, k0, k1⟩ := h c
    exact ⟨h0.trans (arr2 m c), k0, k1⟩
  · obtain ⟨h0, k0, k1⟩ := h c
    obtain ⟨e0, e1⟩ := hag c
    refine ⟨h0.trans ((Cert.Reference4Ideal.Read.val_main_v4_eq _ _).trans ?_), k0, k1⟩
    rw [e0, e1]
    exact Cert.Reference4Ideal.At.value _ _

end Cert.DwDown

end
-- ==== Proof.DwUp.Final.lean ====
/-
  The up projection's weight gradient: kernel and reference end with equal results.
-/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Prod.Math
public import Idealize.ShloMosaic.Lib.Pipeline.ReadBack

@[expose] public section

set_option maxRecDepth 16384

noncomputable section

open Idealize.ShloMosaic Idealize.ShloMosaic.TcCoe Idealize.SL.Sem
open scoped BigOperators

namespace Cert.Kernel5Ideal.Final

open Cert.Kernel5Ideal Cert.Kernel5Ideal.Gen Cert.Prod

variable (m : (ℓ : Loc nD τ sig) → Buf (Elt Ideal) ℓ)

/-- Where each window's block of point `t` begins. -/
theorem idx : ∀ t : Fin cfg0.N,
    win0_0.index t = ![t.val % 4, t.val / 4] ∧ win0_1.index t = ![t.val % 4, 0] ∧ win0_2.index t = ![t.val / 4, 0] :=
  (by decide +kernel : ∀ t : Fin grid0.N, _)

/-- The grid has 16 points. -/
theorem lt16 (t : Fin cfg0.N) : t.val < 16 := lt_of_lt_of_eq t.isLt (show cfg0.N = 16 from N_0)

/-- Row `r` of the contraction's tile at point `t`. -/
def row (t : Fin cfg0.N) (r : Fin 2048) : Fin 8192 := ⟨2048 * (t.val % 4) + r.val, by omega⟩

/-- Column `e` of the result's tile at point `t`. -/
def col (t : Fin cfg0.N) (e : Fin 1024) : Fin 4096 := ⟨1024 * (t.val / 4) + e.val, by have := lt16 t; omega⟩

/-- The left factor. -/
abbrev fa (c : Dev nD) : S8192x4096.Idx → EReal := m ((c : Thread nD τ).loc main_arg0)
/-- The right factor. -/
abbrev fb (c : Dev nD) : S8192x1024.Idx → EReal := m ((c : Thread nD τ).loc main_arg1)

/-- The left factor's tile. -/
theorem blk0 (c : Dev nD) (t : Fin cfg0.N) (r : Fin 2048) (e : Fin 1024) :
    (iblk m c 0 t : Vec Ideal S2048x1024 .bf16) (ix2 r e) = fa m c (ix2 (row t r) (col t e)) := by
  have := lt16 t
  unfold row col
  blk_ext [iblk, V, idx t]
/-- The right factor's tile. -/
theorem blk1 (c : Dev nD) (t : Fin cfg0.N) (r : Fin 2048) (e : Fin 1024) :
    (iblk m c 1 t : Vec Ideal S2048x1024 .bf16) (ix2 r e) = fb m c (ix2 (row t r) e) := by
  have := lt16 t
  unfold row
  blk_ext [iblk, V, idx t]

/-- The tiles' product. -/
theorem prod (c : Dev nD) (t : Fin cfg0.N) (i : S1024x1024.Idx) :
    k0_pay1 (F := Ideal) (iblk m c 0 t) (iblk m c 1 t) i
      = ∑ r : Fin 2048, fa m c (ix2 (row t r) (col t (i 0))) * fb m c (ix2 (row t r) (i 1)) := by
  obtain ⟨e, k, rfl⟩ : ∃ (e : Fin 1024) (k : Fin 1024), i = ix2 e k := ⟨i 0, i 1, ValueIdx.eq_ix2 i⟩
  unfold k0_pay1
  pointwise
  refine Finset.sum_congr rfl fun r _ => ?_
  have h0 := blk0 m c t r e
  have h1 := blk1 m c t r k
  rw [h0, h1]
/-- The first tile's product starts the accumulator. -/
theorem pay2 (c : Dev nD) (t : Fin cfg0.N) (i : S1024x1024.Idx) :
    k0_pay2 (F := Ideal) (iblk m c 0 t) (iblk m c 1 t) i = k0_pay1 (F := Ideal) (iblk m c 0 t) (iblk m c 1 t) i := by
  obtain ⟨e, k, rfl⟩ : ∃ (e : Fin 1024) (k : Fin 1024), i = ix2 e k := ⟨i 0, i 1, ValueIdx.eq_ix2 i⟩
  unfold k0_pay2
  pointwise
/-- A further tile's product is added to the accumulator. -/
theorem pay3 (c : Dev nD) (t : Fin cfg0.N) (acc : Vec Ideal S1024x1024 .f32) (i : S1024x1024.Idx) :
    k0_pay3 (F := Ideal) (iblk m c 0 t) (iblk m c 1 t) acc i = acc i + k0_pay1 (F := Ideal) (iblk m c 0 t) (iblk m c 1 t) i := by
  obtain ⟨e, k, rfl⟩ : ∃ (e : Fin 1024) (k : Fin 1024), i = ix2 e k := ⟨i 0, i 1, ValueIdx.eq_ix2 i⟩
  unfold k0_pay3
  pointwise
/-- The last tile's product is added to the accumulator in the result. -/
theorem pay4 (c : Dev nD) (t : Fin cfg0.N) (acc : Vec Ideal S1024x1024 .f32) (i : S1024x1024.Idx) :
    k0_pay4 (F := Ideal) (iblk m c 0 t) (iblk m c 1 t) acc i = acc i + k0_pay1 (F := Ideal) (iblk m c 0 t) (iblk m c 1 t) i := by
  obtain ⟨e, k, rfl⟩ : ∃ (e : Fin 1024) (k : Fin 1024), i = ix2 e k := ⟨i 0, i 1, ValueIdx.eq_ix2 i⟩
  unfold k0_pay4
  pointwise

/-- The sum so far after a point: in the accumulator, or at a run's last point in the result. -/
def sofar (c : Dev nD) (n : ℕ) (h : n < cfg0.N) : Vec Ideal S1024x1024 .f32 :=
  if n % 4 = 3 then (outsAt0 m c n h).1 else (outsAt0 m c n h).2

/-- A run's first point starts the sum. -/
theorem sofar_first (c : Dev nD) (t : Fin cfg0.N) (h : t.val % 4 = 0) (i : S1024x1024.Idx) :
    sofar m c t.val t.isLt i = 0 + k0_pay1 (F := Ideal) (iblk m c 0 t) (iblk m c 1 t) i := by
  unfold sofar
  rw [if_neg (by omega), outsAt0_A m c t h (by omega) (by omega), zero_add]
  frame_out
  exact pay2 m c t i
/-- Every further point adds its product. -/
theorem sofar_step (c : Dev nD) (t : Fin cfg0.N) (h : ¬t.val % 4 = 0) (i : S1024x1024.Idx) :
    sofar m c t.val t.isLt i = sofar m c (t.val - 1) (Nat.lt_of_le_of_lt (Nat.sub_le _ _) t.isLt) i
      + k0_pay1 (F := Ideal) (iblk m c 0 t) (iblk m c 1 t) i := by
  unfold sofar
  rw [if_neg (show ¬(t.val - 1) % 4 = 3 by omega)]
  by_cases h2 : t.val % 4 = 3
  · rw [if_pos h2, outsAt0_C m c t h (by omega) h2]
    frame_out
    rw [pay4 m c t, read_unread_whole]
  · rw [if_neg h2, outsAt0_B m c t h (by omega) h2]
    frame_out
    rw [pay3 m c t, read_unread_whole]

/-- At a run's last point the result holds the whole sum. -/
theorem total (c : Dev nD) (t : Fin cfg0.N) (ht : t.val % 4 = 3) (i : S1024x1024.Idx) :
    (outsAt0 m c t.val t.isLt).1 i = ∑ k : Fin 8192, fa m c (ix2 k (col t (i 0))) * fb m c (ix2 k (i 1)) := by
  have hs : (outsAt0 m c t.val t.isLt).1 = sofar m c t.val t.isLt := (if_pos ht).symm
  have hlt := lt16 t
  rw [hs, Pipeline.eq_sum_fin_of_reset_step_apply_of_flush (sofar m c) 4 (fun _ => (0 : EReal))
    (fun t (i : S1024x1024.Idx) => k0_pay1 (F := Ideal) (iblk m c 0 t) (iblk m c 1 t) i)
    (fun t h i => sofar_first m c t h i) (fun t h i => sofar_step m c t h i) t ht i, zero_add]
  simp only [prod]
  refine Eq.trans (Finset.sum_congr rfl fun s _ => Finset.sum_congr rfl fun r _ => ?_)
    (sum_tiles (S := 4) (n := 2048) rfl (fun s r => ⟨2048 * s.val + r.val, by omega⟩) (fun _ _ => rfl)
      fun k => fa m c (ix2 k (col t (i 0))) * fb m c (ix2 k (i 1)))
  have hr : ∀ h : 4 * (t.val / 4) + s.val < cfg0.N, row ⟨4 * (t.val / 4) + s.val, h⟩ r = ⟨2048 * s.val + r.val, by omega⟩ := fun h =>
    Fin.ext (by show 2048 * ((4 * (t.val / 4) + s.val) % 4) + r.val = 2048 * s.val + r.val; omega)
  have hc : ∀ h : 4 * (t.val / 4) + s.val < cfg0.N, col ⟨4 * (t.val / 4) + s.val, h⟩ (i 0) = col t (i 0) := fun h =>
    Fin.ext (by show 1024 * ((4 * (t.val / 4) + s.val) / 4) + (i 0).val = 1024 * (t.val / 4) + (i 0).val; omega)
  rw [hr, hc]

/-- The array after the run: the product of the transposed left factor with the right factor. -/
theorem arr2 (c : Dev nD) : (dats m 0 c).arrAt 2 cfg0.N = tmul (fa m c) (fb m c) := by
  refine (dats m 0 c).arrAt_eq_of_covers 2 _ (by decide +kernel) fun t hf y => ?_
  have ht := (flush0_2 t).mp hf
  have hlt := lt16 t
  have h9 : ((cfg0.win 2).blk t).view.emb y = ix2 (col t (y 0)) (y 1) := by
    unfold col
    blk_ext [idx t]
  rw [h9]
  blk_simp
  rw [after0_2]
  exact total m c t ht y

end Cert.Kernel5Ideal.Final

namespace Cert.Reference5Ideal.At

open Cert.Reference5Ideal Cert.Reference5Ideal.Read Cert.Prod

/-- The reference's gradient is the same product. -/
theorem value (x0 : S8192x4096.Idx → EReal) (x1 : S8192x1024.Idx → EReal) : val_main_v6 (F := Ideal) x0 x1 = tmul x0 x1 := by
  funext i
  obtain ⟨e, k, rfl⟩ : ∃ (e : Fin 4096) (k : Fin 1024), i = ix2 e k := ⟨i 0, i 1, ValueIdx.eq_ix2 i⟩
  unfold val_main_v6 val_main_v5 val_main_v4 val_main_v3 val_main_v1
  pointwise
  exact Finset.sum_congr rfl fun r _ => rfl

end Cert.Reference5Ideal.At

namespace Cert.DwUp

open Cert.Kernel5Ideal.Final

/-- The reference terminates and leaves its arguments unchanged; it has no counters. -/
theorem frame_reference : Cert.quiescent_Reference5Ideal := fun m ρ _ =>
  (θ_run Cert.Reference5Ideal.defs _ _).mono (fun r h => ⟨fun c => (h c).2,
    Idealize.ShloMosaic.sem_eq_zero_of_no_sems (by decide) r.2⟩) (Cert.Reference5Ideal.Value.run m ρ)

/-- Kernel and reference end with equal results. -/
theorem algebraic : Cert.algebraic_Kernel5Ideal_Reference5Ideal := by
  intro m ρ m' ρ' hpre hag
  refine ⟨fun c => Cert.Prod.tmul (m (c.tc.loc Cert.Kernel5Ideal.main_arg0)) (m (c.tc.loc Cert.Kernel5Ideal.main_arg1)),
    (θ_run Cert.Kernel5Ideal.defs _ _).mono (fun r h c => ?_) (Cert.Kernel5Ideal.Value.run_blocks m ρ),
    (θ_run Cert.Reference5Ideal.defs _ _).mono (fun r h c => ?_) (Cert.Reference5Ideal.Value.run m' ρ')⟩
  · obtain ⟨h0, k0, k1⟩ := h c
    exact ⟨h0.trans (arr2 m c), k0, k1⟩
  · obtain ⟨h0, k0, k1⟩ := h c
    obtain ⟨e0, e1⟩ := hag c
    refine ⟨h0.trans ((Cert.Reference5Ideal.Read.val_main_v6_eq _ _).trans ?_), k0, k1⟩
    rw [e0, e1]
    exact Cert.Reference5Ideal.At.value _ _

end Cert.DwUp

end
-- ==== Proof.Prod.Norm.lean ====
/-
  The gradient of a root-mean-square norm over rows of 1024 entries.
-/
module

public import proofs.«01_k».proof.Proof.Prod.Math

@[expose] public section

set_option maxRecDepth 16384

noncomputable section

open Idealize.ShloMosaic
open scoped BigOperators

namespace Cert.Norm

/-- The row's length as the constant of the program. -/
abbrev len : EReal := Ideal.ofBits .f32 0x44800000#32
/-- The constant added to the mean square. -/
abbrev eps : EReal := Ideal.ofBits .f32 0x358637BD#32
/-- Minus one half. -/
abbrev mhalf : EReal := Ideal.ofBits .f32 0xBF000000#32

/-- The row's length is 1024. -/
theorem len_eq : len = ((1024 : ℝ) : EReal) := by
  simp [len, Ideal.ofBits, Ideal.ieee]; norm_num [← EReal.coe_mul]
/-- Minus one half. -/
theorem mhalf_eq : mhalf = ((-(1 / 2) : ℝ) : EReal) := by
  simp [mhalf, Ideal.ofBits, Ideal.ieee]; norm_num [← EReal.coe_mul]
/-- The added constant is a positive real. -/
theorem eps_pos : ∃ e : ℝ, 0 < e ∧ eps = (e : EReal) := by
  refine ⟨8796093 / 8796093022208, by norm_num, ?_⟩
  simp [eps, Ideal.ofBits, Ideal.ieee]; norm_num [← EReal.coe_mul]

/-- A positive real factor distributes over a sum of two. -/
theorem mul_add_pos {r : ℝ} (hr : 0 < r) (a b : EReal) : (r : EReal) * (a + b) = r * a + r * b :=
  EReal.left_distrib_of_nonneg_of_ne_top (by exact_mod_cast hr.le) (EReal.coe_ne_top r) a b

/-- A positive real factor distributes over a finite sum. -/
theorem mul_sum_pos {r : ℝ} (hr : 0 < r) {n : ℕ} (f : Fin n → EReal) : (r : EReal) * ∑ k, f k = ∑ k, (r : EReal) * f k := by
  induction n with
  | zero => simp
  | succ n ih => rw [Fin.sum_univ_succ, Fin.sum_univ_succ, mul_add_pos hr, ih]

/-- A square is not negative. -/
theorem sq_nonneg (a : EReal) : 0 ≤ a * a := by
  induction a using EReal.rec with
  | bot => simp
  | top => simp
  | coe r => exact_mod_cast mul_self_nonneg r

/-- The mean square plus the constant. -/
def ms (x : Fin 1024 → EReal) : EReal := Ideal.div (∑ k, x k * x k) len + eps
/-- The reciprocal root of the mean square. -/
def rrms (x : Fin 1024 → EReal) : EReal := Ideal.rsqrt (ms x)
/-- The gradient of the normalised row `x · rrms x` at the cotangent `du`. -/
def grad (x du : Fin 1024 → EReal) (j : Fin 1024) : EReal :=
  rrms x * (du j - x j * rrms x * Ideal.div (∑ k, du k * (x k * rrms x)) len)

/-- The mean square plus the constant is positive: infinite, or a positive real. -/
theorem ms_cases (x : Fin 1024 → EReal) : ms x = ⊤ ∨ ∃ v : ℝ, 0 < v ∧ ms x = (v : EReal) := by
  obtain ⟨e, he, hE⟩ := eps_pos
  have h0 : 0 ≤ ∑ k, x k * x k := Finset.sum_nonneg fun k _ => sq_nonneg (x k)
  unfold ms
  rw [len_eq, Ideal.div_coe (by norm_num), hE]
  generalize (∑ k, x k * x k) = S at h0 ⊢
  induction S using EReal.rec with
  | bot => exact absurd h0 (by simp)
  | top =>
    left
    rw [EReal.top_mul_coe_of_pos (by norm_num)]
    exact EReal.top_add_coe e
  | coe s =>
    right
    have hs : 0 ≤ s := by exact_mod_cast h0
    exact ⟨s * (1 / 1024) + e, by positivity, by push_cast; rfl⟩

/-- Twice the negative of a value. -/
theorem neg_add_self (a : EReal) : -a + -a = -(a + a) := by
  induction a using EReal.rec with
  | bot => rfl
  | top => rfl
  | coe r => norm_cast; ring

/-- The gradient that differentiates the mean square and the root one after the other. -/
theorem grad_eq (x du : Fin 1024 → EReal) (j : Fin 1024) (s : EReal)
    (hs : s = Ideal.div ((∑ k, x k * du k) * (mhalf * Ideal.div (rrms x) (ms x))) len) :
    du j * rrms x + x j * s + s * x j = grad x du j := by
  unfold grad
  rw [len_eq, Ideal.div_coe (by norm_num)] at *
  rcases ms_cases x with h | ⟨v, hv, h⟩
  · have hr : rrms x = 0 := by unfold rrms; rw [h]; rfl
    rw [hr, h] at hs
    have hd : Ideal.div (0 : EReal) ⊤ = 0 := by unfold Ideal.div; simp
    rw [hd] at hs
    rw [hs, hr]
    simp
  · obtain ⟨r, hr0, hr, hv3⟩ : ∃ r : ℝ, 0 < r ∧ rrms x = (r : EReal) ∧ r * (1 / v) = r * r * r := by
      refine ⟨(Real.sqrt v)⁻¹, by positivity, ?_, ?_⟩
      · unfold rrms
        rw [h, Ideal.rsqrt_coe, if_neg (not_lt.mpr hv.le), if_neg hv.ne']
      · have hq : (Real.sqrt v)⁻¹ * (Real.sqrt v)⁻¹ = 1 / v := by
          rw [← mul_inv, Real.mul_self_sqrt hv.le, one_div]
        rw [mul_assoc, hq]
    have hsum : ∑ k, du k * (x k * (r : EReal)) = (r : EReal) * ∑ k, x k * du k := by
      rw [mul_sum_pos hr0]
      exact Finset.sum_congr rfl fun k _ => by rw [← mul_assoc, mul_comm, mul_comm (du k)]
    rw [hr, h, mhalf_eq, Ideal.div_coe hv.ne'] at hs
    rw [hr, hsum, sub_eq_add_neg, mul_add_pos hr0]
    generalize (∑ k, x k * du k) = S at hs ⊢
    have hd : (0 : ℝ) ≤ r * r * r * (1 / 1024) * (1 / 2) := by positivity
    have hx : x j * s = -(((r * r * r * (1 / 1024) * (1 / 2) : ℝ) : EReal) * (x j * S)) := by
      have hc : (((-(1 / 2) : ℝ) : EReal) * ((r : EReal) * ((1 / v : ℝ) : EReal))) * ((1 / 1024 : ℝ) : EReal)
          = -((r * r * r * (1 / 1024) * (1 / 2) : ℝ) : EReal) := by
        rw [← EReal.coe_mul, hv3, ← EReal.coe_mul, ← EReal.coe_mul, ← EReal.coe_neg]
        congr 1
        ring
      rw [hs, mul_assoc S, hc, mul_neg, mul_neg, ← mul_assoc, mul_comm (x j * S)]
    rw [mul_comm s, hx, add_assoc, neg_add_self, ← EReal.right_distrib_of_nonneg (by exact_mod_cast hd) (by exact_mod_cast hd), mul_comm (du j)]
    congr 1
    rw [mul_neg]
    congr 1
    have h2 : ((r * r * r * (1 / 1024) * (1 / 2) : ℝ) : EReal) + ((r * r * r * (1 / 1024) * (1 / 2) : ℝ) : EReal)
        = (r : EReal) * ((r : EReal) * ((r : EReal) * ((1 / 1024 : ℝ) : EReal))) := by
      rw [← EReal.coe_mul, ← EReal.coe_mul, ← EReal.coe_mul, ← EReal.coe_add]
      congr 1
      ring
    rw [h2]
    ac_rfl

/-- The gradient of the normalised rows, added to `res`: the cotangent is `dz` times the gain. -/
def rows {n : ℕ} (x dz res : Shape.Idx ⟨2, ![n, 1024]⟩ → EReal) (g : Shape.Idx ⟨2, ![1, 1024]⟩ → EReal) : Shape.Idx ⟨2, ![n, 1024]⟩ → EReal :=
  fun i => grad (fun k => x (ix2 (i 0) k)) (fun k => dz (ix2 (i 0) k) * g (ix2 0 k)) (i 1) + res i

/-- The gain's gradient: the column sums of the cotangent times the normalised rows. -/
def gain {n : ℕ} (x dz : Shape.Idx ⟨2, ![n, 1024]⟩ → EReal) : Shape.Idx ⟨2, ![1, 1024]⟩ → EReal :=
  fun i => ∑ r : Fin n, dz (ix2 r (i 1)) * (x (ix2 r (i 1)) * rrms fun k => x (ix2 r k))

end Cert.Norm

end
-- ==== Proof.DN2.Final.lean ====
/-
  The gradient through the second norm: kernel and reference end with equal results.
-/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Prod.Math
public import proofs.«01_k».proof.Proof.Prod.Norm

@[expose] public section

set_option maxRecDepth 16384

noncomputable section

open Idealize.ShloMosaic Idealize.ShloMosaic.TcCoe Idealize.SL.Sem
open scoped BigOperators

namespace Cert.Kernel6Ideal.Final

open Cert.Kernel6Ideal Cert.Kernel6Ideal.Gen Cert.Prod

variable (m : (ℓ : Loc nD τ sig) → Buf (Elt Ideal) ℓ)

/-- Where each window's block of point `t` begins. -/
theorem idx : ∀ t : Fin cfg0.N,
    win0_0.index t = ![t.val, 0] ∧ win0_1.index t = ![0, 0] ∧ win0_2.index t = ![t.val, 0] ∧ win0_3.index t = ![t.val, 0]
      ∧ win0_4.index t = ![0, 0] ∧ win0_5.index t = ![t.val, 0] ∧ win0_6.index t = ![0, 0] :=
  (by decide +kernel : ∀ t : Fin grid0.N, _)

/-- The grid has 16 points. -/
theorem lt16 (t : Fin cfg0.N) : t.val < 16 := lt_of_lt_of_eq t.isLt (show cfg0.N = 16 from N_0)

/-- Row `r` of the tile at point `t`. -/
def row (t : Fin cfg0.N) (r : Fin 512) : Fin 8192 := ⟨512 * t.val + r.val, by have := lt16 t; omega⟩

/-- The cotangent of the product. -/
abbrev fa (c : Dev nD) : S8192x4096.Idx → EReal := m ((c : Thread nD τ).loc main_arg0)
/-- The weights. -/
abbrev fb (c : Dev nD) : S1024x4096.Idx → EReal := m ((c : Thread nD τ).loc main_arg1)
/-- The norm's rows. -/
abbrev fx (c : Dev nD) : S8192x1024.Idx → EReal := m ((c : Thread nD τ).loc main_arg2)
/-- The gradient that bypasses the norm. -/
abbrev fr (c : Dev nD) : S8192x1024.Idx → EReal := m ((c : Thread nD τ).loc main_arg3)
/-- The gain. -/
abbrev fg (c : Dev nD) : S1x1024.Idx → EReal := m ((c : Thread nD τ).loc main_arg4)
/-- The normalised rows' cotangent. -/
abbrev fz (c : Dev nD) : S8192x1024.Idx → EReal := mult (fa m c) (fb m c)

/-- The cotangent's tile. -/
theorem blk0 (c : Dev nD) (t : Fin cfg0.N) (r : Fin 512) (e : Fin 4096) :
    (iblk m c 0 t : Vec Ideal S512x4096 .bf16) (ix2 r e) = fa m c (ix2 (row t r) e) := by
  have := lt16 t
  unfold row
  blk_ext [iblk, V, idx t]
/-- The transposed weights are staged whole. -/
theorem blk1 (c : Dev nD) (t : Fin cfg0.N) (r : Fin 4096) (e : Fin 1024) :
    (iblk m c 1 t : Vec Ideal S4096x1024 .bf16) (ix2 r e) = fb m c (ix2 e r) := by
  blk_point [iblk, V, idx t]
/-- The rows' tile. -/
theorem blk2 (c : Dev nD) (t : Fin cfg0.N) (r : Fin 512) (e : Fin 1024) :
    (iblk m c 2 t : Vec Ideal S512x1024 .f32) (ix2 r e) = fx m c (ix2 (row t r) e) := by
  have := lt16 t
  unfold row
  blk_ext [iblk, V, idx t]
/-- The bypassing gradient's tile. -/
theorem blk3 (c : Dev nD) (t : Fin cfg0.N) (r : Fin 512) (e : Fin 1024) :
    (iblk m c 3 t : Vec Ideal S512x1024 .f32) (ix2 r e) = fr m c (ix2 (row t r) e) := by
  have := lt16 t
  unfold row
  blk_ext [iblk, V, idx t]
/-- The gain is staged whole. -/
theorem blk4 (c : Dev nD) (t : Fin cfg0.N) (r : Fin 1) (e : Fin 1024) :
    (iblk m c 4 t : Vec Ideal S1x1024 .f32) (ix2 r e) = fg m c (ix2 r e) := by
  blk_ext [iblk, V, idx t]

/-- The tile's product. -/
theorem pay2 (c : Dev nD) (t : Fin cfg0.N) (r : Fin 512) (e : Fin 1024) :
    k0_pay2 (F := Ideal) (iblk m c 0 t) (iblk m c 1 t) (ix2 r e) = fz m c (ix2 (row t r) e) := by
  unfold k0_pay2
  pointwise
  refine Finset.sum_congr rfl fun k _ => ?_
  exact congrArg₂ (fun a b : EReal => a * b) (blk0 m c t r k) (blk1 m c t k e)

/-- The rows' reciprocal roots. -/
theorem pay3 (x : Vec Ideal S512x1024 .f32) (r : Fin 512) (z : Fin 1) :
    k0_pay3 (F := Ideal) x (ix2 r z) = Norm.rrms fun k => (x (ix2 r k) : EReal) := by
  unfold k0_pay3
  pointwise
  rfl
/-- The normalised rows. -/
theorem pay4 (x : Vec Ideal S512x1024 .f32) (r : Fin 512) (e : Fin 1024) :
    k0_pay4 (F := Ideal) x (ix2 r e) = ((x (ix2 r e) : EReal) * Norm.rrms fun k => (x (ix2 r k) : EReal) : EReal) := by
  unfold k0_pay4
  pointwise
  rw [pay3]

/-- A tile's rows. -/
theorem pay5g (x0 : Vec Ideal S512x4096 .bf16) (x1 : Vec Ideal S4096x1024 .bf16) (x : Vec Ideal S512x1024 .f32) (y : Vec Ideal S512x1024 .f32) (g : Vec Ideal S1x1024 .f32)
    (r : Fin 512) (e : Fin 1024) :
    k0_pay5 (F := Ideal) x0 x1 x y g (ix2 r e)
      = (Norm.grad (fun k => x (ix2 r k)) (fun k => ((k0_pay2 (F := Ideal) x0 x1 (ix2 r k) : EReal) * (g (ix2 0 k) : EReal) : EReal)) e + (y (ix2 r e) : EReal) : EReal) := by
  unfold k0_pay5
  pointwise
  simp only [pay3, pay4]
  rfl
/-- A tile's column sums. -/
theorem pay6g (x0 : Vec Ideal S512x4096 .bf16) (x1 : Vec Ideal S4096x1024 .bf16) (x : Vec Ideal S512x1024 .f32) (z : Fin 1) (e : Fin 1024) :
    k0_pay6 (F := Ideal) x0 x1 x (ix2 z e)
      = ∑ r : Fin 512, ((k0_pay2 (F := Ideal) x0 x1 (ix2 r e) : EReal) * ((x (ix2 r e) : EReal) * Norm.rrms fun k => (x (ix2 r k) : EReal)) : EReal) := by
  unfold k0_pay6
  pointwise
  simp only [pay4]

/-- The tile's rows. -/
theorem pay5 (c : Dev nD) (t : Fin cfg0.N) (i : S512x1024.Idx) :
    k0_pay5 (F := Ideal) (iblk m c 0 t) (iblk m c 1 t) (iblk m c 2 t) (iblk m c 3 t) (iblk m c 4 t) i
      = Norm.rows (fx m c) (fz m c) (fr m c) (fg m c) (ix2 (row t (i 0)) (i 1)) := by
  obtain ⟨r, e, rfl⟩ : ∃ (r : Fin 512) (e : Fin 1024), i = ix2 r e := ⟨i 0, i 1, ValueIdx.eq_ix2 i⟩
  refine (pay5g _ _ _ _ _ r e).trans ?_
  simp only [pay2, blk2, blk3, blk4]
  rfl
/-- The tile's column sums. -/
theorem pay6 (c : Dev nD) (t : Fin cfg0.N) (i : S1x1024.Idx) :
    k0_pay6 (F := Ideal) (iblk m c 0 t) (iblk m c 1 t) (iblk m c 2 t) i
      = ∑ r : Fin 512, fz m c (ix2 (row t r) (i 1)) * (fx m c (ix2 (row t r) (i 1)) * Norm.rrms fun k => fx m c (ix2 (row t r) k)) := by
  obtain ⟨z, e, rfl⟩ : ∃ (z : Fin 1) (e : Fin 1024), i = ix2 z e := ⟨i 0, i 1, ValueIdx.eq_ix2 i⟩
  refine (pay6g _ _ _ z e).trans ?_
  simp only [pay2, blk2]
  rfl
/-- A further tile's column sums are added. -/
theorem pay1 (v : FVec Ideal S1x1024 .f32) (acc : Vec Ideal S1x1024 .f32) (i : S1x1024.Idx) :
    k0_pay1 (F := Ideal) v acc i = acc i + v i := by
  obtain ⟨z, e, rfl⟩ : ∃ (z : Fin 1) (e : Fin 1024), i = ix2 z e := ⟨i 0, i 1, ValueIdx.eq_ix2 i⟩
  unfold k0_pay1
  pointwise

/-- The rows after a point. -/
theorem rows_at (c : Dev nD) (t : Fin cfg0.N) (i : S512x1024.Idx) :
    (outsAt0 m c t.val t.isLt).1 i = Norm.rows (fx m c) (fz m c) (fr m c) (fg m c) (ix2 (row t (i 0)) (i 1)) := by
  have hlt := lt16 t
  by_cases h : t.val = 0
  · rw [outsAt0_A m c t (by omega) (by omega)]
    frame_out
    exact pay5 m c t i
  · rw [outsAt0_B m c t (by omega) (by omega)]
    frame_out
    exact pay5 m c t i

/-- The first point starts the column sums. -/
theorem gain_first (c : Dev nD) (t : Fin cfg0.N) (h : t.val = 0) (i : S1x1024.Idx) :
    (outsAt0 m c t.val t.isLt).2 i = 0 + k0_pay6 (F := Ideal) (iblk m c 0 t) (iblk m c 1 t) (iblk m c 2 t) i := by
  rw [outsAt0_A m c t (by omega) (by omega), zero_add]
  frame_out
/-- Every further point adds its column sums. -/
theorem gain_step (c : Dev nD) (t : Fin cfg0.N) (h : ¬t.val = 0) (i : S1x1024.Idx) :
    (outsAt0 m c t.val t.isLt).2 i = (outsAt0 m c (t.val - 1) (Nat.lt_of_le_of_lt (Nat.sub_le _ _) t.isLt)).2 i
      + k0_pay6 (F := Ideal) (iblk m c 0 t) (iblk m c 1 t) (iblk m c 2 t) i := by
  have hlt := lt16 t
  rw [outsAt0_B m c t (by omega) (by omega)]
  frame_out
  rw [pay1]

/-- At the last point the result holds the whole column sums. -/
theorem gain_total (c : Dev nD) (t : Fin cfg0.N) (ht : t.val = 15) (i : S1x1024.Idx) :
    (outsAt0 m c t.val t.isLt).2 i = Norm.gain (fx m c) (fz m c) i := by
  have hlt := lt16 t
  rw [Pipeline.eq_sum_fin_of_reset_step_apply_last (fun n h => (outsAt0 m c n h).2) 16 (fun _ => (0 : EReal))
    (fun t (i : S1x1024.Idx) => k0_pay6 (F := Ideal) (iblk m c 0 t) (iblk m c 1 t) (iblk m c 2 t) i)
    (fun t h i => gain_first m c t (by have := lt16 t; omega) i) (fun t h i => gain_step m c t (by omega) i) (by rw [show cfg0.N = 16 from N_0]) t (by rw [ht, show cfg0.N = 16 from N_0]) i, zero_add]
  simp only [pay6]
  exact sum_tiles (S := 16) (n := 512) rfl (fun s r => row ⟨s.val, lt_of_lt_of_eq s.isLt N_0.symm⟩ r) (fun _ _ => rfl)
    fun r => fz m c (ix2 r (i 1)) * (fx m c (ix2 r (i 1)) * Norm.rrms fun k => fx m c (ix2 r k))

/-- The rows after the run. -/
theorem arr5 (c : Dev nD) : (dats m 0 c).arrAt 5 cfg0.N = Norm.rows (fx m c) (fz m c) (fr m c) (fg m c) := by
  refine (dats m 0 c).arrAt_eq_of_covers 5 _ (by decide +kernel) fun t hf y => ?_
  have hlt := lt16 t
  have h9 : ((cfg0.win 5).blk t).view.emb y = ix2 (row t (y 0)) (y 1) := by
    unfold row
    blk_ext [idx t]
  rw [h9]
  blk_simp
  rw [after0_5]
  exact rows_at m c t y
/-- The column sums after the run. -/
theorem arr6 (c : Dev nD) : (dats m 0 c).arrAt 6 cfg0.N = Norm.gain (fx m c) (fz m c) := by
  refine (dats m 0 c).arrAt_eq_of_covers 6 _ (by decide +kernel) fun t hf y => ?_
  have ht := (flush0_6 t).mp hf
  have hlt := lt16 t
  have h9 : ((cfg0.win 6).blk t).view.emb y = y := by
    blk_ext [idx t]
  rw [h9]
  blk_simp
  rw [after0_6]
  exact gain_total m c t (by omega) y

end Cert.Kernel6Ideal.Final

namespace Cert.Reference6Ideal.At

open Cert.Reference6Ideal Cert.Reference6Ideal.Read Cert.Prod

/-- The normalised rows' cotangent. -/
theorem dz (x0 : S8192x4096.Idx → EReal) (x1 : S1024x4096.Idx → EReal) (r : Fin 8192) (e : Fin 1024) :
    val_main_v20 (F := Ideal) x0 x1 (ix2 r e) = mult x0 x1 (ix2 r e) := by
  unfold val_main_v20 val_main_v17 val_main_v0
  pointwise
  rfl
/-- The mean squares. -/
theorem ms (x2 : S8192x1024.Idx → EReal) (r : Fin 8192) (z : Fin 1) :
    val_main_v7 (F := Ideal) x2 (ix2 r z) = Norm.ms fun k => x2 (ix2 r k) := by
  unfold val_main_v7 val_main_v5 val_main_v3 val_main_v2 val_main_v1 val_main_cst val_main_v4 val_main_cst_0 val_main_v6 val_main_cst_1
  pointwise
  rfl
/-- Their reciprocal roots. -/
theorem rrms (x2 : S8192x1024.Idx → EReal) (r : Fin 8192) (z : Fin 1) :
    val_main_v8 (F := Ideal) x2 (ix2 r z) = Norm.rrms fun k => x2 (ix2 r k) := by
  unfold val_main_v8
  pointwise
  rw [ms]
  rfl
/-- The cotangent times the gain. -/
theorem du (x0 : S8192x4096.Idx → EReal) (x1 : S1024x4096.Idx → EReal) (x4 : S1x1024.Idx → EReal) (r : Fin 8192) (e : Fin 1024) :
    val_main_v25 (F := Ideal) x0 x1 x4 (ix2 r e) = mult x0 x1 (ix2 r e) * x4 (ix2 0 e) := by
  unfold val_main_v25 val_main_v24
  pointwise
  rw [dz]
/-- The mean square's part of the gradient, before the row's factor. -/
theorem msgrad (x0 : S8192x4096.Idx → EReal) (x1 : S1024x4096.Idx → EReal) (x2 : S8192x1024.Idx → EReal) (x4 : S1x1024.Idx → EReal) (r : Fin 8192) (e : Fin 1024) :
    val_main_v36 (F := Ideal) x0 x1 x2 x4 (ix2 r e)
      = Ideal.div ((∑ k, x2 (ix2 r k) * (mult x0 x1 (ix2 r k) * x4 (ix2 0 k)))
          * (Norm.mhalf * Ideal.div (Norm.rrms fun k => x2 (ix2 r k)) (Norm.ms fun k => x2 (ix2 r k)))) Norm.len := by
  unfold val_main_v36 val_main_v35 val_main_v34 val_main_v33 val_main_v32 val_main_v28 val_main_v27 val_main_v26 val_main_v11 val_main_v10 val_main_v9 val_main_cst_2 val_main_cst_4 val_main_cst_5 val_main_cst_6
  pointwise
  simp only [ms, rrms, du]
  simp
/-- The reference's rows are the same. -/
theorem value_rows (x0 : S8192x4096.Idx → EReal) (x1 : S1024x4096.Idx → EReal) (x2 x3 : S8192x1024.Idx → EReal) (x4 : S1x1024.Idx → EReal) :
    val_main_v40 (F := Ideal) x0 x1 x2 x3 x4 = Norm.rows x2 (mult x0 x1) x3 x4 := by
  funext i
  obtain ⟨r, e, rfl⟩ : ∃ (r : Fin 8192) (e : Fin 1024), i = ix2 r e := ⟨i 0, i 1, ValueIdx.eq_ix2 i⟩
  unfold val_main_v40 val_main_v39 val_main_v38 val_main_v37 val_main_v31 val_main_v30 val_main_v29
  pointwise
  simp only [rrms, du, msgrad]
  rw [add_assoc, add_assoc, ← add_assoc (_ * _) (_ * _)]
  refine (congrArg (x3 (ix2 r e) + ·) (Norm.grad_eq (fun k => x2 (ix2 r k)) (fun k => mult x0 x1 (ix2 r k) * x4 (ix2 0 k)) e _ rfl)).trans ?_
  exact add_comm _ _
/-- The reference's column sums are the same. -/
theorem value_gain (x0 : S8192x4096.Idx → EReal) (x1 : S1024x4096.Idx → EReal) (x2 : S8192x1024.Idx → EReal) :
    val_main_v23 (F := Ideal) x0 x1 x2 = Norm.gain x2 (mult x0 x1) := by
  funext i
  obtain ⟨z, e, rfl⟩ : ∃ (z : Fin 1) (e : Fin 1024), i = ix2 z e := ⟨i 0, i 1, ValueIdx.eq_ix2 i⟩
  unfold val_main_v23 val_main_v22 val_main_v21 val_main_v13 val_main_v12 val_main_cst_3
  pointwise
  simp only [dz, rrms]
  exact Finset.sum_congr rfl fun r _ => mul_comm _ _

end Cert.Reference6Ideal.At

namespace Cert.DN2

open Cert.Kernel6Ideal.Final

/-- The reference terminates and leaves its arguments unchanged; it has no counters. -/
theorem frame_reference : Cert.quiescent_Reference6Ideal := fun m ρ _ =>
  (θ_run Cert.Reference6Ideal.defs _ _).mono (fun r h => ⟨fun c => ((h c).2).2,
    Idealize.ShloMosaic.sem_eq_zero_of_no_sems (by decide) r.2⟩) (Cert.Reference6Ideal.Value.run m ρ)

/-- Kernel and reference end with equal results. -/
theorem algebraic : Cert.algebraic_Kernel6Ideal_Reference6Ideal := by
  intro m ρ m' ρ' hpre hag
  refine ⟨fun c => Cert.Norm.rows (m (c.tc.loc Cert.Kernel6Ideal.main_arg2)) (Cert.Prod.mult (m (c.tc.loc Cert.Kernel6Ideal.main_arg0)) (m (c.tc.loc Cert.Kernel6Ideal.main_arg1))) (m (c.tc.loc Cert.Kernel6Ideal.main_arg3)) (m (c.tc.loc Cert.Kernel6Ideal.main_arg4)), fun c => Cert.Norm.gain (m (c.tc.loc Cert.Kernel6Ideal.main_arg2)) (Cert.Prod.mult (m (c.tc.loc Cert.Kernel6Ideal.main_arg0)) (m (c.tc.loc Cert.Kernel6Ideal.main_arg1))),
    (θ_run Cert.Kernel6Ideal.defs _ _).mono (fun r h c => ?_) (Cert.Kernel6Ideal.Value.run_blocks m ρ),
    (θ_run Cert.Reference6Ideal.defs _ _).mono (fun r h c => ?_) (Cert.Reference6Ideal.Value.run m' ρ')⟩
  · obtain ⟨h0, h1, k0, k1, k2, k3, k4⟩ := h c
    exact ⟨h0.trans (arr5 m c), h1.trans (arr6 m c), k0, k1, k2, k3, k4⟩
  · obtain ⟨h0, h1, k0, k1, k2, k3, k4⟩ := h c
    obtain ⟨e0, e1, e2, e3, e4⟩ := hag c
    exact ⟨h0.trans ((Cert.Reference6Ideal.Read.val_main_v40_eq _ _).trans (by rw [e0, e1, e2, e3, e4]; exact Cert.Reference6Ideal.At.value_rows _ _ _ _ _)), h1.trans ((Cert.Reference6Ideal.Read.val_main_v23_eq _ _ _).trans (by rw [e0, e1, e2]; exact Cert.Reference6Ideal.At.value_gain _ _ _)), k0, k1, k2, k3, k4⟩

end Cert.DN2

end
-- ==== Proof.DN1.Final.lean ====
/-
  The gradient through the first norm, the gradient of the input: kernel and reference end with equal results.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Prod.Math
public import proofs.«01_k».proof.Proof.Prod.Norm

@[expose] public section

set_option maxRecDepth 16384

noncomputable section

open Idealize.ShloMosaic Idealize.ShloMosaic.TcCoe Idealize.SL.Sem
open scoped BigOperators

namespace Cert.DN1

/-- The product with the rows of the weights that begin at column `o`. -/
def part {n w N : ℕ} (o : ℕ) (h : o + w ≤ N) (a : Shape.Idx ⟨2, ![n, w]⟩ → EReal) (b : Shape.Idx ⟨2, ![1024, N]⟩ → EReal) :
    Shape.Idx ⟨2, ![n, 1024]⟩ → EReal :=
  fun i => ∑ k : Fin w, a (ix2 (i 0) k) * b (ix2 (i 1) ⟨o + k.val, lt_of_lt_of_le (Nat.add_lt_add_left k.isLt o) h⟩)

/-- The normalised rows' cotangent: the sum of the six projections' products. -/
def dz {n : ℕ} (a0 : Shape.Idx ⟨2, ![n, 512]⟩ → EReal) (a1 : Shape.Idx ⟨2, ![n, 768]⟩ → EReal) (a2 : Shape.Idx ⟨2, ![n, 768]⟩ → EReal) (a3 : Shape.Idx ⟨2, ![n, 768]⟩ → EReal) (a4 : Shape.Idx ⟨2, ![n, 512]⟩ → EReal) (a5 : Shape.Idx ⟨2, ![n, 3072]⟩ → EReal) (b : Shape.Idx ⟨2, ![1024, 6400]⟩ → EReal) :
    Shape.Idx ⟨2, ![n, 1024]⟩ → EReal :=
  fun i => part 0 (by omega) a0 b i + part 512 (by omega) a1 b i + part 1280 (by omega) a2 b i + part 2048 (by omega) a3 b i + part 2816 (by omega) a4 b i + part 3328 (by omega) a5 b i

/-- A sum over 6400 columns in six parts. -/
theorem sum_six (f : Fin 6400 → EReal) : ∑ k, f k = ∑ k : Fin 512, f ⟨0 + k.val, by omega⟩ + ∑ k : Fin 768, f ⟨512 + k.val, by omega⟩ + ∑ k : Fin 768, f ⟨1280 + k.val, by omega⟩ + ∑ k : Fin 768, f ⟨2048 + k.val, by omega⟩ + ∑ k : Fin 512, f ⟨2816 + k.val, by omega⟩ + ∑ k : Fin 3072, f ⟨3328 + k.val, by omega⟩ := by
  have hs : ∀ g : ℕ → EReal, ∑ k ∈ Finset.range 6400, g k = ∑ k ∈ Finset.range 512, g (0 + k) + ∑ k ∈ Finset.range 768, g (512 + k) + ∑ k ∈ Finset.range 768, g (1280 + k) + ∑ k ∈ Finset.range 768, g (2048 + k) + ∑ k ∈ Finset.range 512, g (2816 + k) + ∑ k ∈ Finset.range 3072, g (3328 + k) := fun g => by
    rw [show 6400 = 0 + 512 + 768 + 768 + 768 + 512 + 3072 from rfl]
    simp only [Finset.sum_range_add]
    rw [Finset.sum_range_zero, zero_add]
  have hg : ∀ (w o : ℕ) (h : o + w ≤ 6400), ∑ k ∈ Finset.range w, (if h : o + k < 6400 then f ⟨o + k, h⟩ else 0)
      = ∑ k : Fin w, f ⟨o + k.val, by omega⟩ := fun w o h => by
    rw [Finset.sum_range]
    exact Finset.sum_congr rfl fun k _ => dif_pos (by omega)
  have h0 : ∑ k, f k = ∑ k ∈ Finset.range 6400, (if h : k < 6400 then f ⟨k, h⟩ else 0) := by
    rw [Finset.sum_range]
    exact Finset.sum_congr rfl fun k _ => (dif_pos k.isLt : (if h : k.val < 6400 then f ⟨k.val, h⟩ else 0) = f k).symm
  refine h0.trans ((hs _).trans ?_)
  rw [hg 512 0 (by omega), hg 768 512 (by omega), hg 768 1280 (by omega), hg 768 2048 (by omega), hg 512 2816 (by omega), hg 3072 3328 (by omega)]

end Cert.DN1

namespace Cert.Kernel7Ideal.Final

open Cert.Kernel7Ideal Cert.Kernel7Ideal.Gen Cert.Prod

variable (m : (ℓ : Loc nD τ sig) → Buf (Elt Ideal) ℓ)

/-- Where each window's block of point `t` begins. -/
theorem idx : ∀ t : Fin cfg0.N,
    win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![0, 0] ∧ win0_7.index t = ![t.val, 0] ∧ win0_8.index t = ![t.val, 0] ∧ win0_9.index t = ![0, 0] ∧ win0_10.index t = ![t.val, 0] ∧ win0_11.index t = ![0, 0] :=
  (by decide +kernel : ∀ t : Fin grid0.N, _)

/-- The grid has 16 points. -/
theorem lt16 (t : Fin cfg0.N) : t.val < 16 := lt_of_lt_of_eq t.isLt (show cfg0.N = 16 from N_0)

/-- Row `r` of the tile at point `t`. -/
def row (t : Fin cfg0.N) (r : Fin 512) : Fin 8192 := ⟨512 * t.val + r.val, by have := lt16 t; omega⟩

/-- The cotangent of projection 0. -/
abbrev f0 (c : Dev nD) : S8192x512.Idx → EReal := m ((c : Thread nD τ).loc main_arg0)
/-- The cotangent of projection 1. -/
abbrev f1 (c : Dev nD) : S8192x768.Idx → EReal := m ((c : Thread nD τ).loc main_arg1)
/-- The cotangent of projection 2. -/
abbrev f2 (c : Dev nD) : S8192x768.Idx → EReal := m ((c : Thread nD τ).loc main_arg2)
/-- The cotangent of projection 3. -/
abbrev f3 (c : Dev nD) : S8192x768.Idx → EReal := m ((c : Thread nD τ).loc main_arg3)
/-- The cotangent of projection 4. -/
abbrev f4 (c : Dev nD) : S8192x512.Idx → EReal := m ((c : Thread nD τ).loc main_arg4)
/-- The cotangent of projection 5. -/
abbrev f5 (c : Dev nD) : S8192x3072.Idx → EReal := m ((c : Thread nD τ).loc main_arg5)
/-- The weights. -/
abbrev fb (c : Dev nD) : S1024x6400.Idx → EReal := m ((c : Thread nD τ).loc main_arg6)
/-- The norm's rows. -/
abbrev fx (c : Dev nD) : S8192x1024.Idx → EReal := m ((c : Thread nD τ).loc main_arg7)
/-- The gradient that bypasses the norm. -/
abbrev fr (c : Dev nD) : S8192x1024.Idx → EReal := m ((c : Thread nD τ).loc main_arg8)
/-- The gain. -/
abbrev fg (c : Dev nD) : S1x1024.Idx → EReal := m ((c : Thread nD τ).loc main_arg9)
/-- The normalised rows' cotangent. -/
abbrev fz (c : Dev nD) : S8192x1024.Idx → EReal := DN1.dz (f0 m c) (f1 m c) (f2 m c) (f3 m c) (f4 m c) (f5 m c) (fb m c)

/-- The tile of projection 0's cotangent. -/
theorem blk0 (c : Dev nD) (t : Fin cfg0.N) (r : Fin 512) (e : Fin 512) :
    (iblk m c 0 t : Vec Ideal S512x512 .f32) (ix2 r e) = f0 m c (ix2 (row t r) e) := by
  have := lt16 t
  unfold row
  blk_ext [iblk, V, idx t]
/-- The tile of projection 1's cotangent. -/
theorem blk1 (c : Dev nD) (t : Fin cfg0.N) (r : Fin 512) (e : Fin 768) :
    (iblk m c 1 t : Vec Ideal S512x768 .f32) (ix2 r e) = f1 m c (ix2 (row t r) e) := by
  have := lt16 t
  unfold row
  blk_ext [iblk, V, idx t]
/-- The tile of projection 2's cotangent. -/
theorem blk2 (c : Dev nD) (t : Fin cfg0.N) (r : Fin 512) (e : Fin 768) :
    (iblk m c 2 t : Vec Ideal S512x768 .f32) (ix2 r e) = f2 m c (ix2 (row t r) e) := by
  have := lt16 t
  unfold row
  blk_ext [iblk, V, idx t]
/-- The tile of projection 3's cotangent. -/
theorem blk3 (c : Dev nD) (t : Fin cfg0.N) (r : Fin 512) (e : Fin 768) :
    (iblk m c 3 t : Vec Ideal S512x768 .f32) (ix2 r e) = f3 m c (ix2 (row t r) e) := by
  have := lt16 t
  unfold row
  blk_ext [iblk, V, idx t]
/-- The tile of projection 4's cotangent. -/
theorem blk4 (c : Dev nD) (t : Fin cfg0.N) (r : Fin 512) (e : Fin 512) :
    (iblk m c 4 t : Vec Ideal S512x512 .bf16) (ix2 r e) = f4 m c (ix2 (row t r) e) := by
  have := lt16 t
  unfold row
  blk_ext [iblk, V, idx t]
/-- The tile of projection 5's cotangent. -/
theorem blk5 (c : Dev nD) (t : Fin cfg0.N) (r : Fin 512) (e : Fin 3072) :
    (iblk m c 5 t : Vec Ideal S512x3072 .bf16) (ix2 r e) = f5 m c (ix2 (row t r) e) := by
  have := lt16 t
  unfold row
  blk_ext [iblk, V, idx t]
/-- The transposed weights are staged whole. -/
theorem blk6 (c : Dev nD) (t : Fin cfg0.N) (r : Fin 6400) (e : Fin 1024) :
    (iblk m c 6 t : Vec Ideal S6400x1024 .bf16) (ix2 r e) = fb m c (ix2 e r) := by
  blk_point [iblk, V, idx t]
/-- The rows' tile. -/
theorem blk7 (c : Dev nD) (t : Fin cfg0.N) (r : Fin 512) (e : Fin 1024) :
    (iblk m c 7 t : Vec Ideal S512x1024 .f32) (ix2 r e) = fx m c (ix2 (row t r) e) := by
  have := lt16 t
  unfold row
  blk_ext [iblk, V, idx t]
/-- The bypassing gradient's tile. -/
theorem blk8 (c : Dev nD) (t : Fin cfg0.N) (r : Fin 512) (e : Fin 1024) :
    (iblk m c 8 t : Vec Ideal S512x1024 .f32) (ix2 r e) = fr m c (ix2 (row t r) e) := by
  have := lt16 t
  unfold row
  blk_ext [iblk, V, idx t]
/-- The gain is staged whole. -/
theorem blk9 (c : Dev nD) (t : Fin cfg0.N) (r : Fin 1) (e : Fin 1024) :
    (iblk m c 9 t : Vec Ideal S1x1024 .f32) (ix2 r e) = fg m c (ix2 r e) := by
  blk_ext [iblk, V, idx t]

/-- The rows of the staged weights from 0 on. -/
abbrev rc0 : Rect S6400x1024 := Rect.unit (s := S6400x1024) ![0, 0] S512x1024.size inb_S6400x1024_S512x1024_0_0
/-- Those rows of the weights. -/
theorem ld0 (c : Dev nD) (t : Fin cfg0.N) (k : Fin 512) (e : Fin 1024) :
    (View.ld (iblk m c 6 t) rc0 : Vec Ideal S512x1024 .bf16) (ix2 k e) = fb m c (ix2 e ⟨0 + k.val, by omega⟩) := by
  have hv : (View.ld (iblk m c 6 t) rc0 : Vec Ideal S512x1024 .bf16) (ix2 k e)
      = (iblk m c 6 t : Vec Ideal S6400x1024 .bf16) (ix2 ⟨0 + k.val, by omega⟩ e) := by
    unfold View.ld
    blk_ext []
    · show 0 + 1 * k.val = _
      omega
    · show 0 + 1 * e.val = _
      omega
  exact hv.trans (blk6 m c t _ e)
/-- The rows of the staged weights from 512 on. -/
abbrev rc1 : Rect S6400x1024 := Rect.unit (s := S6400x1024) ![512, 0] S768x1024.size inb_S6400x1024_S768x1024_512_0
/-- Those rows of the weights. -/
theorem ld1 (c : Dev nD) (t : Fin cfg0.N) (k : Fin 768) (e : Fin 1024) :
    (View.ld (iblk m c 6 t) rc1 : Vec Ideal S768x1024 .bf16) (ix2 k e) = fb m c (ix2 e ⟨512 + k.val, by omega⟩) := by
  have hv : (View.ld (iblk m c 6 t) rc1 : Vec Ideal S768x1024 .bf16) (ix2 k e)
      = (iblk m c 6 t : Vec Ideal S6400x1024 .bf16) (ix2 ⟨512 + k.val, by omega⟩ e) := by
    unfold View.ld
    blk_ext []
    · show 512 + 1 * k.val = _
      omega
    · show 0 + 1 * e.val = _
      omega
  exact hv.trans (blk6 m c t _ e)
/-- The rows of the staged weights from 1280 on. -/
abbrev rc2 : Rect S6400x1024 := Rect.unit (s := S6400x1024) ![1280, 0] S768x1024.size inb_S6400x1024_S768x1024_1280_0
/-- Those rows of the weights. -/
theorem ld2 (c : Dev nD) (t : Fin cfg0.N) (k : Fin 768) (e : Fin 1024) :
    (View.ld (iblk m c 6 t) rc2 : Vec Ideal S768x1024 .bf16) (ix2 k e) = fb m c (ix2 e ⟨1280 + k.val, by omega⟩) := by
  have hv : (View.ld (iblk m c 6 t) rc2 : Vec Ideal S768x1024 .bf16) (ix2 k e)
      = (iblk m c 6 t : Vec Ideal S6400x1024 .bf16) (ix2 ⟨1280 + k.val, by omega⟩ e) := by
    unfold View.ld
    blk_ext []
    · show 1280 + 1 * k.val = _
      omega
    · show 0 + 1 * e.val = _
      omega
  exact hv.trans (blk6 m c t _ e)
/-- The rows of the staged weights from 2048 on. -/
abbrev rc3 : Rect S6400x1024 := Rect.unit (s := S6400x1024) ![2048, 0] S768x1024.size inb_S6400x1024_S768x1024_2048_0
/-- Those rows of the weights. -/
theorem ld3 (c : Dev nD) (t : Fin cfg0.N) (k : Fin 768) (e : Fin 1024) :
    (View.ld (iblk m c 6 t) rc3 : Vec Ideal S768x1024 .bf16) (ix2 k e) = fb m c (ix2 e ⟨2048 + k.val, by omega⟩) := by
  have hv : (View.ld (iblk m c 6 t) rc3 : Vec Ideal S768x1024 .bf16) (ix2 k e)
      = (iblk m c 6 t : Vec Ideal S6400x1024 .bf16) (ix2 ⟨2048 + k.val, by omega⟩ e) := by
    unfold View.ld
    blk_ext []
    · show 2048 + 1 * k.val = _
      omega
    · show 0 + 1 * e.val = _
      omega
  exact hv.trans (blk6 m c t _ e)
/-- The rows of the staged weights from 2816 on. -/
abbrev rc4 : Rect S6400x1024 := Rect.unit (s := S6400x1024) ![2816, 0] S512x1024.size inb_S6400x1024_S512x1024_2816_0
/-- Those rows of the weights. -/
theorem ld4 (c : Dev nD) (t : Fin cfg0.N) (k : Fin 512) (e : Fin 1024) :
    (View.ld (iblk m c 6 t) rc4 : Vec Ideal S512x1024 .bf16) (ix2 k e) = fb m c (ix2 e ⟨2816 + k.val, by omega⟩) := by
  have hv : (View.ld (iblk m c 6 t) rc4 : Vec Ideal S512x1024 .bf16) (ix2 k e)
      = (iblk m c 6 t : Vec Ideal S6400x1024 .bf16) (ix2 ⟨2816 + k.val, by omega⟩ e) := by
    unfold View.ld
    blk_ext []
    · show 2816 + 1 * k.val = _
      omega
    · show 0 + 1 * e.val = _
      omega
  exact hv.trans (blk6 m c t _ e)
/-- The rows of the staged weights from 3328 on. -/
abbrev rc5 : Rect S6400x1024 := Rect.unit (s := S6400x1024) ![3328, 0] S3072x1024.size inb_S6400x1024_S3072x1024_3328_0
/-- Those rows of the weights. -/
theorem ld5 (c : Dev nD) (t : Fin cfg0.N) (k : Fin 3072) (e : Fin 1024) :
    (View.ld (iblk m c 6 t) rc5 : Vec Ideal S3072x1024 .bf16) (ix2 k e) = fb m c (ix2 e ⟨3328 + k.val, by omega⟩) := by
  have hv : (View.ld (iblk m c 6 t) rc5 : Vec Ideal S3072x1024 .bf16) (ix2 k e)
      = (iblk m c 6 t : Vec Ideal S6400x1024 .bf16) (ix2 ⟨3328 + k.val, by omega⟩ e) := by
    unfold View.ld
    blk_ext []
    · show 3328 + 1 * k.val = _
      omega
    · show 0 + 1 * e.val = _
      omega
  exact hv.trans (blk6 m c t _ e)

/-- The first five products. -/
theorem pay2g (a0 : Vec Ideal S512x512 .f32) (w0 : Vec Ideal S512x1024 .bf16) (a1 : Vec Ideal S512x768 .f32) (w1 : Vec Ideal S768x1024 .bf16) (a2 : Vec Ideal S512x768 .f32) (w2 : Vec Ideal S768x1024 .bf16) (a3 : Vec Ideal S512x768 .f32) (w3 : Vec Ideal S768x1024 .bf16) (a4 : Vec Ideal S512x512 .bf16) (w4 : Vec Ideal S512x1024 .bf16) (r : Fin 512) (e : Fin 1024) :
    k0_pay2 (F := Ideal) a0 w0 a1 w1 a2 w2 a3 w3 a4 w4 (ix2 r e)
      = (∑ k : Fin 512, (a0 (ix2 r k) : EReal) * (w0 (ix2 k e) : EReal) + ∑ k : Fin 768, (a1 (ix2 r k) : EReal) * (w1 (ix2 k e) : EReal) + ∑ k : Fin 768, (a2 (ix2 r k) : EReal) * (w2 (ix2 k e) : EReal) + ∑ k : Fin 768, (a3 (ix2 r k) : EReal) * (w3 (ix2 k e) : EReal) + ∑ k : Fin 512, (a4 (ix2 r k) : EReal) * (w4 (ix2 k e) : EReal) : EReal) := by
  unfold k0_pay2
  pointwise
/-- The sixth is added. -/
theorem pay3g (v : FVec Ideal S512x1024 .f32) (a5 : Vec Ideal S512x3072 .bf16) (w5 : Vec Ideal S3072x1024 .bf16) (r : Fin 512) (e : Fin 1024) :
    k0_pay3 (F := Ideal) v a5 w5 (ix2 r e) = ((v (ix2 r e) : EReal) + ∑ k : Fin 3072, (a5 (ix2 r k) : EReal) * (w5 (ix2 k e) : EReal) : EReal) := by
  unfold k0_pay3
  pointwise

/-- The first five products of point `t`. -/
abbrev five (c : Dev nD) (t : Fin cfg0.N) : FVec Ideal S512x1024 .f32 :=
  k0_pay2 (F := Ideal) (iblk m c 0 t) (View.ld (iblk m c 6 t) rc0) (iblk m c 1 t) (View.ld (iblk m c 6 t) rc1) (iblk m c 2 t) (View.ld (iblk m c 6 t) rc2) (iblk m c 3 t) (View.ld (iblk m c 6 t) rc3) (iblk m c 4 t) (View.ld (iblk m c 6 t) rc4)

/-- The tile's product. -/
theorem pay3 (c : Dev nD) (t : Fin cfg0.N) (r : Fin 512) (e : Fin 1024) :
    k0_pay3 (F := Ideal) (five m c t) (iblk m c 5 t) (View.ld (iblk m c 6 t) rc5) (ix2 r e) = fz m c (ix2 (row t r) e) := by
  refine (pay3g _ _ _ r e).trans ?_
  refine (congrArg (· + _) (pay2g _ _ _ _ _ _ _ _ _ _ r e)).trans ?_
  simp only [blk0, blk1, blk2, blk3, blk4, blk5, ld0, ld1, ld2, ld3, ld4, ld5]
  rfl

/-- The rows' reciprocal roots. -/
theorem pay4 (x : Vec Ideal S512x1024 .f32) (r : Fin 512) (z : Fin 1) :
    k0_pay4 (F := Ideal) x (ix2 r z) = Norm.rrms fun k => (x (ix2 r k) : EReal) := by
  unfold k0_pay4
  pointwise
  rfl
/-- The normalised rows. -/
theorem pay5 (x : Vec Ideal S512x1024 .f32) (r : Fin 512) (e : Fin 1024) :
    k0_pay5 (F := Ideal) x (ix2 r e) = ((x (ix2 r e) : EReal) * Norm.rrms fun k => (x (ix2 r k) : EReal) : EReal) := by
  unfold k0_pay5
  pointwise
  rw [pay4]
/-- A tile's rows. -/
theorem pay6g (v : FVec Ideal S512x1024 .f32) (a5 : Vec Ideal S512x3072 .bf16) (w5 : Vec Ideal S3072x1024 .bf16) (x y : Vec Ideal S512x1024 .f32) (g : Vec Ideal S1x1024 .f32)
    (r : Fin 512) (e : Fin 1024) :
    k0_pay6 (F := Ideal) v a5 w5 x y g (ix2 r e)
      = (Norm.grad (fun k => x (ix2 r k)) (fun k => ((k0_pay3 (F := Ideal) v a5 w5 (ix2 r k) : EReal) * (g (ix2 0 k) : EReal) : EReal)) e + (y (ix2 r e) : EReal) : EReal) := by
  unfold k0_pay6
  pointwise
  simp only [pay4, pay5]
  rfl
/-- A tile's column sums. -/
theorem pay7g (v : FVec Ideal S512x1024 .f32) (a5 : Vec Ideal S512x3072 .bf16) (w5 : Vec Ideal S3072x1024 .bf16) (x : Vec Ideal S512x1024 .f32) (z : Fin 1) (e : Fin 1024) :
    k0_pay7 (F := Ideal) v a5 w5 x (ix2 z e)
      = ∑ r : Fin 512, ((k0_pay3 (F := Ideal) v a5 w5 (ix2 r e) : EReal) * ((x (ix2 r e) : EReal) * Norm.rrms fun k => (x (ix2 r k) : EReal)) : EReal) := by
  unfold k0_pay7
  pointwise
  simp only [pay5]

/-- The tile's rows. -/
theorem pay6 (c : Dev nD) (t : Fin cfg0.N) (i : S512x1024.Idx) :
    k0_pay6 (F := Ideal) (five m c t) (iblk m c 5 t) (View.ld (iblk m c 6 t) rc5) (iblk m c 7 t) (iblk m c 8 t) (iblk m c 9 t) i
      = Norm.rows (fx m c) (fz m c) (fr m c) (fg m c) (ix2 (row t (i 0)) (i 1)) := by
  obtain ⟨r, e, rfl⟩ : ∃ (r : Fin 512) (e : Fin 1024), i = ix2 r e := ⟨i 0, i 1, ValueIdx.eq_ix2 i⟩
  refine (pay6g _ _ _ _ _ _ r e).trans ?_
  simp only [pay3, blk7, blk8, blk9]
  rfl
/-- The tile's column sums. -/
theorem pay7 (c : Dev nD) (t : Fin cfg0.N) (i : S1x1024.Idx) :
    k0_pay7 (F := Ideal) (five m c t) (iblk m c 5 t) (View.ld (iblk m c 6 t) rc5) (iblk m c 7 t) i
      = ∑ r : Fin 512, fz m c (ix2 (row t r) (i 1)) * (fx m c (ix2 (row t r) (i 1)) * Norm.rrms fun k => fx m c (ix2 (row t r) k)) := by
  obtain ⟨z, e, rfl⟩ : ∃ (z : Fin 1) (e : Fin 1024), i = ix2 z e := ⟨i 0, i 1, ValueIdx.eq_ix2 i⟩
  refine (pay7g _ _ _ _ z e).trans ?_
  simp only [pay3, blk7]
  rfl
/-- A further tile's column sums are added. -/
theorem pay1 (v : FVec Ideal S1x1024 .f32) (acc : Vec Ideal S1x1024 .f32) (i : S1x1024.Idx) :
    k0_pay1 (F := Ideal) v acc i = acc i + v i := by
  obtain ⟨z, e, rfl⟩ : ∃ (z : Fin 1) (e : Fin 1024), i = ix2 z e := ⟨i 0, i 1, ValueIdx.eq_ix2 i⟩
  unfold k0_pay1
  pointwise

/-- The rows after a point. -/
theorem rows_at (c : Dev nD) (t : Fin cfg0.N) (i : S512x1024.Idx) :
    (outsAt0 m c t.val t.isLt).1 i = Norm.rows (fx m c) (fz m c) (fr m c) (fg m c) (ix2 (row t (i 0)) (i 1)) := by
  have hlt := lt16 t
  by_cases h : t.val = 0
  · rw [outsAt0_A m c t (by omega) (by omega)]
    frame_out
    exact pay6 m c t i
  · rw [outsAt0_B m c t (by omega) (by omega)]
    frame_out
    exact pay6 m c t i

/-- Point `t`'s column sums. -/
abbrev sums (c : Dev nD) (t : Fin cfg0.N) : FVec Ideal S1x1024 .f32 :=
  k0_pay7 (F := Ideal) (five m c t) (iblk m c 5 t) (View.ld (iblk m c 6 t) rc5) (iblk m c 7 t)

/-- The first point starts the column sums. -/
theorem gain_first (c : Dev nD) (t : Fin cfg0.N) (h : t.val = 0) (i : S1x1024.Idx) :
    (outsAt0 m c t.val t.isLt).2 i = 0 + sums m c t i := by
  rw [outsAt0_A m c t (by omega) (by omega), zero_add]
  frame_out
  rfl
/-- Every further point adds its column sums. -/
theorem gain_step (c : Dev nD) (t : Fin cfg0.N) (h : ¬t.val = 0) (i : S1x1024.Idx) :
    (outsAt0 m c t.val t.isLt).2 i = (outsAt0 m c (t.val - 1) (Nat.lt_of_le_of_lt (Nat.sub_le _ _) t.isLt)).2 i + sums m c t i := by
  have hlt := lt16 t
  rw [outsAt0_B m c t (by omega) (by omega)]
  frame_out
  exact pay1 _ _ i

/-- At the last point the result holds the whole column sums. -/
theorem gain_total (c : Dev nD) (t : Fin cfg0.N) (ht : t.val = 15) (i : S1x1024.Idx) :
    (outsAt0 m c t.val t.isLt).2 i = Norm.gain (fx m c) (fz m c) i := by
  have hlt := lt16 t
  rw [Pipeline.eq_sum_fin_of_reset_step_apply_last (fun n h => (outsAt0 m c n h).2) 16 (fun _ => (0 : EReal))
    (fun t (i : S1x1024.Idx) => sums m c t i)
    (fun t h i => gain_first m c t (by have := lt16 t; omega) i) (fun t h i => gain_step m c t (by omega) i) (by rw [show cfg0.N = 16 from N_0]) t (by rw [ht, show cfg0.N = 16 from N_0]) i, zero_add]
  simp only [sums, pay7]
  exact sum_tiles (S := 16) (n := 512) rfl (fun s r => row ⟨s.val, lt_of_lt_of_eq s.isLt N_0.symm⟩ r) (fun _ _ => rfl)
    fun r => fz m c (ix2 r (i 1)) * (fx m c (ix2 r (i 1)) * Norm.rrms fun k => fx m c (ix2 r k))

/-- The rows after the run. -/
theorem arr10 (c : Dev nD) : (dats m 0 c).arrAt 10 cfg0.N = Norm.rows (fx m c) (fz m c) (fr m c) (fg m c) := by
  refine (dats m 0 c).arrAt_eq_of_covers 10 _ (by decide +kernel) fun t hf y => ?_
  have hlt := lt16 t
  have h9 : ((cfg0.win 10).blk t).view.emb y = ix2 (row t (y 0)) (y 1) := by
    unfold row
    blk_ext [idx t]
  rw [h9]
  blk_simp
  rw [after0_10]
  exact rows_at m c t y
/-- The column sums after the run. -/
theorem arr11 (c : Dev nD) : (dats m 0 c).arrAt 11 cfg0.N = Norm.gain (fx m c) (fz m c) := by
  refine (dats m 0 c).arrAt_eq_of_covers 11 _ (by decide +kernel) fun t hf y => ?_
  have ht := (flush0_11 t).mp hf
  have hlt := lt16 t
  have h9 : ((cfg0.win 11).blk t).view.emb y = y := by
    blk_ext [idx t]
  rw [h9]
  blk_simp
  rw [after0_11]
  exact gain_total m c t (by omega) y

end Cert.Kernel7Ideal.Final

namespace Cert.Reference7Ideal.At

open Cert.Reference7Ideal Cert.Reference7Ideal.Read Cert.Prod

/-- The concatenated cotangents' columns from 0 on. -/
theorem cat0 (x0 : S8192x512.Idx → EReal) (x1 : S8192x768.Idx → EReal) (x2 : S8192x768.Idx → EReal) (x3 : S8192x768.Idx → EReal) (x4 : S8192x512.Idx → EReal) (x5 : S8192x3072.Idx → EReal) (r : Fin 8192) (k : Fin 512) :
    val_main_v25 (F := Ideal) x0 x1 x2 x3 x4 x5 (ix2 r ⟨0 + k.val, by omega⟩) = x0 (ix2 r k) := by
  unfold val_main_v25 val_main_v0 val_main_v1
  pointwise
/-- The concatenated cotangents' columns from 512 on. -/
theorem cat1 (x0 : S8192x512.Idx → EReal) (x1 : S8192x768.Idx → EReal) (x2 : S8192x768.Idx → EReal) (x3 : S8192x768.Idx → EReal) (x4 : S8192x512.Idx → EReal) (x5 : S8192x3072.Idx → EReal) (r : Fin 8192) (k : Fin 768) :
    val_main_v25 (F := Ideal) x0 x1 x2 x3 x4 x5 (ix2 r ⟨512 + k.val, by omega⟩) = x1 (ix2 r k) := by
  unfold val_main_v25 val_main_v0 val_main_v1
  pointwise
/-- The concatenated cotangents' columns from 1280 on. -/
theorem cat2 (x0 : S8192x512.Idx → EReal) (x1 : S8192x768.Idx → EReal) (x2 : S8192x768.Idx → EReal) (x3 : S8192x768.Idx → EReal) (x4 : S8192x512.Idx → EReal) (x5 : S8192x3072.Idx → EReal) (r : Fin 8192) (k : Fin 768) :
    val_main_v25 (F := Ideal) x0 x1 x2 x3 x4 x5 (ix2 r ⟨1280 + k.val, by omega⟩) = x2 (ix2 r k) := by
  unfold val_main_v25 val_main_v0 val_main_v1
  pointwise
  rw [dif_neg (by omega), dif_neg (by omega), dif_pos (by omega)]
  exact congrArg (fun j => x2 (ix2 r j)) (Fin.ext (by show 1280 + k.val - 512 - 768 = k.val; omega))
/-- The concatenated cotangents' columns from 2048 on. -/
theorem cat3 (x0 : S8192x512.Idx → EReal) (x1 : S8192x768.Idx → EReal) (x2 : S8192x768.Idx → EReal) (x3 : S8192x768.Idx → EReal) (x4 : S8192x512.Idx → EReal) (x5 : S8192x3072.Idx → EReal) (r : Fin 8192) (k : Fin 768) :
    val_main_v25 (F := Ideal) x0 x1 x2 x3 x4 x5 (ix2 r ⟨2048 + k.val, by omega⟩) = x3 (ix2 r k) := by
  unfold val_main_v25 val_main_v0 val_main_v1
  pointwise
  rw [dif_neg (by omega), dif_neg (by omega), dif_neg (by omega), dif_pos (by omega)]
  exact congrArg (fun j => x3 (ix2 r j)) (Fin.ext (by show 2048 + k.val - 512 - 768 - 768 = k.val; omega))
/-- The concatenated cotangents' columns from 2816 on. -/
theorem cat4 (x0 : S8192x512.Idx → EReal) (x1 : S8192x768.Idx → EReal) (x2 : S8192x768.Idx → EReal) (x3 : S8192x768.Idx → EReal) (x4 : S8192x512.Idx → EReal) (x5 : S8192x3072.Idx → EReal) (r : Fin 8192) (k : Fin 512) :
    val_main_v25 (F := Ideal) x0 x1 x2 x3 x4 x5 (ix2 r ⟨2816 + k.val, by omega⟩) = x4 (ix2 r k) := by
  unfold val_main_v25 val_main_v0 val_main_v1
  pointwise
  rw [dif_neg (by omega), dif_neg (by omega), dif_neg (by omega), dif_neg (by omega), dif_pos (by omega)]
  exact congrArg (fun j => x4 (ix2 r j)) (Fin.ext (by show 2816 + k.val - 512 - 768 - 768 - 768 = k.val; omega))
/-- The concatenated cotangents' columns from 3328 on. -/
theorem cat5 (x0 : S8192x512.Idx → EReal) (x1 : S8192x768.Idx → EReal) (x2 : S8192x768.Idx → EReal) (x3 : S8192x768.Idx → EReal) (x4 : S8192x512.Idx → EReal) (x5 : S8192x3072.Idx → EReal) (r : Fin 8192) (k : Fin 3072) :
    val_main_v25 (F := Ideal) x0 x1 x2 x3 x4 x5 (ix2 r ⟨3328 + k.val, by omega⟩) = x5 (ix2 r k) := by
  unfold val_main_v25 val_main_v0 val_main_v1
  pointwise
  rw [dif_neg (by omega), dif_neg (by omega), dif_neg (by omega), dif_neg (by omega), dif_neg (by omega)]
  exact congrArg (fun j => x5 (ix2 r j)) (Fin.ext (by show 3328 + k.val - 512 - 768 - 768 - 768 - 512 = k.val; omega))
/-- The normalised rows' cotangent. -/
theorem dz (x0 : S8192x512.Idx → EReal) (x1 : S8192x768.Idx → EReal) (x2 : S8192x768.Idx → EReal) (x3 : S8192x768.Idx → EReal) (x4 : S8192x512.Idx → EReal) (x5 : S8192x3072.Idx → EReal) (x6 : S1024x6400.Idx → EReal) (r : Fin 8192) (e : Fin 1024) :
    val_main_v28 (F := Ideal) x0 x1 x2 x3 x4 x5 x6 (ix2 r e) = DN1.dz x0 x1 x2 x3 x4 x5 x6 (ix2 r e) := by
  unfold val_main_v28 val_main_v2
  pointwise
  rw [DN1.sum_six]
  simp only [cat0, cat1, cat2, cat3, cat4, cat5]
  rfl
/-- The mean squares. -/
theorem ms (x7 : S8192x1024.Idx → EReal) (r : Fin 8192) (z : Fin 1) :
    val_main_v9 (F := Ideal) x7 (ix2 r z) = Norm.ms fun k => x7 (ix2 r k) := by
  unfold val_main_v9 val_main_v7 val_main_v5 val_main_v4 val_main_v3 val_main_cst val_main_v6 val_main_cst_0 val_main_v8 val_main_cst_1
  pointwise
  rfl
/-- Their reciprocal roots. -/
theorem rrms (x7 : S8192x1024.Idx → EReal) (r : Fin 8192) (z : Fin 1) :
    val_main_v10 (F := Ideal) x7 (ix2 r z) = Norm.rrms fun k => x7 (ix2 r k) := by
  unfold val_main_v10
  pointwise
  rw [ms]
  rfl
/-- The cotangent times the gain. -/
theorem du (x0 : S8192x512.Idx → EReal) (x1 : S8192x768.Idx → EReal) (x2 : S8192x768.Idx → EReal) (x3 : S8192x768.Idx → EReal) (x4 : S8192x512.Idx → EReal) (x5 : S8192x3072.Idx → EReal) (x6 : S1024x6400.Idx → EReal) (x9 : S1x1024.Idx → EReal) (r : Fin 8192) (e : Fin 1024) :
    val_main_v33 (F := Ideal) x0 x1 x2 x3 x4 x5 x6 x9 (ix2 r e) = DN1.dz x0 x1 x2 x3 x4 x5 x6 (ix2 r e) * x9 (ix2 0 e) := by
  unfold val_main_v33 val_main_v32
  pointwise
  rw [dz]
/-- The mean square's part of the gradient, before the row's factor. -/
theorem msgrad (x0 : S8192x512.Idx → EReal) (x1 : S8192x768.Idx → EReal) (x2 : S8192x768.Idx → EReal) (x3 : S8192x768.Idx → EReal) (x4 : S8192x512.Idx → EReal) (x5 : S8192x3072.Idx → EReal) (x6 : S1024x6400.Idx → EReal) (x7 : S8192x1024.Idx → EReal) (x9 : S1x1024.Idx → EReal) (r : Fin 8192) (e : Fin 1024) :
    val_main_v44 (F := Ideal) x0 x1 x2 x3 x4 x5 x6 x7 x9 (ix2 r e)
      = Ideal.div ((∑ k, x7 (ix2 r k) * (DN1.dz x0 x1 x2 x3 x4 x5 x6 (ix2 r k) * x9 (ix2 0 k)))
          * (Norm.mhalf * Ideal.div (Norm.rrms fun k => x7 (ix2 r k)) (Norm.ms fun k => x7 (ix2 r k)))) Norm.len := by
  unfold val_main_v44 val_main_v43 val_main_v42 val_main_v41 val_main_v40 val_main_v36 val_main_v35 val_main_v34 val_main_v13 val_main_v12 val_main_v11 val_main_cst_2 val_main_cst_4 val_main_cst_5 val_main_cst_6
  pointwise
  simp only [ms, rrms, du]
  simp
/-- The reference's rows are the same. -/
theorem value_rows (x0 : S8192x512.Idx → EReal) (x1 : S8192x768.Idx → EReal) (x2 : S8192x768.Idx → EReal) (x3 : S8192x768.Idx → EReal) (x4 : S8192x512.Idx → EReal) (x5 : S8192x3072.Idx → EReal) (x6 : S1024x6400.Idx → EReal) (x7 : S8192x1024.Idx → EReal) (x8 : S8192x1024.Idx → EReal) (x9 : S1x1024.Idx → EReal) :
    val_main_v48 (F := Ideal) x0 x1 x2 x3 x4 x5 x6 x7 x8 x9 = Norm.rows x7 (DN1.dz x0 x1 x2 x3 x4 x5 x6) x8 x9 := by
  funext i
  obtain ⟨r, e, rfl⟩ : ∃ (r : Fin 8192) (e : Fin 1024), i = ix2 r e := ⟨i 0, i 1, ValueIdx.eq_ix2 i⟩
  unfold val_main_v48 val_main_v47 val_main_v46 val_main_v45 val_main_v39 val_main_v38 val_main_v37
  pointwise
  simp only [rrms, du, msgrad]
  rw [add_assoc, add_assoc, ← add_assoc (_ * _) (_ * _)]
  refine (congrArg (x8 (ix2 r e) + ·) (Norm.grad_eq (fun k => x7 (ix2 r k)) (fun k => DN1.dz x0 x1 x2 x3 x4 x5 x6 (ix2 r k) * x9 (ix2 0 k)) e _ rfl)).trans ?_
  exact add_comm _ _
/-- The reference's column sums are the same. -/
theorem value_gain (x0 : S8192x512.Idx → EReal) (x1 : S8192x768.Idx → EReal) (x2 : S8192x768.Idx → EReal) (x3 : S8192x768.Idx → EReal) (x4 : S8192x512.Idx → EReal) (x5 : S8192x3072.Idx → EReal) (x6 : S1024x6400.Idx → EReal) (x7 : S8192x1024.Idx → EReal) :
    val_main_v31 (F := Ideal) x0 x1 x2 x3 x4 x5 x6 x7 = Norm.gain x7 (DN1.dz x0 x1 x2 x3 x4 x5 x6) := by
  funext i
  obtain ⟨z, e, rfl⟩ : ∃ (z : Fin 1) (e : Fin 1024), i = ix2 z e := ⟨i 0, i 1, ValueIdx.eq_ix2 i⟩
  unfold val_main_v31 val_main_v30 val_main_v29 val_main_v15 val_main_v14 val_main_cst_3
  pointwise
  simp only [dz, rrms]
  exact Finset.sum_congr rfl fun r _ => mul_comm _ _

end Cert.Reference7Ideal.At

namespace Cert.DN1

open Cert.Kernel7Ideal.Final

/-- The reference terminates and leaves its arguments unchanged; it has no counters. -/
theorem frame_reference : Cert.quiescent_Reference7Ideal := fun m ρ _ =>
  (θ_run Cert.Reference7Ideal.defs _ _).mono (fun r h => ⟨fun c => ((h c).2).2,
    Idealize.ShloMosaic.sem_eq_zero_of_no_sems (by decide) r.2⟩) (Cert.Reference7Ideal.Value.run m ρ)

/-- Kernel and reference end with equal results. -/
theorem algebraic : Cert.algebraic_Kernel7Ideal_Reference7Ideal := by
  intro m ρ m' ρ' hpre hag
  refine ⟨fun c => Cert.Norm.rows (m (c.tc.loc Cert.Kernel7Ideal.main_arg7)) (Cert.DN1.dz (m (c.tc.loc Cert.Kernel7Ideal.main_arg0)) (m (c.tc.loc Cert.Kernel7Ideal.main_arg1)) (m (c.tc.loc Cert.Kernel7Ideal.main_arg2)) (m (c.tc.loc Cert.Kernel7Ideal.main_arg3)) (m (c.tc.loc Cert.Kernel7Ideal.main_arg4)) (m (c.tc.loc Cert.Kernel7Ideal.main_arg5)) (m (c.tc.loc Cert.Kernel7Ideal.main_arg6))) (m (c.tc.loc Cert.Kernel7Ideal.main_arg8)) (m (c.tc.loc Cert.Kernel7Ideal.main_arg9)), fun c => Cert.Norm.gain (m (c.tc.loc Cert.Kernel7Ideal.main_arg7)) (Cert.DN1.dz (m (c.tc.loc Cert.Kernel7Ideal.main_arg0)) (m (c.tc.loc Cert.Kernel7Ideal.main_arg1)) (m (c.tc.loc Cert.Kernel7Ideal.main_arg2)) (m (c.tc.loc Cert.Kernel7Ideal.main_arg3)) (m (c.tc.loc Cert.Kernel7Ideal.main_arg4)) (m (c.tc.loc Cert.Kernel7Ideal.main_arg5)) (m (c.tc.loc Cert.Kernel7Ideal.main_arg6))),
    (θ_run Cert.Kernel7Ideal.defs _ _).mono (fun r h c => ?_) (Cert.Kernel7Ideal.Value.run_blocks m ρ),
    (θ_run Cert.Reference7Ideal.defs _ _).mono (fun r h c => ?_) (Cert.Reference7Ideal.Value.run m' ρ')⟩
  · obtain ⟨h0, h1, k0, k1, k2, k3, k4, k5, k6, k7, k8, k9⟩ := h c
    exact ⟨h0.trans (arr10 m c), h1.trans (arr11 m c), k0, k1, k2, k3, k4, k5, k6, k7, k8, k9⟩
  · obtain ⟨h0, h1, k0, k1, k2, k3, k4, k5, k6, k7, k8, k9⟩ := h c
    obtain ⟨e0, e1, e2, e3, e4, e5, e6, e7, e8, e9⟩ := hag c
    exact ⟨h0.trans ((Cert.Reference7Ideal.Read.val_main_v48_eq _ _).trans (by rw [e0, e1, e2, e3, e4, e5, e6, e7, e8, e9]; exact Cert.Reference7Ideal.At.value_rows _ _ _ _ _ _ _ _ _ _)), h1.trans ((Cert.Reference7Ideal.Read.val_main_v31_eq _ _ _ _ _ _ _ _).trans (by rw [e0, e1, e2, e3, e4, e5, e6, e7]; exact Cert.Reference7Ideal.At.value_gain _ _ _ _ _ _ _ _)), k0, k1, k2, k3, k4, k5, k6, k7, k8, k9⟩

end Cert.DN1

end
-- ==== Proof.DwInZg.Final.lean ====
/-
  The gates' columns of the input projection's weight gradient: kernel and reference end with equal results.
-/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.Prod.Math
public import Idealize.ShloMosaic.Lib.Pipeline.ReadBack

@[expose] public section

set_option maxRecDepth 16384

noncomputable section

open Idealize.ShloMosaic Idealize.ShloMosaic.TcCoe Idealize.SL.Sem
open scoped BigOperators

namespace Cert.Kernel8Ideal.Final

open Cert.Kernel8Ideal Cert.Kernel8Ideal.Gen Cert.Prod

variable (m : (ℓ : Loc nD τ sig) → Buf (Elt Ideal) ℓ)

/-- Where each window's block of point `t` begins. -/
theorem idx : ∀ t : Fin cfg0.N,
    win0_0.index t = ![t.val % 4, t.val / 4] ∧ win0_1.index t = ![t.val % 4, 0] ∧ win0_2.index t = ![t.val / 4, 0] :=
  (by decide +kernel : ∀ t : Fin grid0.N, _)

/-- The grid has 12 points. -/
theorem lt12 (t : Fin cfg0.N) : t.val < 12 := lt_of_lt_of_eq t.isLt (show cfg0.N = 12 from N_0)

/-- Row `r` of the contraction's tile at point `t`. -/
def row (t : Fin cfg0.N) (r : Fin 2048) : Fin 8192 := ⟨2048 * (t.val % 4) + r.val, by omega⟩

/-- Column `e` of the result's tile at point `t`. -/
def col (t : Fin cfg0.N) (e : Fin 1024) : Fin 3072 := ⟨1024 * (t.val / 4) + e.val, by have := lt12 t; omega⟩

/-- The left factor. -/
abbrev fa (c : Dev nD) : S8192x3072.Idx → EReal := m ((c : Thread nD τ).loc main_arg0)
/-- The right factor. -/
abbrev fb (c : Dev nD) : S8192x1024.Idx → EReal := m ((c : Thread nD τ).loc main_arg1)

/-- The left factor's tile. -/
theorem blk0 (c : Dev nD) (t : Fin cfg0.N) (r : Fin 2048) (e : Fin 1024) :
    (iblk m c 0 t : Vec Ideal S2048x1024 .bf16) (ix2 r e) = fa m c (ix2 (row t r) (col t e)) := by
  have := lt12 t
  unfold row col
  blk_ext [iblk, V, idx t]
/-- The right factor's tile. -/
theorem blk1 (c : Dev nD) (t : Fin cfg0.N) (r : Fin 2048) (e : Fin 1024) :
    (iblk m c 1 t : Vec Ideal S2048x1024 .bf16) (ix2 r e) = fb m c (ix2 (row t r) e) := by
  have := lt12 t
  unfold row
  blk_ext [iblk, V, idx t]

/-- The tiles' product. -/
theorem prod (c : Dev nD) (t : Fin cfg0.N) (i : S1024x1024.Idx) :
    k0_pay1 (F := Ideal) (iblk m c 0 t) (iblk m c 1 t) i
      = ∑ r : Fin 2048, fa m c (ix2 (row t r) (col t (i 0))) * fb m c (ix2 (row t r) (i 1)) := by
  obtain ⟨e, k, rfl⟩ : ∃ (e : Fin 1024) (k : Fin 1024), i = ix2 e k := ⟨i 0, i 1, ValueIdx.eq_ix2 i⟩
  unfold k0_pay1
  pointwise
  refine Finset.sum_congr rfl fun r _ => ?_
  have h0 := blk0 m c t r e
  have h1 := blk1 m c t r k
  rw [h0, h1]
/-- The first tile's product starts the accumulator. -/
theorem pay2 (c : Dev nD) (t : Fin cfg0.N) (i : S1024x1024.Idx) :
    k0_pay2 (F := Ideal) (iblk m c 0 t) (iblk m c 1 t) i = k0_pay1 (F := Ideal) (iblk m c 0 t) (iblk m c 1 t) i := by
  obtain ⟨e, k, rfl⟩ : ∃ (e : Fin 1024) (k : Fin 1024), i = ix2 e k := ⟨i 0, i 1, ValueIdx.eq_ix2 i⟩
  unfold k0_pay2
  pointwise
/-- A further tile's product is added to the accumulator. -/
theorem pay3 (c : Dev nD) (t : Fin cfg0.N) (acc : Vec Ideal S1024x1024 .f32) (i : S1024x1024.Idx) :
    k0_pay3 (F := Ideal) (iblk m c 0 t) (iblk m c 1 t) acc i = acc i + k0_pay1 (F := Ideal) (iblk m c 0 t) (iblk m c 1 t) i := by
  obtain ⟨e, k, rfl⟩ : ∃ (e : Fin 1024) (k : Fin 1024), i = ix2 e k := ⟨i 0, i 1, ValueIdx.eq_ix2 i⟩
  unfold k0_pay3
  pointwise
/-- The last tile's product is added to the accumulator in the result. -/
theorem pay4 (c : Dev nD) (t : Fin cfg0.N) (acc : Vec Ideal S1024x1024 .f32) (i : S1024x1024.Idx) :
    k0_pay4 (F := Ideal) (iblk m c 0 t) (iblk m c 1 t) acc i = acc i + k0_pay1 (F := Ideal) (iblk m c 0 t) (iblk m c 1 t) i := by
  obtain ⟨e, k, rfl⟩ : ∃ (e : Fin 1024) (k : Fin 1024), i = ix2 e k := ⟨i 0, i 1, ValueIdx.eq_ix2 i⟩
  unfold k0_pay4
  pointwise

/-- The sum so far after a point: in the accumulator, or at a run's last point in the result. -/
def sofar (c : Dev nD) (n : ℕ) (h : n < cfg0.N) : Vec Ideal S1024x1024 .f32 :=
  if n % 4 = 3 then (outsAt0 m c n h).1 else (outsAt0 m c n h).2

/-- A run's first point starts the sum. -/
theorem sofar_first (c : Dev nD) (t : Fin cfg0.N) (h : t.val % 4 = 0) (i : S1024x1024.Idx) :
    sofar m c t.val t.isLt i = 0 + k0_pay1 (F := Ideal) (iblk m c 0 t) (iblk m c 1 t) i := by
  unfold sofar
  rw [if_neg (by omega), outsAt0_A m c t h (by omega) (by omega), zero_add]
  frame_out
  exact pay2 m c t i
/-- Every further point adds its product. -/
theorem sofar_step (c : Dev nD) (t : Fin cfg0.N) (h : ¬t.val % 4 = 0) (i : S1024x1024.Idx) :
    sofar m c t.val t.isLt i = sofar m c (t.val - 1) (Nat.lt_of_le_of_lt (Nat.sub_le _ _) t.isLt) i
      + k0_pay1 (F := Ideal) (iblk m c 0 t) (iblk m c 1 t) i := by
  unfold sofar
  rw [if_neg (show ¬(t.val - 1) % 4 = 3 by omega)]
  by_cases h2 : t.val % 4 = 3
  · rw [if_pos h2, outsAt0_C m c t h (by omega) h2]
    frame_out
    rw [pay4 m c t, read_unread_whole]
  · rw [if_neg h2, outsAt0_B m c t h (by omega) h2]
    frame_out
    rw [pay3 m c t, read_unread_whole]

/-- At a run's last point the result holds the whole sum. -/
theorem total (c : Dev nD) (t : Fin cfg0.N) (ht : t.val % 4 = 3) (i : S1024x1024.Idx) :
    (outsAt0 m c t.val t.isLt).1 i = ∑ k : Fin 8192, fa m c (ix2 k (col t (i 0))) * fb m c (ix2 k (i 1)) := by
  have hs : (outsAt0 m c t.val t.isLt).1 = sofar m c t.val t.isLt := (if_pos ht).symm
  have hlt := lt12 t
  rw [hs, Pipeline.eq_sum_fin_of_reset_step_apply_of_flush (sofar m c) 4 (fun _ => (0 : EReal))
    (fun t (i : S1024x1024.Idx) => k0_pay1 (F := Ideal) (iblk m c 0 t) (iblk m c 1 t) i)
    (fun t h i => sofar_first m c t h i) (fun t h i => sofar_step m c t h i) t ht i, zero_add]
  simp only [prod]
  refine Eq.trans (Finset.sum_congr rfl fun s _ => Finset.sum_congr rfl fun r _ => ?_)
    (sum_tiles (S := 4) (n := 2048) rfl (fun s r => ⟨2048 * s.val + r.val, by omega⟩) (fun _ _ => rfl)
      fun k => fa m c (ix2 k (col t (i 0))) * fb m c (ix2 k (i 1)))
  have hr : ∀ h : 4 * (t.val / 4) + s.val < cfg0.N, row ⟨4 * (t.val / 4) + s.val, h⟩ r = ⟨2048 * s.val + r.val, by omega⟩ := fun h =>
    Fin.ext (by show 2048 * ((4 * (t.val / 4) + s.val) % 4) + r.val = 2048 * s.val + r.val; omega)
  have hc : ∀ h : 4 * (t.val / 4) + s.val < cfg0.N, col ⟨4 * (t.val / 4) + s.val, h⟩ (i 0) = col t (i 0) := fun h =>
    Fin.ext (by show 1024 * ((4 * (t.val / 4) + s.val) / 4) + (i 0).val = 1024 * (t.val / 4) + (i 0).val; omega)
  rw [hr, hc]

/-- The array after the run: the product of the transposed left factor with the right factor. -/
theorem arr2 (c : Dev nD) : (dats m 0 c).arrAt 2 cfg0.N = tmul (fa m c) (fb m c) := by
  refine (dats m 0 c).arrAt_eq_of_covers 2 _ (by decide +kernel) fun t hf y => ?_
  have ht := (flush0_2 t).mp hf
  have hlt := lt12 t
  have h9 : ((cfg0.win 2).blk t).view.emb y = ix2 (col t (y 0)) (y 1) := by
    unfold col
    blk_ext [idx t]
  rw [h9]
  blk_simp
  rw [after0_2]
  exact total m c t ht y

end Cert.Kernel8Ideal.Final

namespace Cert.Reference8Ideal.At

open Cert.Reference8Ideal Cert.Reference8Ideal.Read Cert.Prod

/-- The reference's gradient is the same product. -/
theorem value (x0 : S8192x3072.Idx → EReal) (x1 : S8192x1024.Idx → EReal) : val_main_v6 (F := Ideal) x0 x1 = tmul x0 x1 := by
  funext i
  obtain ⟨e, k, rfl⟩ : ∃ (e : Fin 3072) (k : Fin 1024), i = ix2 e k := ⟨i 0, i 1, ValueIdx.eq_ix2 i⟩
  unfold val_main_v6 val_main_v5 val_main_v4 val_main_v3 val_main_v1
  pointwise
  exact Finset.sum_congr rfl fun r _ => rfl

end Cert.Reference8Ideal.At

namespace Cert.DwInZg

open Cert.Kernel8Ideal.Final

/-- The reference terminates and leaves its arguments unchanged; it has no counters. -/
theorem frame_reference : Cert.quiescent_Reference8Ideal := fun m ρ _ =>
  (θ_run Cert.Reference8Ideal.defs _ _).mono (fun r h => ⟨fun c => (h c).2,
    Idealize.ShloMosaic.sem_eq_zero_of_no_sems (by decide) r.2⟩) (Cert.Reference8Ideal.Value.run m ρ)

/-- Kernel and reference end with equal results. -/
theorem algebraic : Cert.algebraic_Kernel8Ideal_Reference8Ideal := by
  intro m ρ m' ρ' hpre hag
  refine ⟨fun c => Cert.Prod.tmul (m (c.tc.loc Cert.Kernel8Ideal.main_arg0)) (m (c.tc.loc Cert.Kernel8Ideal.main_arg1)),
    (θ_run Cert.Kernel8Ideal.defs _ _).mono (fun r h c => ?_) (Cert.Kernel8Ideal.Value.run_blocks m ρ),
    (θ_run Cert.Reference8Ideal.defs _ _).mono (fun r h c => ?_) (Cert.Reference8Ideal.Value.run m' ρ')⟩
  · obtain ⟨h0, k0, k1⟩ := h c
    exact ⟨h0.trans (arr2 m c), k0, k1⟩
  · obtain ⟨h0, k0, k1⟩ := h c
    obtain ⟨e0, e1⟩ := hag c
    refine ⟨h0.trans ((Cert.Reference8Ideal.Read.val_main_v6_eq _ _).trans ?_), k0, k1⟩
    rw [e0, e1]
    exact Cert.Reference8Ideal.At.value _ _

end Cert.DwInZg

end
-- ==== Proof.DwInQ.Final.lean ====
/-
  The columns of the queries, of the keys or of the values of the input projection's weight gradient: kernel and reference end with equal results.
-/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.Prod.Math
public import Idealize.ShloMosaic.Lib.Pipeline.ReadBack

@[expose] public section

set_option maxRecDepth 16384

noncomputable section

open Idealize.ShloMosaic Idealize.ShloMosaic.TcCoe Idealize.SL.Sem
open scoped BigOperators

namespace Cert.Kernel9Ideal.Final

open Cert.Kernel9Ideal Cert.Kernel9Ideal.Gen Cert.Prod

variable (m : (ℓ : Loc nD τ sig) → Buf (Elt Ideal) ℓ)

/-- Where each window's block of point `t` begins. -/
theorem idx : ∀ t : Fin cfg0.N,
    win0_0.index t = ![t.val % 4, t.val / 4] ∧ win0_1.index t = ![t.val % 4, 0] ∧ win0_2.index t = ![t.val / 4, 0] :=
  (by decide +kernel : ∀ t : Fin grid0.N, _)

/-- The grid has 4 points. -/
theorem lt4 (t : Fin cfg0.N) : t.val < 4 := lt_of_lt_of_eq t.isLt (show cfg0.N = 4 from N_0)

/-- Row `r` of the contraction's tile at point `t`. -/
def row (t : Fin cfg0.N) (r : Fin 2048) : Fin 8192 := ⟨2048 * (t.val % 4) + r.val, by omega⟩

/-- Column `e` of the result's tile at point `t`. -/
def col (t : Fin cfg0.N) (e : Fin 768) : Fin 768 := ⟨768 * (t.val / 4) + e.val, by have := lt4 t; omega⟩

/-- The left factor. -/
abbrev fa (c : Dev nD) : S8192x768.Idx → EReal := m ((c : Thread nD τ).loc main_arg0)
/-- The right factor. -/
abbrev fb (c : Dev nD) : S8192x1024.Idx → EReal := m ((c : Thread nD τ).loc main_arg1)

/-- The left factor's tile. -/
theorem blk0 (c : Dev nD) (t : Fin cfg0.N) (r : Fin 2048) (e : Fin 768) :
    (iblk m c 0 t : Vec Ideal S2048x768 .f32) (ix2 r e) = fa m c (ix2 (row t r) (col t e)) := by
  have := lt4 t
  unfold row col
  blk_ext [iblk, V, idx t]
/-- The right factor's tile. -/
theorem blk1 (c : Dev nD) (t : Fin cfg0.N) (r : Fin 2048) (e : Fin 1024) :
    (iblk m c 1 t : Vec Ideal S2048x1024 .bf16) (ix2 r e) = fb m c (ix2 (row t r) e) := by
  have := lt4 t
  unfold row
  blk_ext [iblk, V, idx t]

/-- The tiles' product. -/
theorem prod (c : Dev nD) (t : Fin cfg0.N) (i : S768x1024.Idx) :
    k0_pay1 (F := Ideal) (iblk m c 0 t) (iblk m c 1 t) i
      = ∑ r : Fin 2048, fa m c (ix2 (row t r) (col t (i 0))) * fb m c (ix2 (row t r) (i 1)) := by
  obtain ⟨e, k, rfl⟩ : ∃ (e : Fin 768) (k : Fin 1024), i = ix2 e k := ⟨i 0, i 1, ValueIdx.eq_ix2 i⟩
  unfold k0_pay1
  pointwise
  refine Finset.sum_congr rfl fun r _ => ?_
  have h0 := blk0 m c t r e
  have h1 := blk1 m c t r k
  rw [h0, h1]
/-- The first tile's product starts the accumulator. -/
theorem pay2 (c : Dev nD) (t : Fin cfg0.N) (i : S768x1024.Idx) :
    k0_pay2 (F := Ideal) (iblk m c 0 t) (iblk m c 1 t) i = k0_pay1 (F := Ideal) (iblk m c 0 t) (iblk m c 1 t) i := by
  obtain ⟨e, k, rfl⟩ : ∃ (e : Fin 768) (k : Fin 1024), i = ix2 e k := ⟨i 0, i 1, ValueIdx.eq_ix2 i⟩
  unfold k0_pay2
  pointwise
/-- A further tile's product is added to the accumulator. -/
theorem pay3 (c : Dev nD) (t : Fin cfg0.N) (acc : Vec Ideal S768x1024 .f32) (i : S768x1024.Idx) :
    k0_pay3 (F := Ideal) (iblk m c 0 t) (iblk m c 1 t) acc i = acc i + k0_pay1 (F := Ideal) (iblk m c 0 t) (iblk m c 1 t) i := by
  obtain ⟨e, k, rfl⟩ : ∃ (e : Fin 768) (k : Fin 1024), i = ix2 e k := ⟨i 0, i 1, ValueIdx.eq_ix2 i⟩
  unfold k0_pay3
  pointwise
/-- The last tile's product is added to the accumulator in the result. -/
theorem pay4 (c : Dev nD) (t : Fin cfg0.N) (acc : Vec Ideal S768x1024 .f32) (i : S768x1024.Idx) :
    k0_pay4 (F := Ideal) (iblk m c 0 t) (iblk m c 1 t) acc i = acc i + k0_pay1 (F := Ideal) (iblk m c 0 t) (iblk m c 1 t) i := by
  obtain ⟨e, k, rfl⟩ : ∃ (e : Fin 768) (k : Fin 1024), i = ix2 e k := ⟨i 0, i 1, ValueIdx.eq_ix2 i⟩
  unfold k0_pay4
  pointwise

/-- The sum so far after a point: in the accumulator, or at a run's last point in the result. -/
def sofar (c : Dev nD) (n : ℕ) (h : n < cfg0.N) : Vec Ideal S768x1024 .f32 :=
  if n % 4 = 3 then (outsAt0 m c n h).1 else (outsAt0 m c n h).2

/-- A run's first point starts the sum. -/
theorem sofar_first (c : Dev nD) (t : Fin cfg0.N) (h : t.val % 4 = 0) (i : S768x1024.Idx) :
    sofar m c t.val t.isLt i = 0 + k0_pay1 (F := Ideal) (iblk m c 0 t) (iblk m c 1 t) i := by
  unfold sofar
  rw [if_neg (by omega), outsAt0_A m c t h (by omega) (by omega), zero_add]
  frame_out
  exact pay2 m c t i
/-- Every further point adds its product. -/
theorem sofar_step (c : Dev nD) (t : Fin cfg0.N) (h : ¬t.val % 4 = 0) (i : S768x1024.Idx) :
    sofar m c t.val t.isLt i = sofar m c (t.val - 1) (Nat.lt_of_le_of_lt (Nat.sub_le _ _) t.isLt) i
      + k0_pay1 (F := Ideal) (iblk m c 0 t) (iblk m c 1 t) i := by
  unfold sofar
  rw [if_neg (show ¬(t.val - 1) % 4 = 3 by omega)]
  by_cases h2 : t.val % 4 = 3
  · rw [if_pos h2, outsAt0_C m c t h (by omega) h2]
    frame_out
    rw [pay4 m c t, read_unread_whole]
  · rw [if_neg h2, outsAt0_B m c t h (by omega) h2]
    frame_out
    rw [pay3 m c t, read_unread_whole]

/-- At a run's last point the result holds the whole sum. -/
theorem total (c : Dev nD) (t : Fin cfg0.N) (ht : t.val % 4 = 3) (i : S768x1024.Idx) :
    (outsAt0 m c t.val t.isLt).1 i = ∑ k : Fin 8192, fa m c (ix2 k (col t (i 0))) * fb m c (ix2 k (i 1)) := by
  have hs : (outsAt0 m c t.val t.isLt).1 = sofar m c t.val t.isLt := (if_pos ht).symm
  have hlt := lt4 t
  rw [hs, Pipeline.eq_sum_fin_of_reset_step_apply_of_flush (sofar m c) 4 (fun _ => (0 : EReal))
    (fun t (i : S768x1024.Idx) => k0_pay1 (F := Ideal) (iblk m c 0 t) (iblk m c 1 t) i)
    (fun t h i => sofar_first m c t h i) (fun t h i => sofar_step m c t h i) t ht i, zero_add]
  simp only [prod]
  refine Eq.trans (Finset.sum_congr rfl fun s _ => Finset.sum_congr rfl fun r _ => ?_)
    (sum_tiles (S := 4) (n := 2048) rfl (fun s r => ⟨2048 * s.val + r.val, by omega⟩) (fun _ _ => rfl)
      fun k => fa m c (ix2 k (col t (i 0))) * fb m c (ix2 k (i 1)))
  have hr : ∀ h : 4 * (t.val / 4) + s.val < cfg0.N, row ⟨4 * (t.val / 4) + s.val, h⟩ r = ⟨2048 * s.val + r.val, by omega⟩ := fun h =>
    Fin.ext (by show 2048 * ((4 * (t.val / 4) + s.val) % 4) + r.val = 2048 * s.val + r.val; omega)
  have hc : ∀ h : 4 * (t.val / 4) + s.val < cfg0.N, col ⟨4 * (t.val / 4) + s.val, h⟩ (i 0) = col t (i 0) := fun h =>
    Fin.ext (by show 768 * ((4 * (t.val / 4) + s.val) / 4) + (i 0).val = 768 * (t.val / 4) + (i 0).val; omega)
  rw [hr, hc]

/-- The array after the run: the product of the transposed left factor with the right factor. -/
theorem arr2 (c : Dev nD) : (dats m 0 c).arrAt 2 cfg0.N = tmul (fa m c) (fb m c) := by
  refine (dats m 0 c).arrAt_eq_of_covers 2 _ (by decide +kernel) fun t hf y => ?_
  have ht := (flush0_2 t).mp hf
  have hlt := lt4 t
  have h9 : ((cfg0.win 2).blk t).view.emb y = ix2 (col t (y 0)) (y 1) := by
    unfold col
    blk_ext [idx t]
  rw [h9]
  blk_simp
  rw [after0_2]
  exact total m c t ht y

end Cert.Kernel9Ideal.Final

namespace Cert.Reference9Ideal.At

open Cert.Reference9Ideal Cert.Reference9Ideal.Read Cert.Prod

/-- The reference's gradient is the same product. -/
theorem value (x0 : S8192x768.Idx → EReal) (x1 : S8192x1024.Idx → EReal) : val_main_v5 (F := Ideal) x0 x1 = tmul x0 x1 := by
  funext i
  obtain ⟨e, k, rfl⟩ : ∃ (e : Fin 768) (k : Fin 1024), i = ix2 e k := ⟨i 0, i 1, ValueIdx.eq_ix2 i⟩
  unfold val_main_v5 val_main_v4 val_main_v3 val_main_v1
  pointwise
  exact Finset.sum_congr rfl fun r _ => rfl

end Cert.Reference9Ideal.At

namespace Cert.DwInQ

open Cert.Kernel9Ideal.Final

/-- The reference terminates and leaves its arguments unchanged; it has no counters. -/
theorem frame_reference : Cert.quiescent_Reference9Ideal := fun m ρ _ =>
  (θ_run Cert.Reference9Ideal.defs _ _).mono (fun r h => ⟨fun c => (h c).2,
    Idealize.ShloMosaic.sem_eq_zero_of_no_sems (by decide) r.2⟩) (Cert.Reference9Ideal.Value.run m ρ)

/-- Kernel and reference end with equal results. -/
theorem algebraic : Cert.algebraic_Kernel9Ideal_Reference9Ideal := by
  intro m ρ m' ρ' hpre hag
  refine ⟨fun c => Cert.Prod.tmul (m (c.tc.loc Cert.Kernel9Ideal.main_arg0)) (m (c.tc.loc Cert.Kernel9Ideal.main_arg1)),
    (θ_run Cert.Kernel9Ideal.defs _ _).mono (fun r h c => ?_) (Cert.Kernel9Ideal.Value.run_blocks m ρ),
    (θ_run Cert.Reference9Ideal.defs _ _).mono (fun r h c => ?_) (Cert.Reference9Ideal.Value.run m' ρ')⟩
  · obtain ⟨h0, k0, k1⟩ := h c
    exact ⟨h0.trans (arr2 m c), k0, k1⟩
  · obtain ⟨h0, k0, k1⟩ := h c
    obtain ⟨e0, e1⟩ := hag c
    refine ⟨h0.trans ((Cert.Reference9Ideal.Read.val_main_v5_eq _ _).trans ?_), k0, k1⟩
    rw [e0, e1]
    exact Cert.Reference9Ideal.At.value _ _

end Cert.DwInQ

end
-- ==== Proof.DwInU.Final.lean ====
/-
  The state-space branch's columns of the input projection's weight gradient: kernel and reference end with equal results.
-/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.Prod.Math
public import Idealize.ShloMosaic.Lib.Pipeline.ReadBack

@[expose] public section

set_option maxRecDepth 16384

noncomputable section

open Idealize.ShloMosaic Idealize.ShloMosaic.TcCoe Idealize.SL.Sem
open scoped BigOperators

namespace Cert.Kernel10Ideal.Final

open Cert.Kernel10Ideal Cert.Kernel10Ideal.Gen Cert.Prod

variable (m : (ℓ : Loc nD τ sig) → Buf (Elt Ideal) ℓ)

/-- Where each window's block of point `t` begins. -/
theorem idx : ∀ t : Fin cfg0.N,
    win0_0.index t = ![t.val % 4, t.val / 4] ∧ win0_1.index t = ![t.val % 4, 0] ∧ win0_2.index t = ![t.val / 4, 0] :=
  (by decide +kernel : ∀ t : Fin grid0.N, _)

/-- The grid has 4 points. -/
theorem lt4 (t : Fin cfg0.N) : t.val < 4 := lt_of_lt_of_eq t.isLt (show cfg0.N = 4 from N_0)

/-- Row `r` of the contraction's tile at point `t`. -/
def row (t : Fin cfg0.N) (r : Fin 2048) : Fin 8192 := ⟨2048 * (t.val % 4) + r.val, by omega⟩

/-- Column `e` of the result's tile at point `t`. -/
def col (t : Fin cfg0.N) (e : Fin 512) : Fin 512 := ⟨512 * (t.val / 4) + e.val, by have := lt4 t; omega⟩

/-- The left factor. -/
abbrev fa (c : Dev nD) : S8192x512.Idx → EReal := m ((c : Thread nD τ).loc main_arg0)
/-- The right factor. -/
abbrev fb (c : Dev nD) : S8192x1024.Idx → EReal := m ((c : Thread nD τ).loc main_arg1)

/-- The left factor's tile. -/
theorem blk0 (c : Dev nD) (t : Fin cfg0.N) (r : Fin 2048) (e : Fin 512) :
    (iblk m c 0 t : Vec Ideal S2048x512 .f32) (ix2 r e) = fa m c (ix2 (row t r) (col t e)) := by
  have := lt4 t
  unfold row col
  blk_ext [iblk, V, idx t]
/-- The right factor's tile. -/
theorem blk1 (c : Dev nD) (t : Fin cfg0.N) (r : Fin 2048) (e : Fin 1024) :
    (iblk m c 1 t : Vec Ideal S2048x1024 .bf16) (ix2 r e) = fb m c (ix2 (row t r) e) := by
  have := lt4 t
  unfold row
  blk_ext [iblk, V, idx t]

/-- The tiles' product. -/
theorem prod (c : Dev nD) (t : Fin cfg0.N) (i : S512x1024.Idx) :
    k0_pay1 (F := Ideal) (iblk m c 0 t) (iblk m c 1 t) i
      = ∑ r : Fin 2048, fa m c (ix2 (row t r) (col t (i 0))) * fb m c (ix2 (row t r) (i 1)) := by
  obtain ⟨e, k, rfl⟩ : ∃ (e : Fin 512) (k : Fin 1024), i = ix2 e k := ⟨i 0, i 1, ValueIdx.eq_ix2 i⟩
  unfold k0_pay1
  pointwise
  refine Finset.sum_congr rfl fun r _ => ?_
  have h0 := blk0 m c t r e
  have h1 := blk1 m c t r k
  rw [h0, h1]
/-- The first tile's product starts the accumulator. -/
theorem pay2 (c : Dev nD) (t : Fin cfg0.N) (i : S512x1024.Idx) :
    k0_pay2 (F := Ideal) (iblk m c 0 t) (iblk m c 1 t) i = k0_pay1 (F := Ideal) (iblk m c 0 t) (iblk m c 1 t) i := by
  obtain ⟨e, k, rfl⟩ : ∃ (e : Fin 512) (k : Fin 1024), i = ix2 e k := ⟨i 0, i 1, ValueIdx.eq_ix2 i⟩
  unfold k0_pay2
  pointwise
/-- A further tile's product is added to the accumulator. -/
theorem pay3 (c : Dev nD) (t : Fin cfg0.N) (acc : Vec Ideal S512x1024 .f32) (i : S512x1024.Idx) :
    k0_pay3 (F := Ideal) (iblk m c 0 t) (iblk m c 1 t) acc i = acc i + k0_pay1 (F := Ideal) (iblk m c 0 t) (iblk m c 1 t) i := by
  obtain ⟨e, k, rfl⟩ : ∃ (e : Fin 512) (k : Fin 1024), i = ix2 e k := ⟨i 0, i 1, ValueIdx.eq_ix2 i⟩
  unfold k0_pay3
  pointwise
/-- The last tile's product is added to the accumulator in the result. -/
theorem pay4 (c : Dev nD) (t : Fin cfg0.N) (acc : Vec Ideal S512x1024 .f32) (i : S512x1024.Idx) :
    k0_pay4 (F := Ideal) (iblk m c 0 t) (iblk m c 1 t) acc i = acc i + k0_pay1 (F := Ideal) (iblk m c 0 t) (iblk m c 1 t) i := by
  obtain ⟨e, k, rfl⟩ : ∃ (e : Fin 512) (k : Fin 1024), i = ix2 e k := ⟨i 0, i 1, ValueIdx.eq_ix2 i⟩
  unfold k0_pay4
  pointwise

/-- The sum so far after a point: in the accumulator, or at a run's last point in the result. -/
def sofar (c : Dev nD) (n : ℕ) (h : n < cfg0.N) : Vec Ideal S512x1024 .f32 :=
  if n % 4 = 3 then (outsAt0 m c n h).1 else (outsAt0 m c n h).2

/-- A run's first point starts the sum. -/
theorem sofar_first (c : Dev nD) (t : Fin cfg0.N) (h : t.val % 4 = 0) (i : S512x1024.Idx) :
    sofar m c t.val t.isLt i = 0 + k0_pay1 (F := Ideal) (iblk m c 0 t) (iblk m c 1 t) i := by
  unfold sofar
  rw [if_neg (by omega), outsAt0_A m c t h (by omega) (by omega), zero_add]
  frame_out
  exact pay2 m c t i
/-- Every further point adds its product. -/
theorem sofar_step (c : Dev nD) (t : Fin cfg0.N) (h : ¬t.val % 4 = 0) (i : S512x1024.Idx) :
    sofar m c t.val t.isLt i = sofar m c (t.val - 1) (Nat.lt_of_le_of_lt (Nat.sub_le _ _) t.isLt) i
      + k0_pay1 (F := Ideal) (iblk m c 0 t) (iblk m c 1 t) i := by
  unfold sofar
  rw [if_neg (show ¬(t.val - 1) % 4 = 3 by omega)]
  by_cases h2 : t.val % 4 = 3
  · rw [if_pos h2, outsAt0_C m c t h (by omega) h2]
    frame_out
    rw [pay4 m c t, read_unread_whole]
  · rw [if_neg h2, outsAt0_B m c t h (by omega) h2]
    frame_out
    rw [pay3 m c t, read_unread_whole]

/-- At a run's last point the result holds the whole sum. -/
theorem total (c : Dev nD) (t : Fin cfg0.N) (ht : t.val % 4 = 3) (i : S512x1024.Idx) :
    (outsAt0 m c t.val t.isLt).1 i = ∑ k : Fin 8192, fa m c (ix2 k (col t (i 0))) * fb m c (ix2 k (i 1)) := by
  have hs : (outsAt0 m c t.val t.isLt).1 = sofar m c t.val t.isLt := (if_pos ht).symm
  have hlt := lt4 t
  rw [hs, Pipeline.eq_sum_fin_of_reset_step_apply_of_flush (sofar m c) 4 (fun _ => (0 : EReal))
    (fun t (i : S512x1024.Idx) => k0_pay1 (F := Ideal) (iblk m c 0 t) (iblk m c 1 t) i)
    (fun t h i => sofar_first m c t h i) (fun t h i => sofar_step m c t h i) t ht i, zero_add]
  simp only [prod]
  refine Eq.trans (Finset.sum_congr rfl fun s _ => Finset.sum_congr rfl fun r _ => ?_)
    (sum_tiles (S := 4) (n := 2048) rfl (fun s r => ⟨2048 * s.val + r.val, by omega⟩) (fun _ _ => rfl)
      fun k => fa m c (ix2 k (col t (i 0))) * fb m c (ix2 k (i 1)))
  have hr : ∀ h : 4 * (t.val / 4) + s.val < cfg0.N, row ⟨4 * (t.val / 4) + s.val, h⟩ r = ⟨2048 * s.val + r.val, by omega⟩ := fun h =>
    Fin.ext (by show 2048 * ((4 * (t.val / 4) + s.val) % 4) + r.val = 2048 * s.val + r.val; omega)
  have hc : ∀ h : 4 * (t.val / 4) + s.val < cfg0.N, col ⟨4 * (t.val / 4) + s.val, h⟩ (i 0) = col t (i 0) := fun h =>
    Fin.ext (by show 512 * ((4 * (t.val / 4) + s.val) / 4) + (i 0).val = 512 * (t.val / 4) + (i 0).val; omega)
  rw [hr, hc]

/-- The array after the run: the product of the transposed left factor with the right factor. -/
theorem arr2 (c : Dev nD) : (dats m 0 c).arrAt 2 cfg0.N = tmul (fa m c) (fb m c) := by
  refine (dats m 0 c).arrAt_eq_of_covers 2 _ (by decide +kernel) fun t hf y => ?_
  have ht := (flush0_2 t).mp hf
  have hlt := lt4 t
  have h9 : ((cfg0.win 2).blk t).view.emb y = ix2 (col t (y 0)) (y 1) := by
    unfold col
    blk_ext [idx t]
  rw [h9]
  blk_simp
  rw [after0_2]
  exact total m c t ht y

end Cert.Kernel10Ideal.Final

namespace Cert.Reference10Ideal.At

open Cert.Reference10Ideal Cert.Reference10Ideal.Read Cert.Prod

/-- The reference's gradient is the same product. -/
theorem value (x0 : S8192x512.Idx → EReal) (x1 : S8192x1024.Idx → EReal) : val_main_v5 (F := Ideal) x0 x1 = tmul x0 x1 := by
  funext i
  obtain ⟨e, k, rfl⟩ : ∃ (e : Fin 512) (k : Fin 1024), i = ix2 e k := ⟨i 0, i 1, ValueIdx.eq_ix2 i⟩
  unfold val_main_v5 val_main_v4 val_main_v3 val_main_v1
  pointwise
  exact Finset.sum_congr rfl fun r _ => rfl

end Cert.Reference10Ideal.At

namespace Cert.DwInU

open Cert.Kernel10Ideal.Final

/-- The reference terminates and leaves its arguments unchanged; it has no counters. -/
theorem frame_reference : Cert.quiescent_Reference10Ideal := fun m ρ _ =>
  (θ_run Cert.Reference10Ideal.defs _ _).mono (fun r h => ⟨fun c => (h c).2,
    Idealize.ShloMosaic.sem_eq_zero_of_no_sems (by decide) r.2⟩) (Cert.Reference10Ideal.Value.run m ρ)

/-- Kernel and reference end with equal results. -/
theorem algebraic : Cert.algebraic_Kernel10Ideal_Reference10Ideal := by
  intro m ρ m' ρ' hpre hag
  refine ⟨fun c => Cert.Prod.tmul (m (c.tc.loc Cert.Kernel10Ideal.main_arg0)) (m (c.tc.loc Cert.Kernel10Ideal.main_arg1)),
    (θ_run Cert.Kernel10Ideal.defs _ _).mono (fun r h c => ?_) (Cert.Kernel10Ideal.Value.run_blocks m ρ),
    (θ_run Cert.Reference10Ideal.defs _ _).mono (fun r h c => ?_) (Cert.Reference10Ideal.Value.run m' ρ')⟩
  · obtain ⟨h0, k0, k1⟩ := h c
    exact ⟨h0.trans (arr2 m c), k0, k1⟩
  · obtain ⟨h0, k0, k1⟩ := h c
    obtain ⟨e0, e1⟩ := hag c
    refine ⟨h0.trans ((Cert.Reference10Ideal.Read.val_main_v5_eq _ _).trans ?_), k0, k1⟩
    rw [e0, e1]
    exact Cert.Reference10Ideal.At.value _ _

end Cert.DwInU

end
-- ==== Proof.DwInMq.Final.lean ====
/-
  The memory queries' columns of the input projection's weight gradient: kernel and reference end with equal results.
-/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.Prod.Math
public import Idealize.ShloMosaic.Lib.Pipeline.ReadBack

@[expose] public section

set_option maxRecDepth 16384

noncomputable section

open Idealize.ShloMosaic Idealize.ShloMosaic.TcCoe Idealize.SL.Sem
open scoped BigOperators

namespace Cert.Kernel11Ideal.Final

open Cert.Kernel11Ideal Cert.Kernel11Ideal.Gen Cert.Prod

variable (m : (ℓ : Loc nD τ sig) → Buf (Elt Ideal) ℓ)

/-- Where each window's block of point `t` begins. -/
theorem idx : ∀ t : Fin cfg0.N,
    win0_0.index t = ![t.val % 4, t.val / 4] ∧ win0_1.index t = ![t.val % 4, 0] ∧ win0_2.index t = ![t.val / 4, 0] :=
  (by decide +kernel : ∀ t : Fin grid0.N, _)

/-- The grid has 4 points. -/
theorem lt4 (t : Fin cfg0.N) : t.val < 4 := lt_of_lt_of_eq t.isLt (show cfg0.N = 4 from N_0)

/-- Row `r` of the contraction's tile at point `t`. -/
def row (t : Fin cfg0.N) (r : Fin 2048) : Fin 8192 := ⟨2048 * (t.val % 4) + r.val, by omega⟩

/-- Column `e` of the result's tile at point `t`. -/
def col (t : Fin cfg0.N) (e : Fin 512) : Fin 512 := ⟨512 * (t.val / 4) + e.val, by have := lt4 t; omega⟩

/-- The left factor. -/
abbrev fa (c : Dev nD) : S8192x512.Idx → EReal := m ((c : Thread nD τ).loc main_arg0)
/-- The right factor. -/
abbrev fb (c : Dev nD) : S8192x1024.Idx → EReal := m ((c : Thread nD τ).loc main_arg1)

/-- The left factor's tile. -/
theorem blk0 (c : Dev nD) (t : Fin cfg0.N) (r : Fin 2048) (e : Fin 512) :
    (iblk m c 0 t : Vec Ideal S2048x512 .bf16) (ix2 r e) = fa m c (ix2 (row t r) (col t e)) := by
  have := lt4 t
  unfold row col
  blk_ext [iblk, V, idx t]
/-- The right factor's tile. -/
theorem blk1 (c : Dev nD) (t : Fin cfg0.N) (r : Fin 2048) (e : Fin 1024) :
    (iblk m c 1 t : Vec Ideal S2048x1024 .bf16) (ix2 r e) = fb m c (ix2 (row t r) e) := by
  have := lt4 t
  unfold row
  blk_ext [iblk, V, idx t]

/-- The tiles' product. -/
theorem prod (c : Dev nD) (t : Fin cfg0.N) (i : S512x1024.Idx) :
    k0_pay1 (F := Ideal) (iblk m c 0 t) (iblk m c 1 t) i
      = ∑ r : Fin 2048, fa m c (ix2 (row t r) (col t (i 0))) * fb m c (ix2 (row t r) (i 1)) := by
  obtain ⟨e, k, rfl⟩ : ∃ (e : Fin 512) (k : Fin 1024), i = ix2 e k := ⟨i 0, i 1, ValueIdx.eq_ix2 i⟩
  unfold k0_pay1
  pointwise
  refine Finset.sum_congr rfl fun r _ => ?_
  have h0 := blk0 m c t r e
  have h1 := blk1 m c t r k
  rw [h0, h1]
/-- The first tile's product starts the accumulator. -/
theorem pay2 (c : Dev nD) (t : Fin cfg0.N) (i : S512x1024.Idx) :
    k0_pay2 (F := Ideal) (iblk m c 0 t) (iblk m c 1 t) i = k0_pay1 (F := Ideal) (iblk m c 0 t) (iblk m c 1 t) i := by
  obtain ⟨e, k, rfl⟩ : ∃ (e : Fin 512) (k : Fin 1024), i = ix2 e k := ⟨i 0, i 1, ValueIdx.eq_ix2 i⟩
  unfold k0_pay2
  pointwise
/-- A further tile's product is added to the accumulator. -/
theorem pay3 (c : Dev nD) (t : Fin cfg0.N) (acc : Vec Ideal S512x1024 .f32) (i : S512x1024.Idx) :
    k0_pay3 (F := Ideal) (iblk m c 0 t) (iblk m c 1 t) acc i = acc i + k0_pay1 (F := Ideal) (iblk m c 0 t) (iblk m c 1 t) i := by
  obtain ⟨e, k, rfl⟩ : ∃ (e : Fin 512) (k : Fin 1024), i = ix2 e k := ⟨i 0, i 1, ValueIdx.eq_ix2 i⟩
  unfold k0_pay3
  pointwise
/-- The last tile's product is added to the accumulator in the result. -/
theorem pay4 (c : Dev nD) (t : Fin cfg0.N) (acc : Vec Ideal S512x1024 .f32) (i : S512x1024.Idx) :
    k0_pay4 (F := Ideal) (iblk m c 0 t) (iblk m c 1 t) acc i = acc i + k0_pay1 (F := Ideal) (iblk m c 0 t) (iblk m c 1 t) i := by
  obtain ⟨e, k, rfl⟩ : ∃ (e : Fin 512) (k : Fin 1024), i = ix2 e k := ⟨i 0, i 1, ValueIdx.eq_ix2 i⟩
  unfold k0_pay4
  pointwise

/-- The sum so far after a point: in the accumulator, or at a run's last point in the result. -/
def sofar (c : Dev nD) (n : ℕ) (h : n < cfg0.N) : Vec Ideal S512x1024 .f32 :=
  if n % 4 = 3 then (outsAt0 m c n h).1 else (outsAt0 m c n h).2

/-- A run's first point starts the sum. -/
theorem sofar_first (c : Dev nD) (t : Fin cfg0.N) (h : t.val % 4 = 0) (i : S512x1024.Idx) :
    sofar m c t.val t.isLt i = 0 + k0_pay1 (F := Ideal) (iblk m c 0 t) (iblk m c 1 t) i := by
  unfold sofar
  rw [if_neg (by omega), outsAt0_A m c t h (by omega) (by omega), zero_add]
  frame_out
  exact pay2 m c t i
/-- Every further point adds its product. -/
theorem sofar_step (c : Dev nD) (t : Fin cfg0.N) (h : ¬t.val % 4 = 0) (i : S512x1024.Idx) :
    sofar m c t.val t.isLt i = sofar m c (t.val - 1) (Nat.lt_of_le_of_lt (Nat.sub_le _ _) t.isLt) i
      + k0_pay1 (F := Ideal) (iblk m c 0 t) (iblk m c 1 t) i := by
  unfold sofar
  rw [if_neg (show ¬(t.val - 1) % 4 = 3 by omega)]
  by_cases h2 : t.val % 4 = 3
  · rw [if_pos h2, outsAt0_C m c t h (by omega) h2]
    frame_out
    rw [pay4 m c t, read_unread_whole]
  · rw [if_neg h2, outsAt0_B m c t h (by omega) h2]
    frame_out
    rw [pay3 m c t, read_unread_whole]

/-- At a run's last point the result holds the whole sum. -/
theorem total (c : Dev nD) (t : Fin cfg0.N) (ht : t.val % 4 = 3) (i : S512x1024.Idx) :
    (outsAt0 m c t.val t.isLt).1 i = ∑ k : Fin 8192, fa m c (ix2 k (col t (i 0))) * fb m c (ix2 k (i 1)) := by
  have hs : (outsAt0 m c t.val t.isLt).1 = sofar m c t.val t.isLt := (if_pos ht).symm
  have hlt := lt4 t
  rw [hs, Pipeline.eq_sum_fin_of_reset_step_apply_of_flush (sofar m c) 4 (fun _ => (0 : EReal))
    (fun t (i : S512x1024.Idx) => k0_pay1 (F := Ideal) (iblk m c 0 t) (iblk m c 1 t) i)
    (fun t h i => sofar_first m c t h i) (fun t h i => sofar_step m c t h i) t ht i, zero_add]
  simp only [prod]
  refine Eq.trans (Finset.sum_congr rfl fun s _ => Finset.sum_congr rfl fun r _ => ?_)
    (sum_tiles (S := 4) (n := 2048) rfl (fun s r => ⟨2048 * s.val + r.val, by omega⟩) (fun _ _ => rfl)
      fun k => fa m c (ix2 k (col t (i 0))) * fb m c (ix2 k (i 1)))
  have hr : ∀ h : 4 * (t.val / 4) + s.val < cfg0.N, row ⟨4 * (t.val / 4) + s.val, h⟩ r = ⟨2048 * s.val + r.val, by omega⟩ := fun h =>
    Fin.ext (by show 2048 * ((4 * (t.val / 4) + s.val) % 4) + r.val = 2048 * s.val + r.val; omega)
  have hc : ∀ h : 4 * (t.val / 4) + s.val < cfg0.N, col ⟨4 * (t.val / 4) + s.val, h⟩ (i 0) = col t (i 0) := fun h =>
    Fin.ext (by show 512 * ((4 * (t.val / 4) + s.val) / 4) + (i 0).val = 512 * (t.val / 4) + (i 0).val; omega)
  rw [hr, hc]

/-- The array after the run: the product of the transposed left factor with the right factor. -/
theorem arr2 (c : Dev nD) : (dats m 0 c).arrAt 2 cfg0.N = tmul (fa m c) (fb m c) := by
  refine (dats m 0 c).arrAt_eq_of_covers 2 _ (by decide +kernel) fun t hf y => ?_
  have ht := (flush0_2 t).mp hf
  have hlt := lt4 t
  have h9 : ((cfg0.win 2).blk t).view.emb y = ix2 (col t (y 0)) (y 1) := by
    unfold col
    blk_ext [idx t]
  rw [h9]
  blk_simp
  rw [after0_2]
  exact total m c t ht y

end Cert.Kernel11Ideal.Final

namespace Cert.Reference11Ideal.At

open Cert.Reference11Ideal Cert.Reference11Ideal.Read Cert.Prod

/-- The reference's gradient is the same product. -/
theorem value (x0 : S8192x512.Idx → EReal) (x1 : S8192x1024.Idx → EReal) : val_main_v6 (F := Ideal) x0 x1 = tmul x0 x1 := by
  funext i
  obtain ⟨e, k, rfl⟩ : ∃ (e : Fin 512) (k : Fin 1024), i = ix2 e k := ⟨i 0, i 1, ValueIdx.eq_ix2 i⟩
  unfold val_main_v6 val_main_v5 val_main_v4 val_main_v3 val_main_v1
  pointwise
  exact Finset.sum_congr rfl fun r _ => rfl

end Cert.Reference11Ideal.At

namespace Cert.DwInMq

open Cert.Kernel11Ideal.Final

/-- The reference terminates and leaves its arguments unchanged; it has no counters. -/
theorem frame_reference : Cert.quiescent_Reference11Ideal := fun m ρ _ =>
  (θ_run Cert.Reference11Ideal.defs _ _).mono (fun r h => ⟨fun c => (h c).2,
    Idealize.ShloMosaic.sem_eq_zero_of_no_sems (by decide) r.2⟩) (Cert.Reference11Ideal.Value.run m ρ)

/-- Kernel and reference end with equal results. -/
theorem algebraic : Cert.algebraic_Kernel11Ideal_Reference11Ideal := by
  intro m ρ m' ρ' hpre hag
  refine ⟨fun c => Cert.Prod.tmul (m (c.tc.loc Cert.Kernel11Ideal.main_arg0)) (m (c.tc.loc Cert.Kernel11Ideal.main_arg1)),
    (θ_run Cert.Kernel11Ideal.defs _ _).mono (fun r h c => ?_) (Cert.Kernel11Ideal.Value.run_blocks m ρ),
    (θ_run Cert.Reference11Ideal.defs _ _).mono (fun r h c => ?_) (Cert.Reference11Ideal.Value.run m' ρ')⟩
  · obtain ⟨h0, k0, k1⟩ := h c
    exact ⟨h0.trans (arr2 m c), k0, k1⟩
  · obtain ⟨h0, k0, k1⟩ := h c
    obtain ⟨e0, e1⟩ := hag c
    refine ⟨h0.trans ((Cert.Reference11Ideal.Read.val_main_v6_eq _ _).trans ?_), k0, k1⟩
    rw [e0, e1]
    exact Cert.Reference11Ideal.At.value _ _

end Cert.DwInMq

end
-- ==== Proof.DMerged.Final.lean ====
/-
  The gradient of the merged branches: kernel and reference end with equal results.
-/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import proofs.«01_k».proof.Proof.Prod.Math

@[expose] public section

set_option maxRecDepth 16384

noncomputable section

open Idealize.ShloMosaic Idealize.ShloMosaic.TcCoe Idealize.SL.Sem
open scoped BigOperators

namespace Cert.Kernel12Ideal.Final

open Cert.Kernel12Ideal Cert.Kernel12Ideal.Gen Cert.Prod

variable (m : (ℓ : Loc nD τ sig) → Buf (Elt Ideal) ℓ)

/-- Where each window's block of point `t` begins. -/
theorem idx : ∀ t : Fin cfg0.N,
    win0_0.index t = ![t.val, 0] ∧ win0_1.index t = ![0, 0] ∧ win0_2.index t = ![t.val, 0] :=
  (by decide +kernel : ∀ t : Fin grid0.N, _)

/-- The grid has 8 points. -/
theorem lt8 (t : Fin cfg0.N) : t.val < 8 := lt_of_lt_of_eq t.isLt (show cfg0.N = 8 from N_0)

/-- Row `r` of the tile at point `t`. -/
def row (t : Fin cfg0.N) (r : Fin 1024) : Fin 8192 := ⟨1024 * t.val + r.val, by have := lt8 t; omega⟩

/-- The left factor. -/
abbrev fa (c : Dev nD) : S8192x1024.Idx → EReal := m ((c : Thread nD τ).loc main_arg0)
/-- The right factor. -/
abbrev fb (c : Dev nD) : S1024x1024.Idx → EReal := m ((c : Thread nD τ).loc main_arg1)

/-- The left factor's tile. -/
theorem blk0 (c : Dev nD) (t : Fin cfg0.N) (r : Fin 1024) (e : Fin 1024) :
    (iblk m c 0 t : Vec Ideal S1024x1024 .f32) (ix2 r e) = fa m c (ix2 (row t r) e) := by
  have := lt8 t
  unfold row
  blk_ext [iblk, V, idx t]
/-- The right factor's tile is the whole factor. -/
theorem blk1 (c : Dev nD) (t : Fin cfg0.N) (r : Fin 1024) (e : Fin 1024) :
    (iblk m c 1 t : Vec Ideal S1024x1024 .bf16) (ix2 r e) = fb m c (ix2 r e) := by
  blk_ext [iblk, V, idx t]

/-- The tile's product. -/
theorem pay1 (c : Dev nD) (t : Fin cfg0.N) (i : S1024x1024.Idx) :
    k0_pay1 (F := Ideal) (iblk m c 0 t) (iblk m c 1 t) i
      = ∑ k : Fin 1024, fa m c (ix2 (row t (i 0)) k) * fb m c (ix2 (i 1) k) := by
  obtain ⟨r, e, rfl⟩ : ∃ (r : Fin 1024) (e : Fin 1024), i = ix2 r e := ⟨i 0, i 1, ValueIdx.eq_ix2 i⟩
  unfold k0_pay1
  pointwise
  refine Finset.sum_congr rfl fun k _ => ?_
  have h0 := blk0 m c t r k
  have h1 := blk1 m c t e k
  rw [h0, h1]

/-- The array after the run: the product of the left factor with the transposed right factor. -/
theorem arr2 (c : Dev nD) : (dats m 0 c).arrAt 2 cfg0.N = mult (fa m c) (fb m c) := by
  refine (dats m 0 c).arrAt_eq_of_covers 2 _ (by decide +kernel) fun t hf y => ?_
  have hlt := lt8 t
  have h9 : ((cfg0.win 2).blk t).view.emb y = ix2 (row t (y 0)) (y 1) := by
    unfold row
    blk_ext [idx t]
  rw [h9]
  blk_simp
  rw [after0_2]
  unfold out0_2
  frame_out
  exact pay1 m c t y

end Cert.Kernel12Ideal.Final

namespace Cert.Reference12Ideal.At

open Cert.Reference12Ideal Cert.Reference12Ideal.Read Cert.Prod

/-- The reference's gradient is the same product. -/
theorem value (x0 : S8192x1024.Idx → EReal) (x1 : S1024x1024.Idx → EReal) : val_main_v3 (F := Ideal) x0 x1 = mult x0 x1 := by
  funext i
  obtain ⟨e, k, rfl⟩ : ∃ (e : Fin 8192) (k : Fin 1024), i = ix2 e k := ⟨i 0, i 1, ValueIdx.eq_ix2 i⟩
  unfold val_main_v3 val_main_v1
  pointwise
  rfl

end Cert.Reference12Ideal.At

namespace Cert.DMerged

open Cert.Kernel12Ideal.Final

/-- The reference terminates and leaves its arguments unchanged; it has no counters. -/
theorem frame_reference : Cert.quiescent_Reference12Ideal := fun m ρ _ =>
  (θ_run Cert.Reference12Ideal.defs _ _).mono (fun r h => ⟨fun c => (h c).2,
    Idealize.ShloMosaic.sem_eq_zero_of_no_sems (by decide) r.2⟩) (Cert.Reference12Ideal.Value.run m ρ)

/-- Kernel and reference end with equal results. -/
theorem algebraic : Cert.algebraic_Kernel12Ideal_Reference12Ideal := by
  intro m ρ m' ρ' hpre hag
  refine ⟨fun c => Cert.Prod.mult (m (c.tc.loc Cert.Kernel12Ideal.main_arg0)) (m (c.tc.loc Cert.Kernel12Ideal.main_arg1)),
    (θ_run Cert.Kernel12Ideal.defs _ _).mono (fun r h c => ?_) (Cert.Kernel12Ideal.Value.run_blocks m ρ),
    (θ_run Cert.Reference12Ideal.defs _ _).mono (fun r h c => ?_) (Cert.Reference12Ideal.Value.run m' ρ')⟩
  · obtain ⟨h0, k0, k1⟩ := h c
    exact ⟨h0.trans (arr2 m c), k0, k1⟩
  · obtain ⟨h0, k0, k1⟩ := h c
    obtain ⟨e0, e1⟩ := hag c
    exact ⟨h0.trans ((Cert.Reference12Ideal.Read.val_main_v3_eq _ _).trans (by rw [e0, e1]; exact Cert.Reference12Ideal.At.value _ _)), k0, k1⟩

end Cert.DMerged

end
-- ==== Proof.DwO.Final.lean ====
/-
  The output projection's weight gradient: kernel and reference end with equal results.
-/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import proofs.«01_k».proof.Proof.Prod.Math
public import Idealize.ShloMosaic.Lib.Pipeline.ReadBack

@[expose] public section

set_option maxRecDepth 16384

noncomputable section

open Idealize.ShloMosaic Idealize.ShloMosaic.TcCoe Idealize.SL.Sem
open scoped BigOperators

namespace Cert.Kernel13Ideal.Final

open Cert.Kernel13Ideal Cert.Kernel13Ideal.Gen Cert.Prod

variable (m : (ℓ : Loc nD τ sig) → Buf (Elt Ideal) ℓ)

/-- Where each window's block of point `t` begins. -/
theorem idx : ∀ t : Fin cfg0.N,
    win0_0.index t = ![t.val % 4, t.val / 4] ∧ win0_1.index t = ![t.val % 4, 0] ∧ win0_2.index t = ![t.val / 4, 0] :=
  (by decide +kernel : ∀ t : Fin grid0.N, _)

/-- The grid has 4 points. -/
theorem lt4 (t : Fin cfg0.N) : t.val < 4 := lt_of_lt_of_eq t.isLt (show cfg0.N = 4 from N_0)

/-- Row `r` of the contraction's tile at point `t`. -/
def row (t : Fin cfg0.N) (r : Fin 2048) : Fin 8192 := ⟨2048 * (t.val % 4) + r.val, by omega⟩

/-- Column `e` of the result's tile at point `t`. -/
def col (t : Fin cfg0.N) (e : Fin 1024) : Fin 1024 := ⟨1024 * (t.val / 4) + e.val, by have := lt4 t; omega⟩

/-- The left factor. -/
abbrev fa (c : Dev nD) : S8192x1024.Idx → EReal := m ((c : Thread nD τ).loc main_arg0)
/-- The right factor. -/
abbrev fb (c : Dev nD) : S8192x1024.Idx → EReal := m ((c : Thread nD τ).loc main_arg1)

/-- The left factor's tile. -/
theorem blk0 (c : Dev nD) (t : Fin cfg0.N) (r : Fin 2048) (e : Fin 1024) :
    (iblk m c 0 t : Vec Ideal S2048x1024 .bf16) (ix2 r e) = fa m c (ix2 (row t r) (col t e)) := by
  have := lt4 t
  unfold row col
  blk_ext [iblk, V, idx t]
/-- The right factor's tile. -/
theorem blk1 (c : Dev nD) (t : Fin cfg0.N) (r : Fin 2048) (e : Fin 1024) :
    (iblk m c 1 t : Vec Ideal S2048x1024 .f32) (ix2 r e) = fb m c (ix2 (row t r) e) := by
  have := lt4 t
  unfold row
  blk_ext [iblk, V, idx t]

/-- The tiles' product. -/
theorem prod (c : Dev nD) (t : Fin cfg0.N) (i : S1024x1024.Idx) :
    k0_pay1 (F := Ideal) (iblk m c 0 t) (iblk m c 1 t) i
      = ∑ r : Fin 2048, fa m c (ix2 (row t r) (col t (i 0))) * fb m c (ix2 (row t r) (i 1)) := by
  obtain ⟨e, k, rfl⟩ : ∃ (e : Fin 1024) (k : Fin 1024), i = ix2 e k := ⟨i 0, i 1, ValueIdx.eq_ix2 i⟩
  unfold k0_pay1
  pointwise
  refine Finset.sum_congr rfl fun r _ => ?_
  have h0 := blk0 m c t r e
  have h1 := blk1 m c t r k
  rw [h0, h1]
/-- The first tile's product starts the accumulator. -/
theorem pay2 (c : Dev nD) (t : Fin cfg0.N) (i : S1024x1024.Idx) :
    k0_pay2 (F := Ideal) (iblk m c 0 t) (iblk m c 1 t) i = k0_pay1 (F := Ideal) (iblk m c 0 t) (iblk m c 1 t) i := by
  obtain ⟨e, k, rfl⟩ : ∃ (e : Fin 1024) (k : Fin 1024), i = ix2 e k := ⟨i 0, i 1, ValueIdx.eq_ix2 i⟩
  unfold k0_pay2
  pointwise
/-- A further tile's product is added to the accumulator. -/
theorem pay3 (c : Dev nD) (t : Fin cfg0.N) (acc : Vec Ideal S1024x1024 .f32) (i : S1024x1024.Idx) :
    k0_pay3 (F := Ideal) (iblk m c 0 t) (iblk m c 1 t) acc i = acc i + k0_pay1 (F := Ideal) (iblk m c 0 t) (iblk m c 1 t) i := by
  obtain ⟨e, k, rfl⟩ : ∃ (e : Fin 1024) (k : Fin 1024), i = ix2 e k := ⟨i 0, i 1, ValueIdx.eq_ix2 i⟩
  unfold k0_pay3
  pointwise
/-- The last tile's product is added to the accumulator in the result. -/
theorem pay4 (c : Dev nD) (t : Fin cfg0.N) (acc : Vec Ideal S1024x1024 .f32) (i : S1024x1024.Idx) :
    k0_pay4 (F := Ideal) (iblk m c 0 t) (iblk m c 1 t) acc i = acc i + k0_pay1 (F := Ideal) (iblk m c 0 t) (iblk m c 1 t) i := by
  obtain ⟨e, k, rfl⟩ : ∃ (e : Fin 1024) (k : Fin 1024), i = ix2 e k := ⟨i 0, i 1, ValueIdx.eq_ix2 i⟩
  unfold k0_pay4
  pointwise

/-- The sum so far after a point: in the accumulator, or at a run's last point in the result. -/
def sofar (c : Dev nD) (n : ℕ) (h : n < cfg0.N) : Vec Ideal S1024x1024 .f32 :=
  if n % 4 = 3 then (outsAt0 m c n h).1 else (outsAt0 m c n h).2

/-- A run's first point starts the sum. -/
theorem sofar_first (c : Dev nD) (t : Fin cfg0.N) (h : t.val % 4 = 0) (i : S1024x1024.Idx) :
    sofar m c t.val t.isLt i = 0 + k0_pay1 (F := Ideal) (iblk m c 0 t) (iblk m c 1 t) i := by
  unfold sofar
  rw [if_neg (by omega), outsAt0_A m c t h (by omega) (by omega), zero_add]
  frame_out
  exact pay2 m c t i
/-- Every further point adds its product. -/
theorem sofar_step (c : Dev nD) (t : Fin cfg0.N) (h : ¬t.val % 4 = 0) (i : S1024x1024.Idx) :
    sofar m c t.val t.isLt i = sofar m c (t.val - 1) (Nat.lt_of_le_of_lt (Nat.sub_le _ _) t.isLt) i
      + k0_pay1 (F := Ideal) (iblk m c 0 t) (iblk m c 1 t) i := by
  unfold sofar
  rw [if_neg (show ¬(t.val - 1) % 4 = 3 by omega)]
  by_cases h2 : t.val % 4 = 3
  · rw [if_pos h2, outsAt0_C m c t h (by omega) h2]
    frame_out
    rw [pay4 m c t, read_unread_whole]
  · rw [if_neg h2, outsAt0_B m c t h (by omega) h2]
    frame_out
    rw [pay3 m c t, read_unread_whole]

/-- At a run's last point the result holds the whole sum. -/
theorem total (c : Dev nD) (t : Fin cfg0.N) (ht : t.val % 4 = 3) (i : S1024x1024.Idx) :
    (outsAt0 m c t.val t.isLt).1 i = ∑ k : Fin 8192, fa m c (ix2 k (col t (i 0))) * fb m c (ix2 k (i 1)) := by
  have hs : (outsAt0 m c t.val t.isLt).1 = sofar m c t.val t.isLt := (if_pos ht).symm
  have hlt := lt4 t
  rw [hs, Pipeline.eq_sum_fin_of_reset_step_apply_of_flush (sofar m c) 4 (fun _ => (0 : EReal))
    (fun t (i : S1024x1024.Idx) => k0_pay1 (F := Ideal) (iblk m c 0 t) (iblk m c 1 t) i)
    (fun t h i => sofar_first m c t h i) (fun t h i => sofar_step m c t h i) t ht i, zero_add]
  simp only [prod]
  refine Eq.trans (Finset.sum_congr rfl fun s _ => Finset.sum_congr rfl fun r _ => ?_)
    (sum_tiles (S := 4) (n := 2048) rfl (fun s r => ⟨2048 * s.val + r.val, by omega⟩) (fun _ _ => rfl)
      fun k => fa m c (ix2 k (col t (i 0))) * fb m c (ix2 k (i 1)))
  have hr : ∀ h : 4 * (t.val / 4) + s.val < cfg0.N, row ⟨4 * (t.val / 4) + s.val, h⟩ r = ⟨2048 * s.val + r.val, by omega⟩ := fun h =>
    Fin.ext (by show 2048 * ((4 * (t.val / 4) + s.val) % 4) + r.val = 2048 * s.val + r.val; omega)
  have hc : ∀ h : 4 * (t.val / 4) + s.val < cfg0.N, col ⟨4 * (t.val / 4) + s.val, h⟩ (i 0) = col t (i 0) := fun h =>
    Fin.ext (by show 1024 * ((4 * (t.val / 4) + s.val) / 4) + (i 0).val = 1024 * (t.val / 4) + (i 0).val; omega)
  rw [hr, hc]

/-- The array after the run: the product of the transposed left factor with the right factor. -/
theorem arr2 (c : Dev nD) : (dats m 0 c).arrAt 2 cfg0.N = tmul (fa m c) (fb m c) := by
  refine (dats m 0 c).arrAt_eq_of_covers 2 _ (by decide +kernel) fun t hf y => ?_
  have ht := (flush0_2 t).mp hf
  have hlt := lt4 t
  have h9 : ((cfg0.win 2).blk t).view.emb y = ix2 (col t (y 0)) (y 1) := by
    unfold col
    blk_ext [idx t]
  rw [h9]
  blk_simp
  rw [after0_2]
  exact total m c t ht y

end Cert.Kernel13Ideal.Final

namespace Cert.Reference13Ideal.At

open Cert.Reference13Ideal Cert.Reference13Ideal.Read Cert.Prod

/-- The reference's gradient is the same product. -/
theorem value (x0 : S8192x1024.Idx → EReal) (x1 : S8192x1024.Idx → EReal) : val_main_v4 (F := Ideal) x0 x1 = tmul x0 x1 := by
  funext i
  obtain ⟨e, k, rfl⟩ : ∃ (e : Fin 1024) (k : Fin 1024), i = ix2 e k := ⟨i 0, i 1, ValueIdx.eq_ix2 i⟩
  unfold val_main_v4 val_main_v3 val_main_v1
  pointwise
  exact Finset.sum_congr rfl fun r _ => mul_comm _ _

end Cert.Reference13Ideal.At

namespace Cert.DwO

open Cert.Kernel13Ideal.Final

/-- The reference terminates and leaves its arguments unchanged; it has no counters. -/
theorem frame_reference : Cert.quiescent_Reference13Ideal := fun m ρ _ =>
  (θ_run Cert.Reference13Ideal.defs _ _).mono (fun r h => ⟨fun c => (h c).2,
    Idealize.ShloMosaic.sem_eq_zero_of_no_sems (by decide) r.2⟩) (Cert.Reference13Ideal.Value.run m ρ)

/-- Kernel and reference end with equal results. -/
theorem algebraic : Cert.algebraic_Kernel13Ideal_Reference13Ideal := by
  intro m ρ m' ρ' hpre hag
  refine ⟨fun c => Cert.Prod.tmul (m (c.tc.loc Cert.Kernel13Ideal.main_arg0)) (m (c.tc.loc Cert.Kernel13Ideal.main_arg1)),
    (θ_run Cert.Kernel13Ideal.defs _ _).mono (fun r h c => ?_) (Cert.Kernel13Ideal.Value.run_blocks m ρ),
    (θ_run Cert.Reference13Ideal.defs _ _).mono (fun r h c => ?_) (Cert.Reference13Ideal.Value.run m' ρ')⟩
  · obtain ⟨h0, k0, k1⟩ := h c
    exact ⟨h0.trans (arr2 m c), k0, k1⟩
  · obtain ⟨h0, k0, k1⟩ := h c
    obtain ⟨e0, e1⟩ := hag c
    refine ⟨h0.trans ((Cert.Reference13Ideal.Read.val_main_v4_eq _ _).trans ?_), k0, k1⟩
    rw [e0, e1]
    exact Cert.Reference13Ideal.At.value _ _

end Cert.DwO

end
-- ==== Proof.DwGlu.Final.lean ====
/-
  The gated unit's weight gradient: kernel and reference end with equal results.
-/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.Prod.Math
public import Idealize.ShloMosaic.Lib.Pipeline.ReadBack

@[expose] public section

set_option maxRecDepth 16384

noncomputable section

open Idealize.ShloMosaic Idealize.ShloMosaic.TcCoe Idealize.SL.Sem
open scoped BigOperators

namespace Cert.Kernel14Ideal.Final

open Cert.Kernel14Ideal Cert.Kernel14Ideal.Gen Cert.Prod

variable (m : (ℓ : Loc nD τ sig) → Buf (Elt Ideal) ℓ)

/-- Where each window's block of point `t` begins. -/
theorem idx : ∀ t : Fin cfg0.N,
    win0_0.index t = ![t.val % 8, t.val / 8] ∧ win0_1.index t = ![t.val % 8, 0] ∧ win0_2.index t = ![t.val / 8, 0] :=
  (by decide +kernel : ∀ t : Fin grid0.N, _)

/-- The grid has 8 points. -/
theorem lt8 (t : Fin cfg0.N) : t.val < 8 := lt_of_lt_of_eq t.isLt (show cfg0.N = 8 from N_0)

/-- Row `r` of the contraction's tile at point `t`. -/
def row (t : Fin cfg0.N) (r : Fin 1024) : Fin 8192 := ⟨1024 * (t.val % 8) + r.val, by omega⟩

/-- Column `e` of the result's tile at point `t`. -/
def col (t : Fin cfg0.N) (e : Fin 512) : Fin 512 := ⟨512 * (t.val / 8) + e.val, by have := lt8 t; omega⟩

/-- The left factor. -/
abbrev fa (c : Dev nD) : S8192x512.Idx → EReal := m ((c : Thread nD τ).loc main_arg0)
/-- The right factor. -/
abbrev fb (c : Dev nD) : S8192x512.Idx → EReal := m ((c : Thread nD τ).loc main_arg1)

/-- The left factor's tile. -/
theorem blk0 (c : Dev nD) (t : Fin cfg0.N) (r : Fin 1024) (e : Fin 512) :
    (iblk m c 0 t : Vec Ideal S1024x512 .bf16) (ix2 r e) = fa m c (ix2 (row t r) (col t e)) := by
  have := lt8 t
  unfold row col
  blk_ext [iblk, V, idx t]
/-- The right factor's tile. -/
theorem blk1 (c : Dev nD) (t : Fin cfg0.N) (r : Fin 1024) (e : Fin 512) :
    (iblk m c 1 t : Vec Ideal S1024x512 .bf16) (ix2 r e) = fb m c (ix2 (row t r) e) := by
  have := lt8 t
  unfold row
  blk_ext [iblk, V, idx t]

/-- The tiles' product. -/
theorem prod (c : Dev nD) (t : Fin cfg0.N) (i : S512x512.Idx) :
    k0_pay1 (F := Ideal) (iblk m c 0 t) (iblk m c 1 t) i
      = ∑ r : Fin 1024, fa m c (ix2 (row t r) (col t (i 0))) * fb m c (ix2 (row t r) (i 1)) := by
  obtain ⟨e, k, rfl⟩ : ∃ (e : Fin 512) (k : Fin 512), i = ix2 e k := ⟨i 0, i 1, ValueIdx.eq_ix2 i⟩
  unfold k0_pay1
  pointwise
  refine Finset.sum_congr rfl fun r _ => ?_
  have h0 := blk0 m c t r e
  have h1 := blk1 m c t r k
  rw [h0, h1]
/-- The first tile's product starts the accumulator. -/
theorem pay2 (c : Dev nD) (t : Fin cfg0.N) (i : S512x512.Idx) :
    k0_pay2 (F := Ideal) (iblk m c 0 t) (iblk m c 1 t) i = k0_pay1 (F := Ideal) (iblk m c 0 t) (iblk m c 1 t) i := by
  obtain ⟨e, k, rfl⟩ : ∃ (e : Fin 512) (k : Fin 512), i = ix2 e k := ⟨i 0, i 1, ValueIdx.eq_ix2 i⟩
  unfold k0_pay2
  pointwise
/-- A further tile's product is added to the accumulator. -/
theorem pay3 (c : Dev nD) (t : Fin cfg0.N) (acc : Vec Ideal S512x512 .f32) (i : S512x512.Idx) :
    k0_pay3 (F := Ideal) (iblk m c 0 t) (iblk m c 1 t) acc i = acc i + k0_pay1 (F := Ideal) (iblk m c 0 t) (iblk m c 1 t) i := by
  obtain ⟨e, k, rfl⟩ : ∃ (e : Fin 512) (k : Fin 512), i = ix2 e k := ⟨i 0, i 1, ValueIdx.eq_ix2 i⟩
  unfold k0_pay3
  pointwise
/-- The last tile's product is added to the accumulator in the result. -/
theorem pay4 (c : Dev nD) (t : Fin cfg0.N) (acc : Vec Ideal S512x512 .f32) (i : S512x512.Idx) :
    k0_pay4 (F := Ideal) (iblk m c 0 t) (iblk m c 1 t) acc i = acc i + k0_pay1 (F := Ideal) (iblk m c 0 t) (iblk m c 1 t) i := by
  obtain ⟨e, k, rfl⟩ : ∃ (e : Fin 512) (k : Fin 512), i = ix2 e k := ⟨i 0, i 1, ValueIdx.eq_ix2 i⟩
  unfold k0_pay4
  pointwise

/-- The sum so far after a point: in the accumulator, or at a run's last point in the result. -/
def sofar (c : Dev nD) (n : ℕ) (h : n < cfg0.N) : Vec Ideal S512x512 .f32 :=
  if n % 8 = 7 then (outsAt0 m c n h).1 else (outsAt0 m c n h).2

/-- A run's first point starts the sum. -/
theorem sofar_first (c : Dev nD) (t : Fin cfg0.N) (h : t.val % 8 = 0) (i : S512x512.Idx) :
    sofar m c t.val t.isLt i = 0 + k0_pay1 (F := Ideal) (iblk m c 0 t) (iblk m c 1 t) i := by
  unfold sofar
  rw [if_neg (by omega), outsAt0_A m c t h (by omega) (by omega), zero_add]
  frame_out
  exact pay2 m c t i
/-- Every further point adds its product. -/
theorem sofar_step (c : Dev nD) (t : Fin cfg0.N) (h : ¬t.val % 8 = 0) (i : S512x512.Idx) :
    sofar m c t.val t.isLt i = sofar m c (t.val - 1) (Nat.lt_of_le_of_lt (Nat.sub_le _ _) t.isLt) i
      + k0_pay1 (F := Ideal) (iblk m c 0 t) (iblk m c 1 t) i := by
  unfold sofar
  rw [if_neg (show ¬(t.val - 1) % 8 = 7 by omega)]
  by_cases h2 : t.val % 8 = 7
  · rw [if_pos h2, outsAt0_C m c t h (by omega) h2]
    frame_out
    rw [pay4 m c t, read_unread_whole]
  · rw [if_neg h2, outsAt0_B m c t h (by omega) h2]
    frame_out
    rw [pay3 m c t, read_unread_whole]

/-- At a run's last point the result holds the whole sum. -/
theorem total (c : Dev nD) (t : Fin cfg0.N) (ht : t.val % 8 = 7) (i : S512x512.Idx) :
    (outsAt0 m c t.val t.isLt).1 i = ∑ k : Fin 8192, fa m c (ix2 k (col t (i 0))) * fb m c (ix2 k (i 1)) := by
  have hs : (outsAt0 m c t.val t.isLt).1 = sofar m c t.val t.isLt := (if_pos ht).symm
  have hlt := lt8 t
  rw [hs, Pipeline.eq_sum_fin_of_reset_step_apply_of_flush (sofar m c) 8 (fun _ => (0 : EReal))
    (fun t (i : S512x512.Idx) => k0_pay1 (F := Ideal) (iblk m c 0 t) (iblk m c 1 t) i)
    (fun t h i => sofar_first m c t h i) (fun t h i => sofar_step m c t h i) t ht i, zero_add]
  simp only [prod]
  refine Eq.trans (Finset.sum_congr rfl fun s _ => Finset.sum_congr rfl fun r _ => ?_)
    (sum_tiles (S := 8) (n := 1024) rfl (fun s r => ⟨1024 * s.val + r.val, by omega⟩) (fun _ _ => rfl)
      fun k => fa m c (ix2 k (col t (i 0))) * fb m c (ix2 k (i 1)))
  have hr : ∀ h : 8 * (t.val / 8) + s.val < cfg0.N, row ⟨8 * (t.val / 8) + s.val, h⟩ r = ⟨1024 * s.val + r.val, by omega⟩ := fun h =>
    Fin.ext (by show 1024 * ((8 * (t.val / 8) + s.val) % 8) + r.val = 1024 * s.val + r.val; omega)
  have hc : ∀ h : 8 * (t.val / 8) + s.val < cfg0.N, col ⟨8 * (t.val / 8) + s.val, h⟩ (i 0) = col t (i 0) := fun h =>
    Fin.ext (by show 512 * ((8 * (t.val / 8) + s.val) / 8) + (i 0).val = 512 * (t.val / 8) + (i 0).val; omega)
  rw [hr, hc]

/-- The array after the run: the product of the transposed left factor with the right factor. -/
theorem arr2 (c : Dev nD) : (dats m 0 c).arrAt 2 cfg0.N = tmul (fa m c) (fb m c) := by
  refine (dats m 0 c).arrAt_eq_of_covers 2 _ (by decide +kernel) fun t hf y => ?_
  have ht := (flush0_2 t).mp hf
  have hlt := lt8 t
  have h9 : ((cfg0.win 2).blk t).view.emb y = ix2 (col t (y 0)) (y 1) := by
    unfold col
    blk_ext [idx t]
  rw [h9]
  blk_simp
  rw [after0_2]
  exact total m c t ht y

end Cert.Kernel14Ideal.Final

namespace Cert.Reference14Ideal.At

open Cert.Reference14Ideal Cert.Reference14Ideal.Read Cert.Prod

/-- The reference's gradient is the same product. -/
theorem value (x0 : S8192x512.Idx → EReal) (x1 : S8192x512.Idx → EReal) : val_main_v5 (F := Ideal) x0 x1 = tmul x0 x1 := by
  funext i
  obtain ⟨e, k, rfl⟩ : ∃ (e : Fin 512) (k : Fin 512), i = ix2 e k := ⟨i 0, i 1, ValueIdx.eq_ix2 i⟩
  unfold val_main_v5 val_main_v4 val_main_v3 val_main_v1
  pointwise
  exact Finset.sum_congr rfl fun r _ => mul_comm _ _

end Cert.Reference14Ideal.At

namespace Cert.DwGlu

open Cert.Kernel14Ideal.Final

/-- The reference terminates and leaves its arguments unchanged; it has no counters. -/
theorem frame_reference : Cert.quiescent_Reference14Ideal := fun m ρ _ =>
  (θ_run Cert.Reference14Ideal.defs _ _).mono (fun r h => ⟨fun c => (h c).2,
    Idealize.ShloMosaic.sem_eq_zero_of_no_sems (by decide) r.2⟩) (Cert.Reference14Ideal.Value.run m ρ)

/-- Kernel and reference end with equal results. -/
theorem algebraic : Cert.algebraic_Kernel14Ideal_Reference14Ideal := by
  intro m ρ m' ρ' hpre hag
  refine ⟨fun c => Cert.Prod.tmul (m (c.tc.loc Cert.Kernel14Ideal.main_arg0)) (m (c.tc.loc Cert.Kernel14Ideal.main_arg1)),
    (θ_run Cert.Kernel14Ideal.defs _ _).mono (fun r h c => ?_) (Cert.Kernel14Ideal.Value.run_blocks m ρ),
    (θ_run Cert.Reference14Ideal.defs _ _).mono (fun r h c => ?_) (Cert.Reference14Ideal.Value.run m' ρ')⟩
  · obtain ⟨h0, k0, k1⟩ := h c
    exact ⟨h0.trans (arr2 m c), k0, k1⟩
  · obtain ⟨h0, k0, k1⟩ := h c
    obtain ⟨e0, e1⟩ := hag c
    refine ⟨h0.trans ((Cert.Reference14Ideal.Read.val_main_v5_eq _ _).trans ?_), k0, k1⟩
    rw [e0, e1]
    exact Cert.Reference14Ideal.At.value _ _

end Cert.DwGlu

end
-- ==== Proof.InProj.Final.lean ====
/-
  The input projections: kernel and reference end with equal results.
-/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import proofs.«01_k».proof.Proof.Prod.Math

@[expose] public section

set_option maxRecDepth 16384

noncomputable section

open Idealize.ShloMosaic Idealize.ShloMosaic.TcCoe Idealize.SL.Sem
open scoped BigOperators

namespace Cert.InProj

/-- The columns of a product that begin at column `o`. -/
def part {M K N : ℕ} (w o : ℕ) (h : o + w ≤ N) (a : Shape.Idx ⟨2, ![M, K]⟩ → EReal) (b : Shape.Idx ⟨2, ![K, N]⟩ → EReal) :
    Shape.Idx ⟨2, ![M, w]⟩ → EReal :=
  fun i => Cert.Prod.mul a b (ix2 (i 0) ⟨o + (i 1).val, lt_of_lt_of_le (Nat.add_lt_add_left (i 1).isLt o) h⟩)

end Cert.InProj

namespace Cert.Kernel15Ideal.Final

open Cert.Kernel15Ideal Cert.Kernel15Ideal.Gen Cert.Prod

variable (m : (ℓ : Loc nD τ sig) → Buf (Elt Ideal) ℓ)

/-- Where each window's block of point `t` begins. -/
theorem idx : ∀ t : Fin cfg0.N,
    win0_0.index t = ![t.val, 0] ∧ win0_1.index t = ![0, 0] ∧ win0_2.index t = ![t.val, 0]
      ∧ win0_3.index t = ![t.val, 0] ∧ win0_4.index t = ![t.val, 0] ∧ win0_5.index t = ![t.val, 0] :=
  (by decide +kernel : ∀ t : Fin grid0.N, _)

/-- The grid has 16 points. -/
theorem lt16 (t : Fin cfg0.N) : t.val < 16 := lt_of_lt_of_eq t.isLt (show cfg0.N = 16 from N_0)

/-- Row `r` of the tile at point `t`. -/
def row (t : Fin cfg0.N) (r : Fin 512) : Fin 8192 := ⟨512 * t.val + r.val, by have := lt16 t; omega⟩

/-- The normalised rows. -/
abbrev fa (c : Dev nD) : S8192x1024.Idx → EReal := m ((c : Thread nD τ).loc main_arg0)
/-- The weights. -/
abbrev fb (c : Dev nD) : S1024x6400.Idx → EReal := m ((c : Thread nD τ).loc main_arg1)

/-- The rows' tile. -/
theorem blk0 (c : Dev nD) (t : Fin cfg0.N) (r : Fin 512) (e : Fin 1024) :
    (iblk m c 0 t : Vec Ideal S512x1024 .bf16) (ix2 r e) = fa m c (ix2 (row t r) e) := by
  have := lt16 t
  unfold row
  blk_ext [iblk, V, idx t]
/-- The transposed weights are staged whole. -/
theorem blk1 (c : Dev nD) (t : Fin cfg0.N) (r : Fin 6400) (e : Fin 1024) :
    (iblk m c 1 t : Vec Ideal S6400x1024 .bf16) (ix2 r e) = fb m c (ix2 e r) := by
  have := lt16 t
  blk_point [iblk, V, idx t]

/-- The product of two blocks. -/
theorem prod2 (x0 : Vec Ideal S512x1024 .bf16) (x1 : Vec Ideal S512x1024 .bf16) (r : Fin 512) (e : Fin 512) :
    k0_pay1 (F := Ideal) x0 x1 (ix2 r e) = ∑ k : Fin 1024, ((x0 (ix2 r k) : EReal) * (x1 (ix2 e k) : EReal) : EReal) := by
  unfold k0_pay1
  pointwise
/-- The tile of the result of window 2. -/
theorem pay2 (c : Dev nD) (t : Fin cfg0.N) (i : S512x512.Idx) :
    k0_pay1 (F := Ideal) (iblk m c 0 t) (View.ld (iblk m c 1 t) r0_1) i
      = InProj.part 512 0 (by omega) (fa m c) (fb m c) (ix2 (row t (i 0)) (i 1)) := by
  obtain ⟨r, e, rfl⟩ : ∃ (r : Fin 512) (e : Fin 512), i = ix2 r e := ⟨i 0, i 1, ValueIdx.eq_ix2 i⟩
  have hv : ∀ k : Fin 1024, (View.ld (iblk m c 1 t) r0_1 : Vec Ideal S512x1024 .bf16) (ix2 e k)
      = (iblk m c 1 t : Vec Ideal S6400x1024 .bf16) (ix2 ⟨0 + e.val, by omega⟩ k) := fun k => by
    unfold View.ld
    blk_ext []
    · show 0 + 1 * e.val = _
      omega
    · show 0 + 1 * k.val = _
      omega
  refine (prod2 (iblk m c 0 t) (View.ld (iblk m c 1 t) r0_1) r e).trans ?_
  show _ = ∑ k : Fin 1024, fa m c (ix2 (row t r) k) * fb m c (ix2 k ⟨0 + e.val, by omega⟩)
  refine Finset.sum_congr rfl fun k _ => ?_
  exact congrArg₂ (fun a b : EReal => a * b) (blk0 m c t r k) ((hv k).trans (blk1 m c t _ k))

/-- The array of window 2 after the run. -/
theorem arr2 (c : Dev nD) : (dats m 0 c).arrAt 2 cfg0.N = InProj.part 512 0 (by omega) (fa m c) (fb m c) := by
  refine (dats m 0 c).arrAt_eq_of_covers 2 _ (by decide +kernel) fun t hf y => ?_
  have hlt := lt16 t
  have h9 : ((cfg0.win 2).blk t).view.emb y = ix2 (row t (y 0)) (y 1) := by
    unfold row
    blk_ext [idx t]
  rw [h9]
  blk_simp
  rw [after0_2]
  unfold out0_2
  frame_out
  exact pay2 m c t y

/-- The product of two blocks. -/
theorem prod3 (x0 : Vec Ideal S512x1024 .bf16) (x1 : Vec Ideal S2304x1024 .bf16) (r : Fin 512) (e : Fin 2304) :
    k0_pay2 (F := Ideal) x0 x1 (ix2 r e) = ∑ k : Fin 1024, ((x0 (ix2 r k) : EReal) * (x1 (ix2 e k) : EReal) : EReal) := by
  unfold k0_pay2
  pointwise
/-- The tile of the result of window 3. -/
theorem pay3 (c : Dev nD) (t : Fin cfg0.N) (i : S512x2304.Idx) :
    k0_pay2 (F := Ideal) (iblk m c 0 t) (View.ld (iblk m c 1 t) r0_3) i
      = InProj.part 2304 512 (by omega) (fa m c) (fb m c) (ix2 (row t (i 0)) (i 1)) := by
  obtain ⟨r, e, rfl⟩ : ∃ (r : Fin 512) (e : Fin 2304), i = ix2 r e := ⟨i 0, i 1, ValueIdx.eq_ix2 i⟩
  have hv : ∀ k : Fin 1024, (View.ld (iblk m c 1 t) r0_3 : Vec Ideal S2304x1024 .bf16) (ix2 e k)
      = (iblk m c 1 t : Vec Ideal S6400x1024 .bf16) (ix2 ⟨512 + e.val, by omega⟩ k) := fun k => by
    unfold View.ld
    blk_ext []
    · show 512 + 1 * e.val = _
      omega
    · show 0 + 1 * k.val = _
      omega
  refine (prod3 (iblk m c 0 t) (View.ld (iblk m c 1 t) r0_3) r e).trans ?_
  show _ = ∑ k : Fin 1024, fa m c (ix2 (row t r) k) * fb m c (ix2 k ⟨512 + e.val, by omega⟩)
  refine Finset.sum_congr rfl fun k _ => ?_
  exact congrArg₂ (fun a b : EReal => a * b) (blk0 m c t r k) ((hv k).trans (blk1 m c t _ k))

/-- The array of window 3 after the run. -/
theorem arr3 (c : Dev nD) : (dats m 0 c).arrAt 3 cfg0.N = InProj.part 2304 512 (by omega) (fa m c) (fb m c) := by
  refine (dats m 0 c).arrAt_eq_of_covers 3 _ (by decide +kernel) fun t hf y => ?_
  have hlt := lt16 t
  have h9 : ((cfg0.win 3).blk t).view.emb y = ix2 (row t (y 0)) (y 1) := by
    unfold row
    blk_ext [idx t]
  rw [h9]
  blk_simp
  rw [after0_3]
  unfold out0_3
  frame_out
  exact pay3 m c t y

/-- The product of two blocks. -/
theorem prod4 (x0 : Vec Ideal S512x1024 .bf16) (x1 : Vec Ideal S512x1024 .bf16) (r : Fin 512) (e : Fin 512) :
    k0_pay3 (F := Ideal) x0 x1 (ix2 r e) = ∑ k : Fin 1024, ((x0 (ix2 r k) : EReal) * (x1 (ix2 e k) : EReal) : EReal) := by
  unfold k0_pay3
  pointwise
/-- The tile of the result of window 4. -/
theorem pay4 (c : Dev nD) (t : Fin cfg0.N) (i : S512x512.Idx) :
    k0_pay3 (F := Ideal) (iblk m c 0 t) (View.ld (iblk m c 1 t) r0_5) i
      = InProj.part 512 2816 (by omega) (fa m c) (fb m c) (ix2 (row t (i 0)) (i 1)) := by
  obtain ⟨r, e, rfl⟩ : ∃ (r : Fin 512) (e : Fin 512), i = ix2 r e := ⟨i 0, i 1, ValueIdx.eq_ix2 i⟩
  have hv : ∀ k : Fin 1024, (View.ld (iblk m c 1 t) r0_5 : Vec Ideal S512x1024 .bf16) (ix2 e k)
      = (iblk m c 1 t : Vec Ideal S6400x1024 .bf16) (ix2 ⟨2816 + e.val, by omega⟩ k) := fun k => by
    unfold View.ld
    blk_ext []
    · show 2816 + 1 * e.val = _
      omega
    · show 0 + 1 * k.val = _
      omega
  refine (prod4 (iblk m c 0 t) (View.ld (iblk m c 1 t) r0_5) r e).trans ?_
  show _ = ∑ k : Fin 1024, fa m c (ix2 (row t r) k) * fb m c (ix2 k ⟨2816 + e.val, by omega⟩)
  refine Finset.sum_congr rfl fun k _ => ?_
  exact congrArg₂ (fun a b : EReal => a * b) (blk0 m c t r k) ((hv k).trans (blk1 m c t _ k))

/-- The array of window 4 after the run. -/
theorem arr4 (c : Dev nD) : (dats m 0 c).arrAt 4 cfg0.N = InProj.part 512 2816 (by omega) (fa m c) (fb m c) := by
  refine (dats m 0 c).arrAt_eq_of_covers 4 _ (by decide +kernel) fun t hf y => ?_
  have hlt := lt16 t
  have h9 : ((cfg0.win 4).blk t).view.emb y = ix2 (row t (y 0)) (y 1) := by
    unfold row
    blk_ext [idx t]
  rw [h9]
  blk_simp
  rw [after0_4]
  unfold out0_4
  frame_out
  exact pay4 m c t y

/-- The product of two blocks. -/
theorem prod5 (x0 : Vec Ideal S512x1024 .bf16) (x1 : Vec Ideal S3072x1024 .bf16) (r : Fin 512) (e : Fin 3072) :
    k0_pay4 (F := Ideal) x0 x1 (ix2 r e) = ∑ k : Fin 1024, ((x0 (ix2 r k) : EReal) * (x1 (ix2 e k) : EReal) : EReal) := by
  unfold k0_pay4
  pointwise
/-- The tile of the result of window 5. -/
theorem pay5 (c : Dev nD) (t : Fin cfg0.N) (i : S512x3072.Idx) :
    k0_pay4 (F := Ideal) (iblk m c 0 t) (View.ld (iblk m c 1 t) r0_6) i
      = InProj.part 3072 3328 (by omega) (fa m c) (fb m c) (ix2 (row t (i 0)) (i 1)) := by
  obtain ⟨r, e, rfl⟩ : ∃ (r : Fin 512) (e : Fin 3072), i = ix2 r e := ⟨i 0, i 1, ValueIdx.eq_ix2 i⟩
  have hv : ∀ k : Fin 1024, (View.ld (iblk m c 1 t) r0_6 : Vec Ideal S3072x1024 .bf16) (ix2 e k)
      = (iblk m c 1 t : Vec Ideal S6400x1024 .bf16) (ix2 ⟨3328 + e.val, by omega⟩ k) := fun k => by
    unfold View.ld
    blk_ext []
    · show 3328 + 1 * e.val = _
      omega
    · show 0 + 1 * k.val = _
      omega
  refine (prod5 (iblk m c 0 t) (View.ld (iblk m c 1 t) r0_6) r e).trans ?_
  show _ = ∑ k : Fin 1024, fa m c (ix2 (row t r) k) * fb m c (ix2 k ⟨3328 + e.val, by omega⟩)
  refine Finset.sum_congr rfl fun k _ => ?_
  exact congrArg₂ (fun a b : EReal => a * b) (blk0 m c t r k) ((hv k).trans (blk1 m c t _ k))

/-- The array of window 5 after the run. -/
theorem arr5 (c : Dev nD) : (dats m 0 c).arrAt 5 cfg0.N = InProj.part 3072 3328 (by omega) (fa m c) (fb m c) := by
  refine (dats m 0 c).arrAt_eq_of_covers 5 _ (by decide +kernel) fun t hf y => ?_
  have hlt := lt16 t
  have h9 : ((cfg0.win 5).blk t).view.emb y = ix2 (row t (y 0)) (y 1) := by
    unfold row
    blk_ext [idx t]
  rw [h9]
  blk_simp
  rw [after0_5]
  unfold out0_5
  frame_out
  exact pay5 m c t y

end Cert.Kernel15Ideal.Final

namespace Cert.Reference15Ideal.At

open Cert.Reference15Ideal Cert.Reference15Ideal.Read Cert.Prod

/-- The whole product. -/
theorem whole (x0 : S8192x1024.Idx → EReal) (x1 : S1024x6400.Idx → EReal) (e : Fin 8192) (k : Fin 6400) :
    val_main_v2 (F := Ideal) x0 x1 (ix2 e k) = Cert.Prod.mul x0 x1 (ix2 e k) := by
  unfold val_main_v2 val_main_v1 val_main_v0
  pointwise
  rfl
/-- The reference's columns from 0 on are the same. -/
theorem value2 (x0 : S8192x1024.Idx → EReal) (x1 : S1024x6400.Idx → EReal) : val_main_v3 (F := Ideal) x0 x1 = InProj.part 512 0 (by omega) x0 x1 := by
  funext i
  obtain ⟨e, k, rfl⟩ : ∃ (e : Fin 8192) (k : Fin 512), i = ix2 e k := ⟨i 0, i 1, ValueIdx.eq_ix2 i⟩
  unfold val_main_v3
  pointwise
  rw [whole]
  exact congrArg (fun j => Cert.Prod.mul x0 x1 (ix2 e j)) (Fin.ext (by simp))
/-- The reference's columns from 512 on are the same. -/
theorem value3 (x0 : S8192x1024.Idx → EReal) (x1 : S1024x6400.Idx → EReal) : val_main_v9 (F := Ideal) x0 x1 = InProj.part 2304 512 (by omega) x0 x1 := by
  funext i
  obtain ⟨e, k, rfl⟩ : ∃ (e : Fin 8192) (k : Fin 2304), i = ix2 e k := ⟨i 0, i 1, ValueIdx.eq_ix2 i⟩
  unfold val_main_v9 val_main_v4 val_main_v5 val_main_v6
  pointwise
  have hc : ∀ j : Fin 6400, j.val = 512 + k.val → val_main_v2 (F := Ideal) x0 x1 (ix2 e j) = InProj.part 2304 512 (by omega) x0 x1 (ix2 e k) :=
    fun j hj => (whole x0 x1 e j).trans (congrArg (fun j => Cert.Prod.mul x0 x1 (ix2 e j)) (Fin.ext hj))
  split_ifs
  all_goals first
    | exact hc _ rfl
    | exact hc _ (by show 1280 + (k.val - 768) = _; omega)
    | exact hc _ (by show 2048 + (k.val - 768 - 768) = _; omega)
    | simp_all
/-- The reference's columns from 2816 on are the same. -/
theorem value4 (x0 : S8192x1024.Idx → EReal) (x1 : S1024x6400.Idx → EReal) : val_main_v7 (F := Ideal) x0 x1 = InProj.part 512 2816 (by omega) x0 x1 := by
  funext i
  obtain ⟨e, k, rfl⟩ : ∃ (e : Fin 8192) (k : Fin 512), i = ix2 e k := ⟨i 0, i 1, ValueIdx.eq_ix2 i⟩
  unfold val_main_v7
  pointwise
  rw [whole]
  exact congrArg (fun j => Cert.Prod.mul x0 x1 (ix2 e j)) (Fin.ext (by simp))
/-- The reference's columns from 3328 on are the same. -/
theorem value5 (x0 : S8192x1024.Idx → EReal) (x1 : S1024x6400.Idx → EReal) : val_main_v8 (F := Ideal) x0 x1 = InProj.part 3072 3328 (by omega) x0 x1 := by
  funext i
  obtain ⟨e, k, rfl⟩ : ∃ (e : Fin 8192) (k : Fin 3072), i = ix2 e k := ⟨i 0, i 1, ValueIdx.eq_ix2 i⟩
  unfold val_main_v8
  pointwise
  rw [whole]
  exact congrArg (fun j => Cert.Prod.mul x0 x1 (ix2 e j)) (Fin.ext (by simp))

end Cert.Reference15Ideal.At

namespace Cert.InProj

open Cert.Kernel15Ideal.Final

/-- The reference terminates and leaves its arguments unchanged; it has no counters. -/
theorem frame_reference : Cert.quiescent_Reference15Ideal := fun m ρ _ =>
  (θ_run Cert.Reference15Ideal.defs _ _).mono (fun r h => ⟨fun c => ((((h c).2).2).2).2,
    Idealize.ShloMosaic.sem_eq_zero_of_no_sems (by decide) r.2⟩) (Cert.Reference15Ideal.Value.run m ρ)

/-- Kernel and reference end with equal results. -/
theorem algebraic : Cert.algebraic_Kernel15Ideal_Reference15Ideal := by
  intro m ρ m' ρ' hpre hag
  refine ⟨fun c => Cert.InProj.part 512 0 (by omega) (m (c.tc.loc Cert.Kernel15Ideal.main_arg0)) (m (c.tc.loc Cert.Kernel15Ideal.main_arg1)), fun c => Cert.InProj.part 2304 512 (by omega) (m (c.tc.loc Cert.Kernel15Ideal.main_arg0)) (m (c.tc.loc Cert.Kernel15Ideal.main_arg1)), fun c => Cert.InProj.part 512 2816 (by omega) (m (c.tc.loc Cert.Kernel15Ideal.main_arg0)) (m (c.tc.loc Cert.Kernel15Ideal.main_arg1)), fun c => Cert.InProj.part 3072 3328 (by omega) (m (c.tc.loc Cert.Kernel15Ideal.main_arg0)) (m (c.tc.loc Cert.Kernel15Ideal.main_arg1)),
    (θ_run Cert.Kernel15Ideal.defs _ _).mono (fun r h c => ?_) (Cert.Kernel15Ideal.Value.run_blocks m ρ),
    (θ_run Cert.Reference15Ideal.defs _ _).mono (fun r h c => ?_) (Cert.Reference15Ideal.Value.run m' ρ')⟩
  · obtain ⟨h0, h1, h2, h3, k0, k1⟩ := h c
    exact ⟨h0.trans (arr2 m c), h1.trans (arr3 m c), h2.trans (arr4 m c), h3.trans (arr5 m c), k0, k1⟩
  · obtain ⟨h0, h1, h2, h3, k0, k1⟩ := h c
    obtain ⟨e0, e1⟩ := hag c
    exact ⟨h0.trans ((Cert.Reference15Ideal.Read.val_main_v3_eq _ _).trans (by rw [e0, e1]; exact Cert.Reference15Ideal.At.value2 _ _)), h1.trans ((Cert.Reference15Ideal.Read.val_main_v9_eq _ _).trans (by rw [e0, e1]; exact Cert.Reference15Ideal.At.value3 _ _)), h2.trans ((Cert.Reference15Ideal.Read.val_main_v7_eq _ _).trans (by rw [e0, e1]; exact Cert.Reference15Ideal.At.value4 _ _)), h3.trans ((Cert.Reference15Ideal.Read.val_main_v8_eq _ _).trans (by rw [e0, e1]; exact Cert.Reference15Ideal.At.value5 _ _)), k0, k1⟩

end Cert.InProj

end
-- ==== Proof.MlpUp.Final.lean ====
/-
  The gated unit's first product and the square of its positive part: kernel and reference end with equal results.
-/
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import proofs.«01_k».proof.Proof.Prod.Math

@[expose] public section

set_option maxRecDepth 16384

noncomputable section

open Idealize.ShloMosaic Idealize.ShloMosaic.TcCoe Idealize.SL.Sem
open scoped BigOperators

namespace Cert.MlpUp

/-- The square of the positive part of a product. -/
def up {n k d : ℕ} (a : Shape.Idx ⟨2, ![n, d]⟩ → EReal) (b : Shape.Idx ⟨2, ![d, k]⟩ → EReal) : Shape.Idx ⟨2, ![n, k]⟩ → EReal :=
  fun i => max (Cert.Prod.mul a b i) 0 * max (Cert.Prod.mul a b i) 0

end Cert.MlpUp

namespace Cert.Kernel16Ideal.Final

open Cert.Kernel16Ideal Cert.Kernel16Ideal.Gen Cert.Prod

variable (m : (ℓ : Loc nD τ sig) → Buf (Elt Ideal) ℓ)

/-- Where each window's block of point `t` begins. -/
theorem idx : ∀ t : Fin cfg0.N,
    win0_0.index t = ![t.val, 0] ∧ win0_1.index t = ![0, 0] ∧ win0_2.index t = ![t.val, 0] :=
  (by decide +kernel : ∀ t : Fin grid0.N, _)

/-- The grid has 16 points. -/
theorem lt16 (t : Fin cfg0.N) : t.val < 16 := lt_of_lt_of_eq t.isLt (show cfg0.N = 16 from N_0)

/-- Row `r` of the tile at point `t`. -/
def row (t : Fin cfg0.N) (r : Fin 512) : Fin 8192 := ⟨512 * t.val + r.val, by have := lt16 t; omega⟩

/-- The normalised rows. -/
abbrev fa (c : Dev nD) : S8192x1024.Idx → EReal := m ((c : Thread nD τ).loc main_arg0)
/-- The weights. -/
abbrev fb (c : Dev nD) : S1024x4096.Idx → EReal := m ((c : Thread nD τ).loc main_arg1)

/-- The rows' tile. -/
theorem blk0 (c : Dev nD) (t : Fin cfg0.N) (r : Fin 512) (e : Fin 1024) :
    (iblk m c 0 t : Vec Ideal S512x1024 .bf16) (ix2 r e) = fa m c (ix2 (row t r) e) := by
  have := lt16 t
  unfold row
  blk_ext [iblk, V, idx t]
/-- The transposed weights are staged whole. -/
theorem blk1 (c : Dev nD) (t : Fin cfg0.N) (r : Fin 4096) (e : Fin 1024) :
    (iblk m c 1 t : Vec Ideal S4096x1024 .bf16) (ix2 r e) = fb m c (ix2 e r) := by
  have := lt16 t
  blk_point [iblk, V, idx t]

/-- The tile's values. -/
theorem pay1 (c : Dev nD) (t : Fin cfg0.N) (i : S512x4096.Idx) :
    k0_pay1 (F := Ideal) (iblk m c 0 t) (iblk m c 1 t) i = MlpUp.up (fa m c) (fb m c) (ix2 (row t (i 0)) (i 1)) := by
  obtain ⟨r, e, rfl⟩ : ∃ (r : Fin 512) (e : Fin 4096), i = ix2 r e := ⟨i 0, i 1, ValueIdx.eq_ix2 i⟩
  unfold k0_pay1
  pointwise
  refine congrArg (fun a : EReal => max a 0 * max a 0) (Finset.sum_congr rfl fun k _ => ?_)
  exact congrArg₂ (fun a b : EReal => a * b) (blk0 m c t r k) (blk1 m c t e k)

/-- The array after the run. -/
theorem arr2 (c : Dev nD) : (dats m 0 c).arrAt 2 cfg0.N = MlpUp.up (fa m c) (fb m c) := by
  refine (dats m 0 c).arrAt_eq_of_covers 2 _ (by decide +kernel) fun t hf y => ?_
  have hlt := lt16 t
  have h9 : ((cfg0.win 2).blk t).view.emb y = ix2 (row t (y 0)) (y 1) := by
    unfold row
    blk_ext [idx t]
  rw [h9]
  blk_simp
  rw [after0_2]
  unfold out0_2
  frame_out
  exact pay1 m c t y

end Cert.Kernel16Ideal.Final

namespace Cert.Reference16Ideal.At

open Cert.Reference16Ideal Cert.Reference16Ideal.Read Cert.Prod

/-- The reference's values are the same. -/
theorem value (x0 : S8192x1024.Idx → EReal) (x1 : S1024x4096.Idx → EReal) : val_main_v5 (F := Ideal) x0 x1 = MlpUp.up x0 x1 := by
  funext i
  obtain ⟨e, k, rfl⟩ : ∃ (e : Fin 8192) (k : Fin 4096), i = ix2 e k := ⟨i 0, i 1, ValueIdx.eq_ix2 i⟩
  unfold val_main_v5 val_main_v4 val_main_v3 val_main_v2 val_main_v0 val_main_v1 val_main_call0_v0 val_main_call0_cst
  pointwise
  rfl

end Cert.Reference16Ideal.At

namespace Cert.MlpUp

open Cert.Kernel16Ideal.Final

/-- The reference terminates and leaves its arguments unchanged; it has no counters. -/
theorem frame_reference : Cert.quiescent_Reference16Ideal := fun m ρ _ =>
  (θ_run Cert.Reference16Ideal.defs _ _).mono (fun r h => ⟨fun c => (h c).2,
    Idealize.ShloMosaic.sem_eq_zero_of_no_sems (by decide) r.2⟩) (Cert.Reference16Ideal.Value.run m ρ)

/-- Kernel and reference end with equal results. -/
theorem algebraic : Cert.algebraic_Kernel16Ideal_Reference16Ideal := by
  intro m ρ m' ρ' hpre hag
  refine ⟨fun c => Cert.MlpUp.up (m (c.tc.loc Cert.Kernel16Ideal.main_arg0)) (m (c.tc.loc Cert.Kernel16Ideal.main_arg1)),
    (θ_run Cert.Kernel16Ideal.defs _ _).mono (fun r h c => ?_) (Cert.Kernel16Ideal.Value.run_blocks m ρ),
    (θ_run Cert.Reference16Ideal.defs _ _).mono (fun r h c => ?_) (Cert.Reference16Ideal.Value.run m' ρ')⟩
  · obtain ⟨h0, k0, k1⟩ := h c
    exact ⟨h0.trans (arr2 m c), k0, k1⟩
  · obtain ⟨h0, k0, k1⟩ := h c
    obtain ⟨e0, e1⟩ := hag c
    exact ⟨h0.trans ((Cert.Reference16Ideal.Read.val_main_v5_eq _ _).trans (by rw [e0, e1]; exact Cert.Reference16Ideal.At.value _ _)), k0, k1⟩

end Cert.MlpUp

end
-- ==== Proof.MlpDown.Final.lean ====
/-
  The second projection of the MLP with the loss and the gradient through the final norm: kernel and reference end with equal results.
-/
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import proofs.«01_k».proof.Proof.Prod.Math
public import proofs.«01_k».proof.Proof.Prod.Norm

@[expose] public section

set_option maxRecDepth 16384

noncomputable section

open Idealize.ShloMosaic Idealize.ShloMosaic.TcCoe Idealize.SL.Sem
open scoped BigOperators

namespace Cert.MlpDown

/-- The scale of the loss's gradient, `2⁻¹⁰`. -/
abbrev scale : EReal := Ideal.ofBits .f32 0x3A800000#32

/-- One half over the row's length, times twice the difference, is the difference times the scale. -/
theorem scale_eq (d : EReal) :
    Ideal.div (Ideal.ofBits .f32 0x3F000000#32) (Ideal.ofBits .f32 0x44800000#32)
      * (Ideal.ofBits .f32 0x40000000#32 * d) = d * scale := by
  have h1 : Ideal.ofBits .f32 0x3F000000#32 = ((1 / 2 : ℝ) : EReal) := by
    simp [Ideal.ofBits, Ideal.ieee]; norm_num [← EReal.coe_mul]
  have h3 : Ideal.ofBits .f32 0x44800000#32 = ((1024 : ℝ) : EReal) := by
    simp [Ideal.ofBits, Ideal.ieee]; norm_num [← EReal.coe_mul]
  have h4 : Ideal.ofBits .f32 0x40000000#32 = ((2 : ℝ) : EReal) := by
    simp [Ideal.ofBits, Ideal.ieee]; norm_num [← EReal.coe_mul]
  have h5 : Ideal.ofBits .f32 0x3A800000#32 = ((1 / 1024 : ℝ) : EReal) := by
    simp [Ideal.ofBits, Ideal.ieee]; norm_num [← EReal.coe_mul]
  rw [scale, h1, h3, h4, h5, Ideal.div_coe (by norm_num), ← mul_assoc, mul_comm d]
  refine congrArg (fun a : EReal => a * d) ?_
  rw [← EReal.coe_mul, ← EReal.coe_mul]
  norm_num

/-- The block's output: the product added to what bypasses it. -/
def out {n : ℕ} (a : Shape.Idx ⟨2, ![n, 4096]⟩ → EReal) (b : Shape.Idx ⟨2, ![4096, 1024]⟩ → EReal) (h : Shape.Idx ⟨2, ![n, 1024]⟩ → EReal) :
    Shape.Idx ⟨2, ![n, 1024]⟩ → EReal := fun i => Prod.mul a b i + h i
/-- The normalised and scaled output less the target. -/
def diff {n : ℕ} (x t : Shape.Idx ⟨2, ![n, 1024]⟩ → EReal) (g : Shape.Idx ⟨2, ![1, 1024]⟩ → EReal) :
    Shape.Idx ⟨2, ![n, 1024]⟩ → EReal := fun i => x i * (Norm.rrms fun k => x (ix2 (i 0) k)) * g (ix2 0 (i 1)) - t i
/-- The loss's gradient by the prediction. -/
def cot {n : ℕ} (x t : Shape.Idx ⟨2, ![n, 1024]⟩ → EReal) (g : Shape.Idx ⟨2, ![1, 1024]⟩ → EReal) :
    Shape.Idx ⟨2, ![n, 1024]⟩ → EReal := fun i => diff x t g i * scale
/-- The loss's gradient by the block's output. -/
def rows {n : ℕ} (x t : Shape.Idx ⟨2, ![n, 1024]⟩ → EReal) (g : Shape.Idx ⟨2, ![1, 1024]⟩ → EReal) :
    Shape.Idx ⟨2, ![n, 1024]⟩ → EReal :=
  fun i => Norm.grad (fun k => x (ix2 (i 0) k)) (fun k => cot x t g (ix2 (i 0) k) * g (ix2 0 k)) (i 1)
/-- The columns' sums of the squared error. -/
def err {n : ℕ} (x t : Shape.Idx ⟨2, ![n, 1024]⟩ → EReal) (g : Shape.Idx ⟨2, ![1, 1024]⟩ → EReal) :
    Shape.Idx ⟨2, ![1, 1024]⟩ → EReal := fun i => ∑ r : Fin n, diff x t g (ix2 r (i 1)) * diff x t g (ix2 r (i 1))

end Cert.MlpDown

namespace Cert.Kernel17Ideal.Final

open Cert.Kernel17Ideal Cert.Kernel17Ideal.Gen Cert.Prod

variable (m : (ℓ : Loc nD τ sig) → Buf (Elt Ideal) ℓ)

/-- Where each window's block of point `t` begins. -/
theorem idx : ∀ t : Fin cfg0.N,
    win0_0.index t = ![t.val, 0] ∧ win0_1.index t = ![0, 0] ∧ win0_2.index t = ![t.val, 0] ∧ win0_3.index t = ![t.val, 0] ∧ win0_4.index t = ![0, 0] ∧ win0_5.index t = ![t.val, 0] ∧ win0_6.index t = ![0, 0] ∧ win0_7.index t = ![0, 0] :=
  (by decide +kernel : ∀ t : Fin grid0.N, _)

/-- The grid has 16 points. -/
theorem lt16 (t : Fin cfg0.N) : t.val < 16 := lt_of_lt_of_eq t.isLt (show cfg0.N = 16 from N_0)

/-- Row `r` of the tile at point `t`. -/
def row (t : Fin cfg0.N) (r : Fin 512) : Fin 8192 := ⟨512 * t.val + r.val, by have := lt16 t; omega⟩

/-- The activations. -/
abbrev fa (c : Dev nD) : S8192x4096.Idx → EReal := m ((c : Thread nD τ).loc main_arg0)
/-- The weights. -/
abbrev fb (c : Dev nD) : S4096x1024.Idx → EReal := m ((c : Thread nD τ).loc main_arg1)
/-- What bypasses the product. -/
abbrev fh (c : Dev nD) : S8192x1024.Idx → EReal := m ((c : Thread nD τ).loc main_arg2)
/-- The target. -/
abbrev ft (c : Dev nD) : S8192x1024.Idx → EReal := m ((c : Thread nD τ).loc main_arg3)
/-- The gain. -/
abbrev fg (c : Dev nD) : S1x1024.Idx → EReal := m ((c : Thread nD τ).loc main_arg4)
/-- The block's output. -/
abbrev fx (c : Dev nD) : S8192x1024.Idx → EReal := MlpDown.out (fa m c) (fb m c) (fh m c)

/-- The tile of window 0. -/
theorem blk0 (c : Dev nD) (t : Fin cfg0.N) (r : Fin 512) (e : Fin 4096) :
    (iblk m c 0 t : Vec Ideal S512x4096 .bf16) (ix2 r e) = fa m c (ix2 (row t r) e) := by
  have := lt16 t
  unfold row
  blk_ext [iblk, V, idx t]
/-- The tile of window 2. -/
theorem blk2 (c : Dev nD) (t : Fin cfg0.N) (r : Fin 512) (e : Fin 1024) :
    (iblk m c 2 t : Vec Ideal S512x1024 .f32) (ix2 r e) = fh m c (ix2 (row t r) e) := by
  have := lt16 t
  unfold row
  blk_ext [iblk, V, idx t]
/-- The tile of window 3. -/
theorem blk3 (c : Dev nD) (t : Fin cfg0.N) (r : Fin 512) (e : Fin 1024) :
    (iblk m c 3 t : Vec Ideal S512x1024 .f32) (ix2 r e) = ft m c (ix2 (row t r) e) := by
  have := lt16 t
  unfold row
  blk_ext [iblk, V, idx t]
/-- The weights are staged whole. -/
theorem blk1 (c : Dev nD) (t : Fin cfg0.N) (r : Fin 4096) (e : Fin 1024) :
    (iblk m c 1 t : Vec Ideal S4096x1024 .bf16) (ix2 r e) = fb m c (ix2 r e) := by
  blk_ext [iblk, V, idx t]
/-- The gain is staged whole. -/
theorem blk4 (c : Dev nD) (t : Fin cfg0.N) (r : Fin 1) (e : Fin 1024) :
    (iblk m c 4 t : Vec Ideal S1x1024 .f32) (ix2 r e) = fg m c (ix2 r e) := by
  blk_ext [iblk, V, idx t]

section Tile

variable (a : Vec Ideal S512x4096 .bf16) (b : Vec Ideal S4096x1024 .bf16) (h y : Vec Ideal S512x1024 .f32) (g : Vec Ideal S1x1024 .f32)

/-- A tile's output. -/
theorem pay3 (r : Fin 512) (e : Fin 1024) : k0_pay3 (F := Ideal) a b h (ix2 r e) = MlpDown.out a b h (ix2 r e) := by
  unfold k0_pay3
  pointwise
  rfl
/-- A tile's reciprocal roots. -/
theorem pay4 (r : Fin 512) (z : Fin 1) : k0_pay4 (F := Ideal) a b h (ix2 r z) = Norm.rrms fun k => MlpDown.out a b h (ix2 r k) := by
  unfold k0_pay4
  pointwise
  simp only [pay3]
  rfl
/-- A tile's normalised rows. -/
theorem pay5 (r : Fin 512) (e : Fin 1024) :
    k0_pay5 (F := Ideal) a b h (ix2 r e) = MlpDown.out a b h (ix2 r e) * Norm.rrms fun k => MlpDown.out a b h (ix2 r k) := by
  unfold k0_pay5
  pointwise
  rw [pay3, pay4]
/-- A tile's error. -/
theorem pay6 (r : Fin 512) (e : Fin 1024) : k0_pay6 (F := Ideal) a b h y g (ix2 r e) = MlpDown.diff (MlpDown.out a b h) y g (ix2 r e) := by
  unfold k0_pay6
  pointwise
  rw [pay5]
  rfl
/-- A tile's cotangent. -/
theorem pay7 (r : Fin 512) (e : Fin 1024) : k0_pay7 (F := Ideal) a b h y g (ix2 r e) = MlpDown.cot (MlpDown.out a b h) y g (ix2 r e) := by
  unfold k0_pay7
  pointwise
  rw [pay6]
  rfl
/-- A tile's gradient. -/
theorem pay8 (r : Fin 512) (e : Fin 1024) : k0_pay8 (F := Ideal) a b h y g (ix2 r e) = MlpDown.rows (MlpDown.out a b h) y g (ix2 r e) := by
  unfold k0_pay8
  pointwise
  simp only [pay4, pay5, pay7]
  rfl
/-- A tile's sums for the gain. -/
theorem pay9 (z : Fin 1) (e : Fin 1024) :
    k0_pay9 (F := Ideal) a b h y g (ix2 z e)
      = Norm.gain (n := 512) (MlpDown.out a b h) (MlpDown.cot (MlpDown.out a b h) y g) (ix2 z e) := by
  unfold k0_pay9
  pointwise
  simp only [pay5, pay7]
  rfl
/-- A tile's sums of the squared error. -/
theorem pay10 (z : Fin 1) (e : Fin 1024) :
    k0_pay10 (F := Ideal) a b h y g (ix2 z e) = MlpDown.err (n := 512) (MlpDown.out a b h) y g (ix2 z e) := by
  unfold k0_pay10
  pointwise
  simp only [pay6]
  rfl

end Tile

/-- The output of point `t`'s tile. -/
theorem out_tile (c : Dev nD) (t : Fin cfg0.N) (r : Fin 512) (e : Fin 1024) :
    MlpDown.out (n := 512) (iblk m c 0 t) (iblk m c 1 t) (iblk m c 2 t) (ix2 r e) = fx m c (ix2 (row t r) e) := by
  have hp : Prod.mul (M := 512) (K := 4096) (N := 1024) (iblk m c 0 t) (iblk m c 1 t) (ix2 r e) = Prod.mul (fa m c) (fb m c) (ix2 (row t r) e) :=
    Finset.sum_congr rfl fun k _ => congrArg₂ (fun a b : EReal => a * b) (blk0 m c t r k) (blk1 m c t k e)
  exact congrArg₂ (fun a b : EReal => a + b) hp (blk2 m c t r e)
/-- The error of point `t`'s tile. -/
theorem diff_tile (c : Dev nD) (t : Fin cfg0.N) (r : Fin 512) (e : Fin 1024) :
    MlpDown.diff (n := 512) (MlpDown.out (iblk m c 0 t) (iblk m c 1 t) (iblk m c 2 t)) (iblk m c 3 t) (iblk m c 4 t) (ix2 r e)
      = MlpDown.diff (fx m c) (ft m c) (fg m c) (ix2 (row t r) e) := by
  have hr : (fun k => MlpDown.out (n := 512) (iblk m c 0 t) (iblk m c 1 t) (iblk m c 2 t) (ix2 r k)) = fun k => fx m c (ix2 (row t r) k) :=
    funext fun k => out_tile m c t r k
  exact congrArg₂ (fun a b : EReal => a - b) (congrArg₂ (fun a b : EReal => a * b)
    (congrArg₂ (fun a b : EReal => a * b) (out_tile m c t r e) (congrArg Norm.rrms hr)) (blk4 m c t 0 e)) (blk3 m c t r e)

/-- The tile's gradient. -/
theorem pay8t (c : Dev nD) (t : Fin cfg0.N) (i : S512x1024.Idx) :
    k0_pay8 (F := Ideal) (iblk m c 0 t) (iblk m c 1 t) (iblk m c 2 t) (iblk m c 3 t) (iblk m c 4 t) i
      = MlpDown.rows (fx m c) (ft m c) (fg m c) (ix2 (row t (i 0)) (i 1)) := by
  obtain ⟨r, e, rfl⟩ : ∃ (r : Fin 512) (e : Fin 1024), i = ix2 r e := ⟨i 0, i 1, ValueIdx.eq_ix2 i⟩
  refine (pay8 _ _ _ _ _ r e).trans ?_
  have hx : (fun k => MlpDown.out (n := 512) (iblk m c 0 t) (iblk m c 1 t) (iblk m c 2 t) (ix2 r k)) = fun k => fx m c (ix2 (row t r) k) :=
    funext fun k => out_tile m c t r k
  have hd : (fun k => MlpDown.cot (n := 512) (MlpDown.out (iblk m c 0 t) (iblk m c 1 t) (iblk m c 2 t)) (iblk m c 3 t) (iblk m c 4 t) (ix2 r k)
        * (iblk m c 4 t : Vec Ideal S1x1024 .f32) (ix2 0 k))
      = fun k => MlpDown.cot (fx m c) (ft m c) (fg m c) (ix2 (row t r) k) * fg m c (ix2 0 k) :=
    funext fun k => congrArg₂ (fun a b : EReal => a * MlpDown.scale * b) (diff_tile m c t r k) (blk4 m c t 0 k)
  exact congrArg₂ (fun x d => Norm.grad x d e) hx hd
/-- The tile's sums for the gain. -/
theorem pay9t (c : Dev nD) (t : Fin cfg0.N) (i : S1x1024.Idx) :
    k0_pay9 (F := Ideal) (iblk m c 0 t) (iblk m c 1 t) (iblk m c 2 t) (iblk m c 3 t) (iblk m c 4 t) i
      = ∑ r : Fin 512, MlpDown.cot (fx m c) (ft m c) (fg m c) (ix2 (row t r) (i 1)) * (fx m c (ix2 (row t r) (i 1)) * Norm.rrms fun k => fx m c (ix2 (row t r) k)) := by
  obtain ⟨z, e, rfl⟩ : ∃ (z : Fin 1) (e : Fin 1024), i = ix2 z e := ⟨i 0, i 1, ValueIdx.eq_ix2 i⟩
  refine (pay9 _ _ _ _ _ z e).trans (Finset.sum_congr rfl fun r _ => ?_)
  have hr : (fun k => MlpDown.out (n := 512) (iblk m c 0 t) (iblk m c 1 t) (iblk m c 2 t) (ix2 r k)) = fun k => fx m c (ix2 (row t r) k) :=
    funext fun k => out_tile m c t r k
  exact congrArg₂ (fun a b : EReal => a * b) (congrArg (fun a : EReal => a * MlpDown.scale) (diff_tile m c t r e))
    (congrArg₂ (fun a b : EReal => a * b) (out_tile m c t r e) (congrArg Norm.rrms hr))
/-- The tile's sums of the squared error. -/
theorem pay10t (c : Dev nD) (t : Fin cfg0.N) (i : S1x1024.Idx) :
    k0_pay10 (F := Ideal) (iblk m c 0 t) (iblk m c 1 t) (iblk m c 2 t) (iblk m c 3 t) (iblk m c 4 t) i
      = ∑ r : Fin 512, MlpDown.diff (fx m c) (ft m c) (fg m c) (ix2 (row t r) (i 1)) * MlpDown.diff (fx m c) (ft m c) (fg m c) (ix2 (row t r) (i 1)) := by
  obtain ⟨z, e, rfl⟩ : ∃ (z : Fin 1) (e : Fin 1024), i = ix2 z e := ⟨i 0, i 1, ValueIdx.eq_ix2 i⟩
  refine (pay10 _ _ _ _ _ z e).trans (Finset.sum_congr rfl fun r _ => ?_)
  exact congrArg₂ (fun a b : EReal => a * b) (diff_tile m c t r e) (diff_tile m c t r e)

/-- A further tile's sums for the gain are added. -/
theorem pay1 (v : FVec Ideal S1x1024 .f32) (acc : Vec Ideal S1x1024 .f32) (i : S1x1024.Idx) :
    k0_pay1 (F := Ideal) v acc i = acc i + v i := by
  obtain ⟨z, e, rfl⟩ : ∃ (z : Fin 1) (e : Fin 1024), i = ix2 z e := ⟨i 0, i 1, ValueIdx.eq_ix2 i⟩
  unfold k0_pay1
  pointwise
/-- A further tile's sums of the squared error are added. -/
theorem pay2 (v : FVec Ideal S1x1024 .f32) (acc : Vec Ideal S1x1024 .f32) (i : S1x1024.Idx) :
    k0_pay2 (F := Ideal) v acc i = acc i + v i := by
  obtain ⟨z, e, rfl⟩ : ∃ (z : Fin 1) (e : Fin 1024), i = ix2 z e := ⟨i 0, i 1, ValueIdx.eq_ix2 i⟩
  unfold k0_pay2
  pointwise

/-- The rows after a point. -/
theorem rows_at (c : Dev nD) (t : Fin cfg0.N) (i : S512x1024.Idx) :
    (outsAt0 m c t.val t.isLt).1 i = MlpDown.rows (fx m c) (ft m c) (fg m c) (ix2 (row t (i 0)) (i 1)) := by
  have hlt := lt16 t
  by_cases h : t.val = 0
  · rw [outsAt0_A m c t (by omega) (by omega) (by omega) (by omega)]
    frame_out
    exact pay8t m c t i
  · rw [outsAt0_B m c t (by omega) (by omega) (by omega) (by omega)]
    frame_out
    exact pay8t m c t i

/-- Point `t`'s sums for the gain. -/
abbrev gains (c : Dev nD) (t : Fin cfg0.N) : FVec Ideal S1x1024 .f32 :=
  k0_pay9 (F := Ideal) (iblk m c 0 t) (iblk m c 1 t) (iblk m c 2 t) (iblk m c 3 t) (iblk m c 4 t)
/-- The first point starts the sums for the gain. -/
theorem gain_first (c : Dev nD) (t : Fin cfg0.N) (h : t.val = 0) (i : S1x1024.Idx) :
    (outsAt0 m c t.val t.isLt).2.1 i = 0 + gains m c t i := by
  rw [outsAt0_A m c t (by omega) (by omega) (by omega) (by omega), zero_add]
  frame_out
/-- Every further point adds its sums for the gain. -/
theorem gain_step (c : Dev nD) (t : Fin cfg0.N) (h : ¬t.val = 0) (i : S1x1024.Idx) :
    (outsAt0 m c t.val t.isLt).2.1 i = (outsAt0 m c (t.val - 1) (Nat.lt_of_le_of_lt (Nat.sub_le _ _) t.isLt)).2.1 i + gains m c t i := by
  have hlt := lt16 t
  rw [outsAt0_B m c t (by omega) (by omega) (by omega) (by omega)]
  frame_out
  exact pay1 _ _ i
/-- At the last point the result holds the whole sums for the gain. -/
theorem gain_total (c : Dev nD) (t : Fin cfg0.N) (ht : t.val = 15) (i : S1x1024.Idx) :
    (outsAt0 m c t.val t.isLt).2.1 i = Norm.gain (fx m c) (MlpDown.cot (fx m c) (ft m c) (fg m c)) i := by
  have hlt := lt16 t
  rw [Pipeline.eq_sum_fin_of_reset_step_apply_last (fun n h => (outsAt0 m c n h).2.1) 16 (fun _ => (0 : EReal))
    (fun t (i : S1x1024.Idx) => gains m c t i)
    (fun t h i => gain_first m c t (by have := lt16 t; omega) i) (fun t h i => gain_step m c t (by omega) i) (by rw [show cfg0.N = 16 from N_0]) t (by rw [ht, show cfg0.N = 16 from N_0]) i, zero_add]
  simp only [gains, pay9t]
  exact sum_tiles (S := 16) (n := 512) rfl (fun s r => row ⟨s.val, lt_of_lt_of_eq s.isLt N_0.symm⟩ r) (fun _ _ => rfl)
    fun r => MlpDown.cot (fx m c) (ft m c) (fg m c) (ix2 r (i 1)) * (fx m c (ix2 r (i 1)) * Norm.rrms fun k => fx m c (ix2 r k))

/-- Point `t`'s sums of the squared error. -/
abbrev errs (c : Dev nD) (t : Fin cfg0.N) : FVec Ideal S1x1024 .f32 :=
  k0_pay10 (F := Ideal) (iblk m c 0 t) (iblk m c 1 t) (iblk m c 2 t) (iblk m c 3 t) (iblk m c 4 t)
/-- The first point starts the sums of the squared error. -/
theorem err_first (c : Dev nD) (t : Fin cfg0.N) (h : t.val = 0) (i : S1x1024.Idx) :
    (outsAt0 m c t.val t.isLt).2.2 i = 0 + errs m c t i := by
  rw [outsAt0_A m c t (by omega) (by omega) (by omega) (by omega), zero_add]
  frame_out
/-- Every further point adds its sums of the squared error. -/
theorem err_step (c : Dev nD) (t : Fin cfg0.N) (h : ¬t.val = 0) (i : S1x1024.Idx) :
    (outsAt0 m c t.val t.isLt).2.2 i = (outsAt0 m c (t.val - 1) (Nat.lt_of_le_of_lt (Nat.sub_le _ _) t.isLt)).2.2 i + errs m c t i := by
  have hlt := lt16 t
  rw [outsAt0_B m c t (by omega) (by omega) (by omega) (by omega)]
  frame_out
  exact pay2 _ _ i
/-- At the last point the result holds the whole sums of the squared error. -/
theorem err_total (c : Dev nD) (t : Fin cfg0.N) (ht : t.val = 15) (i : S1x1024.Idx) :
    (outsAt0 m c t.val t.isLt).2.2 i = MlpDown.err (fx m c) (ft m c) (fg m c) i := by
  have hlt := lt16 t
  rw [Pipeline.eq_sum_fin_of_reset_step_apply_last (fun n h => (outsAt0 m c n h).2.2) 16 (fun _ => (0 : EReal))
    (fun t (i : S1x1024.Idx) => errs m c t i)
    (fun t h i => err_first m c t (by have := lt16 t; omega) i) (fun t h i => err_step m c t (by omega) i) (by rw [show cfg0.N = 16 from N_0]) t (by rw [ht, show cfg0.N = 16 from N_0]) i, zero_add]
  simp only [errs, pay10t]
  exact sum_tiles (S := 16) (n := 512) rfl (fun s r => row ⟨s.val, lt_of_lt_of_eq s.isLt N_0.symm⟩ r) (fun _ _ => rfl)
    fun r => MlpDown.diff (fx m c) (ft m c) (fg m c) (ix2 r (i 1)) * MlpDown.diff (fx m c) (ft m c) (fg m c) (ix2 r (i 1))

/-- The rows after the run. -/
theorem arr5 (c : Dev nD) : (dats m 0 c).arrAt 5 cfg0.N = MlpDown.rows (fx m c) (ft m c) (fg m c) := by
  refine (dats m 0 c).arrAt_eq_of_covers 5 _ (by decide +kernel) fun t hf y => ?_
  have hlt := lt16 t
  have h9 : ((cfg0.win 5).blk t).view.emb y = ix2 (row t (y 0)) (y 1) := by
    unfold row
    blk_ext [idx t]
  rw [h9]
  blk_simp
  rw [after0_5]
  exact rows_at m c t y
/-- The column sums of window 6 after the run. -/
theorem arr6 (c : Dev nD) : (dats m 0 c).arrAt 6 cfg0.N = Norm.gain (fx m c) (MlpDown.cot (fx m c) (ft m c) (fg m c)) := by
  refine (dats m 0 c).arrAt_eq_of_covers 6 _ (by decide +kernel) fun t hf y => ?_
  have ht := (flush0_6 t).mp hf
  have hlt := lt16 t
  have h9 : ((cfg0.win 6).blk t).view.emb y = y := by
    blk_ext [idx t]
  rw [h9]
  blk_simp
  rw [after0_6]
  exact gain_total m c t (by omega) y
/-- The column sums of window 7 after the run. -/
theorem arr7 (c : Dev nD) : (dats m 0 c).arrAt 7 cfg0.N = MlpDown.err (fx m c) (ft m c) (fg m c) := by
  refine (dats m 0 c).arrAt_eq_of_covers 7 _ (by decide +kernel) fun t hf y => ?_
  have ht := (flush0_7 t).mp hf
  have hlt := lt16 t
  have h9 : ((cfg0.win 7).blk t).view.emb y = y := by
    blk_ext [idx t]
  rw [h9]
  blk_simp
  rw [after0_7]
  exact err_total m c t (by omega) y

end Cert.Kernel17Ideal.Final

namespace Cert.Reference17Ideal.At

open Cert.Reference17Ideal Cert.Reference17Ideal.Read Cert.Prod

/-- The block's output. -/
theorem out (x0 : S8192x4096.Idx → EReal) (x1 : S4096x1024.Idx → EReal) (x2 : S8192x1024.Idx → EReal) (r : Fin 8192) (e : Fin 1024) :
    val_main_v3 (F := Ideal) x0 x1 x2 (ix2 r e) = MlpDown.out x0 x1 x2 (ix2 r e) := by
  unfold val_main_v3 val_main_v2 val_main_v1 val_main_v0
  pointwise
  exact add_comm _ _
/-- The mean squares. -/
theorem ms (x0 : S8192x4096.Idx → EReal) (x1 : S4096x1024.Idx → EReal) (x2 : S8192x1024.Idx → EReal) (r : Fin 8192) (z : Fin 1) :
    val_main_v10 (F := Ideal) x0 x1 x2 (ix2 r z) = Norm.ms fun k => MlpDown.out x0 x1 x2 (ix2 r k) := by
  unfold val_main_v10 val_main_v9 val_main_v8 val_main_v7 val_main_v6 val_main_v5 val_main_v4 val_main_cst val_main_cst_0 val_main_cst_1
  pointwise
  simp only [out]
  rfl
/-- Their reciprocal roots. -/
theorem rrms (x0 : S8192x4096.Idx → EReal) (x1 : S4096x1024.Idx → EReal) (x2 : S8192x1024.Idx → EReal) (r : Fin 8192) (z : Fin 1) :
    val_main_v11 (F := Ideal) x0 x1 x2 (ix2 r z) = Norm.rrms fun k => MlpDown.out x0 x1 x2 (ix2 r k) := by
  unfold val_main_v11
  pointwise
  rw [ms]
  rfl
/-- The normalised rows. -/
theorem nrm (x0 : S8192x4096.Idx → EReal) (x1 : S4096x1024.Idx → EReal) (x2 : S8192x1024.Idx → EReal) (r : Fin 8192) (e : Fin 1024) :
    val_main_v16 (F := Ideal) x0 x1 x2 (ix2 r e) = MlpDown.out x0 x1 x2 (ix2 r e) * Norm.rrms fun k => MlpDown.out x0 x1 x2 (ix2 r k) := by
  unfold val_main_v16 val_main_v15
  pointwise
  rw [out, rrms]
/-- The error. -/
theorem diff (x0 : S8192x4096.Idx → EReal) (x1 : S4096x1024.Idx → EReal) (x2 x3 : S8192x1024.Idx → EReal) (x4 : S1x1024.Idx → EReal) (r : Fin 8192) (e : Fin 1024) :
    val_main_v19 (F := Ideal) x0 x1 x2 x3 x4 (ix2 r e) = MlpDown.diff (MlpDown.out x0 x1 x2) x3 x4 (ix2 r e) := by
  unfold val_main_v19 val_main_v18 val_main_v17
  pointwise
  rw [nrm]
  rfl
/-- The loss's gradient by the prediction. -/
theorem cot (x0 : S8192x4096.Idx → EReal) (x1 : S4096x1024.Idx → EReal) (x2 x3 : S8192x1024.Idx → EReal) (x4 : S1x1024.Idx → EReal) (r : Fin 8192) (e : Fin 1024) :
    val_main_v33 (F := Ideal) x0 x1 x2 x3 x4 (ix2 r e) = MlpDown.cot (MlpDown.out x0 x1 x2) x3 x4 (ix2 r e) := by
  unfold val_main_v33 val_main_v32 val_main_v31 val_main_v30 val_main_v29 val_main_v28 val_main_v22 val_main_v21 val_main_cst_3 val_main_cst_8 val_main_cst_9 val_main_cst_10
  pointwise
  rw [diff]
  exact MlpDown.scale_eq _
/-- That gradient times the gain. -/
theorem du (x0 : S8192x4096.Idx → EReal) (x1 : S4096x1024.Idx → EReal) (x2 x3 : S8192x1024.Idx → EReal) (x4 : S1x1024.Idx → EReal) (r : Fin 8192) (e : Fin 1024) :
    val_main_v38 (F := Ideal) x0 x1 x2 x3 x4 (ix2 r e) = MlpDown.cot (MlpDown.out x0 x1 x2) x3 x4 (ix2 r e) * x4 (ix2 0 e) := by
  unfold val_main_v38 val_main_v37
  pointwise
  rw [cot]
/-- The mean square's part of the gradient, before the row's factor. -/
theorem msgrad (x0 : S8192x4096.Idx → EReal) (x1 : S4096x1024.Idx → EReal) (x2 x3 : S8192x1024.Idx → EReal) (x4 : S1x1024.Idx → EReal) (r : Fin 8192) (e : Fin 1024) :
    val_main_v48 (F := Ideal) x0 x1 x2 x3 x4 (ix2 r e)
      = Ideal.div ((∑ k, MlpDown.out x0 x1 x2 (ix2 r k) * (MlpDown.cot (MlpDown.out x0 x1 x2) x3 x4 (ix2 r k) * x4 (ix2 0 k)))
          * (Norm.mhalf * Ideal.div (Norm.rrms fun k => MlpDown.out x0 x1 x2 (ix2 r k)) (Norm.ms fun k => MlpDown.out x0 x1 x2 (ix2 r k)))) Norm.len := by
  unfold val_main_v48 val_main_v47 val_main_v46 val_main_v45 val_main_v44 val_main_v41 val_main_v40 val_main_v39 val_main_v14 val_main_v13 val_main_v12 val_main_cst_2 val_main_cst_12 val_main_cst_13 val_main_cst_14
  pointwise
  simp only [out, ms, rrms, du]
  simp
/-- The reference's rows are the same. -/
theorem value_rows (x0 : S8192x4096.Idx → EReal) (x1 : S4096x1024.Idx → EReal) (x2 x3 : S8192x1024.Idx → EReal) (x4 : S1x1024.Idx → EReal) :
    val_main_v52 (F := Ideal) x0 x1 x2 x3 x4 = MlpDown.rows (MlpDown.out x0 x1 x2) x3 x4 := by
  funext i
  obtain ⟨r, e, rfl⟩ : ∃ (r : Fin 8192) (e : Fin 1024), i = ix2 r e := ⟨i 0, i 1, ValueIdx.eq_ix2 i⟩
  unfold val_main_v52 val_main_v51 val_main_v50 val_main_v49 val_main_v43 val_main_v42
  pointwise
  simp only [out, rrms, du, msgrad]
  exact Norm.grad_eq (fun k => MlpDown.out x0 x1 x2 (ix2 r k)) (fun k => MlpDown.cot (MlpDown.out x0 x1 x2) x3 x4 (ix2 r k) * x4 (ix2 0 k)) e _ rfl
/-- The reference's sums for the gain are the same. -/
theorem value_gain (x0 : S8192x4096.Idx → EReal) (x1 : S4096x1024.Idx → EReal) (x2 x3 : S8192x1024.Idx → EReal) (x4 : S1x1024.Idx → EReal) :
    val_main_v36 (F := Ideal) x0 x1 x2 x3 x4 = Norm.gain (MlpDown.out x0 x1 x2) (MlpDown.cot (MlpDown.out x0 x1 x2) x3 x4) := by
  funext i
  obtain ⟨z, e, rfl⟩ : ∃ (z : Fin 1) (e : Fin 1024), i = ix2 z e := ⟨i 0, i 1, ValueIdx.eq_ix2 i⟩
  unfold val_main_v36 val_main_v35 val_main_v34 val_main_cst_11
  pointwise
  simp only [nrm, cot]
  exact Finset.sum_congr rfl fun r _ => mul_comm _ _
/-- The reference's sums of the squared error are the same. -/
theorem value_err (x0 : S8192x4096.Idx → EReal) (x1 : S4096x1024.Idx → EReal) (x2 x3 : S8192x1024.Idx → EReal) (x4 : S1x1024.Idx → EReal) :
    val_main_v54 (F := Ideal) x0 x1 x2 x3 x4 = MlpDown.err (MlpDown.out x0 x1 x2) x3 x4 := by
  funext i
  obtain ⟨z, e, rfl⟩ : ∃ (z : Fin 1) (e : Fin 1024), i = ix2 z e := ⟨i 0, i 1, ValueIdx.eq_ix2 i⟩
  unfold val_main_v54 val_main_v53 val_main_v20 val_main_cst_15
  pointwise
  simp only [diff]
  rfl

end Cert.Reference17Ideal.At

namespace Cert.MlpDown

open Cert.Kernel17Ideal.Final

/-- The reference terminates and leaves its arguments unchanged; it has no counters. -/
theorem frame_reference : Cert.quiescent_Reference17Ideal := fun m ρ _ =>
  (θ_run Cert.Reference17Ideal.defs _ _).mono (fun r h => ⟨fun c => (((h c).2).2).2,
    Idealize.ShloMosaic.sem_eq_zero_of_no_sems (by decide) r.2⟩) (Cert.Reference17Ideal.Value.run m ρ)

/-- Kernel and reference end with equal results. -/
theorem algebraic : Cert.algebraic_Kernel17Ideal_Reference17Ideal := by
  intro m ρ m' ρ' hpre hag
  refine ⟨fun c => Cert.MlpDown.rows (Cert.MlpDown.out (m (c.tc.loc Cert.Kernel17Ideal.main_arg0)) (m (c.tc.loc Cert.Kernel17Ideal.main_arg1)) (m (c.tc.loc Cert.Kernel17Ideal.main_arg2))) (m (c.tc.loc Cert.Kernel17Ideal.main_arg3)) (m (c.tc.loc Cert.Kernel17Ideal.main_arg4)), fun c => Cert.Norm.gain (Cert.MlpDown.out (m (c.tc.loc Cert.Kernel17Ideal.main_arg0)) (m (c.tc.loc Cert.Kernel17Ideal.main_arg1)) (m (c.tc.loc Cert.Kernel17Ideal.main_arg2))) (Cert.MlpDown.cot (Cert.MlpDown.out (m (c.tc.loc Cert.Kernel17Ideal.main_arg0)) (m (c.tc.loc Cert.Kernel17Ideal.main_arg1)) (m (c.tc.loc Cert.Kernel17Ideal.main_arg2))) (m (c.tc.loc Cert.Kernel17Ideal.main_arg3)) (m (c.tc.loc Cert.Kernel17Ideal.main_arg4))), fun c => Cert.MlpDown.err (Cert.MlpDown.out (m (c.tc.loc Cert.Kernel17Ideal.main_arg0)) (m (c.tc.loc Cert.Kernel17Ideal.main_arg1)) (m (c.tc.loc Cert.Kernel17Ideal.main_arg2))) (m (c.tc.loc Cert.Kernel17Ideal.main_arg3)) (m (c.tc.loc Cert.Kernel17Ideal.main_arg4)),
    (θ_run Cert.Kernel17Ideal.defs _ _).mono (fun r h c => ?_) (Cert.Kernel17Ideal.Value.run_blocks m ρ),
    (θ_run Cert.Reference17Ideal.defs _ _).mono (fun r h c => ?_) (Cert.Reference17Ideal.Value.run m' ρ')⟩
  · obtain ⟨h0, h1, h2, k0, k1, k2, k3, k4⟩ := h c
    exact ⟨h0.trans (arr5 m c), h1.trans (arr6 m c), h2.trans (arr7 m c), k0, k1, k2, k3, k4⟩
  · obtain ⟨h0, h1, h2, k0, k1, k2, k3, k4⟩ := h c
    obtain ⟨e0, e1, e2, e3, e4⟩ := hag c
    exact ⟨h0.trans ((Cert.Reference17Ideal.Read.val_main_v52_eq _ _).trans (by rw [e0, e1, e2, e3, e4]; exact Cert.Reference17Ideal.At.value_rows _ _ _ _ _)), h1.trans ((Cert.Reference17Ideal.Read.val_main_v36_eq _ _ _ _ _).trans (by rw [e0, e1, e2, e3, e4]; exact Cert.Reference17Ideal.At.value_gain _ _ _ _ _)), h2.trans ((Cert.Reference17Ideal.Read.val_main_v54_eq _ _ _ _ _).trans (by rw [e0, e1, e2, e3, e4]; exact Cert.Reference17Ideal.At.value_err _ _ _ _ _)), k0, k1, k2, k3, k4⟩

end Cert.MlpDown

end
-- ==== Proof.MergeFwd.Final.lean ====
/-
  The gated merge of the three branches: kernel and reference end with equal results.
-/
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import proofs.«01_k».proof.Proof.Prod.Math
public import proofs.«01_k».proof.Proof.Prod.Math
public import proofs.«01_k».proof.Proof.Merge.Math

@[expose] public section

set_option maxRecDepth 16384

noncomputable section

open Idealize.ShloMosaic Idealize.ShloMosaic.TcCoe Idealize.SL.Sem
open scoped BigOperators

namespace Cert.MergeFwd

/-- The gate of branch `o` at entry `e` of row `r`. -/
def gat {n : ℕ} (o : Fin 3) (z : Shape.Idx ⟨2, ![n, 3072]⟩ → EReal) (b : Shape.Idx ⟨2, ![1, 3072]⟩ → EReal) (i : Shape.Idx ⟨2, ![n, 1024]⟩) : EReal :=
  Merge.gate (z (ix2 (i 0) ⟨1024 * o.val + (i 1).val, by have h : (i 1).val < 1024 := (i 1).isLt; omega⟩)
    + b (ix2 0 ⟨1024 * o.val + (i 1).val, by have h : (i 1).val < 1024 := (i 1).isLt; omega⟩))
/-- The gated branches' sum. -/
def out {n : ℕ} (y : Shape.Idx ⟨2, ![n, 512]⟩ → EReal) (o : Shape.Idx ⟨2, ![n, 256]⟩ → EReal) (q : Shape.Idx ⟨2, ![n, 512]⟩ → EReal)
    (ws : Shape.Idx ⟨2, ![512, 1024]⟩ → EReal) (wa : Shape.Idx ⟨2, ![256, 1024]⟩ → EReal) (wm : Shape.Idx ⟨2, ![512, 1024]⟩ → EReal)
    (z : Shape.Idx ⟨2, ![n, 3072]⟩ → EReal) (b : Shape.Idx ⟨2, ![1, 3072]⟩ → EReal) : Shape.Idx ⟨2, ![n, 1024]⟩ → EReal :=
  fun i => gat 0 z b i * Prod.mul y ws i + gat 1 z b i * Prod.mul o wa i + gat 2 z b i * Prod.mul q wm i

end Cert.MergeFwd

namespace Cert.Kernel18Ideal.Final

open Cert.Kernel18Ideal Cert.Kernel18Ideal.Gen Cert.Prod

variable (m : (ℓ : Loc nD τ sig) → Buf (Elt Ideal) ℓ)

/-- Where each window's block of point `t` begins. -/
theorem idx : ∀ t : Fin cfg0.N,
    win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![t.val, 0] ∧ win0_7.index t = ![0, 0] ∧ win0_8.index t = ![t.val, 0] :=
  (by decide +kernel : ∀ t : Fin grid0.N, _)

/-- The grid's points. -/
theorem ltN (t : Fin cfg0.N) : t.val < 32 := lt_of_lt_of_eq t.isLt (show cfg0.N = 32 from N_0)

/-- Row `r` of the tile at point `t`. -/
def row (t : Fin cfg0.N) (r : Fin 256) : Fin 8192 := ⟨256 * t.val + r.val, by have := ltN t; omega⟩

/-- The recurrence’s branch. -/
abbrev fy (c : Dev nD) : S8192x512.Idx → EReal := m ((c : Thread nD τ).loc main_arg0)
/-- The attention’s branch. -/
abbrev fo (c : Dev nD) : S8192x256.Idx → EReal := m ((c : Thread nD τ).loc main_arg1)
/-- The memory’s branch. -/
abbrev fq (c : Dev nD) : S8192x512.Idx → EReal := m ((c : Thread nD τ).loc main_arg2)
/-- The first branch’s weights. -/
abbrev ws (c : Dev nD) : S512x1024.Idx → EReal := m ((c : Thread nD τ).loc main_arg3)
/-- The second branch’s weights. -/
abbrev wa (c : Dev nD) : S256x1024.Idx → EReal := m ((c : Thread nD τ).loc main_arg4)
/-- The third branch’s weights. -/
abbrev wm (c : Dev nD) : S512x1024.Idx → EReal := m ((c : Thread nD τ).loc main_arg5)
/-- The gates’ arguments. -/
abbrev fz (c : Dev nD) : S8192x3072.Idx → EReal := m ((c : Thread nD τ).loc main_arg6)
/-- The gates’ bias. -/
abbrev fb (c : Dev nD) : S1x3072.Idx → EReal := m ((c : Thread nD τ).loc main_arg7)

/-- The tile of window 0. -/
theorem blk0 (c : Dev nD) (t : Fin cfg0.N) (r : Fin 256) (e : Fin 512) :
    (iblk m c 0 t : Vec Ideal S256x512 .bf16) (ix2 r e) = fy m c (ix2 (row t r) e) := by
  have := ltN t
  unfold row
  blk_ext [iblk, V, idx t]
/-- The tile of window 1. -/
theorem blk1 (c : Dev nD) (t : Fin cfg0.N) (r : Fin 256) (e : Fin 256) :
    (iblk m c 1 t : Vec Ideal S256x256 .f32) (ix2 r e) = fo m c (ix2 (row t r) e) := by
  have := ltN t
  unfold row
  blk_ext [iblk, V, idx t]
/-- The tile of window 2. -/
theorem blk2 (c : Dev nD) (t : Fin cfg0.N) (r : Fin 256) (e : Fin 512) :
    (iblk m c 2 t : Vec Ideal S256x512 .f32) (ix2 r e) = fq m c (ix2 (row t r) e) := by
  have := ltN t
  unfold row
  blk_ext [iblk, V, idx t]
/-- Window 3 is staged whole; the host transposes it. -/
theorem blk3 (c : Dev nD) (t : Fin cfg0.N) (r : Fin 1024) (e : Fin 512) :
    (iblk m c 3 t : Vec Ideal S1024x512 .bf16) (ix2 r e) = ws m c (ix2 e r) := by
  blk_point [iblk, V, idx t]
/-- Window 4 is staged whole; the host transposes it. -/
theorem blk4 (c : Dev nD) (t : Fin cfg0.N) (r : Fin 1024) (e : Fin 256) :
    (iblk m c 4 t : Vec Ideal S1024x256 .bf16) (ix2 r e) = wa m c (ix2 e r) := by
  blk_point [iblk, V, idx t]
/-- Window 5 is staged whole; the host transposes it. -/
theorem blk5 (c : Dev nD) (t : Fin cfg0.N) (r : Fin 1024) (e : Fin 512) :
    (iblk m c 5 t : Vec Ideal S1024x512 .bf16) (ix2 r e) = wm m c (ix2 e r) := by
  blk_point [iblk, V, idx t]
/-- The tile of window 6. -/
theorem blk6 (c : Dev nD) (t : Fin cfg0.N) (r : Fin 256) (e : Fin 3072) :
    (iblk m c 6 t : Vec Ideal S256x3072 .f32) (ix2 r e) = fz m c (ix2 (row t r) e) := by
  have := ltN t
  unfold row
  blk_ext [iblk, V, idx t]
/-- Window 7 is staged whole. -/
theorem blk7 (c : Dev nD) (t : Fin cfg0.N) (r : Fin 1) (e : Fin 3072) :
    (iblk m c 7 t : Vec Ideal S1x3072 .f32) (ix2 r e) = fb m c (ix2 r e) := by
  blk_ext [iblk, V, idx t]

/-- A tile's output. -/
theorem pay1g (z : Vec Ideal S256x3072 .f32) (b : Vec Ideal S1x3072 .f32) (y : Vec Ideal S256x512 .bf16) (ws : Vec Ideal S1024x512 .bf16) (o : Vec Ideal S256x256 .f32)
    (wa : Vec Ideal S1024x256 .bf16) (q : Vec Ideal S256x512 .f32) (wm : Vec Ideal S1024x512 .bf16) (r : Fin 256) (e : Fin 1024) :
    k0_pay1 (F := Ideal) z b y ws o wa q wm (ix2 r e)
      = MergeFwd.out (n := 256) y o q (fun i => ws (ix2 (i 1) (i 0))) (fun i => wa (ix2 (i 1) (i 0))) (fun i => wm (ix2 (i 1) (i 0))) z b (ix2 r e) := by
  unfold k0_pay1
  pointwise
  refine congrArg₂ (fun a b : EReal => a + b) (congrArg₂ (fun a b : EReal => a + b) ?_ ?_) ?_
  · refine congrArg (fun E : Fin 3072 => Merge.gate (z (ix2 r E) + b (ix2 0 E)) * _) (Fin.ext ?_)
    show _ = 1024 * 0 + e.val
    simp
  · refine congrArg (fun E : Fin 3072 => Merge.gate (z (ix2 r E) + b (ix2 0 E)) * _) (Fin.ext ?_)
    show _ = 1024 * 1 + e.val
    simp
  · refine congrArg (fun E : Fin 3072 => Merge.gate (z (ix2 r E) + b (ix2 0 E)) * _) (Fin.ext ?_)
    show _ = 1024 * 2 + e.val
    simp
/-- The output, as an array. -/
abbrev fx (c : Dev nD) : S8192x1024.Idx → EReal := MergeFwd.out (fy m c) (fo m c) (fq m c) (ws m c) (wa m c) (wm m c) (fz m c) (fb m c)
/-- The tile's output. -/
theorem pay1 (c : Dev nD) (t : Fin cfg0.N) (i : S256x1024.Idx) :
    k0_pay1 (F := Ideal) (iblk m c 6 t) (iblk m c 7 t) (iblk m c 0 t) (iblk m c 3 t) (iblk m c 1 t) (iblk m c 4 t) (iblk m c 2 t) (iblk m c 5 t) i
      = fx m c (ix2 (row t (i 0)) (i 1)) := by
  obtain ⟨r, e, rfl⟩ : ∃ (r : Fin 256) (e : Fin 1024), i = ix2 r e := ⟨i 0, i 1, ValueIdx.eq_ix2 i⟩
  refine (pay1g _ _ _ _ _ _ _ _ r e).trans ?_
  unfold fx MergeFwd.out MergeFwd.gat Prod.mul
  simp only [ix2_0, ix2_1, blk0, blk1, blk2, blk3, blk4, blk5, blk6, blk7]
/-- The result after the run. -/
theorem arr8 (c : Dev nD) : (dats m 0 c).arrAt 8 cfg0.N = fx m c := by
  refine (dats m 0 c).arrAt_eq_of_covers 8 _ (by decide +kernel) fun t hf y => ?_
  have hlt := ltN t
  have h9 : ((cfg0.win 8).blk t).view.emb y = ix2 (row t (y 0)) (y 1) := by
    unfold row
    blk_ext [idx t]
  rw [h9]
  blk_simp
  rw [after0_8]
  unfold out0_8
  frame_out
  exact pay1 m c t y

end Cert.Kernel18Ideal.Final

namespace Cert.Reference18Ideal.At

open Cert.Reference18Ideal Cert.Reference18Ideal.Read Cert.Prod

/-- The reference's gates. -/
theorem gates (x6 : S8192x3072.Idx → EReal) (x7 : S1x3072.Idx → EReal) (R : Fin 8192) (E : Fin 3072) :
    val_main_v11 (F := Ideal) x6 x7 (ix2 R E) = Merge.gate (x6 (ix2 R E) + x7 (ix2 0 E)) := by
  unfold val_main_v11 val_main_v10 val_main_cst_0 val_main_v9 val_main_v8 val_main_cst val_main_v7 val_main_v6 val_main_v5 val_main_v4
  pointwise
  exact (Merge.gate_eq _).symm
/-- The gates by branch. -/
theorem gates3 (x6 : S8192x3072.Idx → EReal) (x7 : S1x3072.Idx → EReal) (R : Fin 8192) (o : Fin 3) (e : Fin 1024) :
    val_main_v12 (F := Ideal) x6 x7 (ix3 R o e) = MergeFwd.gat o x6 x7 (ix2 R e) := by
  unfold val_main_v12
  pointwise
  exact (gates x6 x7 R _).trans (congrArg (fun E : Fin 3072 => Merge.gate (x6 (ix2 R E) + x7 (ix2 0 E)))
    (Fin.ext (by show o.val * 1024 + e.val = 1024 * o.val + e.val; omega)))
/-- The reference's output. -/
theorem value (x0 : S8192x512.Idx → EReal) (x1 : S8192x256.Idx → EReal) (x2 : S8192x512.Idx → EReal) (x3 : S512x1024.Idx → EReal) (x4 : S256x1024.Idx → EReal) (x5 : S512x1024.Idx → EReal) (x6 : S8192x3072.Idx → EReal) (x7 : S1x3072.Idx → EReal) : val_main_v27 (F := Ideal) x0 x1 x2 x3 x4 x5 x6 x7 = MergeFwd.out x0 x1 x2 x3 x4 x5 x6 x7 := by
  funext i
  obtain ⟨r, e, rfl⟩ : ∃ (r : Fin 8192) (e : Fin 1024), i = ix2 r e := ⟨i 0, i 1, ValueIdx.eq_ix2 i⟩
  unfold val_main_v27 val_main_v26 val_main_v22 val_main_v18 val_main_v17 val_main_v16 val_main_v13 val_main_v0 val_main_v1 val_main_v21 val_main_v20 val_main_v19 val_main_v14 val_main_v2 val_main_v25 val_main_v24 val_main_v23 val_main_v15 val_main_v3
  pointwise
  simp only [gates3]
  rfl

end Cert.Reference18Ideal.At

namespace Cert.MergeFwd

open Cert.Kernel18Ideal.Final

/-- The reference terminates and leaves its arguments unchanged; it has no counters. -/
theorem frame_reference : Cert.quiescent_Reference18Ideal := fun m ρ _ =>
  (θ_run Cert.Reference18Ideal.defs _ _).mono (fun r h => ⟨fun c => (h c).2,
    Idealize.ShloMosaic.sem_eq_zero_of_no_sems (by decide) r.2⟩) (Cert.Reference18Ideal.Value.run m ρ)

/-- Kernel and reference end with equal results. -/
theorem algebraic : Cert.algebraic_Kernel18Ideal_Reference18Ideal := by
  intro m ρ m' ρ' hpre hag
  refine ⟨fun c => Cert.MergeFwd.out (m (c.tc.loc Cert.Kernel18Ideal.main_arg0)) (m (c.tc.loc Cert.Kernel18Ideal.main_arg1)) (m (c.tc.loc Cert.Kernel18Ideal.main_arg2)) (m (c.tc.loc Cert.Kernel18Ideal.main_arg3)) (m (c.tc.loc Cert.Kernel18Ideal.main_arg4)) (m (c.tc.loc Cert.Kernel18Ideal.main_arg5)) (m (c.tc.loc Cert.Kernel18Ideal.main_arg6)) (m (c.tc.loc Cert.Kernel18Ideal.main_arg7)),
    (θ_run Cert.Kernel18Ideal.defs _ _).mono (fun r h c => ?_) (Cert.Kernel18Ideal.Value.run_blocks m ρ),
    (θ_run Cert.Reference18Ideal.defs _ _).mono (fun r h c => ?_) (Cert.Reference18Ideal.Value.run m' ρ')⟩
  · obtain ⟨h0, k0, k1, k2, k3, k4, k5, k6, k7⟩ := h c
    exact ⟨h0.trans (arr8 m c), k0, k1, k2, k3, k4, k5, k6, k7⟩
  · obtain ⟨h0, k0, k1, k2, k3, k4, k5, k6, k7⟩ := h c
    obtain ⟨e0, e1, e2, e3, e4, e5, e6, e7⟩ := hag c
    exact ⟨h0.trans ((Cert.Reference18Ideal.Read.val_main_v27_eq _ _ _ _ _ _ _ _).trans (by rw [e0, e1, e2, e3, e4, e5, e6, e7]; exact Cert.Reference18Ideal.At.value _ _ _ _ _ _ _ _)), k0, k1, k2, k3, k4, k5, k6, k7⟩

end Cert.MergeFwd

end
-- ==== Proof.MemFwd.Final.lean ====
/-
  The cross-attention on the memory: kernel and reference end with equal results.
-/
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import proofs.«01_k».proof.Proof.Prod.Math
public import proofs.«01_k».proof.Proof.Mem.Math

@[expose] public section

set_option maxRecDepth 16384

noncomputable section

open Idealize.ShloMosaic Idealize.ShloMosaic.TcCoe Idealize.SL.Sem
open scoped BigOperators

namespace Cert.MemFwd

open Cert.Mem

/-- Head `h`'s part of row `R` of the queries. -/
def headRow (x : Shape.Idx ⟨2, ![8192, 512]⟩ → EReal) (h : Fin 4) (R : Fin 8192) : Row := fun e => x (ix2 R ⟨128 * h.val + e.val, by omega⟩)
/-- Head `h`'s keys. -/
def keyMat (x : Shape.Idx ⟨2, ![256, 1024]⟩ → EReal) (h : Fin 4) : Mat := fun c e => x (ix2 c ⟨128 * h.val + e.val, by omega⟩)
/-- Head `h`'s values. -/
def valMat (x : Shape.Idx ⟨2, ![256, 1024]⟩ → EReal) (h : Fin 4) : Mat := fun c e => x (ix2 c ⟨512 + 128 * h.val + e.val, by omega⟩)
/-- The values of head `h`, averaged by the softmax of row `R`'s scores. -/
def avg (q : Row) (K V : Mat) (e : Fin 128) : EReal := ∑ c : Fin 256, prob q K c * V c e
/-- The attention's output. -/
def out (q : Shape.Idx ⟨2, ![8192, 512]⟩ → EReal) (kv : Shape.Idx ⟨2, ![256, 1024]⟩ → EReal) : Shape.Idx ⟨2, ![8192, 512]⟩ → EReal := fun i =>
  have h : (i 1).val < 512 := (i 1).isLt
  avg (headRow q ⟨(i 1).val / 128, by omega⟩ (i 0)) (keyMat kv ⟨(i 1).val / 128, by omega⟩) (valMat kv ⟨(i 1).val / 128, by omega⟩)
    ⟨(i 1).val % 128, Nat.mod_lt _ (by decide)⟩
/-- The output by row, head and column. -/
theorem out_at (q : Shape.Idx ⟨2, ![8192, 512]⟩ → EReal) (kv : Shape.Idx ⟨2, ![256, 1024]⟩ → EReal) (R : Fin 8192) (E : Fin 512) (h : Fin 4) (e : Fin 128)
    (hE : E.val = 128 * h.val + e.val) : out q kv (ix2 R E) = avg (headRow q h R) (keyMat kv h) (valMat kv h) e := by
  have a : (⟨E.val / 128, by omega⟩ : Fin 4) = h := Fin.ext (by show E.val / 128 = h.val; omega)
  have b : (⟨E.val % 128, Nat.mod_lt _ (by decide)⟩ : Fin 128) = e := Fin.ext (by show E.val % 128 = e.val; omega)
  show avg (headRow q ⟨E.val / 128, _⟩ R) (keyMat kv ⟨E.val / 128, _⟩) (valMat kv ⟨E.val / 128, _⟩) ⟨E.val % 128, _⟩ = _
  rw [a, b]

/-- The float pattern of minus infinity is the least extended real. -/
theorem bits_bot : Ideal.ofBits .f32 0xFF800000#32 = ⊥ := by
  simp [Ideal.ofBits, Ideal.ieee]

end Cert.MemFwd

namespace Cert.Kernel19Ideal.Final

open Cert.Kernel19Ideal Cert.Kernel19Ideal.Gen Cert.Prod

variable (m : (ℓ : Loc nD τ sig) → Buf (Elt Ideal) ℓ)

open Cert.Mem

/-- Where each window's block of point `t` begins: the row tiles are the outer axis of the grid, the heads the inner. -/
theorem idx : ∀ t : Fin cfg0.N,
    win0_0.index t = ![t.val / 4, t.val % 4] ∧ win0_1.index t = ![0, t.val % 4] ∧ win0_2.index t = ![0, 4 + t.val % 4] ∧ win0_3.index t = ![t.val / 4, t.val % 4] :=
  (by decide +kernel : ∀ t : Fin grid0.N, _)

/-- The grid has 32 points. -/
theorem ltN (t : Fin cfg0.N) : t.val < 32 := lt_of_lt_of_eq t.isLt (show cfg0.N = 32 from N_0)

/-- Row `r` of the tile at point `t`. -/
def row (t : Fin cfg0.N) (r : Fin 1024) : Fin 8192 := ⟨1024 * (t.val / 4) + r.val, by have := ltN t; omega⟩
/-- Point `t`'s head. -/
def hd (t : Fin cfg0.N) : Fin 4 := ⟨t.val % 4, by omega⟩
/-- The column of head `hd t`'s entry `e`. -/
def col (t : Fin cfg0.N) (e : Fin 128) : Fin 512 := ⟨128 * (t.val % 4) + e.val, by omega⟩

/-- The queries. -/
abbrev fq (c : Dev nD) : S8192x512.Idx → EReal := m ((c : Thread nD τ).loc main_arg0)
/-- The keys and values. -/
abbrev fk (c : Dev nD) : S256x1024.Idx → EReal := m ((c : Thread nD τ).loc main_arg1)

/-- The tile of queries. -/
theorem blk0 (c : Dev nD) (t : Fin cfg0.N) (r : Fin 1024) (e : Fin 128) :
    (iblk m c 0 t : Vec Ideal S1024x128 .f32) (ix2 r e) = MemFwd.headRow (fq m c) (hd t) (row t r) e := by
  have := ltN t
  unfold MemFwd.headRow row hd
  blk_ext [iblk, V, idx t]
/-- The head's keys. -/
theorem blk1 (c : Dev nD) (t : Fin cfg0.N) (r : Fin 256) (e : Fin 128) :
    (iblk m c 1 t : Vec Ideal S256x128 .f32) (ix2 r e) = MemFwd.keyMat (fk m c) (hd t) r e := by
  have := ltN t
  unfold MemFwd.keyMat hd
  blk_ext [iblk, V, idx t]
/-- The head's values. -/
theorem blk2 (c : Dev nD) (t : Fin cfg0.N) (r : Fin 256) (e : Fin 128) :
    (iblk m c 2 t : Vec Ideal S256x128 .f32) (ix2 r e) = MemFwd.valMat (fk m c) (hd t) r e := by
  have := ltN t
  unfold MemFwd.valMat hd
  blk_ext [iblk, V, idx t]

/-- A tile's output. -/
theorem pay1g (q : Vec Ideal S1024x128 .f32) (k v : Vec Ideal S256x128 .f32) (r : Fin 1024) (e : Fin 128) :
    k0_pay1 (F := Ideal) q k v (ix2 r e) = MemFwd.avg (fun e => q (ix2 r e)) (fun c e => k (ix2 c e)) (fun c e => v (ix2 c e)) e := by
  unfold k0_pay1
  pointwise
  rw [MemFwd.bits_bot]
  rfl
/-- The tile's output. -/
theorem pay1 (c : Dev nD) (t : Fin cfg0.N) (i : S1024x128.Idx) :
    k0_pay1 (F := Ideal) (iblk m c 0 t) (iblk m c 1 t) (iblk m c 2 t) i = MemFwd.out (fq m c) (fk m c) (ix2 (row t (i 0)) (col t (i 1))) := by
  obtain ⟨r, e, rfl⟩ : ∃ (r : Fin 1024) (e : Fin 128), i = ix2 r e := ⟨i 0, i 1, ValueIdx.eq_ix2 i⟩
  refine (pay1g _ _ _ r e).trans (Eq.trans ?_ (MemFwd.out_at _ _ (row t r) (col t e) (hd t) e rfl).symm)
  simp only [blk0, blk1, blk2]
/-- The output after the run. -/
theorem arr3 (c : Dev nD) : (dats m 0 c).arrAt 3 cfg0.N = MemFwd.out (fq m c) (fk m c) := by
  refine (dats m 0 c).arrAt_eq_of_covers 3 _ (by decide +kernel) fun t hf y => ?_
  have hlt := ltN t
  have h9 : ((cfg0.win 3).blk t).view.emb y = ix2 (row t (y 0)) (col t (y 1)) := by
    unfold row col
    blk_ext [idx t]
  rw [h9]
  blk_simp
  rw [after0_3]
  unfold out0_3
  frame_out
  exact pay1 m c t y

end Cert.Kernel19Ideal.Final

namespace Cert.Reference19Ideal.At

open Cert.Reference19Ideal Cert.Reference19Ideal.Read Cert.Prod

open Cert.Mem Cert.MemFwd

variable (q : S8192x512.Idx → EReal) (kv : S256x1024.Idx → EReal)

/-- The keys split by head. -/
theorem keys (h : Fin 4) (c : Fin 256) (e : Fin 128) : val_main_v2 (F := Ideal) kv (ix4 (0 : Fin 1) c h e) = keyMat kv h c e := by
  unfold val_main_v2 val_main_v0
  pointwise
  unfold keyMat
  refine congrArg kv (congrArg (ix2 c) (Fin.ext ?_))
  show _ = 128 * h.val + e.val
  simp only []
  omega
/-- The values split by head. -/
theorem vals (h : Fin 4) (c : Fin 256) (e : Fin 128) : val_main_v3 (F := Ideal) kv (ix4 (0 : Fin 1) c h e) = valMat kv h c e := by
  unfold val_main_v3 val_main_v1
  pointwise
  unfold valMat
  refine congrArg kv (congrArg (ix2 c) (Fin.ext ?_))
  show _ = 512 + 128 * h.val + e.val
  simp only []
  omega
/-- The queries split by head. -/
theorem queries (h : Fin 4) (R : Fin 8192) (e : Fin 128) : val_main_v4 (F := Ideal) q (ix4 (0 : Fin 1) R h e) = headRow q h R e := by
  unfold val_main_v4
  pointwise
  unfold headRow
  refine congrArg q (congrArg (ix2 R) (Fin.ext ?_))
  show _ = 128 * h.val + e.val
  simp only []
  omega
/-- The scaled scores. -/
theorem scores (h : Fin 4) (R : Fin 8192) (c : Fin 256) :
    val_main_v7 (F := Ideal) q kv (ix4 (0 : Fin 1) h R c) = score (headRow q h R) (keyMat kv h) c := by
  unfold val_main_v7 val_main_v5 val_main_v6 val_main_cst
  pointwise [queries, keys]
  rfl
/-- The greatest entry of a row, of any array of scores. -/
theorem row_max (y : (⟨S1x4x8192x256, .f32⟩ : BufTy).Contents (Elt Ideal)) (h : Fin 4) (R : Fin 8192) :
    Host.reduce (FloatOps.maximumf (F := Ideal) (φ := .f32)) y (val_main_cst_0 (F := Ideal)) Gen.reducesTo_S1x4x8192x256_S1x4x8192_d3 Gen.h_S_
        (ix3 (0 : Fin 1) h R)
      = (Finset.univ : Finset (Fin 256)).fold max ⊥ (fun x => y (ix4 (0 : Fin 1) h R x)) := by
  pointwise [val_main_cst_0]
  rw [bits_bot]
/-- The greatest score of a row. -/
theorem tops (h : Fin 4) (R : Fin 8192) : val_main_v10 (F := Ideal) q kv (ix3 (0 : Fin 1) h R) = top (headRow q h R) (keyMat kv h) := by
  have e : val_main_v8 (F := Ideal) q kv (ix3 (0 : Fin 1) h R) = top (headRow q h R) (keyMat kv h) := by
    unfold val_main_v8 top
    refine (row_max _ h R).trans ?_
    exact congrArg (fun f => (Finset.univ : Finset (Fin 256)).fold max ⊥ f) (funext fun c => scores q kv h R c)
  rw [val_main_v10_apply, e]
  unfold val_main_v9 val_main_cst_1
  generalize top (headRow q h R) (keyMat kv h) = x
  pointwise
  rw [bits_bot]
  exact max_eq_right bot_le
/-- The exponentials of a row. -/
theorem weights (h : Fin 4) (R : Fin 8192) (c : Fin 256) :
    val_main_v14 (F := Ideal) q kv (ix4 (0 : Fin 1) h R c) = weight (headRow q h R) (keyMat kv h) c := by
  unfold val_main_v14 val_main_v13 val_main_v12 val_main_v11
  pointwise [scores, tops]
  rfl
/-- The sum of a row's exponentials. -/
theorem totals (h : Fin 4) (R : Fin 8192) :
    val_main_v16 (F := Ideal) q kv (ix4 (0 : Fin 1) h R (0 : Fin 1)) = total (headRow q h R) (keyMat kv h) := by
  unfold val_main_v16 val_main_v15 val_main_cst_2
  pointwise [weights]
  rfl
/-- The softmax. -/
theorem probs (h : Fin 4) (R : Fin 8192) (c : Fin 256) :
    val_main_v18 (F := Ideal) q kv (ix4 (0 : Fin 1) h R c) = prob (headRow q h R) (keyMat kv h) c := by
  unfold val_main_v18 val_main_v17
  pointwise [weights, totals]
  rfl
/-- The averaged values. -/
theorem avgs (h : Fin 4) (R : Fin 8192) (e : Fin 128) :
    val_main_v19 (F := Ideal) q kv (ix4 (0 : Fin 1) h e R) = avg (headRow q h R) (keyMat kv h) (valMat kv h) e := by
  unfold val_main_v19
  pointwise [vals, probs]
  exact Finset.sum_congr rfl fun c _ => mul_comm _ _
/-- The reference's output. -/
theorem value : val_main_v22 (F := Ideal) q kv = out q kv := by
  funext i
  obtain ⟨R, E, rfl⟩ : ∃ (R : Fin 8192) (E : Fin 512), i = ix2 R E := ⟨i 0, i 1, ValueIdx.eq_ix2 i⟩
  refine Eq.trans ?_ (out_at q kv R E ⟨E.val / 128, by omega⟩ ⟨E.val % 128, Nat.mod_lt _ (by decide)⟩ (by show E.val = 128 * (E.val / 128) + E.val % 128; omega)).symm
  unfold val_main_v22 val_main_v21 val_main_v20
  pointwise
  refine Eq.trans ?_ (avgs q kv ⟨E.val / 128, by omega⟩ R ⟨E.val % 128, Nat.mod_lt _ (by decide)⟩)
  rfl

end Cert.Reference19Ideal.At

namespace Cert.MemFwd

open Cert.Kernel19Ideal.Final

/-- The reference terminates and leaves its arguments unchanged; it has no counters. -/
theorem frame_reference : Cert.quiescent_Reference19Ideal := fun m ρ _ =>
  (θ_run Cert.Reference19Ideal.defs _ _).mono (fun r h => ⟨fun c => (h c).2,
    Idealize.ShloMosaic.sem_eq_zero_of_no_sems (by decide) r.2⟩) (Cert.Reference19Ideal.Value.run m ρ)

/-- Kernel and reference end with equal results. -/
theorem algebraic : Cert.algebraic_Kernel19Ideal_Reference19Ideal := by
  intro m ρ m' ρ' hpre hag
  refine ⟨fun c => Cert.MemFwd.out (m (c.tc.loc Cert.Kernel19Ideal.main_arg0)) (m (c.tc.loc Cert.Kernel19Ideal.main_arg1)),
    (θ_run Cert.Kernel19Ideal.defs _ _).mono (fun r h c => ?_) (Cert.Kernel19Ideal.Value.run_blocks m ρ),
    (θ_run Cert.Reference19Ideal.defs _ _).mono (fun r h c => ?_) (Cert.Reference19Ideal.Value.run m' ρ')⟩
  · obtain ⟨h0, k0, k1⟩ := h c
    exact ⟨h0.trans (arr3 m c), k0, k1⟩
  · obtain ⟨h0, k0, k1⟩ := h c
    obtain ⟨e0, e1⟩ := hag c
    exact ⟨h0.trans ((Cert.Reference19Ideal.Read.val_main_v22_eq _ _).trans (by rw [e0, e1]; exact Cert.Reference19Ideal.At.value _ _)), k0, k1⟩

end Cert.MemFwd

end
-- ==== Proof.Prod.Rows.lean ====
/-
  Rows of 1024 entries divided by the root of their mean square and scaled by a gain.
-/
module

public import proofs.«01_k».proof.Proof.Prod.Norm

@[expose] public section

noncomputable section

open Idealize.ShloMosaic
open scoped BigOperators

namespace Cert.Norm

/-- The normalised rows, scaled by the gain. -/
def normed {n : ℕ} (x : Shape.Idx ⟨2, ![n, 1024]⟩ → EReal) (g : Shape.Idx ⟨2, ![1, 1024]⟩ → EReal) : Shape.Idx ⟨2, ![n, 1024]⟩ → EReal :=
  fun i => x i * (rrms fun k => x (ix2 (i 0) k)) * g (ix2 0 (i 1))

end Cert.Norm

end
-- ==== Proof.OutProj.Final.lean ====
/-
  The output projection with the residual and the norm after it: kernel and reference end with equal results.
-/
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import proofs.«01_k».proof.Proof.Prod.Math
public import proofs.«01_k».proof.Proof.Prod.Rows

@[expose] public section

set_option maxRecDepth 16384

noncomputable section

open Idealize.ShloMosaic Idealize.ShloMosaic.TcCoe Idealize.SL.Sem
open scoped BigOperators

namespace Cert.OutProj

/-- The product added to what bypasses it. -/
def out {n : ℕ} (a : Shape.Idx ⟨2, ![n, 1024]⟩ → EReal) (b : Shape.Idx ⟨2, ![1024, 1024]⟩ → EReal) (h : Shape.Idx ⟨2, ![n, 1024]⟩ → EReal) :
    Shape.Idx ⟨2, ![n, 1024]⟩ → EReal := fun i => Prod.mul a b i + h i

end Cert.OutProj

namespace Cert.Kernel20Ideal.Final

open Cert.Kernel20Ideal Cert.Kernel20Ideal.Gen Cert.Prod

variable (m : (ℓ : Loc nD τ sig) → Buf (Elt Ideal) ℓ)

/-- Where each window's block of point `t` begins. -/
theorem idx : ∀ t : Fin cfg0.N,
    win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)

/-- The grid's points. -/
theorem ltN (t : Fin cfg0.N) : t.val < 8 := lt_of_lt_of_eq t.isLt (show cfg0.N = 8 from N_0)

/-- Row `r` of the tile at point `t`. -/
def row (t : Fin cfg0.N) (r : Fin 1024) : Fin 8192 := ⟨1024 * t.val + r.val, by have := ltN t; omega⟩

/-- The merged rows. -/
abbrev fa (c : Dev nD) : S8192x1024.Idx → EReal := m ((c : Thread nD τ).loc main_arg0)
/-- The weights. -/
abbrev fb (c : Dev nD) : S1024x1024.Idx → EReal := m ((c : Thread nD τ).loc main_arg1)
/-- What bypasses the product. -/
abbrev fh (c : Dev nD) : S8192x1024.Idx → EReal := m ((c : Thread nD τ).loc main_arg2)
/-- The gain. -/
abbrev fg (c : Dev nD) : S1x1024.Idx → EReal := m ((c : Thread nD τ).loc main_arg3)

/-- The tile of window 0. -/
theorem blk0 (c : Dev nD) (t : Fin cfg0.N) (r : Fin 1024) (e : Fin 1024) :
    (iblk m c 0 t : Vec Ideal S1024x1024 .bf16) (ix2 r e) = fa m c (ix2 (row t r) e) := by
  have := ltN t
  unfold row
  blk_ext [iblk, V, idx t]
/-- Window 1 is staged whole. -/
theorem blk1 (c : Dev nD) (t : Fin cfg0.N) (r : Fin 1024) (e : Fin 1024) :
    (iblk m c 1 t : Vec Ideal S1024x1024 .bf16) (ix2 r e) = fb m c (ix2 r e) := by
  blk_ext [iblk, V, idx t]
/-- The tile of window 2. -/
theorem blk2 (c : Dev nD) (t : Fin cfg0.N) (r : Fin 1024) (e : Fin 1024) :
    (iblk m c 2 t : Vec Ideal S1024x1024 .f32) (ix2 r e) = fh m c (ix2 (row t r) e) := by
  have := ltN t
  unfold row
  blk_ext [iblk, V, idx t]
/-- Window 3 is staged whole. -/
theorem blk3 (c : Dev nD) (t : Fin cfg0.N) (r : Fin 1) (e : Fin 1024) :
    (iblk m c 3 t : Vec Ideal S1x1024 .f32) (ix2 r e) = fg m c (ix2 r e) := by
  blk_ext [iblk, V, idx t]

section Tile

variable (a : Vec Ideal S1024x1024 .bf16) (b : Vec Ideal S1024x1024 .bf16) (h : Vec Ideal S1024x1024 .f32) (g : Vec Ideal S1x1024 .f32)

/-- A tile's output. -/
theorem pay1g (r e : Fin 1024) : k0_pay1 (F := Ideal) a b h (ix2 r e) = OutProj.out (n := 1024) a b h (ix2 r e) := by
  unfold k0_pay1
  pointwise
  rfl
/-- A tile's normalised rows. -/
theorem pay2g (r e : Fin 1024) : k0_pay2 (F := Ideal) a b h g (ix2 r e) = Norm.normed (n := 1024) (OutProj.out (n := 1024) a b h) g (ix2 r e) := by
  unfold k0_pay2
  pointwise
  simp only [pay1g]
  rfl

end Tile

/-- The output, as an array. -/
abbrev fx (c : Dev nD) : S8192x1024.Idx → EReal := OutProj.out (fa m c) (fb m c) (fh m c)
/-- The output of point `t`'s tile. -/
theorem out_tile (c : Dev nD) (t : Fin cfg0.N) (r e : Fin 1024) :
    OutProj.out (n := 1024) (iblk m c 0 t) (iblk m c 1 t) (iblk m c 2 t) (ix2 r e) = fx m c (ix2 (row t r) e) := by
  refine congrArg₂ (fun a b : EReal => a + b) (Finset.sum_congr rfl fun k _ => congrArg₂ (fun a b : EReal => a * b) (blk0 m c t r k) (blk1 m c t k e)) (blk2 m c t r e)
/-- The tile's output. -/
theorem pay1 (c : Dev nD) (t : Fin cfg0.N) (i : S1024x1024.Idx) :
    k0_pay1 (F := Ideal) (iblk m c 0 t) (iblk m c 1 t) (iblk m c 2 t) i = fx m c (ix2 (row t (i 0)) (i 1)) := by
  obtain ⟨r, e, rfl⟩ : ∃ (r : Fin 1024) (e : Fin 1024), i = ix2 r e := ⟨i 0, i 1, ValueIdx.eq_ix2 i⟩
  exact (pay1g _ _ _ r e).trans (out_tile m c t r e)
/-- The tile's normalised rows. -/
theorem pay2 (c : Dev nD) (t : Fin cfg0.N) (i : S1024x1024.Idx) :
    k0_pay2 (F := Ideal) (iblk m c 0 t) (iblk m c 1 t) (iblk m c 2 t) (iblk m c 3 t) i = Norm.normed (fx m c) (fg m c) (ix2 (row t (i 0)) (i 1)) := by
  obtain ⟨r, e, rfl⟩ : ∃ (r : Fin 1024) (e : Fin 1024), i = ix2 r e := ⟨i 0, i 1, ValueIdx.eq_ix2 i⟩
  refine (pay2g _ _ _ _ r e).trans ?_
  unfold Norm.normed
  simp only [ix2_0, ix2_1, out_tile, blk3]
/-- The result after the run. -/
theorem arr4 (c : Dev nD) : (dats m 0 c).arrAt 4 cfg0.N = fx m c := by
  refine (dats m 0 c).arrAt_eq_of_covers 4 _ (by decide +kernel) fun t hf y => ?_
  have hlt := ltN t
  have h9 : ((cfg0.win 4).blk t).view.emb y = ix2 (row t (y 0)) (y 1) := by
    unfold row
    blk_ext [idx t]
  rw [h9]
  blk_simp
  rw [after0_4]
  unfold out0_4
  frame_out
  exact pay1 m c t y
/-- The normalised rows after the run. -/
theorem arr5 (c : Dev nD) : (dats m 0 c).arrAt 5 cfg0.N = Norm.normed (fx m c) (fg m c) := by
  refine (dats m 0 c).arrAt_eq_of_covers 5 _ (by decide +kernel) fun t hf y => ?_
  have hlt := ltN t
  have h9 : ((cfg0.win 5).blk t).view.emb y = ix2 (row t (y 0)) (y 1) := by
    unfold row
    blk_ext [idx t]
  rw [h9]
  blk_simp
  rw [after0_5]
  unfold out0_5
  frame_out
  exact pay2 m c t y

end Cert.Kernel20Ideal.Final

namespace Cert.Reference20Ideal.At

open Cert.Reference20Ideal Cert.Reference20Ideal.Read Cert.Prod

/-- The reference's output. -/
theorem out_at (x0 : S8192x1024.Idx → EReal) (x1 : S1024x1024.Idx → EReal) (x2 : S8192x1024.Idx → EReal) (r : Fin 8192) (e : Fin 1024) : val_main_v3 (F := Ideal) x0 x1 x2 (ix2 r e) = OutProj.out x0 x1 x2 (ix2 r e) := by
  unfold val_main_v3 val_main_v2 val_main_v0 val_main_v1
  pointwise
  exact add_comm _ _
/-- The reference's output. -/
theorem value0 (x0 : S8192x1024.Idx → EReal) (x1 : S1024x1024.Idx → EReal) (x2 : S8192x1024.Idx → EReal) : val_main_v3 (F := Ideal) x0 x1 x2 = OutProj.out x0 x1 x2 := by
  funext i
  obtain ⟨r, e, rfl⟩ : ∃ (r : Fin 8192) (e : Fin 1024), i = ix2 r e := ⟨i 0, i 1, ValueIdx.eq_ix2 i⟩
  exact out_at x0 x1 x2 r e
/-- The reference's normalised rows. -/
theorem value1 (x0 : S8192x1024.Idx → EReal) (x1 : S1024x1024.Idx → EReal) (x2 : S8192x1024.Idx → EReal) (x3 : S1x1024.Idx → EReal) : val_main_v16 (F := Ideal) x0 x1 x2 x3 = Norm.normed (OutProj.out x0 x1 x2) x3 := by
  funext i
  obtain ⟨r, e, rfl⟩ : ∃ (r : Fin 8192) (e : Fin 1024), i = ix2 r e := ⟨i 0, i 1, ValueIdx.eq_ix2 i⟩
  unfold val_main_v16 val_main_v15 val_main_v13 val_main_v12 val_main_v11 val_main_v10 val_main_v8 val_main_v6 val_main_v5 val_main_v4 val_main_cst val_main_v7 val_main_cst_0 val_main_v9 val_main_cst_1 val_main_v14
  pointwise
  simp only [out_at]
  rfl

end Cert.Reference20Ideal.At

namespace Cert.OutProj

open Cert.Kernel20Ideal.Final

/-- The reference terminates and leaves its arguments unchanged; it has no counters. -/
theorem frame_reference : Cert.quiescent_Reference20Ideal := fun m ρ _ =>
  (θ_run Cert.Reference20Ideal.defs _ _).mono (fun r h => ⟨fun c => ((h c).2).2,
    Idealize.ShloMosaic.sem_eq_zero_of_no_sems (by decide) r.2⟩) (Cert.Reference20Ideal.Value.run m ρ)

/-- Kernel and reference end with equal results. -/
theorem algebraic : Cert.algebraic_Kernel20Ideal_Reference20Ideal := by
  intro m ρ m' ρ' hpre hag
  refine ⟨fun c => Cert.OutProj.out (m (c.tc.loc Cert.Kernel20Ideal.main_arg0)) (m (c.tc.loc Cert.Kernel20Ideal.main_arg1)) (m (c.tc.loc Cert.Kernel20Ideal.main_arg2)), fun c => Cert.Norm.normed (Cert.OutProj.out (m (c.tc.loc Cert.Kernel20Ideal.main_arg0)) (m (c.tc.loc Cert.Kernel20Ideal.main_arg1)) (m (c.tc.loc Cert.Kernel20Ideal.main_arg2))) (m (c.tc.loc Cert.Kernel20Ideal.main_arg3)),
    (θ_run Cert.Kernel20Ideal.defs _ _).mono (fun r h c => ?_) (Cert.Kernel20Ideal.Value.run_blocks m ρ),
    (θ_run Cert.Reference20Ideal.defs _ _).mono (fun r h c => ?_) (Cert.Reference20Ideal.Value.run m' ρ')⟩
  · obtain ⟨h0, h1, k0, k1, k2, k3⟩ := h c
    exact ⟨h0.trans (arr4 m c), h1.trans (arr5 m c), k0, k1, k2, k3⟩
  · obtain ⟨h0, h1, k0, k1, k2, k3⟩ := h c
    obtain ⟨e0, e1, e2, e3⟩ := hag c
    exact ⟨h0.trans ((Cert.Reference20Ideal.Read.val_main_v3_eq _ _ _).trans (by rw [e0, e1, e2]; exact Cert.Reference20Ideal.At.value0 _ _ _)), h1.trans ((Cert.Reference20Ideal.Read.val_main_v16_eq _ _ _ _).trans (by rw [e0, e1, e2, e3]; exact Cert.Reference20Ideal.At.value1 _ _ _ _)), k0, k1, k2, k3⟩

end Cert.OutProj

end
-- ==== Proof.Norm1.Final.lean ====
/-
  The norm before the input projection: kernel and reference end with equal results.
-/
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import proofs.«01_k».proof.Proof.Prod.Math
public import proofs.«01_k».proof.Proof.Prod.Rows

@[expose] public section

set_option maxRecDepth 16384

noncomputable section

open Idealize.ShloMosaic Idealize.ShloMosaic.TcCoe Idealize.SL.Sem
open scoped BigOperators

namespace Cert.Kernel21Ideal.Final

open Cert.Kernel21Ideal Cert.Kernel21Ideal.Gen Cert.Prod

variable (m : (ℓ : Loc nD τ sig) → Buf (Elt Ideal) ℓ)

/-- Where each window's block of point `t` begins. -/
theorem idx : ∀ t : Fin cfg0.N,
    win0_0.index t = ![t.val, 0] ∧ win0_1.index t = ![0, 0] ∧ win0_2.index t = ![t.val, 0] :=
  (by decide +kernel : ∀ t : Fin grid0.N, _)

/-- The grid's points. -/
theorem ltN (t : Fin cfg0.N) : t.val < 16 := lt_of_lt_of_eq t.isLt (show cfg0.N = 16 from N_0)

/-- Row `r` of the tile at point `t`. -/
def row (t : Fin cfg0.N) (r : Fin 512) : Fin 8192 := ⟨512 * t.val + r.val, by have := ltN t; omega⟩

/-- The rows. -/
abbrev fx (c : Dev nD) : S8192x1024.Idx → EReal := m ((c : Thread nD τ).loc main_arg0)
/-- The gain. -/
abbrev fg (c : Dev nD) : S1x1024.Idx → EReal := m ((c : Thread nD τ).loc main_arg1)

/-- The tile of window 0. -/
theorem blk0 (c : Dev nD) (t : Fin cfg0.N) (r : Fin 512) (e : Fin 1024) :
    (iblk m c 0 t : Vec Ideal S512x1024 .f32) (ix2 r e) = fx m c (ix2 (row t r) e) := by
  have := ltN t
  unfold row
  blk_ext [iblk, V, idx t]
/-- Window 1 is staged whole. -/
theorem blk1 (c : Dev nD) (t : Fin cfg0.N) (r : Fin 1) (e : Fin 1024) :
    (iblk m c 1 t : Vec Ideal S1x1024 .f32) (ix2 r e) = fg m c (ix2 r e) := by
  blk_ext [iblk, V, idx t]

/-- A tile's normalised rows. -/
theorem pay1g (x : Vec Ideal S512x1024 .f32) (g : Vec Ideal S1x1024 .f32) (r : Fin 512) (e : Fin 1024) :
    k0_pay1 (F := Ideal) x g (ix2 r e) = Norm.normed (n := 512) x g (ix2 r e) := by
  unfold k0_pay1
  pointwise
  rfl
/-- The tile's normalised rows. -/
theorem pay1 (c : Dev nD) (t : Fin cfg0.N) (i : S512x1024.Idx) :
    k0_pay1 (F := Ideal) (iblk m c 0 t) (iblk m c 1 t) i = Norm.normed (fx m c) (fg m c) (ix2 (row t (i 0)) (i 1)) := by
  obtain ⟨r, e, rfl⟩ : ∃ (r : Fin 512) (e : Fin 1024), i = ix2 r e := ⟨i 0, i 1, ValueIdx.eq_ix2 i⟩
  refine (pay1g _ _ r e).trans ?_
  unfold Norm.normed
  simp only [ix2_0, ix2_1, blk0, blk1]
/-- The result after the run. -/
theorem arr2 (c : Dev nD) : (dats m 0 c).arrAt 2 cfg0.N = Norm.normed (fx m c) (fg m c) := by
  refine (dats m 0 c).arrAt_eq_of_covers 2 _ (by decide +kernel) fun t hf y => ?_
  have hlt := ltN t
  have h9 : ((cfg0.win 2).blk t).view.emb y = ix2 (row t (y 0)) (y 1) := by
    unfold row
    blk_ext [idx t]
  rw [h9]
  blk_simp
  rw [after0_2]
  unfold out0_2
  frame_out
  exact pay1 m c t y

end Cert.Kernel21Ideal.Final

namespace Cert.Reference21Ideal.At

open Cert.Reference21Ideal Cert.Reference21Ideal.Read Cert.Prod

/-- The reference's rows. -/
theorem value (x0 : S8192x1024.Idx → EReal) (x1 : S1x1024.Idx → EReal) : val_main_v12 (F := Ideal) x0 x1 = Norm.normed x0 x1 := by
  funext i
  obtain ⟨r, e, rfl⟩ : ∃ (r : Fin 8192) (e : Fin 1024), i = ix2 r e := ⟨i 0, i 1, ValueIdx.eq_ix2 i⟩
  unfold val_main_v12 val_main_v11 val_main_v9 val_main_v8 val_main_v7 val_main_v6 val_main_v4 val_main_v2 val_main_v1 val_main_v0 val_main_cst val_main_v3 val_main_cst_0 val_main_v5 val_main_cst_1 val_main_v10
  pointwise
  rfl

end Cert.Reference21Ideal.At

namespace Cert.Norm1

open Cert.Kernel21Ideal.Final

/-- The reference terminates and leaves its arguments unchanged; it has no counters. -/
theorem frame_reference : Cert.quiescent_Reference21Ideal := fun m ρ _ =>
  (θ_run Cert.Reference21Ideal.defs _ _).mono (fun r h => ⟨fun c => (h c).2,
    Idealize.ShloMosaic.sem_eq_zero_of_no_sems (by decide) r.2⟩) (Cert.Reference21Ideal.Value.run m ρ)

/-- Kernel and reference end with equal results. -/
theorem algebraic : Cert.algebraic_Kernel21Ideal_Reference21Ideal := by
  intro m ρ m' ρ' hpre hag
  refine ⟨fun c => Cert.Norm.normed (m (c.tc.loc Cert.Kernel21Ideal.main_arg0)) (m (c.tc.loc Cert.Kernel21Ideal.main_arg1)),
    (θ_run Cert.Kernel21Ideal.defs _ _).mono (fun r h c => ?_) (Cert.Kernel21Ideal.Value.run_blocks m ρ),
    (θ_run Cert.Reference21Ideal.defs _ _).mono (fun r h c => ?_) (Cert.Reference21Ideal.Value.run m' ρ')⟩
  · obtain ⟨h0, k0, k1⟩ := h c
    exact ⟨h0.trans (arr2 m c), k0, k1⟩
  · obtain ⟨h0, k0, k1⟩ := h c
    obtain ⟨e0, e1⟩ := hag c
    exact ⟨h0.trans ((Cert.Reference21Ideal.Read.val_main_v12_eq _ _).trans (by rw [e0, e1]; exact Cert.Reference21Ideal.At.value _ _)), k0, k1⟩

end Cert.Norm1

end
-- ==== Proof.MemNorm.Final.lean ====
/-
  The norm of the memory: kernel and reference end with equal results.
-/
module

public import proofs.«01_k».proof.Defs
public import proofs.«01_k».proof.Proof.Gen.Kernel22Ideal.Value
public import proofs.«01_k».proof.Proof.Gen.Reference22Ideal.Run
public import proofs.«01_k».proof.Proof.Gen.Reference22Ideal.Read
public import proofs.«01_k».proof.Proof.Prod.Math
public import proofs.«01_k».proof.Proof.Prod.Rows

@[expose] public section

set_option maxRecDepth 16384

noncomputable section

open Idealize.ShloMosaic Idealize.ShloMosaic.TcCoe Idealize.SL.Sem
open scoped BigOperators

namespace Cert.Kernel22Ideal.Final

open Cert.Kernel22Ideal Cert.Kernel22Ideal.Gen Cert.Prod

variable (m : (ℓ : Loc nD τ sig) → Buf (Elt Ideal) ℓ)

/-- Where each window's block of point `t` begins. -/
theorem idx : ∀ t : Fin cfg0.N,
    win0_0.index t = ![t.val, 0] ∧ win0_1.index t = ![0, 0] ∧ win0_2.index t = ![t.val, 0] :=
  (by decide +kernel : ∀ t : Fin grid0.N, _)

/-- The grid's points. -/
theorem ltN (t : Fin cfg0.N) : t.val < 1 := lt_of_lt_of_eq t.isLt (show cfg0.N = 1 from N_0)

/-- Row `r` of the tile at point `t`. -/
def row (t : Fin cfg0.N) (r : Fin 256) : Fin 256 := ⟨256 * t.val + r.val, by have := ltN t; omega⟩

/-- The rows. -/
abbrev fx (c : Dev nD) : S256x1024.Idx → EReal := m ((c : Thread nD τ).loc main_arg0)
/-- The gain. -/
abbrev fg (c : Dev nD) : S1x1024.Idx → EReal := m ((c : Thread nD τ).loc main_arg1)

/-- The tile of window 0. -/
theorem blk0 (c : Dev nD) (t : Fin cfg0.N) (r : Fin 256) (e : Fin 1024) :
    (iblk m c 0 t : Vec Ideal S256x1024 .f32) (ix2 r e) = fx m c (ix2 (row t r) e) := by
  have := ltN t
  unfold row
  blk_ext [iblk, V, idx t]
/-- Window 1 is staged whole. -/
theorem blk1 (c : Dev nD) (t : Fin cfg0.N) (r : Fin 1) (e : Fin 1024) :
    (iblk m c 1 t : Vec Ideal S1x1024 .f32) (ix2 r e) = fg m c (ix2 r e) := by
  blk_ext [iblk, V, idx t]

/-- A tile's normalised rows. -/
theorem pay1g (x : Vec Ideal S256x1024 .f32) (g : Vec Ideal S1x1024 .f32) (r : Fin 256) (e : Fin 1024) :
    k0_pay1 (F := Ideal) x g (ix2 r e) = Norm.normed (n := 256) x g (ix2 r e) := by
  unfold k0_pay1
  pointwise
  rfl
/-- The tile's normalised rows. -/
theorem pay1 (c : Dev nD) (t : Fin cfg0.N) (i : S256x1024.Idx) :
    k0_pay1 (F := Ideal) (iblk m c 0 t) (iblk m c 1 t) i = Norm.normed (fx m c) (fg m c) (ix2 (row t (i 0)) (i 1)) := by
  obtain ⟨r, e, rfl⟩ : ∃ (r : Fin 256) (e : Fin 1024), i = ix2 r e := ⟨i 0, i 1, ValueIdx.eq_ix2 i⟩
  refine (pay1g _ _ r e).trans ?_
  unfold Norm.normed
  simp only [ix2_0, ix2_1, blk0, blk1]
/-- The result after the run. -/
theorem arr2 (c : Dev nD) : (dats m 0 c).arrAt 2 cfg0.N = Norm.normed (fx m c) (fg m c) := by
  refine (dats m 0 c).arrAt_eq_of_covers 2 _ (by decide +kernel) fun t hf y => ?_
  have hlt := ltN t
  have h9 : ((cfg0.win 2).blk t).view.emb y = ix2 (row t (y 0)) (y 1) := by
    unfold row
    blk_ext [idx t]
  rw [h9]
  blk_simp
  rw [after0_2]
  unfold out0_2
  frame_out
  exact pay1 m c t y

end Cert.Kernel22Ideal.Final

namespace Cert.Reference22Ideal.At

open Cert.Reference22Ideal Cert.Reference22Ideal.Read Cert.Prod

/-- The reference's rows. -/
theorem value (x0 : S256x1024.Idx → EReal) (x1 : S1x1024.Idx → EReal) : val_main_v12 (F := Ideal) x0 x1 = Norm.normed x0 x1 := by
  funext i
  obtain ⟨r, e, rfl⟩ : ∃ (r : Fin 256) (e : Fin 1024), i = ix2 r e := ⟨i 0, i 1, ValueIdx.eq_ix2 i⟩
  unfold val_main_v12 val_main_v11 val_main_v9 val_main_v8 val_main_v7 val_main_v6 val_main_v4 val_main_v2 val_main_v1 val_main_v0 val_main_cst val_main_v3 val_main_cst_0 val_main_v5 val_main_cst_1 val_main_v10
  pointwise
  rfl

end Cert.Reference22Ideal.At

namespace Cert.MemNorm

open Cert.Kernel22Ideal.Final

/-- The reference terminates and leaves its arguments unchanged; it has no counters. -/
theorem frame_reference : Cert.quiescent_Reference22Ideal := fun m ρ _ =>
  (θ_run Cert.Reference22Ideal.defs _ _).mono (fun r h => ⟨fun c => (h c).2,
    Idealize.ShloMosaic.sem_eq_zero_of_no_sems (by decide) r.2⟩) (Cert.Reference22Ideal.Value.run m ρ)

/-- Kernel and reference end with equal results. -/
theorem algebraic : Cert.algebraic_Kernel22Ideal_Reference22Ideal := by
  intro m ρ m' ρ' hpre hag
  refine ⟨fun c => Cert.Norm.normed (m (c.tc.loc Cert.Kernel22Ideal.main_arg0)) (m (c.tc.loc Cert.Kernel22Ideal.main_arg1)),
    (θ_run Cert.Kernel22Ideal.defs _ _).mono (fun r h c => ?_) (Cert.Kernel22Ideal.Value.run_blocks m ρ),
    (θ_run Cert.Reference22Ideal.defs _ _).mono (fun r h c => ?_) (Cert.Reference22Ideal.Value.run m' ρ')⟩
  · obtain ⟨h0, k0, k1⟩ := h c
    exact ⟨h0.trans (arr2 m c), k0, k1⟩
  · obtain ⟨h0, k0, k1⟩ := h c
    obtain ⟨e0, e1⟩ := hag c
    exact ⟨h0.trans ((Cert.Reference22Ideal.Read.val_main_v12_eq _ _).trans (by rw [e0, e1]; exact Cert.Reference22Ideal.At.value _ _)), k0, k1⟩

end Cert.MemNorm

end
-- ==== Proof.MemKv.Final.lean ====
/-
  The projection of the memory to keys and values: kernel and reference end with equal results.
-/
module

public import proofs.«01_k».proof.Defs
public import proofs.«01_k».proof.Proof.Gen.Kernel23Ideal.Value
public import proofs.«01_k».proof.Proof.Gen.Reference23Ideal.Run
public import proofs.«01_k».proof.Proof.Gen.Reference23Ideal.Read
public import proofs.«01_k».proof.Proof.Prod.Math
public import proofs.«01_k».proof.Proof.Prod.Math

@[expose] public section

set_option maxRecDepth 16384

noncomputable section

open Idealize.ShloMosaic Idealize.ShloMosaic.TcCoe Idealize.SL.Sem
open scoped BigOperators

namespace Cert.Kernel23Ideal.Final

open Cert.Kernel23Ideal Cert.Kernel23Ideal.Gen Cert.Prod

variable (m : (ℓ : Loc nD τ sig) → Buf (Elt Ideal) ℓ)

/-- Where each window's block of point `t` begins. -/
theorem idx : ∀ t : Fin cfg0.N,
    win0_0.index t = ![t.val, 0] ∧ win0_1.index t = ![0, 0] ∧ win0_2.index t = ![t.val, 0] :=
  (by decide +kernel : ∀ t : Fin grid0.N, _)

/-- The grid's points. -/
theorem ltN (t : Fin cfg0.N) : t.val < 1 := lt_of_lt_of_eq t.isLt (show cfg0.N = 1 from N_0)

/-- Row `r` of the tile at point `t`. -/
def row (t : Fin cfg0.N) (r : Fin 256) : Fin 256 := ⟨256 * t.val + r.val, by have := ltN t; omega⟩

/-- The rows. -/
abbrev fa (c : Dev nD) : S256x1024.Idx → EReal := m ((c : Thread nD τ).loc main_arg0)
/-- The weights. -/
abbrev fb (c : Dev nD) : S1024x1024.Idx → EReal := m ((c : Thread nD τ).loc main_arg1)

/-- The tile of window 0. -/
theorem blk0 (c : Dev nD) (t : Fin cfg0.N) (r : Fin 256) (e : Fin 1024) :
    (iblk m c 0 t : Vec Ideal S256x1024 .bf16) (ix2 r e) = fa m c (ix2 (row t r) e) := by
  have := ltN t
  unfold row
  blk_ext [iblk, V, idx t]
/-- Window 1 is staged whole. -/
theorem blk1 (c : Dev nD) (t : Fin cfg0.N) (r : Fin 1024) (e : Fin 1024) :
    (iblk m c 1 t : Vec Ideal S1024x1024 .bf16) (ix2 r e) = fb m c (ix2 r e) := by
  blk_ext [iblk, V, idx t]

/-- The product of the tiles. -/
theorem pay1 (c : Dev nD) (t : Fin cfg0.N) (i : S256x1024.Idx) :
    k0_pay1 (F := Ideal) (iblk m c 0 t) (iblk m c 1 t) i = Prod.mul (fa m c) (fb m c) (ix2 (row t (i 0)) (i 1)) := by
  obtain ⟨r, e, rfl⟩ : ∃ (r : Fin 256) (e : Fin 1024), i = ix2 r e := ⟨i 0, i 1, ValueIdx.eq_ix2 i⟩
  unfold k0_pay1
  pointwise
  simp only [blk0, blk1]
  rfl
/-- The result after the run. -/
theorem arr2 (c : Dev nD) : (dats m 0 c).arrAt 2 cfg0.N = Prod.mul (fa m c) (fb m c) := by
  refine (dats m 0 c).arrAt_eq_of_covers 2 _ (by decide +kernel) fun t hf y => ?_
  have hlt := ltN t
  have h9 : ((cfg0.win 2).blk t).view.emb y = ix2 (row t (y 0)) (y 1) := by
    unfold row
    blk_ext [idx t]
  rw [h9]
  blk_simp
  rw [after0_2]
  unfold out0_2
  frame_out
  exact pay1 m c t y

end Cert.Kernel23Ideal.Final

namespace Cert.Reference23Ideal.At

open Cert.Reference23Ideal Cert.Reference23Ideal.Read Cert.Prod

/-- The reference's product. -/
theorem value (x0 : S256x1024.Idx → EReal) (x1 : S1024x1024.Idx → EReal) : val_main_v2 (F := Ideal) x0 x1 = Prod.mul x0 x1 := by
  funext i
  obtain ⟨r, e, rfl⟩ : ∃ (r : Fin 256) (e : Fin 1024), i = ix2 r e := ⟨i 0, i 1, ValueIdx.eq_ix2 i⟩
  unfold val_main_v2 val_main_v0 val_main_v1
  pointwise
  rfl

end Cert.Reference23Ideal.At

namespace Cert.MemKv

open Cert.Kernel23Ideal.Final

/-- The reference terminates and leaves its arguments unchanged; it has no counters. -/
theorem frame_reference : Cert.quiescent_Reference23Ideal := fun m ρ _ =>
  (θ_run Cert.Reference23Ideal.defs _ _).mono (fun r h => ⟨fun c => (h c).2,
    Idealize.ShloMosaic.sem_eq_zero_of_no_sems (by decide) r.2⟩) (Cert.Reference23Ideal.Value.run m ρ)

/-- Kernel and reference end with equal results. -/
theorem algebraic : Cert.algebraic_Kernel23Ideal_Reference23Ideal := by
  intro m ρ m' ρ' hpre hag
  refine ⟨fun c => Cert.Prod.mul (m (c.tc.loc Cert.Kernel23Ideal.main_arg0)) (m (c.tc.loc Cert.Kernel23Ideal.main_arg1)),
    (θ_run Cert.Kernel23Ideal.defs _ _).mono (fun r h c => ?_) (Cert.Kernel23Ideal.Value.run_blocks m ρ),
    (θ_run Cert.Reference23Ideal.defs _ _).mono (fun r h c => ?_) (Cert.Reference23Ideal.Value.run m' ρ')⟩
  · obtain ⟨h0, k0, k1⟩ := h c
    exact ⟨h0.trans (arr2 m c), k0, k1⟩
  · obtain ⟨h0, k0, k1⟩ := h c
    obtain ⟨e0, e1⟩ := hag c
    exact ⟨h0.trans ((Cert.Reference23Ideal.Read.val_main_v2_eq _ _).trans (by rw [e0, e1]; exact Cert.Reference23Ideal.At.value _ _)), k0, k1⟩

end Cert.MemKv

end
-- ==== Proof.DwMemKv.Final.lean ====
/-
  The gradient of the weights that project the memory: kernel and reference end with equal results.
-/
module

public import proofs.«01_k».proof.Defs
public import proofs.«01_k».proof.Proof.Gen.Kernel24Ideal.Value
public import proofs.«01_k».proof.Proof.Gen.Reference24Ideal.Run
public import proofs.«01_k».proof.Proof.Gen.Reference24Ideal.Read
public import proofs.«01_k».proof.Proof.Prod.Math
public import proofs.«01_k».proof.Proof.Prod.Math

@[expose] public section

set_option maxRecDepth 16384

noncomputable section

open Idealize.ShloMosaic Idealize.ShloMosaic.TcCoe Idealize.SL.Sem
open scoped BigOperators

namespace Cert.DwMemKv

/-- Two blocks of columns side by side. -/
def cat (a b : Shape.Idx ⟨2, ![256, 512]⟩ → EReal) : Shape.Idx ⟨2, ![256, 1024]⟩ → EReal :=
  fun i => if h : (i 1).val < 512 then a (ix2 (i 0) ⟨(i 1).val, h⟩)
    else b (ix2 (i 0) ⟨(i 1).val - 512, by have h : (i 1).val < 1024 := (i 1).isLt; omega⟩)

end Cert.DwMemKv

namespace Cert.Kernel24Ideal.Final

open Cert.Kernel24Ideal Cert.Kernel24Ideal.Gen Cert.Prod

variable (m : (ℓ : Loc nD τ sig) → Buf (Elt Ideal) ℓ)

/-- Where each window's block of point `t` begins. -/
theorem idx : ∀ t : Fin cfg0.N,
    win0_0.index t = ![0, 0] ∧ win0_1.index t = ![0, 0] ∧ win0_2.index t = ![0, 0] :=
  (by decide +kernel : ∀ t : Fin grid0.N, _)

/-- The grid's points. -/
theorem ltN (t : Fin cfg0.N) : t.val < 1 := lt_of_lt_of_eq t.isLt (show cfg0.N = 1 from N_0)

/-- Row `r` of the tile at point `t`. -/
def row (t : Fin cfg0.N) (r : Fin 256) : Fin 256 := ⟨256 * t.val + r.val, by have := ltN t; omega⟩

/-- The normalised memory. -/
abbrev fa (c : Dev nD) : S256x1024.Idx → EReal := m ((c : Thread nD τ).loc main_arg0)

/-- Window 0 is staged whole. -/
theorem blk0 (c : Dev nD) (t : Fin cfg0.N) (r : Fin 256) (e : Fin 1024) :
    (iblk m c 0 t : Vec Ideal S256x1024 .bf16) (ix2 r e) = fa m c (ix2 r e) := by
  blk_ext [iblk, V, idx t]

/-- The keys' cotangent. -/
abbrev fk (c : Dev nD) : S256x512.Idx → EReal := m ((c : Thread nD τ).loc main_arg1)
/-- The values' cotangent. -/
abbrev fv (c : Dev nD) : S256x512.Idx → EReal := m ((c : Thread nD τ).loc main_arg2)
/-- What the host leaves in the cotangents' buffer. -/
theorem V_main_v0 (c : Dev nD) : V m c main_v0 = (concatenate S256x1024 1 [⟨S256x512, (m ((c : Thread nD τ).loc main_arg1) : Vec Ideal S256x512 .f32)⟩,
    ⟨S256x512, (m ((c : Thread nD τ).loc main_arg2) : Vec Ideal S256x512 .f32)⟩] concatenates_S256x512_S256x512_S256x1024_d1 : Vec Ideal S256x1024 .f32) := by
  simp only [V, hostOps0, StableHlo.TRef.binary, StableHlo.TRef.toBuf, StableHlo.TRef.ofBuf, cast_eq]
  after_results
/-- The cotangents are staged whole. -/
theorem blk1 (c : Dev nD) (t : Fin cfg0.N) (r : Fin 256) (e : Fin 1024) :
    (iblk m c 1 t : Vec Ideal S256x1024 .f32) (ix2 r e) = DwMemKv.cat (fk m c) (fv m c) (ix2 r e) := by
  have h9 : ((cfg0.win 1).blk t).view.emb (ix2 r e) = ix2 r e := by
    blk_ext [idx t]
  show (V m c main_v0 : S256x1024.Idx → EReal) (((cfg0.win 1).blk t).view.emb (ix2 r e)) = _
  rw [h9, V_main_v0]
  pointwise
  rfl
/-- The product. -/
theorem pay1 (c : Dev nD) (t : Fin cfg0.N) (i : S1024x1024.Idx) :
    k0_pay1 (F := Ideal) (iblk m c 0 t) (iblk m c 1 t) i = Prod.tmul (fa m c) (DwMemKv.cat (fk m c) (fv m c)) i := by
  obtain ⟨r, e, rfl⟩ : ∃ (r : Fin 1024) (e : Fin 1024), i = ix2 r e := ⟨i 0, i 1, ValueIdx.eq_ix2 i⟩
  unfold k0_pay1
  pointwise
  simp only [blk0, blk1]
  rfl
/-- The result after the run. -/
theorem arr2 (c : Dev nD) : (dats m 0 c).arrAt 2 cfg0.N = Prod.tmul (fa m c) (DwMemKv.cat (fk m c) (fv m c)) := by
  refine (dats m 0 c).arrAt_eq_of_covers 2 _ (by decide +kernel) fun t hf y => ?_
  have h9 : ((cfg0.win 2).blk t).view.emb y = y := by
    blk_ext [idx t]
  rw [h9]
  blk_simp
  rw [after0_2]
  unfold out0_2
  frame_out
  exact pay1 m c t y

end Cert.Kernel24Ideal.Final

namespace Cert.Reference24Ideal.At

open Cert.Reference24Ideal Cert.Reference24Ideal.Read Cert.Prod

/-- The concatenated cotangents. -/
theorem cats (x1 x2 : S256x512.Idx → EReal) (r : Fin 256) (e : Fin 1024) : val_main_v5 (F := Ideal) x1 x2 (ix2 r e) = DwMemKv.cat x1 x2 (ix2 r e) := by
  unfold val_main_v5
  pointwise
  rfl
/-- The reference's product. -/
theorem value (x0 : S256x1024.Idx → EReal) (x1 x2 : S256x512.Idx → EReal) : val_main_v7 (F := Ideal) x0 x1 x2 = Prod.tmul x0 (DwMemKv.cat x1 x2) := by
  funext i
  obtain ⟨r, e, rfl⟩ : ∃ (r : Fin 1024) (e : Fin 1024), i = ix2 r e := ⟨i 0, i 1, ValueIdx.eq_ix2 i⟩
  unfold val_main_v7 val_main_v6 val_main_v1
  pointwise
  simp only [cats]
  exact Finset.sum_congr rfl fun k _ => mul_comm _ _

end Cert.Reference24Ideal.At

namespace Cert.DwMemKv

open Cert.Kernel24Ideal.Final

/-- The reference terminates and leaves its arguments unchanged; it has no counters. -/
theorem frame_reference : Cert.quiescent_Reference24Ideal := fun m ρ _ =>
  (θ_run Cert.Reference24Ideal.defs _ _).mono (fun r h => ⟨fun c => (h c).2,
    Idealize.ShloMosaic.sem_eq_zero_of_no_sems (by decide) r.2⟩) (Cert.Reference24Ideal.Value.run m ρ)

/-- Kernel and reference end with equal results. -/
theorem algebraic : Cert.algebraic_Kernel24Ideal_Reference24Ideal := by
  intro m ρ m' ρ' hpre hag
  refine ⟨fun c => Cert.Prod.tmul (m (c.tc.loc Cert.Kernel24Ideal.main_arg0)) (Cert.DwMemKv.cat (m (c.tc.loc Cert.Kernel24Ideal.main_arg1)) (m (c.tc.loc Cert.Kernel24Ideal.main_arg2))),
    (θ_run Cert.Kernel24Ideal.defs _ _).mono (fun r h c => ?_) (Cert.Kernel24Ideal.Value.run_blocks m ρ),
    (θ_run Cert.Reference24Ideal.defs _ _).mono (fun r h c => ?_) (Cert.Reference24Ideal.Value.run m' ρ')⟩
  · obtain ⟨h0, k0, k1, k2⟩ := h c
    exact ⟨h0.trans (arr2 m c), k0, k1, k2⟩
  · obtain ⟨h0, k0, k1, k2⟩ := h c
    obtain ⟨e0, e1, e2⟩ := hag c
    exact ⟨h0.trans ((Cert.Reference24Ideal.Read.val_main_v7_eq _ _ _).trans (by rw [e0, e1, e2]; exact Cert.Reference24Ideal.At.value _ _ _)), k0, k1, k2⟩

end Cert.DwMemKv

end
-- ==== Proof.DMn.Final.lean ====
/-
  The gradient of the normalised memory: kernel and reference end with equal results.
-/
module

public import proofs.«01_k».proof.Defs
public import proofs.«01_k».proof.Proof.Gen.Kernel25Ideal.Value
public import proofs.«01_k».proof.Proof.Gen.Reference25Ideal.Run
public import proofs.«01_k».proof.Proof.Gen.Reference25Ideal.Read
public import proofs.«01_k».proof.Proof.Prod.Math
public import proofs.«01_k».proof.Proof.Prod.Math

@[expose] public section

set_option maxRecDepth 16384

noncomputable section

open Idealize.ShloMosaic Idealize.ShloMosaic.TcCoe Idealize.SL.Sem
open scoped BigOperators

namespace Cert.DMn

/-- Two blocks of columns side by side. -/
def cat (a b : Shape.Idx ⟨2, ![256, 512]⟩ → EReal) : Shape.Idx ⟨2, ![256, 1024]⟩ → EReal :=
  fun i => if h : (i 1).val < 512 then a (ix2 (i 0) ⟨(i 1).val, h⟩)
    else b (ix2 (i 0) ⟨(i 1).val - 512, by have h : (i 1).val < 1024 := (i 1).isLt; omega⟩)

end Cert.DMn

namespace Cert.Kernel25Ideal.Final

open Cert.Kernel25Ideal Cert.Kernel25Ideal.Gen Cert.Prod

variable (m : (ℓ : Loc nD τ sig) → Buf (Elt Ideal) ℓ)

/-- Where each window's block of point `t` begins. -/
theorem idx : ∀ t : Fin cfg0.N,
    win0_0.index t = ![0, 0] ∧ win0_1.index t = ![0, 0] ∧ win0_2.index t = ![0, 0] :=
  (by decide +kernel : ∀ t : Fin grid0.N, _)

/-- The grid's points. -/
theorem ltN (t : Fin cfg0.N) : t.val < 1 := lt_of_lt_of_eq t.isLt (show cfg0.N = 1 from N_0)

/-- Row `r` of the tile at point `t`. -/
def row (t : Fin cfg0.N) (r : Fin 256) : Fin 256 := ⟨256 * t.val + r.val, by have := ltN t; omega⟩

/-- The weights. -/
abbrev fw (c : Dev nD) : S1024x1024.Idx → EReal := m ((c : Thread nD τ).loc main_arg2)

/-- Window 1 is staged whole. -/
theorem blk1 (c : Dev nD) (t : Fin cfg0.N) (r : Fin 1024) (e : Fin 1024) :
    (iblk m c 1 t : Vec Ideal S1024x1024 .bf16) (ix2 r e) = fw m c (ix2 r e) := by
  blk_ext [iblk, V, idx t]

/-- The keys' cotangent. -/
abbrev fk (c : Dev nD) : S256x512.Idx → EReal := m ((c : Thread nD τ).loc main_arg0)
/-- The values' cotangent. -/
abbrev fv (c : Dev nD) : S256x512.Idx → EReal := m ((c : Thread nD τ).loc main_arg1)
/-- What the host leaves in the cotangents' buffer. -/
theorem V_main_v0 (c : Dev nD) : V m c main_v0 = (concatenate S256x1024 1 [⟨S256x512, (m ((c : Thread nD τ).loc main_arg0) : Vec Ideal S256x512 .f32)⟩,
    ⟨S256x512, (m ((c : Thread nD τ).loc main_arg1) : Vec Ideal S256x512 .f32)⟩] concatenates_S256x512_S256x512_S256x1024_d1 : Vec Ideal S256x1024 .f32) := by
  simp only [V, hostOps0, StableHlo.TRef.binary, StableHlo.TRef.toBuf, StableHlo.TRef.ofBuf, cast_eq]
  after_results
/-- The cotangents are staged whole. -/
theorem blk0 (c : Dev nD) (t : Fin cfg0.N) (r : Fin 256) (e : Fin 1024) :
    (iblk m c 0 t : Vec Ideal S256x1024 .f32) (ix2 r e) = DMn.cat (fk m c) (fv m c) (ix2 r e) := by
  have h9 : ((cfg0.win 0).blk t).view.emb (ix2 r e) = ix2 r e := by
    blk_ext [idx t]
  show (V m c main_v0 : S256x1024.Idx → EReal) (((cfg0.win 0).blk t).view.emb (ix2 r e)) = _
  rw [h9, V_main_v0]
  pointwise
  rfl
/-- The product. -/
theorem pay1 (c : Dev nD) (t : Fin cfg0.N) (i : S256x1024.Idx) :
    k0_pay1 (F := Ideal) (iblk m c 0 t) (iblk m c 1 t) i = Prod.mult (DMn.cat (fk m c) (fv m c)) (fw m c) i := by
  obtain ⟨r, e, rfl⟩ : ∃ (r : Fin 256) (e : Fin 1024), i = ix2 r e := ⟨i 0, i 1, ValueIdx.eq_ix2 i⟩
  unfold k0_pay1
  pointwise
  simp only [blk0, blk1]
  rfl
/-- The result after the run. -/
theorem arr2 (c : Dev nD) : (dats m 0 c).arrAt 2 cfg0.N = Prod.mult (DMn.cat (fk m c) (fv m c)) (fw m c) := by
  refine (dats m 0 c).arrAt_eq_of_covers 2 _ (by decide +kernel) fun t hf y => ?_
  have h9 : ((cfg0.win 2).blk t).view.emb y = y := by
    blk_ext [idx t]
  rw [h9]
  blk_simp
  rw [after0_2]
  unfold out0_2
  frame_out
  exact pay1 m c t y

end Cert.Kernel25Ideal.Final

namespace Cert.Reference25Ideal.At

open Cert.Reference25Ideal Cert.Reference25Ideal.Read Cert.Prod

/-- The concatenated cotangents. -/
theorem cats (x0 x1 : S256x512.Idx → EReal) (r : Fin 256) (e : Fin 1024) : val_main_v5 (F := Ideal) x0 x1 (ix2 r e) = DMn.cat x0 x1 (ix2 r e) := by
  unfold val_main_v5
  pointwise
  rfl
/-- The reference's product. -/
theorem value (x0 x1 : S256x512.Idx → EReal) (x2 : S1024x1024.Idx → EReal) : val_main_v6 (F := Ideal) x0 x1 x2 = Prod.mult (DMn.cat x0 x1) x2 := by
  funext i
  obtain ⟨r, e, rfl⟩ : ∃ (r : Fin 256) (e : Fin 1024), i = ix2 r e := ⟨i 0, i 1, ValueIdx.eq_ix2 i⟩
  unfold val_main_v6 val_main_v1
  pointwise
  simp only [cats]
  rfl

end Cert.Reference25Ideal.At

namespace Cert.DMn

open Cert.Kernel25Ideal.Final

/-- The reference terminates and leaves its arguments unchanged; it has no counters. -/
theorem frame_reference : Cert.quiescent_Reference25Ideal := fun m ρ _ =>
  (θ_run Cert.Reference25Ideal.defs _ _).mono (fun r h => ⟨fun c => (h c).2,
    Idealize.ShloMosaic.sem_eq_zero_of_no_sems (by decide) r.2⟩) (Cert.Reference25Ideal.Value.run m ρ)

/-- Kernel and reference end with equal results. -/
theorem algebraic : Cert.algebraic_Kernel25Ideal_Reference25Ideal := by
  intro m ρ m' ρ' hpre hag
  refine ⟨fun c => Cert.Prod.mult (Cert.DMn.cat (m (c.tc.loc Cert.Kernel25Ideal.main_arg0)) (m (c.tc.loc Cert.Kernel25Ideal.main_arg1))) (m (c.tc.loc Cert.Kernel25Ideal.main_arg2)),
    (θ_run Cert.Kernel25Ideal.defs _ _).mono (fun r h c => ?_) (Cert.Kernel25Ideal.Value.run_blocks m ρ),
    (θ_run Cert.Reference25Ideal.defs _ _).mono (fun r h c => ?_) (Cert.Reference25Ideal.Value.run m' ρ')⟩
  · obtain ⟨h0, k0, k1, k2⟩ := h c
    exact ⟨h0.trans (arr2 m c), k0, k1, k2⟩
  · obtain ⟨h0, k0, k1, k2⟩ := h c
    obtain ⟨e0, e1, e2⟩ := hag c
    exact ⟨h0.trans ((Cert.Reference25Ideal.Read.val_main_v6_eq _ _ _).trans (by rw [e0, e1, e2]; exact Cert.Reference25Ideal.At.value _ _ _)), k0, k1, k2⟩

end Cert.DMn

end
-- ==== Proof.MemNormBwd.Final.lean ====
/-
  The gradient through the norm of the memory: kernel and reference end with equal results.
-/
module

public import proofs.«01_k».proof.Defs
public import proofs.«01_k».proof.Proof.Gen.Kernel26Ideal.Value
public import proofs.«01_k».proof.Proof.Gen.Reference26Ideal.Run
public import proofs.«01_k».proof.Proof.Gen.Reference26Ideal.Read
public import proofs.«01_k».proof.Proof.Prod.Math
public import proofs.«01_k».proof.Proof.Prod.Norm

@[expose] public section

set_option maxRecDepth 16384

noncomputable section

open Idealize.ShloMosaic Idealize.ShloMosaic.TcCoe Idealize.SL.Sem
open scoped BigOperators

namespace Cert.Kernel26Ideal.Final

open Cert.Kernel26Ideal Cert.Kernel26Ideal.Gen Cert.Prod

variable (m : (ℓ : Loc nD τ sig) → Buf (Elt Ideal) ℓ)

/-- Where each window's block of point `t` begins. -/
theorem idx : ∀ t : Fin cfg0.N,
    win0_0.index t = ![0, 0] ∧ win0_1.index t = ![0, 0] ∧ win0_2.index t = ![0, 0] ∧ win0_3.index t = ![0, 0] ∧ win0_4.index t = ![0, 0] :=
  (by decide +kernel : ∀ t : Fin grid0.N, _)

/-- The grid's points. -/
theorem ltN (t : Fin cfg0.N) : t.val < 1 := lt_of_lt_of_eq t.isLt (show cfg0.N = 1 from N_0)

/-- Row `r` of the tile at point `t`. -/
def row (t : Fin cfg0.N) (r : Fin 256) : Fin 256 := ⟨256 * t.val + r.val, by have := ltN t; omega⟩

/-- The rows. -/
abbrev fx (c : Dev nD) : S256x1024.Idx → EReal := m ((c : Thread nD τ).loc main_arg0)
/-- The gain. -/
abbrev fg (c : Dev nD) : S1x1024.Idx → EReal := m ((c : Thread nD τ).loc main_arg1)
/-- The cotangent. -/
abbrev fz (c : Dev nD) : S256x1024.Idx → EReal := m ((c : Thread nD τ).loc main_arg2)

/-- Window 0 is staged whole. -/
theorem blk0 (c : Dev nD) (t : Fin cfg0.N) (r : Fin 256) (e : Fin 1024) :
    (iblk m c 0 t : Vec Ideal S256x1024 .f32) (ix2 r e) = fx m c (ix2 r e) := by
  blk_ext [iblk, V, idx t]
/-- Window 1 is staged whole. -/
theorem blk1 (c : Dev nD) (t : Fin cfg0.N) (r : Fin 1) (e : Fin 1024) :
    (iblk m c 1 t : Vec Ideal S1x1024 .f32) (ix2 r e) = fg m c (ix2 r e) := by
  blk_ext [iblk, V, idx t]
/-- Window 2 is staged whole. -/
theorem blk2 (c : Dev nD) (t : Fin cfg0.N) (r : Fin 256) (e : Fin 1024) :
    (iblk m c 2 t : Vec Ideal S256x1024 .f32) (ix2 r e) = fz m c (ix2 r e) := by
  blk_ext [iblk, V, idx t]

/-- The rows' reciprocal roots. -/
theorem pay1 (x : Vec Ideal S256x1024 .f32) (r : Fin 256) (z : Fin 1) :
    k0_pay1 (F := Ideal) x (ix2 r z) = Norm.rrms fun k => (x (ix2 r k) : EReal) := by
  unfold k0_pay1
  pointwise
  rfl
/-- The normalised rows. -/
theorem pay2 (x : Vec Ideal S256x1024 .f32) (r : Fin 256) (e : Fin 1024) :
    k0_pay2 (F := Ideal) x (ix2 r e) = ((x (ix2 r e) : EReal) * Norm.rrms fun k => (x (ix2 r k) : EReal) : EReal) := by
  unfold k0_pay2
  pointwise
  rw [pay1]
/-- The gradient of the rows. -/
theorem pay3 (c : Dev nD) (t : Fin cfg0.N) (i : S256x1024.Idx) :
    k0_pay3 (F := Ideal) (iblk m c 0 t) (iblk m c 2 t) (iblk m c 1 t) i
      = Norm.grad (fun k => fx m c (ix2 (i 0) k)) (fun k => fz m c (ix2 (i 0) k) * fg m c (ix2 0 k)) (i 1) := by
  obtain ⟨r, e, rfl⟩ : ∃ (r : Fin 256) (e : Fin 1024), i = ix2 r e := ⟨i 0, i 1, ValueIdx.eq_ix2 i⟩
  unfold k0_pay3
  pointwise
  simp only [pay1, pay2, blk0, blk1, blk2]
  rfl
/-- The gradient of the gain. -/
theorem pay5 (c : Dev nD) (t : Fin cfg0.N) (i : S1x1024.Idx) :
    k0_pay5 (F := Ideal) (iblk m c 0 t) (iblk m c 2 t) (k0_pay4 (F := Ideal)) i = Norm.gain (fx m c) (fz m c) i := by
  obtain ⟨r, e, rfl⟩ : ∃ (r : Fin 1) (e : Fin 1024), i = ix2 r e := ⟨i 0, i 1, ValueIdx.eq_ix2 i⟩
  unfold k0_pay5 k0_pay4
  pointwise
  simp only [pay2, blk0, blk2]
  rfl
/-- The gradient of the rows, as an array. -/
abbrev fr (x : S256x1024.Idx → EReal) (g : S1x1024.Idx → EReal) (z : S256x1024.Idx → EReal) : S256x1024.Idx → EReal :=
  fun i => Norm.grad (fun k => x (ix2 (i 0) k)) (fun k => z (ix2 (i 0) k) * g (ix2 0 k)) (i 1)
/-- The rows after the run. -/
theorem arr3 (c : Dev nD) : (dats m 0 c).arrAt 3 cfg0.N = fr (fx m c) (fg m c) (fz m c) := by
  refine (dats m 0 c).arrAt_eq_of_covers 3 _ (by decide +kernel) fun t hf y => ?_
  have h9 : ((cfg0.win 3).blk t).view.emb y = y := by
    blk_ext [idx t]
  rw [h9]
  blk_simp
  rw [after0_3]
  unfold outsAt0
  frame_out
  exact pay3 m c t y
/-- The gain after the run. -/
theorem arr4 (c : Dev nD) : (dats m 0 c).arrAt 4 cfg0.N = Norm.gain (fx m c) (fz m c) := by
  refine (dats m 0 c).arrAt_eq_of_covers 4 _ (by decide +kernel) fun t hf y => ?_
  have h9 : ((cfg0.win 4).blk t).view.emb y = y := by
    blk_ext [idx t]
  rw [h9]
  blk_simp
  rw [after0_4]
  unfold outsAt0
  frame_out
  exact pay5 m c t y

end Cert.Kernel26Ideal.Final

namespace Cert.Reference26Ideal.At

open Cert.Reference26Ideal Cert.Reference26Ideal.Read Cert.Prod

/-- The mean squares. -/
theorem ms (x0 : S256x1024.Idx → EReal) (r : Fin 256) (z : Fin 1) :
    val_main_v6 (F := Ideal) x0 (ix2 r z) = Norm.ms fun k => x0 (ix2 r k) := by
  unfold val_main_v6 val_main_v4 val_main_v2 val_main_v1 val_main_v0 val_main_cst val_main_v3 val_main_cst_0 val_main_v5 val_main_cst_1
  pointwise
  rfl
/-- Their reciprocal roots. -/
theorem rrms (x0 : S256x1024.Idx → EReal) (r : Fin 256) (z : Fin 1) :
    val_main_v7 (F := Ideal) x0 (ix2 r z) = Norm.rrms fun k => x0 (ix2 r k) := by
  unfold val_main_v7
  pointwise
  rw [ms]
  rfl
/-- The cotangent times the gain. -/
theorem du (x1 : S1x1024.Idx → EReal) (x2 : S256x1024.Idx → EReal) (r : Fin 256) (e : Fin 1024) :
    val_main_v19 (F := Ideal) x1 x2 (ix2 r e) = x2 (ix2 r e) * x1 (ix2 0 e) := by
  unfold val_main_v19 val_main_v18
  pointwise
/-- The mean square's part of the gradient, before the row's factor. -/
theorem msgrad (x0 : S256x1024.Idx → EReal) (x1 : S1x1024.Idx → EReal) (x2 : S256x1024.Idx → EReal) (r : Fin 256) (e : Fin 1024) :
    val_main_v29 (F := Ideal) x0 x1 x2 (ix2 r e)
      = Ideal.div ((∑ k, x0 (ix2 r k) * (x2 (ix2 r k) * x1 (ix2 0 k)))
          * (Norm.mhalf * Ideal.div (Norm.rrms fun k => x0 (ix2 r k)) (Norm.ms fun k => x0 (ix2 r k)))) Norm.len := by
  unfold val_main_v29 val_main_v28 val_main_v27 val_main_v26 val_main_v25 val_main_v22 val_main_v21 val_main_v20 val_main_v10 val_main_v9 val_main_v8 val_main_cst_2 val_main_cst_4 val_main_cst_5 val_main_cst_6
  pointwise
  simp only [ms, rrms, du]
  simp
/-- The reference's rows are the same. -/
theorem value_rows (x0 : S256x1024.Idx → EReal) (x1 : S1x1024.Idx → EReal) (x2 : S256x1024.Idx → EReal) :
    val_main_v33 (F := Ideal) x0 x1 x2 = fun i => Norm.grad (fun k => x0 (ix2 (i 0) k)) (fun k => x2 (ix2 (i 0) k) * x1 (ix2 0 k)) (i 1) := by
  funext i
  obtain ⟨r, e, rfl⟩ : ∃ (r : Fin 256) (e : Fin 1024), i = ix2 r e := ⟨i 0, i 1, ValueIdx.eq_ix2 i⟩
  unfold val_main_v33 val_main_v32 val_main_v31 val_main_v30 val_main_v24 val_main_v23
  pointwise
  simp only [rrms, du, msgrad]
  exact Norm.grad_eq (fun k => x0 (ix2 r k)) (fun k => x2 (ix2 r k) * x1 (ix2 0 k)) e _ rfl
/-- The reference's column sums are the same. -/
theorem value_gain (x0 x2 : S256x1024.Idx → EReal) : val_main_v17 (F := Ideal) x0 x2 = Norm.gain x0 x2 := by
  funext i
  obtain ⟨r, e, rfl⟩ : ∃ (r : Fin 1) (e : Fin 1024), i = ix2 r e := ⟨i 0, i 1, ValueIdx.eq_ix2 i⟩
  unfold val_main_v17 val_main_v16 val_main_v15 val_main_v12 val_main_v11 val_main_cst_3
  pointwise
  simp only [rrms]
  exact Finset.sum_congr rfl fun r _ => mul_comm _ _

end Cert.Reference26Ideal.At

namespace Cert.MemNormBwd

open Cert.Kernel26Ideal.Final

/-- The reference terminates and leaves its arguments unchanged; it has no counters. -/
theorem frame_reference : Cert.quiescent_Reference26Ideal := fun m ρ _ =>
  (θ_run Cert.Reference26Ideal.defs _ _).mono (fun r h => ⟨fun c => ((h c).2).2,
    Idealize.ShloMosaic.sem_eq_zero_of_no_sems (by decide) r.2⟩) (Cert.Reference26Ideal.Value.run m ρ)

/-- Kernel and reference end with equal results. -/
theorem algebraic : Cert.algebraic_Kernel26Ideal_Reference26Ideal := by
  intro m ρ m' ρ' hpre hag
  refine ⟨fun c => Cert.Kernel26Ideal.Final.fr (m (c.tc.loc Cert.Kernel26Ideal.main_arg0)) (m (c.tc.loc Cert.Kernel26Ideal.main_arg1)) (m (c.tc.loc Cert.Kernel26Ideal.main_arg2)), fun c => Cert.Norm.gain (m (c.tc.loc Cert.Kernel26Ideal.main_arg0)) (m (c.tc.loc Cert.Kernel26Ideal.main_arg2)),
    (θ_run Cert.Kernel26Ideal.defs _ _).mono (fun r h c => ?_) (Cert.Kernel26Ideal.Value.run_blocks m ρ),
    (θ_run Cert.Reference26Ideal.defs _ _).mono (fun r h c => ?_) (Cert.Reference26Ideal.Value.run m' ρ')⟩
  · obtain ⟨h0, h1, k0, k1, k2⟩ := h c
    exact ⟨h0.trans (arr3 m c), h1.trans (arr4 m c), k0, k1, k2⟩
  · obtain ⟨h0, h1, k0, k1, k2⟩ := h c
    obtain ⟨e0, e1, e2⟩ := hag c
    exact ⟨h0.trans ((Cert.Reference26Ideal.Read.val_main_v33_eq _ _ _).trans (by rw [e0, e1, e2]; exact Cert.Reference26Ideal.At.value_rows _ _ _)), h1.trans ((Cert.Reference26Ideal.Read.val_main_v17_eq _ _).trans (by rw [e0, e2]; exact Cert.Reference26Ideal.At.value_gain _ _)), k0, k1, k2⟩

end Cert.MemNormBwd

end
-- ==== Proof.GluFwd.Final.lean ====
/-
  The activation and the gated linear unit after the recurrence: kernel and reference end with equal results.
-/
module

public import proofs.«01_k».proof.Defs
public import proofs.«01_k».proof.Proof.Gen.Kernel27Ideal.Value
public import proofs.«01_k».proof.Proof.Gen.Reference27Ideal.Run
public import proofs.«01_k».proof.Proof.Gen.Reference27Ideal.Read
public import proofs.«01_k».proof.Proof.Prod.Math
public import proofs.«01_k».proof.Proof.Prod.Math
public import proofs.«01_k».proof.Proof.Merge.Math

@[expose] public section

set_option maxRecDepth 16384

noncomputable section

open Idealize.ShloMosaic Idealize.ShloMosaic.TcCoe Idealize.SL.Sem
open scoped BigOperators

namespace Cert.GluFwd

/-- The activation of an argument. -/
def act (v : EReal) : EReal :=
  Ideal.ofBits .f32 0x3F000000#32 * v
    * (1 + Ideal.tanh (Ideal.ofBits .f32 0x3F4C422A#32 * (v + Ideal.ofBits .f32 0x3D372713#32 * v * v * v)))
/-- The activated rows. -/
def rows {n : ℕ} (y u : Shape.Idx ⟨2, ![n, 512]⟩ → EReal) (d : Shape.Idx ⟨2, ![1, 512]⟩ → EReal) : Shape.Idx ⟨2, ![n, 512]⟩ → EReal :=
  fun i => act (y i + d (ix2 0 (i 1)) * u i)
/-- The activated rows times the gate of their product with the weights. -/
def out {n : ℕ} (y u : Shape.Idx ⟨2, ![n, 512]⟩ → EReal) (d : Shape.Idx ⟨2, ![1, 512]⟩ → EReal) (w : Shape.Idx ⟨2, ![512, 512]⟩ → EReal) (b : Shape.Idx ⟨2, ![1, 512]⟩ → EReal) :
    Shape.Idx ⟨2, ![n, 512]⟩ → EReal :=
  fun i => rows y u d i * Merge.gate (Prod.mul (rows y u d) w i + b (ix2 0 (i 1)))

end Cert.GluFwd

namespace Cert.Kernel27Ideal.Final

open Cert.Kernel27Ideal Cert.Kernel27Ideal.Gen Cert.Prod

variable (m : (ℓ : Loc nD τ sig) → Buf (Elt Ideal) ℓ)

/-- Where each window's block of point `t` begins. -/
theorem idx : ∀ t : Fin cfg0.N,
    win0_0.index t = ![t.val, 0] ∧ win0_1.index t = ![t.val, 0] ∧ win0_2.index t = ![0, 0] ∧ win0_3.index t = ![0, 0] ∧ win0_4.index t = ![0, 0] ∧ win0_5.index t = ![t.val, 0] :=
  (by decide +kernel : ∀ t : Fin grid0.N, _)

/-- The grid's points. -/
theorem ltN (t : Fin cfg0.N) : t.val < 16 := lt_of_lt_of_eq t.isLt (show cfg0.N = 16 from N_0)

/-- Row `r` of the tile at point `t`. -/
def row (t : Fin cfg0.N) (r : Fin 512) : Fin 8192 := ⟨512 * t.val + r.val, by have := ltN t; omega⟩

/-- The recurrence’s output. -/
abbrev fy (c : Dev nD) : S8192x512.Idx → EReal := m ((c : Thread nD τ).loc main_arg0)
/-- The recurrence’s input. -/
abbrev fu (c : Dev nD) : S8192x512.Idx → EReal := m ((c : Thread nD τ).loc main_arg1)
/-- The skip’s factors. -/
abbrev fd (c : Dev nD) : S1x512.Idx → EReal := m ((c : Thread nD τ).loc main_arg2)
/-- The weights. -/
abbrev fw (c : Dev nD) : S512x512.Idx → EReal := m ((c : Thread nD τ).loc main_arg3)
/-- The bias. -/
abbrev fb (c : Dev nD) : S1x512.Idx → EReal := m ((c : Thread nD τ).loc main_arg4)

/-- The tile of window 0. -/
theorem blk0 (c : Dev nD) (t : Fin cfg0.N) (r : Fin 512) (e : Fin 512) :
    (iblk m c 0 t : Vec Ideal S512x512 .f32) (ix2 r e) = fy m c (ix2 (row t r) e) := by
  have := ltN t
  unfold row
  blk_ext [iblk, V, idx t]
/-- The tile of window 1. -/
theorem blk1 (c : Dev nD) (t : Fin cfg0.N) (r : Fin 512) (e : Fin 512) :
    (iblk m c 1 t : Vec Ideal S512x512 .f32) (ix2 r e) = fu m c (ix2 (row t r) e) := by
  have := ltN t
  unfold row
  blk_ext [iblk, V, idx t]
/-- Window 2 is staged whole. -/
theorem blk2 (c : Dev nD) (t : Fin cfg0.N) (r : Fin 1) (e : Fin 512) :
    (iblk m c 2 t : Vec Ideal S1x512 .f32) (ix2 r e) = fd m c (ix2 r e) := by
  blk_ext [iblk, V, idx t]
/-- Window 3 is staged whole. -/
theorem blk3 (c : Dev nD) (t : Fin cfg0.N) (r : Fin 512) (e : Fin 512) :
    (iblk m c 3 t : Vec Ideal S512x512 .bf16) (ix2 r e) = fw m c (ix2 r e) := by
  blk_ext [iblk, V, idx t]
/-- Window 4 is staged whole. -/
theorem blk4 (c : Dev nD) (t : Fin cfg0.N) (r : Fin 1) (e : Fin 512) :
    (iblk m c 4 t : Vec Ideal S1x512 .f32) (ix2 r e) = fb m c (ix2 r e) := by
  blk_ext [iblk, V, idx t]

/-- A tile's output. -/
theorem pay1g (y : Vec Ideal S512x512 .f32) (d : Vec Ideal S1x512 .f32) (u : Vec Ideal S512x512 .f32) (w : Vec Ideal S512x512 .bf16) (b : Vec Ideal S1x512 .f32) (r e : Fin 512) :
    k0_pay1 (F := Ideal) y d u w b (ix2 r e) = GluFwd.out (n := 512) y u d w b (ix2 r e) := by
  unfold k0_pay1
  pointwise
  rfl
/-- The rows of point `t`'s tile. -/
theorem rows_tile (c : Dev nD) (t : Fin cfg0.N) (r e : Fin 512) :
    GluFwd.rows (n := 512) (iblk m c 0 t) (iblk m c 1 t) (iblk m c 2 t) (ix2 r e) = GluFwd.rows (fy m c) (fu m c) (fd m c) (ix2 (row t r) e) := by
  unfold GluFwd.rows
  simp only [ix2_1, blk0, blk1, blk2]
/-- The tile's output. -/
theorem pay1 (c : Dev nD) (t : Fin cfg0.N) (i : S512x512.Idx) :
    k0_pay1 (F := Ideal) (iblk m c 0 t) (iblk m c 2 t) (iblk m c 1 t) (iblk m c 3 t) (iblk m c 4 t) i
      = GluFwd.out (fy m c) (fu m c) (fd m c) (fw m c) (fb m c) (ix2 (row t (i 0)) (i 1)) := by
  obtain ⟨r, e, rfl⟩ : ∃ (r : Fin 512) (e : Fin 512), i = ix2 r e := ⟨i 0, i 1, ValueIdx.eq_ix2 i⟩
  refine (pay1g _ _ _ _ _ r e).trans ?_
  unfold GluFwd.out Prod.mul
  simp only [ix2_0, ix2_1, rows_tile, blk3, blk4]
/-- The result after the run. -/
theorem arr5 (c : Dev nD) : (dats m 0 c).arrAt 5 cfg0.N = GluFwd.out (fy m c) (fu m c) (fd m c) (fw m c) (fb m c) := by
  refine (dats m 0 c).arrAt_eq_of_covers 5 _ (by decide +kernel) fun t hf y => ?_
  have hlt := ltN t
  have h9 : ((cfg0.win 5).blk t).view.emb y = ix2 (row t (y 0)) (y 1) := by
    unfold row
    blk_ext [idx t]
  rw [h9]
  blk_simp
  rw [after0_5]
  unfold out0_5
  frame_out
  exact pay1 m c t y

end Cert.Kernel27Ideal.Final

namespace Cert.Reference27Ideal.At

open Cert.Reference27Ideal Cert.Reference27Ideal.Read Cert.Prod

/-- The reference's activated rows. -/
theorem rows_at (x0 x1 : S8192x512.Idx → EReal) (x2 : S1x512.Idx → EReal) (r : Fin 8192) (e : Fin 512) : val_main_v16 (F := Ideal) x0 x1 x2 (ix2 r e) = GluFwd.rows x0 x1 x2 (ix2 r e) := by
  unfold val_main_v16 val_main_v15 val_main_v14 val_main_v13 val_main_v12 val_main_v11 val_main_v10 val_main_v9 val_main_v8 val_main_v7 val_main_v6 val_main_v5 val_main_v4 val_main_v3 val_main_v2 val_main_v1 val_main_cst val_main_cst_0 val_main_cst_1 val_main_cst_2
  pointwise
  unfold GluFwd.rows GluFwd.act
  simp only [ix2_1]
  generalize x0 (ix2 r e) + x2 (ix2 0 e) * x1 (ix2 r e) = v
  have h : Ideal.ofBits .f32 0x3D372713#32 * (v * v * v) = Ideal.ofBits .f32 0x3D372713#32 * v * v * v := by rw [← mul_assoc, ← mul_assoc]
  rw [h, ← mul_assoc, mul_comm v]
/-- The reference's output. -/
theorem value (x0 x1 : S8192x512.Idx → EReal) (x2 : S1x512.Idx → EReal) (x3 : S512x512.Idx → EReal) (x4 : S1x512.Idx → EReal) : val_main_v27 (F := Ideal) x0 x1 x2 x3 x4 = GluFwd.out x0 x1 x2 x3 x4 := by
  funext i
  obtain ⟨r, e, rfl⟩ : ∃ (r : Fin 8192) (e : Fin 512), i = ix2 r e := ⟨i 0, i 1, ValueIdx.eq_ix2 i⟩
  unfold val_main_v27 val_main_v26 val_main_v25 val_main_v24 val_main_cst_4 val_main_v23 val_main_v22 val_main_cst_3 val_main_v21 val_main_v20 val_main_v19 val_main_v17 val_main_v0 val_main_v18
  pointwise
  simp only [rows_at]
  unfold GluFwd.out
  rw [Merge.gate_eq]
  rfl

end Cert.Reference27Ideal.At

namespace Cert.GluFwd

open Cert.Kernel27Ideal.Final

/-- The reference terminates and leaves its arguments unchanged; it has no counters. -/
theorem frame_reference : Cert.quiescent_Reference27Ideal := fun m ρ _ =>
  (θ_run Cert.Reference27Ideal.defs _ _).mono (fun r h => ⟨fun c => (h c).2,
    Idealize.ShloMosaic.sem_eq_zero_of_no_sems (by decide) r.2⟩) (Cert.Reference27Ideal.Value.run m ρ)

/-- Kernel and reference end with equal results. -/
theorem algebraic : Cert.algebraic_Kernel27Ideal_Reference27Ideal := by
  intro m ρ m' ρ' hpre hag
  refine ⟨fun c => Cert.GluFwd.out (m (c.tc.loc Cert.Kernel27Ideal.main_arg0)) (m (c.tc.loc Cert.Kernel27Ideal.main_arg1)) (m (c.tc.loc Cert.Kernel27Ideal.main_arg2)) (m (c.tc.loc Cert.Kernel27Ideal.main_arg3)) (m (c.tc.loc Cert.Kernel27Ideal.main_arg4)),
    (θ_run Cert.Kernel27Ideal.defs _ _).mono (fun r h c => ?_) (Cert.Kernel27Ideal.Value.run_blocks m ρ),
    (θ_run Cert.Reference27Ideal.defs _ _).mono (fun r h c => ?_) (Cert.Reference27Ideal.Value.run m' ρ')⟩
  · obtain ⟨h0, k0, k1, k2, k3, k4⟩ := h c
    exact ⟨h0.trans (arr5 m c), k0, k1, k2, k3, k4⟩
  · obtain ⟨h0, k0, k1, k2, k3, k4⟩ := h c
    obtain ⟨e0, e1, e2, e3, e4⟩ := hag c
    exact ⟨h0.trans ((Cert.Reference27Ideal.Read.val_main_v27_eq _ _ _ _ _).trans (by rw [e0, e1, e2, e3, e4]; exact Cert.Reference27Ideal.At.value _ _ _ _ _)), k0, k1, k2, k3, k4⟩

end Cert.GluFwd

end
-- ==== Proof.Prod.Adam.lean ====
/-
  One step of AdamW for one entry of a parameter.
-/
module

public import proofs.«01_k».proof.Proof.Prod.Math

@[expose] public section

noncomputable section

open Idealize.ShloMosaic

namespace Cert.Adam

/-- The new first moment, from the gradient and the first moment. -/
def mom (g m : EReal) : EReal := Ideal.ofBits .f32 0x3F666666#32 * m + Ideal.ofBits .f32 0x3DCCCCCD#32 * g
/-- The new second moment, from the gradient and the second moment. -/
def vel (g v : EReal) : EReal := Ideal.ofBits .f32 0x3F7FBE77#32 * v + Ideal.ofBits .f32 0x3A83126F#32 * (g * g)
/-- The parameter's change, from the parameter, the gradient and both moments. -/
def delta (w g m v : EReal) : EReal :=
  Ideal.ofBits .f32 0xBA83126F#32
    * (Ideal.div (Ideal.div (mom g m) (Ideal.ofBits .f32 0x3F26BD02#32))
        (Ideal.sqrt (Ideal.div (vel g v) (Ideal.ofBits .f32 0x3C231ACC#32)) + Ideal.ofBits .f32 0x322BCC77#32)
      + Ideal.ofBits .f32 0x3C23D70A#32 * w)

end Cert.Adam

end
-- ==== Proof.AdamIn.Final.lean ====
/-
  One step of AdamW on the shard of w_in: kernel and reference end with equal results.
-/
module

public import proofs.«01_k».proof.Defs
public import proofs.«01_k».proof.Proof.Gen.Kernel28Ideal.Value
public import proofs.«01_k».proof.Proof.Gen.Reference28Ideal.Run
public import proofs.«01_k».proof.Proof.Gen.Reference28Ideal.Read
public import proofs.«01_k».proof.Proof.Prod.Math
public import proofs.«01_k».proof.Proof.Prod.Adam

@[expose] public section

set_option maxRecDepth 16384

noncomputable section

open Idealize.ShloMosaic Idealize.ShloMosaic.TcCoe Idealize.SL.Sem
open scoped BigOperators

namespace Cert.Kernel28Ideal.Final

open Cert.Kernel28Ideal Cert.Kernel28Ideal.Gen Cert.Prod

variable (m : (ℓ : Loc nD τ sig) → Buf (Elt Ideal) ℓ)

/-- Where each window's block of point `t` begins. -/
theorem idx : ∀ t : Fin cfg0.N,
    win0_0.index t = ![0, t.val, 0] ∧ win0_1.index t = ![t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The grid's points. -/
theorem ltN (t : Fin cfg0.N) : t.val < 4 := lt_of_lt_of_eq t.isLt (show cfg0.N = 4 from N_0)

/-- Row `r` of the tile at point `t`. -/
def row (t : Fin cfg0.N) (r : Fin 256) : Fin 1024 := ⟨256 * t.val + r.val, by have := ltN t; omega⟩

/-- The parameter. -/
abbrev fw (c : Dev nD) : S1x1024x1600.Idx → EReal := m ((c : Thread nD τ).loc main_arg0)
/-- The gradient. -/
abbrev fg (c : Dev nD) : S1024x1600.Idx → EReal := m ((c : Thread nD τ).loc main_arg1)
/-- The first moment. -/
abbrev fm (c : Dev nD) : S1x1024x1600.Idx → EReal := m ((c : Thread nD τ).loc main_arg2)
/-- The second moment. -/
abbrev fv (c : Dev nD) : S1x1024x1600.Idx → EReal := m ((c : Thread nD τ).loc main_arg3)

/-- The tile of window 0. -/
theorem blk0 (c : Dev nD) (t : Fin cfg0.N) (z : Fin 1) (r : Fin 256) (e : Fin 1600) :
    (iblk m c 0 t : Vec Ideal S1x256x1600 .f32) (ix3 z r e) = fw m c (ix3 z (row t r) e) := by
  have := ltN t
  unfold row
  blk_ext [iblk, V, idx t]
/-- The tile of window 2. -/
theorem blk2 (c : Dev nD) (t : Fin cfg0.N) (z : Fin 1) (r : Fin 256) (e : Fin 1600) :
    (iblk m c 2 t : Vec Ideal S1x256x1600 .f32) (ix3 z r e) = fm m c (ix3 z (row t r) e) := by
  have := ltN t
  unfold row
  blk_ext [iblk, V, idx t]
/-- The tile of window 3. -/
theorem blk3 (c : Dev nD) (t : Fin cfg0.N) (z : Fin 1) (r : Fin 256) (e : Fin 1600) :
    (iblk m c 3 t : Vec Ideal S1x256x1600 .f32) (ix3 z r e) = fv m c (ix3 z (row t r) e) := by
  have := ltN t
  unfold row
  blk_ext [iblk, V, idx t]
/-- The gradient's tile. -/
theorem blk1 (c : Dev nD) (t : Fin cfg0.N) (r : Fin 256) (e : Fin 1600) :
    (iblk m c 1 t : Vec Ideal S256x1600 .f32) (ix2 r e) = fg m c (ix2 (row t r) e) := by
  have := ltN t
  unfold row
  blk_ext [iblk, V, idx t]

section Tile

variable (g : Vec Ideal S256x1600 .f32) (a b d : Vec Ideal S1x256x1600 .f32)

/-- A tile of the new first moment. -/
theorem pay4 (r : Fin 256) (e : Fin 1600) : k0_pay4 (F := Ideal) g a (ix2 r e) = Adam.mom (g (ix2 r e)) (a (ix3 0 r e)) := by
  unfold k0_pay4
  pointwise
  rfl
/-- A tile of the new second moment. -/
theorem pay5 (r : Fin 256) (e : Fin 1600) : k0_pay5 (F := Ideal) g b (ix2 r e) = Adam.vel (g (ix2 r e)) (b (ix3 0 r e)) := by
  unfold k0_pay5
  pointwise
  rfl
/-- A tile of the change. -/
theorem pay7 (r : Fin 256) (e : Fin 1600) :
    k0_pay7 (F := Ideal) g a b d (ix2 r e) = Adam.delta (d (ix3 0 r e)) (g (ix2 r e)) (a (ix3 0 r e)) (b (ix3 0 r e)) := by
  unfold k0_pay7
  pointwise
  rw [pay4, pay5]
  rfl

end Tile

/-- The gradient, as an array. -/
abbrev res4 (c : Dev nD) : S1x1024x1600.Idx → EReal := fun i => fg m c (ix2 (i 1) (i 2))
/-- The gradient of a tile. -/
theorem tile4 (c : Dev nD) (t : Fin cfg0.N) (i : S1x256x1600.Idx) : k0_pay6 (F := Ideal) (iblk m c 1 t) i = res4 m c (ix3 (i 0) (row t (i 1)) (i 2)) := by
  obtain ⟨z, r, e, rfl⟩ : ∃ (z : Fin 1) (r : Fin 256) (e : Fin 1600), i = ix3 z r e := ⟨i 0, i 1, i 2, ValueIdx.eq_ix3 i⟩
  obtain rfl : z = 0 := Subsingleton.elim _ _
  unfold k0_pay6
  pointwise
  exact blk1 m c t r e
/-- The gradient after the run. -/
theorem arr4 (c : Dev nD) : (dats m 0 c).arrAt 4 cfg0.N = res4 m c := by
  refine (dats m 0 c).arrAt_eq_of_covers 4 _ (by decide +kernel) fun t hf y => ?_
  have hlt := ltN t
  have h9 : ((cfg0.win 4).blk t).view.emb y = ix3 (y 0) (row t (y 1)) (y 2) := by
    unfold row
    blk_ext [idx t]
  rw [h9]
  blk_simp
  rw [after0_4]
  unfold out0_4
  frame_out
  exact tile4 m c t y
/-- The change, as an array. -/
abbrev res5 (c : Dev nD) : S1x1024x1600.Idx → EReal := fun i => Adam.delta (fw m c i) (fg m c (ix2 (i 1) (i 2))) (fm m c i) (fv m c i)
/-- The change of a tile. -/
theorem tile5 (c : Dev nD) (t : Fin cfg0.N) (i : S1x256x1600.Idx) : k0_pay1 (F := Ideal) (k0_pay7 (F := Ideal) (iblk m c 1 t) (iblk m c 2 t) (iblk m c 3 t) (iblk m c 0 t)) i = res5 m c (ix3 (i 0) (row t (i 1)) (i 2)) := by
  obtain ⟨z, r, e, rfl⟩ : ∃ (z : Fin 1) (r : Fin 256) (e : Fin 1600), i = ix3 z r e := ⟨i 0, i 1, i 2, ValueIdx.eq_ix3 i⟩
  obtain rfl : z = 0 := Subsingleton.elim _ _
  unfold k0_pay1
  pointwise
  exact (pay7 (iblk m c 1 t) (iblk m c 2 t) (iblk m c 3 t) (iblk m c 0 t) r e).trans (by rw [blk0, blk1, blk2, blk3]; rfl)
/-- The change after the run. -/
theorem arr5 (c : Dev nD) : (dats m 0 c).arrAt 5 cfg0.N = res5 m c := by
  refine (dats m 0 c).arrAt_eq_of_covers 5 _ (by decide +kernel) fun t hf y => ?_
  have hlt := ltN t
  have h9 : ((cfg0.win 5).blk t).view.emb y = ix3 (y 0) (row t (y 1)) (y 2) := by
    unfold row
    blk_ext [idx t]
  rw [h9]
  blk_simp
  rw [after0_5]
  unfold out0_5
  frame_out
  exact tile5 m c t y
/-- The new first moment, as an array. -/
abbrev res6 (c : Dev nD) : S1x1024x1600.Idx → EReal := fun i => Adam.mom (fg m c (ix2 (i 1) (i 2))) (fm m c i)
/-- The new first moment of a tile. -/
theorem tile6 (c : Dev nD) (t : Fin cfg0.N) (i : S1x256x1600.Idx) : k0_pay2 (F := Ideal) (k0_pay4 (F := Ideal) (iblk m c 1 t) (iblk m c 2 t)) i = res6 m c (ix3 (i 0) (row t (i 1)) (i 2)) := by
  obtain ⟨z, r, e, rfl⟩ : ∃ (z : Fin 1) (r : Fin 256) (e : Fin 1600), i = ix3 z r e := ⟨i 0, i 1, i 2, ValueIdx.eq_ix3 i⟩
  obtain rfl : z = 0 := Subsingleton.elim _ _
  unfold k0_pay2
  pointwise
  exact (pay4 (iblk m c 1 t) (iblk m c 2 t) r e).trans (by rw [blk1, blk2]; rfl)
/-- The new first moment after the run. -/
theorem arr6 (c : Dev nD) : (dats m 0 c).arrAt 6 cfg0.N = res6 m c := by
  refine (dats m 0 c).arrAt_eq_of_covers 6 _ (by decide +kernel) fun t hf y => ?_
  have hlt := ltN t
  have h9 : ((cfg0.win 6).blk t).view.emb y = ix3 (y 0) (row t (y 1)) (y 2) := by
    unfold row
    blk_ext [idx t]
  rw [h9]
  blk_simp
  rw [after0_6]
  unfold out0_6
  frame_out
  exact tile6 m c t y
/-- The new second moment, as an array. -/
abbrev res7 (c : Dev nD) : S1x1024x1600.Idx → EReal := fun i => Adam.vel (fg m c (ix2 (i 1) (i 2))) (fv m c i)
/-- The new second moment of a tile. -/
theorem tile7 (c : Dev nD) (t : Fin cfg0.N) (i : S1x256x1600.Idx) : k0_pay3 (F := Ideal) (k0_pay5 (F := Ideal) (iblk m c 1 t) (iblk m c 3 t)) i = res7 m c (ix3 (i 0) (row t (i 1)) (i 2)) := by
  obtain ⟨z, r, e, rfl⟩ : ∃ (z : Fin 1) (r : Fin 256) (e : Fin 1600), i = ix3 z r e := ⟨i 0, i 1, i 2, ValueIdx.eq_ix3 i⟩
  obtain rfl : z = 0 := Subsingleton.elim _ _
  unfold k0_pay3
  pointwise
  exact (pay5 (iblk m c 1 t) (iblk m c 3 t) r e).trans (by rw [blk1, blk3]; rfl)
/-- The new second moment after the run. -/
theorem arr7 (c : Dev nD) : (dats m 0 c).arrAt 7 cfg0.N = res7 m c := by
  refine (dats m 0 c).arrAt_eq_of_covers 7 _ (by decide +kernel) fun t hf y => ?_
  have hlt := ltN t
  have h9 : ((cfg0.win 7).blk t).view.emb y = ix3 (y 0) (row t (y 1)) (y 2) := by
    unfold row
    blk_ext [idx t]
  rw [h9]
  blk_simp
  rw [after0_7]
  unfold out0_7
  frame_out
  exact tile7 m c t y

end Cert.Kernel28Ideal.Final

namespace Cert.Reference28Ideal.At

open Cert.Reference28Ideal Cert.Reference28Ideal.Read Cert.Prod

/-- The reference's result 0 is the same. -/
theorem value0 (x1 : S1024x1600.Idx → EReal) : val_main_v0 (F := Ideal) x1 = fun i => x1 (ix2 (i 1) (i 2)) := by
  funext i
  obtain ⟨z, r, e, rfl⟩ : ∃ (z : Fin 1) (r : Fin 1024) (e : Fin 1600), i = ix3 z r e := ⟨i 0, i 1, i 2, ValueIdx.eq_ix3 i⟩
  unfold val_main_v0
  pointwise

/-- The reference's result 1 is the same. -/
theorem value1 (x0 : S1x1024x1600.Idx → EReal) (x1 : S1024x1600.Idx → EReal) (x2 : S1x1024x1600.Idx → EReal) (x3 : S1x1024x1600.Idx → EReal) : val_main_v25 (F := Ideal) x0 x1 x2 x3 = fun i => Adam.delta (x0 i) (x1 (ix2 (i 1) (i 2))) (x2 i) (x3 i) := by
  funext i
  obtain ⟨z, r, e, rfl⟩ : ∃ (z : Fin 1) (r : Fin 1024) (e : Fin 1600), i = ix3 z r e := ⟨i 0, i 1, i 2, ValueIdx.eq_ix3 i⟩
  unfold val_main_v25 val_main_v24 val_main_cst_7 val_main_v23 val_main_v20 val_main_v14 val_main_v6 val_main_v3 val_main_v2 val_main_cst val_main_v5 val_main_v4 val_main_cst_0 val_main_v1 val_main_v13 val_main_cst_3 val_main_v19 val_main_v17 val_main_v16 val_main_v12 val_main_v8 val_main_v7 val_main_cst_1 val_main_v11 val_main_v10 val_main_cst_2 val_main_v9 val_main_v15 val_main_cst_4 val_main_v18 val_main_cst_5 val_main_v22 val_main_v21 val_main_cst_6 val_main_v1
  pointwise
  rfl
/-- The reference's result 2 is the same. -/
theorem value2 (x1 : S1024x1600.Idx → EReal) (x2 : S1x1024x1600.Idx → EReal) : val_main_v6 (F := Ideal) x1 x2 = fun i => Adam.mom (x1 (ix2 (i 1) (i 2))) (x2 i) := by
  funext i
  obtain ⟨z, r, e, rfl⟩ : ∃ (z : Fin 1) (r : Fin 1024) (e : Fin 1600), i = ix3 z r e := ⟨i 0, i 1, i 2, ValueIdx.eq_ix3 i⟩
  unfold val_main_v6 val_main_v3 val_main_v2 val_main_cst val_main_v5 val_main_v4 val_main_cst_0 val_main_v1
  pointwise
  rfl
/-- The reference's result 3 is the same. -/
theorem value3 (x1 : S1024x1600.Idx → EReal) (x3 : S1x1024x1600.Idx → EReal) : val_main_v12 (F := Ideal) x1 x3 = fun i => Adam.vel (x1 (ix2 (i 1) (i 2))) (x3 i) := by
  funext i
  obtain ⟨z, r, e, rfl⟩ : ∃ (z : Fin 1) (r : Fin 1024) (e : Fin 1600), i = ix3 z r e := ⟨i 0, i 1, i 2, ValueIdx.eq_ix3 i⟩
  unfold val_main_v12 val_main_v8 val_main_v7 val_main_cst_1 val_main_v11 val_main_v10 val_main_cst_2 val_main_v9 val_main_v1
  pointwise
  rfl

end Cert.Reference28Ideal.At

namespace Cert.AdamIn

open Cert.Kernel28Ideal.Final

/-- The reference terminates and leaves its arguments unchanged; it has no counters. -/
theorem frame_reference : Cert.quiescent_Reference28Ideal := fun m ρ _ =>
  (θ_run Cert.Reference28Ideal.defs _ _).mono (fun r h => ⟨fun c => ((((h c).2).2).2).2,
    Idealize.ShloMosaic.sem_eq_zero_of_no_sems (by decide) r.2⟩) (Cert.Reference28Ideal.Value.run m ρ)

/-- Kernel and reference end with equal results. -/
theorem algebraic : Cert.algebraic_Kernel28Ideal_Reference28Ideal := by
  intro m ρ m' ρ' hpre hag
  refine ⟨fun c => fun i => (m (c.tc.loc Cert.Kernel28Ideal.main_arg1)) (ix2 (i 1) (i 2)), fun c => fun i => Cert.Adam.delta ((m (c.tc.loc Cert.Kernel28Ideal.main_arg0)) i) ((m (c.tc.loc Cert.Kernel28Ideal.main_arg1)) (ix2 (i 1) (i 2))) ((m (c.tc.loc Cert.Kernel28Ideal.main_arg2)) i) ((m (c.tc.loc Cert.Kernel28Ideal.main_arg3)) i), fun c => fun i => Cert.Adam.mom ((m (c.tc.loc Cert.Kernel28Ideal.main_arg1)) (ix2 (i 1) (i 2))) ((m (c.tc.loc Cert.Kernel28Ideal.main_arg2)) i), fun c => fun i => Cert.Adam.vel ((m (c.tc.loc Cert.Kernel28Ideal.main_arg1)) (ix2 (i 1) (i 2))) ((m (c.tc.loc Cert.Kernel28Ideal.main_arg3)) i),
    (θ_run Cert.Kernel28Ideal.defs _ _).mono (fun r h c => ?_) (Cert.Kernel28Ideal.Value.run_blocks m ρ),
    (θ_run Cert.Reference28Ideal.defs _ _).mono (fun r h c => ?_) (Cert.Reference28Ideal.Value.run m' ρ')⟩
  · obtain ⟨h0, h1, h2, h3, k0, k1, k2, k3⟩ := h c
    exact ⟨h0.trans (arr4 m c), h1.trans (arr5 m c), h2.trans (arr6 m c), h3.trans (arr7 m c), k0, k1, k2, k3⟩
  · obtain ⟨h0, h1, h2, h3, k0, k1, k2, k3⟩ := h c
    obtain ⟨e0, e1, e2, e3⟩ := hag c
    exact ⟨h0.trans ((Cert.Reference28Ideal.Read.val_main_v0_eq _).trans (by rw [e1]; exact Cert.Reference28Ideal.At.value0 _)), h1.trans ((Cert.Reference28Ideal.Read.val_main_v25_eq _ _ _ _).trans (by rw [e0, e1, e2, e3]; exact Cert.Reference28Ideal.At.value1 _ _ _ _)), h2.trans ((Cert.Reference28Ideal.Read.val_main_v6_eq _ _).trans (by rw [e1, e2]; exact Cert.Reference28Ideal.At.value2 _ _)), h3.trans ((Cert.Reference28Ideal.Read.val_main_v12_eq _ _).trans (by rw [e1, e3]; exact Cert.Reference28Ideal.At.value3 _ _)), k0, k1, k2, k3⟩

end Cert.AdamIn

end
-- ==== Proof.AdamGlu.Final.lean ====
/-
  One step of AdamW on the shard of w_glu: kernel and reference end with equal results.
-/
module

public import proofs.«01_k».proof.Defs
public import proofs.«01_k».proof.Proof.Gen.Kernel29Ideal.Value
public import proofs.«01_k».proof.Proof.Gen.Reference29Ideal.Run
public import proofs.«01_k».proof.Proof.Gen.Reference29Ideal.Read
public import proofs.«01_k».proof.Proof.Prod.Math
public import proofs.«01_k».proof.Proof.Prod.Adam

@[expose] public section

set_option maxRecDepth 16384

noncomputable section

open Idealize.ShloMosaic Idealize.ShloMosaic.TcCoe Idealize.SL.Sem
open scoped BigOperators

namespace Cert.Kernel29Ideal.Final

open Cert.Kernel29Ideal Cert.Kernel29Ideal.Gen Cert.Prod

variable (m : (ℓ : Loc nD τ sig) → Buf (Elt Ideal) ℓ)

/-- Where each window's block of point `t` begins. -/
theorem idx : ∀ t : Fin cfg0.N,
    win0_0.index t = ![0, t.val, 0] ∧ win0_1.index t = ![t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The grid's points. -/
theorem ltN (t : Fin cfg0.N) : t.val < 1 := lt_of_lt_of_eq t.isLt (show cfg0.N = 1 from N_0)

/-- Row `r` of the tile at point `t`. -/
def row (t : Fin cfg0.N) (r : Fin 128) : Fin 128 := ⟨128 * t.val + r.val, by have := ltN t; omega⟩

/-- The parameter. -/
abbrev fw (c : Dev nD) : S1x128x512.Idx → EReal := m ((c : Thread nD τ).loc main_arg0)
/-- The gradient. -/
abbrev fg (c : Dev nD) : S128x512.Idx → EReal := m ((c : Thread nD τ).loc main_arg1)
/-- The first moment. -/
abbrev fm (c : Dev nD) : S1x128x512.Idx → EReal := m ((c : Thread nD τ).loc main_arg2)
/-- The second moment. -/
abbrev fv (c : Dev nD) : S1x128x512.Idx → EReal := m ((c : Thread nD τ).loc main_arg3)

/-- The tile of window 0. -/
theorem blk0 (c : Dev nD) (t : Fin cfg0.N) (z : Fin 1) (r : Fin 128) (e : Fin 512) :
    (iblk m c 0 t : Vec Ideal S1x128x512 .f32) (ix3 z r e) = fw m c (ix3 z (row t r) e) := by
  have := ltN t
  unfold row
  blk_ext [iblk, V, idx t]
/-- The tile of window 2. -/
theorem blk2 (c : Dev nD) (t : Fin cfg0.N) (z : Fin 1) (r : Fin 128) (e : Fin 512) :
    (iblk m c 2 t : Vec Ideal S1x128x512 .f32) (ix3 z r e) = fm m c (ix3 z (row t r) e) := by
  have := ltN t
  unfold row
  blk_ext [iblk, V, idx t]
/-- The tile of window 3. -/
theorem blk3 (c : Dev nD) (t : Fin cfg0.N) (z : Fin 1) (r : Fin 128) (e : Fin 512) :
    (iblk m c 3 t : Vec Ideal S1x128x512 .f32) (ix3 z r e) = fv m c (ix3 z (row t r) e) := by
  have := ltN t
  unfold row
  blk_ext [iblk, V, idx t]
/-- The gradient's tile. -/
theorem blk1 (c : Dev nD) (t : Fin cfg0.N) (r : Fin 128) (e : Fin 512) :
    (iblk m c 1 t : Vec Ideal S128x512 .f32) (ix2 r e) = fg m c (ix2 (row t r) e) := by
  have := ltN t
  unfold row
  blk_ext [iblk, V, idx t]

section Tile

variable (g : Vec Ideal S128x512 .f32) (a b d : Vec Ideal S1x128x512 .f32)

/-- A tile of the new first moment. -/
theorem pay4 (r : Fin 128) (e : Fin 512) : k0_pay4 (F := Ideal) g a (ix2 r e) = Adam.mom (g (ix2 r e)) (a (ix3 0 r e)) := by
  unfold k0_pay4
  pointwise
  rfl
/-- A tile of the new second moment. -/
theorem pay5 (r : Fin 128) (e : Fin 512) : k0_pay5 (F := Ideal) g b (ix2 r e) = Adam.vel (g (ix2 r e)) (b (ix3 0 r e)) := by
  unfold k0_pay5
  pointwise
  rfl
/-- A tile of the change. -/
theorem pay7 (r : Fin 128) (e : Fin 512) :
    k0_pay7 (F := Ideal) g a b d (ix2 r e) = Adam.delta (d (ix3 0 r e)) (g (ix2 r e)) (a (ix3 0 r e)) (b (ix3 0 r e)) := by
  unfold k0_pay7
  pointwise
  rw [pay4, pay5]
  rfl

end Tile

/-- The gradient, as an array. -/
abbrev res4 (c : Dev nD) : S1x128x512.Idx → EReal := fun i => fg m c (ix2 (i 1) (i 2))
/-- The gradient of a tile. -/
theorem tile4 (c : Dev nD) (t : Fin cfg0.N) (i : S1x128x512.Idx) : k0_pay6 (F := Ideal) (iblk m c 1 t) i = res4 m c (ix3 (i 0) (row t (i 1)) (i 2)) := by
  obtain ⟨z, r, e, rfl⟩ : ∃ (z : Fin 1) (r : Fin 128) (e : Fin 512), i = ix3 z r e := ⟨i 0, i 1, i 2, ValueIdx.eq_ix3 i⟩
  obtain rfl : z = 0 := Subsingleton.elim _ _
  unfold k0_pay6
  pointwise
  exact blk1 m c t r e
/-- The gradient after the run. -/
theorem arr4 (c : Dev nD) : (dats m 0 c).arrAt 4 cfg0.N = res4 m c := by
  refine (dats m 0 c).arrAt_eq_of_covers 4 _ (by decide +kernel) fun t hf y => ?_
  have hlt := ltN t
  have h9 : ((cfg0.win 4).blk t).view.emb y = ix3 (y 0) (row t (y 1)) (y 2) := by
    unfold row
    blk_ext [idx t]
  rw [h9]
  blk_simp
  rw [after0_4]
  unfold out0_4
  frame_out
  exact tile4 m c t y
/-- The change, as an array. -/
abbrev res5 (c : Dev nD) : S1x128x512.Idx → EReal := fun i => Adam.delta (fw m c i) (fg m c (ix2 (i 1) (i 2))) (fm m c i) (fv m c i)
/-- The change of a tile. -/
theorem tile5 (c : Dev nD) (t : Fin cfg0.N) (i : S1x128x512.Idx) : k0_pay1 (F := Ideal) (k0_pay7 (F := Ideal) (iblk m c 1 t) (iblk m c 2 t) (iblk m c 3 t) (iblk m c 0 t)) i = res5 m c (ix3 (i 0) (row t (i 1)) (i 2)) := by
  obtain ⟨z, r, e, rfl⟩ : ∃ (z : Fin 1) (r : Fin 128) (e : Fin 512), i = ix3 z r e := ⟨i 0, i 1, i 2, ValueIdx.eq_ix3 i⟩
  obtain rfl : z = 0 := Subsingleton.elim _ _
  unfold k0_pay1
  pointwise
  exact (pay7 (iblk m c 1 t) (iblk m c 2 t) (iblk m c 3 t) (iblk m c 0 t) r e).trans (by rw [blk0, blk1, blk2, blk3]; rfl)
/-- The change after the run. -/
theorem arr5 (c : Dev nD) : (dats m 0 c).arrAt 5 cfg0.N = res5 m c := by
  refine (dats m 0 c).arrAt_eq_of_covers 5 _ (by decide +kernel) fun t hf y => ?_
  have hlt := ltN t
  have h9 : ((cfg0.win 5).blk t).view.emb y = ix3 (y 0) (row t (y 1)) (y 2) := by
    unfold row
    blk_ext [idx t]
  rw [h9]
  blk_simp
  rw [after0_5]
  unfold out0_5
  frame_out
  exact tile5 m c t y
/-- The new first moment, as an array. -/
abbrev res6 (c : Dev nD) : S1x128x512.Idx → EReal := fun i => Adam.mom (fg m c (ix2 (i 1) (i 2))) (fm m c i)
/-- The new first moment of a tile. -/
theorem tile6 (c : Dev nD) (t : Fin cfg0.N) (i : S1x128x512.Idx) : k0_pay2 (F := Ideal) (k0_pay4 (F := Ideal) (iblk m c 1 t) (iblk m c 2 t)) i = res6 m c (ix3 (i 0) (row t (i 1)) (i 2)) := by
  obtain ⟨z, r, e, rfl⟩ : ∃ (z : Fin 1) (r : Fin 128) (e : Fin 512), i = ix3 z r e := ⟨i 0, i 1, i 2, ValueIdx.eq_ix3 i⟩
  obtain rfl : z = 0 := Subsingleton.elim _ _
  unfold k0_pay2
  pointwise
  exact (pay4 (iblk m c 1 t) (iblk m c 2 t) r e).trans (by rw [blk1, blk2]; rfl)
/-- The new first moment after the run. -/
theorem arr6 (c : Dev nD) : (dats m 0 c).arrAt 6 cfg0.N = res6 m c := by
  refine (dats m 0 c).arrAt_eq_of_covers 6 _ (by decide +kernel) fun t hf y => ?_
  have hlt := ltN t
  have h9 : ((cfg0.win 6).blk t).view.emb y = ix3 (y 0) (row t (y 1)) (y 2) := by
    unfold row
    blk_ext [idx t]
  rw [h9]
  blk_simp
  rw [after0_6]
  unfold out0_6
  frame_out
  exact tile6 m c t y
/-- The new second moment, as an array. -/
abbrev res7 (c : Dev nD) : S1x128x512.Idx → EReal := fun i => Adam.vel (fg m c (ix2 (i 1) (i 2))) (fv m c i)
/-- The new second moment of a tile. -/
theorem tile7 (c : Dev nD) (t : Fin cfg0.N) (i : S1x128x512.Idx) : k0_pay3 (F := Ideal) (k0_pay5 (F := Ideal) (iblk m c 1 t) (iblk m c 3 t)) i = res7 m c (ix3 (i 0) (row t (i 1)) (i 2)) := by
  obtain ⟨z, r, e, rfl⟩ : ∃ (z : Fin 1) (r : Fin 128) (e : Fin 512), i = ix3 z r e := ⟨i 0, i 1, i 2, ValueIdx.eq_ix3 i⟩
  obtain rfl : z = 0 := Subsingleton.elim _ _
  unfold k0_pay3
  pointwise
  exact (pay5 (iblk m c 1 t) (iblk m c 3 t) r e).trans (by rw [blk1, blk3]; rfl)
/-- The new second moment after the run. -/
theorem arr7 (c : Dev nD) : (dats m 0 c).arrAt 7 cfg0.N = res7 m c := by
  refine (dats m 0 c).arrAt_eq_of_covers 7 _ (by decide +kernel) fun t hf y => ?_
  have hlt := ltN t
  have h9 : ((cfg0.win 7).blk t).view.emb y = ix3 (y 0) (row t (y 1)) (y 2) := by
    unfold row
    blk_ext [idx t]
  rw [h9]
  blk_simp
  rw [after0_7]
  unfold out0_7
  frame_out
  exact tile7 m c t y

end Cert.Kernel29Ideal.Final

namespace Cert.Reference29Ideal.At

open Cert.Reference29Ideal Cert.Reference29Ideal.Read Cert.Prod

/-- The reference's result 0 is the same. -/
theorem value0 (x1 : S128x512.Idx → EReal) : val_main_v0 (F := Ideal) x1 = fun i => x1 (ix2 (i 1) (i 2)) := by
  funext i
  obtain ⟨z, r, e, rfl⟩ : ∃ (z : Fin 1) (r : Fin 128) (e : Fin 512), i = ix3 z r e := ⟨i 0, i 1, i 2, ValueIdx.eq_ix3 i⟩
  unfold val_main_v0
  pointwise

/-- The reference's result 1 is the same. -/
theorem value1 (x0 : S1x128x512.Idx → EReal) (x1 : S128x512.Idx → EReal) (x2 : S1x128x512.Idx → EReal) (x3 : S1x128x512.Idx → EReal) : val_main_v25 (F := Ideal) x0 x1 x2 x3 = fun i => Adam.delta (x0 i) (x1 (ix2 (i 1) (i 2))) (x2 i) (x3 i) := by
  funext i
  obtain ⟨z, r, e, rfl⟩ : ∃ (z : Fin 1) (r : Fin 128) (e : Fin 512), i = ix3 z r e := ⟨i 0, i 1, i 2, ValueIdx.eq_ix3 i⟩
  unfold val_main_v25 val_main_v24 val_main_cst_7 val_main_v23 val_main_v20 val_main_v14 val_main_v6 val_main_v3 val_main_v2 val_main_cst val_main_v5 val_main_v4 val_main_cst_0 val_main_v1 val_main_v13 val_main_cst_3 val_main_v19 val_main_v17 val_main_v16 val_main_v12 val_main_v8 val_main_v7 val_main_cst_1 val_main_v11 val_main_v10 val_main_cst_2 val_main_v9 val_main_v15 val_main_cst_4 val_main_v18 val_main_cst_5 val_main_v22 val_main_v21 val_main_cst_6 val_main_v1
  pointwise
  rfl
/-- The reference's result 2 is the same. -/
theorem value2 (x1 : S128x512.Idx → EReal) (x2 : S1x128x512.Idx → EReal) : val_main_v6 (F := Ideal) x1 x2 = fun i => Adam.mom (x1 (ix2 (i 1) (i 2))) (x2 i) := by
  funext i
  obtain ⟨z, r, e, rfl⟩ : ∃ (z : Fin 1) (r : Fin 128) (e : Fin 512), i = ix3 z r e := ⟨i 0, i 1, i 2, ValueIdx.eq_ix3 i⟩
  unfold val_main_v6 val_main_v3 val_main_v2 val_main_cst val_main_v5 val_main_v4 val_main_cst_0 val_main_v1
  pointwise
  rfl
/-- The reference's result 3 is the same. -/
theorem value3 (x1 : S128x512.Idx → EReal) (x3 : S1x128x512.Idx → EReal) : val_main_v12 (F := Ideal) x1 x3 = fun i => Adam.vel (x1 (ix2 (i 1) (i 2))) (x3 i) := by
  funext i
  obtain ⟨z, r, e, rfl⟩ : ∃ (z : Fin 1) (r : Fin 128) (e : Fin 512), i = ix3 z r e := ⟨i 0, i 1, i 2, ValueIdx.eq_ix3 i⟩
  unfold val_main_v12 val_main_v8 val_main_v7 val_main_cst_1 val_main_v11 val_main_v10 val_main_cst_2 val_main_v9 val_main_v1
  pointwise
  rfl

end Cert.Reference29Ideal.At

namespace Cert.AdamGlu

open Cert.Kernel29Ideal.Final

/-- The reference terminates and leaves its arguments unchanged; it has no counters. -/
theorem frame_reference : Cert.quiescent_Reference29Ideal := fun m ρ _ =>
  (θ_run Cert.Reference29Ideal.defs _ _).mono (fun r h => ⟨fun c => ((((h c).2).2).2).2,
    Idealize.ShloMosaic.sem_eq_zero_of_no_sems (by decide) r.2⟩) (Cert.Reference29Ideal.Value.run m ρ)

/-- Kernel and reference end with equal results. -/
theorem algebraic : Cert.algebraic_Kernel29Ideal_Reference29Ideal := by
  intro m ρ m' ρ' hpre hag
  refine ⟨fun c => fun i => (m (c.tc.loc Cert.Kernel29Ideal.main_arg1)) (ix2 (i 1) (i 2)), fun c => fun i => Cert.Adam.delta ((m (c.tc.loc Cert.Kernel29Ideal.main_arg0)) i) ((m (c.tc.loc Cert.Kernel29Ideal.main_arg1)) (ix2 (i 1) (i 2))) ((m (c.tc.loc Cert.Kernel29Ideal.main_arg2)) i) ((m (c.tc.loc Cert.Kernel29Ideal.main_arg3)) i), fun c => fun i => Cert.Adam.mom ((m (c.tc.loc Cert.Kernel29Ideal.main_arg1)) (ix2 (i 1) (i 2))) ((m (c.tc.loc Cert.Kernel29Ideal.main_arg2)) i), fun c => fun i => Cert.Adam.vel ((m (c.tc.loc Cert.Kernel29Ideal.main_arg1)) (ix2 (i 1) (i 2))) ((m (c.tc.loc Cert.Kernel29Ideal.main_arg3)) i),
    (θ_run Cert.Kernel29Ideal.defs _ _).mono (fun r h c => ?_) (Cert.Kernel29Ideal.Value.run_blocks m ρ),
    (θ_run Cert.Reference29Ideal.defs _ _).mono (fun r h c => ?_) (Cert.Reference29Ideal.Value.run m' ρ')⟩
  · obtain ⟨h0, h1, h2, h3, k0, k1, k2, k3⟩ := h c
    exact ⟨h0.trans (arr4 m c), h1.trans (arr5 m c), h2.trans (arr6 m c), h3.trans (arr7 m c), k0, k1, k2, k3⟩
  · obtain ⟨h0, h1, h2, h3, k0, k1, k2, k3⟩ := h c
    obtain ⟨e0, e1, e2, e3⟩ := hag c
    exact ⟨h0.trans ((Cert.Reference29Ideal.Read.val_main_v0_eq _).trans (by rw [e1]; exact Cert.Reference29Ideal.At.value0 _)), h1.trans ((Cert.Reference29Ideal.Read.val_main_v25_eq _ _ _ _).trans (by rw [e0, e1, e2, e3]; exact Cert.Reference29Ideal.At.value1 _ _ _ _)), h2.trans ((Cert.Reference29Ideal.Read.val_main_v6_eq _ _).trans (by rw [e1, e2]; exact Cert.Reference29Ideal.At.value2 _ _)), h3.trans ((Cert.Reference29Ideal.Read.val_main_v12_eq _ _).trans (by rw [e1, e3]; exact Cert.Reference29Ideal.At.value3 _ _)), k0, k1, k2, k3⟩

end Cert.AdamGlu

end
-- ==== Proof.AdamSsmBr.Final.lean ====
/-
  One step of AdamW on the shard of w_ssm_br and of w_mem_br: kernel and reference end with equal results.
-/
module

public import proofs.«01_k».proof.Defs
public import proofs.«01_k».proof.Proof.Gen.Kernel30Ideal.Value
public import proofs.«01_k».proof.Proof.Gen.Reference30Ideal.Run
public import proofs.«01_k».proof.Proof.Gen.Reference30Ideal.Read
public import proofs.«01_k».proof.Proof.Prod.Math
public import proofs.«01_k».proof.Proof.Prod.Adam

@[expose] public section

set_option maxRecDepth 16384

noncomputable section

open Idealize.ShloMosaic Idealize.ShloMosaic.TcCoe Idealize.SL.Sem
open scoped BigOperators

namespace Cert.Kernel30Ideal.Final

open Cert.Kernel30Ideal Cert.Kernel30Ideal.Gen Cert.Prod

variable (m : (ℓ : Loc nD τ sig) → Buf (Elt Ideal) ℓ)

/-- Where each window's block of point `t` begins. -/
theorem idx : ∀ t : Fin cfg0.N,
    win0_0.index t = ![0, t.val, 0] ∧ win0_1.index t = ![t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The grid's points. -/
theorem ltN (t : Fin cfg0.N) : t.val < 2 := lt_of_lt_of_eq t.isLt (show cfg0.N = 2 from N_0)

/-- Row `r` of the tile at point `t`. -/
def row (t : Fin cfg0.N) (r : Fin 256) : Fin 512 := ⟨256 * t.val + r.val, by have := ltN t; omega⟩

/-- The parameter. -/
abbrev fw (c : Dev nD) : S1x512x256.Idx → EReal := m ((c : Thread nD τ).loc main_arg0)
/-- The gradient. -/
abbrev fg (c : Dev nD) : S512x256.Idx → EReal := m ((c : Thread nD τ).loc main_arg1)
/-- The first moment. -/
abbrev fm (c : Dev nD) : S1x512x256.Idx → EReal := m ((c : Thread nD τ).loc main_arg2)
/-- The second moment. -/
abbrev fv (c : Dev nD) : S1x512x256.Idx → EReal := m ((c : Thread nD τ).loc main_arg3)

/-- The tile of window 0. -/
theorem blk0 (c : Dev nD) (t : Fin cfg0.N) (z : Fin 1) (r : Fin 256) (e : Fin 256) :
    (iblk m c 0 t : Vec Ideal S1x256x256 .f32) (ix3 z r e) = fw m c (ix3 z (row t r) e) := by
  have := ltN t
  unfold row
  blk_ext [iblk, V, idx t]
/-- The tile of window 2. -/
theorem blk2 (c : Dev nD) (t : Fin cfg0.N) (z : Fin 1) (r : Fin 256) (e : Fin 256) :
    (iblk m c 2 t : Vec Ideal S1x256x256 .f32) (ix3 z r e) = fm m c (ix3 z (row t r) e) := by
  have := ltN t
  unfold row
  blk_ext [iblk, V, idx t]
/-- The tile of window 3. -/
theorem blk3 (c : Dev nD) (t : Fin cfg0.N) (z : Fin 1) (r : Fin 256) (e : Fin 256) :
    (iblk m c 3 t : Vec Ideal S1x256x256 .f32) (ix3 z r e) = fv m c (ix3 z (row t r) e) := by
  have := ltN t
  unfold row
  blk_ext [iblk, V, idx t]
/-- The gradient's tile. -/
theorem blk1 (c : Dev nD) (t : Fin cfg0.N) (r : Fin 256) (e : Fin 256) :
    (iblk m c 1 t : Vec Ideal S256x256 .f32) (ix2 r e) = fg m c (ix2 (row t r) e) := by
  have := ltN t
  unfold row
  blk_ext [iblk, V, idx t]

section Tile

variable (g : Vec Ideal S256x256 .f32) (a b d : Vec Ideal S1x256x256 .f32)

/-- A tile of the new first moment. -/
theorem pay4 (r : Fin 256) (e : Fin 256) : k0_pay4 (F := Ideal) g a (ix2 r e) = Adam.mom (g (ix2 r e)) (a (ix3 0 r e)) := by
  unfold k0_pay4
  pointwise
  rfl
/-- A tile of the new second moment. -/
theorem pay5 (r : Fin 256) (e : Fin 256) : k0_pay5 (F := Ideal) g b (ix2 r e) = Adam.vel (g (ix2 r e)) (b (ix3 0 r e)) := by
  unfold k0_pay5
  pointwise
  rfl
/-- A tile of the change. -/
theorem pay7 (r : Fin 256) (e : Fin 256) :
    k0_pay7 (F := Ideal) g a b d (ix2 r e) = Adam.delta (d (ix3 0 r e)) (g (ix2 r e)) (a (ix3 0 r e)) (b (ix3 0 r e)) := by
  unfold k0_pay7
  pointwise
  rw [pay4, pay5]
  rfl

end Tile

/-- The gradient, as an array. -/
abbrev res4 (c : Dev nD) : S1x512x256.Idx → EReal := fun i => fg m c (ix2 (i 1) (i 2))
/-- The gradient of a tile. -/
theorem tile4 (c : Dev nD) (t : Fin cfg0.N) (i : S1x256x256.Idx) : k0_pay6 (F := Ideal) (iblk m c 1 t) i = res4 m c (ix3 (i 0) (row t (i 1)) (i 2)) := by
  obtain ⟨z, r, e, rfl⟩ : ∃ (z : Fin 1) (r : Fin 256) (e : Fin 256), i = ix3 z r e := ⟨i 0, i 1, i 2, ValueIdx.eq_ix3 i⟩
  obtain rfl : z = 0 := Subsingleton.elim _ _
  unfold k0_pay6
  pointwise
  exact blk1 m c t r e
/-- The gradient after the run. -/
theorem arr4 (c : Dev nD) : (dats m 0 c).arrAt 4 cfg0.N = res4 m c := by
  refine (dats m 0 c).arrAt_eq_of_covers 4 _ (by decide +kernel) fun t hf y => ?_
  have hlt := ltN t
  have h9 : ((cfg0.win 4).blk t).view.emb y = ix3 (y 0) (row t (y 1)) (y 2) := by
    unfold row
    blk_ext [idx t]
  rw [h9]
  blk_simp
  rw [after0_4]
  unfold out0_4
  frame_out
  exact tile4 m c t y
/-- The change, as an array. -/
abbrev res5 (c : Dev nD) : S1x512x256.Idx → EReal := fun i => Adam.delta (fw m c i) (fg m c (ix2 (i 1) (i 2))) (fm m c i) (fv m c i)
/-- The change of a tile. -/
theorem tile5 (c : Dev nD) (t : Fin cfg0.N) (i : S1x256x256.Idx) : k0_pay1 (F := Ideal) (k0_pay7 (F := Ideal) (iblk m c 1 t) (iblk m c 2 t) (iblk m c 3 t) (iblk m c 0 t)) i = res5 m c (ix3 (i 0) (row t (i 1)) (i 2)) := by
  obtain ⟨z, r, e, rfl⟩ : ∃ (z : Fin 1) (r : Fin 256) (e : Fin 256), i = ix3 z r e := ⟨i 0, i 1, i 2, ValueIdx.eq_ix3 i⟩
  obtain rfl : z = 0 := Subsingleton.elim _ _
  unfold k0_pay1
  pointwise
  exact (pay7 (iblk m c 1 t) (iblk m c 2 t) (iblk m c 3 t) (iblk m c 0 t) r e).trans (by rw [blk0, blk1, blk2, blk3]; rfl)
/-- The change after the run. -/
theorem arr5 (c : Dev nD) : (dats m 0 c).arrAt 5 cfg0.N = res5 m c := by
  refine (dats m 0 c).arrAt_eq_of_covers 5 _ (by decide +kernel) fun t hf y => ?_
  have hlt := ltN t
  have h9 : ((cfg0.win 5).blk t).view.emb y = ix3 (y 0) (row t (y 1)) (y 2) := by
    unfold row
    blk_ext [idx t]
  rw [h9]
  blk_simp
  rw [after0_5]
  unfold out0_5
  frame_out
  exact tile5 m c t y
/-- The new first moment, as an array. -/
abbrev res6 (c : Dev nD) : S1x512x256.Idx → EReal := fun i => Adam.mom (fg m c (ix2 (i 1) (i 2))) (fm m c i)
/-- The new first moment of a tile. -/
theorem tile6 (c : Dev nD) (t : Fin cfg0.N) (i : S1x256x256.Idx) : k0_pay2 (F := Ideal) (k0_pay4 (F := Ideal) (iblk m c 1 t) (iblk m c 2 t)) i = res6 m c (ix3 (i 0) (row t (i 1)) (i 2)) := by
  obtain ⟨z, r, e, rfl⟩ : ∃ (z : Fin 1) (r : Fin 256) (e : Fin 256), i = ix3 z r e := ⟨i 0, i 1, i 2, ValueIdx.eq_ix3 i⟩
  obtain rfl : z = 0 := Subsingleton.elim _ _
  unfold k0_pay2
  pointwise
  exact (pay4 (iblk m c 1 t) (iblk m c 2 t) r e).trans (by rw [blk1, blk2]; rfl)
/-- The new first moment after the run. -/
theorem arr6 (c : Dev nD) : (dats m 0 c).arrAt 6 cfg0.N = res6 m c := by
  refine (dats m 0 c).arrAt_eq_of_covers 6 _ (by decide +kernel) fun t hf y => ?_
  have hlt := ltN t
  have h9 : ((cfg0.win 6).blk t).view.emb y = ix3 (y 0) (row t (y 1)) (y 2) := by
    unfold row
    blk_ext [idx t]
  rw [h9]
  blk_simp
  rw [after0_6]
  unfold out0_6
  frame_out
  exact tile6 m c t y
/-- The new second moment, as an array. -/
abbrev res7 (c : Dev nD) : S1x512x256.Idx → EReal := fun i => Adam.vel (fg m c (ix2 (i 1) (i 2))) (fv m c i)
/-- The new second moment of a tile. -/
theorem tile7 (c : Dev nD) (t : Fin cfg0.N) (i : S1x256x256.Idx) : k0_pay3 (F := Ideal) (k0_pay5 (F := Ideal) (iblk m c 1 t) (iblk m c 3 t)) i = res7 m c (ix3 (i 0) (row t (i 1)) (i 2)) := by
  obtain ⟨z, r, e, rfl⟩ : ∃ (z : Fin 1) (r : Fin 256) (e : Fin 256), i = ix3 z r e := ⟨i 0, i 1, i 2, ValueIdx.eq_ix3 i⟩
  obtain rfl : z = 0 := Subsingleton.elim _ _
  unfold k0_pay3
  pointwise
  exact (pay5 (iblk m c 1 t) (iblk m c 3 t) r e).trans (by rw [blk1, blk3]; rfl)
/-- The new second moment after the run. -/
theorem arr7 (c : Dev nD) : (dats m 0 c).arrAt 7 cfg0.N = res7 m c := by
  refine (dats m 0 c).arrAt_eq_of_covers 7 _ (by decide +kernel) fun t hf y => ?_
  have hlt := ltN t
  have h9 : ((cfg0.win 7).blk t).view.emb y = ix3 (y 0) (row t (y 1)) (y 2) := by
    unfold row
    blk_ext [idx t]
  rw [h9]
  blk_simp
  rw [after0_7]
  unfold out0_7
  frame_out
  exact tile7 m c t y

end Cert.Kernel30Ideal.Final

namespace Cert.Reference30Ideal.At

open Cert.Reference30Ideal Cert.Reference30Ideal.Read Cert.Prod

/-- The reference's result 0 is the same. -/
theorem value0 (x1 : S512x256.Idx → EReal) : val_main_v0 (F := Ideal) x1 = fun i => x1 (ix2 (i 1) (i 2)) := by
  funext i
  obtain ⟨z, r, e, rfl⟩ : ∃ (z : Fin 1) (r : Fin 512) (e : Fin 256), i = ix3 z r e := ⟨i 0, i 1, i 2, ValueIdx.eq_ix3 i⟩
  unfold val_main_v0
  pointwise

/-- The reference's result 1 is the same. -/
theorem value1 (x0 : S1x512x256.Idx → EReal) (x1 : S512x256.Idx → EReal) (x2 : S1x512x256.Idx → EReal) (x3 : S1x512x256.Idx → EReal) : val_main_v25 (F := Ideal) x0 x1 x2 x3 = fun i => Adam.delta (x0 i) (x1 (ix2 (i 1) (i 2))) (x2 i) (x3 i) := by
  funext i
  obtain ⟨z, r, e, rfl⟩ : ∃ (z : Fin 1) (r : Fin 512) (e : Fin 256), i = ix3 z r e := ⟨i 0, i 1, i 2, ValueIdx.eq_ix3 i⟩
  unfold val_main_v25 val_main_v24 val_main_cst_7 val_main_v23 val_main_v20 val_main_v14 val_main_v6 val_main_v3 val_main_v2 val_main_cst val_main_v5 val_main_v4 val_main_cst_0 val_main_v1 val_main_v13 val_main_cst_3 val_main_v19 val_main_v17 val_main_v16 val_main_v12 val_main_v8 val_main_v7 val_main_cst_1 val_main_v11 val_main_v10 val_main_cst_2 val_main_v9 val_main_v15 val_main_cst_4 val_main_v18 val_main_cst_5 val_main_v22 val_main_v21 val_main_cst_6 val_main_v1
  pointwise
  rfl
/-- The reference's result 2 is the same. -/
theorem value2 (x1 : S512x256.Idx → EReal) (x2 : S1x512x256.Idx → EReal) : val_main_v6 (F := Ideal) x1 x2 = fun i => Adam.mom (x1 (ix2 (i 1) (i 2))) (x2 i) := by
  funext i
  obtain ⟨z, r, e, rfl⟩ : ∃ (z : Fin 1) (r : Fin 512) (e : Fin 256), i = ix3 z r e := ⟨i 0, i 1, i 2, ValueIdx.eq_ix3 i⟩
  unfold val_main_v6 val_main_v3 val_main_v2 val_main_cst val_main_v5 val_main_v4 val_main_cst_0 val_main_v1
  pointwise
  rfl
/-- The reference's result 3 is the same. -/
theorem value3 (x1 : S512x256.Idx → EReal) (x3 : S1x512x256.Idx → EReal) : val_main_v12 (F := Ideal) x1 x3 = fun i => Adam.vel (x1 (ix2 (i 1) (i 2))) (x3 i) := by
  funext i
  obtain ⟨z, r, e, rfl⟩ : ∃ (z : Fin 1) (r : Fin 512) (e : Fin 256), i = ix3 z r e := ⟨i 0, i 1, i 2, ValueIdx.eq_ix3 i⟩
  unfold val_main_v12 val_main_v8 val_main_v7 val_main_cst_1 val_main_v11 val_main_v10 val_main_cst_2 val_main_v9 val_main_v1
  pointwise
  rfl

end Cert.Reference30Ideal.At

namespace Cert.AdamSsmBr

open Cert.Kernel30Ideal.Final

/-- The reference terminates and leaves its arguments unchanged; it has no counters. -/
theorem frame_reference : Cert.quiescent_Reference30Ideal := fun m ρ _ =>
  (θ_run Cert.Reference30Ideal.defs _ _).mono (fun r h => ⟨fun c => ((((h c).2).2).2).2,
    Idealize.ShloMosaic.sem_eq_zero_of_no_sems (by decide) r.2⟩) (Cert.Reference30Ideal.Value.run m ρ)

/-- Kernel and reference end with equal results. -/
theorem algebraic : Cert.algebraic_Kernel30Ideal_Reference30Ideal := by
  intro m ρ m' ρ' hpre hag
  refine ⟨fun c => fun i => (m (c.tc.loc Cert.Kernel30Ideal.main_arg1)) (ix2 (i 1) (i 2)), fun c => fun i => Cert.Adam.delta ((m (c.tc.loc Cert.Kernel30Ideal.main_arg0)) i) ((m (c.tc.loc Cert.Kernel30Ideal.main_arg1)) (ix2 (i 1) (i 2))) ((m (c.tc.loc Cert.Kernel30Ideal.main_arg2)) i) ((m (c.tc.loc Cert.Kernel30Ideal.main_arg3)) i), fun c => fun i => Cert.Adam.mom ((m (c.tc.loc Cert.Kernel30Ideal.main_arg1)) (ix2 (i 1) (i 2))) ((m (c.tc.loc Cert.Kernel30Ideal.main_arg2)) i), fun c => fun i => Cert.Adam.vel ((m (c.tc.loc Cert.Kernel30Ideal.main_arg1)) (ix2 (i 1) (i 2))) ((m (c.tc.loc Cert.Kernel30Ideal.main_arg3)) i),
    (θ_run Cert.Kernel30Ideal.defs _ _).mono (fun r h c => ?_) (Cert.Kernel30Ideal.Value.run_blocks m ρ),
    (θ_run Cert.Reference30Ideal.defs _ _).mono (fun r h c => ?_) (Cert.Reference30Ideal.Value.run m' ρ')⟩
  · obtain ⟨h0, h1, h2, h3, k0, k1, k2, k3⟩ := h c
    exact ⟨h0.trans (arr4 m c), h1.trans (arr5 m c), h2.trans (arr6 m c), h3.trans (arr7 m c), k0, k1, k2, k3⟩
  · obtain ⟨h0, h1, h2, h3, k0, k1, k2, k3⟩ := h c
    obtain ⟨e0, e1, e2, e3⟩ := hag c
    exact ⟨h0.trans ((Cert.Reference30Ideal.Read.val_main_v0_eq _).trans (by rw [e1]; exact Cert.Reference30Ideal.At.value0 _)), h1.trans ((Cert.Reference30Ideal.Read.val_main_v25_eq _ _ _ _).trans (by rw [e0, e1, e2, e3]; exact Cert.Reference30Ideal.At.value1 _ _ _ _)), h2.trans ((Cert.Reference30Ideal.Read.val_main_v6_eq _ _).trans (by rw [e1, e2]; exact Cert.Reference30Ideal.At.value2 _ _)), h3.trans ((Cert.Reference30Ideal.Read.val_main_v12_eq _ _).trans (by rw [e1, e3]; exact Cert.Reference30Ideal.At.value3 _ _)), k0, k1, k2, k3⟩

end Cert.AdamSsmBr

end
-- ==== Proof.AdamAttnBr.Final.lean ====
/-
  One step of AdamW on the shard of w_attn_br: kernel and reference end with equal results.
-/
module

public import proofs.«01_k».proof.Defs
public import proofs.«01_k».proof.Proof.Gen.Kernel31Ideal.Value
public import proofs.«01_k».proof.Proof.Gen.Reference31Ideal.Run
public import proofs.«01_k».proof.Proof.Gen.Reference31Ideal.Read
public import proofs.«01_k».proof.Proof.Prod.Math
public import proofs.«01_k».proof.Proof.Prod.Adam

@[expose] public section

set_option maxRecDepth 16384

noncomputable section

open Idealize.ShloMosaic Idealize.ShloMosaic.TcCoe Idealize.SL.Sem
open scoped BigOperators

namespace Cert.Kernel31Ideal.Final

open Cert.Kernel31Ideal Cert.Kernel31Ideal.Gen Cert.Prod

variable (m : (ℓ : Loc nD τ sig) → Buf (Elt Ideal) ℓ)

/-- Where each window's block of point `t` begins. -/
theorem idx : ∀ t : Fin cfg0.N,
    win0_0.index t = ![0, t.val, 0] ∧ win0_1.index t = ![t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The grid's points. -/
theorem ltN (t : Fin cfg0.N) : t.val < 1 := lt_of_lt_of_eq t.isLt (show cfg0.N = 1 from N_0)

/-- Row `r` of the tile at point `t`. -/
def row (t : Fin cfg0.N) (r : Fin 256) : Fin 256 := ⟨256 * t.val + r.val, by have := ltN t; omega⟩

/-- The parameter. -/
abbrev fw (c : Dev nD) : S1x256x256.Idx → EReal := m ((c : Thread nD τ).loc main_arg0)
/-- The gradient. -/
abbrev fg (c : Dev nD) : S256x256.Idx → EReal := m ((c : Thread nD τ).loc main_arg1)
/-- The first moment. -/
abbrev fm (c : Dev nD) : S1x256x256.Idx → EReal := m ((c : Thread nD τ).loc main_arg2)
/-- The second moment. -/
abbrev fv (c : Dev nD) : S1x256x256.Idx → EReal := m ((c : Thread nD τ).loc main_arg3)

/-- The tile of window 0. -/
theorem blk0 (c : Dev nD) (t : Fin cfg0.N) (z : Fin 1) (r : Fin 256) (e : Fin 256) :
    (iblk m c 0 t : Vec Ideal S1x256x256 .f32) (ix3 z r e) = fw m c (ix3 z (row t r) e) := by
  have := ltN t
  unfold row
  blk_ext [iblk, V, idx t]
/-- The tile of window 2. -/
theorem blk2 (c : Dev nD) (t : Fin cfg0.N) (z : Fin 1) (r : Fin 256) (e : Fin 256) :
    (iblk m c 2 t : Vec Ideal S1x256x256 .f32) (ix3 z r e) = fm m c (ix3 z (row t r) e) := by
  have := ltN t
  unfold row
  blk_ext [iblk, V, idx t]
/-- The tile of window 3. -/
theorem blk3 (c : Dev nD) (t : Fin cfg0.N) (z : Fin 1) (r : Fin 256) (e : Fin 256) :
    (iblk m c 3 t : Vec Ideal S1x256x256 .f32) (ix3 z r e) = fv m c (ix3 z (row t r) e) := by
  have := ltN t
  unfold row
  blk_ext [iblk, V, idx t]
/-- The gradient's tile. -/
theorem blk1 (c : Dev nD) (t : Fin cfg0.N) (r : Fin 256) (e : Fin 256) :
    (iblk m c 1 t : Vec Ideal S256x256 .f32) (ix2 r e) = fg m c (ix2 (row t r) e) := by
  have := ltN t
  unfold row
  blk_ext [iblk, V, idx t]

section Tile

variable (g : Vec Ideal S256x256 .f32) (a b d : Vec Ideal S1x256x256 .f32)

/-- A tile of the new first moment. -/
theorem pay4 (r : Fin 256) (e : Fin 256) : k0_pay4 (F := Ideal) g a (ix2 r e) = Adam.mom (g (ix2 r e)) (a (ix3 0 r e)) := by
  unfold k0_pay4
  pointwise
  rfl
/-- A tile of the new second moment. -/
theorem pay5 (r : Fin 256) (e : Fin 256) : k0_pay5 (F := Ideal) g b (ix2 r e) = Adam.vel (g (ix2 r e)) (b (ix3 0 r e)) := by
  unfold k0_pay5
  pointwise
  rfl
/-- A tile of the change. -/
theorem pay7 (r : Fin 256) (e : Fin 256) :
    k0_pay7 (F := Ideal) g a b d (ix2 r e) = Adam.delta (d (ix3 0 r e)) (g (ix2 r e)) (a (ix3 0 r e)) (b (ix3 0 r e)) := by
  unfold k0_pay7
  pointwise
  rw [pay4, pay5]
  rfl

end Tile

/-- The gradient, as an array. -/
abbrev res4 (c : Dev nD) : S1x256x256.Idx → EReal := fun i => fg m c (ix2 (i 1) (i 2))
/-- The gradient of a tile. -/
theorem tile4 (c : Dev nD) (t : Fin cfg0.N) (i : S1x256x256.Idx) : k0_pay6 (F := Ideal) (iblk m c 1 t) i = res4 m c (ix3 (i 0) (row t (i 1)) (i 2)) := by
  obtain ⟨z, r, e, rfl⟩ : ∃ (z : Fin 1) (r : Fin 256) (e : Fin 256), i = ix3 z r e := ⟨i 0, i 1, i 2, ValueIdx.eq_ix3 i⟩
  obtain rfl : z = 0 := Subsingleton.elim _ _
  unfold k0_pay6
  pointwise
  exact blk1 m c t r e
/-- The gradient after the run. -/
theorem arr4 (c : Dev nD) : (dats m 0 c).arrAt 4 cfg0.N = res4 m c := by
  refine (dats m 0 c).arrAt_eq_of_covers 4 _ (by decide +kernel) fun t hf y => ?_
  have hlt := ltN t
  have h9 : ((cfg0.win 4).blk t).view.emb y = ix3 (y 0) (row t (y 1)) (y 2) := by
    unfold row
    blk_ext [idx t]
  rw [h9]
  blk_simp
  rw [after0_4]
  unfold out0_4
  frame_out
  exact tile4 m c t y
/-- The change, as an array. -/
abbrev res5 (c : Dev nD) : S1x256x256.Idx → EReal := fun i => Adam.delta (fw m c i) (fg m c (ix2 (i 1) (i 2))) (fm m c i) (fv m c i)
/-- The change of a tile. -/
theorem tile5 (c : Dev nD) (t : Fin cfg0.N) (i : S1x256x256.Idx) : k0_pay1 (F := Ideal) (k0_pay7 (F := Ideal) (iblk m c 1 t) (iblk m c 2 t) (iblk m c 3 t) (iblk m c 0 t)) i = res5 m c (ix3 (i 0) (row t (i 1)) (i 2)) := by
  obtain ⟨z, r, e, rfl⟩ : ∃ (z : Fin 1) (r : Fin 256) (e : Fin 256), i = ix3 z r e := ⟨i 0, i 1, i 2, ValueIdx.eq_ix3 i⟩
  obtain rfl : z = 0 := Subsingleton.elim _ _
  unfold k0_pay1
  pointwise
  exact (pay7 (iblk m c 1 t) (iblk m c 2 t) (iblk m c 3 t) (iblk m c 0 t) r e).trans (by rw [blk0, blk1, blk2, blk3]; rfl)
/-- The change after the run. -/
theorem arr5 (c : Dev nD) : (dats m 0 c).arrAt 5 cfg0.N = res5 m c := by
  refine (dats m 0 c).arrAt_eq_of_covers 5 _ (by decide +kernel) fun t hf y => ?_
  have hlt := ltN t
  have h9 : ((cfg0.win 5).blk t).view.emb y = ix3 (y 0) (row t (y 1)) (y 2) := by
    unfold row
    blk_ext [idx t]
  rw [h9]
  blk_simp
  rw [after0_5]
  unfold out0_5
  frame_out
  exact tile5 m c t y
/-- The new first moment, as an array. -/
abbrev res6 (c : Dev nD) : S1x256x256.Idx → EReal := fun i => Adam.mom (fg m c (ix2 (i 1) (i 2))) (fm m c i)
/-- The new first moment of a tile. -/
theorem tile6 (c : Dev nD) (t : Fin cfg0.N) (i : S1x256x256.Idx) : k0_pay2 (F := Ideal) (k0_pay4 (F := Ideal) (iblk m c 1 t) (iblk m c 2 t)) i = res6 m c (ix3 (i 0) (row t (i 1)) (i 2)) := by
  obtain ⟨z, r, e, rfl⟩ : ∃ (z : Fin 1) (r : Fin 256) (e : Fin 256), i = ix3 z r e := ⟨i 0, i 1, i 2, ValueIdx.eq_ix3 i⟩
  obtain rfl : z = 0 := Subsingleton.elim _ _
  unfold k0_pay2
  pointwise
  exact (pay4 (iblk m c 1 t) (iblk m c 2 t) r e).trans (by rw [blk1, blk2]; rfl)
/-- The new first moment after the run. -/
theorem arr6 (c : Dev nD) : (dats m 0 c).arrAt 6 cfg0.N = res6 m c := by
  refine (dats m 0 c).arrAt_eq_of_covers 6 _ (by decide +kernel) fun t hf y => ?_
  have hlt := ltN t
  have h9 : ((cfg0.win 6).blk t).view.emb y = ix3 (y 0) (row t (y 1)) (y 2) := by
    unfold row
    blk_ext [idx t]
  rw [h9]
  blk_simp
  rw [after0_6]
  unfold out0_6
  frame_out
  exact tile6 m c t y
/-- The new second moment, as an array. -/
abbrev res7 (c : Dev nD) : S1x256x256.Idx → EReal := fun i => Adam.vel (fg m c (ix2 (i 1) (i 2))) (fv m c i)
/-- The new second moment of a tile. -/
theorem tile7 (c : Dev nD) (t : Fin cfg0.N) (i : S1x256x256.Idx) : k0_pay3 (F := Ideal) (k0_pay5 (F := Ideal) (iblk m c 1 t) (iblk m c 3 t)) i = res7 m c (ix3 (i 0) (row t (i 1)) (i 2)) := by
  obtain ⟨z, r, e, rfl⟩ : ∃ (z : Fin 1) (r : Fin 256) (e : Fin 256), i = ix3 z r e := ⟨i 0, i 1, i 2, ValueIdx.eq_ix3 i⟩
  obtain rfl : z = 0 := Subsingleton.elim _ _
  unfold k0_pay3
  pointwise
  exact (pay5 (iblk m c 1 t) (iblk m c 3 t) r e).trans (by rw [blk1, blk3]; rfl)
/-- The new second moment after the run. -/
theorem arr7 (c : Dev nD) : (dats m 0 c).arrAt 7 cfg0.N = res7 m c := by
  refine (dats m 0 c).arrAt_eq_of_covers 7 _ (by decide +kernel) fun t hf y => ?_
  have hlt := ltN t
  have h9 : ((cfg0.win 7).blk t).view.emb y = ix3 (y 0) (row t (y 1)) (y 2) := by
    unfold row
    blk_ext [idx t]
  rw [h9]
  blk_simp
  rw [after0_7]
  unfold out0_7
  frame_out
  exact tile7 m c t y

end Cert.Kernel31Ideal.Final

namespace Cert.Reference31Ideal.At

open Cert.Reference31Ideal Cert.Reference31Ideal.Read Cert.Prod

/-- The reference's result 0 is the same. -/
theorem value0 (x1 : S256x256.Idx → EReal) : val_main_v0 (F := Ideal) x1 = fun i => x1 (ix2 (i 1) (i 2)) := by
  funext i
  obtain ⟨z, r, e, rfl⟩ : ∃ (z : Fin 1) (r : Fin 256) (e : Fin 256), i = ix3 z r e := ⟨i 0, i 1, i 2, ValueIdx.eq_ix3 i⟩
  unfold val_main_v0
  pointwise

/-- The reference's result 1 is the same. -/
theorem value1 (x0 : S1x256x256.Idx → EReal) (x1 : S256x256.Idx → EReal) (x2 : S1x256x256.Idx → EReal) (x3 : S1x256x256.Idx → EReal) : val_main_v25 (F := Ideal) x0 x1 x2 x3 = fun i => Adam.delta (x0 i) (x1 (ix2 (i 1) (i 2))) (x2 i) (x3 i) := by
  funext i
  obtain ⟨z, r, e, rfl⟩ : ∃ (z : Fin 1) (r : Fin 256) (e : Fin 256), i = ix3 z r e := ⟨i 0, i 1, i 2, ValueIdx.eq_ix3 i⟩
  unfold val_main_v25 val_main_v24 val_main_cst_7 val_main_v23 val_main_v20 val_main_v14 val_main_v6 val_main_v3 val_main_v2 val_main_cst val_main_v5 val_main_v4 val_main_cst_0 val_main_v1 val_main_v13 val_main_cst_3 val_main_v19 val_main_v17 val_main_v16 val_main_v12 val_main_v8 val_main_v7 val_main_cst_1 val_main_v11 val_main_v10 val_main_cst_2 val_main_v9 val_main_v15 val_main_cst_4 val_main_v18 val_main_cst_5 val_main_v22 val_main_v21 val_main_cst_6 val_main_v1
  pointwise
  rfl
/-- The reference's result 2 is the same. -/
theorem value2 (x1 : S256x256.Idx → EReal) (x2 : S1x256x256.Idx → EReal) : val_main_v6 (F := Ideal) x1 x2 = fun i => Adam.mom (x1 (ix2 (i 1) (i 2))) (x2 i) := by
  funext i
  obtain ⟨z, r, e, rfl⟩ : ∃ (z : Fin 1) (r : Fin 256) (e : Fin 256), i = ix3 z r e := ⟨i 0, i 1, i 2, ValueIdx.eq_ix3 i⟩
  unfold val_main_v6 val_main_v3 val_main_v2 val_main_cst val_main_v5 val_main_v4 val_main_cst_0 val_main_v1
  pointwise
  rfl
/-- The reference's result 3 is the same. -/
theorem value3 (x1 : S256x256.Idx → EReal) (x3 : S1x256x256.Idx → EReal) : val_main_v12 (F := Ideal) x1 x3 = fun i => Adam.vel (x1 (ix2 (i 1) (i 2))) (x3 i) := by
  funext i
  obtain ⟨z, r, e, rfl⟩ : ∃ (z : Fin 1) (r : Fin 256) (e : Fin 256), i = ix3 z r e := ⟨i 0, i 1, i 2, ValueIdx.eq_ix3 i⟩
  unfold val_main_v12 val_main_v8 val_main_v7 val_main_cst_1 val_main_v11 val_main_v10 val_main_cst_2 val_main_v9 val_main_v1
  pointwise
  rfl

end Cert.Reference31Ideal.At

namespace Cert.AdamAttnBr

open Cert.Kernel31Ideal.Final

/-- The reference terminates and leaves its arguments unchanged; it has no counters. -/
theorem frame_reference : Cert.quiescent_Reference31Ideal := fun m ρ _ =>
  (θ_run Cert.Reference31Ideal.defs _ _).mono (fun r h => ⟨fun c => ((((h c).2).2).2).2,
    Idealize.ShloMosaic.sem_eq_zero_of_no_sems (by decide) r.2⟩) (Cert.Reference31Ideal.Value.run m ρ)

/-- Kernel and reference end with equal results. -/
theorem algebraic : Cert.algebraic_Kernel31Ideal_Reference31Ideal := by
  intro m ρ m' ρ' hpre hag
  refine ⟨fun c => fun i => (m (c.tc.loc Cert.Kernel31Ideal.main_arg1)) (ix2 (i 1) (i 2)), fun c => fun i => Cert.Adam.delta ((m (c.tc.loc Cert.Kernel31Ideal.main_arg0)) i) ((m (c.tc.loc Cert.Kernel31Ideal.main_arg1)) (ix2 (i 1) (i 2))) ((m (c.tc.loc Cert.Kernel31Ideal.main_arg2)) i) ((m (c.tc.loc Cert.Kernel31Ideal.main_arg3)) i), fun c => fun i => Cert.Adam.mom ((m (c.tc.loc Cert.Kernel31Ideal.main_arg1)) (ix2 (i 1) (i 2))) ((m (c.tc.loc Cert.Kernel31Ideal.main_arg2)) i), fun c => fun i => Cert.Adam.vel ((m (c.tc.loc Cert.Kernel31Ideal.main_arg1)) (ix2 (i 1) (i 2))) ((m (c.tc.loc Cert.Kernel31Ideal.main_arg3)) i),
    (θ_run Cert.Kernel31Ideal.defs _ _).mono (fun r h c => ?_) (Cert.Kernel31Ideal.Value.run_blocks m ρ),
    (θ_run Cert.Reference31Ideal.defs _ _).mono (fun r h c => ?_) (Cert.Reference31Ideal.Value.run m' ρ')⟩
  · obtain ⟨h0, h1, h2, h3, k0, k1, k2, k3⟩ := h c
    exact ⟨h0.trans (arr4 m c), h1.trans (arr5 m c), h2.trans (arr6 m c), h3.trans (arr7 m c), k0, k1, k2, k3⟩
  · obtain ⟨h0, h1, h2, h3, k0, k1, k2, k3⟩ := h c
    obtain ⟨e0, e1, e2, e3⟩ := hag c
    exact ⟨h0.trans ((Cert.Reference31Ideal.Read.val_main_v0_eq _).trans (by rw [e1]; exact Cert.Reference31Ideal.At.value0 _)), h1.trans ((Cert.Reference31Ideal.Read.val_main_v25_eq _ _ _ _).trans (by rw [e0, e1, e2, e3]; exact Cert.Reference31Ideal.At.value1 _ _ _ _)), h2.trans ((Cert.Reference31Ideal.Read.val_main_v6_eq _ _).trans (by rw [e1, e2]; exact Cert.Reference31Ideal.At.value2 _ _)), h3.trans ((Cert.Reference31Ideal.Read.val_main_v12_eq _ _).trans (by rw [e1, e3]; exact Cert.Reference31Ideal.At.value3 _ _)), k0, k1, k2, k3⟩

end Cert.AdamAttnBr

end
-- ==== Proof.AdamMemKv.Final.lean ====
/-
  One step of AdamW on the shard of w_mem_kv and of w_o: kernel and reference end with equal results.
-/
module

public import proofs.«01_k».proof.Defs
public import proofs.«01_k».proof.Proof.Gen.Kernel32Ideal.Value
public import proofs.«01_k».proof.Proof.Gen.Reference32Ideal.Run
public import proofs.«01_k».proof.Proof.Gen.Reference32Ideal.Read
public import proofs.«01_k».proof.Proof.Prod.Math
public import proofs.«01_k».proof.Proof.Prod.Adam

@[expose] public section

set_option maxRecDepth 16384

noncomputable section

open Idealize.ShloMosaic Idealize.ShloMosaic.TcCoe Idealize.SL.Sem
open scoped BigOperators

namespace Cert.Kernel32Ideal.Final

open Cert.Kernel32Ideal Cert.Kernel32Ideal.Gen Cert.Prod

variable (m : (ℓ : Loc nD τ sig) → Buf (Elt Ideal) ℓ)

/-- Where each window's block of point `t` begins. -/
theorem idx : ∀ t : Fin cfg0.N,
    win0_0.index t = ![0, t.val, 0] ∧ win0_1.index t = ![t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The grid's points. -/
theorem ltN (t : Fin cfg0.N) : t.val < 1 := lt_of_lt_of_eq t.isLt (show cfg0.N = 1 from N_0)

/-- Row `r` of the tile at point `t`. -/
def row (t : Fin cfg0.N) (r : Fin 256) : Fin 256 := ⟨256 * t.val + r.val, by have := ltN t; omega⟩

/-- The parameter. -/
abbrev fw (c : Dev nD) : S1x256x1024.Idx → EReal := m ((c : Thread nD τ).loc main_arg0)
/-- The gradient. -/
abbrev fg (c : Dev nD) : S256x1024.Idx → EReal := m ((c : Thread nD τ).loc main_arg1)
/-- The first moment. -/
abbrev fm (c : Dev nD) : S1x256x1024.Idx → EReal := m ((c : Thread nD τ).loc main_arg2)
/-- The second moment. -/
abbrev fv (c : Dev nD) : S1x256x1024.Idx → EReal := m ((c : Thread nD τ).loc main_arg3)

/-- The tile of window 0. -/
theorem blk0 (c : Dev nD) (t : Fin cfg0.N) (z : Fin 1) (r : Fin 256) (e : Fin 1024) :
    (iblk m c 0 t : Vec Ideal S1x256x1024 .f32) (ix3 z r e) = fw m c (ix3 z (row t r) e) := by
  have := ltN t
  unfold row
  blk_ext [iblk, V, idx t]
/-- The tile of window 2. -/
theorem blk2 (c : Dev nD) (t : Fin cfg0.N) (z : Fin 1) (r : Fin 256) (e : Fin 1024) :
    (iblk m c 2 t : Vec Ideal S1x256x1024 .f32) (ix3 z r e) = fm m c (ix3 z (row t r) e) := by
  have := ltN t
  unfold row
  blk_ext [iblk, V, idx t]
/-- The tile of window 3. -/
theorem blk3 (c : Dev nD) (t : Fin cfg0.N) (z : Fin 1) (r : Fin 256) (e : Fin 1024) :
    (iblk m c 3 t : Vec Ideal S1x256x1024 .f32) (ix3 z r e) = fv m c (ix3 z (row t r) e) := by
  have := ltN t
  unfold row
  blk_ext [iblk, V, idx t]
/-- The gradient's tile. -/
theorem blk1 (c : Dev nD) (t : Fin cfg0.N) (r : Fin 256) (e : Fin 1024) :
    (iblk m c 1 t : Vec Ideal S256x1024 .f32) (ix2 r e) = fg m c (ix2 (row t r) e) := by
  have := ltN t
  unfold row
  blk_ext [iblk, V, idx t]

section Tile

variable (g : Vec Ideal S256x1024 .f32) (a b d : Vec Ideal S1x256x1024 .f32)

/-- A tile of the new first moment. -/
theorem pay4 (r : Fin 256) (e : Fin 1024) : k0_pay4 (F := Ideal) g a (ix2 r e) = Adam.mom (g (ix2 r e)) (a (ix3 0 r e)) := by
  unfold k0_pay4
  pointwise
  rfl
/-- A tile of the new second moment. -/
theorem pay5 (r : Fin 256) (e : Fin 1024) : k0_pay5 (F := Ideal) g b (ix2 r e) = Adam.vel (g (ix2 r e)) (b (ix3 0 r e)) := by
  unfold k0_pay5
  pointwise
  rfl
/-- A tile of the change. -/
theorem pay7 (r : Fin 256) (e : Fin 1024) :
    k0_pay7 (F := Ideal) g a b d (ix2 r e) = Adam.delta (d (ix3 0 r e)) (g (ix2 r e)) (a (ix3 0 r e)) (b (ix3 0 r e)) := by
  unfold k0_pay7
  pointwise
  rw [pay4, pay5]
  rfl

end Tile

/-- The gradient, as an array. -/
abbrev res4 (c : Dev nD) : S1x256x1024.Idx → EReal := fun i => fg m c (ix2 (i 1) (i 2))
/-- The gradient of a tile. -/
theorem tile4 (c : Dev nD) (t : Fin cfg0.N) (i : S1x256x1024.Idx) : k0_pay6 (F := Ideal) (iblk m c 1 t) i = res4 m c (ix3 (i 0) (row t (i 1)) (i 2)) := by
  obtain ⟨z, r, e, rfl⟩ : ∃ (z : Fin 1) (r : Fin 256) (e : Fin 1024), i = ix3 z r e := ⟨i 0, i 1, i 2, ValueIdx.eq_ix3 i⟩
  obtain rfl : z = 0 := Subsingleton.elim _ _
  unfold k0_pay6
  pointwise
  exact blk1 m c t r e
/-- The gradient after the run. -/
theorem arr4 (c : Dev nD) : (dats m 0 c).arrAt 4 cfg0.N = res4 m c := by
  refine (dats m 0 c).arrAt_eq_of_covers 4 _ (by decide +kernel) fun t hf y => ?_
  have hlt := ltN t
  have h9 : ((cfg0.win 4).blk t).view.emb y = ix3 (y 0) (row t (y 1)) (y 2) := by
    unfold row
    blk_ext [idx t]
  rw [h9]
  blk_simp
  rw [after0_4]
  unfold out0_4
  frame_out
  exact tile4 m c t y
/-- The change, as an array. -/
abbrev res5 (c : Dev nD) : S1x256x1024.Idx → EReal := fun i => Adam.delta (fw m c i) (fg m c (ix2 (i 1) (i 2))) (fm m c i) (fv m c i)
/-- The change of a tile. -/
theorem tile5 (c : Dev nD) (t : Fin cfg0.N) (i : S1x256x1024.Idx) : k0_pay1 (F := Ideal) (k0_pay7 (F := Ideal) (iblk m c 1 t) (iblk m c 2 t) (iblk m c 3 t) (iblk m c 0 t)) i = res5 m c (ix3 (i 0) (row t (i 1)) (i 2)) := by
  obtain ⟨z, r, e, rfl⟩ : ∃ (z : Fin 1) (r : Fin 256) (e : Fin 1024), i = ix3 z r e := ⟨i 0, i 1, i 2, ValueIdx.eq_ix3 i⟩
  obtain rfl : z = 0 := Subsingleton.elim _ _
  unfold k0_pay1
  pointwise
  exact (pay7 (iblk m c 1 t) (iblk m c 2 t) (iblk m c 3 t) (iblk m c 0 t) r e).trans (by rw [blk0, blk1, blk2, blk3]; rfl)
/-- The change after the run. -/
theorem arr5 (c : Dev nD) : (dats m 0 c).arrAt 5 cfg0.N = res5 m c := by
  refine (dats m 0 c).arrAt_eq_of_covers 5 _ (by decide +kernel) fun t hf y => ?_
  have hlt := ltN t
  have h9 : ((cfg0.win 5).blk t).view.emb y = ix3 (y 0) (row t (y 1)) (y 2) := by
    unfold row
    blk_ext [idx t]
  rw [h9]
  blk_simp
  rw [after0_5]
  unfold out0_5
  frame_out
  exact tile5 m c t y
/-- The new first moment, as an array. -/
abbrev res6 (c : Dev nD) : S1x256x1024.Idx → EReal := fun i => Adam.mom (fg m c (ix2 (i 1) (i 2))) (fm m c i)
/-- The new first moment of a tile. -/
theorem tile6 (c : Dev nD) (t : Fin cfg0.N) (i : S1x256x1024.Idx) : k0_pay2 (F := Ideal) (k0_pay4 (F := Ideal) (iblk m c 1 t) (iblk m c 2 t)) i = res6 m c (ix3 (i 0) (row t (i 1)) (i 2)) := by
  obtain ⟨z, r, e, rfl⟩ : ∃ (z : Fin 1) (r : Fin 256) (e : Fin 1024), i = ix3 z r e := ⟨i 0, i 1, i 2, ValueIdx.eq_ix3 i⟩
  obtain rfl : z = 0 := Subsingleton.elim _ _
  unfold k0_pay2
  pointwise
  exact (pay4 (iblk m c 1 t) (iblk m c 2 t) r e).trans (by rw [blk1, blk2]; rfl)
/-- The new first moment after the run. -/
theorem arr6 (c : Dev nD) : (dats m 0 c).arrAt 6 cfg0.N = res6 m c := by
  refine (dats m 0 c).arrAt_eq_of_covers 6 _ (by decide +kernel) fun t hf y => ?_
  have hlt := ltN t
  have h9 : ((cfg0.win 6).blk t).view.emb y = ix3 (y 0) (row t (y 1)) (y 2) := by
    unfold row
    blk_ext [idx t]
  rw [h9]
  blk_simp
  rw [after0_6]
  unfold out0_6
  frame_out
  exact tile6 m c t y
/-- The new second moment, as an array. -/
abbrev res7 (c : Dev nD) : S1x256x1024.Idx → EReal := fun i => Adam.vel (fg m c (ix2 (i 1) (i 2))) (fv m c i)
/-- The new second moment of a tile. -/
theorem tile7 (c : Dev nD) (t : Fin cfg0.N) (i : S1x256x1024.Idx) : k0_pay3 (F := Ideal) (k0_pay5 (F := Ideal) (iblk m c 1 t) (iblk m c 3 t)) i = res7 m c (ix3 (i 0) (row t (i 1)) (i 2)) := by
  obtain ⟨z, r, e, rfl⟩ : ∃ (z : Fin 1) (r : Fin 256) (e : Fin 1024), i = ix3 z r e := ⟨i 0, i 1, i 2, ValueIdx.eq_ix3 i⟩
  obtain rfl : z = 0 := Subsingleton.elim _ _
  unfold k0_pay3
  pointwise
  exact (pay5 (iblk m c 1 t) (iblk m c 3 t) r e).trans (by rw [blk1, blk3]; rfl)
/-- The new second moment after the run. -/
theorem arr7 (c : Dev nD) : (dats m 0 c).arrAt 7 cfg0.N = res7 m c := by
  refine (dats m 0 c).arrAt_eq_of_covers 7 _ (by decide +kernel) fun t hf y => ?_
  have hlt := ltN t
  have h9 : ((cfg0.win 7).blk t).view.emb y = ix3 (y 0) (row t (y 1)) (y 2) := by
    unfold row
    blk_ext [idx t]
  rw [h9]
  blk_simp
  rw [after0_7]
  unfold out0_7
  frame_out
  exact tile7 m c t y

end Cert.Kernel32Ideal.Final

namespace Cert.Reference32Ideal.At

open Cert.Reference32Ideal Cert.Reference32Ideal.Read Cert.Prod

/-- The reference's result 0 is the same. -/
theorem value0 (x1 : S256x1024.Idx → EReal) : val_main_v0 (F := Ideal) x1 = fun i => x1 (ix2 (i 1) (i 2)) := by
  funext i
  obtain ⟨z, r, e, rfl⟩ : ∃ (z : Fin 1) (r : Fin 256) (e : Fin 1024), i = ix3 z r e := ⟨i 0, i 1, i 2, ValueIdx.eq_ix3 i⟩
  unfold val_main_v0
  pointwise

/-- The reference's result 1 is the same. -/
theorem value1 (x0 : S1x256x1024.Idx → EReal) (x1 : S256x1024.Idx → EReal) (x2 : S1x256x1024.Idx → EReal) (x3 : S1x256x1024.Idx → EReal) : val_main_v25 (F := Ideal) x0 x1 x2 x3 = fun i => Adam.delta (x0 i) (x1 (ix2 (i 1) (i 2))) (x2 i) (x3 i) := by
  funext i
  obtain ⟨z, r, e, rfl⟩ : ∃ (z : Fin 1) (r : Fin 256) (e : Fin 1024), i = ix3 z r e := ⟨i 0, i 1, i 2, ValueIdx.eq_ix3 i⟩
  unfold val_main_v25 val_main_v24 val_main_cst_7 val_main_v23 val_main_v20 val_main_v14 val_main_v6 val_main_v3 val_main_v2 val_main_cst val_main_v5 val_main_v4 val_main_cst_0 val_main_v1 val_main_v13 val_main_cst_3 val_main_v19 val_main_v17 val_main_v16 val_main_v12 val_main_v8 val_main_v7 val_main_cst_1 val_main_v11 val_main_v10 val_main_cst_2 val_main_v9 val_main_v15 val_main_cst_4 val_main_v18 val_main_cst_5 val_main_v22 val_main_v21 val_main_cst_6 val_main_v1
  pointwise
  rfl
/-- The reference's result 2 is the same. -/
theorem value2 (x1 : S256x1024.Idx → EReal) (x2 : S1x256x1024.Idx → EReal) : val_main_v6 (F := Ideal) x1 x2 = fun i => Adam.mom (x1 (ix2 (i 1) (i 2))) (x2 i) := by
  funext i
  obtain ⟨z, r, e, rfl⟩ : ∃ (z : Fin 1) (r : Fin 256) (e : Fin 1024), i = ix3 z r e := ⟨i 0, i 1, i 2, ValueIdx.eq_ix3 i⟩
  unfold val_main_v6 val_main_v3 val_main_v2 val_main_cst val_main_v5 val_main_v4 val_main_cst_0 val_main_v1
  pointwise
  rfl
/-- The reference's result 3 is the same. -/
theorem value3 (x1 : S256x1024.Idx → EReal) (x3 : S1x256x1024.Idx → EReal) : val_main_v12 (F := Ideal) x1 x3 = fun i => Adam.vel (x1 (ix2 (i 1) (i 2))) (x3 i) := by
  funext i
  obtain ⟨z, r, e, rfl⟩ : ∃ (z : Fin 1) (r : Fin 256) (e : Fin 1024), i = ix3 z r e := ⟨i 0, i 1, i 2, ValueIdx.eq_ix3 i⟩
  unfold val_main_v12 val_main_v8 val_main_v7 val_main_cst_1 val_main_v11 val_main_v10 val_main_cst_2 val_main_v9 val_main_v1
  pointwise
  rfl

end Cert.Reference32Ideal.At

namespace Cert.AdamMemKv

open Cert.Kernel32Ideal.Final

/-- The reference terminates and leaves its arguments unchanged; it has no counters. -/
theorem frame_reference : Cert.quiescent_Reference32Ideal := fun m ρ _ =>
  (θ_run Cert.Reference32Ideal.defs _ _).mono (fun r h => ⟨fun c => ((((h c).2).2).2).2,
    Idealize.ShloMosaic.sem_eq_zero_of_no_sems (by decide) r.2⟩) (Cert.Reference32Ideal.Value.run m ρ)

/-- Kernel and reference end with equal results. -/
theorem algebraic : Cert.algebraic_Kernel32Ideal_Reference32Ideal := by
  intro m ρ m' ρ' hpre hag
  refine ⟨fun c => fun i => (m (c.tc.loc Cert.Kernel32Ideal.main_arg1)) (ix2 (i 1) (i 2)), fun c => fun i => Cert.Adam.delta ((m (c.tc.loc Cert.Kernel32Ideal.main_arg0)) i) ((m (c.tc.loc Cert.Kernel32Ideal.main_arg1)) (ix2 (i 1) (i 2))) ((m (c.tc.loc Cert.Kernel32Ideal.main_arg2)) i) ((m (c.tc.loc Cert.Kernel32Ideal.main_arg3)) i), fun c => fun i => Cert.Adam.mom ((m (c.tc.loc Cert.Kernel32Ideal.main_arg1)) (ix2 (i 1) (i 2))) ((m (c.tc.loc Cert.Kernel32Ideal.main_arg2)) i), fun c => fun i => Cert.Adam.vel ((m (c.tc.loc Cert.Kernel32Ideal.main_arg1)) (ix2 (i 1) (i 2))) ((m (c.tc.loc Cert.Kernel32Ideal.main_arg3)) i),
    (θ_run Cert.Kernel32Ideal.defs _ _).mono (fun r h c => ?_) (Cert.Kernel32Ideal.Value.run_blocks m ρ),
    (θ_run Cert.Reference32Ideal.defs _ _).mono (fun r h c => ?_) (Cert.Reference32Ideal.Value.run m' ρ')⟩
  · obtain ⟨h0, h1, h2, h3, k0, k1, k2, k3⟩ := h c
    exact ⟨h0.trans (arr4 m c), h1.trans (arr5 m c), h2.trans (arr6 m c), h3.trans (arr7 m c), k0, k1, k2, k3⟩
  · obtain ⟨h0, h1, h2, h3, k0, k1, k2, k3⟩ := h c
    obtain ⟨e0, e1, e2, e3⟩ := hag c
    exact ⟨h0.trans ((Cert.Reference32Ideal.Read.val_main_v0_eq _).trans (by rw [e1]; exact Cert.Reference32Ideal.At.value0 _)), h1.trans ((Cert.Reference32Ideal.Read.val_main_v25_eq _ _ _ _).trans (by rw [e0, e1, e2, e3]; exact Cert.Reference32Ideal.At.value1 _ _ _ _)), h2.trans ((Cert.Reference32Ideal.Read.val_main_v6_eq _ _).trans (by rw [e1, e2]; exact Cert.Reference32Ideal.At.value2 _ _)), h3.trans ((Cert.Reference32Ideal.Read.val_main_v12_eq _ _).trans (by rw [e1, e3]; exact Cert.Reference32Ideal.At.value3 _ _)), k0, k1, k2, k3⟩

end Cert.AdamMemKv

end
-- ==== Proof.AdamUp.Final.lean ====
/-
  One step of AdamW on the shard of w_up and of w_down: kernel and reference end with equal results.
-/
module

public import proofs.«01_k».proof.Defs
public import proofs.«01_k».proof.Proof.Gen.Kernel33Ideal.Value
public import proofs.«01_k».proof.Proof.Gen.Reference33Ideal.Run
public import proofs.«01_k».proof.Proof.Gen.Reference33Ideal.Read
public import proofs.«01_k».proof.Proof.Prod.Math
public import proofs.«01_k».proof.Proof.Prod.Adam

@[expose] public section

set_option maxRecDepth 16384

noncomputable section

open Idealize.ShloMosaic Idealize.ShloMosaic.TcCoe Idealize.SL.Sem
open scoped BigOperators

namespace Cert.Kernel33Ideal.Final

open Cert.Kernel33Ideal Cert.Kernel33Ideal.Gen Cert.Prod

variable (m : (ℓ : Loc nD τ sig) → Buf (Elt Ideal) ℓ)

/-- Where each window's block of point `t` begins. -/
theorem idx : ∀ t : Fin cfg0.N,
    win0_0.index t = ![0, t.val, 0] ∧ win0_1.index t = ![t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The grid's points. -/
theorem ltN (t : Fin cfg0.N) : t.val < 4 := lt_of_lt_of_eq t.isLt (show cfg0.N = 4 from N_0)

/-- Row `r` of the tile at point `t`. -/
def row (t : Fin cfg0.N) (r : Fin 256) : Fin 1024 := ⟨256 * t.val + r.val, by have := ltN t; omega⟩

/-- The parameter. -/
abbrev fw (c : Dev nD) : S1x1024x1024.Idx → EReal := m ((c : Thread nD τ).loc main_arg0)
/-- The gradient. -/
abbrev fg (c : Dev nD) : S1024x1024.Idx → EReal := m ((c : Thread nD τ).loc main_arg1)
/-- The first moment. -/
abbrev fm (c : Dev nD) : S1x1024x1024.Idx → EReal := m ((c : Thread nD τ).loc main_arg2)
/-- The second moment. -/
abbrev fv (c : Dev nD) : S1x1024x1024.Idx → EReal := m ((c : Thread nD τ).loc main_arg3)

/-- The tile of window 0. -/
theorem blk0 (c : Dev nD) (t : Fin cfg0.N) (z : Fin 1) (r : Fin 256) (e : Fin 1024) :
    (iblk m c 0 t : Vec Ideal S1x256x1024 .f32) (ix3 z r e) = fw m c (ix3 z (row t r) e) := by
  have := ltN t
  unfold row
  blk_ext [iblk, V, idx t]
/-- The tile of window 2. -/
theorem blk2 (c : Dev nD) (t : Fin cfg0.N) (z : Fin 1) (r : Fin 256) (e : Fin 1024) :
    (iblk m c 2 t : Vec Ideal S1x256x1024 .f32) (ix3 z r e) = fm m c (ix3 z (row t r) e) := by
  have := ltN t
  unfold row
  blk_ext [iblk, V, idx t]
/-- The tile of window 3. -/
theorem blk3 (c : Dev nD) (t : Fin cfg0.N) (z : Fin 1) (r : Fin 256) (e : Fin 1024) :
    (iblk m c 3 t : Vec Ideal S1x256x1024 .f32) (ix3 z r e) = fv m c (ix3 z (row t r) e) := by
  have := ltN t
  unfold row
  blk_ext [iblk, V, idx t]
/-- The gradient's tile. -/
theorem blk1 (c : Dev nD) (t : Fin cfg0.N) (r : Fin 256) (e : Fin 1024) :
    (iblk m c 1 t : Vec Ideal S256x1024 .f32) (ix2 r e) = fg m c (ix2 (row t r) e) := by
  have := ltN t
  unfold row
  blk_ext [iblk, V, idx t]

section Tile

variable (g : Vec Ideal S256x1024 .f32) (a b d : Vec Ideal S1x256x1024 .f32)

/-- A tile of the new first moment. -/
theorem pay4 (r : Fin 256) (e : Fin 1024) : k0_pay4 (F := Ideal) g a (ix2 r e) = Adam.mom (g (ix2 r e)) (a (ix3 0 r e)) := by
  unfold k0_pay4
  pointwise
  rfl
/-- A tile of the new second moment. -/
theorem pay5 (r : Fin 256) (e : Fin 1024) : k0_pay5 (F := Ideal) g b (ix2 r e) = Adam.vel (g (ix2 r e)) (b (ix3 0 r e)) := by
  unfold k0_pay5
  pointwise
  rfl
/-- A tile of the change. -/
theorem pay7 (r : Fin 256) (e : Fin 1024) :
    k0_pay7 (F := Ideal) g a b d (ix2 r e) = Adam.delta (d (ix3 0 r e)) (g (ix2 r e)) (a (ix3 0 r e)) (b (ix3 0 r e)) := by
  unfold k0_pay7
  pointwise
  rw [pay4, pay5]
  rfl

end Tile

/-- The gradient, as an array. -/
abbrev res4 (c : Dev nD) : S1x1024x1024.Idx → EReal := fun i => fg m c (ix2 (i 1) (i 2))
/-- The gradient of a tile. -/
theorem tile4 (c : Dev nD) (t : Fin cfg0.N) (i : S1x256x1024.Idx) : k0_pay6 (F := Ideal) (iblk m c 1 t) i = res4 m c (ix3 (i 0) (row t (i 1)) (i 2)) := by
  obtain ⟨z, r, e, rfl⟩ : ∃ (z : Fin 1) (r : Fin 256) (e : Fin 1024), i = ix3 z r e := ⟨i 0, i 1, i 2, ValueIdx.eq_ix3 i⟩
  obtain rfl : z = 0 := Subsingleton.elim _ _
  unfold k0_pay6
  pointwise
  exact blk1 m c t r e
/-- The gradient after the run. -/
theorem arr4 (c : Dev nD) : (dats m 0 c).arrAt 4 cfg0.N = res4 m c := by
  refine (dats m 0 c).arrAt_eq_of_covers 4 _ (by decide +kernel) fun t hf y => ?_
  have hlt := ltN t
  have h9 : ((cfg0.win 4).blk t).view.emb y = ix3 (y 0) (row t (y 1)) (y 2) := by
    unfold row
    blk_ext [idx t]
  rw [h9]
  blk_simp
  rw [after0_4]
  unfold out0_4
  frame_out
  exact tile4 m c t y
/-- The change, as an array. -/
abbrev res5 (c : Dev nD) : S1x1024x1024.Idx → EReal := fun i => Adam.delta (fw m c i) (fg m c (ix2 (i 1) (i 2))) (fm m c i) (fv m c i)
/-- The change of a tile. -/
theorem tile5 (c : Dev nD) (t : Fin cfg0.N) (i : S1x256x1024.Idx) : k0_pay1 (F := Ideal) (k0_pay7 (F := Ideal) (iblk m c 1 t) (iblk m c 2 t) (iblk m c 3 t) (iblk m c 0 t)) i = res5 m c (ix3 (i 0) (row t (i 1)) (i 2)) := by
  obtain ⟨z, r, e, rfl⟩ : ∃ (z : Fin 1) (r : Fin 256) (e : Fin 1024), i = ix3 z r e := ⟨i 0, i 1, i 2, ValueIdx.eq_ix3 i⟩
  obtain rfl : z = 0 := Subsingleton.elim _ _
  unfold k0_pay1
  pointwise
  exact (pay7 (iblk m c 1 t) (iblk m c 2 t) (iblk m c 3 t) (iblk m c 0 t) r e).trans (by rw [blk0, blk1, blk2, blk3]; rfl)
/-- The change after the run. -/
theorem arr5 (c : Dev nD) : (dats m 0 c).arrAt 5 cfg0.N = res5 m c := by
  refine (dats m 0 c).arrAt_eq_of_covers 5 _ (by decide +kernel) fun t hf y => ?_
  have hlt := ltN t
  have h9 : ((cfg0.win 5).blk t).view.emb y = ix3 (y 0) (row t (y 1)) (y 2) := by
    unfold row
    blk_ext [idx t]
  rw [h9]
  blk_simp
  rw [after0_5]
  unfold out0_5
  frame_out
  exact tile5 m c t y
/-- The new first moment, as an array. -/
abbrev res6 (c : Dev nD) : S1x1024x1024.Idx → EReal := fun i => Adam.mom (fg m c (ix2 (i 1) (i 2))) (fm m c i)
/-- The new first moment of a tile. -/
theorem tile6 (c : Dev nD) (t : Fin cfg0.N) (i : S1x256x1024.Idx) : k0_pay2 (F := Ideal) (k0_pay4 (F := Ideal) (iblk m c 1 t) (iblk m c 2 t)) i = res6 m c (ix3 (i 0) (row t (i 1)) (i 2)) := by
  obtain ⟨z, r, e, rfl⟩ : ∃ (z : Fin 1) (r : Fin 256) (e : Fin 1024), i = ix3 z r e := ⟨i 0, i 1, i 2, ValueIdx.eq_ix3 i⟩
  obtain rfl : z = 0 := Subsingleton.elim _ _
  unfold k0_pay2
  pointwise
  exact (pay4 (iblk m c 1 t) (iblk m c 2 t) r e).trans (by rw [blk1, blk2]; rfl)
/-- The new first moment after the run. -/
theorem arr6 (c : Dev nD) : (dats m 0 c).arrAt 6 cfg0.N = res6 m c := by
  refine (dats m 0 c).arrAt_eq_of_covers 6 _ (by decide +kernel) fun t hf y => ?_
  have hlt := ltN t
  have h9 : ((cfg0.win 6).blk t).view.emb y = ix3 (y 0) (row t (y 1)) (y 2) := by
    unfold row
    blk_ext [idx t]
  rw [h9]
  blk_simp
  rw [after0_6]
  unfold out0_6
  frame_out
  exact tile6 m c t y
/-- The new second moment, as an array. -/
abbrev res7 (c : Dev nD) : S1x1024x1024.Idx → EReal := fun i => Adam.vel (fg m c (ix2 (i 1) (i 2))) (fv m c i)
/-- The new second moment of a tile. -/
theorem tile7 (c : Dev nD) (t : Fin cfg0.N) (i : S1x256x1024.Idx) : k0_pay3 (F := Ideal) (k0_pay5 (F := Ideal) (iblk m c 1 t) (iblk m c 3 t)) i = res7 m c (ix3 (i 0) (row t (i 1)) (i 2)) := by
  obtain ⟨z, r, e, rfl⟩ : ∃ (z : Fin 1) (r : Fin 256) (e : Fin 1024), i = ix3 z r e := ⟨i 0, i 1, i 2, ValueIdx.eq_ix3 i⟩
  obtain rfl : z = 0 := Subsingleton.elim _ _
  unfold k0_pay3
  pointwise
  exact (pay5 (iblk m c 1 t) (iblk m c 3 t) r e).trans (by rw [blk1, blk3]; rfl)
/-- The new second moment after the run. -/
theorem arr7 (c : Dev nD) : (dats m 0 c).arrAt 7 cfg0.N = res7 m c := by
  refine (dats m 0 c).arrAt_eq_of_covers 7 _ (by decide +kernel) fun t hf y => ?_
  have hlt := ltN t
  have h9 : ((cfg0.win 7).blk t).view.emb y = ix3 (y 0) (row t (y 1)) (y 2) := by
    unfold row
    blk_ext [idx t]
  rw [h9]
  blk_simp
  rw [after0_7]
  unfold out0_7
  frame_out
  exact tile7 m c t y

end Cert.Kernel33Ideal.Final

namespace Cert.Reference33Ideal.At

open Cert.Reference33Ideal Cert.Reference33Ideal.Read Cert.Prod

/-- The reference's result 0 is the same. -/
theorem value0 (x1 : S1024x1024.Idx → EReal) : val_main_v0 (F := Ideal) x1 = fun i => x1 (ix2 (i 1) (i 2)) := by
  funext i
  obtain ⟨z, r, e, rfl⟩ : ∃ (z : Fin 1) (r : Fin 1024) (e : Fin 1024), i = ix3 z r e := ⟨i 0, i 1, i 2, ValueIdx.eq_ix3 i⟩
  unfold val_main_v0
  pointwise

/-- The reference's result 1 is the same. -/
theorem value1 (x0 : S1x1024x1024.Idx → EReal) (x1 : S1024x1024.Idx → EReal) (x2 : S1x1024x1024.Idx → EReal) (x3 : S1x1024x1024.Idx → EReal) : val_main_v25 (F := Ideal) x0 x1 x2 x3 = fun i => Adam.delta (x0 i) (x1 (ix2 (i 1) (i 2))) (x2 i) (x3 i) := by
  funext i
  obtain ⟨z, r, e, rfl⟩ : ∃ (z : Fin 1) (r : Fin 1024) (e : Fin 1024), i = ix3 z r e := ⟨i 0, i 1, i 2, ValueIdx.eq_ix3 i⟩
  unfold val_main_v25 val_main_v24 val_main_cst_7 val_main_v23 val_main_v20 val_main_v14 val_main_v6 val_main_v3 val_main_v2 val_main_cst val_main_v5 val_main_v4 val_main_cst_0 val_main_v1 val_main_v13 val_main_cst_3 val_main_v19 val_main_v17 val_main_v16 val_main_v12 val_main_v8 val_main_v7 val_main_cst_1 val_main_v11 val_main_v10 val_main_cst_2 val_main_v9 val_main_v15 val_main_cst_4 val_main_v18 val_main_cst_5 val_main_v22 val_main_v21 val_main_cst_6 val_main_v1
  pointwise
  rfl
/-- The reference's result 2 is the same. -/
theorem value2 (x1 : S1024x1024.Idx → EReal) (x2 : S1x1024x1024.Idx → EReal) : val_main_v6 (F := Ideal) x1 x2 = fun i => Adam.mom (x1 (ix2 (i 1) (i 2))) (x2 i) := by
  funext i
  obtain ⟨z, r, e, rfl⟩ : ∃ (z : Fin 1) (r : Fin 1024) (e : Fin 1024), i = ix3 z r e := ⟨i 0, i 1, i 2, ValueIdx.eq_ix3 i⟩
  unfold val_main_v6 val_main_v3 val_main_v2 val_main_cst val_main_v5 val_main_v4 val_main_cst_0 val_main_v1
  pointwise
  rfl
/-- The reference's result 3 is the same. -/
theorem value3 (x1 : S1024x1024.Idx → EReal) (x3 : S1x1024x1024.Idx → EReal) : val_main_v12 (F := Ideal) x1 x3 = fun i => Adam.vel (x1 (ix2 (i 1) (i 2))) (x3 i) := by
  funext i
  obtain ⟨z, r, e, rfl⟩ : ∃ (z : Fin 1) (r : Fin 1024) (e : Fin 1024), i = ix3 z r e := ⟨i 0, i 1, i 2, ValueIdx.eq_ix3 i⟩
  unfold val_main_v12 val_main_v8 val_main_v7 val_main_cst_1 val_main_v11 val_main_v10 val_main_cst_2 val_main_v9 val_main_v1
  pointwise
  rfl

end Cert.Reference33Ideal.At

namespace Cert.AdamUp

open Cert.Kernel33Ideal.Final

/-- The reference terminates and leaves its arguments unchanged; it has no counters. -/
theorem frame_reference : Cert.quiescent_Reference33Ideal := fun m ρ _ =>
  (θ_run Cert.Reference33Ideal.defs _ _).mono (fun r h => ⟨fun c => ((((h c).2).2).2).2,
    Idealize.ShloMosaic.sem_eq_zero_of_no_sems (by decide) r.2⟩) (Cert.Reference33Ideal.Value.run m ρ)

/-- Kernel and reference end with equal results. -/
theorem algebraic : Cert.algebraic_Kernel33Ideal_Reference33Ideal := by
  intro m ρ m' ρ' hpre hag
  refine ⟨fun c => fun i => (m (c.tc.loc Cert.Kernel33Ideal.main_arg1)) (ix2 (i 1) (i 2)), fun c => fun i => Cert.Adam.delta ((m (c.tc.loc Cert.Kernel33Ideal.main_arg0)) i) ((m (c.tc.loc Cert.Kernel33Ideal.main_arg1)) (ix2 (i 1) (i 2))) ((m (c.tc.loc Cert.Kernel33Ideal.main_arg2)) i) ((m (c.tc.loc Cert.Kernel33Ideal.main_arg3)) i), fun c => fun i => Cert.Adam.mom ((m (c.tc.loc Cert.Kernel33Ideal.main_arg1)) (ix2 (i 1) (i 2))) ((m (c.tc.loc Cert.Kernel33Ideal.main_arg2)) i), fun c => fun i => Cert.Adam.vel ((m (c.tc.loc Cert.Kernel33Ideal.main_arg1)) (ix2 (i 1) (i 2))) ((m (c.tc.loc Cert.Kernel33Ideal.main_arg3)) i),
    (θ_run Cert.Kernel33Ideal.defs _ _).mono (fun r h c => ?_) (Cert.Kernel33Ideal.Value.run_blocks m ρ),
    (θ_run Cert.Reference33Ideal.defs _ _).mono (fun r h c => ?_) (Cert.Reference33Ideal.Value.run m' ρ')⟩
  · obtain ⟨h0, h1, h2, h3, k0, k1, k2, k3⟩ := h c
    exact ⟨h0.trans (arr4 m c), h1.trans (arr5 m c), h2.trans (arr6 m c), h3.trans (arr7 m c), k0, k1, k2, k3⟩
  · obtain ⟨h0, h1, h2, h3, k0, k1, k2, k3⟩ := h c
    obtain ⟨e0, e1, e2, e3⟩ := hag c
    exact ⟨h0.trans ((Cert.Reference33Ideal.Read.val_main_v0_eq _).trans (by rw [e1]; exact Cert.Reference33Ideal.At.value0 _)), h1.trans ((Cert.Reference33Ideal.Read.val_main_v25_eq _ _ _ _).trans (by rw [e0, e1, e2, e3]; exact Cert.Reference33Ideal.At.value1 _ _ _ _)), h2.trans ((Cert.Reference33Ideal.Read.val_main_v6_eq _ _).trans (by rw [e1, e2]; exact Cert.Reference33Ideal.At.value2 _ _)), h3.trans ((Cert.Reference33Ideal.Read.val_main_v12_eq _ _).trans (by rw [e1, e3]; exact Cert.Reference33Ideal.At.value3 _ _)), k0, k1, k2, k3⟩

end Cert.AdamUp

end
-- ==== Proof.AdamSmall.Pack.lean ====
/-
  Fourteen arrays laid one after another in one buffer of 256 rows.
-/
module

public import proofs.«01_k».proof.Proof.Gen.Reference34Ideal.Read
public import proofs.«01_k».proof.Proof.Prod.Math
public import proofs.«01_k».proof.Proof.Prod.Adam

@[expose] public section

set_option maxRecDepth 16384

noncomputable section

open Idealize.ShloMosaic

namespace Cert.AdamSmall

open Cert.Reference34Ideal Cert.Reference34Ideal.Gen

section Over

variable {α β : Type} (f : α → β)

/-- A list of arrays with `f` of every entry. -/
def over (xs : List ((s : Shape) × (s.Idx → α))) : List ((s : Shape) × (s.Idx → β)) := xs.map fun p => ⟨p.1, fun i => f (p.2 i)⟩

/-- The entry at a position of arrays laid one after another, with `f` of every entry. -/
theorem at_over (t : Shape) (a : Fin t.rank) (j : t.Idx) : ∀ (xs : List ((s : Shape) × (s.Idx → α))) (hs : ∀ s ∈ xs.map (·.1), s.FitsOff t a)
    (hs' : ∀ s ∈ (over f xs).map (·.1), s.FitsOff t a) (c : Nat) (hc : c < (axisSizes t a xs).sum) (hc' : c < (axisSizes t a (over f xs)).sum),
    concatenateAt t a j (over f xs) hs' c hc' = f (concatenateAt t a j xs hs c hc)
  | [], _, _, _, hc, _ => absurd hc (Nat.not_lt_zero _)
  | [⟨s, x⟩], hs, hs', c, hc, hc' => by
    rw [concatenateAt_singleton]
    exact concatenateAt_singleton a j (fun i => f (x i)) hs' c hc'
  | ⟨s, x⟩ :: q :: xs, hs, hs', c, hc, hc' => by
    rw [concatenateAt_cons]
    refine (concatenateAt_cons a j (fun i => f (x i)) ⟨q.1, fun i => f (q.2 i)⟩ (over f xs) hs' c hc').trans ?_
    by_cases h : c < s.size (a.cast (hs s List.mem_cons_self).rank_eq.symm)
    · rw [dif_pos h, dif_pos h]
    · rw [dif_neg h, dif_neg h]
      exact at_over t a j (q :: xs) _ _ _ _ _

/-- Laying arrays one after another keeps `f` of every entry. -/
theorem concatenate_over (t : Shape) (a : Fin t.rank) (xs : List ((s : Shape) × (s.Idx → α)))
    (h : Shape.Concatenates (xs.map (·.1)) t a) (h' : Shape.Concatenates ((over f xs).map (·.1)) t a) :
    concatenate t a (over f xs) h' = fun j => f (concatenate t a xs h j) := by
  funext j
  rw [concatenate_apply, concatenate_apply]
  exact at_over f t a j xs _ _ _ _ _

/-- So does filling up behind an array, and cutting the result into rows. -/
theorem rows_over {s t w u : Shape} (lo hi mid : Fin s.rank → Nat) (x : s.Idx → β) (y : s.Idx → α) (e : x = fun i => f (y i)) (z : α)
    (h : s.Pads lo hi mid t) (hu : 0 < u.numel) (hw : t.ShapeCasts w) :
    shapeCast w (pad t lo hi mid x (fun _ : u.Idx => f z) h hu) hw = fun j => f (shapeCast w (pad t lo hi mid y (fun _ : u.Idx => z) h hu) hw j) := by
  subst e
  funext j
  unfold shapeCast pad
  split <;> rfl

end Over

/-- Fourteen arrays of the shapes of the small parameters. -/
structure Arrays (α : Type) where
  a0 : S1x1024.Idx → α
  a1 : S1x1024.Idx → α
  a2 : S1x3072.Idx → α
  a3 : S1x32x64.Idx → α
  a4 : S1x32x64.Idx → α
  a5 : S1x32.Idx → α
  a6 : S1x32x64x16.Idx → α
  a7 : S1x32x64x16.Idx → α
  a8 : S1x32x16x64.Idx → α
  a9 : S1x32x16x64.Idx → α
  a10 : S1x32x16.Idx → α
  a11 : S1x512.Idx → α
  a12 : S1x1024.Idx → α
  a13 : S1024.Idx → α

/-- `f` of every entry. -/
def Arrays.map {α β : Type} (f : α → β) (A : Arrays α) : Arrays β :=
  ⟨fun i => f (A.a0 i), fun i => f (A.a1 i), fun i => f (A.a2 i), fun i => f (A.a3 i), fun i => f (A.a4 i), fun i => f (A.a5 i), fun i => f (A.a6 i), fun i => f (A.a7 i), fun i => f (A.a8 i), fun i => f (A.a9 i), fun i => f (A.a10 i), fun i => f (A.a11 i), fun i => f (A.a12 i), fun i => f (A.a13 i)⟩

/-- `f` of the entries of four families at every place. -/
def Arrays.zip {α : Type} (f : α → α → α → α → α) (W G M V : Arrays α) : Arrays α :=
  ⟨fun i => f (W.a0 i) (G.a0 i) (M.a0 i) (V.a0 i), fun i => f (W.a1 i) (G.a1 i) (M.a1 i) (V.a1 i), fun i => f (W.a2 i) (G.a2 i) (M.a2 i) (V.a2 i), fun i => f (W.a3 i) (G.a3 i) (M.a3 i) (V.a3 i), fun i => f (W.a4 i) (G.a4 i) (M.a4 i) (V.a4 i), fun i => f (W.a5 i) (G.a5 i) (M.a5 i) (V.a5 i), fun i => f (W.a6 i) (G.a6 i) (M.a6 i) (V.a6 i), fun i => f (W.a7 i) (G.a7 i) (M.a7 i) (V.a7 i), fun i => f (W.a8 i) (G.a8 i) (M.a8 i) (V.a8 i), fun i => f (W.a9 i) (G.a9 i) (M.a9 i) (V.a9 i), fun i => f (W.a10 i) (G.a10 i) (M.a10 i) (V.a10 i), fun i => f (W.a11 i) (G.a11 i) (M.a11 i) (V.a11 i), fun i => f (W.a12 i) (G.a12 i) (M.a12 i) (V.a12 i), fun i => f (W.a13 i) (G.a13 i) (M.a13 i) (V.a13 i)⟩

/-- Four families as one family of quadruples. -/
def Arrays.quad {α : Type} (W G M V : Arrays α) : Arrays (α × α × α × α) :=
  ⟨fun i => (W.a0 i, G.a0 i, M.a0 i, V.a0 i), fun i => (W.a1 i, G.a1 i, M.a1 i, V.a1 i), fun i => (W.a2 i, G.a2 i, M.a2 i, V.a2 i), fun i => (W.a3 i, G.a3 i, M.a3 i, V.a3 i), fun i => (W.a4 i, G.a4 i, M.a4 i, V.a4 i), fun i => (W.a5 i, G.a5 i, M.a5 i, V.a5 i), fun i => (W.a6 i, G.a6 i, M.a6 i, V.a6 i), fun i => (W.a7 i, G.a7 i, M.a7 i, V.a7 i), fun i => (W.a8 i, G.a8 i, M.a8 i, V.a8 i), fun i => (W.a9 i, G.a9 i, M.a9 i, V.a9 i), fun i => (W.a10 i, G.a10 i, M.a10 i, V.a10 i), fun i => (W.a11 i, G.a11 i, M.a11 i, V.a11 i), fun i => (W.a12 i, G.a12 i, M.a12 i, V.a12 i), fun i => (W.a13 i, G.a13 i, M.a13 i, V.a13 i)⟩

/-- The buffer: the arrays flattened, one after another, then `z`; cut into rows of 1024. -/
def packed {α : Type} (z : α) (A : Arrays α) : S256x1024.Idx → α :=
  shapeCast S256x1024 (pad S262144 ![0] ![118752] ![0] (concatenate S143392 0
    [⟨S1024, shapeCast S1024 A.a0 shapeCasts_S1x1024_S1024⟩, ⟨S1024, shapeCast S1024 A.a1 shapeCasts_S1x1024_S1024⟩,
      ⟨S3072, shapeCast S3072 A.a2 shapeCasts_S1x3072_S3072⟩, ⟨S2048, shapeCast S2048 A.a3 shapeCasts_S1x32x64_S2048⟩,
      ⟨S2048, shapeCast S2048 A.a4 shapeCasts_S1x32x64_S2048⟩, ⟨S32, shapeCast S32 A.a5 shapeCasts_S1x32_S32⟩,
      ⟨S32768, shapeCast S32768 A.a6 shapeCasts_S1x32x64x16_S32768⟩, ⟨S32768, shapeCast S32768 A.a7 shapeCasts_S1x32x64x16_S32768⟩,
      ⟨S32768, shapeCast S32768 A.a8 shapeCasts_S1x32x16x64_S32768⟩, ⟨S32768, shapeCast S32768 A.a9 shapeCasts_S1x32x16x64_S32768⟩,
      ⟨S512, shapeCast S512 A.a10 shapeCasts_S1x32x16_S512⟩, ⟨S512, shapeCast S512 A.a11 shapeCasts_S1x512_S512⟩,
      ⟨S1024, shapeCast S1024 A.a12 shapeCasts_S1x1024_S1024⟩, ⟨S1024, A.a13⟩]
    concatenates_S1024_S1024_S3072_S2048_S2048_S32_S32768_S32768_S32768_S32768_S512_S512_S1024_S1024_S143392_d0)
    (fun _ : S_.Idx => z) pads_S143392_S262144_01187520 h_S_) shapeCasts_S262144_S256x1024

/-- The buffer of the arrays with `f` of every entry. -/
theorem packed_map {α β : Type} (f : α → β) (z : α) (A : Arrays α) : packed (f z) (A.map f) = fun i => f (packed z A i) := by
  have h := concatenate_over f S143392 0
    [⟨S1024, shapeCast S1024 A.a0 shapeCasts_S1x1024_S1024⟩, ⟨S1024, shapeCast S1024 A.a1 shapeCasts_S1x1024_S1024⟩,
      ⟨S3072, shapeCast S3072 A.a2 shapeCasts_S1x3072_S3072⟩, ⟨S2048, shapeCast S2048 A.a3 shapeCasts_S1x32x64_S2048⟩,
      ⟨S2048, shapeCast S2048 A.a4 shapeCasts_S1x32x64_S2048⟩, ⟨S32, shapeCast S32 A.a5 shapeCasts_S1x32_S32⟩,
      ⟨S32768, shapeCast S32768 A.a6 shapeCasts_S1x32x64x16_S32768⟩, ⟨S32768, shapeCast S32768 A.a7 shapeCasts_S1x32x64x16_S32768⟩,
      ⟨S32768, shapeCast S32768 A.a8 shapeCasts_S1x32x16x64_S32768⟩, ⟨S32768, shapeCast S32768 A.a9 shapeCasts_S1x32x16x64_S32768⟩,
      ⟨S512, shapeCast S512 A.a10 shapeCasts_S1x32x16_S512⟩, ⟨S512, shapeCast S512 A.a11 shapeCasts_S1x512_S512⟩,
      ⟨S1024, shapeCast S1024 A.a12 shapeCasts_S1x1024_S1024⟩, ⟨S1024, A.a13⟩]
    concatenates_S1024_S1024_S3072_S2048_S2048_S32_S32768_S32768_S32768_S32768_S512_S512_S1024_S1024_S143392_d0
    concatenates_S1024_S1024_S3072_S2048_S2048_S32_S32768_S32768_S32768_S32768_S512_S512_S1024_S1024_S143392_d0
  exact rows_over f _ _ _ _ _ h z _ _ _

/-- The buffer of `f` of four families, where `f` keeps zero. -/
theorem packed_zip (f : EReal → EReal → EReal → EReal → EReal) (hf : f 0 0 0 0 = 0) (W G M V : Arrays EReal) :
    packed 0 (Arrays.zip f W G M V) = fun i => f (packed 0 W i) (packed 0 G i) (packed 0 M i) (packed 0 V i) := by
  have h := packed_map (fun t : EReal × EReal × EReal × EReal => f t.1 t.2.1 t.2.2.1 t.2.2.2) (0, 0, 0, 0) (Arrays.quad W G M V)
  have hw : packed 0 W = _ := packed_map (fun t : EReal × EReal × EReal × EReal => t.1) (0, 0, 0, 0) (Arrays.quad W G M V)
  have hg : packed 0 G = _ := packed_map (fun t : EReal × EReal × EReal × EReal => t.2.1) (0, 0, 0, 0) (Arrays.quad W G M V)
  have hm : packed 0 M = _ := packed_map (fun t : EReal × EReal × EReal × EReal => t.2.2.1) (0, 0, 0, 0) (Arrays.quad W G M V)
  have hv : packed 0 V = _ := packed_map (fun t : EReal × EReal × EReal × EReal => t.2.2.2) (0, 0, 0, 0) (Arrays.quad W G M V)
  rw [hw, hg, hm, hv]
  refine Eq.trans ?_ h
  show _ = packed (f 0 0 0 0) (Arrays.zip f W G M V)
  rw [hf]

/-- The word zero as a float, everywhere. -/
theorem zero_word : sitofp (F := Ideal) .f32 (constantI S_ 32 0#32) = fun _ => (0 : EReal) := by
  funext i
  show FloatOps.sitofp (F := Ideal) .f32 (0#32) = (0 : EReal)
  simp [FloatOps.sitofp]

/-- The first moment of nothing is nothing. -/
theorem mom_zero : Adam.mom 0 0 = 0 := by simp [Adam.mom]
/-- The second moment of nothing is nothing. -/
theorem vel_zero : Adam.vel 0 0 = 0 := by simp [Adam.vel]
/-- The change of nothing is nothing. -/
theorem delta_zero : Adam.delta 0 0 0 0 = 0 := by
  have h : ∀ b : EReal, b ≠ 0 → Ideal.div 0 b = 0 := fun b hb => by simp [Ideal.div, hb]
  have e1 : Ideal.ofBits .f32 0x3F26BD02#32 ≠ 0 := by simp [Ideal.ofBits, Ideal.ieee]
  have e2 : Ideal.ofBits .f32 0x3C231ACC#32 ≠ 0 := by simp [Ideal.ofBits, Ideal.ieee]
  have e3 : Ideal.ofBits .f32 0x322BCC77#32 ≠ 0 := by simp [Ideal.ofBits, Ideal.ieee]
  have s : Ideal.sqrt 0 = 0 := by
    show (if (0 : ℝ) < 0 then (⊥ : EReal) else ((Real.sqrt 0 : ℝ) : EReal)) = 0
    simp
  unfold Adam.delta
  rw [mom_zero, vel_zero, h _ e1, h _ e2, s, zero_add, h _ e3]
  simp

end Cert.AdamSmall

end
-- ==== Proof.AdamSmall.Final.lean ====
/-
  One step of AdamW on the fourteen small parameters: kernel and reference end with equal results.
-/
module

public import proofs.«01_k».proof.Defs
public import proofs.«01_k».proof.Proof.Gen.Kernel34Ideal.Value
public import proofs.«01_k».proof.Proof.Gen.Reference34Ideal.Run
public import proofs.«01_k».proof.Proof.Gen.Reference34Ideal.Read
public import proofs.«01_k».proof.Proof.Prod.Math
public import proofs.«01_k».proof.Proof.AdamSmall.Pack

@[expose] public section

set_option maxRecDepth 16384

noncomputable section

open Idealize.ShloMosaic Idealize.ShloMosaic.TcCoe Idealize.SL.Sem
open scoped BigOperators

namespace Cert.Kernel34Ideal.Final

open Cert.Kernel34Ideal Cert.Kernel34Ideal.Gen Cert.Prod

variable (m : (ℓ : Loc nD τ sig) → Buf (Elt Ideal) ℓ)

/-- The one point's blocks begin at the origin. -/
theorem idx : ∀ t : Fin cfg0.N,
    win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The grid has one point. -/
theorem ltN (t : Fin cfg0.N) : t.val < 1 := lt_of_lt_of_eq t.isLt (show cfg0.N = 1 from N_0)

/-- The parameters. -/
def fW (c : Dev nD) : AdamSmall.Arrays EReal :=
  ⟨(m ((c : Thread nD τ).loc main_arg0) : S1x1024.Idx → EReal), (m ((c : Thread nD τ).loc main_arg4) : S1x1024.Idx → EReal), (m ((c : Thread nD τ).loc main_arg8) : S1x3072.Idx → EReal), (m ((c : Thread nD τ).loc main_arg12) : S1x32x64.Idx → EReal), (m ((c : Thread nD τ).loc main_arg16) : S1x32x64.Idx → EReal), (m ((c : Thread nD τ).loc main_arg20) : S1x32.Idx → EReal), (m ((c : Thread nD τ).loc main_arg24) : S1x32x64x16.Idx → EReal), (m ((c : Thread nD τ).loc main_arg28) : S1x32x64x16.Idx → EReal), (m ((c : Thread nD τ).loc main_arg32) : S1x32x16x64.Idx → EReal), (m ((c : Thread nD τ).loc main_arg36) : S1x32x16x64.Idx → EReal), (m ((c : Thread nD τ).loc main_arg40) : S1x32x16.Idx → EReal), (m ((c : Thread nD τ).loc main_arg44) : S1x512.Idx → EReal), (m ((c : Thread nD τ).loc main_arg48) : S1x1024.Idx → EReal), (m ((c : Thread nD τ).loc main_arg52) : S1024.Idx → EReal)⟩
/-- The gradients. -/
def fG (c : Dev nD) : AdamSmall.Arrays EReal :=
  ⟨(m ((c : Thread nD τ).loc main_arg1) : S1x1024.Idx → EReal), (m ((c : Thread nD τ).loc main_arg5) : S1x1024.Idx → EReal), (m ((c : Thread nD τ).loc main_arg9) : S1x3072.Idx → EReal), (m ((c : Thread nD τ).loc main_arg13) : S1x32x64.Idx → EReal), (m ((c : Thread nD τ).loc main_arg17) : S1x32x64.Idx → EReal), (m ((c : Thread nD τ).loc main_arg21) : S1x32.Idx → EReal), (m ((c : Thread nD τ).loc main_arg25) : S1x32x64x16.Idx → EReal), (m ((c : Thread nD τ).loc main_arg29) : S1x32x64x16.Idx → EReal), (m ((c : Thread nD τ).loc main_arg33) : S1x32x16x64.Idx → EReal), (m ((c : Thread nD τ).loc main_arg37) : S1x32x16x64.Idx → EReal), (m ((c : Thread nD τ).loc main_arg41) : S1x32x16.Idx → EReal), (m ((c : Thread nD τ).loc main_arg45) : S1x512.Idx → EReal), (m ((c : Thread nD τ).loc main_arg49) : S1x1024.Idx → EReal), (m ((c : Thread nD τ).loc main_arg53) : S1024.Idx → EReal)⟩
/-- The first moments. -/
def fM (c : Dev nD) : AdamSmall.Arrays EReal :=
  ⟨(m ((c : Thread nD τ).loc main_arg2) : S1x1024.Idx → EReal), (m ((c : Thread nD τ).loc main_arg6) : S1x1024.Idx → EReal), (m ((c : Thread nD τ).loc main_arg10) : S1x3072.Idx → EReal), (m ((c : Thread nD τ).loc main_arg14) : S1x32x64.Idx → EReal), (m ((c : Thread nD τ).loc main_arg18) : S1x32x64.Idx → EReal), (m ((c : Thread nD τ).loc main_arg22) : S1x32.Idx → EReal), (m ((c : Thread nD τ).loc main_arg26) : S1x32x64x16.Idx → EReal), (m ((c : Thread nD τ).loc main_arg30) : S1x32x64x16.Idx → EReal), (m ((c : Thread nD τ).loc main_arg34) : S1x32x16x64.Idx → EReal), (m ((c : Thread nD τ).loc main_arg38) : S1x32x16x64.Idx → EReal), (m ((c : Thread nD τ).loc main_arg42) : S1x32x16.Idx → EReal), (m ((c : Thread nD τ).loc main_arg46) : S1x512.Idx → EReal), (m ((c : Thread nD τ).loc main_arg50) : S1x1024.Idx → EReal), (m ((c : Thread nD τ).loc main_arg54) : S1024.Idx → EReal)⟩
/-- The second moments. -/
def fV (c : Dev nD) : AdamSmall.Arrays EReal :=
  ⟨(m ((c : Thread nD τ).loc main_arg3) : S1x1024.Idx → EReal), (m ((c : Thread nD τ).loc main_arg7) : S1x1024.Idx → EReal), (m ((c : Thread nD τ).loc main_arg11) : S1x3072.Idx → EReal), (m ((c : Thread nD τ).loc main_arg15) : S1x32x64.Idx → EReal), (m ((c : Thread nD τ).loc main_arg19) : S1x32x64.Idx → EReal), (m ((c : Thread nD τ).loc main_arg23) : S1x32.Idx → EReal), (m ((c : Thread nD τ).loc main_arg27) : S1x32x64x16.Idx → EReal), (m ((c : Thread nD τ).loc main_arg31) : S1x32x64x16.Idx → EReal), (m ((c : Thread nD τ).loc main_arg35) : S1x32x16x64.Idx → EReal), (m ((c : Thread nD τ).loc main_arg39) : S1x32x16x64.Idx → EReal), (m ((c : Thread nD τ).loc main_arg43) : S1x32x16.Idx → EReal), (m ((c : Thread nD τ).loc main_arg47) : S1x512.Idx → EReal), (m ((c : Thread nD τ).loc main_arg51) : S1x1024.Idx → EReal), (m ((c : Thread nD τ).loc main_arg55) : S1024.Idx → EReal)⟩

set_option maxHeartbeats 4000000 in
/-- The host lays the parameters in one buffer. -/
theorem V_W (c : Dev nD) : V m c main_v15 = AdamSmall.packed 0 (fW m c) := by
  unfold AdamSmall.packed
  rw [← AdamSmall.zero_word]
  simp only [V, hostOps0, hostOps0_1, hostOps0_2, hostOps0_3, hostOps0_4, hostOps0_5, hostOps0_6, hostOps0_7, hostOps0_8, List.flatten_cons, List.flatten_nil, List.append_nil, List.cons_append, List.nil_append,
    StableHlo.TRef.binary, StableHlo.TRef.nullary, StableHlo.TRef.unary, StableHlo.TRef.toBuf, StableHlo.TRef.ofBuf, cast_eq]
  after_results
  rfl
/-- That buffer is staged whole. -/
theorem blk0 (c : Dev nD) (t : Fin cfg0.N) (r : Fin 256) (e : Fin 1024) :
    (iblk m c 0 t : Vec Ideal S256x1024 .f32) (ix2 r e) = AdamSmall.packed 0 (fW m c) (ix2 r e) := by
  have hlt := ltN t
  have h9 : ((cfg0.win 0).blk t).view.emb (ix2 r e) = ix2 r e := by
    blk_ext [idx t]
  show (V m c main_v15 : S256x1024.Idx → EReal) (((cfg0.win 0).blk t).view.emb (ix2 r e)) = _
  rw [h9, V_W]

set_option maxHeartbeats 4000000 in
/-- The host lays the gradients in one buffer. -/
theorem V_G (c : Dev nD) : V m c main_v31 = AdamSmall.packed 0 (fG m c) := by
  unfold AdamSmall.packed
  rw [← AdamSmall.zero_word]
  simp only [V, hostOps0, hostOps0_1, hostOps0_2, hostOps0_3, hostOps0_4, hostOps0_5, hostOps0_6, hostOps0_7, hostOps0_8, List.flatten_cons, List.flatten_nil, List.append_nil, List.cons_append, List.nil_append,
    StableHlo.TRef.binary, StableHlo.TRef.nullary, StableHlo.TRef.unary, StableHlo.TRef.toBuf, StableHlo.TRef.ofBuf, cast_eq]
  after_results
  rfl
/-- That buffer is staged whole. -/
theorem blk1 (c : Dev nD) (t : Fin cfg0.N) (r : Fin 256) (e : Fin 1024) :
    (iblk m c 1 t : Vec Ideal S256x1024 .f32) (ix2 r e) = AdamSmall.packed 0 (fG m c) (ix2 r e) := by
  have hlt := ltN t
  have h9 : ((cfg0.win 1).blk t).view.emb (ix2 r e) = ix2 r e := by
    blk_ext [idx t]
  show (V m c main_v31 : S256x1024.Idx → EReal) (((cfg0.win 1).blk t).view.emb (ix2 r e)) = _
  rw [h9, V_G]

set_option maxHeartbeats 4000000 in
/-- The host lays the first moments in one buffer. -/
theorem V_M (c : Dev nD) : V m c main_v47 = AdamSmall.packed 0 (fM m c) := by
  unfold AdamSmall.packed
  rw [← AdamSmall.zero_word]
  simp only [V, hostOps0, hostOps0_1, hostOps0_2, hostOps0_3, hostOps0_4, hostOps0_5, hostOps0_6, hostOps0_7, hostOps0_8, List.flatten_cons, List.flatten_nil, List.append_nil, List.cons_append, List.nil_append,
    StableHlo.TRef.binary, StableHlo.TRef.nullary, StableHlo.TRef.unary, StableHlo.TRef.toBuf, StableHlo.TRef.ofBuf, cast_eq]
  after_results
  rfl
/-- That buffer is staged whole. -/
theorem blk2 (c : Dev nD) (t : Fin cfg0.N) (r : Fin 256) (e : Fin 1024) :
    (iblk m c 2 t : Vec Ideal S256x1024 .f32) (ix2 r e) = AdamSmall.packed 0 (fM m c) (ix2 r e) := by
  have hlt := ltN t
  have h9 : ((cfg0.win 2).blk t).view.emb (ix2 r e) = ix2 r e := by
    blk_ext [idx t]
  show (V m c main_v47 : S256x1024.Idx → EReal) (((cfg0.win 2).blk t).view.emb (ix2 r e)) = _
  rw [h9, V_M]

set_option maxHeartbeats 4000000 in
/-- The host lays the second moments in one buffer. -/
theorem V_V (c : Dev nD) : V m c main_v63 = AdamSmall.packed 0 (fV m c) := by
  unfold AdamSmall.packed
  rw [← AdamSmall.zero_word]
  simp only [V, hostOps0, hostOps0_1, hostOps0_2, hostOps0_3, hostOps0_4, hostOps0_5, hostOps0_6, hostOps0_7, hostOps0_8, List.flatten_cons, List.flatten_nil, List.append_nil, List.cons_append, List.nil_append,
    StableHlo.TRef.binary, StableHlo.TRef.nullary, StableHlo.TRef.unary, StableHlo.TRef.toBuf, StableHlo.TRef.ofBuf, cast_eq]
  after_results
  rfl
/-- That buffer is staged whole. -/
theorem blk3 (c : Dev nD) (t : Fin cfg0.N) (r : Fin 256) (e : Fin 1024) :
    (iblk m c 3 t : Vec Ideal S256x1024 .f32) (ix2 r e) = AdamSmall.packed 0 (fV m c) (ix2 r e) := by
  have hlt := ltN t
  have h9 : ((cfg0.win 3).blk t).view.emb (ix2 r e) = ix2 r e := by
    blk_ext [idx t]
  show (V m c main_v63 : S256x1024.Idx → EReal) (((cfg0.win 3).blk t).view.emb (ix2 r e)) = _
  rw [h9, V_V]

section Tile

variable (g a b d : Vec Ideal S256x1024 .f32)

/-- The new first moment. -/
theorem pay2 (r : Fin 256) (e : Fin 1024) : k0_pay2 (F := Ideal) g a (ix2 r e) = Adam.mom (g (ix2 r e)) (a (ix2 r e)) := by
  unfold k0_pay2 k0_pay1
  pointwise
  rfl
/-- The new second moment. -/
theorem pay3 (r : Fin 256) (e : Fin 1024) : k0_pay3 (F := Ideal) g b (ix2 r e) = Adam.vel (g (ix2 r e)) (b (ix2 r e)) := by
  unfold k0_pay3 k0_pay1
  pointwise
  rfl
/-- The change. -/
theorem pay4 (r : Fin 256) (e : Fin 1024) :
    k0_pay4 (F := Ideal) g a b d (ix2 r e) = Adam.delta (d (ix2 r e)) (g (ix2 r e)) (a (ix2 r e)) (b (ix2 r e)) := by
  unfold k0_pay4
  pointwise
  rw [pay2, pay3]
  rfl

end Tile

/-- The gradients, in one buffer. -/
def res4 (c : Dev nD) : S256x1024.Idx → EReal := fun i => AdamSmall.packed 0 (fG m c) i
/-- The gradients at the one point. -/
theorem tile4 (c : Dev nD) (t : Fin cfg0.N) (i : S256x1024.Idx) : k0_pay1 (F := Ideal) (iblk m c 1 t) i = res4 m c (ix2 (i 0) (i 1)) := by
  obtain ⟨r, e, rfl⟩ : ∃ (r : Fin 256) (e : Fin 1024), i = ix2 r e := ⟨i 0, i 1, ValueIdx.eq_ix2 i⟩
  show _ = res4 m c (ix2 r e)
  unfold res4
  unfold k0_pay1
  pointwise
  exact blk1 m c t r e
/-- The gradients after the run. -/
theorem arr4 (c : Dev nD) : (dats m 0 c).arrAt 4 cfg0.N = res4 m c := by
  refine (dats m 0 c).arrAt_eq_of_covers 4 _ (by decide +kernel) fun t hf y => ?_
  have hlt := ltN t
  have h9 : ((cfg0.win 4).blk t).view.emb y = ix2 (y 0) (y 1) := by
    blk_ext [idx t]
  rw [h9]
  blk_simp
  rw [after0_4]
  unfold out0_4
  frame_out
  exact tile4 m c t y
/-- The changes, in one buffer. -/
def res5 (c : Dev nD) : S256x1024.Idx → EReal := fun i => Adam.delta (AdamSmall.packed 0 (fW m c) i) (AdamSmall.packed 0 (fG m c) i) (AdamSmall.packed 0 (fM m c) i) (AdamSmall.packed 0 (fV m c) i)
/-- The changes at the one point. -/
theorem tile5 (c : Dev nD) (t : Fin cfg0.N) (i : S256x1024.Idx) : k0_pay4 (F := Ideal) (iblk m c 1 t) (iblk m c 2 t) (iblk m c 3 t) (iblk m c 0 t) i = res5 m c (ix2 (i 0) (i 1)) := by
  obtain ⟨r, e, rfl⟩ : ∃ (r : Fin 256) (e : Fin 1024), i = ix2 r e := ⟨i 0, i 1, ValueIdx.eq_ix2 i⟩
  show _ = res5 m c (ix2 r e)
  unfold res5
  rw [pay4, blk0, blk1, blk2, blk3]
/-- The changes after the run. -/
theorem arr5 (c : Dev nD) : (dats m 0 c).arrAt 5 cfg0.N = res5 m c := by
  refine (dats m 0 c).arrAt_eq_of_covers 5 _ (by decide +kernel) fun t hf y => ?_
  have hlt := ltN t
  have h9 : ((cfg0.win 5).blk t).view.emb y = ix2 (y 0) (y 1) := by
    blk_ext [idx t]
  rw [h9]
  blk_simp
  rw [after0_5]
  unfold out0_5
  frame_out
  exact tile5 m c t y
/-- The new first moments, in one buffer. -/
def res6 (c : Dev nD) : S256x1024.Idx → EReal := fun i => Adam.mom (AdamSmall.packed 0 (fG m c) i) (AdamSmall.packed 0 (fM m c) i)
/-- The new first moments at the one point. -/
theorem tile6 (c : Dev nD) (t : Fin cfg0.N) (i : S256x1024.Idx) : k0_pay2 (F := Ideal) (iblk m c 1 t) (iblk m c 2 t) i = res6 m c (ix2 (i 0) (i 1)) := by
  obtain ⟨r, e, rfl⟩ : ∃ (r : Fin 256) (e : Fin 1024), i = ix2 r e := ⟨i 0, i 1, ValueIdx.eq_ix2 i⟩
  show _ = res6 m c (ix2 r e)
  unfold res6
  rw [pay2, blk1, blk2]
/-- The new first moments after the run. -/
theorem arr6 (c : Dev nD) : (dats m 0 c).arrAt 6 cfg0.N = res6 m c := by
  refine (dats m 0 c).arrAt_eq_of_covers 6 _ (by decide +kernel) fun t hf y => ?_
  have hlt := ltN t
  have h9 : ((cfg0.win 6).blk t).view.emb y = ix2 (y 0) (y 1) := by
    blk_ext [idx t]
  rw [h9]
  blk_simp
  rw [after0_6]
  unfold out0_6
  frame_out
  exact tile6 m c t y
/-- The new second moments, in one buffer. -/
def res7 (c : Dev nD) : S256x1024.Idx → EReal := fun i => Adam.vel (AdamSmall.packed 0 (fG m c) i) (AdamSmall.packed 0 (fV m c) i)
/-- The new second moments at the one point. -/
theorem tile7 (c : Dev nD) (t : Fin cfg0.N) (i : S256x1024.Idx) : k0_pay3 (F := Ideal) (iblk m c 1 t) (iblk m c 3 t) i = res7 m c (ix2 (i 0) (i 1)) := by
  obtain ⟨r, e, rfl⟩ : ∃ (r : Fin 256) (e : Fin 1024), i = ix2 r e := ⟨i 0, i 1, ValueIdx.eq_ix2 i⟩
  show _ = res7 m c (ix2 r e)
  unfold res7
  rw [pay3, blk1, blk3]
/-- The new second moments after the run. -/
theorem arr7 (c : Dev nD) : (dats m 0 c).arrAt 7 cfg0.N = res7 m c := by
  refine (dats m 0 c).arrAt_eq_of_covers 7 _ (by decide +kernel) fun t hf y => ?_
  have hlt := ltN t
  have h9 : ((cfg0.win 7).blk t).view.emb y = ix2 (y 0) (y 1) := by
    blk_ext [idx t]
  rw [h9]
  blk_simp
  rw [after0_7]
  unfold out0_7
  frame_out
  exact tile7 m c t y

end Cert.Kernel34Ideal.Final

namespace Cert.Reference34Ideal.At

open Cert.Reference34Ideal Cert.Reference34Ideal.Gen Cert.Reference34Ideal.Read Cert.Prod

set_option maxHeartbeats 4000000 in
/-- The reference's result 0. -/
theorem value0 (x0 x1 x2 x3 : S1x1024.Idx → EReal) (x4 x5 x6 x7 : S1x1024.Idx → EReal) (x8 x9 x10 x11 : S1x3072.Idx → EReal) (x12 x13 x14 x15 : S1x32x64.Idx → EReal) (x16 x17 x18 x19 : S1x32x64.Idx → EReal) (x20 x21 x22 x23 : S1x32.Idx → EReal) (x24 x25 x26 x27 : S1x32x64x16.Idx → EReal) (x28 x29 x30 x31 : S1x32x64x16.Idx → EReal) (x32 x33 x34 x35 : S1x32x16x64.Idx → EReal) (x36 x37 x38 x39 : S1x32x16x64.Idx → EReal) (x40 x41 x42 x43 : S1x32x16.Idx → EReal) (x44 x45 x46 x47 : S1x512.Idx → EReal) (x48 x49 x50 x51 : S1x1024.Idx → EReal) (x52 x53 x54 x55 : S1024.Idx → EReal) : val_main_v351 (F := Ideal) x1 x5 x9 x13 x17 x21 x25 x29 x33 x37 x41 x45 x49 x53
    = AdamSmall.packed 0 (AdamSmall.Arrays.zip (fun _ g _ _ => g) ⟨x0, x4, x8, x12, x16, x20, x24, x28, x32, x36, x40, x44, x48, x52⟩ ⟨x1, x5, x9, x13, x17, x21, x25, x29, x33, x37, x41, x45, x49, x53⟩ ⟨x2, x6, x10, x14, x18, x22, x26, x30, x34, x38, x42, x46, x50, x54⟩ ⟨x3, x7, x11, x15, x19, x23, x27, x31, x35, x39, x43, x47, x51, x55⟩) := by
  have hz : val_main_call0_v0 (F := Ideal) = fun _ => (0 : EReal) := AdamSmall.zero_word
  unfold val_main_v351 val_main_v350 val_main_v349 val_main_v336 val_main_v337 val_main_v338 val_main_v339 val_main_v340 val_main_v341 val_main_v342 val_main_v343 val_main_v344 val_main_v345 val_main_v346 val_main_v347 val_main_v348
  rw [hz]
  rfl
/-- Entries of parameter 0, result 1. -/
theorem st1_0 (x0 : S1x1024.Idx → EReal) (x1 : S1x1024.Idx → EReal) (x2 : S1x1024.Idx → EReal) (x3 : S1x1024.Idx → EReal) : val_main_v23 (F := Ideal) x0 x1 x2 x3 = fun i => Adam.delta (x0 i) (x1 i) (x2 i) (x3 i) := by
  funext i
  rfl
/-- Entries of parameter 1, result 1. -/
theorem st1_1 (x4 : S1x1024.Idx → EReal) (x5 : S1x1024.Idx → EReal) (x6 : S1x1024.Idx → EReal) (x7 : S1x1024.Idx → EReal) : val_main_v47 (F := Ideal) x4 x5 x6 x7 = fun i => Adam.delta (x4 i) (x5 i) (x6 i) (x7 i) := by
  funext i
  rfl
/-- Entries of parameter 2, result 1. -/
theorem st1_2 (x8 : S1x3072.Idx → EReal) (x9 : S1x3072.Idx → EReal) (x10 : S1x3072.Idx → EReal) (x11 : S1x3072.Idx → EReal) : val_main_v71 (F := Ideal) x8 x9 x10 x11 = fun i => Adam.delta (x8 i) (x9 i) (x10 i) (x11 i) := by
  funext i
  rfl
/-- Entries of parameter 3, result 1. -/
theorem st1_3 (x12 : S1x32x64.Idx → EReal) (x13 : S1x32x64.Idx → EReal) (x14 : S1x32x64.Idx → EReal) (x15 : S1x32x64.Idx → EReal) : val_main_v95 (F := Ideal) x12 x13 x14 x15 = fun i => Adam.delta (x12 i) (x13 i) (x14 i) (x15 i) := by
  funext i
  rfl
/-- Entries of parameter 4, result 1. -/
theorem st1_4 (x16 : S1x32x64.Idx → EReal) (x17 : S1x32x64.Idx → EReal) (x18 : S1x32x64.Idx → EReal) (x19 : S1x32x64.Idx → EReal) : val_main_v119 (F := Ideal) x16 x17 x18 x19 = fun i => Adam.delta (x16 i) (x17 i) (x18 i) (x19 i) := by
  funext i
  rfl
/-- Entries of parameter 5, result 1. -/
theorem st1_5 (x20 : S1x32.Idx → EReal) (x21 : S1x32.Idx → EReal) (x22 : S1x32.Idx → EReal) (x23 : S1x32.Idx → EReal) : val_main_v143 (F := Ideal) x20 x21 x22 x23 = fun i => Adam.delta (x20 i) (x21 i) (x22 i) (x23 i) := by
  funext i
  rfl
/-- Entries of parameter 6, result 1. -/
theorem st1_6 (x24 : S1x32x64x16.Idx → EReal) (x25 : S1x32x64x16.Idx → EReal) (x26 : S1x32x64x16.Idx → EReal) (x27 : S1x32x64x16.Idx → EReal) : val_main_v167 (F := Ideal) x24 x25 x26 x27 = fun i => Adam.delta (x24 i) (x25 i) (x26 i) (x27 i) := by
  funext i
  rfl
/-- Entries of parameter 7, result 1. -/
theorem st1_7 (x28 : S1x32x64x16.Idx → EReal) (x29 : S1x32x64x16.Idx → EReal) (x30 : S1x32x64x16.Idx → EReal) (x31 : S1x32x64x16.Idx → EReal) : val_main_v191 (F := Ideal) x28 x29 x30 x31 = fun i => Adam.delta (x28 i) (x29 i) (x30 i) (x31 i) := by
  funext i
  rfl
/-- Entries of parameter 8, result 1. -/
theorem st1_8 (x32 : S1x32x16x64.Idx → EReal) (x33 : S1x32x16x64.Idx → EReal) (x34 : S1x32x16x64.Idx → EReal) (x35 : S1x32x16x64.Idx → EReal) : val_main_v215 (F := Ideal) x32 x33 x34 x35 = fun i => Adam.delta (x32 i) (x33 i) (x34 i) (x35 i) := by
  funext i
  rfl
/-- Entries of parameter 9, result 1. -/
theorem st1_9 (x36 : S1x32x16x64.Idx → EReal) (x37 : S1x32x16x64.Idx → EReal) (x38 : S1x32x16x64.Idx → EReal) (x39 : S1x32x16x64.Idx → EReal) : val_main_v239 (F := Ideal) x36 x37 x38 x39 = fun i => Adam.delta (x36 i) (x37 i) (x38 i) (x39 i) := by
  funext i
  rfl
/-- Entries of parameter 10, result 1. -/
theorem st1_10 (x40 : S1x32x16.Idx → EReal) (x41 : S1x32x16.Idx → EReal) (x42 : S1x32x16.Idx → EReal) (x43 : S1x32x16.Idx → EReal) : val_main_v263 (F := Ideal) x40 x41 x42 x43 = fun i => Adam.delta (x40 i) (x41 i) (x42 i) (x43 i) := by
  funext i
  rfl
/-- Entries of parameter 11, result 1. -/
theorem st1_11 (x44 : S1x512.Idx → EReal) (x45 : S1x512.Idx → EReal) (x46 : S1x512.Idx → EReal) (x47 : S1x512.Idx → EReal) : val_main_v287 (F := Ideal) x44 x45 x46 x47 = fun i => Adam.delta (x44 i) (x45 i) (x46 i) (x47 i) := by
  funext i
  rfl
/-- Entries of parameter 12, result 1. -/
theorem st1_12 (x48 : S1x1024.Idx → EReal) (x49 : S1x1024.Idx → EReal) (x50 : S1x1024.Idx → EReal) (x51 : S1x1024.Idx → EReal) : val_main_v311 (F := Ideal) x48 x49 x50 x51 = fun i => Adam.delta (x48 i) (x49 i) (x50 i) (x51 i) := by
  funext i
  rfl
/-- Entries of parameter 13, result 1. -/
theorem st1_13 (x52 : S1024.Idx → EReal) (x53 : S1024.Idx → EReal) (x54 : S1024.Idx → EReal) (x55 : S1024.Idx → EReal) : val_main_v335 (F := Ideal) x52 x53 x54 x55 = fun i => Adam.delta (x52 i) (x53 i) (x54 i) (x55 i) := by
  funext i
  rfl

set_option maxHeartbeats 4000000 in
/-- The reference's result 1. -/
theorem value1 (x0 x1 x2 x3 : S1x1024.Idx → EReal) (x4 x5 x6 x7 : S1x1024.Idx → EReal) (x8 x9 x10 x11 : S1x3072.Idx → EReal) (x12 x13 x14 x15 : S1x32x64.Idx → EReal) (x16 x17 x18 x19 : S1x32x64.Idx → EReal) (x20 x21 x22 x23 : S1x32.Idx → EReal) (x24 x25 x26 x27 : S1x32x64x16.Idx → EReal) (x28 x29 x30 x31 : S1x32x64x16.Idx → EReal) (x32 x33 x34 x35 : S1x32x16x64.Idx → EReal) (x36 x37 x38 x39 : S1x32x16x64.Idx → EReal) (x40 x41 x42 x43 : S1x32x16.Idx → EReal) (x44 x45 x46 x47 : S1x512.Idx → EReal) (x48 x49 x50 x51 : S1x1024.Idx → EReal) (x52 x53 x54 x55 : S1024.Idx → EReal) : val_main_v367 (F := Ideal) x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55
    = AdamSmall.packed 0 (AdamSmall.Arrays.zip (Adam.delta) ⟨x0, x4, x8, x12, x16, x20, x24, x28, x32, x36, x40, x44, x48, x52⟩ ⟨x1, x5, x9, x13, x17, x21, x25, x29, x33, x37, x41, x45, x49, x53⟩ ⟨x2, x6, x10, x14, x18, x22, x26, x30, x34, x38, x42, x46, x50, x54⟩ ⟨x3, x7, x11, x15, x19, x23, x27, x31, x35, x39, x43, x47, x51, x55⟩) := by
  have hz : val_main_call1_v0 (F := Ideal) = fun _ => (0 : EReal) := AdamSmall.zero_word
  unfold val_main_v367 val_main_v366 val_main_v365 val_main_v352 val_main_v353 val_main_v354 val_main_v355 val_main_v356 val_main_v357 val_main_v358 val_main_v359 val_main_v360 val_main_v361 val_main_v362 val_main_v363 val_main_v364
  rw [hz, st1_0, st1_1, st1_2, st1_3, st1_4, st1_5, st1_6, st1_7, st1_8, st1_9, st1_10, st1_11, st1_12, st1_13]
  rfl
/-- Entries of parameter 0, result 2. -/
theorem st2_0 (x1 : S1x1024.Idx → EReal) (x2 : S1x1024.Idx → EReal) : val_main_v4 (F := Ideal) x1 x2 = fun i => Adam.mom (x1 i) (x2 i) := by
  funext i
  rfl
/-- Entries of parameter 1, result 2. -/
theorem st2_1 (x5 : S1x1024.Idx → EReal) (x6 : S1x1024.Idx → EReal) : val_main_v28 (F := Ideal) x5 x6 = fun i => Adam.mom (x5 i) (x6 i) := by
  funext i
  rfl
/-- Entries of parameter 2, result 2. -/
theorem st2_2 (x9 : S1x3072.Idx → EReal) (x10 : S1x3072.Idx → EReal) : val_main_v52 (F := Ideal) x9 x10 = fun i => Adam.mom (x9 i) (x10 i) := by
  funext i
  rfl
/-- Entries of parameter 3, result 2. -/
theorem st2_3 (x13 : S1x32x64.Idx → EReal) (x14 : S1x32x64.Idx → EReal) : val_main_v76 (F := Ideal) x13 x14 = fun i => Adam.mom (x13 i) (x14 i) := by
  funext i
  rfl
/-- Entries of parameter 4, result 2. -/
theorem st2_4 (x17 : S1x32x64.Idx → EReal) (x18 : S1x32x64.Idx → EReal) : val_main_v100 (F := Ideal) x17 x18 = fun i => Adam.mom (x17 i) (x18 i) := by
  funext i
  rfl
/-- Entries of parameter 5, result 2. -/
theorem st2_5 (x21 : S1x32.Idx → EReal) (x22 : S1x32.Idx → EReal) : val_main_v124 (F := Ideal) x21 x22 = fun i => Adam.mom (x21 i) (x22 i) := by
  funext i
  rfl
/-- Entries of parameter 6, result 2. -/
theorem st2_6 (x25 : S1x32x64x16.Idx → EReal) (x26 : S1x32x64x16.Idx → EReal) : val_main_v148 (F := Ideal) x25 x26 = fun i => Adam.mom (x25 i) (x26 i) := by
  funext i
  rfl
/-- Entries of parameter 7, result 2. -/
theorem st2_7 (x29 : S1x32x64x16.Idx → EReal) (x30 : S1x32x64x16.Idx → EReal) : val_main_v172 (F := Ideal) x29 x30 = fun i => Adam.mom (x29 i) (x30 i) := by
  funext i
  rfl
/-- Entries of parameter 8, result 2. -/
theorem st2_8 (x33 : S1x32x16x64.Idx → EReal) (x34 : S1x32x16x64.Idx → EReal) : val_main_v196 (F := Ideal) x33 x34 = fun i => Adam.mom (x33 i) (x34 i) := by
  funext i
  rfl
/-- Entries of parameter 9, result 2. -/
theorem st2_9 (x37 : S1x32x16x64.Idx → EReal) (x38 : S1x32x16x64.Idx → EReal) : val_main_v220 (F := Ideal) x37 x38 = fun i => Adam.mom (x37 i) (x38 i) := by
  funext i
  rfl
/-- Entries of parameter 10, result 2. -/
theorem st2_10 (x41 : S1x32x16.Idx → EReal) (x42 : S1x32x16.Idx → EReal) : val_main_v244 (F := Ideal) x41 x42 = fun i => Adam.mom (x41 i) (x42 i) := by
  funext i
  rfl
/-- Entries of parameter 11, result 2. -/
theorem st2_11 (x45 : S1x512.Idx → EReal) (x46 : S1x512.Idx → EReal) : val_main_v268 (F := Ideal) x45 x46 = fun i => Adam.mom (x45 i) (x46 i) := by
  funext i
  rfl
/-- Entries of parameter 12, result 2. -/
theorem st2_12 (x49 : S1x1024.Idx → EReal) (x50 : S1x1024.Idx → EReal) : val_main_v292 (F := Ideal) x49 x50 = fun i => Adam.mom (x49 i) (x50 i) := by
  funext i
  rfl
/-- Entries of parameter 13, result 2. -/
theorem st2_13 (x53 : S1024.Idx → EReal) (x54 : S1024.Idx → EReal) : val_main_v316 (F := Ideal) x53 x54 = fun i => Adam.mom (x53 i) (x54 i) := by
  funext i
  rfl

set_option maxHeartbeats 4000000 in
/-- The reference's result 2. -/
theorem value2 (x0 x1 x2 x3 : S1x1024.Idx → EReal) (x4 x5 x6 x7 : S1x1024.Idx → EReal) (x8 x9 x10 x11 : S1x3072.Idx → EReal) (x12 x13 x14 x15 : S1x32x64.Idx → EReal) (x16 x17 x18 x19 : S1x32x64.Idx → EReal) (x20 x21 x22 x23 : S1x32.Idx → EReal) (x24 x25 x26 x27 : S1x32x64x16.Idx → EReal) (x28 x29 x30 x31 : S1x32x64x16.Idx → EReal) (x32 x33 x34 x35 : S1x32x16x64.Idx → EReal) (x36 x37 x38 x39 : S1x32x16x64.Idx → EReal) (x40 x41 x42 x43 : S1x32x16.Idx → EReal) (x44 x45 x46 x47 : S1x512.Idx → EReal) (x48 x49 x50 x51 : S1x1024.Idx → EReal) (x52 x53 x54 x55 : S1024.Idx → EReal) : val_main_v383 (F := Ideal) x1 x2 x5 x6 x9 x10 x13 x14 x17 x18 x21 x22 x25 x26 x29 x30 x33 x34 x37 x38 x41 x42 x45 x46 x49 x50 x53 x54
    = AdamSmall.packed 0 (AdamSmall.Arrays.zip (fun _ g m _ => Adam.mom g m) ⟨x0, x4, x8, x12, x16, x20, x24, x28, x32, x36, x40, x44, x48, x52⟩ ⟨x1, x5, x9, x13, x17, x21, x25, x29, x33, x37, x41, x45, x49, x53⟩ ⟨x2, x6, x10, x14, x18, x22, x26, x30, x34, x38, x42, x46, x50, x54⟩ ⟨x3, x7, x11, x15, x19, x23, x27, x31, x35, x39, x43, x47, x51, x55⟩) := by
  have hz : val_main_call2_v0 (F := Ideal) = fun _ => (0 : EReal) := AdamSmall.zero_word
  unfold val_main_v383 val_main_v382 val_main_v381 val_main_v368 val_main_v369 val_main_v370 val_main_v371 val_main_v372 val_main_v373 val_main_v374 val_main_v375 val_main_v376 val_main_v377 val_main_v378 val_main_v379 val_main_v380
  rw [hz, st2_0, st2_1, st2_2, st2_3, st2_4, st2_5, st2_6, st2_7, st2_8, st2_9, st2_10, st2_11, st2_12, st2_13]
  rfl
/-- Entries of parameter 0, result 3. -/
theorem st3_0 (x1 : S1x1024.Idx → EReal) (x3 : S1x1024.Idx → EReal) : val_main_v10 (F := Ideal) x1 x3 = fun i => Adam.vel (x1 i) (x3 i) := by
  funext i
  rfl
/-- Entries of parameter 1, result 3. -/
theorem st3_1 (x5 : S1x1024.Idx → EReal) (x7 : S1x1024.Idx → EReal) : val_main_v34 (F := Ideal) x5 x7 = fun i => Adam.vel (x5 i) (x7 i) := by
  funext i
  rfl
/-- Entries of parameter 2, result 3. -/
theorem st3_2 (x9 : S1x3072.Idx → EReal) (x11 : S1x3072.Idx → EReal) : val_main_v58 (F := Ideal) x9 x11 = fun i => Adam.vel (x9 i) (x11 i) := by
  funext i
  rfl
/-- Entries of parameter 3, result 3. -/
theorem st3_3 (x13 : S1x32x64.Idx → EReal) (x15 : S1x32x64.Idx → EReal) : val_main_v82 (F := Ideal) x13 x15 = fun i => Adam.vel (x13 i) (x15 i) := by
  funext i
  rfl
/-- Entries of parameter 4, result 3. -/
theorem st3_4 (x17 : S1x32x64.Idx → EReal) (x19 : S1x32x64.Idx → EReal) : val_main_v106 (F := Ideal) x17 x19 = fun i => Adam.vel (x17 i) (x19 i) := by
  funext i
  rfl
/-- Entries of parameter 5, result 3. -/
theorem st3_5 (x21 : S1x32.Idx → EReal) (x23 : S1x32.Idx → EReal) : val_main_v130 (F := Ideal) x21 x23 = fun i => Adam.vel (x21 i) (x23 i) := by
  funext i
  rfl
/-- Entries of parameter 6, result 3. -/
theorem st3_6 (x25 : S1x32x64x16.Idx → EReal) (x27 : S1x32x64x16.Idx → EReal) : val_main_v154 (F := Ideal) x25 x27 = fun i => Adam.vel (x25 i) (x27 i) := by
  funext i
  rfl
/-- Entries of parameter 7, result 3. -/
theorem st3_7 (x29 : S1x32x64x16.Idx → EReal) (x31 : S1x32x64x16.Idx → EReal) : val_main_v178 (F := Ideal) x29 x31 = fun i => Adam.vel (x29 i) (x31 i) := by
  funext i
  rfl
/-- Entries of parameter 8, result 3. -/
theorem st3_8 (x33 : S1x32x16x64.Idx → EReal) (x35 : S1x32x16x64.Idx → EReal) : val_main_v202 (F := Ideal) x33 x35 = fun i => Adam.vel (x33 i) (x35 i) := by
  funext i
  rfl
/-- Entries of parameter 9, result 3. -/
theorem st3_9 (x37 : S1x32x16x64.Idx → EReal) (x39 : S1x32x16x64.Idx → EReal) : val_main_v226 (F := Ideal) x37 x39 = fun i => Adam.vel (x37 i) (x39 i) := by
  funext i
  rfl
/-- Entries of parameter 10, result 3. -/
theorem st3_10 (x41 : S1x32x16.Idx → EReal) (x43 : S1x32x16.Idx → EReal) : val_main_v250 (F := Ideal) x41 x43 = fun i => Adam.vel (x41 i) (x43 i) := by
  funext i
  rfl
/-- Entries of parameter 11, result 3. -/
theorem st3_11 (x45 : S1x512.Idx → EReal) (x47 : S1x512.Idx → EReal) : val_main_v274 (F := Ideal) x45 x47 = fun i => Adam.vel (x45 i) (x47 i) := by
  funext i
  rfl
/-- Entries of parameter 12, result 3. -/
theorem st3_12 (x49 : S1x1024.Idx → EReal) (x51 : S1x1024.Idx → EReal) : val_main_v298 (F := Ideal) x49 x51 = fun i => Adam.vel (x49 i) (x51 i) := by
  funext i
  rfl
/-- Entries of parameter 13, result 3. -/
theorem st3_13 (x53 : S1024.Idx → EReal) (x55 : S1024.Idx → EReal) : val_main_v322 (F := Ideal) x53 x55 = fun i => Adam.vel (x53 i) (x55 i) := by
  funext i
  rfl

set_option maxHeartbeats 4000000 in
/-- The reference's result 3. -/
theorem value3 (x0 x1 x2 x3 : S1x1024.Idx → EReal) (x4 x5 x6 x7 : S1x1024.Idx → EReal) (x8 x9 x10 x11 : S1x3072.Idx → EReal) (x12 x13 x14 x15 : S1x32x64.Idx → EReal) (x16 x17 x18 x19 : S1x32x64.Idx → EReal) (x20 x21 x22 x23 : S1x32.Idx → EReal) (x24 x25 x26 x27 : S1x32x64x16.Idx → EReal) (x28 x29 x30 x31 : S1x32x64x16.Idx → EReal) (x32 x33 x34 x35 : S1x32x16x64.Idx → EReal) (x36 x37 x38 x39 : S1x32x16x64.Idx → EReal) (x40 x41 x42 x43 : S1x32x16.Idx → EReal) (x44 x45 x46 x47 : S1x512.Idx → EReal) (x48 x49 x50 x51 : S1x1024.Idx → EReal) (x52 x53 x54 x55 : S1024.Idx → EReal) : val_main_v399 (F := Ideal) x1 x3 x5 x7 x9 x11 x13 x15 x17 x19 x21 x23 x25 x27 x29 x31 x33 x35 x37 x39 x41 x43 x45 x47 x49 x51 x53 x55
    = AdamSmall.packed 0 (AdamSmall.Arrays.zip (fun _ g _ v => Adam.vel g v) ⟨x0, x4, x8, x12, x16, x20, x24, x28, x32, x36, x40, x44, x48, x52⟩ ⟨x1, x5, x9, x13, x17, x21, x25, x29, x33, x37, x41, x45, x49, x53⟩ ⟨x2, x6, x10, x14, x18, x22, x26, x30, x34, x38, x42, x46, x50, x54⟩ ⟨x3, x7, x11, x15, x19, x23, x27, x31, x35, x39, x43, x47, x51, x55⟩) := by
  have hz : val_main_call3_v0 (F := Ideal) = fun _ => (0 : EReal) := AdamSmall.zero_word
  unfold val_main_v399 val_main_v398 val_main_v397 val_main_v384 val_main_v385 val_main_v386 val_main_v387 val_main_v388 val_main_v389 val_main_v390 val_main_v391 val_main_v392 val_main_v393 val_main_v394 val_main_v395 val_main_v396
  rw [hz, st3_0, st3_1, st3_2, st3_3, st3_4, st3_5, st3_6, st3_7, st3_8, st3_9, st3_10, st3_11, st3_12, st3_13]
  rfl

end Cert.Reference34Ideal.At

namespace Cert.AdamSmall

open Cert.Kernel34Ideal.Final

/-- The reference terminates and leaves its arguments unchanged; it has no counters. -/
theorem frame_reference : Cert.quiescent_Reference34Ideal := fun m ρ _ =>
  (θ_run Cert.Reference34Ideal.defs _ _).mono (fun r h => ⟨fun c => ((((h c).2).2).2).2,
    Idealize.ShloMosaic.sem_eq_zero_of_no_sems (by decide) r.2⟩) (Cert.Reference34Ideal.Value.run m ρ)

variable (m : (ℓ : Loc Cert.Kernel34Ideal.nD Cert.Kernel34Ideal.τ Cert.Kernel34Ideal.sig) → Buf (Elt Ideal) ℓ)
  (m' : (ℓ : Loc Cert.Reference34Ideal.nD Cert.Reference34Ideal.τ Cert.Reference34Ideal.sig) → Buf (Elt Ideal) ℓ)

/-- The reference's parameters. -/
def rW (c : Dev Cert.Reference34Ideal.nD) : Arrays EReal :=
  ⟨m' (c.tc.loc Cert.Reference34Ideal.main_arg0), m' (c.tc.loc Cert.Reference34Ideal.main_arg4), m' (c.tc.loc Cert.Reference34Ideal.main_arg8), m' (c.tc.loc Cert.Reference34Ideal.main_arg12), m' (c.tc.loc Cert.Reference34Ideal.main_arg16), m' (c.tc.loc Cert.Reference34Ideal.main_arg20), m' (c.tc.loc Cert.Reference34Ideal.main_arg24), m' (c.tc.loc Cert.Reference34Ideal.main_arg28), m' (c.tc.loc Cert.Reference34Ideal.main_arg32), m' (c.tc.loc Cert.Reference34Ideal.main_arg36), m' (c.tc.loc Cert.Reference34Ideal.main_arg40), m' (c.tc.loc Cert.Reference34Ideal.main_arg44), m' (c.tc.loc Cert.Reference34Ideal.main_arg48), m' (c.tc.loc Cert.Reference34Ideal.main_arg52)⟩
/-- The reference's gradients. -/
def rG (c : Dev Cert.Reference34Ideal.nD) : Arrays EReal :=
  ⟨m' (c.tc.loc Cert.Reference34Ideal.main_arg1), m' (c.tc.loc Cert.Reference34Ideal.main_arg5), m' (c.tc.loc Cert.Reference34Ideal.main_arg9), m' (c.tc.loc Cert.Reference34Ideal.main_arg13), m' (c.tc.loc Cert.Reference34Ideal.main_arg17), m' (c.tc.loc Cert.Reference34Ideal.main_arg21), m' (c.tc.loc Cert.Reference34Ideal.main_arg25), m' (c.tc.loc Cert.Reference34Ideal.main_arg29), m' (c.tc.loc Cert.Reference34Ideal.main_arg33), m' (c.tc.loc Cert.Reference34Ideal.main_arg37), m' (c.tc.loc Cert.Reference34Ideal.main_arg41), m' (c.tc.loc Cert.Reference34Ideal.main_arg45), m' (c.tc.loc Cert.Reference34Ideal.main_arg49), m' (c.tc.loc Cert.Reference34Ideal.main_arg53)⟩
/-- The reference's first moments. -/
def rM (c : Dev Cert.Reference34Ideal.nD) : Arrays EReal :=
  ⟨m' (c.tc.loc Cert.Reference34Ideal.main_arg2), m' (c.tc.loc Cert.Reference34Ideal.main_arg6), m' (c.tc.loc Cert.Reference34Ideal.main_arg10), m' (c.tc.loc Cert.Reference34Ideal.main_arg14), m' (c.tc.loc Cert.Reference34Ideal.main_arg18), m' (c.tc.loc Cert.Reference34Ideal.main_arg22), m' (c.tc.loc Cert.Reference34Ideal.main_arg26), m' (c.tc.loc Cert.Reference34Ideal.main_arg30), m' (c.tc.loc Cert.Reference34Ideal.main_arg34), m' (c.tc.loc Cert.Reference34Ideal.main_arg38), m' (c.tc.loc Cert.Reference34Ideal.main_arg42), m' (c.tc.loc Cert.Reference34Ideal.main_arg46), m' (c.tc.loc Cert.Reference34Ideal.main_arg50), m' (c.tc.loc Cert.Reference34Ideal.main_arg54)⟩
/-- The reference's second moments. -/
def rV (c : Dev Cert.Reference34Ideal.nD) : Arrays EReal :=
  ⟨m' (c.tc.loc Cert.Reference34Ideal.main_arg3), m' (c.tc.loc Cert.Reference34Ideal.main_arg7), m' (c.tc.loc Cert.Reference34Ideal.main_arg11), m' (c.tc.loc Cert.Reference34Ideal.main_arg15), m' (c.tc.loc Cert.Reference34Ideal.main_arg19), m' (c.tc.loc Cert.Reference34Ideal.main_arg23), m' (c.tc.loc Cert.Reference34Ideal.main_arg27), m' (c.tc.loc Cert.Reference34Ideal.main_arg31), m' (c.tc.loc Cert.Reference34Ideal.main_arg35), m' (c.tc.loc Cert.Reference34Ideal.main_arg39), m' (c.tc.loc Cert.Reference34Ideal.main_arg43), m' (c.tc.loc Cert.Reference34Ideal.main_arg47), m' (c.tc.loc Cert.Reference34Ideal.main_arg51), m' (c.tc.loc Cert.Reference34Ideal.main_arg55)⟩

/-- The results as one function of the four families of arrays. -/
theorem results (c : Dev Cert.Kernel34Ideal.nD) (hW : rW m' c = fW m c) (hG : rG m' c = fG m c) (hM : rM m' c = fM m c) (hV : rV m' c = fV m c) :
    packed 0 (Arrays.zip (fun _ g _ _ => g) (rW m' c) (rG m' c) (rM m' c) (rV m' c)) = res4 m c
    ∧ packed 0 (Arrays.zip Adam.delta (rW m' c) (rG m' c) (rM m' c) (rV m' c)) = res5 m c
    ∧ packed 0 (Arrays.zip (fun _ g m _ => Adam.mom g m) (rW m' c) (rG m' c) (rM m' c) (rV m' c)) = res6 m c
    ∧ packed 0 (Arrays.zip (fun _ g _ v => Adam.vel g v) (rW m' c) (rG m' c) (rM m' c) (rV m' c)) = res7 m c := by
  rw [hW, hG, hM, hV]
  exact ⟨packed_zip _ rfl _ _ _ _, packed_zip _ delta_zero _ _ _ _, packed_zip _ mom_zero _ _ _ _, packed_zip _ vel_zero _ _ _ _⟩

/-- Kernel and reference end with equal results. -/
theorem algebraic : Cert.algebraic_Kernel34Ideal_Reference34Ideal := by
  intro m ρ m' ρ' hpre hag
  refine ⟨res4 m, res5 m, res6 m, res7 m,
    (θ_run Cert.Kernel34Ideal.defs _ _).mono (fun r h c => ?_) (Cert.Kernel34Ideal.Value.run_blocks m ρ),
    (θ_run Cert.Reference34Ideal.defs _ _).mono (fun r h c => ?_) (Cert.Reference34Ideal.Value.run m' ρ')⟩
  · obtain ⟨h0, h1, h2, h3, kept⟩ := h c
    exact ⟨h0.trans (arr4 m c), h1.trans (arr5 m c), h2.trans (arr6 m c), h3.trans (arr7 m c), kept⟩
  · obtain ⟨h0, h1, h2, h3, kept⟩ := h c
    have hr : rW m' c = fW m c ∧ rG m' c = fG m c ∧ rM m' c = fM m c ∧ rV m' c = fV m c := by
      obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54, e55⟩ := hag c
      unfold rW fW rG fG rM fM rV fV
      rw [e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54, e55]
      exact ⟨rfl, rfl, rfl, rfl⟩
    obtain ⟨q0, q1, q2, q3⟩ := results m m' c hr.1 hr.2.1 hr.2.2.1 hr.2.2.2
    exact ⟨(h0.trans (Cert.Reference34Ideal.Read.val_main_v351_eq _)).trans ((Cert.Reference34Ideal.At.value0 _ _ _ _ _ _ _ _ _ _ _ _ _ _ _ _ _ _ _ _ _ _ _ _ _ _ _ _ _ _ _ _ _ _ _ _ _ _ _ _ _ _ _ _ _ _ _ _ _ _ _ _ _ _ _ _ ).trans q0), (h1.trans (Cert.Reference34Ideal.Read.val_main_v367_eq _)).trans ((Cert.Reference34Ideal.At.value1 _ _ _ _ _ _ _ _ _ _ _ _ _ _ _ _ _ _ _ _ _ _ _ _ _ _ _ _ _ _ _ _ _ _ _ _ _ _ _ _ _ _ _ _ _ _ _ _ _ _ _ _ _ _ _ _ ).trans q1), (h2.trans (Cert.Reference34Ideal.Read.val_main_v383_eq _)).trans ((Cert.Reference34Ideal.At.value2 _ _ _ _ _ _ _ _ _ _ _ _ _ _ _ _ _ _ _ _ _ _ _ _ _ _ _ _ _ _ _ _ _ _ _ _ _ _ _ _ _ _ _ _ _ _ _ _ _ _ _ _ _ _ _ _ ).trans q2), (h3.trans (Cert.Reference34Ideal.Read.val_main_v399_eq _)).trans ((Cert.Reference34Ideal.At.value3 _ _ _ _ _ _ _ _ _ _ _ _ _ _ _ _ _ _ _ _ _ _ _ _ _ _ _ _ _ _ _ _ _ _ _ _ _ _ _ _ _ _ _ _ _ _ _ _ _ _ _ _ _ _ _ _ ).trans q3), kept⟩

end Cert.AdamSmall

end
-- ==== Proof.GluBwd.Math.lean ====
/-
  The gradient of the gated GELU unit, as mathematics: with `g` the gradient of the unit's output, `v = y + d u` the
  activation's argument, `a` its activation and `s` the gate of `a w + b`,
  * the gate's argument gets `dt = g a s (1 - s)`, and the bias the sum of that over the rows,
  * the activation gets `g s + dt w` (`w` transposed), and its argument that times the derivative of the activation,
  * the skip's factors get the sum over the rows of that times `u`.
  The derivative as one factor and as the chain rule's sum of two terms agree where everything is a real number.
-/
module

public import proofs.«01_k».proof.Defs
public import proofs.«01_k».proof.Proof.Prod.Math
public import proofs.«01_k».proof.Proof.Merge.Math
public import proofs.«01_k».proof.Proof.Mem.Math

@[expose] public section

set_option maxRecDepth 16384

noncomputable section

open Idealize.ShloMosaic
open scoped BigOperators

namespace Cert.GluBwd

/-- The coefficient of the cube in the activation. -/
def cub : EReal := ((8943 / 200000 : ℝ) : EReal)
/-- Three times it. -/
def cub3 : EReal := ((26829 / 200000 : ℝ) : EReal)
/-- One half, as printed. -/
abbrev half : EReal := Ideal.ofBits .f32 0x3F000000#32
/-- The scale of the hyperbolic tangent's argument, as printed. -/
abbrev scl : EReal := Ideal.ofBits .f32 0x3F4C422A#32

/-- The hyperbolic tangent in the activation. -/
def th (v : EReal) : EReal := Ideal.tanh (scl * (v + cub * v * v * v))
/-- The activation. -/
def act (v : EReal) : EReal := half * v * (1 + th v)
/-- The derivative of the activation. -/
def der (v : EReal) : EReal :=
  half * (1 + th v) + half * v * (1 - th v * th v) * scl * (1 + cub3 * v * v)

variable {n : ℕ} (g y u : Shape.Idx ⟨2, ![n, 512]⟩ → EReal) (d : Shape.Idx ⟨2, ![1, 512]⟩ → EReal)
  (w : Shape.Idx ⟨2, ![512, 512]⟩ → EReal) (b : Shape.Idx ⟨2, ![1, 512]⟩ → EReal)

/-- The activation's arguments. -/
def arg : Shape.Idx ⟨2, ![n, 512]⟩ → EReal := fun i => y i + d (ix2 0 (i 1)) * u i
/-- The activated rows. -/
def rows : Shape.Idx ⟨2, ![n, 512]⟩ → EReal := fun i => act (arg y u d i)
/-- The gates. -/
def gt : Shape.Idx ⟨2, ![n, 512]⟩ → EReal := fun i => Merge.gate (Prod.mul (rows y u d) w i + b (ix2 0 (i 1)))
/-- The gradient of the gates' arguments. -/
def dt : Shape.Idx ⟨2, ![n, 512]⟩ → EReal :=
  fun i => g i * rows y u d i * gt y u d w b i * (1 - gt y u d w b i)
/-- The gradient of the activated rows. -/
def dAct : Shape.Idx ⟨2, ![n, 512]⟩ → EReal :=
  fun i => g i * gt y u d w b i + Prod.mult (dt g y u d w b) w i
/-- The gradient of the activation's arguments. -/
def dArg : Shape.Idx ⟨2, ![n, 512]⟩ → EReal := fun i => dAct g y u d w b i * der (arg y u d i)
/-- The bias's gradient. -/
def dBias : Shape.Idx ⟨2, ![1, 512]⟩ → EReal := fun i => ∑ R : Fin n, dt g y u d w b (ix2 R (i 1))
/-- The gradient of the skip's factors. -/
def dSkip : Shape.Idx ⟨2, ![1, 512]⟩ → EReal :=
  fun i => ∑ R : Fin n, dArg g y u d w b (ix2 R (i 1)) * u (ix2 R (i 1))

/-- The printed three. -/
theorem three_eq : Ideal.ofBits .f32 0x40400000#32 = ((3 : ℝ) : EReal) := by
  simp [Ideal.ofBits, Ideal.ieee]; norm_num [← EReal.coe_mul]
/-- The printed scale is a real number. -/
theorem scl_real : ∃ r : ℝ, scl = r := by
  unfold scl
  simp only [Ideal.ofBits, Ideal.ieee]
  split_ifs <;> first | exact ⟨_, rfl⟩ | (exfalso; revert ‹_ = 2 ^ 8 - 1›; decide)
/-- Products, sums and differences of real numbers are real. -/
theorem mul_real {a c : EReal} (ha : ∃ r : ℝ, a = r) (hc : ∃ r : ℝ, c = r) : ∃ r : ℝ, a * c = r := by
  obtain ⟨p, rfl⟩ := ha; obtain ⟨q, rfl⟩ := hc; exact ⟨p * q, (EReal.coe_mul p q).symm⟩
/-- A sum of two real numbers is real. -/
theorem add_real {a c : EReal} (ha : ∃ r : ℝ, a = r) (hc : ∃ r : ℝ, c = r) : ∃ r : ℝ, a + c = r := by
  obtain ⟨p, rfl⟩ := ha; obtain ⟨q, rfl⟩ := hc; exact ⟨p + q, (EReal.coe_add p q).symm⟩
/-- One less a real number is real. -/
theorem one_sub_real {a : EReal} (ha : ∃ r : ℝ, a = r) : ∃ r : ℝ, 1 - a = r := by
  obtain ⟨p, rfl⟩ := ha; exact ⟨1 - p, (EReal.coe_sub 1 p).symm⟩
/-- A sum of products of real numbers is real. -/
theorem sum_mul_real {k : ℕ} (a c : Fin k → EReal) (ha : ∀ i, ∃ r : ℝ, a i = r) (hc : ∀ i, ∃ r : ℝ, c i = r) :
    ∃ r : ℝ, ∑ i, a i * c i = r := by
  choose p hp using fun i => mul_real (ha i) (hc i)
  exact ⟨∑ i, p i, by rw [← Mem.sum_real]; exact Finset.sum_congr rfl fun i _ => hp i⟩
/-- The hyperbolic tangent is real at every number. -/
theorem tanh_real (v : EReal) : ∃ r : ℝ, Ideal.tanh v = r := by
  induction v with
  | bot => exact ⟨-1, rfl⟩
  | top => exact ⟨1, rfl⟩
  | coe r => exact ⟨Real.tanh r, rfl⟩
/-- Gates are real. -/
theorem gate_real (v : EReal) : ∃ r : ℝ, Merge.gate v = r := by
  have h : ∃ r : ℝ, Ideal.ofBits FTy.f32 1056964608#32 = r := ⟨_, Merge.half_eq⟩
  exact add_real (mul_real h (tanh_real _)) h
/-- The activation of a real number is real. -/
theorem act_real {v : EReal} (hv : ∃ r : ℝ, v = r) : ∃ r : ℝ, act v = r :=
  mul_real (mul_real ⟨_, Merge.half_eq⟩ hv) (add_real ⟨1, rfl⟩ (tanh_real _))

/-- The derivative as one factor is the chain rule's sum. -/
theorem chain {v a : EReal} (hv : ∃ r : ℝ, v = r) (ha : ∃ r : ℝ, a = r) :
    a * (half * (1 + th v)) + scl * (half * (v * a) * ((1 + th v) * (1 - th v)))
      + cub * (scl * (half * (v * a) * ((1 + th v) * (1 - th v)))) * (Ideal.ofBits .f32 0x40400000#32 * (v * v)) = a * der v := by
  unfold der
  obtain ⟨t, ht⟩ : ∃ r : ℝ, th v = r := tanh_real _
  obtain ⟨s, hs⟩ := scl_real
  obtain ⟨x, rfl⟩ := hv
  obtain ⟨c, rfl⟩ := ha
  have hh : half = ((1 / 2 : ℝ) : EReal) := Merge.half_eq
  rw [ht, hs, hh, three_eq]
  unfold cub cub3
  rw [show (1 : EReal) = ((1 : ℝ) : EReal) from rfl]
  simp only [← EReal.coe_mul, ← EReal.coe_add, ← EReal.coe_sub]
  congr 1
  ring

/-- The activation with the factors in the other order. -/
theorem act_eq (v : EReal) : v * (half * (1 + Ideal.tanh (scl * (v + cub * (v * (v * v)))))) = act v := by
  have h : cub * (v * (v * v)) = cub * v * v * v := by rw [mul_assoc, mul_assoc]
  unfold act th
  rw [h, ← mul_assoc, mul_comm v]

/-- The activated rows' gradient is real where the arguments but the bias are. -/
theorem dAct_real (hg : ∀ i, ∃ r : ℝ, g i = r) (hy : ∀ i, ∃ r : ℝ, y i = r) (hu : ∀ i, ∃ r : ℝ, u i = r)
    (hd : ∀ i, ∃ r : ℝ, d i = r) (hw : ∀ i, ∃ r : ℝ, w i = r) (i : Shape.Idx ⟨2, ![n, 512]⟩) :
    (∃ r : ℝ, arg y u d i = r) ∧ ∃ r : ℝ, dAct g y u d w b i = r := by
  have ha : ∀ j, ∃ r : ℝ, arg y u d j = r := fun j => add_real (hy _) (mul_real (hd _) (hu _))
  have ht : ∀ j, ∃ r : ℝ, dt g y u d w b j = r := fun j =>
    mul_real (mul_real (mul_real (hg _) (act_real (ha _))) (gate_real _)) (one_sub_real (gate_real _))
  exact ⟨ha i, add_real (mul_real (hg _) (gate_real _)) (sum_mul_real _ _ (fun _ => ht _) fun _ => hw _)⟩

end Cert.GluBwd

end
-- ==== Proof.GluBwd.Kernel.lean ====
/-
  The gradient of the gated GELU unit on the kernel’s side, tile by tile.
-/
module

public import proofs.«01_k».proof.Proof.GluBwd.Math
public import proofs.«01_k».proof.Proof.Gen.Kernel35Ideal.Value

@[expose] public section

set_option maxRecDepth 16384

noncomputable section

open Idealize.ShloMosaic Idealize.ShloMosaic.TcCoe Idealize.SL.Sem
open scoped BigOperators

namespace Cert.Kernel35Ideal.Final

open Cert.Kernel35Ideal Cert.Kernel35Ideal.Gen Cert.Prod

variable (m : (ℓ : Loc nD τ sig) → Buf (Elt Ideal) ℓ)

/-- Where each window's block of point `t` begins. -/
theorem idx : ∀ t : Fin cfg0.N,
    win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![t.val, 0] ∧ win0_7.index t = ![t.val, 0] ∧ win0_8.index t = ![t.val, 0] ∧ win0_9.index t = ![0, 0] ∧ win0_10.index t = ![0, 0] :=
  (by decide +kernel : ∀ t : Fin grid0.N, _)

/-- The grid's points. -/
theorem ltN (t : Fin cfg0.N) : t.val < 16 := lt_of_lt_of_eq t.isLt (show cfg0.N = 16 from N_0)

/-- Row `r` of the tile at point `t`. -/
def row (t : Fin cfg0.N) (r : Fin 512) : Fin 8192 := ⟨512 * t.val + r.val, by have := ltN t; omega⟩

/-- The gradient of the output. -/
abbrev fg (c : Dev nD) : S8192x512.Idx → EReal := m ((c : Thread nD τ).loc main_arg0)
/-- The recurrence’s output. -/
abbrev fy (c : Dev nD) : S8192x512.Idx → EReal := m ((c : Thread nD τ).loc main_arg1)
/-- The recurrence’s input. -/
abbrev fu (c : Dev nD) : S8192x512.Idx → EReal := m ((c : Thread nD τ).loc main_arg2)
/-- The skip’s factors. -/
abbrev fd (c : Dev nD) : S1x512.Idx → EReal := m ((c : Thread nD τ).loc main_arg3)
/-- The weights. -/
abbrev fw (c : Dev nD) : S512x512.Idx → EReal := m ((c : Thread nD τ).loc main_arg4)
/-- The bias. -/
abbrev fb (c : Dev nD) : S1x512.Idx → EReal := m ((c : Thread nD τ).loc main_arg5)

/-- The tile of window 0. -/
theorem blk0 (c : Dev nD) (t : Fin cfg0.N) (r e : Fin 512) :
    (iblk m c 0 t : Vec Ideal S512x512 .f32) (ix2 r e) = fg m c (ix2 (row t r) e) := by
  have := ltN t
  unfold row
  blk_ext [iblk, V, idx t]
/-- The tile of window 1. -/
theorem blk1 (c : Dev nD) (t : Fin cfg0.N) (r e : Fin 512) :
    (iblk m c 1 t : Vec Ideal S512x512 .f32) (ix2 r e) = fy m c (ix2 (row t r) e) := by
  have := ltN t
  unfold row
  blk_ext [iblk, V, idx t]
/-- The tile of window 2. -/
theorem blk2 (c : Dev nD) (t : Fin cfg0.N) (r e : Fin 512) :
    (iblk m c 2 t : Vec Ideal S512x512 .f32) (ix2 r e) = fu m c (ix2 (row t r) e) := by
  have := ltN t
  unfold row
  blk_ext [iblk, V, idx t]
/-- Window 3 is staged whole. -/
theorem blk3 (c : Dev nD) (t : Fin cfg0.N) (r : Fin 1) (e : Fin 512) :
    (iblk m c 3 t : Vec Ideal S1x512 .f32) (ix2 r e) = fd m c (ix2 r e) := by
  blk_ext [iblk, V, idx t]
/-- Window 4 is staged whole. -/
theorem blk4 (c : Dev nD) (t : Fin cfg0.N) (r : Fin 512) (e : Fin 512) :
    (iblk m c 4 t : Vec Ideal S512x512 .bf16) (ix2 r e) = fw m c (ix2 r e) := by
  blk_ext [iblk, V, idx t]
/-- Window 5 is staged whole. -/
theorem blk5 (c : Dev nD) (t : Fin cfg0.N) (r : Fin 1) (e : Fin 512) :
    (iblk m c 5 t : Vec Ideal S1x512 .f32) (ix2 r e) = fb m c (ix2 r e) := by
  blk_ext [iblk, V, idx t]

/-- The named coefficient. -/
theorem cub_eq : Named.named (F := Ideal) κ "gelu_cubic" (φ := .f32) 0x3D372713#32 = GluBwd.cub :=
  IdealRules.named_const.ideal_named_scalar _ _ _ _ rfl
/-- Three times the named coefficient. -/
theorem cub3_eq : Named.named (F := Ideal) κ "gelu_cubic_times_three" (φ := .f32) 0x3E095D4F#32 = GluBwd.cub3 :=
  IdealRules.named_const.ideal_named_scalar _ _ _ _ rfl

section Tile

variable (y : Vec Ideal S512x512 .f32) (d : Vec Ideal S1x512 .f32) (u : Vec Ideal S512x512 .f32) (w : Vec Ideal S512x512 .bf16)
  (b : Vec Ideal S1x512 .f32) (g : Vec Ideal S512x512 .f32)

/-- A tile's activated rows. -/
theorem pay6 (r e : Fin 512) : k0_pay6 (F := Ideal) y d u (ix2 r e) = GluBwd.rows (n := 512) y u d (ix2 r e) := by
  unfold k0_pay6 k0_pay5
  rw [cub_eq]
  pointwise
  rfl
/-- A tile's gates. -/
theorem pay7 (r e : Fin 512) : k0_pay7 (F := Ideal) y d u w b (ix2 r e) = GluBwd.gt (n := 512) y u d w b (ix2 r e) := by
  unfold k0_pay7
  pointwise
  simp only [pay6]
  rfl
/-- A tile's gradient of the gates' arguments. -/
theorem pay8 (r e : Fin 512) : k0_pay8 (F := Ideal) y d u w b g (ix2 r e) = GluBwd.dt (n := 512) g y u d w b (ix2 r e) := by
  unfold k0_pay8
  pointwise
  simp only [pay6, pay7]
  rfl
/-- A tile's gradient of the activation's arguments. -/
theorem pay9 (r e : Fin 512) :
    k0_pay9 (F := Ideal) (k0_pay5 y d u) (k0_pay7 y d u w b) g (k0_pay8 y d u w b g) w (ix2 r e) = GluBwd.dArg (n := 512) g y u d w b (ix2 r e) := by
  unfold k0_pay9 k0_pay5
  rw [cub_eq, cub3_eq]
  pointwise
  simp only [pay8, pay7]
  rfl
/-- A tile's share of the bias's gradient. -/
theorem pay3 (acc : Vec Ideal S1x512 .f32) (z : Fin 1) (e : Fin 512) :
    k0_pay3 (F := Ideal) (k0_pay8 y d u w b g) acc (ix2 z e) = acc (ix2 z e) + GluBwd.dBias (n := 512) g y u d w b (ix2 z e) := by
  unfold k0_pay3
  pointwise
  simp only [pay8]
  rfl
/-- A tile's share of the gradient of the skip's factors. -/
theorem pay4 (acc : Vec Ideal S1x512 .f32) (z : Fin 1) (e : Fin 512) :
    k0_pay4 (F := Ideal) (k0_pay9 (k0_pay5 y d u) (k0_pay7 y d u w b) g (k0_pay8 y d u w b g) w) acc u (ix2 z e)
      = acc (ix2 z e) + GluBwd.dSkip (n := 512) g y u d w b (ix2 z e) := by
  unfold k0_pay4
  pointwise
  simp only [pay9]
  rfl

end Tile

/-- `arg` of a tile is the tile of `arg`. -/
theorem arg_tile (c : Dev nD) (t : Fin cfg0.N) (r e : Fin 512) :
    GluBwd.arg (n := 512) (iblk m c 1 t) (iblk m c 2 t) (iblk m c 3 t) (ix2 r e) = GluBwd.arg (fy m c) (fu m c) (fd m c) (ix2 (row t r) e) := by
  unfold GluBwd.arg
  simp only [ix2_1, blk1, blk2, blk3]
/-- `rows` of a tile is the tile of `rows`. -/
theorem rows_tile (c : Dev nD) (t : Fin cfg0.N) (r e : Fin 512) :
    GluBwd.rows (n := 512) (iblk m c 1 t) (iblk m c 2 t) (iblk m c 3 t) (ix2 r e) = GluBwd.rows (fy m c) (fu m c) (fd m c) (ix2 (row t r) e) := by
  unfold GluBwd.rows
  simp only [arg_tile]
/-- `gt` of a tile is the tile of `gt`. -/
theorem gt_tile (c : Dev nD) (t : Fin cfg0.N) (r e : Fin 512) :
    GluBwd.gt (n := 512) (iblk m c 1 t) (iblk m c 2 t) (iblk m c 3 t) (iblk m c 4 t) (iblk m c 5 t) (ix2 r e) = GluBwd.gt (fy m c) (fu m c) (fd m c) (fw m c) (fb m c) (ix2 (row t r) e) := by
  unfold GluBwd.gt Prod.mul
  simp only [ix2_0, ix2_1, rows_tile, blk4, blk5]
/-- `dt` of a tile is the tile of `dt`. -/
theorem dt_tile (c : Dev nD) (t : Fin cfg0.N) (r e : Fin 512) :
    GluBwd.dt (n := 512) (iblk m c 0 t) (iblk m c 1 t) (iblk m c 2 t) (iblk m c 3 t) (iblk m c 4 t) (iblk m c 5 t) (ix2 r e) = GluBwd.dt (fg m c) (fy m c) (fu m c) (fd m c) (fw m c) (fb m c) (ix2 (row t r) e) := by
  unfold GluBwd.dt
  simp only [blk0, rows_tile, gt_tile]
/-- `dAct` of a tile is the tile of `dAct`. -/
theorem dAct_tile (c : Dev nD) (t : Fin cfg0.N) (r e : Fin 512) :
    GluBwd.dAct (n := 512) (iblk m c 0 t) (iblk m c 1 t) (iblk m c 2 t) (iblk m c 3 t) (iblk m c 4 t) (iblk m c 5 t) (ix2 r e) = GluBwd.dAct (fg m c) (fy m c) (fu m c) (fd m c) (fw m c) (fb m c) (ix2 (row t r) e) := by
  unfold GluBwd.dAct Prod.mult
  simp only [ix2_0, ix2_1, blk0, gt_tile, dt_tile, blk4]
/-- `dArg` of a tile is the tile of `dArg`. -/
theorem dArg_tile (c : Dev nD) (t : Fin cfg0.N) (r e : Fin 512) :
    GluBwd.dArg (n := 512) (iblk m c 0 t) (iblk m c 1 t) (iblk m c 2 t) (iblk m c 3 t) (iblk m c 4 t) (iblk m c 5 t) (ix2 r e) = GluBwd.dArg (fg m c) (fy m c) (fu m c) (fd m c) (fw m c) (fb m c) (ix2 (row t r) e) := by
  unfold GluBwd.dArg
  simp only [dAct_tile, arg_tile]
/-- Result 6 after a point. -/
theorem at6 (c : Dev nD) (t : Fin cfg0.N) (i : S512x512.Idx) :
    (outsAt0 m c t.val t.isLt).1 i = GluBwd.dArg (fg m c) (fy m c) (fu m c) (fd m c) (fw m c) (fb m c) (ix2 (row t (i 0)) (i 1)) := by
  have hlt := ltN t
  obtain ⟨r, e, rfl⟩ : ∃ (r : Fin 512) (e : Fin 512), i = ix2 r e := ⟨i 0, i 1, ValueIdx.eq_ix2 i⟩
  by_cases h : t.val = 0
  · rw [outsAt0_A m c t (by omega)]
    frame_out
    exact (pay9 _ _ _ _ _ _ r e).trans (dArg_tile m c t r e)
  · rw [outsAt0_B m c t (by omega)]
    frame_out
    exact (pay9 _ _ _ _ _ _ r e).trans (dArg_tile m c t r e)
/-- Result 6 after the run. -/
theorem arr6 (c : Dev nD) : (dats m 0 c).arrAt 6 cfg0.N = GluBwd.dArg (fg m c) (fy m c) (fu m c) (fd m c) (fw m c) (fb m c) := by
  refine (dats m 0 c).arrAt_eq_of_covers 6 _ (by decide +kernel) fun t hf y => ?_
  have hlt := ltN t
  have h9 : ((cfg0.win 6).blk t).view.emb y = ix2 (row t (y 0)) (y 1) := by
    unfold row
    blk_ext [idx t]
  rw [h9]
  blk_simp
  rw [after0_6]
  exact at6 m c t y
/-- Result 7 after a point. -/
theorem at7 (c : Dev nD) (t : Fin cfg0.N) (i : S512x512.Idx) :
    (outsAt0 m c t.val t.isLt).2.1 i = GluBwd.dt (fg m c) (fy m c) (fu m c) (fd m c) (fw m c) (fb m c) (ix2 (row t (i 0)) (i 1)) := by
  have hlt := ltN t
  obtain ⟨r, e, rfl⟩ : ∃ (r : Fin 512) (e : Fin 512), i = ix2 r e := ⟨i 0, i 1, ValueIdx.eq_ix2 i⟩
  by_cases h : t.val = 0
  · rw [outsAt0_A m c t (by omega)]
    frame_out
    exact (pay8 _ _ _ _ _ _ r e).trans (dt_tile m c t r e)
  · rw [outsAt0_B m c t (by omega)]
    frame_out
    exact (pay8 _ _ _ _ _ _ r e).trans (dt_tile m c t r e)
/-- Result 7 after the run. -/
theorem arr7 (c : Dev nD) : (dats m 0 c).arrAt 7 cfg0.N = GluBwd.dt (fg m c) (fy m c) (fu m c) (fd m c) (fw m c) (fb m c) := by
  refine (dats m 0 c).arrAt_eq_of_covers 7 _ (by decide +kernel) fun t hf y => ?_
  have hlt := ltN t
  have h9 : ((cfg0.win 7).blk t).view.emb y = ix2 (row t (y 0)) (y 1) := by
    unfold row
    blk_ext [idx t]
  rw [h9]
  blk_simp
  rw [after0_7]
  exact at7 m c t y
/-- Result 8 after a point. -/
theorem at8 (c : Dev nD) (t : Fin cfg0.N) (i : S512x512.Idx) :
    (outsAt0 m c t.val t.isLt).2.2.1 i = GluBwd.rows (fy m c) (fu m c) (fd m c) (ix2 (row t (i 0)) (i 1)) := by
  have hlt := ltN t
  obtain ⟨r, e, rfl⟩ : ∃ (r : Fin 512) (e : Fin 512), i = ix2 r e := ⟨i 0, i 1, ValueIdx.eq_ix2 i⟩
  by_cases h : t.val = 0
  · rw [outsAt0_A m c t (by omega)]
    frame_out
    exact (pay6 _ _ _ r e).trans (rows_tile m c t r e)
  · rw [outsAt0_B m c t (by omega)]
    frame_out
    exact (pay6 _ _ _ r e).trans (rows_tile m c t r e)
/-- Result 8 after the run. -/
theorem arr8 (c : Dev nD) : (dats m 0 c).arrAt 8 cfg0.N = GluBwd.rows (fy m c) (fu m c) (fd m c) := by
  refine (dats m 0 c).arrAt_eq_of_covers 8 _ (by decide +kernel) fun t hf y => ?_
  have hlt := ltN t
  have h9 : ((cfg0.win 8).blk t).view.emb y = ix2 (row t (y 0)) (y 1) := by
    unfold row
    blk_ext [idx t]
  rw [h9]
  blk_simp
  rw [after0_8]
  exact at8 m c t y
/-- The first point starts the sum. -/
theorem first9 (c : Dev nD) (t : Fin cfg0.N) (h : t.val = 0) (i : S1x512.Idx) :
    (outsAt0 m c t.val t.isLt).2.2.2.1 i = 0 + GluBwd.dBias (n := 512) (iblk m c 0 t) (iblk m c 1 t) (iblk m c 2 t) (iblk m c 3 t) (iblk m c 4 t) (iblk m c 5 t) i := by
  obtain ⟨r, e, rfl⟩ : ∃ (r : Fin 1) (e : Fin 512), i = ix2 r e := ⟨i 0, i 1, ValueIdx.eq_ix2 i⟩
  rw [outsAt0_A m c t (by omega)]
  frame_out
  refine (pay3 _ _ _ _ _ _ _ r e).trans ?_
  unfold k0_pay1
  pointwise
/-- Every further point adds its share. -/
theorem step9 (c : Dev nD) (t : Fin cfg0.N) (h : ¬t.val = 0) (i : S1x512.Idx) :
    (outsAt0 m c t.val t.isLt).2.2.2.1 i = (outsAt0 m c (t.val - 1) (Nat.lt_of_le_of_lt (Nat.sub_le _ _) t.isLt)).2.2.2.1 i
      + GluBwd.dBias (n := 512) (iblk m c 0 t) (iblk m c 1 t) (iblk m c 2 t) (iblk m c 3 t) (iblk m c 4 t) (iblk m c 5 t) i := by
  have hlt := ltN t
  obtain ⟨r, e, rfl⟩ : ∃ (r : Fin 1) (e : Fin 512), i = ix2 r e := ⟨i 0, i 1, ValueIdx.eq_ix2 i⟩
  rw [outsAt0_B m c t (by omega)]
  frame_out
  exact pay3 _ _ _ _ _ _ _ r e
/-- At the last point the result holds the whole sum. -/
theorem total9 (c : Dev nD) (t : Fin cfg0.N) (ht : t.val = 15) (i : S1x512.Idx) :
    (outsAt0 m c t.val t.isLt).2.2.2.1 i = GluBwd.dBias (fg m c) (fy m c) (fu m c) (fd m c) (fw m c) (fb m c) i := by
  have hlt := ltN t
  obtain ⟨r, e, rfl⟩ : ∃ (r : Fin 1) (e : Fin 512), i = ix2 r e := ⟨i 0, i 1, ValueIdx.eq_ix2 i⟩
  rw [Pipeline.eq_sum_fin_of_reset_step_apply_last (fun n h => (outsAt0 m c n h).2.2.2.1) 16 (fun _ => (0 : EReal))
    (fun t (i : S1x512.Idx) => GluBwd.dBias (n := 512) (iblk m c 0 t) (iblk m c 1 t) (iblk m c 2 t) (iblk m c 3 t) (iblk m c 4 t) (iblk m c 5 t) i)
    (fun t h i => first9 m c t (by have := ltN t; omega) i) (fun t h i => step9 m c t (by omega) i) (by rw [show cfg0.N = 16 from N_0]) t (by rw [ht, show cfg0.N = 16 from N_0]) (ix2 r e), zero_add]
  unfold GluBwd.dBias
  simp only [ix2_1, dt_tile]
  exact sum_tiles (S := 16) (n := 512) rfl (fun s r => row ⟨s.val, lt_of_lt_of_eq s.isLt N_0.symm⟩ r) (fun _ _ => rfl)
    fun R => GluBwd.dt (fg m c) (fy m c) (fu m c) (fd m c) (fw m c) (fb m c) (ix2 R e)
/-- The sum after the run. -/
theorem arr9 (c : Dev nD) : (dats m 0 c).arrAt 9 cfg0.N = GluBwd.dBias (fg m c) (fy m c) (fu m c) (fd m c) (fw m c) (fb m c) := by
  refine (dats m 0 c).arrAt_eq_of_covers 9 _ (by decide +kernel) fun t hf y => ?_
  have ht := (flush0_9 t).mp hf
  have hlt := ltN t
  have h9 : ((cfg0.win 9).blk t).view.emb y = y := by
    blk_ext [idx t]
  rw [h9]
  blk_simp
  rw [after0_9]
  exact total9 m c t (by omega) y
/-- The first point starts the sum. -/
theorem first10 (c : Dev nD) (t : Fin cfg0.N) (h : t.val = 0) (i : S1x512.Idx) :
    (outsAt0 m c t.val t.isLt).2.2.2.2 i = 0 + GluBwd.dSkip (n := 512) (iblk m c 0 t) (iblk m c 1 t) (iblk m c 2 t) (iblk m c 3 t) (iblk m c 4 t) (iblk m c 5 t) i := by
  obtain ⟨r, e, rfl⟩ : ∃ (r : Fin 1) (e : Fin 512), i = ix2 r e := ⟨i 0, i 1, ValueIdx.eq_ix2 i⟩
  rw [outsAt0_A m c t (by omega)]
  frame_out
  refine (pay4 _ _ _ _ _ _ _ r e).trans ?_
  unfold k0_pay2
  pointwise
/-- Every further point adds its share. -/
theorem step10 (c : Dev nD) (t : Fin cfg0.N) (h : ¬t.val = 0) (i : S1x512.Idx) :
    (outsAt0 m c t.val t.isLt).2.2.2.2 i = (outsAt0 m c (t.val - 1) (Nat.lt_of_le_of_lt (Nat.sub_le _ _) t.isLt)).2.2.2.2 i
      + GluBwd.dSkip (n := 512) (iblk m c 0 t) (iblk m c 1 t) (iblk m c 2 t) (iblk m c 3 t) (iblk m c 4 t) (iblk m c 5 t) i := by
  have hlt := ltN t
  obtain ⟨r, e, rfl⟩ : ∃ (r : Fin 1) (e : Fin 512), i = ix2 r e := ⟨i 0, i 1, ValueIdx.eq_ix2 i⟩
  rw [outsAt0_B m c t (by omega)]
  frame_out
  exact pay4 _ _ _ _ _ _ _ r e
/-- At the last point the result holds the whole sum. -/
theorem total10 (c : Dev nD) (t : Fin cfg0.N) (ht : t.val = 15) (i : S1x512.Idx) :
    (outsAt0 m c t.val t.isLt).2.2.2.2 i = GluBwd.dSkip (fg m c) (fy m c) (fu m c) (fd m c) (fw m c) (fb m c) i := by
  have hlt := ltN t
  obtain ⟨r, e, rfl⟩ : ∃ (r : Fin 1) (e : Fin 512), i = ix2 r e := ⟨i 0, i 1, ValueIdx.eq_ix2 i⟩
  rw [Pipeline.eq_sum_fin_of_reset_step_apply_last (fun n h => (outsAt0 m c n h).2.2.2.2) 16 (fun _ => (0 : EReal))
    (fun t (i : S1x512.Idx) => GluBwd.dSkip (n := 512) (iblk m c 0 t) (iblk m c 1 t) (iblk m c 2 t) (iblk m c 3 t) (iblk m c 4 t) (iblk m c 5 t) i)
    (fun t h i => first10 m c t (by have := ltN t; omega) i) (fun t h i => step10 m c t (by omega) i) (by rw [show cfg0.N = 16 from N_0]) t (by rw [ht, show cfg0.N = 16 from N_0]) (ix2 r e), zero_add]
  unfold GluBwd.dSkip
  simp only [ix2_1, dArg_tile, blk2]
  exact sum_tiles (S := 16) (n := 512) rfl (fun s r => row ⟨s.val, lt_of_lt_of_eq s.isLt N_0.symm⟩ r) (fun _ _ => rfl)
    fun R => GluBwd.dArg (fg m c) (fy m c) (fu m c) (fd m c) (fw m c) (fb m c) (ix2 R e) * fu m c (ix2 R e)
/-- The sum after the run. -/
theorem arr10 (c : Dev nD) : (dats m 0 c).arrAt 10 cfg0.N = GluBwd.dSkip (fg m c) (fy m c) (fu m c) (fd m c) (fw m c) (fb m c) := by
  refine (dats m 0 c).arrAt_eq_of_covers 10 _ (by decide +kernel) fun t hf y => ?_
  have ht := (flush0_10 t).mp hf
  have hlt := ltN t
  have h9 : ((cfg0.win 10).blk t).view.emb y = y := by
    blk_ext [idx t]
  rw [h9]
  blk_simp
  rw [after0_10]
  exact total10 m c t (by omega) y

end Cert.Kernel35Ideal.Final

end
-- ==== Proof.GluBwd.Reference.lean ====
/-
  The gradient of the gated GELU unit on the reference’s side.
-/
module

public import proofs.«01_k».proof.Proof.GluBwd.Math
public import proofs.«01_k».proof.Proof.Gen.Reference35Ideal.Value

@[expose] public section

set_option maxRecDepth 16384

noncomputable section

open Idealize.ShloMosaic Idealize.ShloMosaic.TcCoe Idealize.SL.Sem
open scoped BigOperators

namespace Cert.Reference35Ideal.At

open Cert.Reference35Ideal Cert.Reference35Ideal.Gen Cert.Prod

variable (m : (ℓ : Loc nD τ sig) → Buf (Elt Ideal) ℓ)

/-- The one point's blocks begin at the origin. -/
theorem idx : ∀ t : Fin cfg0.N,
    win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] :=
  (by decide +kernel : ∀ t : Fin grid0.N, _)

/-- The gradient of the output. -/
abbrev fg (c : Dev nD) : S8192x512.Idx → EReal := m ((c : Thread nD τ).loc main_arg0)
/-- The recurrence’s output. -/
abbrev fy (c : Dev nD) : S8192x512.Idx → EReal := m ((c : Thread nD τ).loc main_arg1)
/-- The recurrence’s input. -/
abbrev fu (c : Dev nD) : S8192x512.Idx → EReal := m ((c : Thread nD τ).loc main_arg2)
/-- The skip’s factors. -/
abbrev fd (c : Dev nD) : S1x512.Idx → EReal := m ((c : Thread nD τ).loc main_arg3)
/-- The weights. -/
abbrev fw (c : Dev nD) : S512x512.Idx → EReal := m ((c : Thread nD τ).loc main_arg4)
/-- The bias. -/
abbrev fb (c : Dev nD) : S1x512.Idx → EReal := m ((c : Thread nD τ).loc main_arg5)

/-- Window 0 is staged whole. -/
theorem blk0 (c : Dev nD) (t : Fin cfg0.N) : (iblk m c 0 t : Vec Ideal S8192x512 .f32) = fg m c := by
  funext i
  obtain ⟨r, e, rfl⟩ : ∃ (r : Fin 8192) (e : Fin 512), i = ix2 r e := ⟨i 0, i 1, ValueIdx.eq_ix2 i⟩
  blk_ext [iblk, V, idx t]
/-- Window 1 is staged whole. -/
theorem blk1 (c : Dev nD) (t : Fin cfg0.N) : (iblk m c 1 t : Vec Ideal S8192x512 .f32) = fy m c := by
  funext i
  obtain ⟨r, e, rfl⟩ : ∃ (r : Fin 8192) (e : Fin 512), i = ix2 r e := ⟨i 0, i 1, ValueIdx.eq_ix2 i⟩
  blk_ext [iblk, V, idx t]
/-- Window 2 is staged whole. -/
theorem blk2 (c : Dev nD) (t : Fin cfg0.N) : (iblk m c 2 t : Vec Ideal S8192x512 .f32) = fu m c := by
  funext i
  obtain ⟨r, e, rfl⟩ : ∃ (r : Fin 8192) (e : Fin 512), i = ix2 r e := ⟨i 0, i 1, ValueIdx.eq_ix2 i⟩
  blk_ext [iblk, V, idx t]
/-- Window 3 is staged whole. -/
theorem blk3 (c : Dev nD) (t : Fin cfg0.N) : (iblk m c 3 t : Vec Ideal S1x512 .f32) = fd m c := by
  funext i
  obtain ⟨r, e, rfl⟩ : ∃ (r : Fin 1) (e : Fin 512), i = ix2 r e := ⟨i 0, i 1, ValueIdx.eq_ix2 i⟩
  blk_ext [iblk, V, idx t]
/-- Window 4 is staged whole. -/
theorem blk4 (c : Dev nD) (t : Fin cfg0.N) : (iblk m c 4 t : Vec Ideal S512x512 .bf16) = fw m c := by
  funext i
  obtain ⟨r, e, rfl⟩ : ∃ (r : Fin 512) (e : Fin 512), i = ix2 r e := ⟨i 0, i 1, ValueIdx.eq_ix2 i⟩
  blk_ext [iblk, V, idx t]
/-- Window 5 is staged whole. -/
theorem blk5 (c : Dev nD) (t : Fin cfg0.N) : (iblk m c 5 t : Vec Ideal S1x512 .f32) = fb m c := by
  funext i
  obtain ⟨r, e, rfl⟩ : ∃ (r : Fin 1) (e : Fin 512), i = ix2 r e := ⟨i 0, i 1, ValueIdx.eq_ix2 i⟩
  blk_ext [iblk, V, idx t]

/-- The named coefficient. -/
theorem cub_eq : Named.named (F := Ideal) κ "gelu_cubic" (φ := .f32) 0x3D372713#32 = GluBwd.cub :=
  IdealRules.named_const.ideal_named_scalar _ _ _ _ rfl

section Tile

variable (g y u : Vec Ideal S8192x512 .f32) (d : Vec Ideal S1x512 .f32) (w : Vec Ideal S512x512 .bf16) (b : Vec Ideal S1x512 .f32)

/-- The activation's arguments. -/
theorem pay2 (r : Fin 8192) (e : Fin 512) : k0_pay2 (F := Ideal) y u d (ix2 r e) = GluBwd.arg y u d (ix2 r e) := by
  unfold k0_pay2
  pointwise
  rfl
/-- The hyperbolic tangent. -/
theorem pay4 (r : Fin 8192) (e : Fin 512) : k0_pay4 (F := Ideal) y u d (ix2 r e) = GluBwd.th (GluBwd.arg y u d (ix2 r e)) := by
  unfold k0_pay4
  rw [cub_eq]
  pointwise
  rw [pay2]
  unfold GluBwd.th
  rw [show ∀ v : EReal, GluBwd.cub * (v * (v * v)) = GluBwd.cub * v * v * v from fun v => by rw [mul_assoc, mul_assoc]]
/-- The activated rows. -/
theorem pay7 (r : Fin 8192) (e : Fin 512) : k0_pay7 (F := Ideal) y u d (ix2 r e) = GluBwd.rows y u d (ix2 r e) := by
  unfold k0_pay7 k0_pay6
  pointwise
  rw [pay2, pay4]
  unfold GluBwd.rows GluBwd.act
  rw [← mul_assoc, mul_comm (GluBwd.arg y u d (ix2 r e))]
/-- The gates. -/
theorem pay8 (r : Fin 8192) (e : Fin 512) : k0_pay8 (F := Ideal) y u d w b (ix2 r e) = GluBwd.gt y u d w b (ix2 r e) := by
  unfold k0_pay8 k0_pay1
  pointwise
  simp only [pay7]
  unfold GluBwd.gt
  rw [Merge.gate_eq]
  rfl
/-- The gradient of the gates' arguments. -/
theorem pay11 (r : Fin 8192) (e : Fin 512) :
    k0_pay11 (F := Ideal) (k0_pay9 y u d w b) (k0_pay10 g y u d) (ix2 r e) = GluBwd.dt g y u d w b (ix2 r e) := by
  unfold k0_pay11 k0_pay9 k0_pay10
  pointwise
  rw [pay7, pay8]
  unfold GluBwd.dt
  rw [mul_comm (GluBwd.rows y u d (ix2 r e)), ← mul_assoc]
/-- The gradient of the activation's arguments. -/
theorem pay13 (hg : ∀ i, ∃ r : ℝ, g i = r) (hy : ∀ i, ∃ r : ℝ, y i = r) (hu : ∀ i, ∃ r : ℝ, u i = r)
    (hd : ∀ i, ∃ r : ℝ, d i = r) (hw : ∀ i, ∃ r : ℝ, w i = r) (r : Fin 8192) (e : Fin 512) :
    k0_pay13 (F := Ideal) g (k0_pay1 w) (k0_pay2 y u d) (k0_pay3 y u d) (k0_pay5 y u d) (k0_pay6 y u d) (k0_pay8 y u d w b)
      (k0_pay9 y u d w b) (k0_pay10 g y u d) (ix2 r e) = GluBwd.dArg g y u d w b (ix2 r e) := by
  have h := GluBwd.dAct_real g y u d w b hg hy hu hd hw (ix2 r e)
  unfold GluBwd.dArg
  rw [← GluBwd.chain h.1 h.2]
  unfold k0_pay13 k0_pay6 k0_pay5 k0_pay3 k0_pay1
  rw [cub_eq]
  pointwise
  simp only [pay11, pay2, pay4, pay8]
  rfl
/-- The bias's gradient. -/
theorem pay12 (z : Fin 1) (e : Fin 512) :
    k0_pay12 (F := Ideal) (k0_pay9 y u d w b) (k0_pay10 g y u d) (ix2 z e) = GluBwd.dBias g y u d w b (ix2 z e) := by
  unfold k0_pay12
  pointwise
  simp only [pay11]
  rfl
/-- The gradient of the skip's factors. -/
theorem pay14 (hg : ∀ i, ∃ r : ℝ, g i = r) (hy : ∀ i, ∃ r : ℝ, y i = r) (hu : ∀ i, ∃ r : ℝ, u i = r)
    (hd : ∀ i, ∃ r : ℝ, d i = r) (hw : ∀ i, ∃ r : ℝ, w i = r) (z : Fin 1) (e : Fin 512) :
    k0_pay14 (F := Ideal) g u (k0_pay1 w) (k0_pay2 y u d) (k0_pay3 y u d) (k0_pay5 y u d) (k0_pay6 y u d) (k0_pay8 y u d w b)
      (k0_pay9 y u d w b) (k0_pay10 g y u d) (ix2 z e) = GluBwd.dSkip g y u d w b (ix2 z e) := by
  unfold k0_pay14
  pointwise
  simp only [pay13 g y u d w b hg hy hu hd hw]
  rfl
/-- The activated rows, computed once more. -/
theorem pay15 (r : Fin 8192) (e : Fin 512) : k0_pay15 (F := Ideal) y u d (ix2 r e) = GluBwd.rows y u d (ix2 r e) :=
  pay7 y u d r e
/-- The gradient of the gates' arguments, computed once more. -/
theorem pay16 (r : Fin 8192) (e : Fin 512) :
    k0_pay16 (F := Ideal) g y u d b (k0_pay1 w) (ix2 r e) = GluBwd.dt g y u d w b (ix2 r e) :=
  pay11 g y u d w b r e

end Tile

section Run

variable (c : Dev nD) (hg : ∀ i, ∃ r : ℝ, fg m c i = r) (hy : ∀ i, ∃ r : ℝ, fy m c i = r) (hu : ∀ i, ∃ r : ℝ, fu m c i = r)
    (hd : ∀ i, ∃ r : ℝ, fd m c i = r) (hw : ∀ i, ∃ r : ℝ, fw m c i = r)

include hg hy hu hd hw in
/-- Result 6 after the run. -/
theorem arr6 : (dats m 0 c).arrAt 6 cfg0.N = GluBwd.dArg (fg m c) (fy m c) (fu m c) (fd m c) (fw m c) (fb m c) := by
  refine (dats m 0 c).arrAt_eq_of_covers 6 _ (by decide +kernel) fun t hf i => ?_
  have h9 : ((cfg0.win 6).blk t).view.emb i = i := by
    blk_ext [idx t]
  rw [h9]
  blk_simp
  rw [after0_6, blk0 m c t, blk1 m c t, blk2 m c t, blk3 m c t, blk4 m c t, blk5 m c t]
  unfold_out out0_6
  frame_out
  obtain ⟨r, e, rfl⟩ : ∃ (r : Fin 8192) (e : Fin 512), i = ix2 r e := ⟨i 0, i 1, ValueIdx.eq_ix2 i⟩
  exact pay13 _ _ _ _ _ _ hg hy hu hd hw r e
/-- Result 7 after the run. -/
theorem arr7 : (dats m 0 c).arrAt 7 cfg0.N = GluBwd.dt (fg m c) (fy m c) (fu m c) (fd m c) (fw m c) (fb m c) := by
  refine (dats m 0 c).arrAt_eq_of_covers 7 _ (by decide +kernel) fun t hf i => ?_
  have h9 : ((cfg0.win 7).blk t).view.emb i = i := by
    blk_ext [idx t]
  rw [h9]
  blk_simp
  rw [after0_7, blk0 m c t, blk1 m c t, blk2 m c t, blk3 m c t, blk4 m c t, blk5 m c t]
  unfold_out out0_7
  frame_out
  obtain ⟨r, e, rfl⟩ : ∃ (r : Fin 8192) (e : Fin 512), i = ix2 r e := ⟨i 0, i 1, ValueIdx.eq_ix2 i⟩
  exact pay16 _ _ _ _ _ _ r e
/-- Result 8 after the run. -/
theorem arr8 : (dats m 0 c).arrAt 8 cfg0.N = GluBwd.rows (fy m c) (fu m c) (fd m c) := by
  refine (dats m 0 c).arrAt_eq_of_covers 8 _ (by decide +kernel) fun t hf i => ?_
  have h9 : ((cfg0.win 8).blk t).view.emb i = i := by
    blk_ext [idx t]
  rw [h9]
  blk_simp
  rw [after0_8, blk0 m c t, blk1 m c t, blk2 m c t, blk3 m c t, blk4 m c t, blk5 m c t]
  unfold_out out0_8
  frame_out
  obtain ⟨r, e, rfl⟩ : ∃ (r : Fin 8192) (e : Fin 512), i = ix2 r e := ⟨i 0, i 1, ValueIdx.eq_ix2 i⟩
  exact pay15 _ _ _ r e
/-- Result 9 after the run. -/
theorem arr9 : (dats m 0 c).arrAt 9 cfg0.N = GluBwd.dBias (fg m c) (fy m c) (fu m c) (fd m c) (fw m c) (fb m c) := by
  refine (dats m 0 c).arrAt_eq_of_covers 9 _ (by decide +kernel) fun t hf i => ?_
  have h9 : ((cfg0.win 9).blk t).view.emb i = i := by
    blk_ext [idx t]
  rw [h9]
  blk_simp
  rw [after0_9, blk0 m c t, blk1 m c t, blk2 m c t, blk3 m c t, blk4 m c t, blk5 m c t]
  unfold_out out0_9
  frame_out
  obtain ⟨r, e, rfl⟩ : ∃ (r : Fin 1) (e : Fin 512), i = ix2 r e := ⟨i 0, i 1, ValueIdx.eq_ix2 i⟩
  exact pay12 _ _ _ _ _ _ r e
include hg hy hu hd hw in
/-- Result 10 after the run. -/
theorem arr10 : (dats m 0 c).arrAt 10 cfg0.N = GluBwd.dSkip (fg m c) (fy m c) (fu m c) (fd m c) (fw m c) (fb m c) := by
  refine (dats m 0 c).arrAt_eq_of_covers 10 _ (by decide +kernel) fun t hf i => ?_
  have h9 : ((cfg0.win 10).blk t).view.emb i = i := by
    blk_ext [idx t]
  rw [h9]
  blk_simp
  rw [after0_10, blk0 m c t, blk1 m c t, blk2 m c t, blk3 m c t, blk4 m c t, blk5 m c t]
  unfold_out out0_10
  frame_out
  obtain ⟨r, e, rfl⟩ : ∃ (r : Fin 1) (e : Fin 512), i = ix2 r e := ⟨i 0, i 1, ValueIdx.eq_ix2 i⟩
  exact pay14 _ _ _ _ _ _ hg hy hu hd hw r e

end Run

end Cert.Reference35Ideal.At

end
-- ==== Proof.GluBwd.Final.lean ====
/-
  The gradient of the gated GELU unit: kernel and reference end with equal results.
-/
module

public import proofs.«01_k».proof.Proof.GluBwd.Math
public import proofs.«01_k».proof.Proof.GluBwd.Kernel
public import proofs.«01_k».proof.Proof.GluBwd.Reference
public import proofs.«01_k».proof.Proof.Mem.Final
public import proofs.«01_k».proof.Proof.Gen.Pre_gelu_finite

@[expose] public section

set_option maxRecDepth 16384

noncomputable section

open Idealize.ShloMosaic Idealize.ShloMosaic.TcCoe Idealize.SL.Sem
open scoped BigOperators

namespace Cert.GluBwd

open Cert.Kernel35Ideal.Final

section Real

variable (g y u : Cert.Kernel35Ideal.S8192x512.Idx → EReal) (d : Cert.Kernel35Ideal.S1x512.Idx → EReal)
  (w : Cert.Kernel35Ideal.S512x512.Idx → EReal) (b : Cert.Kernel35Ideal.S1x512.Idx → EReal)

set_option maxRecDepth 200000 in
/-- The precondition says that the gradient of the output is real. -/
theorem real_g (h : Cert.Pre_gelu_finite.fn (F := Ideal) g y u d w b = fun _ => 1#1) (i : Cert.Kernel35Ideal.S8192x512.Idx) :
    ∃ r : ℝ, g i = r := by
  obtain ⟨R, e, rfl⟩ : ∃ (R : Fin 8192) (e : Fin 512), i = ix2 R e := ⟨i 0, i 1, ValueIdx.eq_ix2 i⟩
  have := congrFun h (ix2 (⟨R.val, by omega⟩ : Fin 25089) e)
  unfold Cert.Pre_gelu_finite.fn at this
  pointwise at this
  rw [Mem.bits_inf] at this
  rw [dif_pos (show R.val < 24576 by omega)] at this
  exact Mem.real_of_bit _ this
set_option maxRecDepth 200000 in
/-- The precondition says that the recurrence’s output is real. -/
theorem real_y (h : Cert.Pre_gelu_finite.fn (F := Ideal) g y u d w b = fun _ => 1#1) (i : Cert.Kernel35Ideal.S8192x512.Idx) :
    ∃ r : ℝ, y i = r := by
  obtain ⟨R, e, rfl⟩ : ∃ (R : Fin 8192) (e : Fin 512), i = ix2 R e := ⟨i 0, i 1, ValueIdx.eq_ix2 i⟩
  have := congrFun h (ix2 (⟨8192 + R.val, by omega⟩ : Fin 25089) e)
  unfold Cert.Pre_gelu_finite.fn at this
  pointwise at this
  rw [Mem.bits_inf] at this
  rw [dif_pos (show 8192 + R.val < 24576 by omega)] at this
  exact Mem.real_of_bit _ this
set_option maxRecDepth 200000 in
/-- The precondition says that the recurrence’s input is real. -/
theorem real_u (h : Cert.Pre_gelu_finite.fn (F := Ideal) g y u d w b = fun _ => 1#1) (i : Cert.Kernel35Ideal.S8192x512.Idx) :
    ∃ r : ℝ, u i = r := by
  obtain ⟨R, e, rfl⟩ : ∃ (R : Fin 8192) (e : Fin 512), i = ix2 R e := ⟨i 0, i 1, ValueIdx.eq_ix2 i⟩
  have := congrFun h (ix2 (⟨16384 + R.val, by omega⟩ : Fin 25089) e)
  unfold Cert.Pre_gelu_finite.fn at this
  pointwise at this
  rw [Mem.bits_inf] at this
  rw [dif_pos (show 16384 + R.val < 24576 by omega), dif_neg (show ¬16384 + R.val < 8192 by omega), dif_neg (show ¬16384 + R.val - 8192 < 8192 by omega)] at this
  have q : ∀ h, (⟨16384 + R.val - 8192 - 8192, h⟩ : Fin 8192) = R := fun _ => Fin.ext (by dsimp only; omega)
  rw [q] at this
  exact Mem.real_of_bit _ this
set_option maxRecDepth 200000 in
/-- The precondition says that the skip’s factors are real. -/
theorem real_d (h : Cert.Pre_gelu_finite.fn (F := Ideal) g y u d w b = fun _ => 1#1) (i : Cert.Kernel35Ideal.S1x512.Idx) :
    ∃ r : ℝ, d i = r := by
  obtain ⟨R, e, rfl⟩ : ∃ (R : Fin 1) (e : Fin 512), i = ix2 R e := ⟨i 0, i 1, ValueIdx.eq_ix2 i⟩
  have := congrFun h (ix2 (⟨24576, by norm_num⟩ : Fin 25089) e)
  unfold Cert.Pre_gelu_finite.fn at this
  pointwise at this
  rw [Mem.bits_inf] at this
  obtain rfl : R = 0 := Subsingleton.elim _ _
  exact Mem.real_of_bit _ this
set_option maxRecDepth 200000 in
/-- The precondition says that the weights are real. -/
theorem real_w (h : Cert.Pre_gelu_finite.fn (F := Ideal) g y u d w b = fun _ => 1#1) (i : Cert.Kernel35Ideal.S512x512.Idx) :
    ∃ r : ℝ, w i = r := by
  obtain ⟨R, e, rfl⟩ : ∃ (R : Fin 512) (e : Fin 512), i = ix2 R e := ⟨i 0, i 1, ValueIdx.eq_ix2 i⟩
  have := congrFun h (ix2 (⟨24577 + R.val, by omega⟩ : Fin 25089) e)
  unfold Cert.Pre_gelu_finite.fn at this
  pointwise at this
  rw [Mem.bits_inf] at this
  rw [dif_neg (show ¬24577 + R.val < 24576 by omega), dif_neg (show ¬24577 + R.val - 24576 < 1 by omega)] at this
  have q : ∀ h, (⟨24577 + R.val - 24576 - 1, h⟩ : Fin 512) = R := fun _ => Fin.ext (by dsimp only; omega)
  rw [q] at this
  exact Mem.real_of_bit _ this

end Real

/-- Kernel and reference end with equal results where every argument but the bias is finite. -/
theorem algebraic : Cert.algebraic_Kernel35Ideal_Reference35Ideal_pre_gelu_finite := by
  intro m ρ m' ρ' hpre hag
  refine ⟨fun c => Cert.GluBwd.dArg (m (c.tc.loc Cert.Kernel35Ideal.main_arg0)) (m (c.tc.loc Cert.Kernel35Ideal.main_arg1)) (m (c.tc.loc Cert.Kernel35Ideal.main_arg2)) (m (c.tc.loc Cert.Kernel35Ideal.main_arg3)) (m (c.tc.loc Cert.Kernel35Ideal.main_arg4)) (m (c.tc.loc Cert.Kernel35Ideal.main_arg5)), fun c => Cert.GluBwd.dt (m (c.tc.loc Cert.Kernel35Ideal.main_arg0)) (m (c.tc.loc Cert.Kernel35Ideal.main_arg1)) (m (c.tc.loc Cert.Kernel35Ideal.main_arg2)) (m (c.tc.loc Cert.Kernel35Ideal.main_arg3)) (m (c.tc.loc Cert.Kernel35Ideal.main_arg4)) (m (c.tc.loc Cert.Kernel35Ideal.main_arg5)), fun c => Cert.GluBwd.rows (m (c.tc.loc Cert.Kernel35Ideal.main_arg1)) (m (c.tc.loc Cert.Kernel35Ideal.main_arg2)) (m (c.tc.loc Cert.Kernel35Ideal.main_arg3)), fun c => Cert.GluBwd.dBias (m (c.tc.loc Cert.Kernel35Ideal.main_arg0)) (m (c.tc.loc Cert.Kernel35Ideal.main_arg1)) (m (c.tc.loc Cert.Kernel35Ideal.main_arg2)) (m (c.tc.loc Cert.Kernel35Ideal.main_arg3)) (m (c.tc.loc Cert.Kernel35Ideal.main_arg4)) (m (c.tc.loc Cert.Kernel35Ideal.main_arg5)), fun c => Cert.GluBwd.dSkip (m (c.tc.loc Cert.Kernel35Ideal.main_arg0)) (m (c.tc.loc Cert.Kernel35Ideal.main_arg1)) (m (c.tc.loc Cert.Kernel35Ideal.main_arg2)) (m (c.tc.loc Cert.Kernel35Ideal.main_arg3)) (m (c.tc.loc Cert.Kernel35Ideal.main_arg4)) (m (c.tc.loc Cert.Kernel35Ideal.main_arg5)),
    (θ_run Cert.Kernel35Ideal.defs _ _).mono (fun r h c => ?_) (Cert.Kernel35Ideal.Value.run_blocks m ρ),
    (θ_run Cert.Reference35Ideal.defs _ _).mono (fun r h c => ?_) (Cert.Reference35Ideal.Value.run_blocks m' ρ')⟩
  · obtain ⟨h0, h1, h2, h3, h4, kept⟩ := h c
    exact ⟨h0.trans (arr6 m c), h1.trans (arr7 m c), h2.trans (arr8 m c), h3.trans (arr9 m c), h4.trans (arr10 m c), kept⟩
  · obtain ⟨h0, h1, h2, h3, h4, kept⟩ := h c
    obtain ⟨e0, e1, e2, e3, e4, e5⟩ := hag c
    have hp := hpre c
    have hg : ∀ i, ∃ r : ℝ, Cert.Reference35Ideal.At.fg m' c i = r := by
      rw [show Cert.Reference35Ideal.At.fg m' c = _ from e0]; exact real_g _ _ _ _ _ _ hp
    have hy : ∀ i, ∃ r : ℝ, Cert.Reference35Ideal.At.fy m' c i = r := by
      rw [show Cert.Reference35Ideal.At.fy m' c = _ from e1]; exact real_y _ _ _ _ _ _ hp
    have hu : ∀ i, ∃ r : ℝ, Cert.Reference35Ideal.At.fu m' c i = r := by
      rw [show Cert.Reference35Ideal.At.fu m' c = _ from e2]; exact real_u _ _ _ _ _ _ hp
    have hd : ∀ i, ∃ r : ℝ, Cert.Reference35Ideal.At.fd m' c i = r := by
      rw [show Cert.Reference35Ideal.At.fd m' c = _ from e3]; exact real_d _ _ _ _ _ _ hp
    have hw : ∀ i, ∃ r : ℝ, Cert.Reference35Ideal.At.fw m' c i = r := by
      rw [show Cert.Reference35Ideal.At.fw m' c = _ from e4]; exact real_w _ _ _ _ _ _ hp
    refine ⟨h0.trans ((Cert.Reference35Ideal.At.arr6 m' c hg hy hu hd hw).trans ?_), h1.trans ((Cert.Reference35Ideal.At.arr7 m' c).trans ?_),
      h2.trans ((Cert.Reference35Ideal.At.arr8 m' c).trans ?_), h3.trans ((Cert.Reference35Ideal.At.arr9 m' c).trans ?_),
      h4.trans ((Cert.Reference35Ideal.At.arr10 m' c hg hy hu hd hw).trans ?_), kept⟩ <;>
    · unfold Cert.Reference35Ideal.At.fy Cert.Reference35Ideal.At.fu Cert.Reference35Ideal.At.fd
      simp only [Cert.Reference35Ideal.At.fg, Cert.Reference35Ideal.At.fw, Cert.Reference35Ideal.At.fb, e0, e1, e2, e3, e4, e5]

/-- The named constants denote the decimals they are written as. -/
theorem preserves : Cert.preserves_Kernel35_Kernel35Ideal :=
  ⟨IdealRules.named_const.statement Cert.Kernel35Ideal.κ "gelu_cubic" .f32 0x3D372713#32 ((8943 / 200000 : ℝ) : EReal) rfl,
    IdealRules.named_const.statement Cert.Kernel35Ideal.κ "gelu_cubic_times_three" .f32 0x3E095D4F#32 ((26829 / 200000 : ℝ) : EReal) rfl⟩

end Cert.GluBwd

end
-- ==== Proof.AttnMerge.Final.lean ====
/-
  The three groups of heads merged by the softmax of their log-sums: kernel and reference end with equal results.
-/
module

public import proofs.«01_k».proof.Defs
public import proofs.«01_k».proof.Proof.Gen.Kernel36Ideal.Frame
public import Idealize.ShloMosaic.Lib.Pipeline.Value
public import proofs.«01_k».proof.Proof.Gen.Reference36Ideal.Run
public import proofs.«01_k».proof.Proof.Gen.Reference36Ideal.Read
public import proofs.«01_k».proof.Proof.Prod.Math

@[expose] public section

set_option maxRecDepth 16384

noncomputable section

open Idealize.ShloMosaic Idealize.ShloMosaic.TcCoe Idealize.SL.Sem
open scoped BigOperators

namespace Cert.AttnMerge

/-- The greatest of three numbers. -/
def top (a b c : EReal) : EReal := max (max a b) c
/-- The sum of three numbers' exponentials, after the greatest is subtracted. -/
def total (a b c : EReal) : EReal := Ideal.exp (a - top a b c) + Ideal.exp (b - top a b c) + Ideal.exp (c - top a b c)
/-- Three numbers averaged by the softmax of `a`, `b`, `c`. -/
def avg (x y z a b c : EReal) : EReal :=
  Ideal.div (Ideal.exp (a - top a b c)) (total a b c) * x + Ideal.div (Ideal.exp (b - top a b c)) (total a b c) * y
    + Ideal.div (Ideal.exp (c - top a b c)) (total a b c) * z
/-- The logarithm of the sum of three numbers' exponentials. -/
def lse (a b c : EReal) : EReal := top a b c + Ideal.log (total a b c)

end Cert.AttnMerge

namespace Cert.Kernel36Ideal.Final

open Cert.Kernel36Ideal Cert.Kernel36Ideal.Gen Cert.Prod Cert.AttnMerge

variable (m : (ℓ : Loc nD τ sig) → Buf (Elt Ideal) ℓ)

/-- Where each window's block of point `t` begins. -/
theorem idx : ∀ t : Fin cfg0.N,
    win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The grid's points. -/
theorem ltN (t : Fin cfg0.N) : t.val < 8 := lt_of_lt_of_eq t.isLt (show cfg0.N = 8 from N_0)

/-- Row `r` of the tile at point `t`. -/
def row (t : Fin cfg0.N) (r : Fin 1024) : Fin 8192 := ⟨1024 * t.val + r.val, by have := ltN t; omega⟩

/-- The first group's output. -/
abbrev f0 (c : Dev nD) : S8192x256.Idx → EReal := m ((c : Thread nD τ).loc main_arg0)
/-- The second group's output. -/
abbrev f1 (c : Dev nD) : S8192x256.Idx → EReal := m ((c : Thread nD τ).loc main_arg1)
/-- The third group's output. -/
abbrev f2 (c : Dev nD) : S8192x256.Idx → EReal := m ((c : Thread nD τ).loc main_arg2)
/-- The first group's log-sums. -/
abbrev f3 (c : Dev nD) : S8192x256.Idx → EReal := m ((c : Thread nD τ).loc main_arg3)
/-- The second group's log-sums. -/
abbrev f4 (c : Dev nD) : S8192x256.Idx → EReal := m ((c : Thread nD τ).loc main_arg4)
/-- The third group's log-sums. -/
abbrev f5 (c : Dev nD) : S8192x256.Idx → EReal := m ((c : Thread nD τ).loc main_arg5)
/-- The tiles of the six windows. -/
theorem blk (c : Dev nD) (t : Fin cfg0.N) (r : Fin 1024) (e : Fin 256) :
    (iblk m c 0 t : Vec Ideal S1024x256 .f32) (ix2 r e) = f0 m c (ix2 (row t r) e)
    ∧ (iblk m c 1 t : Vec Ideal S1024x256 .f32) (ix2 r e) = f1 m c (ix2 (row t r) e)
    ∧ (iblk m c 2 t : Vec Ideal S1024x256 .f32) (ix2 r e) = f2 m c (ix2 (row t r) e)
    ∧ (iblk m c 3 t : Vec Ideal S1024x256 .f32) (ix2 r e) = f3 m c (ix2 (row t r) e)
    ∧ (iblk m c 4 t : Vec Ideal S1024x256 .f32) (ix2 r e) = f4 m c (ix2 (row t r) e)
    ∧ (iblk m c 5 t : Vec Ideal S1024x256 .f32) (ix2 r e) = f5 m c (ix2 (row t r) e) := by
  have := ltN t
  unfold row
  refine ⟨?_, ?_, ?_, ?_, ?_, ?_⟩
  all_goals blk_ext [iblk, V, idx t]

section Tile

variable (a b d x y z : Vec Ideal S1024x256 .f32)

/-- A tile's average. -/
theorem pay6 (r : Fin 1024) (e : Fin 256) :
    k0_pay6 (F := Ideal) a b d x y z (ix2 r e) = avg (x (ix2 r e)) (y (ix2 r e)) (z (ix2 r e)) (a (ix2 r e)) (b (ix2 r e)) (d (ix2 r e)) := by
  unfold k0_pay6 k0_pay5 k0_pay4 k0_pay3 k0_pay2 k0_pay1
  pointwise
  rfl
/-- A tile's log-sum. -/
theorem pay7 (r : Fin 1024) (e : Fin 256) : k0_pay7 (F := Ideal) a b d (ix2 r e) = lse (a (ix2 r e)) (b (ix2 r e)) (d (ix2 r e)) := by
  unfold k0_pay7 k0_pay5 k0_pay4 k0_pay3 k0_pay2 k0_pay1
  pointwise
  rfl

end Tile

/-- The average, as an array. -/
abbrev res6 (c : Dev nD) : S8192x256.Idx → EReal := fun i => avg (f0 m c i) (f1 m c i) (f2 m c i) (f3 m c i) (f4 m c i) (f5 m c i)
/-- The log-sums, as an array. -/
abbrev res7 (c : Dev nD) : S8192x256.Idx → EReal := fun i => lse (f3 m c i) (f4 m c i) (f5 m c i)
/-- The average of a tile. -/
theorem tile6 (c : Dev nD) (t : Fin cfg0.N) (i : S1024x256.Idx) :
    k0_pay6 (F := Ideal) (iblk m c 3 t) (iblk m c 4 t) (iblk m c 5 t) (iblk m c 0 t) (iblk m c 1 t) (iblk m c 2 t) i = res6 m c (ix2 (row t (i 0)) (i 1)) := by
  obtain ⟨r, e, rfl⟩ : ∃ (r : Fin 1024) (e : Fin 256), i = ix2 r e := ⟨i 0, i 1, ValueIdx.eq_ix2 i⟩
  exact (pay6 (iblk m c 3 t) (iblk m c 4 t) (iblk m c 5 t) (iblk m c 0 t) (iblk m c 1 t) (iblk m c 2 t) r e).trans (by obtain ⟨b0, b1, b2, b3, b4, b5⟩ := blk m c t r e; rw [b0, b1, b2, b3, b4, b5]; rfl)
/-- The average after the run. -/
theorem arr6 (c : Dev nD) : (dats m 0 c).arrAt 6 cfg0.N = res6 m c := by
  refine (dats m 0 c).arrAt_eq_of_covers 6 _ (by decide +kernel) fun t hf y => ?_
  have hlt := ltN t
  have h9 : ((cfg0.win 6).blk t).view.emb y = ix2 (row t (y 0)) (y 1) := by
    unfold row
    blk_ext [idx t]
  rw [h9]
  blk_simp
  rw [after0_6]
  unfold out0_6
  frame_out
  exact tile6 m c t y
/-- The log-sums of a tile. -/
theorem tile7 (c : Dev nD) (t : Fin cfg0.N) (i : S1024x256.Idx) :
    k0_pay7 (F := Ideal) (iblk m c 3 t) (iblk m c 4 t) (iblk m c 5 t) i = res7 m c (ix2 (row t (i 0)) (i 1)) := by
  obtain ⟨r, e, rfl⟩ : ∃ (r : Fin 1024) (e : Fin 256), i = ix2 r e := ⟨i 0, i 1, ValueIdx.eq_ix2 i⟩
  exact (pay7 (iblk m c 3 t) (iblk m c 4 t) (iblk m c 5 t) r e).trans (by obtain ⟨b0, b1, b2, b3, b4, b5⟩ := blk m c t r e; rw [b3, b4, b5]; rfl)
/-- The log-sums after the run. -/
theorem arr7 (c : Dev nD) : (dats m 0 c).arrAt 7 cfg0.N = res7 m c := by
  refine (dats m 0 c).arrAt_eq_of_covers 7 _ (by decide +kernel) fun t hf y => ?_
  have hlt := ltN t
  have h9 : ((cfg0.win 7).blk t).view.emb y = ix2 (row t (y 0)) (y 1) := by
    unfold row
    blk_ext [idx t]
  rw [h9]
  blk_simp
  rw [after0_7]
  unfold out0_7
  frame_out
  exact tile7 m c t y

/-- The run: both results, and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = res6 m c
      ∧ r.2.mem ((c : Thread nD τ).loc main_v0_1) = res7 m c
      ∧ r.2.mem ((c : Thread nD τ).loc main_arg0) = f0 m c
      ∧ r.2.mem ((c : Thread nD τ).loc main_arg1) = f1 m c
      ∧ r.2.mem ((c : Thread nD τ).loc main_arg2) = f2 m c
      ∧ r.2.mem ((c : Thread nD τ).loc main_arg3) = f3 m c
      ∧ r.2.mem ((c : Thread nD τ).loc main_arg4) = f4 m c
      ∧ r.2.mem ((c : Thread nD τ).loc main_arg5) = f5 m c :=
  (θ_run defs _ _).mono (fun r h c => ⟨((h c).1 6).trans (arr6 m c), ((h c).1 7).trans (arr7 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c)))⟩) (run_main m ρ)

end Cert.Kernel36Ideal.Final

namespace Cert.Reference36Ideal.At

open Cert.Reference36Ideal Cert.Reference36Ideal.Read Cert.Prod Cert.AttnMerge

variable (x0 x1 x2 x3 x4 x5 : S8192x256.Idx → EReal)

/-- The pattern of negative infinity. -/
theorem bits_bot : Ideal.ofBits .f32 0xFF800000#32 = ⊥ := by
  simp [Ideal.ofBits, Ideal.ieee]
/-- The stacked log-sums. -/
theorem stack (r : Fin 8192) (e : Fin 256) : val_main_v3 (F := Ideal) x3 x4 x5 (ix3 (0 : Fin 3) r e) = x3 (ix2 r e)
    ∧ val_main_v3 (F := Ideal) x3 x4 x5 (ix3 (1 : Fin 3) r e) = x4 (ix2 r e)
    ∧ val_main_v3 (F := Ideal) x3 x4 x5 (ix3 (2 : Fin 3) r e) = x5 (ix2 r e) := by
  unfold val_main_v3 val_main_v0 val_main_v1 val_main_v2
  refine ⟨?_, ?_, ?_⟩
  all_goals pointwise
  all_goals rfl
/-- The stacked outputs. -/
theorem outs (r : Fin 8192) (e : Fin 256) : val_main_v18 (F := Ideal) x0 x1 x2 (ix3 (0 : Fin 3) r e) = x0 (ix2 r e)
    ∧ val_main_v18 (F := Ideal) x0 x1 x2 (ix3 (1 : Fin 3) r e) = x1 (ix2 r e)
    ∧ val_main_v18 (F := Ideal) x0 x1 x2 (ix3 (2 : Fin 3) r e) = x2 (ix2 r e) := stack x0 x1 x2 r e
/-- The greatest of an array's three entries. -/
theorem max3 (y : (⟨S3x8192x256, .f32⟩ : BufTy).Contents (Elt Ideal)) (r : Fin 8192) (e : Fin 256) :
    Host.reduce (FloatOps.maximumf (F := Ideal) (φ := .f32)) y (val_main_cst (F := Ideal)) Gen.reducesTo_S3x8192x256_S8192x256_d0 Gen.h_S_ (ix2 r e)
      = top (y (ix3 (0 : Fin 3) r e)) (y (ix3 (1 : Fin 3) r e)) (y (ix3 (2 : Fin 3) r e)) := by
  pointwise [val_main_cst]
  rw [bits_bot]
  have h : (Finset.univ : Finset (Fin 3)) = insert 0 (insert 1 {2}) := by decide
  rw [h]
  simp [top, max_assoc]
/-- The greatest log-sum, as the logarithm uses it. -/
theorem tops (r : Fin 8192) (e : Fin 256) : val_main_v21 (F := Ideal) x3 x4 x5 (ix2 r e) = top (x3 (ix2 r e)) (x4 (ix2 r e)) (x5 (ix2 r e)) := by
  obtain ⟨h0, h1, h2⟩ := stack x3 x4 x5 r e
  refine (max3 _ r e).trans ?_
  rw [h0, h1, h2]
/-- The greatest log-sum, as the softmax uses it. -/
theorem tops6 (r : Fin 8192) (e : Fin 256) : val_main_v6 (F := Ideal) x3 x4 x5 (ix2 r e) = top (x3 (ix2 r e)) (x4 (ix2 r e)) (x5 (ix2 r e)) := by
  rw [val_main_v6_apply, show val_main_v4 (F := Ideal) x3 x4 x5 (ix2 r e) = _ from tops x3 x4 x5 r e]
  unfold val_main_v5 val_main_cst_0
  generalize top (x3 (ix2 r e)) (x4 (ix2 r e)) (x5 (ix2 r e)) = x
  pointwise
  rw [bits_bot]
  exact max_eq_right bot_le
/-- The exponentials, as the softmax uses them. -/
theorem exps10 (k : Fin 3) (r : Fin 8192) (e : Fin 256) : val_main_v10 (F := Ideal) x3 x4 x5 (ix3 k r e)
    = Ideal.exp (val_main_v3 (F := Ideal) x3 x4 x5 (ix3 k r e) - top (x3 (ix2 r e)) (x4 (ix2 r e)) (x5 (ix2 r e))) := by
  unfold val_main_v10 val_main_v9 val_main_v8 val_main_v7
  pointwise [tops6]
/-- The exponentials, as the logarithm uses them. -/
theorem exps25 (k : Fin 3) (r : Fin 8192) (e : Fin 256) : val_main_v25 (F := Ideal) x3 x4 x5 (ix3 k r e)
    = Ideal.exp (val_main_v3 (F := Ideal) x3 x4 x5 (ix3 k r e) - top (x3 (ix2 r e)) (x4 (ix2 r e)) (x5 (ix2 r e))) := by
  unfold val_main_v25 val_main_v24 val_main_v23 val_main_v22
  pointwise [tops]
/-- The sum of the exponentials, as the softmax uses it. -/
theorem sum11 (r : Fin 8192) (e : Fin 256) : val_main_v11 (F := Ideal) x3 x4 x5 (ix2 r e) = total (x3 (ix2 r e)) (x4 (ix2 r e)) (x5 (ix2 r e)) := by
  obtain ⟨h0, h1, h2⟩ := stack x3 x4 x5 r e
  unfold val_main_v11 val_main_cst_1
  pointwise [exps10]
  rw [Fin.sum_univ_three, h0, h1, h2]
  rfl
/-- The sum of the exponentials, as the logarithm uses it. -/
theorem sum26 (r : Fin 8192) (e : Fin 256) : val_main_v26 (F := Ideal) x3 x4 x5 (ix2 r e) = total (x3 (ix2 r e)) (x4 (ix2 r e)) (x5 (ix2 r e)) := by
  obtain ⟨h0, h1, h2⟩ := stack x3 x4 x5 r e
  unfold val_main_v26 val_main_cst_4
  pointwise [exps25]
  rw [Fin.sum_univ_three, h0, h1, h2]
  rfl
/-- The reference's average. -/
theorem value6 : val_main_v20 (F := Ideal) x0 x1 x2 x3 x4 x5 = fun i => avg (x0 i) (x1 i) (x2 i) (x3 i) (x4 i) (x5 i) := by
  funext i
  obtain ⟨r, e, rfl⟩ : ∃ (r : Fin 8192) (e : Fin 256), i = ix2 r e := ⟨i 0, i 1, ValueIdx.eq_ix2 i⟩
  obtain ⟨h0, h1, h2⟩ := stack x3 x4 x5 r e
  obtain ⟨g0, g1, g2⟩ := outs x0 x1 x2 r e
  unfold val_main_v20 val_main_cst_2 val_main_v19 val_main_v14 val_main_v13 val_main_v12
  pointwise [exps10, sum11]
  rw [Fin.sum_univ_three, h0, h1, h2, g0, g1, g2]
  rfl
/-- The reference's log-sums. -/
theorem value7 : val_main_v28 (F := Ideal) x3 x4 x5 = fun i => lse (x3 i) (x4 i) (x5 i) := by
  funext i
  obtain ⟨r, e, rfl⟩ : ∃ (r : Fin 8192) (e : Fin 256), i = ix2 r e := ⟨i 0, i 1, ValueIdx.eq_ix2 i⟩
  rw [val_main_v28_apply, val_main_v27_apply, tops, sum26]
  show _ = lse (x3 (ix2 r e)) (x4 (ix2 r e)) (x5 (ix2 r e))
  unfold lse
  generalize top (x3 (ix2 r e)) (x4 (ix2 r e)) (x5 (ix2 r e)) = p
  generalize total (x3 (ix2 r e)) (x4 (ix2 r e)) (x5 (ix2 r e)) = q
  rfl

end Cert.Reference36Ideal.At

namespace Cert.AttnMerge

open Cert.Kernel36Ideal.Final

/-- The reference terminates and leaves its arguments unchanged; it has no counters. -/
theorem frame_reference : Cert.quiescent_Reference36Ideal := fun m ρ _ =>
  (θ_run Cert.Reference36Ideal.defs _ _).mono (fun r h => ⟨fun c => ((h c).2).2,
    Idealize.ShloMosaic.sem_eq_zero_of_no_sems (by decide) r.2⟩) (Cert.Reference36Ideal.Value.run m ρ)

/-- Kernel and reference end with equal results. -/
theorem algebraic : Cert.algebraic_Kernel36Ideal_Reference36Ideal := by
  intro m ρ m' ρ' hpre hag
  refine ⟨fun c => res6 m c, fun c => res7 m c,
    (θ_run Cert.Kernel36Ideal.defs _ _).mono (fun r h c => h c) (Cert.Kernel36Ideal.Final.run m ρ),
    (θ_run Cert.Reference36Ideal.defs _ _).mono (fun r h c => ?_) (Cert.Reference36Ideal.Value.run m' ρ')⟩
  · obtain ⟨h0, h1, k0, k1, k2, k3, k4, k5⟩ := h c
    obtain ⟨e0, e1, e2, e3, e4, e5⟩ := hag c
    exact ⟨h0.trans ((Cert.Reference36Ideal.Read.val_main_v20_eq m' c).trans (by rw [e0, e1, e2, e3, e4, e5]; exact Cert.Reference36Ideal.At.value6 _ _ _ _ _ _)),
      h1.trans ((Cert.Reference36Ideal.Read.val_main_v28_eq _ _ _).trans (by rw [e3, e4, e5]; exact Cert.Reference36Ideal.At.value7 _ _ _)), k0, k1, k2, k3, k4, k5⟩

end Cert.AttnMerge

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_scores_finite
public import proofs.«01_k».proof.Proof.Mem.Final
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Merge.Final
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.DAct.Final
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.DwDown.Final
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.DwUp.Final
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.DN2.Final
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.DN1.Final
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.DwInZg.Final
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.DwInQ.Final
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.DwInU.Final
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Reference11Ideal.Read
public import proofs.«01_k».proof.Proof.DwInMq.Final
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Reference12Ideal.Read
public import proofs.«01_k».proof.Proof.DMerged.Final
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Gen.Reference13Ideal.Read
public import proofs.«01_k».proof.Proof.DwO.Final
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.Gen.Reference14Ideal.Read
public import proofs.«01_k».proof.Proof.DwGlu.Final
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.Gen.Reference15Ideal.Read
public import proofs.«01_k».proof.Proof.InProj.Final
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Reference16Ideal.Run
public import proofs.«01_k».proof.Proof.Gen.Reference16Ideal.Read
public import proofs.«01_k».proof.Proof.MlpUp.Final
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel17Ideal.Value
public import proofs.«01_k».proof.Proof.Gen.Reference17Ideal.Run
public import proofs.«01_k».proof.Proof.Gen.Reference17Ideal.Read
public import proofs.«01_k».proof.Proof.MlpDown.Final
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel18Ideal.Value
public import proofs.«01_k».proof.Proof.Gen.Reference18Ideal.Run
public import proofs.«01_k».proof.Proof.Gen.Reference18Ideal.Read
public import proofs.«01_k».proof.Proof.MergeFwd.Final
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel19Ideal.Value
public import proofs.«01_k».proof.Proof.Gen.Reference19Ideal.Run
public import proofs.«01_k».proof.Proof.Gen.Reference19Ideal.Read
public import proofs.«01_k».proof.Proof.MemFwd.Final
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel20Ideal.Value
public import proofs.«01_k».proof.Proof.Gen.Reference20Ideal.Run
public import proofs.«01_k».proof.Proof.Gen.Reference20Ideal.Read
public import proofs.«01_k».proof.Proof.OutProj.Final
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel21Ideal.Value
public import proofs.«01_k».proof.Proof.Gen.Reference21Ideal.Run
public import proofs.«01_k».proof.Proof.Gen.Reference21Ideal.Read
public import proofs.«01_k».proof.Proof.Norm1.Final
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel22Ideal.Value
public import proofs.«01_k».proof.Proof.Gen.Reference22Ideal.Run
public import proofs.«01_k».proof.Proof.Gen.Reference22Ideal.Read
public import proofs.«01_k».proof.Proof.MemNorm.Final
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel23Ideal.Value
public import proofs.«01_k».proof.Proof.Gen.Reference23Ideal.Run
public import proofs.«01_k».proof.Proof.Gen.Reference23Ideal.Read
public import proofs.«01_k».proof.Proof.MemKv.Final
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel24Ideal.Value
public import proofs.«01_k».proof.Proof.Gen.Reference24Ideal.Run
public import proofs.«01_k».proof.Proof.Gen.Reference24Ideal.Read
public import proofs.«01_k».proof.Proof.DwMemKv.Final
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Kernel25Ideal.Value
public import proofs.«01_k».proof.Proof.Gen.Reference25Ideal.Run
public import proofs.«01_k».proof.Proof.Gen.Reference25Ideal.Read
public import proofs.«01_k».proof.Proof.DMn.Final
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Kernel26Ideal.Value
public import proofs.«01_k».proof.Proof.Gen.Reference26Ideal.Run
public import proofs.«01_k».proof.Proof.Gen.Reference26Ideal.Read
public import proofs.«01_k».proof.Proof.MemNormBwd.Final
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Reference27Ideal
public import proofs.«01_k».proof.Proof.Gen.Kernel27Ideal.Value
public import proofs.«01_k».proof.Proof.Gen.Reference27Ideal.Run
public import proofs.«01_k».proof.Proof.Gen.Reference27Ideal.Read
public import proofs.«01_k».proof.Proof.GluFwd.Final
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Reference28Ideal
public import proofs.«01_k».proof.Proof.Gen.Kernel28Ideal.Value
public import proofs.«01_k».proof.Proof.Gen.Reference28Ideal.Run
public import proofs.«01_k».proof.Proof.Gen.Reference28Ideal.Read
public import proofs.«01_k».proof.Proof.AdamIn.Final
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Reference29Ideal
public import proofs.«01_k».proof.Proof.Gen.Kernel29Ideal.Value
public import proofs.«01_k».proof.Proof.Gen.Reference29Ideal.Run
public import proofs.«01_k».proof.Proof.Gen.Reference29Ideal.Read
public import proofs.«01_k».proof.Proof.AdamGlu.Final
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Reference30Ideal
public import proofs.«01_k».proof.Proof.Gen.Kernel30Ideal.Value
public import proofs.«01_k».proof.Proof.Gen.Reference30Ideal.Run
public import proofs.«01_k».proof.Proof.Gen.Reference30Ideal.Read
public import proofs.«01_k».proof.Proof.AdamSsmBr.Final
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Reference31Ideal
public import proofs.«01_k».proof.Proof.Gen.Kernel31Ideal.Value
public import proofs.«01_k».proof.Proof.Gen.Reference31Ideal.Run
public import proofs.«01_k».proof.Proof.Gen.Reference31Ideal.Read
public import proofs.«01_k».proof.Proof.AdamAttnBr.Final
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Reference32Ideal
public import proofs.«01_k».proof.Proof.Gen.Kernel32Ideal.Value
public import proofs.«01_k».proof.Proof.Gen.Reference32Ideal.Run
public import proofs.«01_k».proof.Proof.Gen.Reference32Ideal.Read
public import proofs.«01_k».proof.Proof.AdamMemKv.Final
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Reference33Ideal
public import proofs.«01_k».proof.Proof.Gen.Kernel33Ideal.Value
public import proofs.«01_k».proof.Proof.Gen.Reference33Ideal.Run
public import proofs.«01_k».proof.Proof.Gen.Reference33Ideal.Read
public import proofs.«01_k».proof.Proof.AdamUp.Final
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Reference34Ideal
public import proofs.«01_k».proof.Proof.Gen.Kernel34Ideal.Value
public import proofs.«01_k».proof.Proof.Gen.Reference34Ideal.Run
public import proofs.«01_k».proof.Proof.Gen.Reference34Ideal.Read
public import proofs.«01_k».proof.Proof.AdamSmall.Final
public import Idealize.ShloMosaic.Adequacy
public import Idealize.ShloMosaic.Init
public import proofs.«01_k».proof.Proof.Gen.Kernel35.Frame
public import proofs.«01_k».proof.Proof.Gen.Kernel35Ideal.Frame
public import proofs.«01_k».proof.Proof.Gen.Kernel35Ideal.Value
public import proofs.«01_k».proof.Proof.Gen.Kernel35
public import proofs.«01_k».proof.Proof.Gen.Kernel35.Skeleton
public import proofs.«01_k».proof.Proof.Gen.Kernel35.Launch
public import proofs.«01_k».proof.Proof.Gen.Kernel35.Points
public import proofs.«01_k».proof.Proof.Gen.Kernel35Ideal
public import proofs.«01_k».proof.Proof.Gen.Kernel35Ideal.Skeleton
public import proofs.«01_k».proof.Proof.Gen.Kernel35Ideal.Launch
public import proofs.«01_k».proof.Proof.Gen.Kernel35Ideal.Points
public import proofs.«01_k».proof.Proof.Gen.Reference35Ideal
public import proofs.«01_k».proof.Proof.Gen.Reference35Ideal.Skeleton
public import proofs.«01_k».proof.Proof.Gen.Reference35Ideal.Launch
public import proofs.«01_k».proof.Proof.Gen.Reference35Ideal.Points
public import proofs.«01_k».proof.Proof.Gen.Reference35Ideal.Frame
public import proofs.«01_k».proof.Proof.Gen.Reference35Ideal.Value
public import proofs.«01_k».proof.Proof.Gen.Pre_gelu_finite
public import proofs.«01_k».proof.Proof.GluBwd.Final
public import proofs.«01_k».proof.Proof.Gen.Kernel36
public import proofs.«01_k».proof.Proof.Gen.Kernel36.Skeleton
public import proofs.«01_k».proof.Proof.Gen.Kernel36.Launch
public import proofs.«01_k».proof.Proof.Gen.Kernel36.Points
public import proofs.«01_k».proof.Proof.Gen.Kernel36.Frame
public import proofs.«01_k».proof.Proof.Gen.Kernel36Ideal
public import proofs.«01_k».proof.Proof.Gen.Kernel36Ideal.Skeleton
public import proofs.«01_k».proof.Proof.Gen.Kernel36Ideal.Launch
public import proofs.«01_k».proof.Proof.Gen.Kernel36Ideal.Points
public import proofs.«01_k».proof.Proof.Gen.Kernel36Ideal.Frame
public import proofs.«01_k».proof.Proof.Gen.Reference36Ideal
public import proofs.«01_k».proof.Proof.Gen.Reference36Ideal.Run
public import proofs.«01_k».proof.Proof.Gen.Reference36Ideal.Read
public import proofs.«01_k».proof.Proof.AttnMerge.Final

@[expose] public section

noncomputable section

namespace Cert.Proof

open Idealize.ShloMosaic Idealize.SL.Sem

/-- All claims: the facts that the programs state, every frame, and for each call the preservation and the equality of values. -/
theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Kernel19.Gen.facts,
  Cert.Kernel19Ideal.Gen.facts,
  Cert.Reference19Ideal.Gen.facts,
  Cert.Kernel20.Gen.facts,
  Cert.Kernel20Ideal.Gen.facts,
  Cert.Reference20Ideal.Gen.facts,
  Cert.Kernel21.Gen.facts,
  Cert.Kernel21Ideal.Gen.facts,
  Cert.Reference21Ideal.Gen.facts,
  Cert.Kernel22.Gen.facts,
  Cert.Kernel22Ideal.Gen.facts,
  Cert.Reference22Ideal.Gen.facts,
  Cert.Kernel23.Gen.facts,
  Cert.Kernel23Ideal.Gen.facts,
  Cert.Reference23Ideal.Gen.facts,
  Cert.Kernel24.Gen.facts,
  Cert.Kernel24Ideal.Gen.facts,
  Cert.Reference24Ideal.Gen.facts,
  Cert.Kernel25.Gen.facts,
  Cert.Kernel25Ideal.Gen.facts,
  Cert.Reference25Ideal.Gen.facts,
  Cert.Kernel26.Gen.facts,
  Cert.Kernel26Ideal.Gen.facts,
  Cert.Reference26Ideal.Gen.facts,
  Cert.Kernel27.Gen.facts,
  Cert.Kernel27Ideal.Gen.facts,
  Cert.Reference27Ideal.Gen.facts,
  Cert.Kernel28.Gen.facts,
  Cert.Kernel28Ideal.Gen.facts,
  Cert.Reference28Ideal.Gen.facts,
  Cert.Kernel29.Gen.facts,
  Cert.Kernel29Ideal.Gen.facts,
  Cert.Reference29Ideal.Gen.facts,
  Cert.Kernel30.Gen.facts,
  Cert.Kernel30Ideal.Gen.facts,
  Cert.Reference30Ideal.Gen.facts,
  Cert.Kernel31.Gen.facts,
  Cert.Kernel31Ideal.Gen.facts,
  Cert.Reference31Ideal.Gen.facts,
  Cert.Kernel32.Gen.facts,
  Cert.Kernel32Ideal.Gen.facts,
  Cert.Reference32Ideal.Gen.facts,
  Cert.Kernel33.Gen.facts,
  Cert.Kernel33Ideal.Gen.facts,
  Cert.Reference33Ideal.Gen.facts,
  Cert.Kernel34.Gen.facts,
  Cert.Kernel34Ideal.Gen.facts,
  Cert.Reference34Ideal.Gen.facts,
  Cert.Kernel35.Gen.facts,
  Cert.Kernel35Ideal.Gen.facts,
  Cert.Reference35Ideal.Gen.facts,
  Cert.Kernel36.Gen.facts,
  Cert.Kernel36Ideal.Gen.facts,
  Cert.Reference36Ideal.Gen.facts,
  Cert.Pre_scores_finite.Gen.facts,
  Cert.Pre_gelu_finite.Gen.facts,
  fun m ρ _ => Cert.Kernel.Gen.frame m ρ,
  fun m ρ _ => Cert.KernelIdeal.Gen.frame m ρ,
  fun m ρ _ => Cert.KernelIdeal.Gen.frame m ρ,
  fun m ρ _ => Cert.Mem.frame_reference m ρ,
  fun m ρ _ => Cert.Mem.frame_reference m ρ,
  fun m ρ _ => Cert.Kernel2.Gen.frame m ρ,
  fun m ρ _ => Cert.Kernel2Ideal.Gen.frame m ρ,
  Cert.Merge.frame_reference,
  fun m ρ _ => Cert.Kernel3.Gen.frame m ρ,
  fun m ρ _ => Cert.Kernel3Ideal.Gen.frame m ρ,
  Cert.DAct.frame_reference,
  fun m ρ _ => Cert.Kernel4.Gen.frame m ρ,
  fun m ρ _ => Cert.Kernel4Ideal.Gen.frame m ρ,
  Cert.DwDown.frame_reference,
  fun m ρ _ => Cert.Kernel5.Gen.frame m ρ,
  fun m ρ _ => Cert.Kernel5Ideal.Gen.frame m ρ,
  Cert.DwUp.frame_reference,
  fun m ρ _ => Cert.Kernel6.Gen.frame m ρ,
  fun m ρ _ => Cert.Kernel6Ideal.Gen.frame m ρ,
  Cert.DN2.frame_reference,
  fun m ρ _ => Cert.Kernel7.Gen.frame m ρ,
  fun m ρ _ => Cert.Kernel7Ideal.Gen.frame m ρ,
  Cert.DN1.frame_reference,
  fun m ρ _ => Cert.Kernel8.Gen.frame m ρ,
  fun m ρ _ => Cert.Kernel8Ideal.Gen.frame m ρ,
  Cert.DwInZg.frame_reference,
  fun m ρ _ => Cert.Kernel9.Gen.frame m ρ,
  fun m ρ _ => Cert.Kernel9Ideal.Gen.frame m ρ,
  Cert.DwInQ.frame_reference,
  fun m ρ _ => Cert.Kernel10.Gen.frame m ρ,
  fun m ρ _ => Cert.Kernel10Ideal.Gen.frame m ρ,
  Cert.DwInU.frame_reference,
  fun m ρ _ => Cert.Kernel11.Gen.frame m ρ,
  fun m ρ _ => Cert.Kernel11Ideal.Gen.frame m ρ,
  Cert.DwInMq.frame_reference,
  fun m ρ _ => Cert.Kernel12.Gen.frame m ρ,
  fun m ρ _ => Cert.Kernel12Ideal.Gen.frame m ρ,
  Cert.DMerged.frame_reference,
  fun m ρ _ => Cert.Kernel13.Gen.frame m ρ,
  fun m ρ _ => Cert.Kernel13Ideal.Gen.frame m ρ,
  Cert.DwO.frame_reference,
  fun m ρ _ => Cert.Kernel14.Gen.frame m ρ,
  fun m ρ _ => Cert.Kernel14Ideal.Gen.frame m ρ,
  Cert.DwGlu.frame_reference,
  fun m ρ _ => Cert.Kernel15.Gen.frame m ρ,
  fun m ρ _ => Cert.Kernel15Ideal.Gen.frame m ρ,
  Cert.InProj.frame_reference,
  fun m ρ _ => Cert.Kernel16.Gen.frame m ρ,
  fun m ρ _ => Cert.Kernel16Ideal.Gen.frame m ρ,
  Cert.MlpUp.frame_reference,
  fun m ρ _ => Cert.Kernel17.Gen.frame m ρ,
  fun m ρ _ => Cert.Kernel17Ideal.Gen.frame m ρ,
  Cert.MlpDown.frame_reference,
  fun m ρ _ => Cert.Kernel18.Gen.frame m ρ,
  fun m ρ _ => Cert.Kernel18Ideal.Gen.frame m ρ,
  Cert.MergeFwd.frame_reference,
  fun m ρ _ => Cert.Kernel19.Gen.frame m ρ,
  fun m ρ _ => Cert.Kernel19Ideal.Gen.frame m ρ,
  Cert.MemFwd.frame_reference,
  fun m ρ _ => Cert.Kernel20.Gen.frame m ρ,
  fun m ρ _ => Cert.Kernel20Ideal.Gen.frame m ρ,
  Cert.OutProj.frame_reference,
  fun m ρ _ => Cert.Kernel21.Gen.frame m ρ,
  fun m ρ _ => Cert.Kernel21Ideal.Gen.frame m ρ,
  Cert.Norm1.frame_reference,
  fun m ρ _ => Cert.Kernel22.Gen.frame m ρ,
  fun m ρ _ => Cert.Kernel22Ideal.Gen.frame m ρ,
  Cert.MemNorm.frame_reference,
  fun m ρ _ => Cert.Kernel23.Gen.frame m ρ,
  fun m ρ _ => Cert.Kernel23Ideal.Gen.frame m ρ,
  Cert.MemKv.frame_reference,
  fun m ρ _ => Cert.Kernel24.Gen.frame m ρ,
  fun m ρ _ => Cert.Kernel24Ideal.Gen.frame m ρ,
  Cert.DwMemKv.frame_reference,
  fun m ρ _ => Cert.Kernel25.Gen.frame m ρ,
  fun m ρ _ => Cert.Kernel25Ideal.Gen.frame m ρ,
  Cert.DMn.frame_reference,
  fun m ρ _ => Cert.Kernel26.Gen.frame m ρ,
  fun m ρ _ => Cert.Kernel26Ideal.Gen.frame m ρ,
  Cert.MemNormBwd.frame_reference,
  fun m ρ _ => Cert.Kernel27.Gen.frame m ρ,
  fun m ρ _ => Cert.Kernel27Ideal.Gen.frame m ρ,
  Cert.GluFwd.frame_reference,
  fun m ρ _ => Cert.Kernel28.Gen.frame m ρ,
  fun m ρ _ => Cert.Kernel28Ideal.Gen.frame m ρ,
  Cert.AdamIn.frame_reference,
  fun m ρ _ => Cert.Kernel29.Gen.frame m ρ,
  fun m ρ _ => Cert.Kernel29Ideal.Gen.frame m ρ,
  Cert.AdamGlu.frame_reference,
  fun m ρ _ => Cert.Kernel30.Gen.frame m ρ,
  fun m ρ _ => Cert.Kernel30Ideal.Gen.frame m ρ,
  Cert.AdamSsmBr.frame_reference,
  fun m ρ _ => Cert.Kernel31.Gen.frame m ρ,
  fun m ρ _ => Cert.Kernel31Ideal.Gen.frame m ρ,
  Cert.AdamAttnBr.frame_reference,
  fun m ρ _ => Cert.Kernel32.Gen.frame m ρ,
  fun m ρ _ => Cert.Kernel32Ideal.Gen.frame m ρ,
  Cert.AdamMemKv.frame_reference,
  fun m ρ _ => Cert.Kernel33.Gen.frame m ρ,
  fun m ρ _ => Cert.Kernel33Ideal.Gen.frame m ρ,
  Cert.AdamUp.frame_reference,
  fun m ρ _ => Cert.Kernel34.Gen.frame m ρ,
  fun m ρ _ => Cert.Kernel34Ideal.Gen.frame m ρ,
  Cert.AdamSmall.frame_reference,
  fun m ρ _ => Cert.Kernel35.Gen.frame m ρ,
  fun m ρ _ => Cert.Kernel35Ideal.Gen.frame m ρ,
  fun m ρ _ => Cert.Kernel35Ideal.Gen.frame m ρ,
  fun m ρ _ => Cert.Reference35Ideal.Gen.frame m ρ,
  fun m ρ _ => Cert.Reference35Ideal.Gen.frame m ρ,
  fun m ρ _ => Cert.Kernel36.Gen.frame m ρ,
  fun m ρ _ => Cert.Kernel36Ideal.Gen.frame m ρ,
  Cert.AttnMerge.frame_reference,
  trivial,
  Cert.Mem.algebraic,
  trivial,
  Cert.Merge.algebraic,
  trivial,
  Cert.DAct.algebraic,
  trivial,
  Cert.DwDown.algebraic,
  trivial,
  Cert.DwUp.algebraic,
  trivial,
  Cert.DN2.algebraic,
  trivial,
  Cert.DN1.algebraic,
  trivial,
  Cert.DwInZg.algebraic,
  trivial,
  Cert.DwInQ.algebraic,
  trivial,
  Cert.DwInU.algebraic,
  trivial,
  Cert.DwInMq.algebraic,
  trivial,
  Cert.DMerged.algebraic,
  trivial,
  Cert.DwO.algebraic,
  trivial,
  Cert.DwGlu.algebraic,
  trivial,
  Cert.InProj.algebraic,
  trivial,
  Cert.MlpUp.algebraic,
  trivial,
  Cert.MlpDown.algebraic,
  trivial,
  Cert.MergeFwd.algebraic,
  trivial,
  Cert.MemFwd.algebraic,
  trivial,
  Cert.OutProj.algebraic,
  trivial,
  Cert.Norm1.algebraic,
  trivial,
  Cert.MemNorm.algebraic,
  trivial,
  Cert.MemKv.algebraic,
  trivial,
  Cert.DwMemKv.algebraic,
  trivial,
  Cert.DMn.algebraic,
  trivial,
  Cert.MemNormBwd.algebraic,
  trivial,
  Cert.GluFwd.algebraic,
  trivial,
  Cert.AdamIn.algebraic,
  trivial,
  Cert.AdamGlu.algebraic,
  trivial,
  Cert.AdamSsmBr.algebraic,
  trivial,
  Cert.AdamAttnBr.algebraic,
  trivial,
  Cert.AdamMemKv.algebraic,
  trivial,
  Cert.AdamUp.algebraic,
  trivial,
  Cert.AdamSmall.algebraic,
  Cert.GluBwd.preserves,
  Cert.GluBwd.algebraic,
  trivial,
  Cert.AttnMerge.algebraic⟩

end Cert.Proof

end
